-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v22_0)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v24_2)) (v5 : (c : Dev Cert.KernelIdeal.nD) → Buf (Elt Ideal) ((c.tc : Thread Cert.KernelIdeal.nD Cert.KernelIdeal.τ).loc Cert.KernelIdeal.main_v36)) (v6 : (c : Dev Cert.KernelIdeal.nD) → Buf (Elt Ideal) ((c.tc : Thread Cert.KernelIdeal.nD Cert.KernelIdeal.τ).loc Cert.KernelIdeal.main_v27)) (v7 : (c : Dev Cert.KernelIdeal.nD) → Buf (Elt Ideal) ((c.tc : Thread Cert.KernelIdeal.nD Cert.KernelIdeal.τ).loc Cert.KernelIdeal.main_v28)) (v8 : (c : Dev Cert.KernelIdeal.nD) → Buf (Elt Ideal) ((c.tc : Thread Cert.KernelIdeal.nD Cert.KernelIdeal.τ).loc Cert.KernelIdeal.main_v37)) (v9 : (c : Dev Cert.KernelIdeal.nD) → Buf (Elt Ideal) ((c.tc : Thread Cert.KernelIdeal.nD Cert.KernelIdeal.τ).loc Cert.KernelIdeal.main_v23)) (v10 : (c : Dev Cert.KernelIdeal.nD) → Buf (Elt Ideal) ((c.tc : Thread Cert.KernelIdeal.nD Cert.KernelIdeal.τ).loc Cert.KernelIdeal.main_v38)) (v11 : (c : Dev Cert.KernelIdeal.nD) → Buf (Elt Ideal) ((c.tc : Thread Cert.KernelIdeal.nD Cert.KernelIdeal.τ).loc Cert.KernelIdeal.main_v20)) (v12 : (c : Dev Cert.KernelIdeal.nD) → Buf (Elt Ideal) ((c.tc : Thread Cert.KernelIdeal.nD Cert.KernelIdeal.τ).loc Cert.KernelIdeal.main_v21)) (v13 : (c : Dev Cert.KernelIdeal.nD) → Buf (Elt Ideal) ((c.tc : Thread Cert.KernelIdeal.nD Cert.KernelIdeal.τ).loc Cert.KernelIdeal.main_v18)) (v14 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v24_2) = v4 c
          ∧ r.2.mem ((c.tc : Thread Cert.KernelIdeal.nD Cert.KernelIdeal.τ).loc Cert.KernelIdeal.main_v36) = v5 c
          ∧ r.2.mem ((c.tc : Thread Cert.KernelIdeal.nD Cert.KernelIdeal.τ).loc Cert.KernelIdeal.main_v27) = v6 c
          ∧ r.2.mem ((c.tc : Thread Cert.KernelIdeal.nD Cert.KernelIdeal.τ).loc Cert.KernelIdeal.main_v28) = v7 c
          ∧ r.2.mem ((c.tc : Thread Cert.KernelIdeal.nD Cert.KernelIdeal.τ).loc Cert.KernelIdeal.main_v37) = v8 c
          ∧ r.2.mem ((c.tc : Thread Cert.KernelIdeal.nD Cert.KernelIdeal.τ).loc Cert.KernelIdeal.main_v23) = v9 c
          ∧ r.2.mem ((c.tc : Thread Cert.KernelIdeal.nD Cert.KernelIdeal.τ).loc Cert.KernelIdeal.main_v38) = v10 c
          ∧ r.2.mem ((c.tc : Thread Cert.KernelIdeal.nD Cert.KernelIdeal.τ).loc Cert.KernelIdeal.main_v20) = v11 c
          ∧ r.2.mem ((c.tc : Thread Cert.KernelIdeal.nD Cert.KernelIdeal.τ).loc Cert.KernelIdeal.main_v21) = v12 c
          ∧ r.2.mem ((c.tc : Thread Cert.KernelIdeal.nD Cert.KernelIdeal.τ).loc Cert.KernelIdeal.main_v18) = v13 c
          ∧ r.2.mem ((c.tc : Thread Cert.KernelIdeal.nD Cert.KernelIdeal.τ).loc Cert.KernelIdeal.main_v39) = v14 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v277) = v1 c
          ∧ r.2.mem ((c.tc : Thread Cert.ReferenceIdeal.nD Cert.ReferenceIdeal.τ).loc Cert.ReferenceIdeal.main_v290) = v2 c
          ∧ r.2.mem ((c.tc : Thread Cert.ReferenceIdeal.nD Cert.ReferenceIdeal.τ).loc Cert.ReferenceIdeal.main_v285) = v3 c
          ∧ r.2.mem ((c.tc : Thread Cert.ReferenceIdeal.nD Cert.ReferenceIdeal.τ).loc Cert.ReferenceIdeal.main_v305) = v4 c
          ∧ r.2.mem ((c.tc : Thread Cert.ReferenceIdeal.nD Cert.ReferenceIdeal.τ).loc Cert.ReferenceIdeal.main_v306) = v5 c
          ∧ r.2.mem ((c.tc : Thread Cert.ReferenceIdeal.nD Cert.ReferenceIdeal.τ).loc Cert.ReferenceIdeal.main_v289) = v6 c
          ∧ r.2.mem ((c.tc : Thread Cert.ReferenceIdeal.nD Cert.ReferenceIdeal.τ).loc Cert.ReferenceIdeal.main_v284) = v7 c
          ∧ r.2.mem ((c.tc : Thread Cert.ReferenceIdeal.nD Cert.ReferenceIdeal.τ).loc Cert.ReferenceIdeal.main_v303) = v8 c
          ∧ r.2.mem ((c.tc : Thread Cert.ReferenceIdeal.nD Cert.ReferenceIdeal.τ).loc Cert.ReferenceIdeal.main_v279) = v9 c
          ∧ r.2.mem ((c.tc : Thread Cert.ReferenceIdeal.nD Cert.ReferenceIdeal.τ).loc Cert.ReferenceIdeal.main_v307) = v10 c
          ∧ r.2.mem ((c.tc : Thread Cert.ReferenceIdeal.nD Cert.ReferenceIdeal.τ).loc Cert.ReferenceIdeal.main_v205) = v11 c
          ∧ r.2.mem ((c.tc : Thread Cert.ReferenceIdeal.nD Cert.ReferenceIdeal.τ).loc Cert.ReferenceIdeal.main_v201) = v12 c
          ∧ r.2.mem ((c.tc : Thread Cert.ReferenceIdeal.nD Cert.ReferenceIdeal.τ).loc Cert.ReferenceIdeal.main_v196) = v13 c
          ∧ r.2.mem ((c.tc : Thread Cert.ReferenceIdeal.nD Cert.ReferenceIdeal.τ).loc Cert.ReferenceIdeal.main_v308) = v14 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v15)) (v4 : (c : Dev Cert.Kernel2Ideal.nD) → Buf (Elt Ideal) ((c.tc : Thread Cert.Kernel2Ideal.nD Cert.Kernel2Ideal.τ).loc Cert.Kernel2Ideal.main_v20_0)) (v5 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v15) = v3 c
          ∧ r.2.mem ((c.tc : Thread Cert.Kernel2Ideal.nD Cert.Kernel2Ideal.τ).loc Cert.Kernel2Ideal.main_v20_0) = v4 c
          ∧ r.2.mem ((c.tc : Thread Cert.Kernel2Ideal.nD Cert.Kernel2Ideal.τ).loc Cert.Kernel2Ideal.main_v23) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_v39) = v3 c
          ∧ r.2.mem ((c.tc : Thread Cert.Reference2Ideal.nD Cert.Reference2Ideal.τ).loc Cert.Reference2Ideal.main_v72) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S16384x1024 : Shape := ⟨2, ![16384, 1024]⟩
abbrev S16384x1280 : Shape := ⟨2, ![16384, 1280]⟩
abbrev S16384x2048 : Shape := ⟨2, ![16384, 2048]⟩
abbrev S6x1024 : Shape := ⟨2, ![6, 1024]⟩
abbrev S1280x1024 : Shape := ⟨2, ![1280, 1024]⟩
abbrev S1024x1024 : Shape := ⟨2, ![1024, 1024]⟩
abbrev S2x1024 : Shape := ⟨2, ![2, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x1280 : S_.BroadcastsInDim S16384x1280 (![] : Fin 0 → Fin S16384x1280.rank)
  reducesTo_S16384x1280_S_d0_1 : S16384x1280.ReducesTo [0, 1] S_
  bcast_S_S16384x2048 : S_.BroadcastsInDim S16384x2048 (![] : Fin 0 → Fin S16384x2048.rank)
  reducesTo_S16384x2048_S_d0_1 : S16384x2048.ReducesTo [0, 1] S_
  bcast_S_S6x1024 : S_.BroadcastsInDim S6x1024 (![] : Fin 0 → Fin S6x1024.rank)
  reducesTo_S6x1024_S_d0_1 : S6x1024.ReducesTo [0, 1] S_
  bcast_S_S1280x1024 : S_.BroadcastsInDim S1280x1024 (![] : Fin 0 → Fin S1280x1024.rank)
  reducesTo_S1280x1024_S_d0_1 : S1280x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part5 {F : FTy → Type} [FloatOps F] (main_v82 : IVec S_ 1) (main_v85 : IVec S16384x1024 1) : IVec S_ 1 :=
  let main_c_32 : IVec S_ 1 := constantI S_ 1 1#1
  let main_v86 : IVec S_ 1 := (fun x v => Host.reduce IntOp.andi x v reducesTo_S16384x1024_S_d0_1 h_S_) main_v85 main_c_32
  let main_v87 : IVec S_ 1 := andi main_v82 main_v86
  main_v87

def fn_part4 {F : FTy → Type} [FloatOps F] (main_arg14 : FVec F S1x1024 .f32) (main_arg15 : FVec F S1x1024 .f32) (main_arg16 : FVec F S16384x1024 .f32) (main_v67 : IVec S_ 1) (main_v68 : FVec F S2816x1024 .f32) : IVec S_ 1 :=
  let main_cst_25 : FVec F S_ .f32 := constant S_ .f32 0x7F800000#32
  let main_v69 : FVec F S2816x1024 .f32 := broadcastInDim S2816x1024 ![] bcast_S_S2816x1024 main_cst_25
  let main_v70 : IVec S2816x1024 1 := cmpf .olt main_v68 main_v69
  let main_c_26 : IVec S_ 1 := constantI S_ 1 1#1
  let main_v71 : IVec S_ 1 := (fun x v => Host.reduce IntOp.andi x v reducesTo_S2816x1024_S_d0_1 h_S_) main_v70 main_c_26
  let main_v72 : IVec S_ 1 := andi main_v67 main_v71
  let main_v73 : FVec F S1x1024 .f32 := Host.absf main_arg14
  let main_cst_27 : FVec F S_ .f32 := constant S_ .f32 0x7F800000#32
  let main_v74 : FVec F S1x1024 .f32 := broadcastInDim S1x1024 ![] bcast_S_S1x1024 main_cst_27
  let main_v75 : IVec S1x1024 1 := cmpf .olt main_v73 main_v74
  let main_c_28 : IVec S_ 1 := constantI S_ 1 1#1
  let main_v76 : IVec S_ 1 := (fun x v => Host.reduce IntOp.andi x v reducesTo_S1x1024_S_d0_1 h_S_) main_v75 main_c_28
  let main_v77 : IVec S_ 1 := andi main_v72 main_v76
  let main_v78 : FVec F S1x1024 .f32 := Host.absf main_arg15
  let main_cst_29 : FVec F S_ .f32 := constant S_ .f32 0x7F800000#32
  let main_v79 : FVec F S1x1024 .f32 := broadcastInDim S1x1024 ![] bcast_S_S1x1024 main_cst_29
  let main_v80 : IVec S1x1024 1 := cmpf .olt main_v78 main_v79
  let main_c_30 : IVec S_ 1 := constantI S_ 1 1#1
  let main_v81 : IVec S_ 1 := (fun x v => Host.reduce IntOp.andi x v reducesTo_S1x1024_S_d0_1 h_S_) main_v80 main_c_30
  let main_v82 : IVec S_ 1 := andi main_v77 main_v81
  let main_v83 : FVec F S16384x1024 .f32 := Host.absf main_arg16
  let main_cst_31 : FVec F S_ .f32 := constant S_ .f32 0x7F800000#32
  let main_v84 : FVec F S16384x1024 .f32 := broadcastInDim S16384x1024 ![] bcast_S_S16384x1024 main_cst_31
  let main_v85 : IVec S16384x1024 1 := cmpf .olt main_v83 main_v84
  fn_part5 (F := F) main_v82 main_v85

def fn_part3 {F : FTy → Type} [FloatOps F] (main_arg10 : FVec F S1x1024 .f32) (main_arg11 : FVec F S1024x2816 .f32) (main_arg12 : FVec F S1024x2816 .f32) (main_arg13 : FVec F S2816x1024 .f32) (main_arg14 : FVec F S1x1024 .f32) (main_arg15 : FVec F S1x1024 .f32) (main_arg16 : FVec F S16384x1024 .f32) (main_v47 : IVec S_ 1) (main_v50 : IVec S1x1024 1) (main_c_18 : IVec S_ 1) : IVec S_ 1 :=
  let main_v51 : IVec S_ 1 := (fun x v => Host.reduce IntOp.andi x v reducesTo_S1x1024_S_d0_1 h_S_) main_v50 main_c_18
  let main_v52 : IVec S_ 1 := andi main_v47 main_v51
  let main_v53 : FVec F S1x1024 .f32 := Host.absf main_arg10
  let main_cst_19 : FVec F S_ .f32 := constant S_ .f32 0x7F800000#32
  let main_v54 : FVec F S1x1024 .f32 := broadcastInDim S1x1024 ![] bcast_S_S1x1024 main_cst_19
  let main_v55 : IVec S1x1024 1 := cmpf .olt main_v53 main_v54
  let main_c_20 : IVec S_ 1 := constantI S_ 1 1#1
  let main_v56 : IVec S_ 1 := (fun x v => Host.reduce IntOp.andi x v reducesTo_S1x1024_S_d0_1 h_S_) main_v55 main_c_20
  let main_v57 : IVec S_ 1 := andi main_v52 main_v56
  let main_v58 : FVec F S1024x2816 .f32 := Host.absf main_arg11
  let main_cst_21 : FVec F S_ .f32 := constant S_ .f32 0x7F800000#32
  let main_v59 : FVec F S1024x2816 .f32 := broadcastInDim S1024x2816 ![] bcast_S_S1024x2816 main_cst_21
  let main_v60 : IVec S1024x2816 1 := cmpf .olt main_v58 main_v59
  let main_c_22 : IVec S_ 1 := constantI S_ 1 1#1
  let main_v61 : IVec S_ 1 := (fun x v => Host.reduce IntOp.andi x v reducesTo_S1024x2816_S_d0_1 h_S_) main_v60 main_c_22
  let main_v62 : IVec S_ 1 := andi main_v57 main_v61
  let main_v63 : FVec F S1024x2816 .f32 := Host.absf main_arg12
  let main_cst_23 : FVec F S_ .f32 := constant S_ .f32 0x7F800000#32
  let main_v64 : FVec F S1024x2816 .f32 := broadcastInDim S1024x2816 ![] bcast_S_S1024x2816 main_cst_23
  let main_v65 : IVec S1024x2816 1 := cmpf .olt main_v63 main_v64
  let main_c_24 : IVec S_ 1 := constantI S_ 1 1#1
  let main_v66 : IVec S_ 1 := (fun x v => Host.reduce IntOp.andi x v reducesTo_S1024x2816_S_d0_1 h_S_) main_v65 main_c_24
  let main_v67 : IVec S_ 1 := andi main_v62 main_v66
  let main_v68 : FVec F S2816x1024 .f32 := Host.absf main_arg13
  fn_part4 (F := F) main_arg14 main_arg15 main_arg16 main_v67 main_v68

def fn_part2 {F : FTy → Type} [FloatOps F] (main_arg7 : FVec F S2x1024 .f32) (main_arg8 : FVec F S1024x1024 .f32) (main_arg9 : FVec F S1x1024 .f32) (main_arg10 : FVec F S1x1024 .f32) (main_arg11 : FVec F S1024x2816 .f32) (main_arg12 : FVec F S1024x2816 .f32) (main_arg13 : FVec F S2816x1024 .f32) (main_arg14 : FVec F S1x1024 .f32) (main_arg15 : FVec F S1x1024 .f32) (main_arg16 : FVec F S16384x1024 .f32) (main_v32 : IVec S_ 1) (main_v33 : FVec F S1024x1024 .f32) (main_cst_11 : FVec F S_ .f32) : IVec S_ 1 :=
  let main_v34 : FVec F S1024x1024 .f32 := broadcastInDim S1024x1024 ![] bcast_S_S1024x1024 main_cst_11
  let main_v35 : IVec S1024x1024 1 := cmpf .olt main_v33 main_v34
  let main_c_12 : IVec S_ 1 := constantI S_ 1 1#1
  let main_v36 : IVec S_ 1 := (fun x v => Host.reduce IntOp.andi x v reducesTo_S1024x1024_S_d0_1 h_S_) main_v35 main_c_12
  let main_v37 : IVec S_ 1 := andi main_v32 main_v36
  let main_v38 : FVec F S2x1024 .f32 := Host.absf main_arg7
  let main_cst_13 : FVec F S_ .f32 := constant S_ .f32 0x7F800000#32
  let main_v39 : FVec F S2x1024 .f32 := broadcastInDim S2x1024 ![] bcast_S_S2x1024 main_cst_13
  let main_v40 : IVec S2x1024 1 := cmpf .olt main_v38 main_v39
  let main_c_14 : IVec S_ 1 := constantI S_ 1 1#1
  let main_v41 : IVec S_ 1 := (fun x v => Host.reduce IntOp.andi x v reducesTo_S2x1024_S_d0_1 h_S_) main_v40 main_c_14
  let main_v42 : IVec S_ 1 := andi main_v37 main_v41
  let main_v43 : FVec F S1024x1024 .f32 := Host.absf main_arg8
  let main_cst_15 : FVec F S_ .f32 := constant S_ .f32 0x7F800000#32
  let main_v44 : FVec F S1024x1024 .f32 := broadcastInDim S1024x1024 ![] bcast_S_S1024x1024 main_cst_15
  let main_v45 : IVec S1024x1024 1 := cmpf .olt main_v43 main_v44
  let main_c_16 : IVec S_ 1 := constantI S_ 1 1#1
  let main_v46 : IVec S_ 1 := (fun x v => Host.reduce IntOp.andi x v reducesTo_S1024x1024_S_d0_1 h_S_) main_v45 main_c_16
  let main_v47 : IVec S_ 1 := andi main_v42 main_v46
  let main_v48 : FVec F S1x1024 .f32 := Host.absf main_arg9
  let main_cst_17 : FVec F S_ .f32 := constant S_ .f32 0x7F800000#32
  let main_v49 : FVec F S1x1024 .f32 := broadcastInDim S1x1024 ![] bcast_S_S1x1024 main_cst_17
  let main_v50 : IVec S1x1024 1 := cmpf .olt main_v48 main_v49
  let main_c_18 : IVec S_ 1 := constantI S_ 1 1#1
  fn_part3 (F := F) main_arg10 main_arg11 main_arg12 main_arg13 main_arg14 main_arg15 main_arg16 main_v47 main_v50 main_c_18

def fn_part1 {F : FTy → Type} [FloatOps F] (main_arg3 : FVec F S16384x2048 .bf16) (main_arg4 : FVec F S6x1024 .f32) (main_arg5 : FVec F S1280x1024 .f32) (main_arg6 : FVec F S1024x1024 .f32) (main_arg7 : FVec F S2x1024 .f32) (main_arg8 : FVec F S1024x1024 .f32) (main_arg9 : FVec F S1x1024 .f32) (main_arg10 : FVec F S1x1024 .f32) (main_arg11 : FVec F S1024x2816 .f32) (main_arg12 : FVec F S1024x2816 .f32) (main_arg13 : FVec F S2816x1024 .f32) (main_arg14 : FVec F S1x1024 .f32) (main_arg15 : FVec F S1x1024 .f32) (main_arg16 : FVec F S16384x1024 .f32) (main_v16 : IVec S_ 1) : IVec S_ 1 :=
  let main_v17 : FVec F S16384x2048 .f32 := (extf .f32 · bitsLt_bf16_f32) main_arg3
  let main_v18 : FVec F S16384x2048 .f32 := Host.absf main_v17
  let main_cst_5 : FVec F S_ .f32 := constant S_ .f32 0x7F800000#32
  let main_v19 : FVec F S16384x2048 .f32 := broadcastInDim S16384x2048 ![] bcast_S_S16384x2048 main_cst_5
  let main_v20 : IVec S16384x2048 1 := cmpf .olt main_v18 main_v19
  let main_c_6 : IVec S_ 1 := constantI S_ 1 1#1
  let main_v21 : IVec S_ 1 := (fun x v => Host.reduce IntOp.andi x v reducesTo_S16384x2048_S_d0_1 h_S_) main_v20 main_c_6
  let main_v22 : IVec S_ 1 := andi main_v16 main_v21
  let main_v23 : FVec F S6x1024 .f32 := Host.absf main_arg4
  let main_cst_7 : FVec F S_ .f32 := constant S_ .f32 0x7F800000#32
  let main_v24 : FVec F S6x1024 .f32 := broadcastInDim S6x1024 ![] bcast_S_S6x1024 main_cst_7
  let main_v25 : IVec S6x1024 1 := cmpf .olt main_v23 main_v24
  let main_c_8 : IVec S_ 1 := constantI S_ 1 1#1
  let main_v26 : IVec S_ 1 := (fun x v => Host.reduce IntOp.andi x v reducesTo_S6x1024_S_d0_1 h_S_) main_v25 main_c_8
  let main_v27 : IVec S_ 1 := andi main_v22 main_v26
  let main_v28 : FVec F S1280x1024 .f32 := Host.absf main_arg5
  let main_cst_9 : FVec F S_ .f32 := constant S_ .f32 0x7F800000#32
  let main_v29 : FVec F S1280x1024 .f32 := broadcastInDim S1280x1024 ![] bcast_S_S1280x1024 main_cst_9
  let main_v30 : IVec S1280x1024 1 := cmpf .olt main_v28 main_v29
  let main_c_10 : IVec S_ 1 := constantI S_ 1 1#1
  let main_v31 : IVec S_ 1 := (fun x v => Host.reduce IntOp.andi x v reducesTo_S1280x1024_S_d0_1 h_S_) main_v30 main_c_10
  let main_v32 : IVec S_ 1 := andi main_v27 main_v31
  let main_v33 : FVec F S1024x1024 .f32 := Host.absf main_arg6
  let main_cst_11 : FVec F S_ .f32 := constant S_ .f32 0x7F800000#32
  fn_part2 (F := F) main_arg7 main_arg8 main_arg9 main_arg10 main_arg11 main_arg12 main_arg13 main_arg14 main_arg15 main_arg16 main_v32 main_v33 main_cst_11

def fn {F : FTy → Type} [FloatOps F] (main_arg0 : FVec F S16384x1024 .f32) (main_arg1 : FVec F S16384x1280 .bf16) (main_arg2 : FVec F S16384x1024 .bf16) (main_arg3 : FVec F S16384x2048 .bf16) (main_arg4 : FVec F S6x1024 .f32) (main_arg5 : FVec F S1280x1024 .f32) (main_arg6 : FVec F S1024x1024 .f32) (main_arg7 : FVec F S2x1024 .f32) (main_arg8 : FVec F S1024x1024 .f32) (main_arg9 : FVec F S1x1024 .f32) (main_arg10 : FVec F S1x1024 .f32) (main_arg11 : FVec F S1024x2816 .f32) (main_arg12 : FVec F S1024x2816 .f32) (main_arg13 : FVec F S2816x1024 .f32) (main_arg14 : FVec F S1x1024 .f32) (main_arg15 : FVec F S1x1024 .f32) (main_arg16 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 1 := constantI S_ 1 1#1
  let main_v4 : IVec S_ 1 := andi main_c_0 main_v3
  let main_v5 : FVec F S16384x1280 .f32 := (extf .f32 · bitsLt_bf16_f32) main_arg1
  let main_v6 : FVec F S16384x1280 .f32 := Host.absf main_v5
  let main_cst_1 : FVec F S_ .f32 := constant S_ .f32 0x7F800000#32
  let main_v7 : FVec F S16384x1280 .f32 := broadcastInDim S16384x1280 ![] bcast_S_S16384x1280 main_cst_1
  let main_v8 : IVec S16384x1280 1 := cmpf .olt main_v6 main_v7
  let main_c_2 : IVec S_ 1 := constantI S_ 1 1#1
  let main_v9 : IVec S_ 1 := (fun x v => Host.reduce IntOp.andi x v reducesTo_S16384x1280_S_d0_1 h_S_) main_v8 main_c_2
  let main_v10 : IVec S_ 1 := andi main_v4 main_v9
  let main_v11 : FVec F S16384x1024 .f32 := (extf .f32 · bitsLt_bf16_f32) main_arg2
  let main_v12 : FVec F S16384x1024 .f32 := Host.absf main_v11
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  let main_c_4 : IVec S_ 1 := constantI S_ 1 1#1
  let main_v15 : IVec S_ 1 := (fun x v => Host.reduce IntOp.andi x v reducesTo_S16384x1024_S_d0_1 h_S_) main_v14 main_c_4
  let main_v16 : IVec S_ 1 := andi main_v10 main_v15
  fn_part1 (F := F) main_arg3 main_arg4 main_arg5 main_arg6 main_arg7 main_arg8 main_arg9 main_arg10 main_arg11 main_arg12 main_arg13 main_arg14 main_arg15 main_arg16 main_v16
-- ==== Pre_finite2.lean ====
abbrev S16384x1024 : Shape := ⟨2, ![16384, 1024]⟩
abbrev S6x1024 : Shape := ⟨2, ![6, 1024]⟩
abbrev S1024x7680 : Shape := ⟨2, ![1024, 7680]⟩
abbrev S16384x2560 : Shape := ⟨2, ![16384, 2560]⟩
abbrev S16384x2048 : Shape := ⟨2, ![16384, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S1024x7680 : S_.BroadcastsInDim S1024x7680 (![] : Fin 0 → Fin S1024x7680.rank)
  reducesTo_S1024x7680_S_d0_1 : S1024x7680.ReducesTo [0, 1] S_
  bitsLt_bf16_f32 : FTy.bits .bf16 < FTy.bits .f32
  bcast_S_S16384x2560 : S_.BroadcastsInDim S16384x2560 (![] : Fin 0 → Fin S16384x2560.rank)
  reducesTo_S16384x2560_S_d0_1 : S16384x2560.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part2 {F : FTy → Type} [FloatOps F] (main_arg7 : FVec F S16384x2048 .bf16) (main_arg8 : FVec F S16384x1024 .f32) (main_v32 : IVec S_ 1) (main_v34 : FVec F S16384x1024 .f32) : IVec S_ 1 :=
  let main_cst_11 : FVec F S_ .f32 := constant S_ .f32 0x7F800000#32
  let main_v35 : FVec F S16384x1024 .f32 := broadcastInDim S16384x1024 ![] bcast_S_S16384x1024 main_cst_11
  let main_v36 : IVec S16384x1024 1 := cmpf .olt main_v34 main_v35
  let main_c_12 : IVec S_ 1 := constantI S_ 1 1#1
  let main_v37 : IVec S_ 1 := (fun x v => Host.reduce IntOp.andi x v reducesTo_S16384x1024_S_d0_1 h_S_) main_v36 main_c_12
  let main_v38 : IVec S_ 1 := andi main_v32 main_v37
  let main_v39 : FVec F S16384x2048 .f32 := (extf .f32 · bitsLt_bf16_f32) main_arg7
  let main_v40 : FVec F S16384x2048 .f32 := Host.absf main_v39
  let main_cst_13 : FVec F S_ .f32 := constant S_ .f32 0x7F800000#32
  let main_v41 : FVec F S16384x2048 .f32 := broadcastInDim S16384x2048 ![] bcast_S_S16384x2048 main_cst_13
  let main_v42 : IVec S16384x2048 1 := cmpf .olt main_v40 main_v41
  let main_c_14 : IVec S_ 1 := constantI S_ 1 1#1
  let main_v43 : IVec S_ 1 := (fun x v => Host.reduce IntOp.andi x v reducesTo_S16384x2048_S_d0_1 h_S_) main_v42 main_c_14
  let main_v44 : IVec S_ 1 := andi main_v38 main_v43
  let main_v45 : FVec F S16384x1024 .f32 := Host.absf main_arg8
  let main_cst_15 : FVec F S_ .f32 := constant S_ .f32 0x7F800000#32
  let main_v46 : FVec F S16384x1024 .f32 := broadcastInDim S16384x1024 ![] bcast_S_S16384x1024 main_cst_15
  let main_v47 : IVec S16384x1024 1 := cmpf .olt main_v45 main_v46
  let main_c_16 : IVec S_ 1 := constantI S_ 1 1#1
  let main_v48 : IVec S_ 1 := (fun x v => Host.reduce IntOp.andi x v reducesTo_S16384x1024_S_d0_1 h_S_) main_v47 main_c_16
  let main_v49 : IVec S_ 1 := andi main_v44 main_v48
  main_v49

def fn_part1 {F : FTy → Type} [FloatOps F] (main_arg4 : FVec F S16384x1024 .bf16) (main_arg5 : FVec F S16384x1024 .bf16) (main_arg6 : FVec F S16384x1024 .bf16) (main_arg7 : FVec F S16384x2048 .bf16) (main_arg8 : FVec F S16384x1024 .f32) (main_v14 : IVec S_ 1) (main_v16 : FVec F S16384x2560 .f32) : IVec S_ 1 :=
  let main_cst_5 : FVec F S_ .f32 := constant S_ .f32 0x7F800000#32
  let main_v17 : FVec F S16384x2560 .f32 := broadcastInDim S16384x2560 ![] bcast_S_S16384x2560 main_cst_5
  let main_v18 : IVec S16384x2560 1 := cmpf .olt main_v16 main_v17
  let main_c_6 : IVec S_ 1 := constantI S_ 1 1#1
  let main_v19 : IVec S_ 1 := (fun x v => Host.reduce IntOp.andi x v reducesTo_S16384x2560_S_d0_1 h_S_) main_v18 main_c_6
  let main_v20 : IVec S_ 1 := andi main_v14 main_v19
  let main_v21 : FVec F S16384x1024 .f32 := (extf .f32 · bitsLt_bf16_f32) main_arg4
  let main_v22 : FVec F S16384x1024 .f32 := Host.absf main_v21
  let main_cst_7 : FVec F S_ .f32 := constant S_ .f32 0x7F800000#32
  let main_v23 : FVec F S16384x1024 .f32 := broadcastInDim S16384x1024 ![] bcast_S_S16384x1024 main_cst_7
  let main_v24 : IVec S16384x1024 1 := cmpf .olt main_v22 main_v23
  let main_c_8 : IVec S_ 1 := constantI S_ 1 1#1
  let main_v25 : IVec S_ 1 := (fun x v => Host.reduce IntOp.andi x v reducesTo_S16384x1024_S_d0_1 h_S_) main_v24 main_c_8
  let main_v26 : IVec S_ 1 := andi main_v20 main_v25
  let main_v27 : FVec F S16384x1024 .f32 := (extf .f32 · bitsLt_bf16_f32) main_arg5
  let main_v28 : FVec F S16384x1024 .f32 := Host.absf main_v27
  let main_cst_9 : FVec F S_ .f32 := constant S_ .f32 0x7F800000#32
  let main_v29 : FVec F S16384x1024 .f32 := broadcastInDim S16384x1024 ![] bcast_S_S16384x1024 main_cst_9
  let main_v30 : IVec S16384x1024 1 := cmpf .olt main_v28 main_v29
  let main_c_10 : IVec S_ 1 := constantI S_ 1 1#1
  let main_v31 : IVec S_ 1 := (fun x v => Host.reduce IntOp.andi x v reducesTo_S16384x1024_S_d0_1 h_S_) main_v30 main_c_10
  let main_v32 : IVec S_ 1 := andi main_v26 main_v31
  let main_v33 : FVec F S16384x1024 .f32 := (extf .f32 · bitsLt_bf16_f32) main_arg6
  let main_v34 : FVec F S16384x1024 .f32 := Host.absf main_v33
  fn_part2 (F := F) main_arg7 main_arg8 main_v32 main_v34

def fn {F : FTy → Type} [FloatOps F] (main_arg0 : FVec F S16384x1024 .f32) (main_arg1 : FVec F S6x1024 .f32) (main_arg2 : FVec F S1024x7680 .f32) (main_arg3 : FVec F S16384x2560 .bf16) (main_arg4 : FVec F S16384x1024 .bf16) (main_arg5 : FVec F S16384x1024 .bf16) (main_arg6 : FVec F S16384x1024 .bf16) (main_arg7 : FVec F S16384x2048 .bf16) (main_arg8 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 1 := constantI S_ 1 1#1
  let main_v4 : IVec S_ 1 := andi main_c_0 main_v3
  let main_v5 : FVec F S6x1024 .f32 := Host.absf main_arg1
  let main_cst_1 : FVec F S_ .f32 := constant S_ .f32 0x7F800000#32
  let main_v6 : FVec F S6x1024 .f32 := broadcastInDim S6x1024 ![] bcast_S_S6x1024 main_cst_1
  let main_v7 : IVec S6x1024 1 := cmpf .olt main_v5 main_v6
  let main_c_2 : IVec S_ 1 := constantI S_ 1 1#1
  let main_v8 : IVec S_ 1 := (fun x v => Host.reduce IntOp.andi x v reducesTo_S6x1024_S_d0_1 h_S_) main_v7 main_c_2
  let main_v9 : IVec S_ 1 := andi main_v4 main_v8
  let main_v10 : FVec F S1024x7680 .f32 := Host.absf main_arg2
  let main_cst_3 : FVec F S_ .f32 := constant S_ .f32 0x7F800000#32
  let main_v11 : FVec F S1024x7680 .f32 := broadcastInDim S1024x7680 ![] bcast_S_S1024x7680 main_cst_3
  let main_v12 : IVec S1024x7680 1 := cmpf .olt main_v10 main_v11
  let main_c_4 : IVec S_ 1 := constantI S_ 1 1#1
  let main_v13 : IVec S_ 1 := (fun x v => Host.reduce IntOp.andi x v reducesTo_S1024x7680_S_d0_1 h_S_) main_v12 main_c_4
  let main_v14 : IVec S_ 1 := andi main_v9 main_v13
  let main_v15 : FVec F S16384x2560 .f32 := (extf .f32 · bitsLt_bf16_f32) main_arg3
  let main_v16 : FVec F S16384x2560 .f32 := Host.absf main_v15
  fn_part1 (F := F) main_arg4 main_arg5 main_arg6 main_arg7 main_arg8 main_v14 main_v16
-- ==== Kernel.lean ====
abbrev S16384x1024 : Shape := ⟨2, ![16384, 1024]⟩
abbrev S16384x1280 : Shape := ⟨2, ![16384, 1280]⟩
abbrev S16384x2048 : Shape := ⟨2, ![16384, 2048]⟩
abbrev S6x1024 : Shape := ⟨2, ![6, 1024]⟩
abbrev S1280x1024 : Shape := ⟨2, ![1280, 1024]⟩
abbrev S1024x1024 : Shape := ⟨2, ![1024, 1024]⟩
abbrev S2x1024 : Shape := ⟨2, ![2, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S512x1280 : Shape := ⟨2, ![512, 1280]⟩
abbrev S512x1024 : Shape := ⟨2, ![512, 1024]⟩
abbrev S256x1280 : Shape := ⟨2, ![256, 1280]⟩
abbrev S256x1024 : Shape := ⟨2, ![256, 1024]⟩
abbrev S256 : Shape := ⟨1, ![256]⟩
abbrev S256x1 : Shape := ⟨2, ![256, 1]⟩
abbrev S16384x2816 : Shape := ⟨2, ![16384, 2816]⟩
abbrev S1024x1408 : Shape := ⟨2, ![1024, 1408]⟩
abbrev S512x1408 : Shape := ⟨2, ![512, 1408]⟩
abbrev S512x2816 : Shape := ⟨2, ![512, 2816]⟩
abbrev S256x2816 : Shape := ⟨2, ![256, 2816]⟩
abbrev S1024 : Shape := ⟨1, ![1024]⟩
abbrev S1024x512 : Shape := ⟨2, ![1024, 512]⟩
abbrev S2816x512 : Shape := ⟨2, ![2816, 512]⟩
abbrev S1408x1024 : Shape := ⟨2, ![1408, 1024]⟩
abbrev S256x1408 : Shape := ⟨2, ![256, 1408]⟩
abbrev S2048x1024 : Shape := ⟨2, ![2048, 1024]⟩
abbrev S2048x1408 : Shape := ⟨2, ![2048, 1408]⟩
abbrev S512x2048 : Shape := ⟨2, ![512, 2048]⟩
abbrev S256x2048 : Shape := ⟨2, ![256, 2048]⟩
abbrev S2048x1280 : Shape := ⟨2, ![2048, 1280]⟩
abbrev S4x1024 : Shape := ⟨2, ![4, 1024]⟩

abbrev nBuf : Space → Nat
  | .hbm => 76
  | .vmem => 151
  | .smem => 0
  | _ => 0

abbrev vmemTy0_0 (i : Nat) : BufTy := match i % 128 with
  | 0 => ⟨S512x1280, .bf16⟩
  | 1 => ⟨S512x1280, .bf16⟩
  | 2 => ⟨S1280x1024, .bf16⟩
  | 3 => ⟨S512x1024, .bf16⟩
  | 4 => ⟨S512x1024, .bf16⟩
  | 5 => ⟨S1024x1024, .bf16⟩
  | 6 => ⟨S512x1024, .bf16⟩
  | 7 => ⟨S512x1024, .bf16⟩
  | 8 => ⟨S512x1024, .bf16⟩
  | 9 => ⟨S512x1024, .bf16⟩
  | 10 => ⟨S8x1024, .f32⟩
  | 11 => ⟨S512x1024, .bf16⟩
  | 12 => ⟨S512x1024, .bf16⟩
  | 13 => ⟨S512x1024, .bf16⟩
  | 14 => ⟨S512x1024, .bf16⟩
  | 15 => ⟨S512x1024, .bf16⟩
  | 16 => ⟨S512x1024, .bf16⟩
  | 17 => ⟨S512x1024, .bf16⟩
  | 18 => ⟨S512x1024, .bf16⟩
  | 19 => ⟨S1024x1024, .bf16⟩
  | 20 => ⟨S512x1024, .f32⟩
  | 21 => ⟨S512x1024, .f32⟩
  | 22 => ⟨S8x1024, .f32⟩
  | 23 => ⟨S8x1024, .f32⟩
  | 24 => ⟨S512x1024, .f32⟩
  | 25 => ⟨S512x1024, .f32⟩
  | 26 => ⟨S512x1024, .f32⟩
  | 27 => ⟨S512x1024, .f32⟩
  | 28 => ⟨S512x1024, .bf16⟩
  | 29 => ⟨S512x1024, .bf16⟩
  | 30 => ⟨S512x1024, .bf16⟩
  | 31 => ⟨S512x1024, .bf16⟩
  | 32 => ⟨S1024x1408, .bf16⟩
  | 33 => ⟨S1024x1408, .bf16⟩
  | 34 => ⟨S512x1024, .bf16⟩
  | 35 => ⟨S512x1024, .bf16⟩
  | 36 => ⟨S1024x1408, .bf16⟩
  | 37 => ⟨S1024x1408, .bf16⟩
  | 38 => ⟨S512x1408, .bf16⟩
  | 39 => ⟨S512x1408, .bf16⟩
  | 40 => ⟨S512x1408, .bf16⟩
  | 41 => ⟨S512x1408, .bf16⟩
  | 42 => ⟨S512x1408, .bf16⟩
  | 43 => ⟨S512x1408, .bf16⟩
  | 44 => ⟨S512x2816, .bf16⟩
  | 45 => ⟨S512x2816, .bf16⟩
  | 46 => ⟨S2816x1024, .bf16⟩
  | 47 => ⟨S512x1024, .f32⟩
  | 48 => ⟨S512x1024, .f32⟩
  | 49 => ⟨S512x1024, .f32⟩
  | 50 => ⟨S512x1024, .f32⟩
  | 51 => ⟨S8x1024, .f32⟩
  | 52 => ⟨S8x1024, .f32⟩
  | 53 => ⟨S512x1024, .f32⟩
  | 54 => ⟨S512x1024, .f32⟩
  | 55 => ⟨S512x1024, .bf16⟩
  | 56 => ⟨S512x1024, .bf16⟩
  | 57 => ⟨S8x1024, .f32⟩
  | 58 => ⟨S1024x2816, .bf16⟩
  | 59 => ⟨S1024x2816, .bf16⟩
  | 60 => ⟨S1024x512, .bf16⟩
  | 61 => ⟨S1024x512, .bf16⟩
  | 62 => ⟨S2816x512, .f32⟩
  | 63 => ⟨S2816x512, .f32⟩
  | 64 => ⟨S512x1024, .bf16⟩
  | 65 => ⟨S512x1024, .bf16⟩
  | 66 => ⟨S1408x1024, .bf16⟩
  | 67 => ⟨S1408x1024, .bf16⟩
  | 68 => ⟨S512x1408, .bf16⟩
  | 69 => ⟨S512x1408, .bf16⟩
  | 70 => ⟨S512x1408, .bf16⟩
  | 71 => ⟨S512x1408, .bf16⟩
  | 72 => ⟨S512x1408, .bf16⟩
  | 73 => ⟨S512x1408, .bf16⟩
  | 74 => ⟨S512x1408, .bf16⟩
  | 75 => ⟨S512x1408, .bf16⟩
  | 76 => ⟨S2048x1024, .bf16⟩
  | 77 => ⟨S2048x1024, .bf16⟩
  | 78 => ⟨S2048x1408, .bf16⟩
  | 79 => ⟨S2048x1408, .bf16⟩
  | 80 => ⟨S1024x1408, .f32⟩
  | 81 => ⟨S1024x1408, .f32⟩
  | 82 => ⟨S2048x1024, .bf16⟩
  | 83 => ⟨S2048x1024, .bf16⟩
  | 84 => ⟨S2048x1408, .bf16⟩
  | 85 => ⟨S2048x1408, .bf16⟩
  | 86 => ⟨S1024x1408, .f32⟩
  | 87 => ⟨S1024x1408, .f32⟩
  | 88 => ⟨S256x2816, .bf16⟩
  | 89 => ⟨S256x2816, .bf16⟩
  | 90 => ⟨S1024x2816, .bf16⟩
  | 91 => ⟨S256x2816, .bf16⟩
  | 92 => ⟨S256x2816, .bf16⟩
  | 93 => ⟨S1024x2816, .bf16⟩
  | 94 => ⟨S256x1024, .f32⟩
  | 95 => ⟨S256x1024, .f32⟩
  | 96 => ⟨S256x1024, .f32⟩
  | 97 => ⟨S256x1024, .f32⟩
  | 98 => ⟨S256x1024, .f32⟩
  | 99 => ⟨S256x1024, .f32⟩
  | 100 => ⟨S8x1024, .f32⟩
  | 101 => ⟨S8x1024, .f32⟩
  | 102 => ⟨S256x1024, .f32⟩
  | 103 => ⟨S256x1024, .f32⟩
  | 104 => ⟨S256x1024, .bf16⟩
  | 105 => ⟨S256x1024, .bf16⟩
  | 106 => ⟨S8x1024, .f32⟩
  | 107 => ⟨S2048x1024, .bf16⟩
  | 108 => ⟨S2048x1024, .bf16⟩
  | 109 => ⟨S2048x1024, .bf16⟩
  | 110 => ⟨S2048x1024, .bf16⟩
  | 111 => ⟨S1024x1024, .f32⟩
  | 112 => ⟨S512x1024, .bf16⟩
  | 113 => ⟨S512x1024, .bf16⟩
  | 114 => ⟨S1024x1024, .bf16⟩
  | 115 => ⟨S512x1024, .bf16⟩
  | 116 => ⟨S512x1024, .bf16⟩
  | 117 => ⟨S512x1024, .bf16⟩
  | 118 => ⟨S512x1024, .bf16⟩
  | 119 => ⟨S512x1024, .bf16⟩
  | 120 => ⟨S512x1024, .bf16⟩
  | 121 => ⟨S512x1024, .bf16⟩
  | 122 => ⟨S512x1024, .bf16⟩
  | 123 => ⟨S8x1024, .f32⟩
  | 124 => ⟨S512x1024, .bf16⟩
  | 125 => ⟨S512x1024, .bf16⟩
  | 126 => ⟨S512x1024, .bf16⟩
  | 127 => ⟨S512x1024, .bf16⟩
  | _ => ⟨S16384x1024, .f32⟩

abbrev vmemTy0_1 (i : Nat) : BufTy := match i % 128 with
  | 0 => ⟨S512x2048, .bf16⟩
  | 1 => ⟨S512x2048, .bf16⟩
  | 2 => ⟨S8x1024, .f32⟩
  | 3 => ⟨S512x1024, .bf16⟩
  | 4 => ⟨S512x1024, .bf16⟩
  | 5 => ⟨S1280x1024, .bf16⟩
  | 6 => ⟨S512x1280, .f32⟩
  | 7 => ⟨S512x1280, .f32⟩
  | 8 => ⟨S512x1024, .bf16⟩
  | 9 => ⟨S512x1024, .bf16⟩
  | 10 => ⟨S1024x1024, .bf16⟩
  | 11 => ⟨S512x1024, .f32⟩
  | 12 => ⟨S512x1024, .f32⟩
  | 13 => ⟨S2048x1280, .bf16⟩
  | 14 => ⟨S2048x1280, .bf16⟩
  | 15 => ⟨S2048x1024, .bf16⟩
  | 16 => ⟨S2048x1024, .bf16⟩
  | 17 => ⟨S1280x1024, .f32⟩
  | 18 => ⟨S2048x1024, .bf16⟩
  | 19 => ⟨S2048x1024, .bf16⟩
  | 20 => ⟨S2048x1024, .bf16⟩
  | 21 => ⟨S2048x1024, .bf16⟩
  | 22 => ⟨S1024x1024, .f32⟩
  | _ => ⟨S16384x1024, .f32⟩

abbrev vmemTy (i : Nat) : BufTy := match i / 128 with
  | 0 => vmemTy0_0 i
  | 1 => vmemTy0_1 i
  | _ => ⟨S16384x1024, .f32⟩

abbrev bufTy : (tb : Table) → Fin (tcTables nBuf tb) → BufTy
  | .hbm, ⟨0, _⟩ => ⟨S16384x1024, .f32⟩
  | .hbm, ⟨1, _⟩ => ⟨S16384x1280, .bf16⟩
  | .hbm, ⟨2, _⟩ => ⟨S16384x1024, .bf16⟩
  | .hbm, ⟨3, _⟩ => ⟨S16384x2048, .bf16⟩
  | .hbm, ⟨4, _⟩ => ⟨S6x1024, .f32⟩
  | .hbm, ⟨5, _⟩ => ⟨S1280x1024, .f32⟩
  | .hbm, ⟨6, _⟩ => ⟨S1024x1024, .f32⟩
  | .hbm, ⟨7, _⟩ => ⟨S2x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1x1024, .f32⟩
  | .hbm, ⟨15, _⟩ => ⟨S1x1024, .f32⟩
  | .hbm, ⟨16, _⟩ => ⟨S16384x1024, .f32⟩
  | .hbm, ⟨17, _⟩ => ⟨S1280x1024, .bf16⟩
  | .hbm, ⟨18, _⟩ => ⟨S1024x1024, .bf16⟩
  | .hbm, ⟨19, _⟩ => ⟨S1024x1024, .bf16⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S_, .f32⟩
  | .hbm, ⟨24, _⟩ => ⟨S2x1024, .f32⟩
  | .hbm, ⟨25, _⟩ => ⟨S8x1024, .f32⟩
  | .hbm, ⟨26, _⟩ => ⟨S_, .f32⟩
  | .hbm, ⟨27, _⟩ => ⟨S6x1024, .f32⟩
  | .hbm, ⟨28, _⟩ => ⟨S8x1024, .f32⟩
  | .hbm, ⟨29, _⟩ => ⟨S_, .f32⟩
  | .hbm, ⟨30, _⟩ => ⟨S6x1024, .f32⟩
  | .hbm, ⟨31, _⟩ => ⟨S8x1024, .f32⟩
  | .hbm, ⟨32, _⟩ => ⟨S_, .f32⟩
  | .hbm, ⟨33, _⟩ => ⟨S6x1024, .f32⟩
  | .hbm, ⟨34, _⟩ => ⟨S8x1024, .f32⟩
  | .hbm, ⟨35, _⟩ => ⟨S16384x1024, .bf16⟩
  | .hbm, ⟨36, _⟩ => ⟨S16384x1024, .bf16⟩
  | .hbm, ⟨37, _⟩ => ⟨S16384x1024, .bf16⟩
  | .hbm, ⟨38, _⟩ => ⟨S16384x1024, .f32⟩
  | .hbm, ⟨39, _⟩ => ⟨S16384x1024, .f32⟩
  | .hbm, ⟨40, _⟩ => ⟨S16384x1024, .bf16⟩
  | .hbm, ⟨41, _⟩ => ⟨S16384x2816, .bf16⟩
  | .hbm, ⟨42, _⟩ => ⟨S16384x2816, .bf16⟩
  | .hbm, ⟨43, _⟩ => ⟨S16384x2816, .bf16⟩
  | .hbm, ⟨44, _⟩ => ⟨S16384x1024, .f32⟩
  | .hbm, ⟨45, _⟩ => ⟨S16384x1024, .bf16⟩
  | .hbm, ⟨46, _⟩ => ⟨S8x1024, .f32⟩
  | .hbm, ⟨47, _⟩ => ⟨S2816x1024, .f32⟩
  | .hbm, ⟨48, _⟩ => ⟨S16384x2816, .bf16⟩
  | .hbm, ⟨49, _⟩ => ⟨S16384x2816, .bf16⟩
  | .hbm, ⟨50, _⟩ => ⟨S1024x2816, .f32⟩
  | .hbm, ⟨51, _⟩ => ⟨S1024x2816, .f32⟩
  | .hbm, ⟨52, _⟩ => ⟨S16384x1024, .f32⟩
  | .hbm, ⟨53, _⟩ => ⟨S16384x1024, .bf16⟩
  | .hbm, ⟨54, _⟩ => ⟨S8x1024, .f32⟩
  | .hbm, ⟨55, _⟩ => ⟨S1024x1024, .f32⟩
  | .hbm, ⟨56, _⟩ => ⟨S16384x1024, .bf16⟩
  | .hbm, ⟨57, _⟩ => ⟨S16384x1024, .bf16⟩
  | .hbm, ⟨58, _⟩ => ⟨S16384x2048, .bf16⟩
  | .hbm, ⟨59, _⟩ => ⟨S8x1024, .f32⟩
  | .hbm, ⟨60, _⟩ => ⟨S16384x1280, .f32⟩
  | .hbm, ⟨61, _⟩ => ⟨S16384x1024, .f32⟩
  | .hbm, ⟨62, _⟩ => ⟨S1280x1024, .f32⟩
  | .hbm, ⟨63, _⟩ => ⟨S1024x1024, .f32⟩
  | .hbm, ⟨64, _⟩ => ⟨S1x1024, .f32⟩
  | .hbm, ⟨65, _⟩ => ⟨S1024, .f32⟩
  | .hbm, ⟨66, _⟩ => ⟨S_, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S4x1024, .f32⟩
  | .hbm, ⟨73, _⟩ => ⟨S2x1024, .f32⟩
  | .hbm, ⟨74, _⟩ => ⟨S2x1024, .f32⟩
  | .hbm, ⟨75, _⟩ => ⟨S2x1024, .f32⟩
  | .local _ .vmem, ⟨i, _⟩ => vmemTy i
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 151 → Bool
  | ⟨i, _⟩ => dmaSemScopedAt i

abbrev sig : RefSig :=
  ofTc nBuf bufTy 0 151 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v14_2 : Ref sig .tc := ⟨.hbm, 37, rfl⟩
abbrev main_v15_0 : Ref sig .tc := ⟨.hbm, 38, rfl⟩
abbrev main_v15_1 : Ref sig .tc := ⟨.hbm, 39, rfl⟩
abbrev main_v15_2 : Ref sig .tc := ⟨.hbm, 40, rfl⟩
abbrev main_v16_0 : Ref sig .tc := ⟨.hbm, 41, rfl⟩
abbrev main_v16_1 : Ref sig .tc := ⟨.hbm, 42, rfl⟩
abbrev main_v16_2 : Ref sig .tc := ⟨.hbm, 43, rfl⟩
abbrev main_v17_0 : Ref sig .tc := ⟨.hbm, 44, rfl⟩
abbrev main_v17_1 : Ref sig .tc := ⟨.hbm, 45, rfl⟩
abbrev main_v17_2 : Ref sig .tc := ⟨.hbm, 46, rfl⟩
abbrev main_v18 : Ref sig .tc := ⟨.hbm, 47, rfl⟩
abbrev main_v19_0 : Ref sig .tc := ⟨.hbm, 48, rfl⟩
abbrev main_v19_1 : Ref sig .tc := ⟨.hbm, 49, rfl⟩
abbrev main_v20 : Ref sig .tc := ⟨.hbm, 50, rfl⟩
abbrev main_v21 : Ref sig .tc := ⟨.hbm, 51, rfl⟩
abbrev main_v22_0 : Ref sig .tc := ⟨.hbm, 52, rfl⟩
abbrev main_v22_1 : Ref sig .tc := ⟨.hbm, 53, rfl⟩
abbrev main_v22_2 : Ref sig .tc := ⟨.hbm, 54, rfl⟩
abbrev main_v23 : Ref sig .tc := ⟨.hbm, 55, rfl⟩
abbrev main_v24_0 : Ref sig .tc := ⟨.hbm, 56, rfl⟩
abbrev main_v24_1 : Ref sig .tc := ⟨.hbm, 57, rfl⟩
abbrev main_v24_2 : Ref sig .tc := ⟨.hbm, 58, rfl⟩
abbrev main_v24_3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_3 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg6_1 : Ref sig .tc := ⟨.vmem, 54, rfl⟩
abbrev cc3_stg7_0 : Ref sig .tc := ⟨.vmem, 55, rfl⟩
abbrev cc3_stg7_1 : Ref sig .tc := ⟨.vmem, 56, rfl⟩
abbrev cc3_stg8_0 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg1_1 : Ref sig .tc := ⟨.vmem, 61, rfl⟩
abbrev cc4_stg2_0 : Ref sig .tc := ⟨.vmem, 62, rfl⟩
abbrev cc4_stg2_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg3_1 : Ref sig .tc := ⟨.vmem, 71, rfl⟩
abbrev cc5_stg4_0 : Ref sig .tc := ⟨.vmem, 72, rfl⟩
abbrev cc5_stg4_1 : Ref sig .tc := ⟨.vmem, 73, rfl⟩
abbrev cc5_stg5_0 : Ref sig .tc := ⟨.vmem, 74, rfl⟩
abbrev cc5_stg5_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg1_1 : Ref sig .tc := ⟨.vmem, 85, rfl⟩
abbrev cc7_stg2_0 : Ref sig .tc := ⟨.vmem, 86, rfl⟩
abbrev cc7_stg2_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg2_0 : Ref sig .tc := ⟨.vmem, 91, rfl⟩
abbrev cc8_stg2_1 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg4_1 : Ref sig .tc := ⟨.vmem, 95, rfl⟩
abbrev cc8_stg5_0 : Ref sig .tc := ⟨.vmem, 96, rfl⟩
abbrev cc8_stg5_1 : Ref sig .tc := ⟨.vmem, 97, rfl⟩
abbrev cc8_stg6_0 : Ref sig .tc := ⟨.vmem, 98, rfl⟩
abbrev cc8_stg6_1 : Ref sig .tc := ⟨.vmem, 99, rfl⟩
abbrev cc8_stg7_0 : Ref sig .tc := ⟨.vmem, 100, rfl⟩
abbrev cc8_stg8_0 : Ref sig .tc := ⟨.vmem, 101, rfl⟩
abbrev cc8_stg9_0 : Ref sig .tc := ⟨.vmem, 102, rfl⟩
abbrev cc8_stg9_1 : Ref sig .tc := ⟨.vmem, 103, rfl⟩
abbrev cc8_stg10_0 : Ref sig .tc := ⟨.vmem, 104, rfl⟩
abbrev cc8_stg10_1 : Ref sig .tc := ⟨.vmem, 105, rfl⟩
abbrev cc8_stg11_0 : Ref sig .tc := ⟨.vmem, 106, rfl⟩
abbrev cc9_stg0_0 : Ref sig .tc := ⟨.vmem, 107, rfl⟩
abbrev cc9_stg0_1 : Ref sig .tc := ⟨.vmem, 108, rfl⟩
abbrev cc9_stg1_0 : Ref sig .tc := ⟨.vmem, 109, rfl⟩
abbrev cc9_stg1_1 : Ref sig .tc := ⟨.vmem, 110, rfl⟩
abbrev cc9_stg2_0 : Ref sig .tc := ⟨.vmem, 111, rfl⟩
abbrev cc10_stg0_0 : Ref sig .tc := ⟨.vmem, 112, rfl⟩
abbrev cc10_stg0_1 : Ref sig .tc := ⟨.vmem, 113, rfl⟩
abbrev cc10_stg1_0 : Ref sig .tc := ⟨.vmem, 114, rfl⟩
abbrev cc10_stg2_0 : Ref sig .tc := ⟨.vmem, 115, rfl⟩
abbrev cc10_stg2_1 : Ref sig .tc := ⟨.vmem, 116, rfl⟩
abbrev cc10_stg3_0 : Ref sig .tc := ⟨.vmem, 117, rfl⟩
abbrev cc10_stg3_1 : Ref sig .tc := ⟨.vmem, 118, rfl⟩
abbrev cc10_stg4_0 : Ref sig .tc := ⟨.vmem, 119, rfl⟩
abbrev cc10_stg4_1 : Ref sig .tc := ⟨.vmem, 120, rfl⟩
abbrev cc10_stg5_0 : Ref sig .tc := ⟨.vmem, 121, rfl⟩
abbrev cc10_stg5_1 : Ref sig .tc := ⟨.vmem, 122, rfl⟩
abbrev cc10_stg6_0 : Ref sig .tc := ⟨.vmem, 123, rfl⟩
abbrev cc10_stg7_0 : Ref sig .tc := ⟨.vmem, 124, rfl⟩
abbrev cc10_stg7_1 : Ref sig .tc := ⟨.vmem, 125, rfl⟩
abbrev cc10_stg8_0 : Ref sig .tc := ⟨.vmem, 126, rfl⟩
abbrev cc10_stg8_1 : Ref sig .tc := ⟨.vmem, 127, rfl⟩
abbrev cc10_stg9_0 : Ref sig .tc := ⟨.vmem, 128, rfl⟩
abbrev cc10_stg9_1 : Ref sig .tc := ⟨.vmem, 129, rfl⟩
abbrev cc10_stg10_0 : Ref sig .tc := ⟨.vmem, 130, rfl⟩
abbrev cc11_stg0_0 : Ref sig .tc := ⟨.vmem, 131, rfl⟩
abbrev cc11_stg0_1 : Ref sig .tc := ⟨.vmem, 132, rfl⟩
abbrev cc11_stg1_0 : Ref sig .tc := ⟨.vmem, 133, rfl⟩
abbrev cc11_stg2_0 : Ref sig .tc := ⟨.vmem, 134, rfl⟩
abbrev cc11_stg2_1 : Ref sig .tc := ⟨.vmem, 135, rfl⟩
abbrev cc12_stg0_0 : Ref sig .tc := ⟨.vmem, 136, rfl⟩
abbrev cc12_stg0_1 : Ref sig .tc := ⟨.vmem, 137, rfl⟩
abbrev cc12_stg1_0 : Ref sig .tc := ⟨.vmem, 138, rfl⟩
abbrev cc12_stg2_0 : Ref sig .tc := ⟨.vmem, 139, rfl⟩
abbrev cc12_stg2_1 : Ref sig .tc := ⟨.vmem, 140, rfl⟩
abbrev cc13_stg0_0 : Ref sig .tc := ⟨.vmem, 141, rfl⟩
abbrev cc13_stg0_1 : Ref sig .tc := ⟨.vmem, 142, rfl⟩
abbrev cc13_stg1_0 : Ref sig .tc := ⟨.vmem, 143, rfl⟩
abbrev cc13_stg1_1 : Ref sig .tc := ⟨.vmem, 144, rfl⟩
abbrev cc13_stg2_0 : Ref sig .tc := ⟨.vmem, 145, rfl⟩
abbrev cc14_stg0_0 : Ref sig .tc := ⟨.vmem, 146, rfl⟩
abbrev cc14_stg0_1 : Ref sig .tc := ⟨.vmem, 147, rfl⟩
abbrev cc14_stg1_0 : Ref sig .tc := ⟨.vmem, 148, rfl⟩
abbrev cc14_stg1_1 : Ref sig .tc := ⟨.vmem, 149, rfl⟩
abbrev cc14_stg2_0 : Ref sig .tc := ⟨.vmem, 150, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39
abbrev cc2_sem5_0 : DmaSem sig := 40
abbrev cc2_sem5_1 : DmaSem sig := 41
abbrev cc2_sem6_0 : DmaSem sig := 42
abbrev cc2_sem6_1 : DmaSem sig := 43
abbrev cc3_sem0_0 : DmaSem sig := 44
abbrev cc3_sem0_1 : DmaSem sig := 45
abbrev cc3_sem1_0 : DmaSem sig := 46
abbrev cc3_sem2_0 : DmaSem sig := 47
abbrev cc3_sem2_1 : DmaSem sig := 48
abbrev cc3_sem3_0 : DmaSem sig := 49
abbrev cc3_sem3_1 : DmaSem sig := 50
abbrev cc3_sem4_0 : DmaSem sig := 51
abbrev cc3_sem5_0 : DmaSem sig := 52
abbrev cc3_sem6_0 : DmaSem sig := 53
abbrev cc3_sem6_1 : DmaSem sig := 54
abbrev cc3_sem7_0 : DmaSem sig := 55
abbrev cc3_sem7_1 : DmaSem sig := 56
abbrev cc3_sem8_0 : DmaSem sig := 57
abbrev cc4_sem0_0 : DmaSem sig := 58
abbrev cc4_sem0_1 : DmaSem sig := 59
abbrev cc4_sem1_0 : DmaSem sig := 60
abbrev cc4_sem1_1 : DmaSem sig := 61
abbrev cc4_sem2_0 : DmaSem sig := 62
abbrev cc4_sem2_1 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem2_1 : DmaSem sig := 69
abbrev cc5_sem3_0 : DmaSem sig := 70
abbrev cc5_sem3_1 : DmaSem sig := 71
abbrev cc5_sem4_0 : DmaSem sig := 72
abbrev cc5_sem4_1 : DmaSem sig := 73
abbrev cc5_sem5_0 : DmaSem sig := 74
abbrev cc5_sem5_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem2_1 : DmaSem sig := 81
abbrev cc7_sem0_0 : DmaSem sig := 82
abbrev cc7_sem0_1 : DmaSem sig := 83
abbrev cc7_sem1_0 : DmaSem sig := 84
abbrev cc7_sem1_1 : DmaSem sig := 85
abbrev cc7_sem2_0 : DmaSem sig := 86
abbrev cc7_sem2_1 : DmaSem sig := 87
abbrev cc8_sem0_0 : DmaSem sig := 88
abbrev cc8_sem0_1 : DmaSem sig := 89
abbrev cc8_sem1_0 : DmaSem sig := 90
abbrev cc8_sem2_0 : DmaSem sig := 91
abbrev cc8_sem2_1 : DmaSem sig := 92
abbrev cc8_sem3_0 : DmaSem sig := 93
abbrev cc8_sem4_0 : DmaSem sig := 94
abbrev cc8_sem4_1 : DmaSem sig := 95
abbrev cc8_sem5_0 : DmaSem sig := 96
abbrev cc8_sem5_1 : DmaSem sig := 97
abbrev cc8_sem6_0 : DmaSem sig := 98
abbrev cc8_sem6_1 : DmaSem sig := 99
abbrev cc8_sem7_0 : DmaSem sig := 100
abbrev cc8_sem8_0 : DmaSem sig := 101
abbrev cc8_sem9_0 : DmaSem sig := 102
abbrev cc8_sem9_1 : DmaSem sig := 103
abbrev cc8_sem10_0 : DmaSem sig := 104
abbrev cc8_sem10_1 : DmaSem sig := 105
abbrev cc8_sem11_0 : DmaSem sig := 106
abbrev cc9_sem0_0 : DmaSem sig := 107
abbrev cc9_sem0_1 : DmaSem sig := 108
abbrev cc9_sem1_0 : DmaSem sig := 109
abbrev cc9_sem1_1 : DmaSem sig := 110
abbrev cc9_sem2_0 : DmaSem sig := 111
abbrev cc10_sem0_0 : DmaSem sig := 112
abbrev cc10_sem0_1 : DmaSem sig := 113
abbrev cc10_sem1_0 : DmaSem sig := 114
abbrev cc10_sem2_0 : DmaSem sig := 115
abbrev cc10_sem2_1 : DmaSem sig := 116
abbrev cc10_sem3_0 : DmaSem sig := 117
abbrev cc10_sem3_1 : DmaSem sig := 118
abbrev cc10_sem4_0 : DmaSem sig := 119
abbrev cc10_sem4_1 : DmaSem sig := 120
abbrev cc10_sem5_0 : DmaSem sig := 121
abbrev cc10_sem5_1 : DmaSem sig := 122
abbrev cc10_sem6_0 : DmaSem sig := 123
abbrev cc10_sem7_0 : DmaSem sig := 124
abbrev cc10_sem7_1 : DmaSem sig := 125
abbrev cc10_sem8_0 : DmaSem sig := 126
abbrev cc10_sem8_1 : DmaSem sig := 127
abbrev cc10_sem9_0 : DmaSem sig := 128
abbrev cc10_sem9_1 : DmaSem sig := 129
abbrev cc10_sem10_0 : DmaSem sig := 130
abbrev cc11_sem0_0 : DmaSem sig := 131
abbrev cc11_sem0_1 : DmaSem sig := 132
abbrev cc11_sem1_0 : DmaSem sig := 133
abbrev cc11_sem2_0 : DmaSem sig := 134
abbrev cc11_sem2_1 : DmaSem sig := 135
abbrev cc12_sem0_0 : DmaSem sig := 136
abbrev cc12_sem0_1 : DmaSem sig := 137
abbrev cc12_sem1_0 : DmaSem sig := 138
abbrev cc12_sem2_0 : DmaSem sig := 139
abbrev cc12_sem2_1 : DmaSem sig := 140
abbrev cc13_sem0_0 : DmaSem sig := 141
abbrev cc13_sem0_1 : DmaSem sig := 142
abbrev cc13_sem1_0 : DmaSem sig := 143
abbrev cc13_sem1_1 : DmaSem sig := 144
abbrev cc13_sem2_0 : DmaSem sig := 145
abbrev cc14_sem0_0 : DmaSem sig := 146
abbrev cc14_sem0_1 : DmaSem sig := 147
abbrev cc14_sem1_0 : DmaSem sig := 148
abbrev cc14_sem1_1 : DmaSem sig := 149
abbrev cc14_sem2_0 : DmaSem sig := 150

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x1408 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![1, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S8x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S8x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S512x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 1 → Memref sig .tc .vmem S8x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev grid4 : Pipeline.Grid := ⟨2, ![2, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S2816x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![2, 32], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1408x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x1408 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x1408 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S512x1408 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨2, ![2, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2048x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1024x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![2, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2048x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1024x1408 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![1, 64], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc8_transform_7 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_10 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_11 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S256x2816 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 1 → Memref sig .tc .vmem S1024x2816 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true, false]

abbrev stage8_2 : Fin 2 → Memref sig .tc .vmem S256x2816 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 1 → Memref sig .tc .vmem S1024x2816 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true, false]

abbrev stage8_4 : Fin 2 → Memref sig .tc .vmem S256x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev stage8_5 : Fin 2 → Memref sig .tc .vmem S256x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev stage8_6 : Fin 2 → Memref sig .tc .vmem S256x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true]

abbrev stage8_7 : Fin 1 → Memref sig .tc .vmem S8x1024 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false, false]

abbrev stage8_8 : Fin 1 → Memref sig .tc .vmem S8x1024 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false, false]

abbrev stage8_9 : Fin 2 → Memref sig .tc .vmem S256x1024 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true, true]

abbrev stage8_10 : Fin 2 → Memref sig .tc .vmem S256x1024 .bf16 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true, true]

abbrev stage8_11 : Fin 1 → Memref sig .tc .vmem S8x1024 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false, false]

abbrev grid9 : Pipeline.Grid := ⟨2, ![1, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage9_0 : Fin 2 → Memref sig .tc .vmem S2048x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S2048x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S1024x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, false]

abbrev grid10 : Pipeline.Grid := ⟨2, ![1, 32], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc10_transform_3 (i : grid10.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc10_transform_5 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc10_transform_6 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_8 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_9 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_10 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S512x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 1 → Memref sig .tc .vmem S1024x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true, false]

abbrev stage10_2 : Fin 2 → Memref sig .tc .vmem S512x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S512x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev stage10_4 : Fin 2 → Memref sig .tc .vmem S512x1024 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev stage10_5 : Fin 2 → Memref sig .tc .vmem S512x1024 .bf16 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true, true]

abbrev stage10_6 : Fin 1 → Memref sig .tc .vmem S8x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false, false]

abbrev stage10_7 : Fin 2 → Memref sig .tc .vmem S512x1024 .bf16 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true, true]

abbrev stage10_8 : Fin 2 → Memref sig .tc .vmem S512x1024 .bf16 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true, true]

abbrev stage10_9 : Fin 2 → Memref sig .tc .vmem S512x2048 .bf16 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true, true]

abbrev stage10_10 : Fin 1 → Memref sig .tc .vmem S8x1024 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false, false]

abbrev grid11 : Pipeline.Grid := ⟨2, ![1, 32], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 2 → Memref sig .tc .vmem S512x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 1 → Memref sig .tc .vmem S1280x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 2 → Memref sig .tc .vmem S512x1280 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![1, 32], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage12_0 : Fin 2 → Memref sig .tc .vmem S512x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![false, true]

abbrev stage12_1 : Fin 1 → Memref sig .tc .vmem S1024x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true, false]

abbrev stage12_2 : Fin 2 → Memref sig .tc .vmem S512x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨2, ![1, 8], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage13_0 : Fin 2 → Memref sig .tc .vmem S2048x1280 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![false, true]

abbrev stage13_1 : Fin 2 → Memref sig .tc .vmem S2048x1024 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, true]

abbrev stage13_2 : Fin 1 → Memref sig .tc .vmem S1280x1024 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true, false]

abbrev grid14 : Pipeline.Grid := ⟨2, ![1, 8], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage14_0 : Fin 2 → Memref sig .tc .vmem S2048x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![false, true]

abbrev stage14_1 : Fin 2 → Memref sig .tc .vmem S2048x1024 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, true]

abbrev stage14_2 : Fin 1 → Memref sig .tc .vmem S1024x1024 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![true, false]
-- ==== ReferenceIdeal.lean ====
abbrev S16384x1024 : Shape := ⟨2, ![16384, 1024]⟩
abbrev S16384x1280 : Shape := ⟨2, ![16384, 1280]⟩
abbrev S16384x2048 : Shape := ⟨2, ![16384, 2048]⟩
abbrev S6x1024 : Shape := ⟨2, ![6, 1024]⟩
abbrev S1280x1024 : Shape := ⟨2, ![1280, 1024]⟩
abbrev S1024x1024 : Shape := ⟨2, ![1024, 1024]⟩
abbrev S2x1024 : Shape := ⟨2, ![2, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024x1280 : Shape := ⟨2, ![1024, 1280]⟩
abbrev S4x1024 : Shape := ⟨2, ![4, 1024]⟩

abbrev nBuf : Space → Nat
  | .hbm => 416
  | .vmem => 0
  | .smem => 0
  | _ => 0

abbrev hbmTy0_0 (i : Nat) : BufTy := match i % 128 with
  | 0 => ⟨S16384x1024, .f32⟩
  | 1 => ⟨S16384x1280, .bf16⟩
  | 2 => ⟨S16384x1024, .bf16⟩
  | 3 => ⟨S16384x2048, .bf16⟩
  | 4 => ⟨S6x1024, .f32⟩
  | 5 => ⟨S1280x1024, .f32⟩
  | 6 => ⟨S1024x1024, .f32⟩
  | 7 => ⟨S2x1024, .f32⟩
  | 8 => ⟨S1024x1024, .f32⟩
  | 9 => ⟨S1x1024, .f32⟩
  | 10 => ⟨S1x1024, .f32⟩
  | 11 => ⟨S1024x2816, .f32⟩
  | 12 => ⟨S1024x2816, .f32⟩
  | 13 => ⟨S2816x1024, .f32⟩
  | 14 => ⟨S1x1024, .f32⟩
  | 15 => ⟨S1x1024, .f32⟩
  | 16 => ⟨S16384x1024, .f32⟩
  | 17 => ⟨S16384x1024, .bf16⟩
  | 18 => ⟨S16384x1024, .f32⟩
  | 19 => ⟨S16384x1024, .bf16⟩
  | 20 => ⟨S16384x1024, .f32⟩
  | 21 => ⟨S16384x1280, .f32⟩
  | 22 => ⟨S16384x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1024, .f32⟩
  | 29 => ⟨S1x1024, .f32⟩
  | 30 => ⟨S16384x1024, .f32⟩
  | 31 => ⟨S16384x1024, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x1024, .f32⟩
  | 44 => ⟨S1x1024, .f32⟩
  | 45 => ⟨S1024, .f32⟩
  | 46 => ⟨S1x1024, .f32⟩
  | 47 => ⟨S16384x1024, .f32⟩
  | 48 => ⟨S16384x1024, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S16384x1024, .f32⟩
  | 71 => ⟨S16384x1024, .f32⟩
  | 72 => ⟨S16384x1024, .f32⟩
  | 73 => ⟨S_, .f32⟩
  | 74 => ⟨S16384, .f32⟩
  | 75 => ⟨S16384x1, .f32⟩
  | 76 => ⟨S_, .f32⟩
  | 77 => ⟨S16384x1, .f32⟩
  | 78 => ⟨S16384x1, .f32⟩
  | 79 => ⟨S16384x1024, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384, .f32⟩
  | 87 => ⟨S16384x1, .f32⟩
  | 88 => ⟨S_, .f32⟩
  | 89 => ⟨S16384x1, .f32⟩
  | 90 => ⟨S16384x1, .f32⟩
  | 91 => ⟨S16384x1024, .f32⟩
  | 92 => ⟨S16384x1024, .f32⟩
  | 93 => ⟨S_, .f32⟩
  | 94 => ⟨S16384x1, .f32⟩
  | 95 => ⟨S16384x1, .f32⟩
  | 96 => ⟨S16384x1, .f32⟩
  | 97 => ⟨S16384x1, .f32⟩
  | 98 => ⟨S_, .f32⟩
  | 99 => ⟨S16384x1, .f32⟩
  | 100 => ⟨S16384x1, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S16384x1024, .f32⟩
  | 114 => ⟨S16384x1024, .f32⟩
  | 115 => ⟨S16384x1024, .f32⟩
  | 116 => ⟨S_, .f32⟩
  | 117 => ⟨S16384x1024, .f32⟩
  | 118 => ⟨S16384x1024, .f32⟩
  | 119 => ⟨S_, .f32⟩
  | 120 => ⟨S16384, .f32⟩
  | 121 => ⟨S16384x1, .f32⟩
  | 122 => ⟨S_, .f32⟩
  | 123 => ⟨S16384x1, .f32⟩
  | 124 => ⟨S16384x1, .f32⟩
  | 125 => ⟨S16384x1024, .f32⟩
  | 126 => ⟨S16384x1024, .f32⟩
  | 127 => ⟨S_, .f32⟩
  | _ => ⟨S16384x1024, .f32⟩

abbrev hbmTy0_1 (i : Nat) : BufTy := match i % 128 with
  | 0 => ⟨S16384x1, .f32⟩
  | 1 => ⟨S16384x1, .f32⟩
  | 2 => ⟨S16384x1, .f32⟩
  | 3 => ⟨S16384x1, .f32⟩
  | 4 => ⟨S_, .f32⟩
  | 5 => ⟨S16384x1, .f32⟩
  | 6 => ⟨S16384x1, .f32⟩
  | 7 => ⟨S16384x1024, .f32⟩
  | 8 => ⟨S16384x1024, .f32⟩
  | 9 => ⟨S_, .f32⟩
  | 10 => ⟨S1x1024, .f32⟩
  | 11 => ⟨S1x1024, .f32⟩
  | 12 => ⟨S16384x1024, .f32⟩
  | 13 => ⟨S16384x1024, .f32⟩
  | 14 => ⟨S16384x1024, .f32⟩
  | 15 => ⟨S16384x1024, .f32⟩
  | 16 => ⟨S16384x2816, .f32⟩
  | 17 => ⟨S16384x2816, .f32⟩
  | 18 => ⟨S16384x2816, .f32⟩
  | 19 => ⟨S_, .f32⟩
  | 20 => ⟨S16384x2816, .f32⟩
  | 21 => ⟨S16384x2816, .f32⟩
  | 22 => ⟨S_, .f32⟩
  | 23 => ⟨S16384x2816, .f32⟩
  | 24 => ⟨S16384x2816, .f32⟩
  | 25 => ⟨S_, .f32⟩
  | 26 => ⟨S16384x2816, .f32⟩
  | 27 => ⟨S16384x2816, .f32⟩
  | 28 => ⟨S16384x2816, .f32⟩
  | 29 => ⟨S16384x2816, .f32⟩
  | 30 => ⟨S16384x2816, .f32⟩
  | 31 => ⟨S16384x2816, .f32⟩
  | 32 => ⟨S16384x1024, .f32⟩
  | 33 => ⟨S_, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S16384x1024, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S16384x1024, .f32⟩
  | 58 => ⟨S16384x1024, .f32⟩
  | 59 => ⟨S_, .f32⟩
  | 60 => ⟨S16384x1, .f32⟩
  | 61 => ⟨S16384x1, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S_, .f32⟩
  | 76 => ⟨S16384x1024, .f32⟩
  | 77 => ⟨S16384x1024, .f32⟩
  | 78 => ⟨S_, .f32⟩
  | 79 => ⟨S16384, .f32⟩
  | 80 => ⟨S_, .f32⟩
  | 81 => ⟨S16384, .f32⟩
  | 82 => ⟨S16384, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S16384, .f32⟩
  | 91 => ⟨S_, .f32⟩
  | 92 => ⟨S16384, .f32⟩
  | 93 => ⟨S16384, .f32⟩
  | 94 => ⟨S16384x1024, .f32⟩
  | 95 => ⟨S16384x1024, .f32⟩
  | 96 => ⟨S_, .f32⟩
  | 97 => ⟨S1024, .f32⟩
  | 98 => ⟨S1x1024, .f32⟩
  | 99 => ⟨S16384x1024, .f32⟩
  | 100 => ⟨S_, .f32⟩
  | 101 => ⟨S1024, .f32⟩
  | 102 => ⟨S1x1024, .f32⟩
  | 103 => ⟨S16384x1024, .f32⟩
  | 104 => ⟨S16384x1024, .f32⟩
  | 105 => ⟨S16384x1024, .f32⟩
  | 106 => ⟨S_, .f32⟩
  | 107 => ⟨S16384, .f32⟩
  | 108 => ⟨S16384x1, .f32⟩
  | 109 => ⟨S16384x1024, .f32⟩
  | 110 => ⟨S16384x1024, .f32⟩
  | 111 => ⟨S16384x1, .f32⟩
  | 112 => ⟨S16384x1024, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S_, .f32⟩
  | 120 => ⟨S16384, .f32⟩
  | 121 => ⟨S16384x1024, .f32⟩
  | 122 => ⟨S16384x1024, .f32⟩
  | 123 => ⟨S16384x1024, .f32⟩
  | 124 => ⟨S_, .f32⟩
  | 125 => ⟨S16384, .f32⟩
  | 126 => ⟨S16384x1, .f32⟩
  | 127 => ⟨S16384x1024, .f32⟩
  | _ => ⟨S16384x1024, .f32⟩

abbrev hbmTy0_2 (i : Nat) : BufTy := match i % 128 with
  | 0 => ⟨S16384x1, .f32⟩
  | 1 => ⟨S_, .f32⟩
  | 2 => ⟨S16384x1, .f32⟩
  | 3 => ⟨S16384x1, .f32⟩
  | 4 => ⟨S_, .f32⟩
  | 5 => ⟨S16384, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S_, .f32⟩
  | 12 => ⟨S1024, .f32⟩
  | 13 => ⟨S1x1024, .f32⟩
  | 14 => ⟨S_, .f32⟩
  | 15 => ⟨S16384x1024, .f32⟩
  | 16 => ⟨S16384x1024, .f32⟩
  | 17 => ⟨S1024x2816, .f32⟩
  | 18 => ⟨S2816x1024, .f32⟩
  | 19 => ⟨S16384x2816, .f32⟩
  | 20 => ⟨S16384x2816, .f32⟩
  | 21 => ⟨S16384x2816, .f32⟩
  | 22 => ⟨S2816x1024, .f32⟩
  | 23 => ⟨S1024x2816, .f32⟩
  | 24 => ⟨S16384x1024, .f32⟩
  | 25 => ⟨S16384x2816, .f32⟩
  | 26 => ⟨S16384x2816, .f32⟩
  | 27 => ⟨S16384x2816, .f32⟩
  | 28 => ⟨S16384x2816, .f32⟩
  | 29 => ⟨S2816x1024, .f32⟩
  | 30 => ⟨S1024x2816, .f32⟩
  | 31 => ⟨S16384x1024, .f32⟩
  | 32 => ⟨S16384x1024, .f32⟩
  | 33 => ⟨S_, .f32⟩
  | 34 => ⟨S1024, .f32⟩
  | 35 => ⟨S1x1024, .f32⟩
  | 36 => ⟨S16384x1024, .f32⟩
  | 37 => ⟨S_, .f32⟩
  | 38 => ⟨S1024, .f32⟩
  | 39 => ⟨S1x1024, .f32⟩
  | 40 => ⟨S16384x1024, .f32⟩
  | 41 => ⟨S16384x1024, .f32⟩
  | 42 => ⟨S16384x1024, .f32⟩
  | 43 => ⟨S_, .f32⟩
  | 44 => ⟨S16384, .f32⟩
  | 45 => ⟨S16384x1, .f32⟩
  | 46 => ⟨S16384x1024, .f32⟩
  | 47 => ⟨S16384x1024, .f32⟩
  | 48 => ⟨S16384x1, .f32⟩
  | 49 => ⟨S16384x1024, .f32⟩
  | 50 => ⟨S_, .f32⟩
  | 51 => ⟨S16384, .f32⟩
  | 52 => ⟨S16384x1, .f32⟩
  | 53 => ⟨S16384x1024, .f32⟩
  | 54 => ⟨S_, .f32⟩
  | 55 => ⟨S16384x1, .f32⟩
  | 56 => ⟨S16384x1, .f32⟩
  | 57 => ⟨S_, .f32⟩
  | 58 => ⟨S16384, .f32⟩
  | 59 => ⟨S16384x1024, .f32⟩
  | 60 => ⟨S16384x1024, .f32⟩
  | 61 => ⟨S16384x1024, .f32⟩
  | 62 => ⟨S_, .f32⟩
  | 63 => ⟨S16384, .f32⟩
  | 64 => ⟨S16384x1, .f32⟩
  | 65 => ⟨S16384x1024, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384, .f32⟩
  | 72 => ⟨S16384x1024, .f32⟩
  | 73 => ⟨S16384x1024, .f32⟩
  | 74 => ⟨S_, .f32⟩
  | 75 => ⟨S1024, .f32⟩
  | 76 => ⟨S1x1024, .f32⟩
  | 77 => ⟨S16384x1024, .f32⟩
  | 78 => ⟨S_, .f32⟩
  | 79 => ⟨S1024, .f32⟩
  | 80 => ⟨S1x1024, .f32⟩
  | 81 => ⟨S16384x1024, .f32⟩
  | 82 => ⟨S16384x1024, .f32⟩
  | 83 => ⟨S16384x1024, .f32⟩
  | 84 => ⟨S_, .f32⟩
  | 85 => ⟨S16384, .f32⟩
  | 86 => ⟨S16384x1, .f32⟩
  | 87 => ⟨S16384x1024, .f32⟩
  | 88 => ⟨S16384x1024, .f32⟩
  | 89 => ⟨S16384x1, .f32⟩
  | 90 => ⟨S16384x1024, .f32⟩
  | 91 => ⟨S_, .f32⟩
  | 92 => ⟨S16384, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384, .f32⟩
  | 99 => ⟨S16384x1024, .f32⟩
  | 100 => ⟨S16384x1024, .f32⟩
  | 101 => ⟨S16384x1024, .f32⟩
  | 102 => ⟨S_, .f32⟩
  | 103 => ⟨S16384, .f32⟩
  | 104 => ⟨S16384x1, .f32⟩
  | 105 => ⟨S16384x1024, .f32⟩
  | 106 => ⟨S16384x1, .f32⟩
  | 107 => ⟨S_, .f32⟩
  | 108 => ⟨S16384x1, .f32⟩
  | 109 => ⟨S16384x1, .f32⟩
  | 110 => ⟨S_, .f32⟩
  | 111 => ⟨S16384, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S_, .f32⟩
  | 118 => ⟨S1024, .f32⟩
  | 119 => ⟨S1x1024, .f32⟩
  | 120 => ⟨S_, .f32⟩
  | 121 => ⟨S16384x1024, .f32⟩
  | 122 => ⟨S16384x1024, .f32⟩
  | 123 => ⟨S1024x1024, .f32⟩
  | 124 => ⟨S1024x1024, .f32⟩
  | 125 => ⟨S16384x1024, .f32⟩
  | 126 => ⟨S16384x1024, .f32⟩
  | 127 => ⟨S16384x1024, .f32⟩
  | _ => ⟨S16384x1024, .f32⟩

abbrev hbmTy0_3 (i : Nat) : BufTy := match i % 128 with
  | 0 => ⟨S1024x1024, .f32⟩
  | 1 => ⟨S1024x1024, .f32⟩
  | 2 => ⟨S16384x1024, .f32⟩
  | 3 => ⟨S16384x1024, .f32⟩
  | 4 => ⟨S16384x1024, .f32⟩
  | 5 => ⟨S1024x1280, .f32⟩
  | 6 => ⟨S1280x1024, .f32⟩
  | 7 => ⟨S16384x1280, .f32⟩
  | 8 => ⟨S16384x1024, .f32⟩
  | 9 => ⟨S_, .f32⟩
  | 10 => ⟨S1024, .f32⟩
  | 11 => ⟨S1x1024, .f32⟩
  | 12 => ⟨S_, .f32⟩
  | 13 => ⟨S1024, .f32⟩
  | 14 => ⟨S1x1024, .f32⟩
  | 15 => ⟨S_, .f32⟩
  | 16 => ⟨S2x1024, .f32⟩
  | 17 => ⟨S16384x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S1x1024, .f32⟩
  | 24 => ⟨S_, .f32⟩
  | 25 => ⟨S2x1024, .f32⟩
  | 26 => ⟨S2x1024, .f32⟩
  | 27 => ⟨S16384x2048, .f32⟩
  | 28 => ⟨S16384x2048, .bf16⟩
  | 29 => ⟨S4x1024, .f32⟩
  | 30 => ⟨S2x1024, .f32⟩
  | 31 => ⟨S2x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_15 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call0_v0 : Ref sig .tc := ⟨.hbm, 145, rfl⟩
abbrev main_call0_v1 : Ref sig .tc := ⟨.hbm, 146, rfl⟩
abbrev main_call0_cst : Ref sig .tc := ⟨.hbm, 147, rfl⟩
abbrev main_call0_v2 : Ref sig .tc := ⟨.hbm, 148, rfl⟩
abbrev main_call0_v3 : Ref sig .tc := ⟨.hbm, 149, rfl⟩
abbrev main_call0_cst_0 : Ref sig .tc := ⟨.hbm, 150, rfl⟩
abbrev main_call0_v4 : Ref sig .tc := ⟨.hbm, 151, rfl⟩
abbrev main_v106_2 : Ref sig .tc := ⟨.hbm, 152, rfl⟩
abbrev main_call0_cst_1 : Ref sig .tc := ⟨.hbm, 153, rfl⟩
abbrev main_call0_v6 : Ref sig .tc := ⟨.hbm, 154, rfl⟩
abbrev main_call0_v7 : Ref sig .tc := ⟨.hbm, 155, rfl⟩
abbrev main_v106_1 : Ref sig .tc := ⟨.hbm, 156, rfl⟩
abbrev main_v106_0 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_21 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_22 : Ref sig .tc := ⟨.hbm, 167, rfl⟩
abbrev main_v115 : Ref sig .tc := ⟨.hbm, 168, rfl⟩
abbrev main_v116 : Ref sig .tc := ⟨.hbm, 169, rfl⟩
abbrev main_cst_23 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_24 : Ref sig .tc := ⟨.hbm, 176, rfl⟩
abbrev main_v122 : Ref sig .tc := ⟨.hbm, 177, rfl⟩
abbrev main_v123 : Ref sig .tc := ⟨.hbm, 178, rfl⟩
abbrev main_cst_25 : Ref sig .tc := ⟨.hbm, 179, rfl⟩
abbrev main_v124 : Ref sig .tc := ⟨.hbm, 180, rfl⟩
abbrev main_v125 : Ref sig .tc := ⟨.hbm, 181, rfl⟩
abbrev main_cst_26 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_27 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_28 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_29 : Ref sig .tc := ⟨.hbm, 203, rfl⟩
abbrev main_v144 : Ref sig .tc := ⟨.hbm, 204, rfl⟩
abbrev main_v145 : Ref sig .tc := ⟨.hbm, 205, rfl⟩
abbrev main_cst_30 : Ref sig .tc := ⟨.hbm, 206, rfl⟩
abbrev main_v146 : Ref sig .tc := ⟨.hbm, 207, rfl⟩
abbrev main_cst_31 : Ref sig .tc := ⟨.hbm, 208, rfl⟩
abbrev main_v147 : Ref sig .tc := ⟨.hbm, 209, rfl⟩
abbrev main_v148 : Ref sig .tc := ⟨.hbm, 210, rfl⟩
abbrev main_cst_32 : Ref sig .tc := ⟨.hbm, 211, rfl⟩
abbrev main_v149 : Ref sig .tc := ⟨.hbm, 212, rfl⟩
abbrev main_cst_33 : Ref sig .tc := ⟨.hbm, 213, rfl⟩
abbrev main_v150 : Ref sig .tc := ⟨.hbm, 214, rfl⟩
abbrev main_cst_34 : Ref sig .tc := ⟨.hbm, 215, rfl⟩
abbrev main_cst_35 : Ref sig .tc := ⟨.hbm, 216, rfl⟩
abbrev main_v151 : Ref sig .tc := ⟨.hbm, 217, rfl⟩
abbrev main_v152 : Ref sig .tc := ⟨.hbm, 218, rfl⟩
abbrev main_cst_36 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_37 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_cst_38 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_cst_39 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_40 : Ref sig .tc := ⟨.hbm, 241, rfl⟩
abbrev main_v171 : Ref sig .tc := ⟨.hbm, 242, rfl⟩
abbrev main_v172 : Ref sig .tc := ⟨.hbm, 243, rfl⟩
abbrev main_cst_41 : Ref sig .tc := ⟨.hbm, 244, rfl⟩
abbrev main_v173 : Ref sig .tc := ⟨.hbm, 245, rfl⟩
abbrev main_v174 : Ref sig .tc := ⟨.hbm, 246, rfl⟩
abbrev main_cst_42 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_cst_43 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_cst_44 : Ref sig .tc := ⟨.hbm, 257, rfl⟩
abbrev main_v183 : Ref sig .tc := ⟨.hbm, 258, rfl⟩
abbrev main_v184 : Ref sig .tc := ⟨.hbm, 259, rfl⟩
abbrev main_cst_45 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_cst_46 : Ref sig .tc := ⟨.hbm, 267, rfl⟩
abbrev main_v191 : Ref sig .tc := ⟨.hbm, 268, rfl⟩
abbrev main_v192 : Ref sig .tc := ⟨.hbm, 269, rfl⟩
abbrev main_cst_47 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_call1_v0 : Ref sig .tc := ⟨.hbm, 281, rfl⟩
abbrev main_call1_v1 : Ref sig .tc := ⟨.hbm, 282, rfl⟩
abbrev main_call1_v2 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_cst_48 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_cst_49 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_cst_50 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_cst_51 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_cst_52 : Ref sig .tc := ⟨.hbm, 310, rfl⟩
abbrev main_v225 : Ref sig .tc := ⟨.hbm, 311, rfl⟩
abbrev main_v226 : Ref sig .tc := ⟨.hbm, 312, rfl⟩
abbrev main_cst_53 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_cst_54 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_cst_55 : Ref sig .tc := ⟨.hbm, 323, rfl⟩
abbrev main_v235 : Ref sig .tc := ⟨.hbm, 324, rfl⟩
abbrev main_v236 : Ref sig .tc := ⟨.hbm, 325, rfl⟩
abbrev main_cst_56 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_cst_57 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_cst_58 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_cst_59 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_cst_60 : Ref sig .tc := ⟨.hbm, 347, rfl⟩
abbrev main_v254 : Ref sig .tc := ⟨.hbm, 348, rfl⟩
abbrev main_v255 : Ref sig .tc := ⟨.hbm, 349, rfl⟩
abbrev main_cst_61 : Ref sig .tc := ⟨.hbm, 350, rfl⟩
abbrev main_v256 : Ref sig .tc := ⟨.hbm, 351, rfl⟩
abbrev main_v257 : Ref sig .tc := ⟨.hbm, 352, rfl⟩
abbrev main_cst_62 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_cst_63 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_cst_64 : Ref sig .tc := ⟨.hbm, 363, rfl⟩
abbrev main_v266 : Ref sig .tc := ⟨.hbm, 364, rfl⟩
abbrev main_v267 : Ref sig .tc := ⟨.hbm, 365, rfl⟩
abbrev main_cst_65 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_cst_66 : Ref sig .tc := ⟨.hbm, 373, rfl⟩
abbrev main_v274 : Ref sig .tc := ⟨.hbm, 374, rfl⟩
abbrev main_v275 : Ref sig .tc := ⟨.hbm, 375, rfl⟩
abbrev main_cst_67 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_cst_68 : Ref sig .tc := ⟨.hbm, 393, rfl⟩
abbrev main_v292 : Ref sig .tc := ⟨.hbm, 394, rfl⟩
abbrev main_v293 : Ref sig .tc := ⟨.hbm, 395, rfl⟩
abbrev main_cst_69 : Ref sig .tc := ⟨.hbm, 396, rfl⟩
abbrev main_v294 : Ref sig .tc := ⟨.hbm, 397, rfl⟩
abbrev main_v295 : Ref sig .tc := ⟨.hbm, 398, rfl⟩
abbrev main_cst_70 : Ref sig .tc := ⟨.hbm, 399, rfl⟩
abbrev main_v296 : Ref sig .tc := ⟨.hbm, 400, rfl⟩
abbrev main_v297 : Ref sig .tc := ⟨.hbm, 401, rfl⟩
abbrev main_cst_71 : Ref sig .tc := ⟨.hbm, 402, rfl⟩
abbrev main_v298 : Ref sig .tc := ⟨.hbm, 403, rfl⟩
abbrev main_v299 : Ref sig .tc := ⟨.hbm, 404, rfl⟩
abbrev main_cst_72 : Ref sig .tc := ⟨.hbm, 405, rfl⟩
abbrev main_v300 : Ref sig .tc := ⟨.hbm, 406, rfl⟩
abbrev main_v301 : Ref sig .tc := ⟨.hbm, 407, rfl⟩
abbrev main_cst_73 : Ref sig .tc := ⟨.hbm, 408, rfl⟩
abbrev main_v302 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_v308 : Ref sig .tc := ⟨.hbm, 415, rfl⟩

abbrev nD : Nat := 1
abbrev τ : Topo := Topo.v7x

variable {F : FTy → Type} [FloatOps F]
-- ==== Kernel2.lean ====
abbrev S16384x1024 : Shape := ⟨2, ![16384, 1024]⟩
abbrev S6x1024 : Shape := ⟨2, ![6, 1024]⟩
abbrev S1024x7680 : Shape := ⟨2, ![1024, 7680]⟩
abbrev S16384x2560 : Shape := ⟨2, ![16384, 2560]⟩
abbrev S16384x2048 : Shape := ⟨2, ![16384, 2048]⟩
abbrev S_ : Shape := ⟨0, ![]⟩
abbrev S2x1024 : Shape := ⟨2, ![2, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x2560 : Shape := ⟨2, ![1024, 2560]⟩
abbrev S1024x3072 : Shape := ⟨2, ![1024, 3072]⟩
abbrev S1024x2048 : Shape := ⟨2, ![1024, 2048]⟩
abbrev S1024x1280 : Shape := ⟨2, ![1024, 1280]⟩
abbrev S512x1280 : Shape := ⟨2, ![512, 1280]⟩
abbrev S16384x3072 : Shape := ⟨2, ![16384, 3072]⟩
abbrev S1024x1024 : Shape := ⟨2, ![1024, 1024]⟩
abbrev S2048x1024 : Shape := ⟨2, ![2048, 1024]⟩
abbrev S2048x1280 : Shape := ⟨2, ![2048, 1280]⟩
abbrev S512x2560 : Shape := ⟨2, ![512, 2560]⟩
abbrev S512x2048 : Shape := ⟨2, ![512, 2048]⟩
abbrev S512x512 : Shape := ⟨2, ![512, 512]⟩
abbrev S1024 : Shape := ⟨1, ![1024]⟩

abbrev nBuf : Space → Nat
  | .hbm => 35
  | .vmem => 82
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024x7680, .f32⟩
  | .hbm, ⟨3, _⟩ => ⟨S16384x2560, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x2048, .bf16⟩
  | .hbm, ⟨8, _⟩ => ⟨S16384x1024, .f32⟩
  | .hbm, ⟨9, _⟩ => ⟨S_, .f32⟩
  | .hbm, ⟨10, _⟩ => ⟨S2x1024, .f32⟩
  | .hbm, ⟨11, _⟩ => ⟨S8x1024, .f32⟩
  | .hbm, ⟨12, _⟩ => ⟨S1024x7680, .bf16⟩
  | .hbm, ⟨13, _⟩ => ⟨S16384x1024, .bf16⟩
  | .hbm, ⟨14, _⟩ => ⟨S1024x2560, .bf16⟩
  | .hbm, ⟨15, _⟩ => ⟨S1024x3072, .bf16⟩
  | .hbm, ⟨16, _⟩ => ⟨S1024x2048, .bf16⟩
  | .hbm, ⟨17, _⟩ => ⟨S16384x2560, .bf16⟩
  | .hbm, ⟨18, _⟩ => ⟨S16384x3072, .f32⟩
  | .hbm, ⟨19, _⟩ => ⟨S16384x2048, .bf16⟩
  | .hbm, ⟨20, _⟩ => ⟨S1024x2560, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x2048, .f32⟩
  | .hbm, ⟨25, _⟩ => ⟨S1024x7680, .f32⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S16384x1024, .f32⟩
  | .hbm, ⟨30, _⟩ => ⟨S16384x1024, .f32⟩
  | .hbm, ⟨31, _⟩ => ⟨S8x1024, .f32⟩
  | .hbm, ⟨32, _⟩ => ⟨S1x1024, .f32⟩
  | .hbm, ⟨33, _⟩ => ⟨S1x1024, .f32⟩
  | .hbm, ⟨34, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1280, .bf16⟩
  | .local _ .vmem, ⟨8, _⟩ => ⟨S1024x1280, .bf16⟩
  | .local _ .vmem, ⟨9, _⟩ => ⟨S512x1280, .bf16⟩
  | .local _ .vmem, ⟨10, _⟩ => ⟨S512x1280, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .bf16⟩
  | .local _ .vmem, ⟨22, _⟩ => ⟨S512x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1280, .bf16⟩
  | .local _ .vmem, ⟨26, _⟩ => ⟨S2048x1280, .bf16⟩
  | .local _ .vmem, ⟨27, _⟩ => ⟨S1024x1280, .f32⟩
  | .local _ .vmem, ⟨28, _⟩ => ⟨S1024x1280, .f32⟩
  | .local _ .vmem, ⟨29, _⟩ => ⟨S2048x1024, .bf16⟩
  | .local _ .vmem, ⟨30, _⟩ => ⟨S2048x1024, .bf16⟩
  | .local _ .vmem, ⟨31, _⟩ => ⟨S2048x1024, .bf16⟩
  | .local _ .vmem, ⟨32, _⟩ => ⟨S2048x1024, .bf16⟩
  | .local _ .vmem, ⟨33, _⟩ => ⟨S1024x1024, .f32⟩
  | .local _ .vmem, ⟨34, _⟩ => ⟨S2048x1024, .bf16⟩
  | .local _ .vmem, ⟨35, _⟩ => ⟨S2048x1024, .bf16⟩
  | .local _ .vmem, ⟨36, _⟩ => ⟨S2048x1024, .bf16⟩
  | .local _ .vmem, ⟨37, _⟩ => ⟨S2048x1024, .bf16⟩
  | .local _ .vmem, ⟨38, _⟩ => ⟨S1024x1024, .f32⟩
  | .local _ .vmem, ⟨39, _⟩ => ⟨S2048x1024, .bf16⟩
  | .local _ .vmem, ⟨40, _⟩ => ⟨S2048x1024, .bf16⟩
  | .local _ .vmem, ⟨41, _⟩ => ⟨S2048x1024, .bf16⟩
  | .local _ .vmem, ⟨42, _⟩ => ⟨S2048x1024, .bf16⟩
  | .local _ .vmem, ⟨43, _⟩ => ⟨S1024x1024, .f32⟩
  | .local _ .vmem, ⟨44, _⟩ => ⟨S2048x1024, .bf16⟩
  | .local _ .vmem, ⟨45, _⟩ => ⟨S2048x1024, .bf16⟩
  | .local _ .vmem, ⟨46, _⟩ => ⟨S2048x1024, .bf16⟩
  | .local _ .vmem, ⟨47, _⟩ => ⟨S2048x1024, .bf16⟩
  | .local _ .vmem, ⟨48, _⟩ => ⟨S1024x1024, .f32⟩
  | .local _ .vmem, ⟨49, _⟩ => ⟨S1024x1024, .f32⟩
  | .local _ .vmem, ⟨50, _⟩ => ⟨S512x2560, .bf16⟩
  | .local _ .vmem, ⟨51, _⟩ => ⟨S512x2560, .bf16⟩
  | .local _ .vmem, ⟨52, _⟩ => ⟨S512x2560, .bf16⟩
  | .local _ .vmem, ⟨53, _⟩ => ⟨S512x2560, .bf16⟩
  | .local _ .vmem, ⟨54, _⟩ => ⟨S512x1024, .bf16⟩
  | .local _ .vmem, ⟨55, _⟩ => ⟨S512x1024, .bf16⟩
  | .local _ .vmem, ⟨56, _⟩ => ⟨S512x1024, .bf16⟩
  | .local _ .vmem, ⟨57, _⟩ => ⟨S512x1024, .bf16⟩
  | .local _ .vmem, ⟨58, _⟩ => ⟨S512x1024, .bf16⟩
  | .local _ .vmem, ⟨59, _⟩ => ⟨S512x1024, .bf16⟩
  | .local _ .vmem, ⟨60, _⟩ => ⟨S512x1024, .bf16⟩
  | .local _ .vmem, ⟨61, _⟩ => ⟨S512x1024, .bf16⟩
  | .local _ .vmem, ⟨62, _⟩ => ⟨S512x1024, .bf16⟩
  | .local _ .vmem, ⟨63, _⟩ => ⟨S512x1024, .bf16⟩
  | .local _ .vmem, ⟨64, _⟩ => ⟨S512x1024, .bf16⟩
  | .local _ .vmem, ⟨65, _⟩ => ⟨S512x1024, .bf16⟩
  | .local _ .vmem, ⟨66, _⟩ => ⟨S512x2048, .bf16⟩
  | .local _ .vmem, ⟨67, _⟩ => ⟨S512x2048, .bf16⟩
  | .local _ .vmem, ⟨68, _⟩ => ⟨S512x2048, .bf16⟩
  | .local _ .vmem, ⟨69, _⟩ => ⟨S512x2048, .bf16⟩
  | .local _ .vmem, ⟨70, _⟩ => ⟨S512x512, .f32⟩
  | .local _ .vmem, ⟨71, _⟩ => ⟨S512x512, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S512x1024, .f32⟩
  | .local _ .vmem, ⟨76, _⟩ => ⟨S512x1024, .f32⟩
  | .local _ .vmem, ⟨77, _⟩ => ⟨S512x1024, .f32⟩
  | .local _ .vmem, ⟨78, _⟩ => ⟨S8x1024, .f32⟩
  | .local _ .vmem, ⟨79, _⟩ => ⟨S512x1024, .f32⟩
  | .local _ .vmem, ⟨80, _⟩ => ⟨S512x1024, .f32⟩
  | .local _ .vmem, ⟨81, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg1_1 : Ref sig .tc := ⟨.vmem, 53, rfl⟩
abbrev cc9_stg2_0 : Ref sig .tc := ⟨.vmem, 54, rfl⟩
abbrev cc9_stg2_1 : Ref sig .tc := ⟨.vmem, 55, rfl⟩
abbrev cc9_stg3_0 : Ref sig .tc := ⟨.vmem, 56, rfl⟩
abbrev cc9_stg3_1 : Ref sig .tc := ⟨.vmem, 57, rfl⟩
abbrev cc9_stg4_0 : Ref sig .tc := ⟨.vmem, 58, rfl⟩
abbrev cc9_stg4_1 : Ref sig .tc := ⟨.vmem, 59, rfl⟩
abbrev cc9_stg5_0 : Ref sig .tc := ⟨.vmem, 60, rfl⟩
abbrev cc9_stg5_1 : Ref sig .tc := ⟨.vmem, 61, rfl⟩
abbrev cc9_stg6_0 : Ref sig .tc := ⟨.vmem, 62, rfl⟩
abbrev cc9_stg6_1 : Ref sig .tc := ⟨.vmem, 63, rfl⟩
abbrev cc9_stg7_0 : Ref sig .tc := ⟨.vmem, 64, rfl⟩
abbrev cc9_stg7_1 : Ref sig .tc := ⟨.vmem, 65, rfl⟩
abbrev cc9_stg8_0 : Ref sig .tc := ⟨.vmem, 66, rfl⟩
abbrev cc9_stg8_1 : Ref sig .tc := ⟨.vmem, 67, rfl⟩
abbrev cc9_stg9_0 : Ref sig .tc := ⟨.vmem, 68, rfl⟩
abbrev cc9_stg9_1 : Ref sig .tc := ⟨.vmem, 69, rfl⟩
abbrev cc9_stg10_0 : Ref sig .tc := ⟨.vmem, 70, rfl⟩
abbrev cc9_stg10_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg1_1 : Ref sig .tc := ⟨.vmem, 75, rfl⟩
abbrev cc10_stg2_0 : Ref sig .tc := ⟨.vmem, 76, rfl⟩
abbrev cc10_stg2_1 : Ref sig .tc := ⟨.vmem, 77, rfl⟩
abbrev cc10_stg3_0 : Ref sig .tc := ⟨.vmem, 78, rfl⟩
abbrev cc10_stg4_0 : Ref sig .tc := ⟨.vmem, 79, rfl⟩
abbrev cc10_stg4_1 : Ref sig .tc := ⟨.vmem, 80, rfl⟩
abbrev cc10_stg5_0 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem1_1 : DmaSem sig := 53
abbrev cc9_sem2_0 : DmaSem sig := 54
abbrev cc9_sem2_1 : DmaSem sig := 55
abbrev cc9_sem3_0 : DmaSem sig := 56
abbrev cc9_sem3_1 : DmaSem sig := 57
abbrev cc9_sem4_0 : DmaSem sig := 58
abbrev cc9_sem4_1 : DmaSem sig := 59
abbrev cc9_sem5_0 : DmaSem sig := 60
abbrev cc9_sem5_1 : DmaSem sig := 61
abbrev cc9_sem6_0 : DmaSem sig := 62
abbrev cc9_sem6_1 : DmaSem sig := 63
abbrev cc9_sem7_0 : DmaSem sig := 64
abbrev cc9_sem7_1 : DmaSem sig := 65
abbrev cc9_sem8_0 : DmaSem sig := 66
abbrev cc9_sem8_1 : DmaSem sig := 67
abbrev cc9_sem9_0 : DmaSem sig := 68
abbrev cc9_sem9_1 : DmaSem sig := 69
abbrev cc9_sem10_0 : DmaSem sig := 70
abbrev cc9_sem10_1 : DmaSem sig := 71
abbrev cc10_sem0_0 : DmaSem sig := 72
abbrev cc10_sem0_1 : DmaSem sig := 73
abbrev cc10_sem1_0 : DmaSem sig := 74
abbrev cc10_sem1_1 : DmaSem sig := 75
abbrev cc10_sem2_0 : DmaSem sig := 76
abbrev cc10_sem2_1 : DmaSem sig := 77
abbrev cc10_sem3_0 : DmaSem sig := 78
abbrev cc10_sem4_0 : DmaSem sig := 79
abbrev cc10_sem4_1 : DmaSem sig := 80
abbrev cc10_sem5_0 : DmaSem sig := 81

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![3, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x1280 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1024x1280 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]

abbrev grid6 : Pipeline.Grid := ⟨2, ![1, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev grid7 : Pipeline.Grid := ⟨2, ![1, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S1024x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, false]

abbrev grid8 : Pipeline.Grid := ⟨2, ![2, 8], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S2048x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![2, 32], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_9 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_10 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S512x2560 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S512x2560 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S512x1024 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev stage9_4 : Fin 2 → Memref sig .tc .vmem S512x1024 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true]

abbrev stage9_5 : Fin 2 → Memref sig .tc .vmem S512x1024 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, false]

abbrev stage9_6 : Fin 2 → Memref sig .tc .vmem S512x1024 .bf16 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![false, true]

abbrev stage9_7 : Fin 2 → Memref sig .tc .vmem S512x1024 .bf16 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true, false]

abbrev stage9_8 : Fin 2 → Memref sig .tc .vmem S512x2048 .bf16 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![false, true]

abbrev stage9_9 : Fin 2 → Memref sig .tc .vmem S512x2048 .bf16 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true, false]

abbrev stage9_10 : Fin 2 → Memref sig .tc .vmem S512x512 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true, true]

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S512x1024 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S8x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S512x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S8x1024 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]
-- ==== Reference2Ideal.lean ====
abbrev S16384x1024 : Shape := ⟨2, ![16384, 1024]⟩
abbrev S6x1024 : Shape := ⟨2, ![6, 1024]⟩
abbrev S1024x7680 : Shape := ⟨2, ![1024, 7680]⟩
abbrev S16384x2560 : Shape := ⟨2, ![16384, 2560]⟩
abbrev S16384x2048 : Shape := ⟨2, ![16384, 2048]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x7680 : Shape := ⟨2, ![16384, 7680]⟩
abbrev S7680x1024 : Shape := ⟨2, ![7680, 1024]⟩
abbrev S1024 : Shape := ⟨1, ![1024]⟩
abbrev S16384x3072 : Shape := ⟨2, ![16384, 3072]⟩
abbrev S2x1024 : Shape := ⟨2, ![2, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024x7680, .f32⟩
  | .hbm, ⟨3, _⟩ => ⟨S16384x2560, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x2048, .bf16⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x7680, .f32⟩
  | .hbm, ⟨49, _⟩ => ⟨S16384x2560, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x2048, .f32⟩
  | .hbm, ⟨54, _⟩ => ⟨S16384x7680, .f32⟩
  | .hbm, ⟨55, _⟩ => ⟨S7680x1024, .f32⟩
  | .hbm, ⟨56, _⟩ => ⟨S1024x7680, .f32⟩
  | .hbm, ⟨57, _⟩ => ⟨S16384x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1024, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S16384x1024, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x2560, .f32⟩
  | .hbm, ⟨100, _⟩ => ⟨S16384x2560, .bf16⟩
  | .hbm, ⟨101, _⟩ => ⟨S16384x3072, .f32⟩
  | .hbm, ⟨102, _⟩ => ⟨S16384x2048, .f32⟩
  | .hbm, ⟨103, _⟩ => ⟨S16384x2048, .bf16⟩
  | .hbm, ⟨104, _⟩ => ⟨S2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Proof.Shared.Real.lean ====
/-
  The gate gradient as real numbers (untrusted): the sigmoid through the hyperbolic tangent is the quotient
  `1 / (1 + exp (-x))`, and at finite arguments the kernel's formulas are the chain rule's.
-/
module

public import Idealize.ShloMosaic.Lib.IdealHost

@[expose] public section

noncomputable section

open Idealize.ShloMosaic

namespace Cert.Proof.Real

/-- `1 / (1 + exp (-x))` is half of `tanh (x / 2)` and a half. -/
theorem sigmoid_eq (x : ℝ) : 1 / 2 * Real.tanh (1 / 2 * x) + 1 / 2 = 1 / (1 + Real.exp (-x)) := by
  rw [Real.tanh_eq_sinh_div_cosh, Real.sinh_eq, Real.cosh_eq]
  have e1 : 0 < Real.exp (1 / 2 * x) := Real.exp_pos _
  have e3 : Real.exp (-(1 / 2 * x)) = (Real.exp (1 / 2 * x))⁻¹ := Real.exp_neg _
  have e4 : Real.exp (-x) = (Real.exp (1 / 2 * x))⁻¹ * (Real.exp (1 / 2 * x))⁻¹ := by
    rw [← Real.exp_neg, ← Real.exp_add]; congr 1; ring
  rw [e3, e4]
  generalize Real.exp (1 / 2 * x) = e at *
  have h1 : e * e + 1 ≠ 0 := by positivity
  field_simp
  ring

/-- The f32 pattern `0x3F000000` is one half. -/
theorem ofBits_half : Ideal.ofBits .f32 0x3F000000#32 = ((1 / 2 : ℝ) : EReal) := by
  simp [Ideal.ofBits, Ideal.ieee, -EReal.coe_mul]; norm_num

/-- An extended real whose absolute value is below infinity is a real number. -/
theorem finite_of_abs_lt {x : EReal} (h : max x (-x) < ⊤) : ∃ r : ℝ, x = r := by
  induction x with
  | bot => simp at h
  | top => simp at h
  | coe r => exact ⟨r, rfl⟩

/-- A finite sum of real numbers is the real number of the sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real numbers is a real number. -/
theorem sum_mul_real {n : ℕ} {f g : Fin n → EReal} (hf : ∀ k, ∃ r : ℝ, f k = r) (hg : ∀ k, ∃ r : ℝ, g k = r) :
    ∃ r : ℝ, ∑ k, f k * g k = r := by
  choose a ha using hf
  choose b hb using hg
  exact ⟨∑ k, a k * b k, by simp only [ha, hb, coe_sum, EReal.coe_mul]⟩

end Cert.Proof.Real

end
-- ==== Proof.Shared.Finite.lean ====
/-
  What a precondition's `all (abs x < inf)` says of an array on the extended reals (untrusted): every element is a real
  number.
-/
module

public import proofs.«01_k».proof.Proof.Shared.Real
public import Idealize.ShloMosaic.Lib.ReduceAll

@[expose] public section

noncomputable section

open Idealize.ShloMosaic

namespace Cert.Proof.Real

/-- The f32 pattern of infinity. -/
theorem ofBits_inf : Ideal.ofBits .f32 0x7F800000#32 = ⊤ := by
  simp [Ideal.ofBits, Ideal.ieee]

/-- An ordered comparison that came out true. -/
theorem lt_of_cmp_olt {x y : EReal} (h : Ideal.cmp .olt x y = 1#1) : x < y := by
  by_contra hn
  simp [Ideal.cmp, hn] at h

/-- An `and` of two bits that is one. -/
theorem andi_one {a b : IVec ⟨0, ![]⟩ 1} {j} (h : andi a b j = 1#1) : a j = 1#1 ∧ b j = 1#1 := by
  simp only [andi] at h
  revert h
  generalize a j = p; generalize b j = q
  revert p q; decide

/-- An f32 array all of whose elements have an absolute value below infinity holds real numbers. -/
theorem finite_f32 {s t : Shape} {axes : List (Fin s.rank)} [Subsingleton t.Idx] {u : Shape} (x : FVec Ideal s .f32)
    (hb : (⟨0, ![]⟩ : Shape).BroadcastsInDim s ![]) (init : u.Idx → BitVec 1)
    (h : s.ReducesTo axes t) (hu : 0 < u.numel) (j : t.Idx)
    (e : Host.reduce IntOp.andi (cmpf .olt (Host.absf x)
      (broadcastInDim s ![] hb (constant (F := Ideal) ⟨0, ![]⟩ .f32 0x7F800000#32))) init h hu j = 1#1)
    (i : s.Idx) : ∃ r : ℝ, x i = r := by
  have e1 := Host.reduce_andi_all _ _ _ _ j e i
  refine finite_of_abs_lt ?_
  have e2 := lt_of_cmp_olt e1
  rw [ValueIdx.broadcastInDim_scalar_apply] at e2
  refine lt_of_lt_of_eq e2 ofBits_inf

/-- A bf16 array widened to f32 likewise. -/
theorem finite_bf16 {s t : Shape} {axes : List (Fin s.rank)} [Subsingleton t.Idx] {u : Shape} (x : FVec Ideal s .bf16)
    (hw : FTy.bits .bf16 < FTy.bits .f32)
    (hb : (⟨0, ![]⟩ : Shape).BroadcastsInDim s ![]) (init : u.Idx → BitVec 1)
    (h : s.ReducesTo axes t) (hu : 0 < u.numel) (j : t.Idx)
    (e : Host.reduce IntOp.andi (cmpf .olt (Host.absf (extf .f32 x hw))
      (broadcastInDim s ![] hb (constant (F := Ideal) ⟨0, ![]⟩ .f32 0x7F800000#32))) init h hu j = 1#1)
    (i : s.Idx) : ∃ r : ℝ, x i = r :=
  finite_f32 (extf .f32 x hw) hb init h hu j e i

end Cert.Proof.Real

end
-- ==== Proof.Tail.Isr.lean ====
/-
  Vectors whose every element is a real number, operation by operation (untrusted): `IsR x f` says that the extended real
  vector `x` is the real vector `f`, and one lemma per operation carries it across.
-/
module

public import Idealize.ShloMosaic.Lib.IdealHost
public import Idealize.ShloMosaic.Lib.Pointwise
public import Idealize.ShloMosaic.Lib.Pointwise.IndexVar
public import Idealize.ShloMosaic.Lib.Pipeline.ValueKit
public import proofs.«01_k».proof.Proof.Shared.Real

@[expose] public section

set_option maxRecDepth 16384

noncomputable section

open Idealize.ShloMosaic

namespace Cert.Tail

/-- Every element of `x` is the real number `f` gives. -/
def IsR {s : Shape} {φ : FTy} (x : FVec Ideal s φ) (f : s.Idx → ℝ) : Prop := ∀ i, (x i : EReal) = (f i : EReal)

theorem IsR.congr {s : Shape} {φ : FTy} {x : FVec Ideal s φ} {f g : s.Idx → ℝ} (h : IsR x f) (e : ∀ i, f i = g i) : IsR x g :=
  fun i => (h i).trans (congrArg _ (e i))

section ops
variable {s : Shape} {φ : FTy} {x y : FVec Ideal s φ} {f g : s.Idx → ℝ}

theorem isr_add (hx : IsR x f) (hy : IsR y g) : IsR (addf x y) (fun i => f i + g i) := fun i => by
  show (x i : EReal) + y i = _
  rw [hx, hy, EReal.coe_add]
theorem isr_sub (hx : IsR x f) (hy : IsR y g) : IsR (subf x y) (fun i => f i - g i) := fun i => by
  show (x i : EReal) - y i = _
  rw [hx, hy, EReal.coe_sub]
theorem isr_mul (hx : IsR x f) (hy : IsR y g) : IsR (mulf x y) (fun i => f i * g i) := fun i => by
  show (x i : EReal) * y i = _
  rw [hx, hy, EReal.coe_mul]
theorem isr_div (hx : IsR x f) (hy : IsR y g) (hg : ∀ i, g i ≠ 0) : IsR (divf x y) (fun i => f i / g i) := fun i => by
  show Ideal.div (x i) (y i) = _
  rw [hx, hy, Ideal.div_coe (hg i), ← EReal.coe_mul]
  congr 1; ring
theorem isr_hdiv (hx : IsR x f) (hy : IsR y g) (hg : ∀ i, g i ≠ 0) : IsR (Host.divf x y) (fun i => f i / g i) := fun i => by
  show Ideal.div (x i) (y i) = _
  rw [hx, hy, Ideal.div_coe (hg i), ← EReal.coe_mul]
  congr 1; ring
theorem isr_neg (hx : IsR x f) : IsR (Host.negf x) (fun i => -f i) := fun i => by
  show -(x i : EReal) = _
  rw [hx, EReal.coe_neg]
theorem isr_exp (hx : IsR x f) : IsR (Host.exp x) (fun i => Real.exp (f i)) := fun i => by
  show Ideal.exp (x i) = _
  rw [hx, Ideal.exp_coe]
theorem isr_tanh (hx : IsR x f) : IsR (tanh x) (fun i => Real.tanh (f i)) := fun i => by
  show Ideal.tanh (x i) = _
  rw [hx, Ideal.tanh_coe]
theorem isr_rsqrt (hx : IsR x f) (hf : ∀ i, 0 < f i) : IsR (rsqrt x) (fun i => (Real.sqrt (f i))⁻¹) := fun i => by
  show Ideal.rsqrt (x i) = _
  rw [hx, Ideal.rsqrt_coe, if_neg (not_lt.mpr (hf i).le), if_neg (hf i).ne']
theorem isr_hrsqrt (hx : IsR x f) (hf : ∀ i, 0 < f i) : IsR (Host.rsqrt x) (fun i => (Real.sqrt (f i))⁻¹) := fun i => by
  show Ideal.rsqrt (x i) = _
  rw [hx, Ideal.rsqrt_coe, if_neg (not_lt.mpr (hf i).le), if_neg (hf i).ne']
theorem isr_trunc {ψ : FTy} (h : ψ.bits < φ.bits) (hx : IsR x f) : IsR (truncf ψ x h) f := fun i => by
  show (x i : EReal) = _
  rw [hx]
theorem isr_ext {ψ : FTy} (h : φ.bits < ψ.bits) (hx : IsR x f) : IsR (extf ψ x h) f := fun i => by
  show (x i : EReal) = _
  rw [hx]
end ops

theorem isr_bc {s : Shape} {b : BitVec 32} {r : ℝ} (h : Ideal.ofBits .f32 b = (r : EReal)) :
    IsR (φ := .f32) (broadcast s (Scalar.ofBits (F := Ideal) .f32 b)) (fun _ => r) := fun _ => h
theorem isr_const {s : Shape} {b : BitVec 32} {r : ℝ} (h : Ideal.ofBits .f32 b = (r : EReal)) :
    IsR (constant (F := Ideal) s .f32 b) (fun _ => r) := fun _ => h

/-! ## Layouts -/

section layout
variable {a b n : ℕ} {φ : FTy}

/-- An index below a size that is one is zero. -/
theorem ite_idx {n : ℕ} (k : Fin n) (h0 : n = 1 → 0 < n) : (if h : n = 1 then (⟨0, h0 h⟩ : Fin n) else k) = k := by
  split
  · exact Fin.ext (by have := k.isLt; simp only; omega)
  · rfl

theorem isr_row {x : FVec Ideal ⟨2, ![1, b]⟩ φ} {f : Shape.Idx ⟨2, ![1, b]⟩ → ℝ} (hx : IsR x f)
    (h : Shape.Broadcasts ⟨2, ![1, b]⟩ ⟨2, ![a, b]⟩) :
    IsR (φ := φ) (broadcastTo ⟨2, ![a, b]⟩ x h) (fun i => f (ix2 0 (i 1))) := fun i => by
  pointwise []
  exact (congrArg (fun k => x (ix2 0 k)) (ite_idx _ _)).trans (hx _)
theorem isr_col {x : FVec Ideal ⟨2, ![a, 1]⟩ φ} {f : Shape.Idx ⟨2, ![a, 1]⟩ → ℝ} (hx : IsR x f)
    (h : Shape.Broadcasts ⟨2, ![a, 1]⟩ ⟨2, ![a, b]⟩) :
    IsR (φ := φ) (broadcastTo ⟨2, ![a, b]⟩ x h) (fun i => f (ix2 (i 0) 0)) := fun i => by
  pointwise []
  exact (congrArg (fun k => x (ix2 k 0)) (ite_idx _ _)).trans (hx _)
theorem isr_cast {s : Shape} {x : FVec Ideal s φ} {f : s.Idx → ℝ} (hx : IsR x f)
    (h : Shape.ShapeCasts s s) : IsR (φ := φ) (shapeCast s x h) f := fun i => by
  pointwise []
  exact hx _
theorem isr_cast_col256 {x : FVec Ideal ⟨1, ![256]⟩ φ} {f : Shape.Idx ⟨1, ![256]⟩ → ℝ} (hx : IsR x f)
    (h : Shape.ShapeCasts ⟨1, ![256]⟩ ⟨2, ![256, 1]⟩) :
    IsR (φ := φ) (shapeCast ⟨2, ![256, 1]⟩ x h) (fun i => f (ix1 (i 0))) := fun i => by
  pointwise []
  exact hx _
theorem isr_cast_col16384 {x : FVec Ideal ⟨1, ![16384]⟩ φ} {f : Shape.Idx ⟨1, ![16384]⟩ → ℝ} (hx : IsR x f)
    (h : Shape.ShapeCasts ⟨1, ![16384]⟩ ⟨2, ![16384, 1]⟩) :
    IsR (φ := φ) (shapeCast ⟨2, ![16384, 1]⟩ x h) (fun i => f (ix1 (i 0))) := fun i => by
  pointwise []
  exact hx _
theorem isr_cast_row {x : FVec Ideal ⟨1, ![1024]⟩ φ} {f : Shape.Idx ⟨1, ![1024]⟩ → ℝ} (hx : IsR x f)
    (h : Shape.ShapeCasts ⟨1, ![1024]⟩ ⟨2, ![1, 1024]⟩) :
    IsR (φ := φ) (shapeCast ⟨2, ![1, 1024]⟩ x h) (fun i => f (ix1 (i 1))) := fun i => by
  pointwise []
  exact hx _
theorem isr_uncast_row {x : FVec Ideal ⟨2, ![1, 1024]⟩ φ} {f : Shape.Idx ⟨2, ![1, 1024]⟩ → ℝ} (hx : IsR x f)
    (h : Shape.ShapeCasts ⟨2, ![1, 1024]⟩ ⟨1, ![1024]⟩) :
    IsR (φ := φ) (shapeCast ⟨1, ![1024]⟩ x h) (fun i => f (ix2 0 (i 0))) := fun i => by
  pointwise []
  exact hx _
/-! ### The host's broadcasts -/
theorem isr_bid0 {s : Shape} {x : FVec Ideal ⟨0, ![]⟩ φ} {f : Shape.Idx ⟨0, ![]⟩ → ℝ} (hx : IsR x f)
    (dims : Fin 0 → Fin s.rank) (h : Shape.BroadcastsInDim ⟨0, ![]⟩ s dims) :
    IsR (φ := φ) (broadcastInDim s dims h x) (fun _ => f ix0) := fun i => by
  have e : ∀ j k : Shape.Idx ⟨0, ![]⟩, j = k := fun j k => funext fun a => a.elim0
  exact (hx _).trans (congrArg (fun j => ((f j : ℝ) : EReal)) (e _ _))
theorem isr_bid_row {x : FVec Ideal ⟨2, ![1, b]⟩ φ} {f : Shape.Idx ⟨2, ![1, b]⟩ → ℝ} (hx : IsR x f)
    (h : Shape.BroadcastsInDim ⟨2, ![1, b]⟩ ⟨2, ![a, b]⟩ ![0, 1]) :
    IsR (φ := φ) (broadcastInDim ⟨2, ![a, b]⟩ ![0, 1] h x) (fun i => f (ix2 0 (i 1))) := fun i => by
  pointwise []
  exact (congrArg (fun k => x (ix2 0 k)) (ite_idx _ _)).trans (hx _)
theorem isr_bid_col {x : FVec Ideal ⟨2, ![a, 1]⟩ φ} {f : Shape.Idx ⟨2, ![a, 1]⟩ → ℝ} (hx : IsR x f)
    (h : Shape.BroadcastsInDim ⟨2, ![a, 1]⟩ ⟨2, ![a, b]⟩ ![0, 1]) :
    IsR (φ := φ) (broadcastInDim ⟨2, ![a, b]⟩ ![0, 1] h x) (fun i => f (ix2 (i 0) 0)) := fun i => by
  pointwise []
  exact (congrArg (fun k => x (ix2 k 0)) (ite_idx _ _)).trans (hx _)
theorem isr_bid_d0 {x : FVec Ideal ⟨1, ![a]⟩ φ} {f : Shape.Idx ⟨1, ![a]⟩ → ℝ} (hx : IsR x f)
    (h : Shape.BroadcastsInDim ⟨1, ![a]⟩ ⟨2, ![a, b]⟩ ![0]) :
    IsR (φ := φ) (broadcastInDim ⟨2, ![a, b]⟩ ![0] h x) (fun i => f (ix1 (i 0))) := fun i => by
  pointwise []
  exact (congrArg (fun k => x (ix1 k)) (ite_idx _ _)).trans (hx _)
theorem isr_bid_d1 {x : FVec Ideal ⟨1, ![b]⟩ φ} {f : Shape.Idx ⟨1, ![b]⟩ → ℝ} (hx : IsR x f)
    (h : Shape.BroadcastsInDim ⟨1, ![b]⟩ ⟨2, ![1, b]⟩ ![1]) :
    IsR (φ := φ) (broadcastInDim ⟨2, ![1, b]⟩ ![1] h x) (fun i => f (ix1 (i 1))) := fun i => by
  pointwise []
  exact (congrArg (fun k => x (ix1 k)) (ite_idx _ _)).trans (hx _)
theorem isr_transpose {x : FVec Ideal ⟨2, ![a, b]⟩ φ} {f : Shape.Idx ⟨2, ![a, b]⟩ → ℝ} (hx : IsR x f)
    (h : Shape.Transposes ⟨2, ![a, b]⟩ [1, 0] ⟨2, ![b, a]⟩) :
    IsR (φ := φ) (transpose ⟨2, ![b, a]⟩ [1, 0] x h) (fun i => f (ix2 (i 1) (i 0))) := fun i => by
  pointwise []
  exact hx _

/-! ## Sums -/

theorem isr_red1 {x : FVec Ideal ⟨2, ![a, b]⟩ .f32} {f : Shape.Idx ⟨2, ![a, b]⟩ → ℝ} (hx : IsR x f)
    (h : Shape.Reduces ⟨2, ![a, b]⟩ [1] ⟨1, ![a]⟩) (h1) (h2) :
    IsR (φ := .f32) (multiReduction .add [1] ⟨1, ![a]⟩ x 0x00000000#32 h h1 h2) (fun i => ∑ k : Fin b, f (ix2 (i 0) k)) := fun i => by
  pointwise []
  rw [Cert.Proof.Real.coe_sum]
  exact Finset.sum_congr rfl fun k _ => hx _
theorem isr_red0 {x : FVec Ideal ⟨2, ![a, b]⟩ .f32} {f : Shape.Idx ⟨2, ![a, b]⟩ → ℝ} (hx : IsR x f)
    (h : Shape.Reduces ⟨2, ![a, b]⟩ [0] ⟨1, ![b]⟩) (h1) (h2) :
    IsR (φ := .f32) (multiReduction .add [0] ⟨1, ![b]⟩ x 0x00000000#32 h h1 h2) (fun i => ∑ k : Fin a, f (ix2 k (i 0))) := fun i => by
  pointwise []
  rw [Cert.Proof.Real.coe_sum]
  exact Finset.sum_congr rfl fun k _ => hx _
theorem isr_hred1 {x : FVec Ideal ⟨2, ![a, b]⟩ .f32} {f : Shape.Idx ⟨2, ![a, b]⟩ → ℝ} (hx : IsR x f)
    {z : FVec Ideal ⟨0, ![]⟩ .f32} (hz : IsR z fun _ => 0)
    (h : Shape.ReducesTo ⟨2, ![a, b]⟩ [1] ⟨1, ![a]⟩) (h1) :
    IsR (φ := .f32) (Host.reduceAdd x z h h1) (fun i => ∑ k : Fin b, f (ix2 (i 0) k)) := fun i => by
  pointwise []
  rw [hz, EReal.coe_zero, zero_add, Cert.Proof.Real.coe_sum]
  exact Finset.sum_congr rfl fun k _ => hx _
theorem isr_hred0 {x : FVec Ideal ⟨2, ![a, b]⟩ .f32} {f : Shape.Idx ⟨2, ![a, b]⟩ → ℝ} (hx : IsR x f)
    {z : FVec Ideal ⟨0, ![]⟩ .f32} (hz : IsR z fun _ => 0)
    (h : Shape.ReducesTo ⟨2, ![a, b]⟩ [0] ⟨1, ![b]⟩) (h1) :
    IsR (φ := .f32) (Host.reduceAdd x z h h1) (fun i => ∑ k : Fin a, f (ix2 k (i 0))) := fun i => by
  pointwise []
  rw [hz, EReal.coe_zero, zero_add, Cert.Proof.Real.coe_sum]
  exact Finset.sum_congr rfl fun k _ => hx _
end layout

/-! ## The literals -/

theorem lit_zero : Ideal.ofBits .f32 0x00000000#32 = ((0 : ℝ) : EReal) := by
  simp [Ideal.ofBits, Ideal.ieee, -EReal.coe_mul]
theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_nhalf : Ideal.ofBits .f32 0xBF000000#32 = ((-(1 / 2) : ℝ) : EReal) := by
  simp [Ideal.ofBits, Ideal.ieee, -EReal.coe_mul]; norm_num
theorem lit_lanes : Ideal.ofBits .f32 0x44800000#32 = ((1024 : ℝ) : EReal) := by
  simp [Ideal.ofBits, Ideal.ieee, -EReal.coe_mul]; norm_num
theorem lit_invD : Ideal.ofBits .f32 0x3A800000#32 = ((1 / 1024 : ℝ) : EReal) := by
  simp [Ideal.ofBits, Ideal.ieee, -EReal.coe_mul]; norm_num
theorem lit_halfD : Ideal.ofBits .f32 0x3A000000#32 = ((1 / 2048 : ℝ) : EReal) := by
  simp [Ideal.ofBits, Ideal.ieee, -EReal.coe_mul]; norm_num
/-- The normalisation's epsilon, the binary32 number nearest 1e-5. -/
def epsR : ℝ := 10995116 / 2 ^ 40
theorem epsR_pos : 0 < epsR := by unfold epsR; positivity
theorem lit_eps : Ideal.ofBits .f32 0x3727C5AC#32 = ((epsR : ℝ) : EReal) := by
  unfold epsR; simp [Ideal.ofBits, Ideal.ieee, -EReal.coe_mul]; norm_num
/-- The residual weight, the binary32 number nearest the fourth root of two. -/
def alphaR : ℝ := 9975792 / 2 ^ 23
theorem lit_alpha : Ideal.ofBits .f32 0x3F9837F0#32 = ((alphaR : ℝ) : EReal) := by
  unfold alphaR; simp [Ideal.ofBits, Ideal.ieee, -EReal.coe_mul]; norm_num

end Cert.Tail

end
-- ==== Proof.Tail.DotsR.lean ====
/-
  The matrix products of the reference on vectors of real numbers (untrusted): each is the sum of products of the real entries.
-/
module

public import proofs.«01_k».proof.Proof.Gen.ReferenceIdeal
public import proofs.«01_k».proof.Proof.Tail.Isr

@[expose] public section

set_option maxRecDepth 16384

noncomputable section

open Idealize.ShloMosaic

namespace Cert.Tail

open Cert.ReferenceIdeal Cert.ReferenceIdeal.Gen

theorem ish_S16384x1024_S1024x1024_S16384x1024_1_0_0_1_n_n {φ ψ : FTy} {x : FVec Ideal S16384x1024 φ} {y : FVec Ideal S1024x1024 ψ} {f : S16384x1024.Idx → ℝ} {g : S1024x1024.Idx → ℝ}
    (hx : IsR x f) (hy : IsR y g) : IsR (φ := .f32) (Host.dotGeneral dot_S16384x1024_S1024x1024_S16384x1024_1_0_0_1_n_n none x y)
      (fun i => ∑ k : Fin 1024, f (ix2 (i 0) k) * g (ix2 k (i 1))) := fun i => by
  pointwise []
  rw [Cert.Proof.Real.coe_sum]
  exact Finset.sum_congr rfl fun k _ => by rw [hx, hy, EReal.coe_mul]
theorem ish_S16384x1024_S1024x1024_S16384x1024_1_1_0_0_n_n {φ ψ : FTy} {x : FVec Ideal S16384x1024 φ} {y : FVec Ideal S1024x1024 ψ} {f : S16384x1024.Idx → ℝ} {g : S1024x1024.Idx → ℝ}
    (hx : IsR x f) (hy : IsR y g) : IsR (φ := .f32) (Host.dotGeneral dot_S16384x1024_S1024x1024_S16384x1024_1_1_0_0_n_n none x y)
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]
theorem ish_S16384x1024_S1024x2816_S16384x2816_1_0_0_1_n_n {φ ψ : FTy} {x : FVec Ideal S16384x1024 φ} {y : FVec Ideal S1024x2816 ψ} {f : S16384x1024.Idx → ℝ} {g : S1024x2816.Idx → ℝ}
    (hx : IsR x f) (hy : IsR y g) : IsR (φ := .f32) (Host.dotGeneral dot_S16384x1024_S1024x2816_S16384x2816_1_0_0_1_n_n none x y)
      (fun i => ∑ k : Fin 1024, f (ix2 (i 0) k) * g (ix2 k (i 1))) := fun i => by
  pointwise []
  rw [Cert.Proof.Real.coe_sum]
  exact Finset.sum_congr rfl fun k _ => by rw [hx, hy, EReal.coe_mul]
theorem ish_S16384x1024_S1280x1024_S16384x1280_1_1_0_0_n_n {φ ψ : FTy} {x : FVec Ideal S16384x1024 φ} {y : FVec Ideal S1280x1024 ψ} {f : S16384x1024.Idx → ℝ} {g : S1280x1024.Idx → ℝ}
    (hx : IsR x f) (hy : IsR y g) : IsR (φ := .f32) (Host.dotGeneral dot_S16384x1024_S1280x1024_S16384x1280_1_1_0_0_n_n none x y)
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]
theorem ish_S16384x1024_S16384x1024_S1024x1024_0_0_1_1_n_n {φ ψ : FTy} {x : FVec Ideal S16384x1024 φ} {y : FVec Ideal S16384x1024 ψ} {f : S16384x1024.Idx → ℝ} {g : S16384x1024.Idx → ℝ}
    (hx : IsR x f) (hy : IsR y g) : IsR (φ := .f32) (Host.dotGeneral dot_S16384x1024_S16384x1024_S1024x1024_0_0_1_1_n_n none x y)
      (fun i => ∑ k : Fin 16384, f (ix2 k (i 0)) * g (ix2 k (i 1))) := fun i => by
  pointwise []
  rw [Cert.Proof.Real.coe_sum]
  exact Finset.sum_congr rfl fun k _ => by rw [hx, hy, EReal.coe_mul]
theorem ish_S16384x1024_S16384x1280_S1024x1280_0_0_1_1_n_n {φ ψ : FTy} {x : FVec Ideal S16384x1024 φ} {y : FVec Ideal S16384x1280 ψ} {f : S16384x1024.Idx → ℝ} {g : S16384x1280.Idx → ℝ}
    (hx : IsR x f) (hy : IsR y g) : IsR (φ := .f32) (Host.dotGeneral dot_S16384x1024_S16384x1280_S1024x1280_0_0_1_1_n_n none x y)
      (fun i => ∑ k : Fin 16384, f (ix2 k (i 0)) * g (ix2 k (i 1))) := fun i => by
  pointwise []
  rw [Cert.Proof.Real.coe_sum]
  exact Finset.sum_congr rfl fun k _ => by rw [hx, hy, EReal.coe_mul]
theorem ish_S16384x1024_S16384x2816_S1024x2816_0_0_1_1_n_n {φ ψ : FTy} {x : FVec Ideal S16384x1024 φ} {y : FVec Ideal S16384x2816 ψ} {f : S16384x1024.Idx → ℝ} {g : S16384x2816.Idx → ℝ}
    (hx : IsR x f) (hy : IsR y g) : IsR (φ := .f32) (Host.dotGeneral dot_S16384x1024_S16384x2816_S1024x2816_0_0_1_1_n_n none x y)
      (fun i => ∑ k : Fin 16384, f (ix2 k (i 0)) * g (ix2 k (i 1))) := fun i => by
  pointwise []
  rw [Cert.Proof.Real.coe_sum]
  exact Finset.sum_congr rfl fun k _ => by rw [hx, hy, EReal.coe_mul]
theorem ish_S16384x1024_S2816x1024_S16384x2816_1_1_0_0_n_n {φ ψ : FTy} {x : FVec Ideal S16384x1024 φ} {y : FVec Ideal S2816x1024 ψ} {f : S16384x1024.Idx → ℝ} {g : S2816x1024.Idx → ℝ}
    (hx : IsR x f) (hy : IsR y g) : IsR (φ := .f32) (Host.dotGeneral dot_S16384x1024_S2816x1024_S16384x2816_1_1_0_0_n_n none x y)
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]
theorem ish_S16384x1280_S1280x1024_S16384x1024_1_0_0_1_n_n {φ ψ : FTy} {x : FVec Ideal S16384x1280 φ} {y : FVec Ideal S1280x1024 ψ} {f : S16384x1280.Idx → ℝ} {g : S1280x1024.Idx → ℝ}
    (hx : IsR x f) (hy : IsR y g) : IsR (φ := .f32) (Host.dotGeneral dot_S16384x1280_S1280x1024_S16384x1024_1_0_0_1_n_n none x y)
      (fun i => ∑ k : Fin 1280, f (ix2 (i 0) k) * g (ix2 k (i 1))) := fun i => by
  pointwise []
  rw [Cert.Proof.Real.coe_sum]
  exact Finset.sum_congr rfl fun k _ => by rw [hx, hy, EReal.coe_mul]
theorem ish_S16384x2816_S1024x2816_S16384x1024_1_1_0_0_n_n {φ ψ : FTy} {x : FVec Ideal S16384x2816 φ} {y : FVec Ideal S1024x2816 ψ} {f : S16384x2816.Idx → ℝ} {g : S1024x2816.Idx → ℝ}
    (hx : IsR x f) (hy : IsR y g) : IsR (φ := .f32) (Host.dotGeneral dot_S16384x2816_S1024x2816_S16384x1024_1_1_0_0_n_n none x y)
      (fun i => ∑ k : Fin 2816, f (ix2 (i 0) k) * g (ix2 (i 1) k)) := fun i => by
  pointwise []
  rw [Cert.Proof.Real.coe_sum]
  exact Finset.sum_congr rfl fun k _ => by rw [hx, hy, EReal.coe_mul]
theorem ish_S16384x2816_S16384x1024_S2816x1024_0_0_1_1_n_n {φ ψ : FTy} {x : FVec Ideal S16384x2816 φ} {y : FVec Ideal S16384x1024 ψ} {f : S16384x2816.Idx → ℝ} {g : S16384x1024.Idx → ℝ}
    (hx : IsR x f) (hy : IsR y g) : IsR (φ := .f32) (Host.dotGeneral dot_S16384x2816_S16384x1024_S2816x1024_0_0_1_1_n_n none x y)
      (fun i => ∑ k : Fin 16384, f (ix2 k (i 0)) * g (ix2 k (i 1))) := fun i => by
  pointwise []
  rw [Cert.Proof.Real.coe_sum]
  exact Finset.sum_congr rfl fun k _ => by rw [hx, hy, EReal.coe_mul]
theorem ish_S16384x2816_S2816x1024_S16384x1024_1_0_0_1_n_n {φ ψ : FTy} {x : FVec Ideal S16384x2816 φ} {y : FVec Ideal S2816x1024 ψ} {f : S16384x2816.Idx → ℝ} {g : S2816x1024.Idx → ℝ}
    (hx : IsR x f) (hy : IsR y g) : IsR (φ := .f32) (Host.dotGeneral dot_S16384x2816_S2816x1024_S16384x1024_1_0_0_1_n_n none x y)
      (fun i => ∑ k : Fin 2816, f (ix2 (i 0) k) * g (ix2 k (i 1))) := fun i => by
  pointwise []
  rw [Cert.Proof.Real.coe_sum]
  exact Finset.sum_congr rfl fun k _ => by rw [hx, hy, EReal.coe_mul]

end Cert.Tail

end
-- ==== Proof.Tail.Num.lean ====
/-
  Real matrices indexed by numbers (untrusted): the rows and columns of every array of the step, its blocks, and the rowwise
  means, variances and normalisations both programs are read as.
-/
module

public import proofs.«01_k».proof.Proof.Tail.Isr

@[expose] public section

set_option maxRecDepth 16384

noncomputable section

open Idealize.ShloMosaic

namespace Cert.Tail

/-- A matrix given by numbers, at an index of a rank-2 shape. -/
abbrev N2 {a b : ℕ} (F : ℕ → ℕ → ℝ) : Shape.Idx ⟨2, ![a, b]⟩ → ℝ := fun i => F (i 0).val (i 1).val

/-- A real matrix by row and column number. -/
abbrev RM := ℕ → ℕ → ℝ
/-- The array holds the real matrix. -/
abbrev T (n k : ℕ) (φ : FTy) (x : FVec Ideal ⟨2, ![n, k]⟩ φ) (F : RM) : Prop := IsR x (N2 F)

theorem off (s a y : ℕ) : a * s + y = s * a + y := by rw [Nat.mul_comm]
theorem off0 (s y : ℕ) : 0 * s + y = y := by rw [Nat.zero_mul, Nat.zero_add]
theorem off1 (s y : ℕ) : 1 * s + y = s + y := by rw [Nat.one_mul]

section loads
variable {a b n m : ℕ} {F : ℕ → ℕ → ℝ}

theorem isr_ld {p q : ℕ} {x : FVec Ideal ⟨2, ![a, b]⟩ .f32} (hx : IsR x (N2 F)) (inb : ∀ k : Fin 2, (![p, q] : Fin 2 → ℕ) k + (![n, m] : Fin 2 → ℕ) k ≤ (![a, b] : Fin 2 → ℕ) k) :
    IsR (s := ⟨2, ![n, m]⟩) (φ := .f32) (View.ld (Val := Elt Ideal) (e' := .f32) x (Rect.unit (s := ⟨2, ![a, b]⟩) ![p, q] ![n, m] inb)) (N2 fun r d => F (p + r) (q + d)) := fun i => by
  refine (hx _).trans ?_
  show ((F (p + 1 * (i 0).val) (q + 1 * (i 1).val) : ℝ) : EReal) = _
  rw [Nat.one_mul, Nat.one_mul]
theorem isr_ld_row {p : ℕ} {x : FVec Ideal ⟨2, ![a, b]⟩ .f32} (hx : IsR x (N2 F)) (inb : ∀ k : Fin 2, (![p, 0] : Fin 2 → ℕ) k + (![n, m] : Fin 2 → ℕ) k ≤ (![a, b] : Fin 2 → ℕ) k) :
    IsR (s := ⟨2, ![n, m]⟩) (φ := .f32) (View.ld (Val := Elt Ideal) (e' := .f32) x (Rect.unit (s := ⟨2, ![a, b]⟩) ![p, 0] ![n, m] inb)) (N2 fun r d => F (p + r) d) :=
  (isr_ld hx inb).congr fun i => by show F _ (0 + _) = _; rw [Nat.zero_add]
theorem isr_ld_col {q : ℕ} {x : FVec Ideal ⟨2, ![a, b]⟩ .f32} (hx : IsR x (N2 F)) (inb : ∀ k : Fin 2, (![0, q] : Fin 2 → ℕ) k + (![n, m] : Fin 2 → ℕ) k ≤ (![a, b] : Fin 2 → ℕ) k) :
    IsR (s := ⟨2, ![n, m]⟩) (φ := .f32) (View.ld (Val := Elt Ideal) (e' := .f32) x (Rect.unit (s := ⟨2, ![a, b]⟩) ![0, q] ![n, m] inb)) (N2 fun r d => F r (q + d)) :=
  (isr_ld hx inb).congr fun i => by show F (0 + _) _ = _; rw [Nat.zero_add]
theorem isr_ld00 {x : FVec Ideal ⟨2, ![a, b]⟩ .f32} (hx : IsR x (N2 F)) (inb : ∀ k : Fin 2, (![0, 0] : Fin 2 → ℕ) k + (![n, m] : Fin 2 → ℕ) k ≤ (![a, b] : Fin 2 → ℕ) k) :
    IsR (s := ⟨2, ![n, m]⟩) (φ := .f32) (View.ld (Val := Elt Ideal) (e' := .f32) x (Rect.unit (s := ⟨2, ![a, b]⟩) ![0, 0] ![n, m] inb)) (N2 F) :=
  (isr_ld hx inb).congr fun i => by show F (0 + _) (0 + _) = _; rw [Nat.zero_add, Nat.zero_add]
theorem isr_ldb {p q : ℕ} {x : FVec Ideal ⟨2, ![a, b]⟩ .bf16} (hx : IsR x (N2 F)) (inb : ∀ k : Fin 2, (![p, q] : Fin 2 → ℕ) k + (![n, m] : Fin 2 → ℕ) k ≤ (![a, b] : Fin 2 → ℕ) k) :
    IsR (s := ⟨2, ![n, m]⟩) (φ := .bf16) (View.ld (Val := Elt Ideal) (e' := .bf16) x (Rect.unit (s := ⟨2, ![a, b]⟩) ![p, q] ![n, m] inb)) (N2 fun r d => F (p + r) (q + d)) := fun i => by
  refine (hx _).trans ?_
  show ((F (p + 1 * (i 0).val) (q + 1 * (i 1).val) : ℝ) : EReal) = _
  rw [Nat.one_mul, Nat.one_mul]
theorem isr_ld_rowb {p : ℕ} {x : FVec Ideal ⟨2, ![a, b]⟩ .bf16} (hx : IsR x (N2 F)) (inb : ∀ k : Fin 2, (![p, 0] : Fin 2 → ℕ) k + (![n, m] : Fin 2 → ℕ) k ≤ (![a, b] : Fin 2 → ℕ) k) :
    IsR (s := ⟨2, ![n, m]⟩) (φ := .bf16) (View.ld (Val := Elt Ideal) (e' := .bf16) x (Rect.unit (s := ⟨2, ![a, b]⟩) ![p, 0] ![n, m] inb)) (N2 fun r d => F (p + r) d) :=
  (isr_ldb hx inb).congr fun i => by show F _ (0 + _) = _; rw [Nat.zero_add]
theorem isr_ld_colb {q : ℕ} {x : FVec Ideal ⟨2, ![a, b]⟩ .bf16} (hx : IsR x (N2 F)) (inb : ∀ k : Fin 2, (![0, q] : Fin 2 → ℕ) k + (![n, m] : Fin 2 → ℕ) k ≤ (![a, b] : Fin 2 → ℕ) k) :
    IsR (s := ⟨2, ![n, m]⟩) (φ := .bf16) (View.ld (Val := Elt Ideal) (e' := .bf16) x (Rect.unit (s := ⟨2, ![a, b]⟩) ![0, q] ![n, m] inb)) (N2 fun r d => F r (q + d)) :=
  (isr_ldb hx inb).congr fun i => by show F (0 + _) _ = _; rw [Nat.zero_add]
theorem isr_ld00b {x : FVec Ideal ⟨2, ![a, b]⟩ .bf16} (hx : IsR x (N2 F)) (inb : ∀ k : Fin 2, (![0, 0] : Fin 2 → ℕ) k + (![n, m] : Fin 2 → ℕ) k ≤ (![a, b] : Fin 2 → ℕ) k) :
    IsR (s := ⟨2, ![n, m]⟩) (φ := .bf16) (View.ld (Val := Elt Ideal) (e' := .bf16) x (Rect.unit (s := ⟨2, ![a, b]⟩) ![0, 0] ![n, m] inb)) (N2 F) :=
  (isr_ldb hx inb).congr fun i => by show F (0 + _) (0 + _) = _; rw [Nat.zero_add, Nat.zero_add]

end loads

section pieces
variable {a b : ℕ} {G g : ℕ → ℕ → ℝ}

theorem row_mem {r : ℕ} (inb : ∀ k : Fin 2, (![r, 0] : Fin 2 → ℕ) k + (![1, b] : Fin 2 → ℕ) k ≤ (![a, b] : Fin 2 → ℕ) k)
    (y : Shape.Idx ⟨2, ![a, b]⟩) (h : (y 0).val = r) :
    y = (Rect.unit (s := ⟨2, ![a, b]⟩) ![r, 0] ![1, b] inb).emb (ix2 (0 : Fin 1) (y 1)) :=
  funext fun k => Fin.ext (by
    match k with
    | ⟨0, _⟩ => show (y 0).val = r + 1 * 0; omega
    | ⟨1, _⟩ => show (y 1).val = 0 + 1 * (y 1).val; omega)

theorem isr_canon_row {r : ℕ} {L : List (View.Piece (Elt Ideal) (⟨2, ![a, b]⟩ : Shape) .f32)}
    (hL : IsR (s := ⟨2, ![a, b]⟩) (φ := .f32) (View.canon L) (N2 G))
    (inb : ∀ k : Fin 2, (![r, 0] : Fin 2 → ℕ) k + (![1, b] : Fin 2 → ℕ) k ≤ (![a, b] : Fin 2 → ℕ) k)
    {w : (Rect.unit (s := ⟨2, ![a, b]⟩) ![r, 0] ![1, b] inb).shape.Idx → Elt Ideal .f32} (hw : IsR (s := ⟨2, ![1, b]⟩) (φ := .f32) w (N2 g)) :
    IsR (s := ⟨2, ![a, b]⟩) (φ := .f32) (View.canon (⟨Rect.unit (s := ⟨2, ![a, b]⟩) ![r, 0] ![1, b] inb, w⟩ :: L))
      (N2 fun i j => if i = r then g 0 j else G i j) := fun y => by
  show _ = (((if (y 0).val = r then g 0 (y 1).val else G (y 0).val (y 1).val : ℝ)) : EReal)
  split
  · rename_i h
    have e := hw (ix2 0 (y 1))
    rw [row_mem inb y h, View.canon_cons_emb, e, ← row_mem inb y h]
    rfl
  · rename_i h
    rw [View.canon_cons_of_not_mem]
    · exact hL y
    · rw [Rect.mem_set_unit]
      intro hall
      have := hall 0
      have e1 : r ≤ (y 0).val ∧ (y 0).val < r + 1 := this
      omega

theorem isr_writes_row {r : ℕ} {sig : RefSig} {κ : Kind} {sp : Space} {v : View sig κ sp (⟨2, ![a, b]⟩ : Shape) .f32} {f : v.ty.Contents (Elt Ideal)}
    {L : List (View.Piece (Elt Ideal) (⟨2, ![a, b]⟩ : Shape) .f32)}
    (hL : IsR (s := ⟨2, ![a, b]⟩) (φ := .f32) (v.read (Elt Ideal) (v.writes (Elt Ideal) f L)) (N2 G))
    (inb : ∀ k : Fin 2, (![r, 0] : Fin 2 → ℕ) k + (![1, b] : Fin 2 → ℕ) k ≤ (![a, b] : Fin 2 → ℕ) k)
    {w : (Rect.unit (s := ⟨2, ![a, b]⟩) ![r, 0] ![1, b] inb).shape.Idx → Elt Ideal .f32} (hw : IsR (s := ⟨2, ![1, b]⟩) (φ := .f32) w (N2 g)) :
    IsR (s := ⟨2, ![a, b]⟩) (φ := .f32) (v.read (Elt Ideal) (v.writes (Elt Ideal) f (⟨Rect.unit (s := ⟨2, ![a, b]⟩) ![r, 0] ![1, b] inb, w⟩ :: L)))
      (N2 fun i j => if i = r then g 0 j else G i j) := fun y => by
  show _ = (((if (y 0).val = r then g 0 (y 1).val else G (y 0).val (y 1).val : ℝ)) : EReal)
  split
  · rename_i h
    have e := hw (ix2 0 (y 1))
    rw [row_mem inb y h, View.read_writes_cons_emb, e, ← row_mem inb y h]
    rfl
  · rename_i h
    rw [View.writes_cons, View.read_slice_write_of_not_mem]
    · exact hL y
    · rw [Rect.map_emb_univ, Rect.mem_set_unit]
      intro hall
      have := hall 0
      have e1 : r ≤ (y 0).val ∧ (y 0).val < r + 1 := this
      omega

end pieces

/-! ## Accumulators -/

theorem isr_acc {a b N : ℕ} (o : (n : ℕ) → n < N → FVec Ideal ⟨2, ![a, b]⟩ .f32) (J : ℕ) (T : ℕ → ℕ → ℕ → ℝ)
    (h0 : ∀ t : Fin N, t.val % J = 0 → IsR (o t.val t.isLt) (N2 (T t.val)))
    (hs : ∀ t : Fin N, ¬ t.val % J = 0 → ∀ G, IsR (o (t.val - 1) (Nat.lt_of_le_of_lt (Nat.sub_le _ _) t.isLt)) (N2 G) →
      IsR (o t.val t.isLt) (N2 fun i j => G i j + T t.val i j)) (t : Fin N) :
    IsR (o t.val t.isLt) (N2 fun i j => ∑ s ∈ Finset.range (t.val % J + 1), T (J * (t.val / J) + s) i j) := by
  obtain ⟨n, hn⟩ := t
  show IsR (o n hn) (N2 fun i j => ∑ s ∈ Finset.range (n % J + 1), T (J * (n / J) + s) i j)
  induction n with
  | zero => simpa using h0 ⟨0, hn⟩ (Nat.zero_mod J)
  | succ n ih =>
    by_cases hc : (n + 1) % J = 0
    · have e : J * ((n + 1) / J) + 0 = n + 1 := by have := Nat.div_add_mod (n + 1) J; omega
      rw [hc]
      simp only [Nat.zero_add, Finset.sum_range_one, e]
      exact h0 ⟨n + 1, hn⟩ hc
    · have h1 : (n + 1) % J = n % J + 1 ∧ (n + 1) / J = n / J := by
        rcases Nat.eq_zero_or_pos J with rfl | hJ
        · simp
        · have hlt := Nat.mod_lt n hJ
          have e : n + 1 = J * (n / J) + (n % J + 1) := by have := Nat.div_add_mod n J; omega
          have hne : n % J + 1 < J := by
            rcases Nat.lt_or_ge (n % J + 1) J with h | h
            · exact h
            · exact absurd (by rw [e, show n % J + 1 = J by omega]; simp) hc
          refine ⟨?_, ?_⟩
          · conv_lhs => rw [e, Nat.mul_add_mod, Nat.mod_eq_of_lt hne]
          · conv_lhs => rw [e, Nat.mul_add_div hJ, Nat.div_eq_of_lt hne, Nat.add_zero]
      refine (hs ⟨n + 1, hn⟩ hc _ (ih (by omega))).congr fun i => ?_
      show _ = ∑ s ∈ Finset.range ((n + 1) % J + 1), T (J * ((n + 1) / J) + s) _ _
      rw [h1.1, h1.2, Finset.sum_range_succ _ (n % J + 1)]
      refine congrArg _ (congrArg (fun q => T q _ _) ?_)
      have := Nat.div_add_mod n J
      show n + 1 = _
      omega

theorem sum_fin_range (n : ℕ) (F : ℕ → ℝ) : ∑ k : Fin n, F k.val = ∑ k ∈ Finset.range n, F k := Fin.sum_univ_eq_sum_range F n
theorem sum_blocks (n J : ℕ) (F : ℕ → ℝ) : ∑ s ∈ Finset.range J, ∑ k : Fin n, F (n * s + k.val) = ∑ r : Fin (n * J), F r.val := by
  rw [sum_fin_range]
  induction J with
  | zero => simp
  | succ J ih => rw [Finset.sum_range_succ, ih, Nat.mul_succ, Finset.sum_range_add, ← sum_fin_range n fun k => F (n * J + k)]
theorem sum_halves (n : ℕ) (F : ℕ → ℝ) : ∑ k : Fin n, F k.val + ∑ k : Fin n, F (n + k.val) = ∑ k : Fin (n + n), F k.val := by
  rw [sum_fin_range (n + n), Finset.sum_range_add, ← sum_fin_range n F, ← sum_fin_range n fun k => F (n + k)]

/-! ## Rowwise quantities -/

/-- The mean of the first 1024 entries. -/
def meanN (z : ℕ → ℝ) : ℝ := (∑ k : Fin 1024, z k.val) / 1024
theorem var_pos (c : Fin 1024 → ℝ) : 0 < (∑ k : Fin 1024, c k * c k) / 1024 + epsR :=
  add_pos_of_nonneg_of_pos (div_nonneg (Finset.sum_nonneg fun k _ => mul_self_nonneg _) (by norm_num)) epsR_pos
/-- One over the standard deviation of the first 1024 entries, with the epsilon. -/
def rstdN (z : ℕ → ℝ) : ℝ := (Real.sqrt (meanN (fun k => (z k - meanN z) * (z k - meanN z)) + epsR))⁻¹
/-- The normalised row. -/
def lnN (z : ℕ → ℝ) (d : ℕ) : ℝ := (z d - meanN z) * rstdN z
/-- The normalisation's gradient, from the normalised row, its reciprocal deviation and the cotangent. -/
def lnbN (dn n : ℕ → ℝ) (r : ℝ) (d : ℕ) : ℝ := r * (dn d - meanN dn - n d * meanN fun k => dn k * n k)
/-- The logistic function, by the hyperbolic tangent. -/
def sigR (x : ℝ) : ℝ := 1 / 2 * Real.tanh (1 / 2 * x) + 1 / 2

/-- A vector given by numbers, at an index of a rank-1 shape. -/
abbrev N1 {a : ℕ} (F : ℕ → ℕ → ℝ) : Shape.Idx ⟨1, ![a]⟩ → ℝ := fun i => F (i 0).val 0

end Cert.Tail

end
-- ==== Proof.Tail.Lay.lean ====
/-
  Slices, joins, pads and whole sums of real arrays (untrusted).
-/
module

public import proofs.«01_k».proof.Proof.Tail.Num

@[expose] public section

set_option maxRecDepth 16384

noncomputable section

open Idealize.ShloMosaic

namespace Cert.Tail

variable {a b n m : ℕ} {φ : FTy} {F G : ℕ → ℕ → ℝ}

theorem isr_slice {p q : ℕ} {x : FVec Ideal ⟨2, ![a, b]⟩ φ} (hx : IsR x (N2 F))
    (h : Shape.Slices ⟨2, ![a, b]⟩ ![p, q] ⟨2, ![n, m]⟩) :
    IsR (φ := φ) (extractStridedSlice ⟨2, ![n, m]⟩ ![p, q] x h) (N2 fun r d => F (p + r) (q + d)) := fun i => by
  pointwise []
  exact hx _
theorem isr_slice_row {p : ℕ} {x : FVec Ideal ⟨2, ![a, b]⟩ φ} (hx : IsR x (N2 F))
    (h : Shape.Slices ⟨2, ![a, b]⟩ ![p, 0] ⟨2, ![1, m]⟩) :
    IsR (φ := φ) (extractStridedSlice ⟨2, ![1, m]⟩ ![p, 0] x h) (N2 fun r d => F p d) :=
  (isr_slice hx h).congr fun i => by
    have h0 : (i 0).val = 0 := Nat.lt_one_iff.mp (i 0).isLt
    show F (p + (i 0).val) (0 + _) = _
    rw [h0, Nat.zero_add, Nat.add_zero]
theorem isr_slice_col {q : ℕ} {x : FVec Ideal ⟨2, ![a, b]⟩ φ} (hx : IsR x (N2 F))
    (h : Shape.Slices ⟨2, ![a, b]⟩ ![0, q] ⟨2, ![n, m]⟩) :
    IsR (φ := φ) (extractStridedSlice ⟨2, ![n, m]⟩ ![0, q] x h) (N2 fun r d => F r (q + d)) :=
  (isr_slice hx h).congr fun i => by show F (0 + _) _ = _; rw [Nat.zero_add]
theorem isr_slice_rows {p : ℕ} {x : FVec Ideal ⟨2, ![a, b]⟩ φ} (hx : IsR x (N2 F))
    (h : Shape.Slices ⟨2, ![a, b]⟩ ![p, 0] ⟨2, ![n, m]⟩) :
    IsR (φ := φ) (extractStridedSlice ⟨2, ![n, m]⟩ ![p, 0] x h) (N2 fun r d => F (p + r) d) :=
  (isr_slice hx h).congr fun i => by show F _ (0 + _) = _; rw [Nat.zero_add]
theorem isr_slice00 {x : FVec Ideal ⟨2, ![a, b]⟩ φ} (hx : IsR x (N2 F))
    (h : Shape.Slices ⟨2, ![a, b]⟩ ![0, 0] ⟨2, ![n, m]⟩) :
    IsR (φ := φ) (extractStridedSlice ⟨2, ![n, m]⟩ ![0, 0] x h) (N2 F) :=
  (isr_slice hx h).congr fun i => by show F (0 + _) (0 + _) = _; rw [Nat.zero_add, Nat.zero_add]

theorem isr_hredall {x : FVec Ideal ⟨1, ![n]⟩ .f32} {f : Shape.Idx ⟨1, ![n]⟩ → ℝ} (hx : IsR x f)
    {z : FVec Ideal ⟨0, ![]⟩ .f32} (hz : IsR z fun _ => 0)
    (h : Shape.ReducesTo ⟨1, ![n]⟩ [0] ⟨0, ![]⟩) (h1) :
    IsR (φ := .f32) (Host.reduceAdd x z h h1) (fun i => ∑ k : Fin n, f (ix1 k)) := fun i => by
  pointwise []
  rw [hz, EReal.coe_zero, zero_add, Cert.Proof.Real.coe_sum]
  exact Finset.sum_congr rfl fun k _ => hx _

/-- A row number of a one-row matrix. -/
theorem row_one {b : ℕ} {y : FVec Ideal ⟨2, ![1, b]⟩ φ} (hy : IsR y (N2 F)) (i : Shape.Idx ⟨2, ![1, b]⟩) :
    (y i : EReal) = ((F 0 (i 1).val : ℝ) : EReal) := by
  rw [hy i]
  have h0 : (i 0).val = 0 := Nat.lt_one_iff.mp (i 0).isLt
  show ((F (i 0).val _ : ℝ) : EReal) = _
  rw [h0]

theorem isr_pad_top {x : FVec Ideal ⟨2, ![1, b]⟩ φ} (hx : IsR x (N2 F)) {z : FVec Ideal ⟨0, ![]⟩ φ} (hz : IsR z fun _ => 0)
    (h : Shape.Pads ⟨2, ![1, b]⟩ ![1, 0] ![0, 0] ![0, 0] ⟨2, ![2, b]⟩) (h1) :
    IsR (φ := φ) (pad ⟨2, ![2, b]⟩ ![1, 0] ![0, 0] ![0, 0] x z h h1) (N2 fun r d => if r = 0 then 0 else F 0 d) := fun i => by
  pointwise []
  have hr : (i 0).val < 2 := (i 0).isLt
  show _ = (((if (i 0).val = 0 then 0 else F 0 (i 1).val : ℝ)) : EReal)
  split_ifs <;> first | exact hz _ | exact row_one hx _ | omega
theorem isr_pad_bot {x : FVec Ideal ⟨2, ![1, b]⟩ φ} (hx : IsR x (N2 F)) {z : FVec Ideal ⟨0, ![]⟩ φ} (hz : IsR z fun _ => 0)
    (h : Shape.Pads ⟨2, ![1, b]⟩ ![0, 0] ![1, 0] ![0, 0] ⟨2, ![2, b]⟩) (h1) :
    IsR (φ := φ) (pad ⟨2, ![2, b]⟩ ![0, 0] ![1, 0] ![0, 0] x z h h1) (N2 fun r d => if r = 0 then F 0 d else 0) := fun i => by
  pointwise []
  have hr : (i 0).val < 2 := (i 0).isLt
  show _ = (((if (i 0).val = 0 then F 0 (i 1).val else 0 : ℝ)) : EReal)
  split_ifs <;> first | exact row_one hx _ | exact hz _ | omega

theorem isr_cat_cols {x y : FVec Ideal ⟨2, ![16384, 1024]⟩ φ} (hx : IsR x (N2 F)) (hy : IsR y (N2 G))
    (h : Shape.Concatenates [⟨2, ![16384, 1024]⟩, ⟨2, ![16384, 1024]⟩] ⟨2, ![16384, 2048]⟩ 1) :
    IsR (φ := φ) (concatenate (⟨2, ![16384, 2048]⟩ : Shape) 1 [⟨⟨2, ![16384, 1024]⟩, x⟩, ⟨⟨2, ![16384, 1024]⟩, y⟩] h)
      (N2 fun r d => if d < 1024 then F r d else G r (d - 1024)) := fun i => by
  pointwise []
  show _ = (((if (i 1).val < 1024 then F (i 0).val (i 1).val else G (i 0).val ((i 1).val - 1024) : ℝ)) : EReal)
  split
  · exact hx _
  · exact hy _

theorem isr_cat2 {x y : FVec Ideal ⟨2, ![1, 1024]⟩ φ} (hx : IsR x (N2 F)) (hy : IsR y (N2 G))
    (h : Shape.Concatenates [⟨2, ![1, 1024]⟩, ⟨2, ![1, 1024]⟩] ⟨2, ![2, 1024]⟩ 0) :
    IsR (φ := φ) (concatenate (⟨2, ![2, 1024]⟩ : Shape) 0 [⟨⟨2, ![1, 1024]⟩, x⟩, ⟨⟨2, ![1, 1024]⟩, y⟩] h)
      (N2 fun r d => if r = 0 then F 0 d else G 0 d) := fun i => by
  pointwise []
  show _ = (((if (i 0).val = 0 then F 0 (i 1).val else G 0 (i 1).val : ℝ)) : EReal)
  have hr : (i 0).val < 2 := (i 0).isLt
  by_cases h0 : (i 0).val = 0
  · rw [dif_pos (show (i 0).val < 1 by omega), if_pos h0]
    exact row_one hx _
  rw [dif_neg (show ¬ (i 0).val < 1 by omega), if_neg h0]
  exact row_one hy _
theorem isr_cat4 {H K : ℕ → ℕ → ℝ} {x y z w : FVec Ideal ⟨2, ![1, 1024]⟩ φ} (hx : IsR x (N2 F)) (hy : IsR y (N2 G)) (hz : IsR z (N2 H)) (hw : IsR w (N2 K))
    (h : Shape.Concatenates [⟨2, ![1, 1024]⟩, ⟨2, ![1, 1024]⟩, ⟨2, ![1, 1024]⟩, ⟨2, ![1, 1024]⟩] ⟨2, ![4, 1024]⟩ 0) :
    IsR (φ := φ) (concatenate (⟨2, ![4, 1024]⟩ : Shape) 0 [⟨⟨2, ![1, 1024]⟩, x⟩, ⟨⟨2, ![1, 1024]⟩, y⟩, ⟨⟨2, ![1, 1024]⟩, z⟩, ⟨⟨2, ![1, 1024]⟩, w⟩] h)
      (N2 fun r d => if r = 0 then F 0 d else if r = 1 then G 0 d else if r = 2 then H 0 d else K 0 d) := fun i => by
  pointwise []
  show _ = (((if (i 0).val = 0 then F 0 (i 1).val else if (i 0).val = 1 then G 0 (i 1).val else if (i 0).val = 2 then H 0 (i 1).val else K 0 (i 1).val : ℝ)) : EReal)
  have hr : (i 0).val < 4 := (i 0).isLt
  by_cases h0 : (i 0).val = 0
  · rw [dif_pos (show (i 0).val < 1 by omega), if_pos h0]
    exact row_one hx _
  rw [dif_neg (show ¬ (i 0).val < 1 by omega), if_neg h0]
  by_cases h1 : (i 0).val = 1
  · rw [dif_pos (show (i 0).val - 1 < 1 by omega), if_pos h1]
    exact row_one hy _
  rw [dif_neg (show ¬ (i 0).val - 1 < 1 by omega), if_neg h1]
  by_cases h2 : (i 0).val = 2
  · rw [dif_pos (show (i 0).val - 1 - 1 < 1 by omega), if_pos h2]
    exact row_one hz _
  rw [dif_neg (show ¬ (i 0).val - 1 - 1 < 1 by omega), if_neg h2]
  exact row_one hw _

/-! ### Rows below which the rest is zero -/
theorem isr_cat62 {x : FVec Ideal ⟨2, ![6, 1024]⟩ φ} {y : FVec Ideal ⟨2, ![2, 1024]⟩ φ} (hx : IsR x (N2 F)) (hy : IsR y (fun _ => 0))
    (h : Shape.Concatenates [⟨2, ![6, 1024]⟩, ⟨2, ![2, 1024]⟩] ⟨2, ![8, 1024]⟩ 0) :
    IsR (φ := φ) (concatenate (⟨2, ![8, 1024]⟩ : Shape) 0 [⟨⟨2, ![6, 1024]⟩, x⟩, ⟨⟨2, ![2, 1024]⟩, y⟩] h)
      (N2 fun r d => if r < 6 then F r d else 0) := fun i => by
  pointwise []
  show _ = (((if (i 0).val < 6 then F (i 0).val (i 1).val else 0 : ℝ)) : EReal)
  split
  · exact hx _
  · exact hy _
theorem isr_cat26 {x : FVec Ideal ⟨2, ![2, 1024]⟩ φ} {y : FVec Ideal ⟨2, ![6, 1024]⟩ φ} (hx : IsR x (N2 F)) (hy : IsR y (fun _ => 0))
    (h : Shape.Concatenates [⟨2, ![2, 1024]⟩, ⟨2, ![6, 1024]⟩] ⟨2, ![8, 1024]⟩ 0) :
    IsR (φ := φ) (concatenate (⟨2, ![8, 1024]⟩ : Shape) 0 [⟨⟨2, ![2, 1024]⟩, x⟩, ⟨⟨2, ![6, 1024]⟩, y⟩] h)
      (N2 fun r d => if r < 2 then F r d else 0) := fun i => by
  pointwise []
  show _ = (((if (i 0).val < 2 then F (i 0).val (i 1).val else 0 : ℝ)) : EReal)
  split
  · exact hx _
  · exact hy _
theorem isr_cat116 {x y : FVec Ideal ⟨2, ![1, 1024]⟩ φ} {z : FVec Ideal ⟨2, ![6, 1024]⟩ φ} (hx : IsR x (N2 F)) (hy : IsR y (N2 G)) (hz : IsR z (fun _ => 0))
    (h : Shape.Concatenates [⟨2, ![1, 1024]⟩, ⟨2, ![1, 1024]⟩, ⟨2, ![6, 1024]⟩] ⟨2, ![8, 1024]⟩ 0) :
    IsR (φ := φ) (concatenate (⟨2, ![8, 1024]⟩ : Shape) 0 [⟨⟨2, ![1, 1024]⟩, x⟩, ⟨⟨2, ![1, 1024]⟩, y⟩, ⟨⟨2, ![6, 1024]⟩, z⟩] h)
      (N2 fun r d => if r = 0 then F 0 d else if r = 1 then G 0 d else 0) := fun i => by
  pointwise []
  show _ = (((if (i 0).val = 0 then F 0 (i 1).val else if (i 0).val = 1 then G 0 (i 1).val else 0 : ℝ)) : EReal)
  have hr : (i 0).val < 8 := (i 0).isLt
  by_cases h0 : (i 0).val = 0
  · rw [dif_pos (show (i 0).val < 1 by omega), if_pos h0]
    exact row_one hx _
  rw [dif_neg (show ¬ (i 0).val < 1 by omega), if_neg h0]
  by_cases h1 : (i 0).val = 1
  · rw [dif_pos (show (i 0).val - 1 < 1 by omega), if_pos h1]
    exact row_one hy _
  rw [dif_neg (show ¬ (i 0).val - 1 < 1 by omega), if_neg h1]
  exact hz _

end Cert.Tail

end
-- ==== Proof.Tail.Spec.lean ====
/-
  What each call of the step leaves, as real matrices indexed by numbers (untrusted): `sK_W` is window `W` of region `K`,
  from the matrices its input windows hold, every formula written rowwise.
-/
module

public import proofs.«01_k».proof.Proof.Tail.Num

@[expose] public section

noncomputable section

namespace Cert.Tail

/-- The product of two matrices. -/
def dotN (n : ℕ) (A B : RM) (r d : ℕ) : ℝ := ∑ k : Fin n, A r k.val * B k.val d
/-- The product with the second matrix transposed. -/
def dotT (n : ℕ) (A B : RM) (r d : ℕ) : ℝ := ∑ k : Fin n, A r k.val * B d k.val
/-- The product with the first matrix transposed. -/
def dotL (n : ℕ) (A B : RM) (r d : ℕ) : ℝ := ∑ k : Fin n, A k.val r * B k.val d

/-! ## Merge of the two branches -/

def s0_7 (F0 F1 F2 F3 F4 F5 F6 : RM) : RM := dotN 1280 F0 F1
def s0_8 (F0 F1 F2 F3 F4 F5 F6 : RM) : RM := dotN 1024 F2 F3
def s0_9 (F0 F1 F2 F3 F4 F5 F6 : RM) : RM := fun r d =>
  sigR (F4 r d + F6 0 d) * dotN 1280 F0 F1 r d + sigR (F5 r d + F6 1 d) * dotN 1024 F2 F3 r d

/-! ## Output projection and the two normalisations after it -/

/-- The residual sum before a normalisation. -/
def resid (a b g : RM) (q : ℕ) : RM := fun r d => alphaR * a r d + g q d * b r d
/-- A normalised row scaled and shifted by the first two rows of `l`. -/
def lnGB (z l : RM) : RM := fun r d => lnN (z r) d * l 0 d + l 1 d
def s1_5 (F0 F1 F2 F3 F4 : RM) : RM := dotN 1024 F0 F1
def s1_6 (F0 F1 F2 F3 F4 : RM) : RM := lnGB (resid F2 (dotN 1024 F0 F1) F3 2) F4
def s1_7 (F0 F1 F2 F3 F4 : RM) : RM := fun r d =>
  lnN (s1_6 F0 F1 F2 F3 F4 r) d * (1 + F3 4 d) + F3 3 d

/-! ## Gated product -/

def s2_4 (F0 F1 F2 F3 : RM) : RM := dotN 1024 F0 F1
def s2_5 (F0 F1 F2 F3 : RM) : RM := dotN 1024 F2 F3
def s2_6 (F0 F1 F2 F3 : RM) : RM := fun r d =>
  dotN 1024 F0 F1 r d * sigR (dotN 1024 F0 F1 r d) * dotN 1024 F2 F3 r d

/-! ## Down projection, loss and the gradient of the last normalisation -/

def s3_z (F0 F1 F2 F3 F4 F5 : RM) : RM := resid F2 (dotN 2816 F0 F1) F4 5
def s3_e (F0 F1 F2 F3 F4 F5 : RM) : RM := fun r d => lnGB (s3_z F0 F1 F2 F3 F4 F5) F5 r d - F3 r d
def s3_d (F0 F1 F2 F3 F4 F5 : RM) : RM := fun r d => s3_e F0 F1 F2 F3 F4 F5 r d * (1 / 1024)
def s3_6 (F0 F1 F2 F3 F4 F5 : RM) : RM := fun r d =>
  lnbN (fun k => s3_d F0 F1 F2 F3 F4 F5 r k * F5 0 k) (lnN (s3_z F0 F1 F2 F3 F4 F5 r)) (rstdN (s3_z F0 F1 F2 F3 F4 F5 r)) d
def s3_7 (F0 F1 F2 F3 F4 F5 : RM) : RM := fun r d => F4 5 d * s3_6 F0 F1 F2 F3 F4 F5 r d
/-- What the sums over the rows add per row: squared error, scale, shift and modulation gradients. -/
def s3_u (F0 F1 F2 F3 F4 F5 : RM) (q : ℕ) : RM := fun r d =>
  if q = 0 then s3_e F0 F1 F2 F3 F4 F5 r d * s3_e F0 F1 F2 F3 F4 F5 r d * (1 / 2048)
  else if q = 1 then s3_d F0 F1 F2 F3 F4 F5 r d * lnN (s3_z F0 F1 F2 F3 F4 F5 r) d
  else if q = 2 then s3_d F0 F1 F2 F3 F4 F5 r d
  else if q = 3 then s3_6 F0 F1 F2 F3 F4 F5 r d * dotN 2816 F0 F1 r d
  else 0

/-! ## Gradient of the gated product -/

def s5_4 (F0 F1 F2 F3 : RM) : RM := fun r d =>
  dotT 1024 F0 F1 r d * F3 r d * sigR (F2 r d) * (1 + F2 r d * (1 - sigR (F2 r d)))
def s5_5 (F0 F1 F2 F3 : RM) : RM := fun r d => dotT 1024 F0 F1 r d * F2 r d * sigR (F2 r d)

/-! ## Gradient of the first normalisations -/

def s8_h (F0 F1 F2 F3 F4 F5 F6 F7 F8 : RM) : RM := fun r d => dotT 2816 F0 F1 r d + dotT 2816 F2 F3 r d
def s8_z (F0 F1 F2 F3 F4 F5 F6 F7 F8 : RM) : RM := resid F4 F5 F7 2
def s8_x (F0 F1 F2 F3 F4 F5 F6 F7 F8 : RM) : RM := lnGB (s8_z F0 F1 F2 F3 F4 F5 F6 F7 F8) F8
def s8_dx (F0 F1 F2 F3 F4 F5 F6 F7 F8 : RM) : RM := fun r d => alphaR * F6 r d +
  lnbN (fun k => s8_h F0 F1 F2 F3 F4 F5 F6 F7 F8 r k * (1 + F7 4 k)) (lnN (s8_x F0 F1 F2 F3 F4 F5 F6 F7 F8 r)) (rstdN (s8_x F0 F1 F2 F3 F4 F5 F6 F7 F8 r)) d
def s8_dz (F0 F1 F2 F3 F4 F5 F6 F7 F8 : RM) : RM := fun r d =>
  lnbN (fun k => s8_dx F0 F1 F2 F3 F4 F5 F6 F7 F8 r k * F8 0 k) (lnN (s8_z F0 F1 F2 F3 F4 F5 F6 F7 F8 r)) (rstdN (s8_z F0 F1 F2 F3 F4 F5 F6 F7 F8 r)) d
def s8_9 (F0 F1 F2 F3 F4 F5 F6 F7 F8 : RM) : RM := fun r d => alphaR * s8_dz F0 F1 F2 F3 F4 F5 F6 F7 F8 r d
def s8_10 (F0 F1 F2 F3 F4 F5 F6 F7 F8 : RM) : RM := fun r d => F7 2 d * s8_dz F0 F1 F2 F3 F4 F5 F6 F7 F8 r d
/-- What the sums over the rows add per row: scale and shift gradients of both normalisations and a modulation row's. -/
def s8_u (F0 F1 F2 F3 F4 F5 F6 F7 F8 : RM) (q : ℕ) : RM := fun r d =>
  if q = 0 then s8_h F0 F1 F2 F3 F4 F5 F6 F7 F8 r d * lnN (s8_x F0 F1 F2 F3 F4 F5 F6 F7 F8 r) d
  else if q = 1 then s8_h F0 F1 F2 F3 F4 F5 F6 F7 F8 r d
  else if q = 2 then s8_dx F0 F1 F2 F3 F4 F5 F6 F7 F8 r d * lnN (s8_z F0 F1 F2 F3 F4 F5 F6 F7 F8 r) d
  else if q = 3 then s8_dx F0 F1 F2 F3 F4 F5 F6 F7 F8 r d
  else if q = 4 then s8_dz F0 F1 F2 F3 F4 F5 F6 F7 F8 r d * F5 r d
  else 0

/-! ## Gradient of the merge -/

def s10_7 (F0 F1 F2 F3 F4 F5 F6 : RM) : RM := fun r d => dotT 1024 F0 F1 r d * sigR (F2 r d + F6 0 d)
def s10_8 (F0 F1 F2 F3 F4 F5 F6 : RM) : RM := fun r d => dotT 1024 F0 F1 r d * sigR (F3 r d + F6 1 d)
def s10_a (F0 F1 F2 F3 F4 F5 F6 : RM) : RM := fun r d =>
  dotT 1024 F0 F1 r d * F4 r d * sigR (F2 r d + F6 0 d) * (1 - sigR (F2 r d + F6 0 d))
def s10_b (F0 F1 F2 F3 F4 F5 F6 : RM) : RM := fun r d =>
  dotT 1024 F0 F1 r d * F5 r d * sigR (F3 r d + F6 1 d) * (1 - sigR (F3 r d + F6 1 d))
def s10_9 (F0 F1 F2 F3 F4 F5 F6 : RM) : RM := fun r d =>
  if d < 1024 then s10_a F0 F1 F2 F3 F4 F5 F6 r d else s10_b F0 F1 F2 F3 F4 F5 F6 r (d - 1024)
/-- What the sums over the rows add per row: the two gate biases' gradients. -/
def s10_u (F0 F1 F2 F3 F4 F5 F6 : RM) (q : ℕ) : RM := fun r d =>
  if q = 0 then s10_a F0 F1 F2 F3 F4 F5 F6 r d else if q = 1 then s10_b F0 F1 F2 F3 F4 F5 F6 r d else 0

/-! ## Input gradients of the two branches -/

def s11_2 (F0 F1 : RM) : RM := dotT 1024 F0 F1
def s12_2 (F0 F1 : RM) : RM := dotT 1024 F0 F1

/-- The sums of a run of consecutive blocks of rows, put together. -/
theorem sum_run0 (n J : ℕ) (u : ℕ → ℝ) :
    ∑ s ∈ Finset.range J, ∑ k : Fin n, u (n * (J * 0 + s) + k.val) = ∑ r : Fin (n * J), u r.val := by
  simp only [Nat.mul_zero, Nat.zero_add]
  exact sum_blocks n J u
theorem sum_run (n J q : ℕ) (hJ : 0 < J) (u : ℕ → ℕ → ℝ) :
    ∑ s ∈ Finset.range J, ∑ k : Fin n, u (n * ((J * q + s) % J) + k.val) ((J * q + s) / J) = ∑ r : Fin (n * J), u r.val q := by
  rw [← sum_blocks n J fun r => u r q]
  refine Finset.sum_congr rfl fun s hs => ?_
  have h := Finset.mem_range.mp hs
  rw [Nat.mul_add_mod, Nat.mod_eq_of_lt h, Nat.mul_add_div hJ, Nat.div_eq_of_lt h, Nat.add_zero]

theorem pos_all {c : ℕ → ℕ → Fin 1024 → ℝ} : ∀ r d : ℕ, 0 < (∑ k : Fin 1024, c r d k * c r d k) / 1024 + epsR := fun r d => var_pos (c r d)

/-- A real matrix's entry where a relation between index numbers holds. -/
theorem IsR.at {s : Idealize.ShloMosaic.Shape} {φ : Idealize.ShloMosaic.FTy} {x : Idealize.ShloMosaic.FVec Idealize.ShloMosaic.Ideal s φ} {f : s.Idx → ℝ}
    (h : IsR x f) {i : s.Idx} {v : ℝ} (e : f i = v) : (x i : EReal) = (v : EReal) :=
  (h i).trans (congrArg _ e)

end Cert.Tail

end
-- ==== Proof.Tail.RefDefs.lean ====
/-
  The reference's operations as real functions of the arguments' entries, one definition per arithmetic operation (untrusted).
-/
module

public import proofs.«01_k».proof.Proof.Tail.Spec

@[expose] public section

set_option maxRecDepth 16384

noncomputable section

namespace Cert.Tail

/-- The arguments, as real matrices. -/
structure A where
  a0 : RM
  a1 : RM
  a2 : RM
  a3 : RM
  a4 : RM
  a5 : RM
  a6 : RM
  a7 : RM
  a8 : RM
  a9 : RM
  a10 : RM
  a11 : RM
  a12 : RM
  a13 : RM
  a14 : RM
  a15 : RM
  a16 : RM

def r14 (a : A) (r d : ℕ) : ℝ := a.a3 r d + a.a7 0 d
def r15 (a : A) (r d : ℕ) : ℝ := -(r14 a r d)
def r16 (a : A) (r d : ℕ) : ℝ := Real.exp (r15 a r d)
def r18 (a : A) (r d : ℕ) : ℝ := 1 + r16 a r d
theorem p18 (a : A) (r d : ℕ) : 0 < r18 a r d := add_pos one_pos (Real.exp_pos _)
def r20 (a : A) (r d : ℕ) : ℝ := 1 / r18 a r d
def r22 (a : A) (r d : ℕ) : ℝ := 1 - r20 a r d
def r23 (a : A) (r d : ℕ) : ℝ := r20 a r d * r22 a r d
def r28 (a : A) (r d : ℕ) : ℝ := a.a3 r (1024 + d) + a.a7 1 d
def r29 (a : A) (r d : ℕ) : ℝ := -(r28 a r d)
def r30 (a : A) (r d : ℕ) : ℝ := Real.exp (r29 a r d)
def r32 (a : A) (r d : ℕ) : ℝ := 1 + r30 a r d
theorem p32 (a : A) (r d : ℕ) : 0 < r32 a r d := add_pos one_pos (Real.exp_pos _)
def r34 (a : A) (r d : ℕ) : ℝ := 1 / r32 a r d
def r36 (a : A) (r d : ℕ) : ℝ := 1 - r34 a r d
def r37 (a : A) (r d : ℕ) : ℝ := r34 a r d * r36 a r d
def r38 (a : A) (r d : ℕ) : ℝ := ∑ k : Fin 1280, a.a1 r k.val * a.a5 k.val d
def r39 (a : A) (r d : ℕ) : ℝ := r20 a r d * r38 a r d
def r40 (a : A) (r d : ℕ) : ℝ := ∑ k : Fin 1024, a.a2 r k.val * a.a6 k.val d
def r41 (a : A) (r d : ℕ) : ℝ := r34 a r d * r40 a r d
def r42 (a : A) (r d : ℕ) : ℝ := r39 a r d + r41 a r d
def r43 (a : A) (r d : ℕ) : ℝ := ∑ k : Fin 1024, r42 a r k.val * a.a8 k.val d
def r45 (a : A) (r d : ℕ) : ℝ := alphaR * a.a0 r d
def r47 (a : A) (r d : ℕ) : ℝ := a.a4 2 d * r43 a r d
def r48 (a : A) (r d : ℕ) : ℝ := r45 a r d + r47 a r d
def r49 (a : A) (r d : ℕ) : ℝ := ∑ k : Fin 1024, r48 a r k.val
def r52 (a : A) (r d : ℕ) : ℝ := r49 a r 0 / 1024
def r54 (a : A) (r d : ℕ) : ℝ := r48 a r d - r52 a r 0
def r55 (a : A) (r d : ℕ) : ℝ := r54 a r d * r54 a r d
def r57 (a : A) (r d : ℕ) : ℝ := 2 * r54 a r d
def r58 (a : A) (r d : ℕ) : ℝ := ∑ k : Fin 1024, r55 a r k.val
def r61 (a : A) (r d : ℕ) : ℝ := r58 a r 0 / 1024
def r63 (a : A) (r d : ℕ) : ℝ := r48 a r d - r52 a r 0
def r65 (a : A) (r d : ℕ) : ℝ := r61 a r d + epsR
theorem p65 (a : A) (r d : ℕ) : 0 < r65 a r d := var_pos fun k => r54 a r k.val
def r66 (a : A) (r d : ℕ) : ℝ := (Real.sqrt (r65 a r d))⁻¹
def r67 (a : A) (r d : ℕ) : ℝ := r66 a r d / r65 a r d
def r69 (a : A) (r d : ℕ) : ℝ := (-(1/2)) * r67 a r d
def r71 (a : A) (r d : ℕ) : ℝ := r63 a r d * r66 a r 0
def r73 (a : A) (r d : ℕ) : ℝ := r71 a r d * a.a9 0 d
def r75 (a : A) (r d : ℕ) : ℝ := r73 a r d + a.a10 0 d
def r76 (a : A) (r d : ℕ) : ℝ := ∑ k : Fin 1024, r75 a r k.val
def r79 (a : A) (r d : ℕ) : ℝ := r76 a r 0 / 1024
def r81 (a : A) (r d : ℕ) : ℝ := r75 a r d - r79 a r 0
def r82 (a : A) (r d : ℕ) : ℝ := r81 a r d * r81 a r d
def r84 (a : A) (r d : ℕ) : ℝ := 2 * r81 a r d
def r85 (a : A) (r d : ℕ) : ℝ := ∑ k : Fin 1024, r82 a r k.val
def r88 (a : A) (r d : ℕ) : ℝ := r85 a r 0 / 1024
def r90 (a : A) (r d : ℕ) : ℝ := r75 a r d - r79 a r 0
def r92 (a : A) (r d : ℕ) : ℝ := r88 a r d + epsR
theorem p92 (a : A) (r d : ℕ) : 0 < r92 a r d := var_pos fun k => r81 a r k.val
def r93 (a : A) (r d : ℕ) : ℝ := (Real.sqrt (r92 a r d))⁻¹
def r94 (a : A) (r d : ℕ) : ℝ := r93 a r d / r92 a r d
def r96 (a : A) (r d : ℕ) : ℝ := (-(1/2)) * r94 a r d
def r98 (a : A) (r d : ℕ) : ℝ := r90 a r d * r93 a r 0
def r100 (a : A) (r d : ℕ) : ℝ := 1 + a.a4 4 d
def r102 (a : A) (r d : ℕ) : ℝ := r98 a r d * r100 a 0 d
def r104 (a : A) (r d : ℕ) : ℝ := r102 a r d + a.a4 3 d
def r105 (a : A) (r d : ℕ) : ℝ := ∑ k : Fin 1024, r104 a r k.val * a.a11 k.val d
def rcall0_v0 (a : A) (r d : ℕ) : ℝ := -(r105 a r d)
def rcall0_v1 (a : A) (r d : ℕ) : ℝ := Real.exp (rcall0_v0 a r d)
def rcall0_v3 (a : A) (r d : ℕ) : ℝ := 1 + rcall0_v1 a r d
theorem pcall0_v3 (a : A) (r d : ℕ) : 0 < rcall0_v3 a r d := add_pos one_pos (Real.exp_pos _)
def r106_2 (a : A) (r d : ℕ) : ℝ := 1 / rcall0_v3 a r d
def rcall0_v7 (a : A) (r d : ℕ) : ℝ := 1 - r106_2 a r d
def r106_1 (a : A) (r d : ℕ) : ℝ := r106_2 a r d * rcall0_v7 a r d
def r106_0 (a : A) (r d : ℕ) : ℝ := r105 a r d * r106_2 a r d
def r107 (a : A) (r d : ℕ) : ℝ := ∑ k : Fin 1024, r104 a r k.val * a.a12 k.val d
def r108 (a : A) (r d : ℕ) : ℝ := r106_0 a r d * r107 a r d
def r109 (a : A) (r d : ℕ) : ℝ := ∑ k : Fin 2816, r108 a r k.val * a.a13 k.val d
def r111 (a : A) (r d : ℕ) : ℝ := alphaR * r75 a r d
def r113 (a : A) (r d : ℕ) : ℝ := a.a4 5 d * r109 a r d
def r114 (a : A) (r d : ℕ) : ℝ := r111 a r d + r113 a r d
def r115 (a : A) (r d : ℕ) : ℝ := ∑ k : Fin 1024, r114 a r k.val
def r118 (a : A) (r d : ℕ) : ℝ := r115 a r 0 / 1024
def r120 (a : A) (r d : ℕ) : ℝ := r114 a r d - r118 a r 0
def r121 (a : A) (r d : ℕ) : ℝ := r120 a r d * r120 a r d
def r123 (a : A) (r d : ℕ) : ℝ := 2 * r120 a r d
def r124 (a : A) (r d : ℕ) : ℝ := ∑ k : Fin 1024, r121 a r k.val
def r127 (a : A) (r d : ℕ) : ℝ := r124 a r 0 / 1024
def r129 (a : A) (r d : ℕ) : ℝ := r114 a r d - r118 a r 0
def r131 (a : A) (r d : ℕ) : ℝ := r127 a r d + epsR
theorem p131 (a : A) (r d : ℕ) : 0 < r131 a r d := var_pos fun k => r120 a r k.val
def r132 (a : A) (r d : ℕ) : ℝ := (Real.sqrt (r131 a r d))⁻¹
def r133 (a : A) (r d : ℕ) : ℝ := r132 a r d / r131 a r d
def r135 (a : A) (r d : ℕ) : ℝ := (-(1/2)) * r133 a r d
def r137 (a : A) (r d : ℕ) : ℝ := r129 a r d * r132 a r 0
def r139 (a : A) (r d : ℕ) : ℝ := r137 a r d * a.a14 0 d
def r141 (a : A) (r d : ℕ) : ℝ := r139 a r d + a.a15 0 d
def r142 (a : A) (r d : ℕ) : ℝ := r141 a r d - a.a16 r d
def r143 (a : A) (r d : ℕ) : ℝ := r142 a r d * r142 a r d
def r145 (a : A) (r d : ℕ) : ℝ := 2 * r142 a r d
def r146 (a : A) (r d : ℕ) : ℝ := ∑ k : Fin 1024, r143 a r k.val
def r148 (a : A) (r d : ℕ) : ℝ := r146 a r d / 1024
def r149 (a : A) (r d : ℕ) : ℝ := ∑ k : Fin 16384, r148 a k.val 0
def r150 (a : A) (r d : ℕ) : ℝ := (1/2) * r149 a 0 0
def r151 (a : A) (r d : ℕ) : ℝ := (1/2) * 1
def r154 (a : A) (r d : ℕ) : ℝ := r151 a 0 0 / 1024
def r156 (a : A) (r d : ℕ) : ℝ := r154 a r 0 * r145 a r d
def r157 (a : A) (r d : ℕ) : ℝ := ∑ k : Fin 16384, r156 a k.val r
def r159 (a : A) (r d : ℕ) : ℝ := r137 a r d * r156 a r d
def r160 (a : A) (r d : ℕ) : ℝ := ∑ k : Fin 16384, r159 a k.val r
def r163 (a : A) (r d : ℕ) : ℝ := r156 a r d * a.a14 0 d
def r164 (a : A) (r d : ℕ) : ℝ := r129 a r d * r163 a r d
def r165 (a : A) (r d : ℕ) : ℝ := ∑ k : Fin 1024, r164 a r k.val
def r168 (a : A) (r d : ℕ) : ℝ := r163 a r d * r132 a r 0
def r169 (a : A) (r d : ℕ) : ℝ := r165 a r 0 * r135 a r d
def r170 (a : A) (r d : ℕ) : ℝ := -(r168 a r d)
def r171 (a : A) (r d : ℕ) : ℝ := ∑ k : Fin 1024, r170 a r k.val
def r174 (a : A) (r d : ℕ) : ℝ := r169 a r d / 1024
def r175 (a : A) (r d : ℕ) : ℝ := ∑ k : Fin 1, r174 a r k.val
def r177 (a : A) (r d : ℕ) : ℝ := r175 a r 0 * r123 a r d
def r178 (a : A) (r d : ℕ) : ℝ := -(r177 a r d)
def r179 (a : A) (r d : ℕ) : ℝ := ∑ k : Fin 1024, r178 a r k.val
def r181 (a : A) (r d : ℕ) : ℝ := r168 a r d + r177 a r d
def r182 (a : A) (r d : ℕ) : ℝ := r171 a r 0 + r179 a r 0
def r184 (a : A) (r d : ℕ) : ℝ := r182 a r d / 1024
def r185 (a : A) (r d : ℕ) : ℝ := ∑ k : Fin 1, r184 a r k.val
def r187 (a : A) (r d : ℕ) : ℝ := r181 a r d + r185 a r 0
def r189 (a : A) (r d : ℕ) : ℝ := a.a4 5 d * r187 a r d
def r190 (a : A) (r d : ℕ) : ℝ := r187 a r d * r109 a r d
def r191 (a : A) (r d : ℕ) : ℝ := ∑ k : Fin 16384, r190 a k.val r
def r194 (a : A) (r d : ℕ) : ℝ := alphaR * r187 a r d
def r195 (a : A) (r d : ℕ) : ℝ := ∑ k : Fin 16384, r189 a k.val r * r108 a k.val d
def r197 (a : A) (r d : ℕ) : ℝ := ∑ k : Fin 1024, r189 a r k.val * a.a13 d k.val
def r198 (a : A) (r d : ℕ) : ℝ := r106_0 a r d * r197 a r d
def r199 (a : A) (r d : ℕ) : ℝ := r197 a r d * r107 a r d
def r200 (a : A) (r d : ℕ) : ℝ := ∑ k : Fin 16384, r198 a k.val r * r104 a k.val d
def r202 (a : A) (r d : ℕ) : ℝ := ∑ k : Fin 2816, r198 a r k.val * a.a12 d k.val
def rcall1_v0 (a : A) (r d : ℕ) : ℝ := r105 a r d * r199 a r d
def rcall1_v1 (a : A) (r d : ℕ) : ℝ := r199 a r d * r106_2 a r d
def rcall1_v2 (a : A) (r d : ℕ) : ℝ := rcall1_v0 a r d * r106_1 a r d
def r203 (a : A) (r d : ℕ) : ℝ := rcall1_v1 a r d + rcall1_v2 a r d
def r204 (a : A) (r d : ℕ) : ℝ := ∑ k : Fin 16384, r203 a k.val r * r104 a k.val d
def r206 (a : A) (r d : ℕ) : ℝ := ∑ k : Fin 2816, r203 a r k.val * a.a11 d k.val
def r207 (a : A) (r d : ℕ) : ℝ := r202 a r d + r206 a r d
def r208 (a : A) (r d : ℕ) : ℝ := ∑ k : Fin 16384, r207 a k.val r
def r210 (a : A) (r d : ℕ) : ℝ := r98 a r d * r207 a r d
def r211 (a : A) (r d : ℕ) : ℝ := ∑ k : Fin 16384, r210 a k.val r
def r214 (a : A) (r d : ℕ) : ℝ := r207 a r d * r100 a 0 d
def r215 (a : A) (r d : ℕ) : ℝ := r90 a r d * r214 a r d
def r216 (a : A) (r d : ℕ) : ℝ := ∑ k : Fin 1024, r215 a r k.val
def r219 (a : A) (r d : ℕ) : ℝ := r214 a r d * r93 a r 0
def r220 (a : A) (r d : ℕ) : ℝ := r216 a r 0 * r96 a r d
def r221 (a : A) (r d : ℕ) : ℝ := -(r219 a r d)
def r222 (a : A) (r d : ℕ) : ℝ := ∑ k : Fin 1024, r221 a r k.val
def r224 (a : A) (r d : ℕ) : ℝ := r194 a r d + r219 a r d
def r226 (a : A) (r d : ℕ) : ℝ := r220 a r d / 1024
def r227 (a : A) (r d : ℕ) : ℝ := ∑ k : Fin 1, r226 a r k.val
def r229 (a : A) (r d : ℕ) : ℝ := r227 a r 0 * r84 a r d
def r230 (a : A) (r d : ℕ) : ℝ := -(r229 a r d)
def r231 (a : A) (r d : ℕ) : ℝ := ∑ k : Fin 1024, r230 a r k.val
def r233 (a : A) (r d : ℕ) : ℝ := r224 a r d + r229 a r d
def r234 (a : A) (r d : ℕ) : ℝ := r222 a r 0 + r231 a r 0
def r236 (a : A) (r d : ℕ) : ℝ := r234 a r d / 1024
def r237 (a : A) (r d : ℕ) : ℝ := ∑ k : Fin 1, r236 a r k.val
def r239 (a : A) (r d : ℕ) : ℝ := r233 a r d + r237 a r 0
def r240 (a : A) (r d : ℕ) : ℝ := ∑ k : Fin 16384, r239 a k.val r
def r242 (a : A) (r d : ℕ) : ℝ := r71 a r d * r239 a r d
def r243 (a : A) (r d : ℕ) : ℝ := ∑ k : Fin 16384, r242 a k.val r
def r246 (a : A) (r d : ℕ) : ℝ := r239 a r d * a.a9 0 d
def r247 (a : A) (r d : ℕ) : ℝ := r63 a r d * r246 a r d
def r248 (a : A) (r d : ℕ) : ℝ := ∑ k : Fin 1024, r247 a r k.val
def r251 (a : A) (r d : ℕ) : ℝ := r246 a r d * r66 a r 0
def r252 (a : A) (r d : ℕ) : ℝ := r248 a r 0 * r69 a r d
def r253 (a : A) (r d : ℕ) : ℝ := -(r251 a r d)
def r254 (a : A) (r d : ℕ) : ℝ := ∑ k : Fin 1024, r253 a r k.val
def r257 (a : A) (r d : ℕ) : ℝ := r252 a r d / 1024
def r258 (a : A) (r d : ℕ) : ℝ := ∑ k : Fin 1, r257 a r k.val
def r260 (a : A) (r d : ℕ) : ℝ := r258 a r 0 * r57 a r d
def r261 (a : A) (r d : ℕ) : ℝ := -(r260 a r d)
def r262 (a : A) (r d : ℕ) : ℝ := ∑ k : Fin 1024, r261 a r k.val
def r264 (a : A) (r d : ℕ) : ℝ := r251 a r d + r260 a r d
def r265 (a : A) (r d : ℕ) : ℝ := r254 a r 0 + r262 a r 0
def r267 (a : A) (r d : ℕ) : ℝ := r265 a r d / 1024
def r268 (a : A) (r d : ℕ) : ℝ := ∑ k : Fin 1, r267 a r k.val
def r270 (a : A) (r d : ℕ) : ℝ := r264 a r d + r268 a r 0
def r272 (a : A) (r d : ℕ) : ℝ := a.a4 2 d * r270 a r d
def r273 (a : A) (r d : ℕ) : ℝ := r270 a r d * r43 a r d
def r274 (a : A) (r d : ℕ) : ℝ := ∑ k : Fin 16384, r273 a k.val r
def r277 (a : A) (r d : ℕ) : ℝ := alphaR * r270 a r d
def r278 (a : A) (r d : ℕ) : ℝ := ∑ k : Fin 16384, r272 a k.val r * r42 a k.val d
def r280 (a : A) (r d : ℕ) : ℝ := ∑ k : Fin 1024, r272 a r k.val * a.a8 d k.val
def r281 (a : A) (r d : ℕ) : ℝ := r34 a r d * r280 a r d
def r282 (a : A) (r d : ℕ) : ℝ := r280 a r d * r40 a r d
def r283 (a : A) (r d : ℕ) : ℝ := ∑ k : Fin 16384, r281 a k.val r * a.a2 k.val d
def r285 (a : A) (r d : ℕ) : ℝ := ∑ k : Fin 1024, r281 a r k.val * a.a6 d k.val
def r286 (a : A) (r d : ℕ) : ℝ := r20 a r d * r280 a r d
def r287 (a : A) (r d : ℕ) : ℝ := r280 a r d * r38 a r d
def r288 (a : A) (r d : ℕ) : ℝ := ∑ k : Fin 16384, r286 a k.val r * a.a1 k.val d
def r290 (a : A) (r d : ℕ) : ℝ := ∑ k : Fin 1024, r286 a r k.val * a.a5 d k.val
def r291 (a : A) (r d : ℕ) : ℝ := r282 a r d * r37 a r d
def r292 (a : A) (r d : ℕ) : ℝ := ∑ k : Fin 16384, r291 a k.val r
def r294 (a : A) (r d : ℕ) : ℝ := ∑ k : Fin 1, r292 a r 0
def r296 (a : A) (r d : ℕ) : ℝ := if r = 0 then 0 else r294 a d 0
def r297 (a : A) (r d : ℕ) : ℝ := r287 a r d * r23 a r d
def r298 (a : A) (r d : ℕ) : ℝ := ∑ k : Fin 16384, r297 a k.val r
def r300 (a : A) (r d : ℕ) : ℝ := ∑ k : Fin 1, r298 a r 0
def r302 (a : A) (r d : ℕ) : ℝ := if r = 0 then r300 a d 0 else 0
def r303 (a : A) (r d : ℕ) : ℝ := r296 a r d + r302 a r d
def r304 (a : A) (r d : ℕ) : ℝ := if d < 1024 then r297 a r d else r291 a r (d - 1024)
def r306 (a : A) (r d : ℕ) : ℝ := if r = 0 then r274 a d 0 else if r = 1 then r208 a d 0 else if r = 2 then r211 a d 0 else r191 a d 0
def r307 (a : A) (r d : ℕ) : ℝ := if r = 0 then r243 a d 0 else r240 a d 0
def r308 (a : A) (r d : ℕ) : ℝ := if r = 0 then r160 a d 0 else r157 a d 0

end Cert.Tail

end
-- ==== Proof.Tail.RefIsrA.lean ====
/-
  The reference's operations on real arguments, to the loss (untrusted).
-/
module

public import proofs.«01_k».proof.Proof.Gen.ReferenceIdeal.Read
public import proofs.«01_k».proof.Proof.Tail.DotsR
public import proofs.«01_k».proof.Proof.Tail.Lay
public import proofs.«01_k».proof.Proof.Tail.RefDefs

@[expose] public section

set_option maxRecDepth 16384

noncomputable section

open Idealize.ShloMosaic

namespace Cert.Tail

open Cert.ReferenceIdeal Cert.ReferenceIdeal.Gen Cert.ReferenceIdeal.Read

/-- The arguments of the reference are real matrices. -/
structure Hyp (x0 : FVec Ideal S16384x1024 .f32) (x1 : FVec Ideal S16384x1280 .bf16) (x2 : FVec Ideal S16384x1024 .bf16) (x3 : FVec Ideal S16384x2048 .bf16) (x4 : FVec Ideal S6x1024 .f32) (x5 : FVec Ideal S1280x1024 .f32) (x6 : FVec Ideal S1024x1024 .f32) (x7 : FVec Ideal S2x1024 .f32) (x8 : FVec Ideal S1024x1024 .f32) (x9 : FVec Ideal S1x1024 .f32) (x10 : FVec Ideal S1x1024 .f32) (x11 : FVec Ideal S1024x2816 .f32) (x12 : FVec Ideal S1024x2816 .f32) (x13 : FVec Ideal S2816x1024 .f32) (x14 : FVec Ideal S1x1024 .f32) (x15 : FVec Ideal S1x1024 .f32) (x16 : FVec Ideal S16384x1024 .f32) (a : A) : Prop where
  h0 : IsR x0 (N2 a.a0)
  h1 : IsR x1 (N2 a.a1)
  h2 : IsR x2 (N2 a.a2)
  h3 : IsR x3 (N2 a.a3)
  h4 : IsR x4 (N2 a.a4)
  h5 : IsR x5 (N2 a.a5)
  h6 : IsR x6 (N2 a.a6)
  h7 : IsR x7 (N2 a.a7)
  h8 : IsR x8 (N2 a.a8)
  h9 : IsR x9 (N2 a.a9)
  h10 : IsR x10 (N2 a.a10)
  h11 : IsR x11 (N2 a.a11)
  h12 : IsR x12 (N2 a.a12)
  h13 : IsR x13 (N2 a.a13)
  h14 : IsR x14 (N2 a.a14)
  h15 : IsR x15 (N2 a.a15)
  h16 : IsR x16 (N2 a.a16)

variable {x0 : FVec Ideal S16384x1024 .f32} {x1 : FVec Ideal S16384x1280 .bf16} {x2 : FVec Ideal S16384x1024 .bf16} {x3 : FVec Ideal S16384x2048 .bf16} {x4 : FVec Ideal S6x1024 .f32} {x5 : FVec Ideal S1280x1024 .f32} {x6 : FVec Ideal S1024x1024 .f32} {x7 : FVec Ideal S2x1024 .f32} {x8 : FVec Ideal S1024x1024 .f32} {x9 : FVec Ideal S1x1024 .f32} {x10 : FVec Ideal S1x1024 .f32} {x11 : FVec Ideal S1024x2816 .f32} {x12 : FVec Ideal S1024x2816 .f32} {x13 : FVec Ideal S2816x1024 .f32} {x14 : FVec Ideal S1x1024 .f32} {x15 : FVec Ideal S1x1024 .f32} {x16 : FVec Ideal S16384x1024 .f32} {a : A}
variable (H : Hyp x0 x1 x2 x3 x4 x5 x6 x7 x8 x9 x10 x11 x12 x13 x14 x15 x16 a)
include H

theorem i0 : T 16384 1024 .bf16 (val_main_v0 (F := Ideal) x3) a.a3 := (isr_slice00 H.h3 slices_S16384x2048_S16384x1024_0_0).congr fun _ => rfl
theorem i1 : T 16384 1024 .f32 (val_main_v1 (F := Ideal) x3) a.a3 := (isr_ext bitsLt_bf16_f32 (i0 H)).congr fun _ => rfl
theorem i2 : T 16384 1024 .bf16 (val_main_v2 (F := Ideal) x3) (fun r d => a.a3 r (1024 + d)) := (isr_slice_col (q := 1024) H.h3 slices_S16384x2048_S16384x1024_0_1024).congr fun _ => rfl
theorem i3 : T 16384 1024 .f32 (val_main_v3 (F := Ideal) x3) (fun r d => a.a3 r (1024 + d)) := (isr_ext bitsLt_bf16_f32 (i2 H)).congr fun _ => rfl
theorem i4 : T 16384 1280 .f32 (val_main_v4 (F := Ideal) x1) a.a1 := (isr_ext bitsLt_bf16_f32 H.h1).congr fun _ => rfl
theorem i5 : T 16384 1024 .f32 (val_main_v5 (F := Ideal) x2) a.a2 := (isr_ext bitsLt_bf16_f32 H.h2).congr fun _ => rfl
theorem i6 : T 1 1024 .f32 (val_main_v6 (F := Ideal) x4) (fun r d => a.a4 2 d) := (isr_slice_row (p := 2) H.h4 slices_S6x1024_S1x1024_2_0).congr fun _ => rfl
theorem i7 : T 1 1024 .f32 (val_main_v7 (F := Ideal) x4) (fun r d => a.a4 3 d) := (isr_slice_row (p := 3) H.h4 slices_S6x1024_S1x1024_3_0).congr fun _ => rfl
theorem i8 : T 1 1024 .f32 (val_main_v8 (F := Ideal) x4) (fun r d => a.a4 4 d) := (isr_slice_row (p := 4) H.h4 slices_S6x1024_S1x1024_4_0).congr fun _ => rfl
theorem i9 : T 1 1024 .f32 (val_main_v9 (F := Ideal) x4) (fun r d => a.a4 5 d) := (isr_slice_row (p := 5) H.h4 slices_S6x1024_S1x1024_5_0).congr fun _ => rfl
theorem i10 : T 1 1024 .f32 (val_main_v10 (F := Ideal) x7) (fun r d => a.a7 0 d) := (isr_slice_row (p := 0) H.h7 slices_S2x1024_S1x1024_0_0).congr fun _ => rfl
theorem i11 : IsR (s := S1024) (φ := .f32) (val_main_v11 (F := Ideal) x7) (N1 fun r d => a.a7 0 r) := (isr_uncast_row (i10 H) shapeCasts_S1x1024_S1024).congr fun _ => rfl
theorem i12 : T 1 1024 .f32 (val_main_v12 (F := Ideal) x7) (fun r d => a.a7 0 d) := (isr_bid_d1 (i11 H) bcast_S1024_S1x1024_1).congr fun _ => rfl
theorem i13 : T 16384 1024 .f32 (val_main_v13 (F := Ideal) x7) (fun r d => a.a7 0 d) := (isr_bid_row (i12 H) bcast_S1x1024_S16384x1024_0_1).congr fun _ => rfl
theorem i14 : T 16384 1024 .f32 (val_main_v14 (F := Ideal) x3 x7) (r14 a) := (isr_add (i1 H) (i13 H)).congr fun _ => rfl
theorem i15 : T 16384 1024 .f32 (val_main_v15 (F := Ideal) x3 x7) (r15 a) := (isr_neg (i14 H)).congr fun _ => rfl
theorem i16 : T 16384 1024 .f32 (val_main_v16 (F := Ideal) x3 x7) (r16 a) := (isr_exp (i15 H)).congr fun _ => rfl
theorem icst : IsR (s := S_) (φ := .f32) (val_main_cst (F := Ideal)) (fun _ => 1) := (isr_const lit_one).congr fun _ => rfl
theorem i17 : T 16384 1024 .f32 (val_main_v17 (F := Ideal)) (fun r d => 1) := (isr_bid0 (icst H) ![] bcast_S_S16384x1024).congr fun _ => rfl
theorem i18 : T 16384 1024 .f32 (val_main_v18 (F := Ideal) x3 x7) (r18 a) := (isr_add (i17 H) (i16 H)).congr fun _ => rfl
theorem icst_0 : IsR (s := S_) (φ := .f32) (val_main_cst_0 (F := Ideal)) (fun _ => 1) := (isr_const lit_one).congr fun _ => rfl
theorem i19 : T 16384 1024 .f32 (val_main_v19 (F := Ideal)) (fun r d => 1) := (isr_bid0 (icst_0 H) ![] bcast_S_S16384x1024).congr fun _ => rfl
theorem i20 : T 16384 1024 .f32 (val_main_v20 (F := Ideal) x3 x7) (r20 a) := (isr_hdiv (i19 H) (i18 H) (fun i => (p18 a _ _).ne')).congr fun _ => rfl
theorem icst_1 : IsR (s := S_) (φ := .f32) (val_main_cst_1 (F := Ideal)) (fun _ => 1) := (isr_const lit_one).congr fun _ => rfl
theorem i21 : T 16384 1024 .f32 (val_main_v21 (F := Ideal)) (fun r d => 1) := (isr_bid0 (icst_1 H) ![] bcast_S_S16384x1024).congr fun _ => rfl
theorem i22 : T 16384 1024 .f32 (val_main_v22 (F := Ideal) x3 x7) (r22 a) := (isr_sub (i21 H) (i20 H)).congr fun _ => rfl
theorem i23 : T 16384 1024 .f32 (val_main_v23 (F := Ideal) x3 x7) (r23 a) := (isr_mul (i20 H) (i22 H)).congr fun _ => rfl
theorem i24 : T 1 1024 .f32 (val_main_v24 (F := Ideal) x7) (fun r d => a.a7 1 d) := (isr_slice_row (p := 1) H.h7 slices_S2x1024_S1x1024_1_0).congr fun _ => rfl
theorem i25 : IsR (s := S1024) (φ := .f32) (val_main_v25 (F := Ideal) x7) (N1 fun r d => a.a7 1 r) := (isr_uncast_row (i24 H) shapeCasts_S1x1024_S1024).congr fun _ => rfl
theorem i26 : T 1 1024 .f32 (val_main_v26 (F := Ideal) x7) (fun r d => a.a7 1 d) := (isr_bid_d1 (i25 H) bcast_S1024_S1x1024_1).congr fun _ => rfl
theorem i27 : T 16384 1024 .f32 (val_main_v27 (F := Ideal) x7) (fun r d => a.a7 1 d) := (isr_bid_row (i26 H) bcast_S1x1024_S16384x1024_0_1).congr fun _ => rfl
theorem i28 : T 16384 1024 .f32 (val_main_v28 (F := Ideal) x3 x7) (r28 a) := (isr_add (i3 H) (i27 H)).congr fun _ => rfl
theorem i29 : T 16384 1024 .f32 (val_main_v29 (F := Ideal) x3 x7) (r29 a) := (isr_neg (i28 H)).congr fun _ => rfl
theorem i30 : T 16384 1024 .f32 (val_main_v30 (F := Ideal) x3 x7) (r30 a) := (isr_exp (i29 H)).congr fun _ => rfl
theorem icst_2 : IsR (s := S_) (φ := .f32) (val_main_cst_2 (F := Ideal)) (fun _ => 1) := (isr_const lit_one).congr fun _ => rfl
theorem i31 : T 16384 1024 .f32 (val_main_v31 (F := Ideal)) (fun r d => 1) := (isr_bid0 (icst_2 H) ![] bcast_S_S16384x1024).congr fun _ => rfl
theorem i32 : T 16384 1024 .f32 (val_main_v32 (F := Ideal) x3 x7) (r32 a) := (isr_add (i31 H) (i30 H)).congr fun _ => rfl
theorem icst_3 : IsR (s := S_) (φ := .f32) (val_main_cst_3 (F := Ideal)) (fun _ => 1) := (isr_const lit_one).congr fun _ => rfl
theorem i33 : T 16384 1024 .f32 (val_main_v33 (F := Ideal)) (fun r d => 1) := (isr_bid0 (icst_3 H) ![] bcast_S_S16384x1024).congr fun _ => rfl
theorem i34 : T 16384 1024 .f32 (val_main_v34 (F := Ideal) x3 x7) (r34 a) := (isr_hdiv (i33 H) (i32 H) (fun i => (p32 a _ _).ne')).congr fun _ => rfl
theorem icst_4 : IsR (s := S_) (φ := .f32) (val_main_cst_4 (F := Ideal)) (fun _ => 1) := (isr_const lit_one).congr fun _ => rfl
theorem i35 : T 16384 1024 .f32 (val_main_v35 (F := Ideal)) (fun r d => 1) := (isr_bid0 (icst_4 H) ![] bcast_S_S16384x1024).congr fun _ => rfl
theorem i36 : T 16384 1024 .f32 (val_main_v36 (F := Ideal) x3 x7) (r36 a) := (isr_sub (i35 H) (i34 H)).congr fun _ => rfl
theorem i37 : T 16384 1024 .f32 (val_main_v37 (F := Ideal) x3 x7) (r37 a) := (isr_mul (i34 H) (i36 H)).congr fun _ => rfl
theorem i38 : T 16384 1024 .f32 (val_main_v38 (F := Ideal) x1 x5) (r38 a) := (ish_S16384x1280_S1280x1024_S16384x1024_1_0_0_1_n_n (i4 H) H.h5).congr fun _ => rfl
theorem i39 : T 16384 1024 .f32 (val_main_v39 (F := Ideal) x1 x3 x5 x7) (r39 a) := (isr_mul (i20 H) (i38 H)).congr fun _ => rfl
theorem i40 : T 16384 1024 .f32 (val_main_v40 (F := Ideal) x2 x6) (r40 a) := (ish_S16384x1024_S1024x1024_S16384x1024_1_0_0_1_n_n (i5 H) H.h6).congr fun _ => rfl
theorem i41 : T 16384 1024 .f32 (val_main_v41 (F := Ideal) x2 x3 x6 x7) (r41 a) := (isr_mul (i34 H) (i40 H)).congr fun _ => rfl
theorem i42 : T 16384 1024 .f32 (val_main_v42 (F := Ideal) x1 x2 x3 x5 x6 x7) (r42 a) := (isr_add (i39 H) (i41 H)).congr fun _ => rfl
theorem i43 : T 16384 1024 .f32 (val_main_v43 (F := Ideal) x1 x2 x3 x5 x6 x7 x8) (r43 a) := (ish_S16384x1024_S1024x1024_S16384x1024_1_0_0_1_n_n (i42 H) H.h8).congr fun _ => rfl
theorem icst_5 : IsR (s := S_) (φ := .f32) (val_main_cst_5 (F := Ideal)) (fun _ => alphaR) := (isr_const lit_alpha).congr fun _ => rfl
theorem i44 : T 16384 1024 .f32 (val_main_v44 (F := Ideal)) (fun r d => alphaR) := (isr_bid0 (icst_5 H) ![] bcast_S_S16384x1024).congr fun _ => rfl
theorem i45 : T 16384 1024 .f32 (val_main_v45 (F := Ideal) x0) (r45 a) := (isr_mul (i44 H) H.h0).congr fun _ => rfl
theorem i46 : T 16384 1024 .f32 (val_main_v46 (F := Ideal) x4) (fun r d => a.a4 2 d) := (isr_bid_row (i6 H) bcast_S1x1024_S16384x1024_0_1).congr fun _ => rfl
theorem i47 : T 16384 1024 .f32 (val_main_v47 (F := Ideal) x1 x2 x3 x4 x5 x6 x7 x8) (r47 a) := (isr_mul (i46 H) (i43 H)).congr fun _ => rfl
theorem i48 : T 16384 1024 .f32 (val_main_v48 (F := Ideal) x0 x1 x2 x3 x4 x5 x6 x7 x8) (r48 a) := (isr_add (i45 H) (i47 H)).congr fun _ => rfl
theorem icst_6 : IsR (s := S_) (φ := .f32) (val_main_cst_6 (F := Ideal)) (fun _ => 0) := (isr_const lit_zero).congr fun _ => rfl
theorem i49 : IsR (s := S16384) (φ := .f32) (val_main_v49 (F := Ideal) x0 x1 x2 x3 x4 x5 x6 x7 x8) (N1 fun r d => r49 a r 0) := (isr_hred1 (i48 H) (icst_6 H) reducesTo_S16384x1024_S16384_d1 h_S_).congr fun _ => rfl
theorem i50 : T 16384 1 .f32 (val_main_v50 (F := Ideal) x0 x1 x2 x3 x4 x5 x6 x7 x8) (fun r d => r49 a r 0) := (isr_bid_d0 (i49 H) bcast_S16384_S16384x1_0).congr fun _ => rfl
theorem icst_7 : IsR (s := S_) (φ := .f32) (val_main_cst_7 (F := Ideal)) (fun _ => 1024) := (isr_const lit_lanes).congr fun _ => rfl
theorem i51 : T 16384 1 .f32 (val_main_v51 (F := Ideal)) (fun r d => 1024) := (isr_bid0 (icst_7 H) ![] bcast_S_S16384x1).congr fun _ => rfl
theorem i52 : T 16384 1 .f32 (val_main_v52 (F := Ideal) x0 x1 x2 x3 x4 x5 x6 x7 x8) (r52 a) := (isr_hdiv (i50 H) (i51 H) (fun _ => by norm_num)).congr fun _ => rfl
theorem i53 : T 16384 1024 .f32 (val_main_v53 (F := Ideal) x0 x1 x2 x3 x4 x5 x6 x7 x8) (fun r d => r52 a r 0) := (isr_bid_col (i52 H) bcast_S16384x1_S16384x1024_0_1).congr fun _ => rfl
theorem i54 : T 16384 1024 .f32 (val_main_v54 (F := Ideal) x0 x1 x2 x3 x4 x5 x6 x7 x8) (r54 a) := (isr_sub (i48 H) (i53 H)).congr fun _ => rfl
theorem i55 : T 16384 1024 .f32 (val_main_v55 (F := Ideal) x0 x1 x2 x3 x4 x5 x6 x7 x8) (r55 a) := (isr_mul (i54 H) (i54 H)).congr fun _ => rfl
theorem icst_8 : IsR (s := S_) (φ := .f32) (val_main_cst_8 (F := Ideal)) (fun _ => 2) := (isr_const lit_two).congr fun _ => rfl
theorem i56 : T 16384 1024 .f32 (val_main_v56 (F := Ideal)) (fun r d => 2) := (isr_bid0 (icst_8 H) ![] bcast_S_S16384x1024).congr fun _ => rfl
theorem i57 : T 16384 1024 .f32 (val_main_v57 (F := Ideal) x0 x1 x2 x3 x4 x5 x6 x7 x8) (r57 a) := (isr_mul (i56 H) (i54 H)).congr fun _ => rfl
theorem icst_9 : IsR (s := S_) (φ := .f32) (val_main_cst_9 (F := Ideal)) (fun _ => 0) := (isr_const lit_zero).congr fun _ => rfl
theorem i58 : IsR (s := S16384) (φ := .f32) (val_main_v58 (F := Ideal) x0 x1 x2 x3 x4 x5 x6 x7 x8) (N1 fun r d => r58 a r 0) := (isr_hred1 (i55 H) (icst_9 H) reducesTo_S16384x1024_S16384_d1 h_S_).congr fun _ => rfl
theorem i59 : T 16384 1 .f32 (val_main_v59 (F := Ideal) x0 x1 x2 x3 x4 x5 x6 x7 x8) (fun r d => r58 a r 0) := (isr_bid_d0 (i58 H) bcast_S16384_S16384x1_0).congr fun _ => rfl
theorem icst_10 : IsR (s := S_) (φ := .f32) (val_main_cst_10 (F := Ideal)) (fun _ => 1024) := (isr_const lit_lanes).congr fun _ => rfl
theorem i60 : T 16384 1 .f32 (val_main_v60 (F := Ideal)) (fun r d => 1024) := (isr_bid0 (icst_10 H) ![] bcast_S_S16384x1).congr fun _ => rfl
theorem i61 : T 16384 1 .f32 (val_main_v61 (F := Ideal) x0 x1 x2 x3 x4 x5 x6 x7 x8) (r61 a) := (isr_hdiv (i59 H) (i60 H) (fun _ => by norm_num)).congr fun _ => rfl
theorem i62 : T 16384 1024 .f32 (val_main_v62 (F := Ideal) x0 x1 x2 x3 x4 x5 x6 x7 x8) (fun r d => r52 a r 0) := (isr_bid_col (i52 H) bcast_S16384x1_S16384x1024_0_1).congr fun _ => rfl
theorem i63 : T 16384 1024 .f32 (val_main_v63 (F := Ideal) x0 x1 x2 x3 x4 x5 x6 x7 x8) (r63 a) := (isr_sub (i48 H) (i62 H)).congr fun _ => rfl
theorem icst_11 : IsR (s := S_) (φ := .f32) (val_main_cst_11 (F := Ideal)) (fun _ => epsR) := (isr_const lit_eps).congr fun _ => rfl
theorem i64 : T 16384 1 .f32 (val_main_v64 (F := Ideal)) (fun r d => epsR) := (isr_bid0 (icst_11 H) ![] bcast_S_S16384x1).congr fun _ => rfl
theorem i65 : T 16384 1 .f32 (val_main_v65 (F := Ideal) x0 x1 x2 x3 x4 x5 x6 x7 x8) (r65 a) := (isr_add (i61 H) (i64 H)).congr fun _ => rfl
theorem i66 : T 16384 1 .f32 (val_main_v66 (F := Ideal) x0 x1 x2 x3 x4 x5 x6 x7 x8) (r66 a) := (isr_hrsqrt (i65 H) (fun i => p65 a _ _)).congr fun _ => rfl
theorem i67 : T 16384 1 .f32 (val_main_v67 (F := Ideal) x0 x1 x2 x3 x4 x5 x6 x7 x8) (r67 a) := (isr_hdiv (i66 H) (i65 H) (fun i => (p65 a _ _).ne')).congr fun _ => rfl
theorem icst_12 : IsR (s := S_) (φ := .f32) (val_main_cst_12 (F := Ideal)) (fun _ => (-(1/2))) := (isr_const lit_nhalf).congr fun _ => rfl
theorem i68 : T 16384 1 .f32 (val_main_v68 (F := Ideal)) (fun r d => (-(1/2))) := (isr_bid0 (icst_12 H) ![] bcast_S_S16384x1).congr fun _ => rfl
theorem i69 : T 16384 1 .f32 (val_main_v69 (F := Ideal) x0 x1 x2 x3 x4 x5 x6 x7 x8) (r69 a) := (isr_mul (i68 H) (i67 H)).congr fun _ => rfl
theorem i70 : T 16384 1024 .f32 (val_main_v70 (F := Ideal) x0 x1 x2 x3 x4 x5 x6 x7 x8) (fun r d => r66 a r 0) := (isr_bid_col (i66 H) bcast_S16384x1_S16384x1024_0_1).congr fun _ => rfl
theorem i71 : T 16384 1024 .f32 (val_main_v71 (F := Ideal) x0 x1 x2 x3 x4 x5 x6 x7 x8) (r71 a) := (isr_mul (i63 H) (i70 H)).congr fun _ => rfl
theorem i72 : T 16384 1024 .f32 (val_main_v72 (F := Ideal) x9) (fun r d => a.a9 0 d) := (isr_bid_row H.h9 bcast_S1x1024_S16384x1024_0_1).congr fun _ => rfl
theorem i73 : T 16384 1024 .f32 (val_main_v73 (F := Ideal) x0 x1 x2 x3 x4 x5 x6 x7 x8 x9) (r73 a) := (isr_mul (i71 H) (i72 H)).congr fun _ => rfl
theorem i74 : T 16384 1024 .f32 (val_main_v74 (F := Ideal) x10) (fun r d => a.a10 0 d) := (isr_bid_row H.h10 bcast_S1x1024_S16384x1024_0_1).congr fun _ => rfl
theorem i75 : T 16384 1024 .f32 (val_main_v75 (F := Ideal) x0 x1 x2 x3 x4 x5 x6 x7 x8 x9 x10) (r75 a) := (isr_add (i73 H) (i74 H)).congr fun _ => rfl
theorem icst_13 : IsR (s := S_) (φ := .f32) (val_main_cst_13 (F := Ideal)) (fun _ => 0) := (isr_const lit_zero).congr fun _ => rfl
theorem i76 : IsR (s := S16384) (φ := .f32) (val_main_v76 (F := Ideal) x0 x1 x2 x3 x4 x5 x6 x7 x8 x9 x10) (N1 fun r d => r76 a r 0) := (isr_hred1 (i75 H) (icst_13 H) reducesTo_S16384x1024_S16384_d1 h_S_).congr fun _ => rfl
theorem i77 : T 16384 1 .f32 (val_main_v77 (F := Ideal) x0 x1 x2 x3 x4 x5 x6 x7 x8 x9 x10) (fun r d => r76 a r 0) := (isr_bid_d0 (i76 H) bcast_S16384_S16384x1_0).congr fun _ => rfl
theorem icst_14 : IsR (s := S_) (φ := .f32) (val_main_cst_14 (F := Ideal)) (fun _ => 1024) := (isr_const lit_lanes).congr fun _ => rfl
theorem i78 : T 16384 1 .f32 (val_main_v78 (F := Ideal)) (fun r d => 1024) := (isr_bid0 (icst_14 H) ![] bcast_S_S16384x1).congr fun _ => rfl
theorem i79 : T 16384 1 .f32 (val_main_v79 (F := Ideal) x0 x1 x2 x3 x4 x5 x6 x7 x8 x9 x10) (r79 a) := (isr_hdiv (i77 H) (i78 H) (fun _ => by norm_num)).congr fun _ => rfl
theorem i80 : T 16384 1024 .f32 (val_main_v80 (F := Ideal) x0 x1 x2 x3 x4 x5 x6 x7 x8 x9 x10) (fun r d => r79 a r 0) := (isr_bid_col (i79 H) bcast_S16384x1_S16384x1024_0_1).congr fun _ => rfl
theorem i81 : T 16384 1024 .f32 (val_main_v81 (F := Ideal) x0 x1 x2 x3 x4 x5 x6 x7 x8 x9 x10) (r81 a) := (isr_sub (i75 H) (i80 H)).congr fun _ => rfl
theorem i82 : T 16384 1024 .f32 (val_main_v82 (F := Ideal) x0 x1 x2 x3 x4 x5 x6 x7 x8 x9 x10) (r82 a) := (isr_mul (i81 H) (i81 H)).congr fun _ => rfl
theorem icst_15 : IsR (s := S_) (φ := .f32) (val_main_cst_15 (F := Ideal)) (fun _ => 2) := (isr_const lit_two).congr fun _ => rfl
theorem i83 : T 16384 1024 .f32 (val_main_v83 (F := Ideal)) (fun r d => 2) := (isr_bid0 (icst_15 H) ![] bcast_S_S16384x1024).congr fun _ => rfl
theorem i84 : T 16384 1024 .f32 (val_main_v84 (F := Ideal) x0 x1 x2 x3 x4 x5 x6 x7 x8 x9 x10) (r84 a) := (isr_mul (i83 H) (i81 H)).congr fun _ => rfl
theorem icst_16 : IsR (s := S_) (φ := .f32) (val_main_cst_16 (F := Ideal)) (fun _ => 0) := (isr_const lit_zero).congr fun _ => rfl
theorem i85 : IsR (s := S16384) (φ := .f32) (val_main_v85 (F := Ideal) x0 x1 x2 x3 x4 x5 x6 x7 x8 x9 x10) (N1 fun r d => r85 a r 0) := (isr_hred1 (i82 H) (icst_16 H) reducesTo_S16384x1024_S16384_d1 h_S_).congr fun _ => rfl
theorem i86 : T 16384 1 .f32 (val_main_v86 (F := Ideal) x0 x1 x2 x3 x4 x5 x6 x7 x8 x9 x10) (fun r d => r85 a r 0) := (isr_bid_d0 (i85 H) bcast_S16384_S16384x1_0).congr fun _ => rfl
theorem icst_17 : IsR (s := S_) (φ := .f32) (val_main_cst_17 (F := Ideal)) (fun _ => 1024) := (isr_const lit_lanes).congr fun _ => rfl
theorem i87 : T 16384 1 .f32 (val_main_v87 (F := Ideal)) (fun r d => 1024) := (isr_bid0 (icst_17 H) ![] bcast_S_S16384x1).congr fun _ => rfl
theorem i88 : T 16384 1 .f32 (val_main_v88 (F := Ideal) x0 x1 x2 x3 x4 x5 x6 x7 x8 x9 x10) (r88 a) := (isr_hdiv (i86 H) (i87 H) (fun _ => by norm_num)).congr fun _ => rfl
theorem i89 : T 16384 1024 .f32 (val_main_v89 (F := Ideal) x0 x1 x2 x3 x4 x5 x6 x7 x8 x9 x10) (fun r d => r79 a r 0) := (isr_bid_col (i79 H) bcast_S16384x1_S16384x1024_0_1).congr fun _ => rfl
theorem i90 : T 16384 1024 .f32 (val_main_v90 (F := Ideal) x0 x1 x2 x3 x4 x5 x6 x7 x8 x9 x10) (r90 a) := (isr_sub (i75 H) (i89 H)).congr fun _ => rfl
theorem icst_18 : IsR (s := S_) (φ := .f32) (val_main_cst_18 (F := Ideal)) (fun _ => epsR) := (isr_const lit_eps).congr fun _ => rfl
theorem i91 : T 16384 1 .f32 (val_main_v91 (F := Ideal)) (fun r d => epsR) := (isr_bid0 (icst_18 H) ![] bcast_S_S16384x1).congr fun _ => rfl
theorem i92 : T 16384 1 .f32 (val_main_v92 (F := Ideal) x0 x1 x2 x3 x4 x5 x6 x7 x8 x9 x10) (r92 a) := (isr_add (i88 H) (i91 H)).congr fun _ => rfl
theorem i93 : T 16384 1 .f32 (val_main_v93 (F := Ideal) x0 x1 x2 x3 x4 x5 x6 x7 x8 x9 x10) (r93 a) := (isr_hrsqrt (i92 H) (fun i => p92 a _ _)).congr fun _ => rfl
theorem i94 : T 16384 1 .f32 (val_main_v94 (F := Ideal) x0 x1 x2 x3 x4 x5 x6 x7 x8 x9 x10) (r94 a) := (isr_hdiv (i93 H) (i92 H) (fun i => (p92 a _ _).ne')).congr fun _ => rfl
theorem icst_19 : IsR (s := S_) (φ := .f32) (val_main_cst_19 (F := Ideal)) (fun _ => (-(1/2))) := (isr_const lit_nhalf).congr fun _ => rfl
theorem i95 : T 16384 1 .f32 (val_main_v95 (F := Ideal)) (fun r d => (-(1/2))) := (isr_bid0 (icst_19 H) ![] bcast_S_S16384x1).congr fun _ => rfl
theorem i96 : T 16384 1 .f32 (val_main_v96 (F := Ideal) x0 x1 x2 x3 x4 x5 x6 x7 x8 x9 x10) (r96 a) := (isr_mul (i95 H) (i94 H)).congr fun _ => rfl
theorem i97 : T 16384 1024 .f32 (val_main_v97 (F := Ideal) x0 x1 x2 x3 x4 x5 x6 x7 x8 x9 x10) (fun r d => r93 a r 0) := (isr_bid_col (i93 H) bcast_S16384x1_S16384x1024_0_1).congr fun _ => rfl
theorem i98 : T 16384 1024 .f32 (val_main_v98 (F := Ideal) x0 x1 x2 x3 x4 x5 x6 x7 x8 x9 x10) (r98 a) := (isr_mul (i90 H) (i97 H)).congr fun _ => rfl
theorem icst_20 : IsR (s := S_) (φ := .f32) (val_main_cst_20 (F := Ideal)) (fun _ => 1) := (isr_const lit_one).congr fun _ => rfl
theorem i99 : T 1 1024 .f32 (val_main_v99 (F := Ideal)) (fun r d => 1) := (isr_bid0 (icst_20 H) ![] bcast_S_S1x1024).congr fun _ => rfl
theorem i100 : T 1 1024 .f32 (val_main_v100 (F := Ideal) x4) (r100 a) := (isr_add (i99 H) (i8 H)).congr fun _ => rfl
theorem i101 : T 16384 1024 .f32 (val_main_v101 (F := Ideal) x4) (fun r d => r100 a 0 d) := (isr_bid_row (i100 H) bcast_S1x1024_S16384x1024_0_1).congr fun _ => rfl
theorem i102 : T 16384 1024 .f32 (val_main_v102 (F := Ideal) x0 x1 x2 x3 x4 x5 x6 x7 x8 x9 x10) (r102 a) := (isr_mul (i98 H) (i101 H)).congr fun _ => rfl
theorem i103 : T 16384 1024 .f32 (val_main_v103 (F := Ideal) x4) (fun r d => a.a4 3 d) := (isr_bid_row (i7 H) bcast_S1x1024_S16384x1024_0_1).congr fun _ => rfl
theorem i104 : T 16384 1024 .f32 (val_main_v104 (F := Ideal) x0 x1 x2 x3 x4 x5 x6 x7 x8 x9 x10) (r104 a) := (isr_add (i102 H) (i103 H)).congr fun _ => rfl
theorem i105 : T 16384 2816 .f32 (val_main_v105 (F := Ideal) x0 x1 x2 x3 x4 x5 x6 x7 x8 x9 x10 x11) (r105 a) := (ish_S16384x1024_S1024x2816_S16384x2816_1_0_0_1_n_n (i104 H) H.h11).congr fun _ => rfl
theorem icall0_v0 : T 16384 2816 .f32 (val_main_call0_v0 (F := Ideal) x0 x1 x2 x3 x4 x5 x6 x7 x8 x9 x10 x11) (rcall0_v0 a) := (isr_neg (i105 H)).congr fun _ => rfl
theorem icall0_v1 : T 16384 2816 .f32 (val_main_call0_v1 (F := Ideal) x0 x1 x2 x3 x4 x5 x6 x7 x8 x9 x10 x11) (rcall0_v1 a) := (isr_exp (icall0_v0 H)).congr fun _ => rfl
theorem icall0_cst : IsR (s := S_) (φ := .f32) (val_main_call0_cst (F := Ideal)) (fun _ => 1) := (isr_const lit_one).congr fun _ => rfl
theorem icall0_v2 : T 16384 2816 .f32 (val_main_call0_v2 (F := Ideal)) (fun r d => 1) := (isr_bid0 (icall0_cst H) ![] bcast_S_S16384x2816).congr fun _ => rfl
theorem icall0_v3 : T 16384 2816 .f32 (val_main_call0_v3 (F := Ideal) x0 x1 x2 x3 x4 x5 x6 x7 x8 x9 x10 x11) (rcall0_v3 a) := (isr_add (icall0_v2 H) (icall0_v1 H)).congr fun _ => rfl
theorem icall0_cst_0 : IsR (s := S_) (φ := .f32) (val_main_call0_cst_0 (F := Ideal)) (fun _ => 1) := (isr_const lit_one).congr fun _ => rfl
theorem icall0_v4 : T 16384 2816 .f32 (val_main_call0_v4 (F := Ideal)) (fun r d => 1) := (isr_bid0 (icall0_cst_0 H) ![] bcast_S_S16384x2816).congr fun _ => rfl
theorem i106_2 : T 16384 2816 .f32 (val_main_v106_2 (F := Ideal) x0 x1 x2 x3 x4 x5 x6 x7 x8 x9 x10 x11) (r106_2 a) := (isr_hdiv (icall0_v4 H) (icall0_v3 H) (fun i => (pcall0_v3 a _ _).ne')).congr fun _ => rfl
theorem icall0_cst_1 : IsR (s := S_) (φ := .f32) (val_main_call0_cst_1 (F := Ideal)) (fun _ => 1) := (isr_const lit_one).congr fun _ => rfl
theorem icall0_v6 : T 16384 2816 .f32 (val_main_call0_v6 (F := Ideal)) (fun r d => 1) := (isr_bid0 (icall0_cst_1 H) ![] bcast_S_S16384x2816).congr fun _ => rfl
theorem icall0_v7 : T 16384 2816 .f32 (val_main_call0_v7 (F := Ideal) x0 x1 x2 x3 x4 x5 x6 x7 x8 x9 x10 x11) (rcall0_v7 a) := (isr_sub (icall0_v6 H) (i106_2 H)).congr fun _ => rfl
theorem i106_1 : T 16384 2816 .f32 (val_main_v106_1 (F := Ideal) x0 x1 x2 x3 x4 x5 x6 x7 x8 x9 x10 x11) (r106_1 a) := (isr_mul (i106_2 H) (icall0_v7 H)).congr fun _ => rfl
theorem i106_0 : T 16384 2816 .f32 (val_main_v106_0 (F := Ideal) x0 x1 x2 x3 x4 x5 x6 x7 x8 x9 x10 x11) (r106_0 a) := (isr_mul (i105 H) (i106_2 H)).congr fun _ => rfl
theorem i107 : T 16384 2816 .f32 (val_main_v107 (F := Ideal) x0 x1 x2 x3 x4 x5 x6 x7 x8 x9 x10 x12) (r107 a) := (ish_S16384x1024_S1024x2816_S16384x2816_1_0_0_1_n_n (i104 H) H.h12).congr fun _ => rfl
theorem i108 : T 16384 2816 .f32 (val_main_v108 (F := Ideal) x0 x1 x2 x3 x4 x5 x6 x7 x8 x9 x10 x11 x12) (r108 a) := (isr_mul (i106_0 H) (i107 H)).congr fun _ => rfl
theorem i109 : T 16384 1024 .f32 (val_main_v109 (F := Ideal) x0 x1 x2 x3 x4 x5 x6 x7 x8 x9 x10 x11 x12 x13) (r109 a) := (ish_S16384x2816_S2816x1024_S16384x1024_1_0_0_1_n_n (i108 H) H.h13).congr fun _ => rfl
theorem icst_21 : IsR (s := S_) (φ := .f32) (val_main_cst_21 (F := Ideal)) (fun _ => alphaR) := (isr_const lit_alpha).congr fun _ => rfl
theorem i110 : T 16384 1024 .f32 (val_main_v110 (F := Ideal)) (fun r d => alphaR) := (isr_bid0 (icst_21 H) ![] bcast_S_S16384x1024).congr fun _ => rfl
theorem i111 : T 16384 1024 .f32 (val_main_v111 (F := Ideal) x0 x1 x2 x3 x4 x5 x6 x7 x8 x9 x10) (r111 a) := (isr_mul (i110 H) (i75 H)).congr fun _ => rfl
theorem i112 : T 16384 1024 .f32 (val_main_v112 (F := Ideal) x4) (fun r d => a.a4 5 d) := (isr_bid_row (i9 H) bcast_S1x1024_S16384x1024_0_1).congr fun _ => rfl
theorem i113 : T 16384 1024 .f32 (val_main_v113 (F := Ideal) x0 x1 x2 x3 x4 x5 x6 x7 x8 x9 x10 x11 x12 x13) (r113 a) := (isr_mul (i112 H) (i109 H)).congr fun _ => rfl
theorem i114 : T 16384 1024 .f32 (val_main_v114 (F := Ideal) x0 x1 x2 x3 x4 x5 x6 x7 x8 x9 x10 x11 x12 x13) (r114 a) := (isr_add (i111 H) (i113 H)).congr fun _ => rfl
theorem icst_22 : IsR (s := S_) (φ := .f32) (val_main_cst_22 (F := Ideal)) (fun _ => 0) := (isr_const lit_zero).congr fun _ => rfl
theorem i115 : IsR (s := S16384) (φ := .f32) (val_main_v115 (F := Ideal) x0 x1 x2 x3 x4 x5 x6 x7 x8 x9 x10 x11 x12 x13) (N1 fun r d => r115 a r 0) := (isr_hred1 (i114 H) (icst_22 H) reducesTo_S16384x1024_S16384_d1 h_S_).congr fun _ => rfl
theorem i116 : T 16384 1 .f32 (val_main_v116 (F := Ideal) x0 x1 x2 x3 x4 x5 x6 x7 x8 x9 x10 x11 x12 x13) (fun r d => r115 a r 0) := (isr_bid_d0 (i115 H) bcast_S16384_S16384x1_0).congr fun _ => rfl
theorem icst_23 : IsR (s := S_) (φ := .f32) (val_main_cst_23 (F := Ideal)) (fun _ => 1024) := (isr_const lit_lanes).congr fun _ => rfl
theorem i117 : T 16384 1 .f32 (val_main_v117 (F := Ideal)) (fun r d => 1024) := (isr_bid0 (icst_23 H) ![] bcast_S_S16384x1).congr fun _ => rfl
theorem i118 : T 16384 1 .f32 (val_main_v118 (F := Ideal) x0 x1 x2 x3 x4 x5 x6 x7 x8 x9 x10 x11 x12 x13) (r118 a) := (isr_hdiv (i116 H) (i117 H) (fun _ => by norm_num)).congr fun _ => rfl
theorem i119 : T 16384 1024 .f32 (val_main_v119 (F := Ideal) x0 x1 x2 x3 x4 x5 x6 x7 x8 x9 x10 x11 x12 x13) (fun r d => r118 a r 0) := (isr_bid_col (i118 H) bcast_S16384x1_S16384x1024_0_1).congr fun _ => rfl
theorem i120 : T 16384 1024 .f32 (val_main_v120 (F := Ideal) x0 x1 x2 x3 x4 x5 x6 x7 x8 x9 x10 x11 x12 x13) (r120 a) := (isr_sub (i114 H) (i119 H)).congr fun _ => rfl
theorem i121 : T 16384 1024 .f32 (val_main_v121 (F := Ideal) x0 x1 x2 x3 x4 x5 x6 x7 x8 x9 x10 x11 x12 x13) (r121 a) := (isr_mul (i120 H) (i120 H)).congr fun _ => rfl
theorem icst_24 : IsR (s := S_) (φ := .f32) (val_main_cst_24 (F := Ideal)) (fun _ => 2) := (isr_const lit_two).congr fun _ => rfl
theorem i122 : T 16384 1024 .f32 (val_main_v122 (F := Ideal)) (fun r d => 2) := (isr_bid0 (icst_24 H) ![] bcast_S_S16384x1024).congr fun _ => rfl
theorem i123 : T 16384 1024 .f32 (val_main_v123 (F := Ideal) x0 x1 x2 x3 x4 x5 x6 x7 x8 x9 x10 x11 x12 x13) (r123 a) := (isr_mul (i122 H) (i120 H)).congr fun _ => rfl
theorem icst_25 : IsR (s := S_) (φ := .f32) (val_main_cst_25 (F := Ideal)) (fun _ => 0) := (isr_const lit_zero).congr fun _ => rfl
theorem i124 : IsR (s := S16384) (φ := .f32) (val_main_v124 (F := Ideal) x0 x1 x2 x3 x4 x5 x6 x7 x8 x9 x10 x11 x12 x13) (N1 fun r d => r124 a r 0) := (isr_hred1 (i121 H) (icst_25 H) reducesTo_S16384x1024_S16384_d1 h_S_).congr fun _ => rfl
theorem i125 : T 16384 1 .f32 (val_main_v125 (F := Ideal) x0 x1 x2 x3 x4 x5 x6 x7 x8 x9 x10 x11 x12 x13) (fun r d => r124 a r 0) := (isr_bid_d0 (i124 H) bcast_S16384_S16384x1_0).congr fun _ => rfl
theorem icst_26 : IsR (s := S_) (φ := .f32) (val_main_cst_26 (F := Ideal)) (fun _ => 1024) := (isr_const lit_lanes).congr fun _ => rfl
theorem i126 : T 16384 1 .f32 (val_main_v126 (F := Ideal)) (fun r d => 1024) := (isr_bid0 (icst_26 H) ![] bcast_S_S16384x1).congr fun _ => rfl
theorem i127 : T 16384 1 .f32 (val_main_v127 (F := Ideal) x0 x1 x2 x3 x4 x5 x6 x7 x8 x9 x10 x11 x12 x13) (r127 a) := (isr_hdiv (i125 H) (i126 H) (fun _ => by norm_num)).congr fun _ => rfl
theorem i128 : T 16384 1024 .f32 (val_main_v128 (F := Ideal) x0 x1 x2 x3 x4 x5 x6 x7 x8 x9 x10 x11 x12 x13) (fun r d => r118 a r 0) := (isr_bid_col (i118 H) bcast_S16384x1_S16384x1024_0_1).congr fun _ => rfl
theorem i129 : T 16384 1024 .f32 (val_main_v129 (F := Ideal) x0 x1 x2 x3 x4 x5 x6 x7 x8 x9 x10 x11 x12 x13) (r129 a) := (isr_sub (i114 H) (i128 H)).congr fun _ => rfl
theorem icst_27 : IsR (s := S_) (φ := .f32) (val_main_cst_27 (F := Ideal)) (fun _ => epsR) := (isr_const lit_eps).congr fun _ => rfl
theorem i130 : T 16384 1 .f32 (val_main_v130 (F := Ideal)) (fun r d => epsR) := (isr_bid0 (icst_27 H) ![] bcast_S_S16384x1).congr fun _ => rfl
theorem i131 : T 16384 1 .f32 (val_main_v131 (F := Ideal) x0 x1 x2 x3 x4 x5 x6 x7 x8 x9 x10 x11 x12 x13) (r131 a) := (isr_add (i127 H) (i130 H)).congr fun _ => rfl
theorem i132 : T 16384 1 .f32 (val_main_v132 (F := Ideal) x0 x1 x2 x3 x4 x5 x6 x7 x8 x9 x10 x11 x12 x13) (r132 a) := (isr_hrsqrt (i131 H) (fun i => p131 a _ _)).congr fun _ => rfl
theorem i133 : T 16384 1 .f32 (val_main_v133 (F := Ideal) x0 x1 x2 x3 x4 x5 x6 x7 x8 x9 x10 x11 x12 x13) (r133 a) := (isr_hdiv (i132 H) (i131 H) (fun i => (p131 a _ _).ne')).congr fun _ => rfl
theorem icst_28 : IsR (s := S_) (φ := .f32) (val_main_cst_28 (F := Ideal)) (fun _ => (-(1/2))) := (isr_const lit_nhalf).congr fun _ => rfl
theorem i134 : T 16384 1 .f32 (val_main_v134 (F := Ideal)) (fun r d => (-(1/2))) := (isr_bid0 (icst_28 H) ![] bcast_S_S16384x1).congr fun _ => rfl
theorem i135 : T 16384 1 .f32 (val_main_v135 (F := Ideal) x0 x1 x2 x3 x4 x5 x6 x7 x8 x9 x10 x11 x12 x13) (r135 a) := (isr_mul (i134 H) (i133 H)).congr fun _ => rfl
theorem i136 : T 16384 1024 .f32 (val_main_v136 (F := Ideal) x0 x1 x2 x3 x4 x5 x6 x7 x8 x9 x10 x11 x12 x13) (fun r d => r132 a r 0) := (isr_bid_col (i132 H) bcast_S16384x1_S16384x1024_0_1).congr fun _ => rfl
theorem i137 : T 16384 1024 .f32 (val_main_v137 (F := Ideal) x0 x1 x2 x3 x4 x5 x6 x7 x8 x9 x10 x11 x12 x13) (r137 a) := (isr_mul (i129 H) (i136 H)).congr fun _ => rfl
theorem i138 : T 16384 1024 .f32 (val_main_v138 (F := Ideal) x14) (fun r d => a.a14 0 d) := (isr_bid_row H.h14 bcast_S1x1024_S16384x1024_0_1).congr fun _ => rfl
theorem i139 : T 16384 1024 .f32 (val_main_v139 (F := Ideal) x0 x1 x2 x3 x4 x5 x6 x7 x8 x9 x10 x11 x12 x13 x14) (r139 a) := (isr_mul (i137 H) (i138 H)).congr fun _ => rfl
theorem i140 : T 16384 1024 .f32 (val_main_v140 (F := Ideal) x15) (fun r d => a.a15 0 d) := (isr_bid_row H.h15 bcast_S1x1024_S16384x1024_0_1).congr fun _ => rfl
theorem i141 : T 16384 1024 .f32 (val_main_v141 (F := Ideal) x0 x1 x2 x3 x4 x5 x6 x7 x8 x9 x10 x11 x12 x13 x14 x15) (r141 a) := (isr_add (i139 H) (i140 H)).congr fun _ => rfl
theorem i142 : T 16384 1024 .f32 (val_main_v142 (F := Ideal) x0 x1 x2 x3 x4 x5 x6 x7 x8 x9 x10 x11 x12 x13 x14 x15 x16) (r142 a) := (isr_sub (i141 H) H.h16).congr fun _ => rfl
theorem i143 : T 16384 1024 .f32 (val_main_v143 (F := Ideal) x0 x1 x2 x3 x4 x5 x6 x7 x8 x9 x10 x11 x12 x13 x14 x15 x16) (r143 a) := (isr_mul (i142 H) (i142 H)).congr fun _ => rfl
theorem icst_29 : IsR (s := S_) (φ := .f32) (val_main_cst_29 (F := Ideal)) (fun _ => 2) := (isr_const lit_two).congr fun _ => rfl
theorem i144 : T 16384 1024 .f32 (val_main_v144 (F := Ideal)) (fun r d => 2) := (isr_bid0 (icst_29 H) ![] bcast_S_S16384x1024).congr fun _ => rfl
theorem i145 : T 16384 1024 .f32 (val_main_v145 (F := Ideal) x0 x1 x2 x3 x4 x5 x6 x7 x8 x9 x10 x11 x12 x13 x14 x15 x16) (r145 a) := (isr_mul (i144 H) (i142 H)).congr fun _ => rfl
theorem icst_30 : IsR (s := S_) (φ := .f32) (val_main_cst_30 (F := Ideal)) (fun _ => 0) := (isr_const lit_zero).congr fun _ => rfl
theorem i146 : IsR (s := S16384) (φ := .f32) (val_main_v146 (F := Ideal) x0 x1 x2 x3 x4 x5 x6 x7 x8 x9 x10 x11 x12 x13 x14 x15 x16) (N1 fun r d => r146 a r 0) := (isr_hred1 (i143 H) (icst_30 H) reducesTo_S16384x1024_S16384_d1 h_S_).congr fun _ => rfl
theorem icst_31 : IsR (s := S_) (φ := .f32) (val_main_cst_31 (F := Ideal)) (fun _ => 1024) := (isr_const lit_lanes).congr fun _ => rfl
theorem i147 : IsR (s := S16384) (φ := .f32) (val_main_v147 (F := Ideal)) (N1 fun r d => 1024) := (isr_bid0 (icst_31 H) ![] bcast_S_S16384).congr fun _ => rfl
theorem i148 : IsR (s := S16384) (φ := .f32) (val_main_v148 (F := Ideal) x0 x1 x2 x3 x4 x5 x6 x7 x8 x9 x10 x11 x12 x13 x14 x15 x16) (N1 fun r d => r148 a r 0) := (isr_hdiv (i146 H) (i147 H) (fun _ => by norm_num)).congr fun _ => rfl
theorem icst_32 : IsR (s := S_) (φ := .f32) (val_main_cst_32 (F := Ideal)) (fun _ => 0) := (isr_const lit_zero).congr fun _ => rfl
theorem i149 : IsR (s := S_) (φ := .f32) (val_main_v149 (F := Ideal) x0 x1 x2 x3 x4 x5 x6 x7 x8 x9 x10 x11 x12 x13 x14 x15 x16) (fun _ => r149 a 0 0) := (isr_hredall (i148 H) (icst_32 H) reducesTo_S16384_S_d0 h_S_).congr fun _ => rfl
theorem icst_33 : IsR (s := S_) (φ := .f32) (val_main_cst_33 (F := Ideal)) (fun _ => (1/2)) := (isr_const lit_half).congr fun _ => rfl
theorem i150 : IsR (s := S_) (φ := .f32) (val_main_v150 (F := Ideal) x0 x1 x2 x3 x4 x5 x6 x7 x8 x9 x10 x11 x12 x13 x14 x15 x16) (fun _ => r150 a 0 0) := (isr_mul (icst_33 H) (i149 H)).congr fun _ => rfl

end Cert.Tail

end
-- ==== Proof.Tail.Args.lean ====
/-
  Finite arguments are real matrices (untrusted): what the precondition says of every argument, and the matrices.
-/
module

public import proofs.«01_k».proof.Proof.Shared.Finite
public import proofs.«01_k».proof.Proof.Gen.Pre_finite
public import proofs.«01_k».proof.Proof.Tail.RefIsrA

@[expose] public section

set_option maxRecDepth 16384

noncomputable section

open Idealize.ShloMosaic

namespace Cert.Tail

open Cert.Proof.Real Cert.Pre_finite

instance : Cert.Pre_finite.Facts := Cert.Pre_finite.Gen.facts

/-- The real matrix an array of real numbers is. -/
def toR {n k : ℕ} {φ : FTy} (x : FVec Ideal ⟨2, ![n, k]⟩ φ) : RM := fun r d =>
  if h : r < n ∧ d < k then (x (ValueIdx.ix2 ⟨r, h.1⟩ ⟨d, h.2⟩) : EReal).toReal else 0

theorem isr_toR {n k : ℕ} {φ : FTy} (x : FVec Ideal ⟨2, ![n, k]⟩ φ) (h : ∀ i, ∃ r : ℝ, x i = (r : EReal)) :
    IsR x (N2 (toR x)) := fun i => by
  obtain ⟨r, hr⟩ := h i
  have e : ValueIdx.ix2 (⟨(i 0).val, (i 0).isLt⟩ : Fin n) (⟨(i 1).val, (i 1).isLt⟩ : Fin k) = i := by
    funext a
    match a with
    | 0 => rfl
    | 1 => rfl
  have e2 : N2 (a := n) (b := k) (toR x) i = r := by
    show (if h : (i 0).val < n ∧ (i 1).val < k then _ else _ : ℝ) = r
    rw [dif_pos ⟨(i 0).isLt, (i 1).isLt⟩]
    exact (congrArg (fun j => (x j : EReal).toReal) e).trans ((congrArg EReal.toReal hr).trans (EReal.toReal_coe r))
  rw [e2]
  exact hr

/-- The arguments' matrices. -/
def toA (x0 : FVec Ideal S16384x1024 .f32) (x1 : FVec Ideal S16384x1280 .bf16) (x2 : FVec Ideal S16384x1024 .bf16) (x3 : FVec Ideal S16384x2048 .bf16) (x4 : FVec Ideal S6x1024 .f32) (x5 : FVec Ideal S1280x1024 .f32) (x6 : FVec Ideal S1024x1024 .f32) (x7 : FVec Ideal S2x1024 .f32) (x8 : FVec Ideal S1024x1024 .f32) (x9 : FVec Ideal S1x1024 .f32) (x10 : FVec Ideal S1x1024 .f32) (x11 : FVec Ideal S1024x2816 .f32) (x12 : FVec Ideal S1024x2816 .f32) (x13 : FVec Ideal S2816x1024 .f32) (x14 : FVec Ideal S1x1024 .f32) (x15 : FVec Ideal S1x1024 .f32) (x16 : FVec Ideal S16384x1024 .f32) : A :=
  ⟨toR x0, toR x1, toR x2, toR x3, toR x4, toR x5, toR x6, toR x7, toR x8, toR x9, toR x10, toR x11, toR x12, toR x13, toR x14, toR x15, toR x16⟩

theorem hyp_of_finite (x0 : FVec Ideal S16384x1024 .f32) (x1 : FVec Ideal S16384x1280 .bf16) (x2 : FVec Ideal S16384x1024 .bf16) (x3 : FVec Ideal S16384x2048 .bf16) (x4 : FVec Ideal S6x1024 .f32) (x5 : FVec Ideal S1280x1024 .f32) (x6 : FVec Ideal S1024x1024 .f32) (x7 : FVec Ideal S2x1024 .f32) (x8 : FVec Ideal S1024x1024 .f32) (x9 : FVec Ideal S1x1024 .f32) (x10 : FVec Ideal S1x1024 .f32) (x11 : FVec Ideal S1024x2816 .f32) (x12 : FVec Ideal S1024x2816 .f32) (x13 : FVec Ideal S2816x1024 .f32) (x14 : FVec Ideal S1x1024 .f32) (x15 : FVec Ideal S1x1024 .f32) (x16 : FVec Ideal S16384x1024 .f32)
    (h : Cert.Pre_finite.fn (F := Ideal) x0 x1 x2 x3 x4 x5 x6 x7 x8 x9 x10 x11 x12 x13 x14 x15 x16 = fun _ => 1#1) : Hyp x0 x1 x2 x3 x4 x5 x6 x7 x8 x9 x10 x11 x12 x13 x14 x15 x16 (toA x0 x1 x2 x3 x4 x5 x6 x7 x8 x9 x10 x11 x12 x13 x14 x15 x16) := by
  have g17 := congrFun h ValueIdx.ix0
  obtain ⟨g16, e16⟩ := andi_one g17
  obtain ⟨g15, e15⟩ := andi_one g16
  obtain ⟨g14, e14⟩ := andi_one g15
  obtain ⟨g13, e13⟩ := andi_one g14
  obtain ⟨g12, e12⟩ := andi_one g13
  obtain ⟨g11, e11⟩ := andi_one g12
  obtain ⟨g10, e10⟩ := andi_one g11
  obtain ⟨g9, e9⟩ := andi_one g10
  obtain ⟨g8, e8⟩ := andi_one g9
  obtain ⟨g7, e7⟩ := andi_one g8
  obtain ⟨g6, e6⟩ := andi_one g7
  obtain ⟨g5, e5⟩ := andi_one g6
  obtain ⟨g4, e4⟩ := andi_one g5
  obtain ⟨g3, e3⟩ := andi_one g4
  obtain ⟨g2, e2⟩ := andi_one g3
  obtain ⟨g1, e1⟩ := andi_one g2
  obtain ⟨g0, e0⟩ := andi_one g1
  exact ⟨isr_toR x0 (finite_f32 _ _ _ _ _ _ e0),
    isr_toR x1 (finite_bf16 _ _ _ _ _ _ _ e1),
    isr_toR x2 (finite_bf16 _ _ _ _ _ _ _ e2),
    isr_toR x3 (finite_bf16 _ _ _ _ _ _ _ e3),
    isr_toR x4 (finite_f32 _ _ _ _ _ _ e4),
    isr_toR x5 (finite_f32 _ _ _ _ _ _ e5),
    isr_toR x6 (finite_f32 _ _ _ _ _ _ e6),
    isr_toR x7 (finite_f32 _ _ _ _ _ _ e7),
    isr_toR x8 (finite_f32 _ _ _ _ _ _ e8),
    isr_toR x9 (finite_f32 _ _ _ _ _ _ e9),
    isr_toR x10 (finite_f32 _ _ _ _ _ _ e10),
    isr_toR x11 (finite_f32 _ _ _ _ _ _ e11),
    isr_toR x12 (finite_f32 _ _ _ _ _ _ e12),
    isr_toR x13 (finite_f32 _ _ _ _ _ _ e13),
    isr_toR x14 (finite_f32 _ _ _ _ _ _ e14),
    isr_toR x15 (finite_f32 _ _ _ _ _ _ e15),
    isr_toR x16 (finite_f32 _ _ _ _ _ _ e16)⟩

end Cert.Tail

end
-- ==== Proof.Tail.Run.lean ====
/-
  One run of the kernel's program (untrusted): it ends with every result at the last boundary's contents and every
  argument as launched.
-/
module

public import proofs.«01_k».proof.Proof.Gen.KernelIdeal.Frame

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unfolding plain definitions
set_option backward.isDefEq.respectTransparency.types false in
theorem run : θ_run defs (onTc (τ := τ) (main (F := F))) ⟨m, fun _ => 0, ρ⟩ (fun r => ∀ c : Dev nD,
      r.2.mem ((c.tc : Thread nD τ).loc main_v31) = W17 m ρ c (Proc.devRef .tc main_v31)
      ∧ r.2.mem ((c.tc : Thread nD τ).loc main_v22_0) = W17 m ρ c (Proc.devRef .tc main_v22_0)
      ∧ r.2.mem ((c.tc : Thread nD τ).loc main_v25) = W17 m ρ c (Proc.devRef .tc main_v25)
      ∧ r.2.mem ((c.tc : Thread nD τ).loc main_v26) = W17 m ρ c (Proc.devRef .tc main_v26)
      ∧ r.2.mem ((c.tc : Thread nD τ).loc main_v24_2) = W17 m ρ c (Proc.devRef .tc main_v24_2)
      ∧ r.2.mem ((c.tc : Thread nD τ).loc main_v36) = W17 m ρ c (Proc.devRef .tc main_v36)
      ∧ r.2.mem ((c.tc : Thread nD τ).loc main_v27) = W17 m ρ c (Proc.devRef .tc main_v27)
      ∧ r.2.mem ((c.tc : Thread nD τ).loc main_v28) = W17 m ρ c (Proc.devRef .tc main_v28)
      ∧ r.2.mem ((c.tc : Thread nD τ).loc main_v37) = W17 m ρ c (Proc.devRef .tc main_v37)
      ∧ r.2.mem ((c.tc : Thread nD τ).loc main_v23) = W17 m ρ c (Proc.devRef .tc main_v23)
      ∧ r.2.mem ((c.tc : Thread nD τ).loc main_v38) = W17 m ρ c (Proc.devRef .tc main_v38)
      ∧ r.2.mem ((c.tc : Thread nD τ).loc main_v20) = W17 m ρ c (Proc.devRef .tc main_v20)
      ∧ r.2.mem ((c.tc : Thread nD τ).loc main_v21) = W17 m ρ c (Proc.devRef .tc main_v21)
      ∧ r.2.mem ((c.tc : Thread nD τ).loc main_v18) = W17 m ρ c (Proc.devRef .tc main_v18)
      ∧ r.2.mem ((c.tc : Thread nD τ).loc main_v39) = W17 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ c =>
      ⟨h c _ (mem_uc main_v31 (by decide)),
       h c _ (mem_uc main_v22_0 (by decide)),
       h c _ (mem_uc main_v25 (by decide)),
       h c _ (mem_uc main_v26 (by decide)),
       h c _ (mem_uc main_v24_2 (by decide)),
       h c _ (mem_uc main_v36 (by decide)),
       h c _ (mem_uc main_v27 (by decide)),
       h c _ (mem_uc main_v28 (by decide)),
       h c _ (mem_uc main_v37 (by decide)),
       h c _ (mem_uc main_v23 (by decide)),
       h c _ (mem_uc main_v38 (by decide)),
       h c _ (mem_uc main_v20 (by decide)),
       h c _ (mem_uc main_v21 (by decide)),
       h c _ (mem_uc main_v18 (by decide)),
       h c _ (mem_uc main_v39 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c)⟩)

end Cert.KernelIdeal.Tail

end
-- ==== Proof.Tail.Chain.lean ====
/-
  What every call of the step leaves, as a real function of the step's arguments (untrusted): each call's formula at the
  matrices the calls before it leave.
-/
module

public import proofs.«01_k».proof.Proof.Tail.RefDefs

@[expose] public section

noncomputable section

namespace Cert.Tail

/-! ## The rows the host joins -/
def md (a : A) : RM := fun r d => if r < 6 then a.a4 r d else 0
def bg (a : A) : RM := fun r d => if r < 2 then a.a7 r d else 0
def l1 (a : A) : RM := fun r d => if r = 0 then a.a9 0 d else if r = 1 then a.a10 0 d else 0
def l2 (a : A) : RM := fun r d => if r = 0 then a.a14 0 d else if r = 1 then a.a15 0 d else 0
/-- The second half of the gates' columns. -/
def gb (a : A) : RM := fun r d => a.a3 r (1024 + d)

/-! ## The calls' results, in order -/
def k14_0 (a : A) : RM := s0_7 a.a1 a.a5 a.a2 a.a6 a.a3 (gb a) (bg a)
def k14_1 (a : A) : RM := s0_8 a.a1 a.a5 a.a2 a.a6 a.a3 (gb a) (bg a)
def k14_2 (a : A) : RM := s0_9 a.a1 a.a5 a.a2 a.a6 a.a3 (gb a) (bg a)
def k15_0 (a : A) : RM := s1_5 (k14_2 a) a.a8 a.a0 (md a) (l1 a)
def k15_1 (a : A) : RM := s1_6 (k14_2 a) a.a8 a.a0 (md a) (l1 a)
def k15_2 (a : A) : RM := s1_7 (k14_2 a) a.a8 a.a0 (md a) (l1 a)
def k16_0 (a : A) : RM := s2_4 (k15_2 a) a.a11 (k15_2 a) a.a12
def k16_1 (a : A) : RM := s2_5 (k15_2 a) a.a11 (k15_2 a) a.a12
def k16_2 (a : A) : RM := s2_6 (k15_2 a) a.a11 (k15_2 a) a.a12
def k17_0 (a : A) : RM := s3_6 (k16_2 a) a.a13 (k15_1 a) a.a16 (md a) (l2 a)
def k17_1 (a : A) : RM := s3_7 (k16_2 a) a.a13 (k15_1 a) a.a16 (md a) (l2 a)
def k17_2 (a : A) : RM := fun q d => ∑ r : Fin 16384, s3_u (k16_2 a) a.a13 (k15_1 a) a.a16 (md a) (l2 a) q r.val d
def k18 (a : A) : RM := dotL 16384 (k16_2 a) (k17_1 a)
def k19_0 (a : A) : RM := s5_4 (k17_1 a) a.a13 (k16_0 a) (k16_1 a)
def k19_1 (a : A) : RM := s5_5 (k17_1 a) a.a13 (k16_0 a) (k16_1 a)
def k20 (a : A) : RM := dotL 16384 (k15_2 a) (k19_0 a)
def k21 (a : A) : RM := dotL 16384 (k15_2 a) (k19_1 a)
def k22_0 (a : A) : RM := s8_9 (k19_0 a) a.a11 (k19_1 a) a.a12 a.a0 (k15_0 a) (k17_0 a) (md a) (l1 a)
def k22_1 (a : A) : RM := s8_10 (k19_0 a) a.a11 (k19_1 a) a.a12 a.a0 (k15_0 a) (k17_0 a) (md a) (l1 a)
def k22_2 (a : A) : RM := fun q d =>
  ∑ r : Fin 16384, s8_u (k19_0 a) a.a11 (k19_1 a) a.a12 a.a0 (k15_0 a) (k17_0 a) (md a) (l1 a) q r.val d
def k23 (a : A) : RM := dotL 16384 (k14_2 a) (k22_1 a)
def k24_0 (a : A) : RM := s10_7 (k22_1 a) a.a8 a.a3 (gb a) (k14_0 a) (k14_1 a) (bg a)
def k24_1 (a : A) : RM := s10_8 (k22_1 a) a.a8 a.a3 (gb a) (k14_0 a) (k14_1 a) (bg a)
def k24_2 (a : A) : RM := s10_9 (k22_1 a) a.a8 a.a3 (gb a) (k14_0 a) (k14_1 a) (bg a)
def k24_3 (a : A) : RM := fun q d => ∑ r : Fin 16384, s10_u (k22_1 a) a.a8 a.a3 (gb a) (k14_0 a) (k14_1 a) (bg a) q r.val d
def k25 (a : A) : RM := s11_2 (k24_0 a) a.a5
def k26 (a : A) : RM := s12_2 (k24_1 a) a.a6
def k27 (a : A) : RM := dotL 16384 a.a1 (k24_0 a)
def k28 (a : A) : RM := dotL 16384 a.a2 (k24_1 a)

end Cert.Tail

end
-- ==== Proof.Tail.DotsK.lean ====
/-
  The matrix products of the kernel on vectors of real numbers (untrusted): each is the sum of products of the real entries.
-/
module

public import proofs.«01_k».proof.Proof.Gen.KernelIdeal.Skeleton
public import proofs.«01_k».proof.Proof.Tail.Isr

@[expose] public section

set_option maxRecDepth 16384

noncomputable section

open Idealize.ShloMosaic

namespace Cert.Tail

open Cert.KernelIdeal Cert.KernelIdeal.Gen

theorem isk_S1024x2816_S1024x512_S2816x512_0_0_1_1_n_n {φ ψ : FTy} {x : FVec Ideal S1024x2816 φ} {y : FVec Ideal S1024x512 ψ} {f : S1024x2816.Idx → ℝ} {g : S1024x512.Idx → ℝ}
    (hx : IsR x f) (hy : IsR y g) : IsR (φ := .f32) (matmul dot_S1024x2816_S1024x512_S2816x512_0_0_1_1_n_n none x y (constant (F := Ideal) S2816x512 .f32 0x00000000#32))
      (fun i => ∑ k : Fin 1024, f (ix2 k (i 0)) * g (ix2 k (i 1))) := fun i => by
  pointwise []
  rw [Cert.Proof.Real.coe_sum]
  exact Finset.sum_congr rfl fun k _ => by rw [hx, hy, EReal.coe_mul]
theorem isk_S2048x1024_S2048x1024_S1024x1024_0_0_1_1_n_n {φ ψ : FTy} {x : FVec Ideal S2048x1024 φ} {y : FVec Ideal S2048x1024 ψ} {f : S2048x1024.Idx → ℝ} {g : S2048x1024.Idx → ℝ}
    (hx : IsR x f) (hy : IsR y g) : IsR (φ := .f32) (matmul dot_S2048x1024_S2048x1024_S1024x1024_0_0_1_1_n_n none x y (constant (F := Ideal) S1024x1024 .f32 0x00000000#32))
      (fun i => ∑ k : Fin 2048, f (ix2 k (i 0)) * g (ix2 k (i 1))) := fun i => by
  pointwise []
  rw [Cert.Proof.Real.coe_sum]
  exact Finset.sum_congr rfl fun k _ => by rw [hx, hy, EReal.coe_mul]
theorem isk_S2048x1024_S2048x1408_S1024x1408_0_0_1_1_n_n {φ ψ : FTy} {x : FVec Ideal S2048x1024 φ} {y : FVec Ideal S2048x1408 ψ} {f : S2048x1024.Idx → ℝ} {g : S2048x1408.Idx → ℝ}
    (hx : IsR x f) (hy : IsR y g) : IsR (φ := .f32) (matmul dot_S2048x1024_S2048x1408_S1024x1408_0_0_1_1_n_n none x y (constant (F := Ideal) S1024x1408 .f32 0x00000000#32))
      (fun i => ∑ k : Fin 2048, f (ix2 k (i 0)) * g (ix2 k (i 1))) := fun i => by
  pointwise []
  rw [Cert.Proof.Real.coe_sum]
  exact Finset.sum_congr rfl fun k _ => by rw [hx, hy, EReal.coe_mul]
theorem isk_S2048x1280_S2048x1024_S1280x1024_0_0_1_1_n_n {φ ψ : FTy} {x : FVec Ideal S2048x1280 φ} {y : FVec Ideal S2048x1024 ψ} {f : S2048x1280.Idx → ℝ} {g : S2048x1024.Idx → ℝ}
    (hx : IsR x f) (hy : IsR y g) : IsR (φ := .f32) (matmul dot_S2048x1280_S2048x1024_S1280x1024_0_0_1_1_n_n none x y (constant (F := Ideal) S1280x1024 .f32 0x00000000#32))
      (fun i => ∑ k : Fin 2048, f (ix2 k (i 0)) * g (ix2 k (i 1))) := fun i => by
  pointwise []
  rw [Cert.Proof.Real.coe_sum]
  exact Finset.sum_congr rfl fun k _ => by rw [hx, hy, EReal.coe_mul]
theorem isk_S256x1024_S1024x1024_S256x1024_1_0_0_1_n_n {φ ψ : FTy} {x : FVec Ideal S256x1024 φ} {y : FVec Ideal S1024x1024 ψ} {f : S256x1024.Idx → ℝ} {g : S1024x1024.Idx → ℝ}
    (hx : IsR x f) (hy : IsR y g) : IsR (φ := .f32) (matmul dot_S256x1024_S1024x1024_S256x1024_1_0_0_1_n_n none x y (constant (F := Ideal) S256x1024 .f32 0x00000000#32))
      (fun i => ∑ k : Fin 1024, f (ix2 (i 0) k) * g (ix2 k (i 1))) := fun i => by
  pointwise []
  rw [Cert.Proof.Real.coe_sum]
  exact Finset.sum_congr rfl fun k _ => by rw [hx, hy, EReal.coe_mul]
theorem isk_S256x1024_S1024x1024_S256x1024_1_1_0_0_n_n {φ ψ : FTy} {x : FVec Ideal S256x1024 φ} {y : FVec Ideal S1024x1024 ψ} {f : S256x1024.Idx → ℝ} {g : S1024x1024.Idx → ℝ}
    (hx : IsR x f) (hy : IsR y g) : IsR (φ := .f32) (matmul dot_S256x1024_S1024x1024_S256x1024_1_1_0_0_n_n none x y (constant (F := Ideal) S256x1024 .f32 0x00000000#32))
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]
theorem isk_S256x1024_S1408x1024_S256x1408_1_1_0_0_n_n {φ ψ : FTy} {x : FVec Ideal S256x1024 φ} {y : FVec Ideal S1408x1024 ψ} {f : S256x1024.Idx → ℝ} {g : S1408x1024.Idx → ℝ}
    (hx : IsR x f) (hy : IsR y g) : IsR (φ := .f32) (matmul dot_S256x1024_S1408x1024_S256x1408_1_1_0_0_n_n none x y (constant (F := Ideal) S256x1408 .f32 0x00000000#32))
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]
theorem isk_S256x1280_S1280x1024_S256x1024_1_0_0_1_n_n {φ ψ : FTy} {x : FVec Ideal S256x1280 φ} {y : FVec Ideal S1280x1024 ψ} {f : S256x1280.Idx → ℝ} {g : S1280x1024.Idx → ℝ}
    (hx : IsR x f) (hy : IsR y g) : IsR (φ := .f32) (matmul dot_S256x1280_S1280x1024_S256x1024_1_0_0_1_n_n none x y (constant (F := Ideal) S256x1024 .f32 0x00000000#32))
      (fun i => ∑ k : Fin 1280, f (ix2 (i 0) k) * g (ix2 k (i 1))) := fun i => by
  pointwise []
  rw [Cert.Proof.Real.coe_sum]
  exact Finset.sum_congr rfl fun k _ => by rw [hx, hy, EReal.coe_mul]
theorem isk_S256x2816_S1024x2816_S256x1024_1_1_0_0_n_n {φ ψ : FTy} {x : FVec Ideal S256x2816 φ} {y : FVec Ideal S1024x2816 ψ} {f : S256x2816.Idx → ℝ} {g : S1024x2816.Idx → ℝ}
    (hx : IsR x f) (hy : IsR y g) : IsR (φ := .f32) (matmul dot_S256x2816_S1024x2816_S256x1024_1_1_0_0_n_n none x y (constant (F := Ideal) S256x1024 .f32 0x00000000#32))
      (fun i => ∑ k : Fin 2816, f (ix2 (i 0) k) * g (ix2 (i 1) k)) := fun i => by
  pointwise []
  rw [Cert.Proof.Real.coe_sum]
  exact Finset.sum_congr rfl fun k _ => by rw [hx, hy, EReal.coe_mul]
theorem isk_S256x2816_S2816x1024_S256x1024_1_0_0_1_n_n {φ ψ : FTy} {x : FVec Ideal S256x2816 φ} {y : FVec Ideal S2816x1024 ψ} {f : S256x2816.Idx → ℝ} {g : S2816x1024.Idx → ℝ}
    (hx : IsR x f) (hy : IsR y g) : IsR (φ := .f32) (matmul dot_S256x2816_S2816x1024_S256x1024_1_0_0_1_n_n none x y (constant (F := Ideal) S256x1024 .f32 0x00000000#32))
      (fun i => ∑ k : Fin 2816, f (ix2 (i 0) k) * g (ix2 k (i 1))) := fun i => by
  pointwise []
  rw [Cert.Proof.Real.coe_sum]
  exact Finset.sum_congr rfl fun k _ => by rw [hx, hy, EReal.coe_mul]
theorem isk_S512x1024_S1024x1024_S512x1024_1_1_0_0_n_n {φ ψ : FTy} {x : FVec Ideal S512x1024 φ} {y : FVec Ideal S1024x1024 ψ} {f : S512x1024.Idx → ℝ} {g : S1024x1024.Idx → ℝ}
    (hx : IsR x f) (hy : IsR y g) : IsR (φ := .f32) (matmul dot_S512x1024_S1024x1024_S512x1024_1_1_0_0_n_n none x y (constant (F := Ideal) S512x1024 .f32 0x00000000#32))
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]
theorem isk_S512x1024_S1024x1408_S512x1408_1_0_0_1_n_n {φ ψ : FTy} {x : FVec Ideal S512x1024 φ} {y : FVec Ideal S1024x1408 ψ} {f : S512x1024.Idx → ℝ} {g : S1024x1408.Idx → ℝ}
    (hx : IsR x f) (hy : IsR y g) : IsR (φ := .f32) (matmul dot_S512x1024_S1024x1408_S512x1408_1_0_0_1_n_n none x y (constant (F := Ideal) S512x1408 .f32 0x00000000#32))
      (fun i => ∑ k : Fin 1024, f (ix2 (i 0) k) * g (ix2 k (i 1))) := fun i => by
  pointwise []
  rw [Cert.Proof.Real.coe_sum]
  exact Finset.sum_congr rfl fun k _ => by rw [hx, hy, EReal.coe_mul]
theorem isk_S512x1024_S1280x1024_S512x1280_1_1_0_0_n_n {φ ψ : FTy} {x : FVec Ideal S512x1024 φ} {y : FVec Ideal S1280x1024 ψ} {f : S512x1024.Idx → ℝ} {g : S1280x1024.Idx → ℝ}
    (hx : IsR x f) (hy : IsR y g) : IsR (φ := .f32) (matmul dot_S512x1024_S1280x1024_S512x1280_1_1_0_0_n_n none x y (constant (F := Ideal) S512x1280 .f32 0x00000000#32))
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]

end Cert.Tail

end
-- ==== Proof.Tail.Pay0.lean ====
/-
  The printed vector operations of region 0 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k0_pay1_r (Fv46 : RM) (r d : ℕ) : ℝ :=
  Fv46 r d
theorem k0_pay1_isr (hv46 : T 256 1024 .f32 v46 Fv46) : T 256 1024 .bf16 (k0_pay1 v46) (k0_pay1_r Fv46) := by
  exact IsR.congr (isr_trunc bitsLt_bf16_f32 hv46) fun i => rfl

def k0_pay2_r (Fv50 : RM) (r d : ℕ) : ℝ :=
  Fv50 r d
theorem k0_pay2_isr (hv50 : T 256 1024 .f32 v50 Fv50) : T 256 1024 .bf16 (k0_pay2 v50) (k0_pay2_r Fv50) := by
  exact IsR.congr (isr_trunc bitsLt_bf16_f32 hv50) fun i => rfl

def k0_pay3_r (Fv46 Fv50 Fv63 Fv64 Fv65 : RM) (r d : ℕ) : ℝ :=
  ((Fv63 r d * Fv46 r d) + ((((1/2) * Real.tanh (((1/2) * (Fv64 r d + Fv65 0 d)))) + (1/2)) * Fv50 r d))
theorem k0_pay3_isr (hv46 : T 256 1024 .f32 v46 Fv46) (hv50 : T 256 1024 .f32 v50 Fv50) (hv63 : T 256 1024 .f32 v63 Fv63) (hv64 : T 256 1024 .bf16 v64 Fv64) (hv65 : T 1 1024 .f32 v65 Fv65) : T 256 1024 .bf16 (k0_pay3 v46 v50 v63 v64 v65) (k0_pay3_r Fv46 Fv50 Fv63 Fv64 Fv65) := by
  have hv66 := isr_cast hv65 shapeCasts_S1x1024_S1x1024
  have hv67 := isr_ext bitsLt_bf16_f32 hv64
  have hv68 := isr_row hv66 broadcasts_S1x1024_S256x1024
  have hv69 := isr_add hv67 hv68
  have hv70 := isr_bc (s := S256x1024) lit_half
  have hv71 := isr_mul hv70 hv69
  have hv72 := isr_tanh hv71
  have hv73 := isr_bc (s := S256x1024) lit_half
  have hv74 := isr_mul hv73 hv72
  have hv75 := isr_bc (s := S256x1024) lit_half
  have hv76 := isr_add hv74 hv75
  have hv81 := isr_mul hv63 hv46
  have hv82 := isr_mul hv76 hv50
  have hv83 := isr_add hv81 hv82
  exact IsR.congr (isr_trunc bitsLt_bf16_f32 hv83) fun i => rfl

def k0_pay4_r (Fv0 Fv1 : RM) (r d : ℕ) : ℝ :=
  (∑ k1 : Fin 1280, Fv0 r k1.val * Fv1 k1.val d)
theorem k0_pay4_isr (hv0 : T 256 1280 .bf16 v0 Fv0) (hv1 : T 1280 1024 .bf16 v1 Fv1) : T 256 1024 .f32 (k0_pay4 v0 v1) (k0_pay4_r Fv0 Fv1) := by
  have hv2 := isr_cast hv1 shapeCasts_S1280x1024_S1280x1024
  exact IsR.congr (isk_S256x1280_S1280x1024_S256x1024_1_0_0_1_n_n hv0 hv2) fun i => rfl

def k0_pay5_r (Fv4 Fv5 : RM) (r d : ℕ) : ℝ :=
  (∑ k1 : Fin 1024, Fv4 r k1.val * Fv5 k1.val d)
theorem k0_pay5_isr (hv4 : T 256 1024 .bf16 v4 Fv4) (hv5 : T 1024 1024 .bf16 v5 Fv5) : T 256 1024 .f32 (k0_pay5 v4 v5) (k0_pay5_r Fv4 Fv5) := by
  have hv6 := isr_cast hv5 shapeCasts_S1024x1024_S1024x1024
  exact IsR.congr (isk_S256x1024_S1024x1024_S256x1024_1_0_0_1_n_n hv4 hv6) fun i => rfl

def k0_pay6_r (Fv8 Fv9 : RM) (r d : ℕ) : ℝ :=
  (((1/2) * Real.tanh (((1/2) * (Fv8 r d + Fv9 0 d)))) + (1/2))
theorem k0_pay6_isr (hv8 : T 256 1024 .bf16 v8 Fv8) (hv9 : T 1 1024 .f32 v9 Fv9) : T 256 1024 .f32 (k0_pay6 v8 v9) (k0_pay6_r Fv8 Fv9) := by
  have hv10 := isr_cast hv9 shapeCasts_S1x1024_S1x1024
  have hv11 := isr_ext bitsLt_bf16_f32 hv8
  have hv12 := isr_row hv10 broadcasts_S1x1024_S256x1024
  have hv13 := isr_add hv11 hv12
  have hv14 := isr_bc (s := S256x1024) lit_half
  have hv15 := isr_mul hv14 hv13
  have hv16 := isr_tanh hv15
  have hv17 := isr_bc (s := S256x1024) lit_half
  have hv18 := isr_mul hv17 hv16
  have hv19 := isr_bc (s := S256x1024) lit_half
  exact IsR.congr (isr_add hv18 hv19) fun i => rfl

def k0_pay7_r (Fv21 Fv22 : RM) (r d : ℕ) : ℝ :=
  (((1/2) * Real.tanh (((1/2) * (Fv21 r d + Fv22 0 d)))) + (1/2))
theorem k0_pay7_isr (hv21 : T 256 1024 .bf16 v21 Fv21) (hv22 : T 1 1024 .f32 v22 Fv22) : T 256 1024 .f32 (k0_pay7 v21 v22) (k0_pay7_r Fv21 Fv22) := by
  have hv23 := isr_cast hv22 shapeCasts_S1x1024_S1x1024
  have hv24 := isr_ext bitsLt_bf16_f32 hv21
  have hv25 := isr_row hv23 broadcasts_S1x1024_S256x1024
  have hv26 := isr_add hv24 hv25
  have hv27 := isr_bc (s := S256x1024) lit_half
  have hv28 := isr_mul hv27 hv26
  have hv29 := isr_tanh hv28
  have hv30 := isr_bc (s := S256x1024) lit_half
  have hv31 := isr_mul hv30 hv29
  have hv32 := isr_bc (s := S256x1024) lit_half
  exact IsR.congr (isr_add hv31 hv32) fun i => rfl

def k0_pay8_r (Fv3 : RM) (r d : ℕ) : ℝ :=
  Fv3 r d
theorem k0_pay8_isr (hv3 : T 256 1024 .f32 v3 Fv3) : T 256 1024 .bf16 (k0_pay8 v3) (k0_pay8_r Fv3) := by
  exact IsR.congr (isr_trunc bitsLt_bf16_f32 hv3) fun i => rfl

def k0_pay9_r (Fv7 : RM) (r d : ℕ) : ℝ :=
  Fv7 r d
theorem k0_pay9_isr (hv7 : T 256 1024 .f32 v7 Fv7) : T 256 1024 .bf16 (k0_pay9 v7) (k0_pay9_r Fv7) := by
  exact IsR.congr (isr_trunc bitsLt_bf16_f32 hv7) fun i => rfl

def k0_pay10_r (Fv3 Fv7 Fv20 Fv33 : RM) (r d : ℕ) : ℝ :=
  ((Fv20 r d * Fv3 r d) + (Fv33 r d * Fv7 r d))
theorem k0_pay10_isr (hv3 : T 256 1024 .f32 v3 Fv3) (hv7 : T 256 1024 .f32 v7 Fv7) (hv20 : T 256 1024 .f32 v20 Fv20) (hv33 : T 256 1024 .f32 v33 Fv33) : T 256 1024 .bf16 (k0_pay10 v3 v7 v20 v33) (k0_pay10_r Fv3 Fv7 Fv20 Fv33) := by
  have hv38 := isr_mul hv20 hv3
  have hv39 := isr_mul hv33 hv7
  have hv40 := isr_add hv38 hv39
  exact IsR.congr (isr_trunc bitsLt_bf16_f32 hv40) fun i => rfl

def k0_pay11_r (Fv43 Fv44 : RM) (r d : ℕ) : ℝ :=
  (∑ k1 : Fin 1280, Fv43 r k1.val * Fv44 k1.val d)
theorem k0_pay11_isr (hv43 : T 256 1280 .bf16 v43 Fv43) (hv44 : T 1280 1024 .bf16 v44 Fv44) : T 256 1024 .f32 (k0_pay11 v43 v44) (k0_pay11_r Fv43 Fv44) := by
  have hv45 := isr_cast hv44 shapeCasts_S1280x1024_S1280x1024
  exact IsR.congr (isk_S256x1280_S1280x1024_S256x1024_1_0_0_1_n_n hv43 hv45) fun i => rfl

def k0_pay12_r (Fv47 Fv48 : RM) (r d : ℕ) : ℝ :=
  (∑ k1 : Fin 1024, Fv47 r k1.val * Fv48 k1.val d)
theorem k0_pay12_isr (hv47 : T 256 1024 .bf16 v47 Fv47) (hv48 : T 1024 1024 .bf16 v48 Fv48) : T 256 1024 .f32 (k0_pay12 v47 v48) (k0_pay12_r Fv47 Fv48) := by
  have hv49 := isr_cast hv48 shapeCasts_S1024x1024_S1024x1024
  exact IsR.congr (isk_S256x1024_S1024x1024_S256x1024_1_0_0_1_n_n hv47 hv49) fun i => rfl

def k0_pay13_r (Fv51 Fv52 : RM) (r d : ℕ) : ℝ :=
  (((1/2) * Real.tanh (((1/2) * (Fv51 r d + Fv52 0 d)))) + (1/2))
theorem k0_pay13_isr (hv51 : T 256 1024 .bf16 v51 Fv51) (hv52 : T 1 1024 .f32 v52 Fv52) : T 256 1024 .f32 (k0_pay13 v51 v52) (k0_pay13_r Fv51 Fv52) := by
  have hv53 := isr_cast hv52 shapeCasts_S1x1024_S1x1024
  have hv54 := isr_ext bitsLt_bf16_f32 hv51
  have hv55 := isr_row hv53 broadcasts_S1x1024_S256x1024
  have hv56 := isr_add hv54 hv55
  have hv57 := isr_bc (s := S256x1024) lit_half
  have hv58 := isr_mul hv57 hv56
  have hv59 := isr_tanh hv58
  have hv60 := isr_bc (s := S256x1024) lit_half
  have hv61 := isr_mul hv60 hv59
  have hv62 := isr_bc (s := S256x1024) lit_half
  exact IsR.congr (isr_add hv61 hv62) fun i => rfl

end Cert.Tail

end
-- ==== Proof.Tail.R0.lean ====
/-
  Region 0 of the kernel (untrusted): its input blocks as shifted real matrices, what each point of the grid leaves in its
  output windows, and the arrays after the last point.
-/
module

public import proofs.«01_k».proof.Proof.Gen.KernelIdeal.Frame.Region0
public import proofs.«01_k».proof.Proof.Tail.Pay0
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R0

open Cert.KernelIdeal Cert.KernelIdeal.Gen
variable (V : (c : Dev nD) → (b : Ref sig .tc) → Buf (Elt Ideal) ((c : Thread nD τ).loc b))

theorem idx : ∀ t : Fin cfg0.N,
    win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 1]
    ∧ win0_6.index t = ![0, 0]
    ∧ win0_7.index t = ![t.val, 0]
    ∧ win0_8.index t = ![t.val, 0]
    ∧ win0_9.index t = ![t.val, 0] :=
  (by decide +kernel : ∀ t : Fin grid0.N, _)

theorem blk_0 {F : RM} (c : Dev nD) (t : Fin cfg0.N) (h : T 16384 1280 .bf16 (V c main_arg1) F) :
    T 512 1280 .bf16 (iblk0 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg0.N) (h : T 1280 1024 .bf16 (V c main_v0) F) :
    T 1280 1024 .bf16 (iblk0 V c 1 t) F := fun i => by
  refine IsR.at h (congrArg₂ F ?_ ?_) <;> (blk_simp; rw [(idx t).2.1]; first | exact off _ _ _ | exact off0 _ _ | exact off1 _ _)
theorem blk_2 {F : RM} (c : Dev nD) (t : Fin cfg0.N) (h : T 16384 1024 .bf16 (V c main_arg2) F) :
    T 512 1024 .bf16 (iblk0 V c 2 t) (fun r d => F (512 * t.val + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg0.N) (h : T 1024 1024 .bf16 (V c main_v1) F) :
    T 1024 1024 .bf16 (iblk0 V c 3 t) F := fun i => by
  refine IsR.at h (congrArg₂ F ?_ ?_) <;> (blk_simp; rw [(idx t).2.2.2.1]; first | exact off _ _ _ | exact off0 _ _ | exact off1 _ _)
theorem blk_4 {F : RM} (c : Dev nD) (t : Fin cfg0.N) (h : T 16384 2048 .bf16 (V c main_arg3) F) :
    T 512 1024 .bf16 (iblk0 V c 4 t) (fun r d => F (512 * t.val + r) d) := fun i => by
  refine IsR.at h (congrArg₂ F ?_ ?_) <;> (blk_simp; rw [(idx t).2.2.2.2.1]; first | exact off _ _ _ | exact off0 _ _ | exact off1 _ _)
theorem blk_5 {F : RM} (c : Dev nD) (t : Fin cfg0.N) (h : T 16384 2048 .bf16 (V c main_arg3) F) :
    T 512 1024 .bf16 (iblk0 V c 5 t) (fun r d => F (512 * t.val + r) (1024 + d)) := fun i => by
  refine IsR.at h (congrArg₂ F ?_ ?_) <;> (blk_simp; rw [(idx t).2.2.2.2.2.1]; first | exact off _ _ _ | exact off0 _ _ | exact off1 _ _)
theorem blk_6 {F : RM} (c : Dev nD) (t : Fin cfg0.N) (h : T 8 1024 .f32 (V c main_v9) F) :
    T 8 1024 .f32 (iblk0 V c 6 t) F := fun i => by
  refine IsR.at h (congrArg₂ F ?_ ?_) <;> (blk_simp; rw [(idx t).2.2.2.2.2.2.1]; first | exact off _ _ _ | exact off0 _ _ | exact off1 _ _)

theorem o_7 {F0 F1 F2 F3 F4 F5 F6 : RM} (x0 : Vec Ideal S512x1280 .bf16) (x1 : Vec Ideal S1280x1024 .bf16) (x2 : Vec Ideal S512x1024 .bf16) (x3 : Vec Ideal S1024x1024 .bf16) (x4 : Vec Ideal S512x1024 .bf16) (x5 : Vec Ideal S512x1024 .bf16) (x6 : Vec Ideal S8x1024 .f32)
    (g0 : T 512 1280 .bf16 x0 F0)
    (g1 : T 1280 1024 .bf16 x1 F1)
    (g2 : T 512 1024 .bf16 x2 F2)
    (g3 : T 1024 1024 .bf16 x3 F3)
    (g4 : T 512 1024 .bf16 x4 F4)
    (g5 : T 512 1024 .bf16 x5 F5)
    (g6 : T 8 1024 .f32 x6 F6) :
    T 512 1024 .bf16 (out0_7 x0 x1 x2 x3 x4 x5 x6) (s0_7 F0 F1 F2 F3 F4 F5 F6) := fun y => by
  show out0_7 x0 x1 x2 x3 x4 x5 x6 y = _
  canon_tiles x h
  all_goals
    apply IsR.at (s := S256x1024) (φ := .bf16) (i := x)
    rotate_left
    ·
      try unfold k0_pay14
      try unfold k0_pay15
      try unfold k0_pay16
      try unfold k0_pay17
      repeat' first
        | with_reducible (first | apply k0_pay1_isr | apply k0_pay2_isr | apply k0_pay3_isr | apply k0_pay4_isr | apply k0_pay5_isr | apply k0_pay6_isr | apply k0_pay7_isr | apply k0_pay8_isr | apply k0_pay9_isr | apply k0_pay10_isr | apply k0_pay11_isr | apply k0_pay12_isr | apply k0_pay13_isr)
        | apply isr_ld00 | apply isr_ld00b | apply isr_ld_row | apply isr_ld_rowb
        | exact g0 | exact g1 | exact g2 | exact g3 | exact g4 | exact g5 | exact g6
        | apply pos_all
    · show _ = s0_7 F0 F1 F2 F3 F4 F5 F6 (y 0).val (y 1).val
      rw [h0, h1]
      rfl
theorem o_8 {F0 F1 F2 F3 F4 F5 F6 : RM} (x0 : Vec Ideal S512x1280 .bf16) (x1 : Vec Ideal S1280x1024 .bf16) (x2 : Vec Ideal S512x1024 .bf16) (x3 : Vec Ideal S1024x1024 .bf16) (x4 : Vec Ideal S512x1024 .bf16) (x5 : Vec Ideal S512x1024 .bf16) (x6 : Vec Ideal S8x1024 .f32)
    (g0 : T 512 1280 .bf16 x0 F0)
    (g1 : T 1280 1024 .bf16 x1 F1)
    (g2 : T 512 1024 .bf16 x2 F2)
    (g3 : T 1024 1024 .bf16 x3 F3)
    (g4 : T 512 1024 .bf16 x4 F4)
    (g5 : T 512 1024 .bf16 x5 F5)
    (g6 : T 8 1024 .f32 x6 F6) :
    T 512 1024 .bf16 (out0_8 x0 x1 x2 x3 x4 x5 x6) (s0_8 F0 F1 F2 F3 F4 F5 F6) := fun y => by
  show out0_8 x0 x1 x2 x3 x4 x5 x6 y = _
  canon_tiles x h
  all_goals
    apply IsR.at (s := S256x1024) (φ := .bf16) (i := x)
    rotate_left
    ·
      try unfold k0_pay14
      try unfold k0_pay15
      try unfold k0_pay16
      try unfold k0_pay17
      repeat' first
        | with_reducible (first | apply k0_pay1_isr | apply k0_pay2_isr | apply k0_pay3_isr | apply k0_pay4_isr | apply k0_pay5_isr | apply k0_pay6_isr | apply k0_pay7_isr | apply k0_pay8_isr | apply k0_pay9_isr | apply k0_pay10_isr | apply k0_pay11_isr | apply k0_pay12_isr | apply k0_pay13_isr)
        | apply isr_ld00 | apply isr_ld00b | apply isr_ld_row | apply isr_ld_rowb
        | exact g0 | exact g1 | exact g2 | exact g3 | exact g4 | exact g5 | exact g6
        | apply pos_all
    · show _ = s0_8 F0 F1 F2 F3 F4 F5 F6 (y 0).val (y 1).val
      rw [h0, h1]
      rfl
theorem o_9 {F0 F1 F2 F3 F4 F5 F6 : RM} (x0 : Vec Ideal S512x1280 .bf16) (x1 : Vec Ideal S1280x1024 .bf16) (x2 : Vec Ideal S512x1024 .bf16) (x3 : Vec Ideal S1024x1024 .bf16) (x4 : Vec Ideal S512x1024 .bf16) (x5 : Vec Ideal S512x1024 .bf16) (x6 : Vec Ideal S8x1024 .f32)
    (g0 : T 512 1280 .bf16 x0 F0)
    (g1 : T 1280 1024 .bf16 x1 F1)
    (g2 : T 512 1024 .bf16 x2 F2)
    (g3 : T 1024 1024 .bf16 x3 F3)
    (g4 : T 512 1024 .bf16 x4 F4)
    (g5 : T 512 1024 .bf16 x5 F5)
    (g6 : T 8 1024 .f32 x6 F6) :
    T 512 1024 .bf16 (out0_9 x0 x1 x2 x3 x4 x5 x6) (s0_9 F0 F1 F2 F3 F4 F5 F6) := fun y => by
  show out0_9 x0 x1 x2 x3 x4 x5 x6 y = _
  canon_tiles x h
  all_goals
    apply IsR.at (s := S256x1024) (φ := .bf16) (i := x)
    rotate_left
    ·
      try unfold k0_pay14
      try unfold k0_pay15
      try unfold k0_pay16
      try unfold k0_pay17
      repeat' first
        | with_reducible (first | apply k0_pay1_isr | apply k0_pay2_isr | apply k0_pay3_isr | apply k0_pay4_isr | apply k0_pay5_isr | apply k0_pay6_isr | apply k0_pay7_isr | apply k0_pay8_isr | apply k0_pay9_isr | apply k0_pay10_isr | apply k0_pay11_isr | apply k0_pay12_isr | apply k0_pay13_isr)
        | apply isr_ld00 | apply isr_ld00b | apply isr_ld_row | apply isr_ld_rowb
        | exact g0 | exact g1 | exact g2 | exact g3 | exact g4 | exact g5 | exact g6
        | apply pos_all
    · show _ = s0_9 F0 F1 F2 F3 F4 F5 F6 (y 0).val (y 1).val
      rw [h0, h1]
      rfl

theorem fin_7 {A0 A1 A2 A3 A4 A6 : RM} (c : Dev nD)
    (g0 : T 16384 1280 .bf16 (V c main_arg1) A0)
    (g1 : T 1280 1024 .bf16 (V c main_v0) A1)
    (g2 : T 16384 1024 .bf16 (V c main_arg2) A2)
    (g3 : T 1024 1024 .bf16 (V c main_v1) A3)
    (g4 : T 16384 2048 .bf16 (V c main_arg3) A4)
    (g6 : T 8 1024 .f32 (V c main_v9) A6) :
    T 16384 1024 .bf16 ((dat0 V c).arrAt 7 cfg0.N) (s0_7 A0 A1 A2 A3 A4 (fun r d => A4 r (1024 + d)) A6) := by
  have e : (dat0 V c).arrAt 7 cfg0.N = (fun i => ((N2 (a := 16384) (b := 1024) (s0_7 A0 A1 A2 A3 A4 (fun r d => A4 r (1024 + d)) A6) i : ℝ) : EReal) : FVec Ideal S16384x1024 .bf16) := by
    refine (dat0 V c).arrAt_eq_of_covers 7 _ (by decide +kernel) fun t _ y => ?_
    blk_simp
    rw [after0_7]
    refine (o_7 _ _ _ _ _ _ _ (blk_0 V c t g0) (blk_1 V c t g1) (blk_2 V c t g2) (blk_3 V c t g3) (blk_4 V c t g4) (blk_5 V c t g4) (blk_6 V c t g6) y).trans ?_
    refine congrArg _ ?_
    refine Eq.trans ?_ (congrArg₂ (s0_7 A0 A1 A2 A3 A4 (fun r d => A4 r (1024 + d)) A6) (x' := 512 * t.val + (y 0).val) (y' := (y 1).val) ?_ ?_).symm
    rotate_left
    iterate 2 (blk_simp; rw [(idx t).2.2.2.2.2.2.2.1]; first | exact off _ _ _ | exact off0 _ _ | exact off1 _ _)
    rfl
  exact fun i => congrFun e i
theorem fin_8 {A0 A1 A2 A3 A4 A6 : RM} (c : Dev nD)
    (g0 : T 16384 1280 .bf16 (V c main_arg1) A0)
    (g1 : T 1280 1024 .bf16 (V c main_v0) A1)
    (g2 : T 16384 1024 .bf16 (V c main_arg2) A2)
    (g3 : T 1024 1024 .bf16 (V c main_v1) A3)
    (g4 : T 16384 2048 .bf16 (V c main_arg3) A4)
    (g6 : T 8 1024 .f32 (V c main_v9) A6) :
    T 16384 1024 .bf16 ((dat0 V c).arrAt 8 cfg0.N) (s0_8 A0 A1 A2 A3 A4 (fun r d => A4 r (1024 + d)) A6) := by
  have e : (dat0 V c).arrAt 8 cfg0.N = (fun i => ((N2 (a := 16384) (b := 1024) (s0_8 A0 A1 A2 A3 A4 (fun r d => A4 r (1024 + d)) A6) i : ℝ) : EReal) : FVec Ideal S16384x1024 .bf16) := by
    refine (dat0 V c).arrAt_eq_of_covers 8 _ (by decide +kernel) fun t _ y => ?_
    blk_simp
    rw [after0_8]
    refine (o_8 _ _ _ _ _ _ _ (blk_0 V c t g0) (blk_1 V c t g1) (blk_2 V c t g2) (blk_3 V c t g3) (blk_4 V c t g4) (blk_5 V c t g4) (blk_6 V c t g6) y).trans ?_
    refine congrArg _ ?_
    refine Eq.trans ?_ (congrArg₂ (s0_8 A0 A1 A2 A3 A4 (fun r d => A4 r (1024 + d)) A6) (x' := 512 * t.val + (y 0).val) (y' := (y 1).val) ?_ ?_).symm
    rotate_left
    iterate 2 (blk_simp; rw [(idx t).2.2.2.2.2.2.2.2.1]; first | exact off _ _ _ | exact off0 _ _ | exact off1 _ _)
    rfl
  exact fun i => congrFun e i
theorem fin_9 {A0 A1 A2 A3 A4 A6 : RM} (c : Dev nD)
    (g0 : T 16384 1280 .bf16 (V c main_arg1) A0)
    (g1 : T 1280 1024 .bf16 (V c main_v0) A1)
    (g2 : T 16384 1024 .bf16 (V c main_arg2) A2)
    (g3 : T 1024 1024 .bf16 (V c main_v1) A3)
    (g4 : T 16384 2048 .bf16 (V c main_arg3) A4)
    (g6 : T 8 1024 .f32 (V c main_v9) A6) :
    T 16384 1024 .bf16 ((dat0 V c).arrAt 9 cfg0.N) (s0_9 A0 A1 A2 A3 A4 (fun r d => A4 r (1024 + d)) A6) := by
  have e : (dat0 V c).arrAt 9 cfg0.N = (fun i => ((N2 (a := 16384) (b := 1024) (s0_9 A0 A1 A2 A3 A4 (fun r d => A4 r (1024 + d)) A6) i : ℝ) : EReal) : FVec Ideal S16384x1024 .bf16) := by
    refine (dat0 V c).arrAt_eq_of_covers 9 _ (by decide +kernel) fun t _ y => ?_
    blk_simp
    rw [after0_9]
    refine (o_9 _ _ _ _ _ _ _ (blk_0 V c t g0) (blk_1 V c t g1) (blk_2 V c t g2) (blk_3 V c t g3) (blk_4 V c t g4) (blk_5 V c t g4) (blk_6 V c t g6) y).trans ?_
    refine congrArg _ ?_
    refine Eq.trans ?_ (congrArg₂ (s0_9 A0 A1 A2 A3 A4 (fun r d => A4 r (1024 + d)) A6) (x' := 512 * t.val + (y 0).val) (y' := (y 1).val) ?_ ?_).symm
    rotate_left
    iterate 2 (blk_simp; rw [(idx t).2.2.2.2.2.2.2.2.2]; first | exact off _ _ _ | exact off0 _ _ | exact off1 _ _)
    rfl
  exact fun i => congrFun e i

end Cert.Tail.R0

end
-- ==== Proof.Tail.Pay1.lean ====
/-
  The printed vector operations of region 1 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k1_pay1_r (Fv109 Fv114 Fv115 Fv122 Fv128 : RM) (r d : ℕ) : ℝ :=
  (((Fv109 r d * (Real.sqrt ((Fv114 r 0 + Fv115 r 0)))⁻¹) * (1 + Fv122 0 d)) + Fv128 0 d)
theorem k1_pay1_isr {Fv109 Fv114 Fv115 Fv122 Fv128 : RM} (hv109 : T 256 1024 .f32 v109 Fv109) (hv114 : T 256 1 .f32 v114 Fv114) (hv115 : T 256 1 .f32 v115 Fv115) (hv122 : T 1 1024 .f32 v122 Fv122) (hv128 : T 1 1024 .f32 v128 Fv128) (hp : ∀ r d : ℕ, 0 < (Fv114 r d + Fv115 r d)) : T 256 1024 .bf16 (k1_pay1 v109 v114 v115 v122 v128) (k1_pay1_r Fv109 Fv114 Fv115 Fv122 Fv128) := by
  have hv116 := isr_add hv114 hv115
  have hv117 := isr_rsqrt hv116 (fun i => hp (i 0).val (i 1).val)
  have hv118 := isr_col hv117 broadcasts_S256x1_S256x1024
  have hv119 := isr_mul hv109 hv118
  have hv123 := isr_cast hv122 shapeCasts_S1x1024_S1x1024
  have hv124 := isr_bc (s := S1x1024) lit_one
  have hv125 := isr_add hv124 hv123
  have hv126 := isr_row hv125 broadcasts_S1x1024_S256x1024
  have hv127 := isr_mul hv119 hv126
  have hv129 := isr_cast hv128 shapeCasts_S1x1024_S1x1024
  have hv130 := isr_row hv129 broadcasts_S1x1024_S256x1024
  have hv131 := isr_add hv127 hv130
  exact IsR.congr (isr_trunc bitsLt_bf16_f32 hv131) fun i => rfl

def k1_pay2_r (Fv0 Fv2 : RM) (r d : ℕ) : ℝ :=
  (∑ k1 : Fin 1024, Fv0 r k1.val * Fv2 k1.val d)
theorem k1_pay2_isr (hv0 : T 256 1024 .bf16 v0 Fv0) (hv2 : T 1024 1024 .bf16 v2 Fv2) : T 256 1024 .f32 (k1_pay2 v0 v2) (k1_pay2_r Fv0 Fv2) := by
  have hv1 := isr_cast hv0 shapeCasts_S256x1024_S256x1024
  have hv3 := isr_cast hv2 shapeCasts_S1024x1024_S1024x1024
  exact IsR.congr (isk_S256x1024_S1024x1024_S256x1024_1_0_0_1_n_n hv1 hv3) fun i => rfl

def k1_pay3_r (Fv0 Fv2 Fv5 Fv8 Fv29 Fv33 : RM) (r d : ℕ) : ℝ :=
  ((((((alphaR * Fv5 r d) + (Fv8 0 d * k1_pay2_r (fun r d => Fv0 r d) (fun r d => Fv2 r d) r d)) - ((∑ k1 : Fin 1024, ((alphaR * Fv5 r k1.val) + (Fv8 0 k1.val * k1_pay2_r (fun r d => Fv0 r d) (fun r d => Fv2 r d) r k1.val))) / 1024)) * (Real.sqrt ((((∑ k2 : Fin 1024, ((((alphaR * Fv5 r k2.val) + (Fv8 0 k2.val * k1_pay2_r (fun r d => Fv0 r d) (fun r d => Fv2 r d) r k2.val)) - ((∑ k1 : Fin 1024, ((alphaR * Fv5 r k1.val) + (Fv8 0 k1.val * k1_pay2_r (fun r d => Fv0 r d) (fun r d => Fv2 r d) r k1.val))) / 1024)) * (((alphaR * Fv5 r k2.val) + (Fv8 0 k2.val * k1_pay2_r (fun r d => Fv0 r d) (fun r d => Fv2 r d) r k2.val)) - ((∑ k1 : Fin 1024, ((alphaR * Fv5 r k1.val) + (Fv8 0 k1.val * k1_pay2_r (fun r d => Fv0 r d) (fun r d => Fv2 r d) r k1.val))) / 1024)))) / 1024) + epsR)))⁻¹) * Fv29 0 d) + Fv33 0 d)
theorem k1_pay3_isr (hv0 : T 256 1024 .bf16 v0 Fv0) (hv2 : T 1024 1024 .bf16 v2 Fv2) (hv5 : T 256 1024 .f32 v5 Fv5) (hv8 : T 1 1024 .f32 v8 Fv8) (hv29 : T 1 1024 .f32 v29 Fv29) (hv33 : T 1 1024 .f32 v33 Fv33) : T 256 1024 .f32 (k1_pay3 v0 v2 v5 v8 v29 v33) (k1_pay3_r Fv0 Fv2 Fv5 Fv8 Fv29 Fv33) := by
  have hv6 := isr_bc (s := S256x1024) lit_alpha
  have hv7 := isr_mul hv6 hv5
  have hv9 := isr_cast hv8 shapeCasts_S1x1024_S1x1024
  have hv10 := isr_row hv9 broadcasts_S1x1024_S256x1024
  have hv11 := isr_mul hv10 (k1_pay2_isr hv0 hv2)
  have hv12 := isr_add hv7 hv11
  have hv13 := isr_red1 hv12 reduces_S256x1024_S256 (.inl rfl) rfl
  have hv14 := isr_cast_col256 hv13 shapeCasts_S256_S256x1
  have hv15 := isr_bc (s := S256x1) lit_lanes
  have hv16 := isr_div hv14 hv15 (fun _ => by norm_num)
  have hv17 := isr_col hv16 broadcasts_S256x1_S256x1024
  have hv18 := isr_sub hv12 hv17
  have hv19 := isr_mul hv18 hv18
  have hv20 := isr_red1 hv19 reduces_S256x1024_S256 (.inl rfl) rfl
  have hv21 := isr_cast_col256 hv20 shapeCasts_S256_S256x1
  have hv22 := isr_bc (s := S256x1) lit_lanes
  have hv23 := isr_div hv21 hv22 (fun _ => by norm_num)
  have hv24 := isr_bc (s := S256x1) lit_eps
  have hv25 := isr_add hv23 hv24
  have hv26 := isr_rsqrt hv25 (fun _ => var_pos _)
  have hv27 := isr_col hv26 broadcasts_S256x1_S256x1024
  have hv28 := isr_mul hv18 hv27
  have hv30 := isr_cast hv29 shapeCasts_S1x1024_S1x1024
  have hv31 := isr_row hv30 broadcasts_S1x1024_S256x1024
  have hv32 := isr_mul hv28 hv31
  have hv34 := isr_cast hv33 shapeCasts_S1x1024_S1x1024
  have hv35 := isr_row hv34 broadcasts_S1x1024_S256x1024
  exact IsR.congr (isr_add hv32 hv35) fun i => rfl

def k1_pay4_r (Fv0 Fv2 Fv5 Fv8 Fv29 Fv33 : RM) (r d : ℕ) : ℝ :=
  (∑ k1 : Fin 1024, k1_pay3_r (fun r d => Fv0 r d) (fun r d => Fv2 r d) (fun r d => Fv5 r d) (fun r d => Fv8 r d) (fun r d => Fv29 r d) (fun r d => Fv33 r d) r k1.val)
theorem k1_pay4_isr (hv0 : T 256 1024 .bf16 v0 Fv0) (hv2 : T 1024 1024 .bf16 v2 Fv2) (hv5 : T 256 1024 .f32 v5 Fv5) (hv8 : T 1 1024 .f32 v8 Fv8) (hv29 : T 1 1024 .f32 v29 Fv29) (hv33 : T 1 1024 .f32 v33 Fv33) :
    IsR (s := S256) (φ := .f32) (k1_pay4 v0 v2 v5 v8 v29 v33) (N1 (k1_pay4_r Fv0 Fv2 Fv5 Fv8 Fv29 Fv33)) := by
  exact IsR.congr (isr_red1 (k1_pay3_isr hv0 hv2 hv5 hv8 hv29 hv33) reduces_S256x1024_S256 (.inl rfl) rfl) fun i => rfl

def k1_pay5_r (Fv36 Fv37 Fv55 Fv61 : RM) (r d : ℕ) : ℝ :=
  ((((Fv36 r d - (Fv37 r 0 / 1024)) * (Real.sqrt ((((∑ k1 : Fin 1024, ((Fv36 r k1.val - (Fv37 r 0 / 1024)) * (Fv36 r k1.val - (Fv37 r 0 / 1024)))) / 1024) + epsR)))⁻¹) * (1 + Fv55 0 d)) + Fv61 0 d)
theorem k1_pay5_isr (hv36 : T 256 1024 .f32 v36 Fv36) (hv37 : IsR (s := S256) (φ := .f32) v37 (N1 Fv37)) (hv55 : T 1 1024 .f32 v55 Fv55) (hv61 : T 1 1024 .f32 v61 Fv61) : T 256 1024 .bf16 (k1_pay5 v36 v37 v55 v61) (k1_pay5_r Fv36 Fv37 Fv55 Fv61) := by
  have hv38 := isr_cast_col256 hv37 shapeCasts_S256_S256x1
  have hv39 := isr_bc (s := S256x1) lit_lanes
  have hv40 := isr_div hv38 hv39 (fun _ => by norm_num)
  have hv41 := isr_col hv40 broadcasts_S256x1_S256x1024
  have hv42 := isr_sub hv36 hv41
  have hv43 := isr_mul hv42 hv42
  have hv44 := isr_red1 hv43 reduces_S256x1024_S256 (.inl rfl) rfl
  have hv45 := isr_cast_col256 hv44 shapeCasts_S256_S256x1
  have hv46 := isr_bc (s := S256x1) lit_lanes
  have hv47 := isr_div hv45 hv46 (fun _ => by norm_num)
  have hv48 := isr_bc (s := S256x1) lit_eps
  have hv49 := isr_add hv47 hv48
  have hv50 := isr_rsqrt hv49 (fun _ => var_pos _)
  have hv51 := isr_col hv50 broadcasts_S256x1_S256x1024
  have hv52 := isr_mul hv42 hv51
  have hv56 := isr_cast hv55 shapeCasts_S1x1024_S1x1024
  have hv57 := isr_bc (s := S1x1024) lit_one
  have hv58 := isr_add hv57 hv56
  have hv59 := isr_row hv58 broadcasts_S1x1024_S256x1024
  have hv60 := isr_mul hv52 hv59
  have hv62 := isr_cast hv61 shapeCasts_S1x1024_S1x1024
  have hv63 := isr_row hv62 broadcasts_S1x1024_S256x1024
  have hv64 := isr_add hv60 hv63
  exact IsR.congr (isr_trunc bitsLt_bf16_f32 hv64) fun i => rfl

def k1_pay6_r (Fv67 Fv69 : RM) (r d : ℕ) : ℝ :=
  (∑ k1 : Fin 1024, Fv67 r k1.val * Fv69 k1.val d)
theorem k1_pay6_isr (hv67 : T 256 1024 .bf16 v67 Fv67) (hv69 : T 1024 1024 .bf16 v69 Fv69) : T 256 1024 .f32 (k1_pay6 v67 v69) (k1_pay6_r Fv67 Fv69) := by
  have hv68 := isr_cast hv67 shapeCasts_S256x1024_S256x1024
  have hv70 := isr_cast hv69 shapeCasts_S1024x1024_S1024x1024
  exact IsR.congr (isk_S256x1024_S1024x1024_S256x1024_1_0_0_1_n_n hv68 hv70) fun i => rfl

def k1_pay7_r (Fv71 Fv72 Fv75 Fv96 Fv100 : RM) (r d : ℕ) : ℝ :=
  ((((((alphaR * Fv72 r d) + (Fv75 0 d * Fv71 r d)) - ((∑ k1 : Fin 1024, ((alphaR * Fv72 r k1.val) + (Fv75 0 k1.val * Fv71 r k1.val))) / 1024)) * (Real.sqrt ((((∑ k2 : Fin 1024, ((((alphaR * Fv72 r k2.val) + (Fv75 0 k2.val * Fv71 r k2.val)) - ((∑ k1 : Fin 1024, ((alphaR * Fv72 r k1.val) + (Fv75 0 k1.val * Fv71 r k1.val))) / 1024)) * (((alphaR * Fv72 r k2.val) + (Fv75 0 k2.val * Fv71 r k2.val)) - ((∑ k1 : Fin 1024, ((alphaR * Fv72 r k1.val) + (Fv75 0 k1.val * Fv71 r k1.val))) / 1024)))) / 1024) + epsR)))⁻¹) * Fv96 0 d) + Fv100 0 d)
theorem k1_pay7_isr (hv71 : T 256 1024 .f32 v71 Fv71) (hv72 : T 256 1024 .f32 v72 Fv72) (hv75 : T 1 1024 .f32 v75 Fv75) (hv96 : T 1 1024 .f32 v96 Fv96) (hv100 : T 1 1024 .f32 v100 Fv100) : T 256 1024 .f32 (k1_pay7 v71 v72 v75 v96 v100) (k1_pay7_r Fv71 Fv72 Fv75 Fv96 Fv100) := by
  have hv73 := isr_bc (s := S256x1024) lit_alpha
  have hv74 := isr_mul hv73 hv72
  have hv76 := isr_cast hv75 shapeCasts_S1x1024_S1x1024
  have hv77 := isr_row hv76 broadcasts_S1x1024_S256x1024
  have hv78 := isr_mul hv77 hv71
  have hv79 := isr_add hv74 hv78
  have hv80 := isr_red1 hv79 reduces_S256x1024_S256 (.inl rfl) rfl
  have hv81 := isr_cast_col256 hv80 shapeCasts_S256_S256x1
  have hv82 := isr_bc (s := S256x1) lit_lanes
  have hv83 := isr_div hv81 hv82 (fun _ => by norm_num)
  have hv84 := isr_col hv83 broadcasts_S256x1_S256x1024
  have hv85 := isr_sub hv79 hv84
  have hv86 := isr_mul hv85 hv85
  have hv87 := isr_red1 hv86 reduces_S256x1024_S256 (.inl rfl) rfl
  have hv88 := isr_cast_col256 hv87 shapeCasts_S256_S256x1
  have hv89 := isr_bc (s := S256x1) lit_lanes
  have hv90 := isr_div hv88 hv89 (fun _ => by norm_num)
  have hv91 := isr_bc (s := S256x1) lit_eps
  have hv92 := isr_add hv90 hv91
  have hv93 := isr_rsqrt hv92 (fun _ => var_pos _)
  have hv94 := isr_col hv93 broadcasts_S256x1_S256x1024
  have hv95 := isr_mul hv85 hv94
  have hv97 := isr_cast hv96 shapeCasts_S1x1024_S1x1024
  have hv98 := isr_row hv97 broadcasts_S1x1024_S256x1024
  have hv99 := isr_mul hv95 hv98
  have hv101 := isr_cast hv100 shapeCasts_S1x1024_S1x1024
  have hv102 := isr_row hv101 broadcasts_S1x1024_S256x1024
  exact IsR.congr (isr_add hv99 hv102) fun i => rfl

def k1_pay8_r (Fv71 Fv72 Fv75 Fv96 Fv100 : RM) (r d : ℕ) : ℝ :=
  (k1_pay7_r (fun r d => Fv71 r d) (fun r d => Fv72 r d) (fun r d => Fv75 r d) (fun r d => Fv96 r d) (fun r d => Fv100 r d) r d - ((∑ k1 : Fin 1024, k1_pay7_r (fun r d => Fv71 r d) (fun r d => Fv72 r d) (fun r d => Fv75 r d) (fun r d => Fv96 r d) (fun r d => Fv100 r d) r k1.val) / 1024))
theorem k1_pay8_isr (hv71 : T 256 1024 .f32 v71 Fv71) (hv72 : T 256 1024 .f32 v72 Fv72) (hv75 : T 1 1024 .f32 v75 Fv75) (hv96 : T 1 1024 .f32 v96 Fv96) (hv100 : T 1 1024 .f32 v100 Fv100) : T 256 1024 .f32 (k1_pay8 v71 v72 v75 v96 v100) (k1_pay8_r Fv71 Fv72 Fv75 Fv96 Fv100) := by
  have hv104 := isr_red1 (k1_pay7_isr hv71 hv72 hv75 hv96 hv100) reduces_S256x1024_S256 (.inl rfl) rfl
  have hv105 := isr_cast_col256 hv104 shapeCasts_S256_S256x1
  have hv106 := isr_bc (s := S256x1) lit_lanes
  have hv107 := isr_div hv105 hv106 (fun _ => by norm_num)
  have hv108 := isr_col hv107 broadcasts_S256x1_S256x1024
  exact IsR.congr (isr_sub (k1_pay7_isr hv71 hv72 hv75 hv96 hv100) hv108) fun i => rfl

def k1_pay9_r (Fv71 Fv72 Fv75 Fv96 Fv100 : RM) (r d : ℕ) : ℝ :=
  ((∑ k1 : Fin 1024, (k1_pay8_r (fun r d => Fv71 r d) (fun r d => Fv72 r d) (fun r d => Fv75 r d) (fun r d => Fv96 r d) (fun r d => Fv100 r d) r k1.val * k1_pay8_r (fun r d => Fv71 r d) (fun r d => Fv72 r d) (fun r d => Fv75 r d) (fun r d => Fv96 r d) (fun r d => Fv100 r d) r k1.val)) / 1024)
theorem k1_pay9_isr (hv71 : T 256 1024 .f32 v71 Fv71) (hv72 : T 256 1024 .f32 v72 Fv72) (hv75 : T 1 1024 .f32 v75 Fv75) (hv96 : T 1 1024 .f32 v96 Fv96) (hv100 : T 1 1024 .f32 v100 Fv100) : T 256 1 .f32 (k1_pay9 v71 v72 v75 v96 v100) (k1_pay9_r Fv71 Fv72 Fv75 Fv96 Fv100) := by
  have hv110 := isr_mul (k1_pay8_isr hv71 hv72 hv75 hv96 hv100) (k1_pay8_isr hv71 hv72 hv75 hv96 hv100)
  have hv111 := isr_red1 hv110 reduces_S256x1024_S256 (.inl rfl) rfl
  have hv112 := isr_cast_col256 hv111 shapeCasts_S256_S256x1
  have hv113 := isr_bc (s := S256x1) lit_lanes
  exact IsR.congr (isr_div hv112 hv113 (fun _ => by norm_num)) fun i => rfl

def k1_pay10_r (r d : ℕ) : ℝ :=
  epsR
theorem k1_pay10_isr : T 256 1 .f32 (k1_pay10 ) (k1_pay10_r ) := by
  exact IsR.congr (isr_bc (s := S256x1) lit_eps) fun i => rfl

end Cert.Tail

end
-- ==== Proof.Tail.R1.lean ====
/-
  Region 1 of the kernel (untrusted): its input blocks as shifted real matrices, what each point of the grid leaves in its
  output windows, and the arrays after the last point.
-/
module

public import proofs.«01_k».proof.Proof.Gen.KernelIdeal.Frame.Region1
public import proofs.«01_k».proof.Proof.Tail.Pay1
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R1

open Cert.KernelIdeal Cert.KernelIdeal.Gen
variable (V : (c : Dev nD) → (b : Ref sig .tc) → Buf (Elt Ideal) ((c : Thread nD τ).loc b))

theorem idx : ∀ t : Fin cfg1.N,
    win1_0.index t = ![t.val, 0]
    ∧ win1_1.index t = ![0, 0]
    ∧ win1_2.index t = ![t.val, 0]
    ∧ win1_3.index t = ![0, 0]
    ∧ win1_4.index t = ![0, 0]
    ∧ win1_5.index t = ![t.val, 0]
    ∧ win1_6.index t = ![t.val, 0]
    ∧ win1_7.index t = ![t.val, 0] :=
  (by decide +kernel : ∀ t : Fin grid1.N, _)

theorem blk_0 {F : RM} (c : Dev nD) (t : Fin cfg1.N) (h : T 16384 1024 .bf16 (V c main_v14_2) F) :
    T 512 1024 .bf16 (iblk1 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg1.N) (h : T 1024 1024 .bf16 (V c main_v2) F) :
    T 1024 1024 .bf16 (iblk1 V c 1 t) F := fun i => by
  refine IsR.at h (congrArg₂ F ?_ ?_) <;> (blk_simp; rw [(idx t).2.1]; first | exact off _ _ _ | exact off0 _ _ | exact off1 _ _)
theorem blk_2 {F : RM} (c : Dev nD) (t : Fin cfg1.N) (h : T 16384 1024 .f32 (V c main_arg0) F) :
    T 512 1024 .f32 (iblk1 V c 2 t) (fun r d => F (512 * t.val + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg1.N) (h : T 8 1024 .f32 (V c main_v7) F) :
    T 8 1024 .f32 (iblk1 V c 3 t) F := fun i => by
  refine IsR.at h (congrArg₂ F ?_ ?_) <;> (blk_simp; rw [(idx t).2.2.2.1]; first | exact off _ _ _ | exact off0 _ _ | exact off1 _ _)
theorem blk_4 {F : RM} (c : Dev nD) (t : Fin cfg1.N) (h : T 8 1024 .f32 (V c main_v11) F) :
    T 8 1024 .f32 (iblk1 V c 4 t) F := fun i => by
  refine IsR.at h (congrArg₂ F ?_ ?_) <;> (blk_simp; rw [(idx t).2.2.2.2.1]; first | exact off _ _ _ | exact off0 _ _ | exact off1 _ _)

theorem o_5 {F0 F1 F2 F3 F4 : RM} (x0 : Vec Ideal S512x1024 .bf16) (x1 : Vec Ideal S1024x1024 .bf16) (x2 : Vec Ideal S512x1024 .f32) (x3 : Vec Ideal S8x1024 .f32) (x4 : Vec Ideal S8x1024 .f32)
    (g0 : T 512 1024 .bf16 x0 F0)
    (g1 : T 1024 1024 .bf16 x1 F1)
    (g2 : T 512 1024 .f32 x2 F2)
    (g3 : T 8 1024 .f32 x3 F3)
    (g4 : T 8 1024 .f32 x4 F4) :
    T 512 1024 .f32 (out1_5 x0 x1 x2 x3 x4) (s1_5 F0 F1 F2 F3 F4) := fun y => by
  show out1_5 x0 x1 x2 x3 x4 y = _
  canon_tiles x h
  all_goals
    apply IsR.at (s := S256x1024) (φ := .f32) (i := x)
    rotate_left
    ·
      try unfold k1_pay11
      try unfold k1_pay12
      repeat' first
        | with_reducible (first | apply k1_pay1_isr | apply k1_pay2_isr | apply k1_pay3_isr | apply k1_pay4_isr | apply k1_pay5_isr | apply k1_pay6_isr | apply k1_pay7_isr | apply k1_pay8_isr | apply k1_pay9_isr | apply k1_pay10_isr)
        | apply isr_ld00 | apply isr_ld00b | apply isr_ld_row | apply isr_ld_rowb
        | exact g0 | exact g1 | exact g2 | exact g3 | exact g4
        | apply pos_all
    · show _ = s1_5 F0 F1 F2 F3 F4 (y 0).val (y 1).val
      rw [h0, h1]
      rfl
theorem o_6 {F0 F1 F2 F3 F4 : RM} (x0 : Vec Ideal S512x1024 .bf16) (x1 : Vec Ideal S1024x1024 .bf16) (x2 : Vec Ideal S512x1024 .f32) (x3 : Vec Ideal S8x1024 .f32) (x4 : Vec Ideal S8x1024 .f32)
    (g0 : T 512 1024 .bf16 x0 F0)
    (g1 : T 1024 1024 .bf16 x1 F1)
    (g2 : T 512 1024 .f32 x2 F2)
    (g3 : T 8 1024 .f32 x3 F3)
    (g4 : T 8 1024 .f32 x4 F4) :
    T 512 1024 .f32 (out1_6 x0 x1 x2 x3 x4) (s1_6 F0 F1 F2 F3 F4) := fun y => by
  show out1_6 x0 x1 x2 x3 x4 y = _
  canon_tiles x h
  all_goals
    apply IsR.at (s := S256x1024) (φ := .f32) (i := x)
    rotate_left
    ·
      try unfold k1_pay11
      try unfold k1_pay12
      repeat' first
        | with_reducible (first | apply k1_pay1_isr | apply k1_pay2_isr | apply k1_pay3_isr | apply k1_pay4_isr | apply k1_pay5_isr | apply k1_pay6_isr | apply k1_pay7_isr | apply k1_pay8_isr | apply k1_pay9_isr | apply k1_pay10_isr)
        | apply isr_ld00 | apply isr_ld00b | apply isr_ld_row | apply isr_ld_rowb
        | exact g0 | exact g1 | exact g2 | exact g3 | exact g4
        | apply pos_all
    · show _ = s1_6 F0 F1 F2 F3 F4 (y 0).val (y 1).val
      rw [h0, h1]
      rfl
theorem o_7 {F0 F1 F2 F3 F4 : RM} (x0 : Vec Ideal S512x1024 .bf16) (x1 : Vec Ideal S1024x1024 .bf16) (x2 : Vec Ideal S512x1024 .f32) (x3 : Vec Ideal S8x1024 .f32) (x4 : Vec Ideal S8x1024 .f32)
    (g0 : T 512 1024 .bf16 x0 F0)
    (g1 : T 1024 1024 .bf16 x1 F1)
    (g2 : T 512 1024 .f32 x2 F2)
    (g3 : T 8 1024 .f32 x3 F3)
    (g4 : T 8 1024 .f32 x4 F4) :
    T 512 1024 .bf16 (out1_7 x0 x1 x2 x3 x4) (s1_7 F0 F1 F2 F3 F4) := fun y => by
  show out1_7 x0 x1 x2 x3 x4 y = _
  canon_tiles x h
  all_goals
    apply IsR.at (s := S256x1024) (φ := .bf16) (i := x)
    rotate_left
    ·
      try unfold k1_pay11
      try unfold k1_pay12
      repeat' first
        | with_reducible (first | apply k1_pay1_isr | apply k1_pay2_isr | apply k1_pay3_isr | apply k1_pay4_isr | apply k1_pay5_isr | apply k1_pay6_isr | apply k1_pay7_isr | apply k1_pay8_isr | apply k1_pay9_isr | apply k1_pay10_isr)
        | apply isr_ld00 | apply isr_ld00b | apply isr_ld_row | apply isr_ld_rowb
        | exact g0 | exact g1 | exact g2 | exact g3 | exact g4
        | apply pos_all
    · show _ = s1_7 F0 F1 F2 F3 F4 (y 0).val (y 1).val
      rw [h0, h1]
      rfl

theorem fin_5 {A0 A1 A2 A3 A4 : RM} (c : Dev nD)
    (g0 : T 16384 1024 .bf16 (V c main_v14_2) A0)
    (g1 : T 1024 1024 .bf16 (V c main_v2) A1)
    (g2 : T 16384 1024 .f32 (V c main_arg0) A2)
    (g3 : T 8 1024 .f32 (V c main_v7) A3)
    (g4 : T 8 1024 .f32 (V c main_v11) A4) :
    T 16384 1024 .f32 ((dat1 V c).arrAt 5 cfg1.N) (s1_5 A0 A1 A2 A3 A4) := by
  have e : (dat1 V c).arrAt 5 cfg1.N = (fun i => ((N2 (a := 16384) (b := 1024) (s1_5 A0 A1 A2 A3 A4) i : ℝ) : EReal) : FVec Ideal S16384x1024 .f32) := by
    refine (dat1 V c).arrAt_eq_of_covers 5 _ (by decide +kernel) fun t _ y => ?_
    blk_simp
    rw [after1_5]
    refine (o_5 _ _ _ _ _ (blk_0 V c t g0) (blk_1 V c t g1) (blk_2 V c t g2) (blk_3 V c t g3) (blk_4 V c t g4) y).trans ?_
    refine congrArg _ ?_
    refine Eq.trans ?_ (congrArg₂ (s1_5 A0 A1 A2 A3 A4) (x' := 512 * t.val + (y 0).val) (y' := (y 1).val) ?_ ?_).symm
    rotate_left
    iterate 2 (blk_simp; rw [(idx t).2.2.2.2.2.1]; first | exact off _ _ _ | exact off0 _ _ | exact off1 _ _)
    rfl
  exact fun i => congrFun e i
theorem fin_6 {A0 A1 A2 A3 A4 : RM} (c : Dev nD)
    (g0 : T 16384 1024 .bf16 (V c main_v14_2) A0)
    (g1 : T 1024 1024 .bf16 (V c main_v2) A1)
    (g2 : T 16384 1024 .f32 (V c main_arg0) A2)
    (g3 : T 8 1024 .f32 (V c main_v7) A3)
    (g4 : T 8 1024 .f32 (V c main_v11) A4) :
    T 16384 1024 .f32 ((dat1 V c).arrAt 6 cfg1.N) (s1_6 A0 A1 A2 A3 A4) := by
  have e : (dat1 V c).arrAt 6 cfg1.N = (fun i => ((N2 (a := 16384) (b := 1024) (s1_6 A0 A1 A2 A3 A4) i : ℝ) : EReal) : FVec Ideal S16384x1024 .f32) := by
    refine (dat1 V c).arrAt_eq_of_covers 6 _ (by decide +kernel) fun t _ y => ?_
    blk_simp
    rw [after1_6]
    refine (o_6 _ _ _ _ _ (blk_0 V c t g0) (blk_1 V c t g1) (blk_2 V c t g2) (blk_3 V c t g3) (blk_4 V c t g4) y).trans ?_
    refine congrArg _ ?_
    refine Eq.trans ?_ (congrArg₂ (s1_6 A0 A1 A2 A3 A4) (x' := 512 * t.val + (y 0).val) (y' := (y 1).val) ?_ ?_).symm
    rotate_left
    iterate 2 (blk_simp; rw [(idx t).2.2.2.2.2.2.1]; first | exact off _ _ _ | exact off0 _ _ | exact off1 _ _)
    rfl
  exact fun i => congrFun e i
theorem fin_7 {A0 A1 A2 A3 A4 : RM} (c : Dev nD)
    (g0 : T 16384 1024 .bf16 (V c main_v14_2) A0)
    (g1 : T 1024 1024 .bf16 (V c main_v2) A1)
    (g2 : T 16384 1024 .f32 (V c main_arg0) A2)
    (g3 : T 8 1024 .f32 (V c main_v7) A3)
    (g4 : T 8 1024 .f32 (V c main_v11) A4) :
    T 16384 1024 .bf16 ((dat1 V c).arrAt 7 cfg1.N) (s1_7 A0 A1 A2 A3 A4) := by
  have e : (dat1 V c).arrAt 7 cfg1.N = (fun i => ((N2 (a := 16384) (b := 1024) (s1_7 A0 A1 A2 A3 A4) i : ℝ) : EReal) : FVec Ideal S16384x1024 .bf16) := by
    refine (dat1 V c).arrAt_eq_of_covers 7 _ (by decide +kernel) fun t _ y => ?_
    blk_simp
    rw [after1_7]
    refine (o_7 _ _ _ _ _ (blk_0 V c t g0) (blk_1 V c t g1) (blk_2 V c t g2) (blk_3 V c t g3) (blk_4 V c t g4) y).trans ?_
    refine congrArg _ ?_
    refine Eq.trans ?_ (congrArg₂ (s1_7 A0 A1 A2 A3 A4) (x' := 512 * t.val + (y 0).val) (y' := (y 1).val) ?_ ?_).symm
    rotate_left
    iterate 2 (blk_simp; rw [(idx t).2.2.2.2.2.2.2]; first | exact off _ _ _ | exact off0 _ _ | exact off1 _ _)
    rfl
  exact fun i => congrFun e i

end Cert.Tail.R1

end
-- ==== Proof.Tail.Pay2.lean ====
/-
  The printed vector operations of region 2 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k2_pay1_r (Fv0 Fv2 : RM) (r d : ℕ) : ℝ :=
  (∑ k1 : Fin 1024, Fv0 r k1.val * Fv2 k1.val d)
theorem k2_pay1_isr (hv0 : T 512 1024 .bf16 v0 Fv0) (hv2 : T 1024 1408 .bf16 v2 Fv2) : T 512 1408 .f32 (k2_pay1 v0 v2) (k2_pay1_r Fv0 Fv2) := by
  have hv1 := isr_cast hv0 shapeCasts_S512x1024_S512x1024
  have hv3 := isr_cast hv2 shapeCasts_S1024x1408_S1024x1408
  exact IsR.congr (isk_S512x1024_S1024x1408_S512x1408_1_0_0_1_n_n hv1 hv3) fun i => rfl

def k2_pay2_r (Fv5 Fv7 : RM) (r d : ℕ) : ℝ :=
  (∑ k1 : Fin 1024, Fv5 r k1.val * Fv7 k1.val d)
theorem k2_pay2_isr (hv5 : T 512 1024 .bf16 v5 Fv5) (hv7 : T 1024 1408 .bf16 v7 Fv7) : T 512 1408 .f32 (k2_pay2 v5 v7) (k2_pay2_r Fv5 Fv7) := by
  have hv6 := isr_cast hv5 shapeCasts_S512x1024_S512x1024
  have hv8 := isr_cast hv7 shapeCasts_S1024x1408_S1024x1408
  exact IsR.congr (isk_S512x1024_S1024x1408_S512x1408_1_0_0_1_n_n hv6 hv8) fun i => rfl

def k2_pay3_r (Fv0 Fv2 : RM) (r d : ℕ) : ℝ :=
  k2_pay1_r (fun r d => Fv0 r d) (fun r d => Fv2 r d) r d
theorem k2_pay3_isr (hv0 : T 512 1024 .bf16 v0 Fv0) (hv2 : T 1024 1408 .bf16 v2 Fv2) : T 512 1408 .bf16 (k2_pay3 v0 v2) (k2_pay3_r Fv0 Fv2) := by
  exact IsR.congr (isr_trunc bitsLt_bf16_f32 (k2_pay1_isr hv0 hv2)) fun i => rfl

def k2_pay4_r (Fv5 Fv7 : RM) (r d : ℕ) : ℝ :=
  k2_pay2_r (fun r d => Fv5 r d) (fun r d => Fv7 r d) r d
theorem k2_pay4_isr (hv5 : T 512 1024 .bf16 v5 Fv5) (hv7 : T 1024 1408 .bf16 v7 Fv7) : T 512 1408 .bf16 (k2_pay4 v5 v7) (k2_pay4_r Fv5 Fv7) := by
  exact IsR.congr (isr_trunc bitsLt_bf16_f32 (k2_pay2_isr hv5 hv7)) fun i => rfl

def k2_pay5_r (Fv0 Fv2 Fv5 Fv7 : RM) (r d : ℕ) : ℝ :=
  ((k2_pay1_r (fun r d => Fv0 r d) (fun r d => Fv2 r d) r d * (((1/2) * Real.tanh (((1/2) * k2_pay1_r (fun r d => Fv0 r d) (fun r d => Fv2 r d) r d))) + (1/2))) * k2_pay2_r (fun r d => Fv5 r d) (fun r d => Fv7 r d) r d)
theorem k2_pay5_isr (hv0 : T 512 1024 .bf16 v0 Fv0) (hv2 : T 1024 1408 .bf16 v2 Fv2) (hv5 : T 512 1024 .bf16 v5 Fv5) (hv7 : T 1024 1408 .bf16 v7 Fv7) : T 512 1408 .bf16 (k2_pay5 v0 v2 v5 v7) (k2_pay5_r Fv0 Fv2 Fv5 Fv7) := by
  have hv14 := isr_bc (s := S512x1408) lit_half
  have hv15 := isr_mul hv14 (k2_pay1_isr hv0 hv2)
  have hv16 := isr_tanh hv15
  have hv17 := isr_bc (s := S512x1408) lit_half
  have hv18 := isr_mul hv17 hv16
  have hv19 := isr_bc (s := S512x1408) lit_half
  have hv20 := isr_add hv18 hv19
  have hv21 := isr_mul (k2_pay1_isr hv0 hv2) hv20
  have hv22 := isr_mul hv21 (k2_pay2_isr hv5 hv7)
  exact IsR.congr (isr_trunc bitsLt_bf16_f32 hv22) fun i => rfl

end Cert.Tail

end
-- ==== Proof.Tail.R2.lean ====
/-
  Region 2 of the kernel (untrusted): its input blocks as shifted real matrices, what each point of the grid leaves in its
  output windows, and the arrays after the last point.
-/
module

public import proofs.«01_k».proof.Proof.Gen.KernelIdeal.Frame.Region2
public import proofs.«01_k».proof.Proof.Tail.Pay2
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R2

open Cert.KernelIdeal Cert.KernelIdeal.Gen
variable (V : (c : Dev nD) → (b : Ref sig .tc) → Buf (Elt Ideal) ((c : Thread nD τ).loc b))

theorem idx : ∀ t : Fin cfg2.N,
    win2_0.index t = ![t.val % 32, 0]
    ∧ win2_1.index t = ![0, t.val / 32]
    ∧ win2_2.index t = ![t.val % 32, 0]
    ∧ win2_3.index t = ![0, t.val / 32]
    ∧ win2_4.index t = ![t.val % 32, t.val / 32]
    ∧ win2_5.index t = ![t.val % 32, t.val / 32]
    ∧ win2_6.index t = ![t.val % 32, t.val / 32] :=
  (by decide +kernel : ∀ t : Fin grid2.N, _)

theorem blk_0 {F : RM} (c : Dev nD) (t : Fin cfg2.N) (h : T 16384 1024 .bf16 (V c main_v15_2) F) :
    T 512 1024 .bf16 (iblk2 V c 0 t) (fun r d => F (512 * (t.val % 32) + r) d) := fun i => by
  refine IsR.at h (congrArg₂ F ?_ ?_) <;> (blk_simp; rw [(idx t).1]; first | exact off _ _ _ | exact off0 _ _ | exact off1 _ _)
theorem blk_1 {F : RM} (c : Dev nD) (t : Fin cfg2.N) (h : T 1024 2816 .bf16 (V c main_v3) F) :
    T 1024 1408 .bf16 (iblk2 V c 1 t) (fun r d => F r (1408 * (t.val / 32) + d)) := fun i => by
  refine IsR.at h (congrArg₂ F ?_ ?_) <;> (blk_simp; rw [(idx t).2.1]; first | exact off _ _ _ | exact off0 _ _ | exact off1 _ _)
theorem blk_2 {F : RM} (c : Dev nD) (t : Fin cfg2.N) (h : T 16384 1024 .bf16 (V c main_v15_2) F) :
    T 512 1024 .bf16 (iblk2 V c 2 t) (fun r d => F (512 * (t.val % 32) + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg2.N) (h : T 1024 2816 .bf16 (V c main_v4) F) :
    T 1024 1408 .bf16 (iblk2 V c 3 t) (fun r d => F r (1408 * (t.val / 32) + d)) := fun i => by
  refine IsR.at h (congrArg₂ F ?_ ?_) <;> (blk_simp; rw [(idx t).2.2.2.1]; first | exact off _ _ _ | exact off0 _ _ | exact off1 _ _)

theorem o_4 {F0 F1 F2 F3 : RM} (x0 : Vec Ideal S512x1024 .bf16) (x1 : Vec Ideal S1024x1408 .bf16) (x2 : Vec Ideal S512x1024 .bf16) (x3 : Vec Ideal S1024x1408 .bf16)
    (g0 : T 512 1024 .bf16 x0 F0)
    (g1 : T 1024 1408 .bf16 x1 F1)
    (g2 : T 512 1024 .bf16 x2 F2)
    (g3 : T 1024 1408 .bf16 x3 F3) :
    T 512 1408 .bf16 (out2_4 x0 x1 x2 x3) (s2_4 F0 F1 F2 F3) := fun y => by
  show out2_4 x0 x1 x2 x3 y = _
  canon_tiles x h
  all_goals
    apply IsR.at (s := S512x1408) (φ := .bf16) (i := x)
    rotate_left
    ·
      repeat' first
        | with_reducible (first | apply k2_pay1_isr | apply k2_pay2_isr | apply k2_pay3_isr | apply k2_pay4_isr | apply k2_pay5_isr)
        | apply isr_ld00 | apply isr_ld00b | apply isr_ld_row | apply isr_ld_rowb
        | exact g0 | exact g1 | exact g2 | exact g3
        | apply pos_all
    · show _ = s2_4 F0 F1 F2 F3 (y 0).val (y 1).val
      rw [h0, h1]
      rfl
theorem o_5 {F0 F1 F2 F3 : RM} (x0 : Vec Ideal S512x1024 .bf16) (x1 : Vec Ideal S1024x1408 .bf16) (x2 : Vec Ideal S512x1024 .bf16) (x3 : Vec Ideal S1024x1408 .bf16)
    (g0 : T 512 1024 .bf16 x0 F0)
    (g1 : T 1024 1408 .bf16 x1 F1)
    (g2 : T 512 1024 .bf16 x2 F2)
    (g3 : T 1024 1408 .bf16 x3 F3) :
    T 512 1408 .bf16 (out2_5 x0 x1 x2 x3) (s2_5 F0 F1 F2 F3) := fun y => by
  show out2_5 x0 x1 x2 x3 y = _
  canon_tiles x h
  all_goals
    apply IsR.at (s := S512x1408) (φ := .bf16) (i := x)
    rotate_left
    ·
      repeat' first
        | with_reducible (first | apply k2_pay1_isr | apply k2_pay2_isr | apply k2_pay3_isr | apply k2_pay4_isr | apply k2_pay5_isr)
        | apply isr_ld00 | apply isr_ld00b | apply isr_ld_row | apply isr_ld_rowb
        | exact g0 | exact g1 | exact g2 | exact g3
        | apply pos_all
    · show _ = s2_5 F0 F1 F2 F3 (y 0).val (y 1).val
      rw [h0, h1]
      rfl
theorem o_6 {F0 F1 F2 F3 : RM} (x0 : Vec Ideal S512x1024 .bf16) (x1 : Vec Ideal S1024x1408 .bf16) (x2 : Vec Ideal S512x1024 .bf16) (x3 : Vec Ideal S1024x1408 .bf16)
    (g0 : T 512 1024 .bf16 x0 F0)
    (g1 : T 1024 1408 .bf16 x1 F1)
    (g2 : T 512 1024 .bf16 x2 F2)
    (g3 : T 1024 1408 .bf16 x3 F3) :
    T 512 1408 .bf16 (out2_6 x0 x1 x2 x3) (s2_6 F0 F1 F2 F3) := fun y => by
  show out2_6 x0 x1 x2 x3 y = _
  canon_tiles x h
  all_goals
    apply IsR.at (s := S512x1408) (φ := .bf16) (i := x)
    rotate_left
    ·
      repeat' first
        | with_reducible (first | apply k2_pay1_isr | apply k2_pay2_isr | apply k2_pay3_isr | apply k2_pay4_isr | apply k2_pay5_isr)
        | apply isr_ld00 | apply isr_ld00b | apply isr_ld_row | apply isr_ld_rowb
        | exact g0 | exact g1 | exact g2 | exact g3
        | apply pos_all
    · show _ = s2_6 F0 F1 F2 F3 (y 0).val (y 1).val
      rw [h0, h1]
      rfl

theorem fin_4 {A0 A1 A3 : RM} (c : Dev nD)
    (g0 : T 16384 1024 .bf16 (V c main_v15_2) A0)
    (g1 : T 1024 2816 .bf16 (V c main_v3) A1)
    (g3 : T 1024 2816 .bf16 (V c main_v4) A3) :
    T 16384 2816 .bf16 ((dat2 V c).arrAt 4 cfg2.N) (s2_4 A0 A1 A0 A3) := by
  have e : (dat2 V c).arrAt 4 cfg2.N = (fun i => ((N2 (a := 16384) (b := 2816) (s2_4 A0 A1 A0 A3) i : ℝ) : EReal) : FVec Ideal S16384x2816 .bf16) := by
    refine (dat2 V c).arrAt_eq_of_covers 4 _ (by decide +kernel) fun t _ y => ?_
    blk_simp
    rw [after2_4]
    refine (o_4 _ _ _ _ (blk_0 V c t g0) (blk_1 V c t g1) (blk_2 V c t g0) (blk_3 V c t g3) y).trans ?_
    refine congrArg _ ?_
    refine Eq.trans ?_ (congrArg₂ (s2_4 A0 A1 A0 A3) (x' := 512 * (t.val % 32) + (y 0).val) (y' := 1408 * (t.val / 32) + (y 1).val) ?_ ?_).symm
    rotate_left
    iterate 2 (blk_simp; rw [(idx t).2.2.2.2.1]; first | exact off _ _ _ | exact off0 _ _ | exact off1 _ _)
    rfl
  exact fun i => congrFun e i
theorem fin_5 {A0 A1 A3 : RM} (c : Dev nD)
    (g0 : T 16384 1024 .bf16 (V c main_v15_2) A0)
    (g1 : T 1024 2816 .bf16 (V c main_v3) A1)
    (g3 : T 1024 2816 .bf16 (V c main_v4) A3) :
    T 16384 2816 .bf16 ((dat2 V c).arrAt 5 cfg2.N) (s2_5 A0 A1 A0 A3) := by
  have e : (dat2 V c).arrAt 5 cfg2.N = (fun i => ((N2 (a := 16384) (b := 2816) (s2_5 A0 A1 A0 A3) i : ℝ) : EReal) : FVec Ideal S16384x2816 .bf16) := by
    refine (dat2 V c).arrAt_eq_of_covers 5 _ (by decide +kernel) fun t _ y => ?_
    blk_simp
    rw [after2_5]
    refine (o_5 _ _ _ _ (blk_0 V c t g0) (blk_1 V c t g1) (blk_2 V c t g0) (blk_3 V c t g3) y).trans ?_
    refine congrArg _ ?_
    refine Eq.trans ?_ (congrArg₂ (s2_5 A0 A1 A0 A3) (x' := 512 * (t.val % 32) + (y 0).val) (y' := 1408 * (t.val / 32) + (y 1).val) ?_ ?_).symm
    rotate_left
    iterate 2 (blk_simp; rw [(idx t).2.2.2.2.2.1]; first | exact off _ _ _ | exact off0 _ _ | exact off1 _ _)
    rfl
  exact fun i => congrFun e i
theorem fin_6 {A0 A1 A3 : RM} (c : Dev nD)
    (g0 : T 16384 1024 .bf16 (V c main_v15_2) A0)
    (g1 : T 1024 2816 .bf16 (V c main_v3) A1)
    (g3 : T 1024 2816 .bf16 (V c main_v4) A3) :
    T 16384 2816 .bf16 ((dat2 V c).arrAt 6 cfg2.N) (s2_6 A0 A1 A0 A3) := by
  have e : (dat2 V c).arrAt 6 cfg2.N = (fun i => ((N2 (a := 16384) (b := 2816) (s2_6 A0 A1 A0 A3) i : ℝ) : EReal) : FVec Ideal S16384x2816 .bf16) := by
    refine (dat2 V c).arrAt_eq_of_covers 6 _ (by decide +kernel) fun t _ y => ?_
    blk_simp
    rw [after2_6]
    refine (o_6 _ _ _ _ (blk_0 V c t g0) (blk_1 V c t g1) (blk_2 V c t g0) (blk_3 V c t g3) y).trans ?_
    refine congrArg _ ?_
    refine Eq.trans ?_ (congrArg₂ (s2_6 A0 A1 A0 A3) (x' := 512 * (t.val % 32) + (y 0).val) (y' := 1408 * (t.val / 32) + (y 1).val) ?_ ?_).symm
    rotate_left
    iterate 2 (blk_simp; rw [(idx t).2.2.2.2.2.2]; first | exact off _ _ _ | exact off0 _ _ | exact off1 _ _)
    rfl
  exact fun i => congrFun e i

end Cert.Tail.R2

end
-- ==== Proof.Tail.Pay3.lean ====
/-
  The printed vector operations of region 3 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k3_pay1_r (Fv144 Fv188 : RM) (r d : ℕ) : ℝ :=
  (Fv188 r d + (∑ k1 : Fin 256, Fv144 k1.val d))
theorem k3_pay1_isr (hv144 : T 256 1024 .f32 v144 Fv144) (hv188 : T 1 1024 .f32 v188 Fv188) : T 1 1024 .f32 (k3_pay1 v144 v188) (k3_pay1_r Fv144 Fv188) := by
  have hv189 := isr_cast hv188 shapeCasts_S1x1024_S1x1024
  have hv190 := isr_red0 hv144 reduces_S256x1024_S1024 (.inl rfl) rfl
  have hv191 := isr_cast_row hv190 shapeCasts_S1024_S1x1024
  exact IsR.congr (isr_add hv189 hv191) fun i => rfl

def k3_pay2_r (Fv107 Fv164 Fv194 : RM) (r d : ℕ) : ℝ :=
  (Fv194 r d + (∑ k1 : Fin 256, (Fv164 k1.val d * Fv107 k1.val d)))
theorem k3_pay2_isr (hv107 : T 256 1024 .f32 v107 Fv107) (hv164 : T 256 1024 .f32 v164 Fv164) (hv194 : T 1 1024 .f32 v194 Fv194) : T 1 1024 .f32 (k3_pay2 v107 v164 v194) (k3_pay2_r Fv107 Fv164 Fv194) := by
  have hv195 := isr_cast hv194 shapeCasts_S1x1024_S1x1024
  have hv196 := isr_mul hv164 hv107
  have hv197 := isr_red0 hv196 reduces_S256x1024_S1024 (.inl rfl) rfl
  have hv198 := isr_cast_row hv197 shapeCasts_S1024_S1x1024
  exact IsR.congr (isr_add hv195 hv198) fun i => rfl

def k3_pay3_r (r d : ℕ) : ℝ :=
  0
theorem k3_pay3_isr : T 8 1024 .f32 (k3_pay3 ) (k3_pay3_r ) := by
  exact IsR.congr (isr_bc (s := S8x1024) lit_zero) fun i => rfl

def k3_pay4_r (Fv5 Fv7 : RM) (r d : ℕ) : ℝ :=
  (∑ k1 : Fin 2816, Fv5 r k1.val * Fv7 k1.val d)
theorem k3_pay4_isr (hv5 : T 256 2816 .bf16 v5 Fv5) (hv7 : T 2816 1024 .bf16 v7 Fv7) : T 256 1024 .f32 (k3_pay4 v5 v7) (k3_pay4_r Fv5 Fv7) := by
  have hv6 := isr_cast hv5 shapeCasts_S256x2816_S256x2816
  have hv8 := isr_cast hv7 shapeCasts_S2816x1024_S2816x1024
  exact IsR.congr (isk_S256x2816_S2816x1024_S256x1024_1_0_0_1_n_n hv6 hv8) fun i => rfl

def k3_pay5_r (Fv5 Fv7 Fv10 Fv14 : RM) (r d : ℕ) : ℝ :=
  (((alphaR * Fv10 r d) + (Fv14 0 d * k3_pay4_r (fun r d => Fv5 r d) (fun r d => Fv7 r d) r d)) - ((∑ k1 : Fin 1024, ((alphaR * Fv10 r k1.val) + (Fv14 0 k1.val * k3_pay4_r (fun r d => Fv5 r d) (fun r d => Fv7 r d) r k1.val))) / 1024))
theorem k3_pay5_isr (hv5 : T 256 2816 .bf16 v5 Fv5) (hv7 : T 2816 1024 .bf16 v7 Fv7) (hv10 : T 256 1024 .f32 v10 Fv10) (hv14 : T 1 1024 .f32 v14 Fv14) : T 256 1024 .f32 (k3_pay5 v5 v7 v10 v14) (k3_pay5_r Fv5 Fv7 Fv10 Fv14) := by
  have hv11 := isr_cast hv10 shapeCasts_S256x1024_S256x1024
  have hv12 := isr_bc (s := S256x1024) lit_alpha
  have hv13 := isr_mul hv12 hv11
  have hv15 := isr_cast hv14 shapeCasts_S1x1024_S1x1024
  have hv16 := isr_row hv15 broadcasts_S1x1024_S256x1024
  have hv17 := isr_mul hv16 (k3_pay4_isr hv5 hv7)
  have hv18 := isr_add hv13 hv17
  have hv19 := isr_red1 hv18 reduces_S256x1024_S256 (.inl rfl) rfl
  have hv20 := isr_cast_col256 hv19 shapeCasts_S256_S256x1
  have hv21 := isr_bc (s := S256x1) lit_lanes
  have hv22 := isr_div hv20 hv21 (fun _ => by norm_num)
  have hv23 := isr_col hv22 broadcasts_S256x1_S256x1024
  exact IsR.congr (isr_sub hv18 hv23) fun i => rfl

def k3_pay6_r (Fv5 Fv7 Fv10 Fv14 : RM) (r d : ℕ) : ℝ :=
  (Real.sqrt ((((∑ k1 : Fin 1024, (k3_pay5_r (fun r d => Fv5 r d) (fun r d => Fv7 r d) (fun r d => Fv10 r d) (fun r d => Fv14 r d) r k1.val * k3_pay5_r (fun r d => Fv5 r d) (fun r d => Fv7 r d) (fun r d => Fv10 r d) (fun r d => Fv14 r d) r k1.val)) / 1024) + epsR)))⁻¹
theorem k3_pay6_isr (hv5 : T 256 2816 .bf16 v5 Fv5) (hv7 : T 2816 1024 .bf16 v7 Fv7) (hv10 : T 256 1024 .f32 v10 Fv10) (hv14 : T 1 1024 .f32 v14 Fv14) : T 256 1 .f32 (k3_pay6 v5 v7 v10 v14) (k3_pay6_r Fv5 Fv7 Fv10 Fv14) := by
  have hv25 := isr_mul (k3_pay5_isr hv5 hv7 hv10 hv14) (k3_pay5_isr hv5 hv7 hv10 hv14)
  have hv26 := isr_red1 hv25 reduces_S256x1024_S256 (.inl rfl) rfl
  have hv27 := isr_cast_col256 hv26 shapeCasts_S256_S256x1
  have hv28 := isr_bc (s := S256x1) lit_lanes
  have hv29 := isr_div hv27 hv28 (fun _ => by norm_num)
  have hv30 := isr_bc (s := S256x1) lit_eps
  have hv31 := isr_add hv29 hv30
  exact IsR.congr (isr_rsqrt hv31 (fun _ => var_pos _)) fun i => rfl

def k3_pay7_r (Fv5 Fv7 Fv10 Fv14 : RM) (r d : ℕ) : ℝ :=
  (k3_pay5_r (fun r d => Fv5 r d) (fun r d => Fv7 r d) (fun r d => Fv10 r d) (fun r d => Fv14 r d) r d * k3_pay6_r (fun r d => Fv5 r d) (fun r d => Fv7 r d) (fun r d => Fv10 r d) (fun r d => Fv14 r d) r 0)
theorem k3_pay7_isr (hv5 : T 256 2816 .bf16 v5 Fv5) (hv7 : T 2816 1024 .bf16 v7 Fv7) (hv10 : T 256 1024 .f32 v10 Fv10) (hv14 : T 1 1024 .f32 v14 Fv14) : T 256 1024 .f32 (k3_pay7 v5 v7 v10 v14) (k3_pay7_r Fv5 Fv7 Fv10 Fv14) := by
  have hv33 := isr_col (k3_pay6_isr hv5 hv7 hv10 hv14) broadcasts_S256x1_S256x1024
  exact IsR.congr (isr_mul (k3_pay5_isr hv5 hv7 hv10 hv14) hv33) fun i => rfl

def k3_pay8_r (Fv35 : RM) (r d : ℕ) : ℝ :=
  Fv35 r d
theorem k3_pay8_isr (hv35 : T 1 1024 .f32 v35 Fv35) : T 1 1024 .f32 (k3_pay8 v35) (k3_pay8_r Fv35) := by
  exact IsR.congr (isr_cast hv35 shapeCasts_S1x1024_S1x1024) fun i => rfl

def k3_pay9_r (Fv34 Fv36 Fv39 Fv43 : RM) (r d : ℕ) : ℝ :=
  (((Fv34 r d * Fv36 0 d) + Fv39 0 d) - Fv43 r d)
theorem k3_pay9_isr (hv34 : T 256 1024 .f32 v34 Fv34) (hv36 : T 1 1024 .f32 v36 Fv36) (hv39 : T 1 1024 .f32 v39 Fv39) (hv43 : T 256 1024 .f32 v43 Fv43) : T 256 1024 .f32 (k3_pay9 v34 v36 v39 v43) (k3_pay9_r Fv34 Fv36 Fv39 Fv43) := by
  have hv37 := isr_row hv36 broadcasts_S1x1024_S256x1024
  have hv38 := isr_mul hv34 hv37
  have hv40 := isr_cast hv39 shapeCasts_S1x1024_S1x1024
  have hv41 := isr_row hv40 broadcasts_S1x1024_S256x1024
  have hv42 := isr_add hv38 hv41
  exact IsR.congr (isr_sub hv42 hv43) fun i => rfl

def k3_pay10_r (Fv34 Fv36 Fv39 Fv43 : RM) (r d : ℕ) : ℝ :=
  (k3_pay9_r (fun r d => Fv34 r d) (fun r d => Fv36 r d) (fun r d => Fv39 r d) (fun r d => Fv43 r d) r d * (1/1024))
theorem k3_pay10_isr (hv34 : T 256 1024 .f32 v34 Fv34) (hv36 : T 1 1024 .f32 v36 Fv36) (hv39 : T 1 1024 .f32 v39 Fv39) (hv43 : T 256 1024 .f32 v43 Fv43) : T 256 1024 .f32 (k3_pay10 v34 v36 v39 v43) (k3_pay10_r Fv34 Fv36 Fv39 Fv43) := by
  have hv45 := isr_bc (s := S256x1024) lit_invD
  exact IsR.congr (isr_mul (k3_pay9_isr hv34 hv36 hv39 hv43) hv45) fun i => rfl

def k3_pay11_r (Fv32 Fv34 Fv36 Fv39 Fv43 Fv47 : RM) (r d : ℕ) : ℝ :=
  (Fv32 r 0 * (((k3_pay10_r (fun r d => Fv34 r d) (fun r d => Fv36 r d) (fun r d => Fv39 r d) (fun r d => Fv43 r d) r d * Fv47 0 d) - ((∑ k1 : Fin 1024, (k3_pay10_r (fun r d => Fv34 r d) (fun r d => Fv36 r d) (fun r d => Fv39 r d) (fun r d => Fv43 r d) r k1.val * Fv47 0 k1.val)) / 1024)) - (Fv34 r d * ((∑ k2 : Fin 1024, ((k3_pay10_r (fun r d => Fv34 r d) (fun r d => Fv36 r d) (fun r d => Fv39 r d) (fun r d => Fv43 r d) r k2.val * Fv47 0 k2.val) * Fv34 r k2.val)) / 1024))))
theorem k3_pay11_isr (hv32 : T 256 1 .f32 v32 Fv32) (hv34 : T 256 1024 .f32 v34 Fv34) (hv36 : T 1 1024 .f32 v36 Fv36) (hv39 : T 1 1024 .f32 v39 Fv39) (hv43 : T 256 1024 .f32 v43 Fv43) (hv47 : T 1 1024 .f32 v47 Fv47) : T 256 1024 .f32 (k3_pay11 v32 v34 v36 v39 v43 v47) (k3_pay11_r Fv32 Fv34 Fv36 Fv39 Fv43 Fv47) := by
  have hv48 := isr_cast hv47 shapeCasts_S1x1024_S1x1024
  have hv49 := isr_row hv48 broadcasts_S1x1024_S256x1024
  have hv50 := isr_mul (k3_pay10_isr hv34 hv36 hv39 hv43) hv49
  have hv51 := isr_red1 hv50 reduces_S256x1024_S256 (.inl rfl) rfl
  have hv52 := isr_cast_col256 hv51 shapeCasts_S256_S256x1
  have hv53 := isr_bc (s := S256x1) lit_lanes
  have hv54 := isr_div hv52 hv53 (fun _ => by norm_num)
  have hv55 := isr_col hv54 broadcasts_S256x1_S256x1024
  have hv56 := isr_sub hv50 hv55
  have hv57 := isr_mul hv50 hv34
  have hv58 := isr_red1 hv57 reduces_S256x1024_S256 (.inl rfl) rfl
  have hv59 := isr_cast_col256 hv58 shapeCasts_S256_S256x1
  have hv60 := isr_bc (s := S256x1) lit_lanes
  have hv61 := isr_div hv59 hv60 (fun _ => by norm_num)
  have hv62 := isr_col hv61 broadcasts_S256x1_S256x1024
  have hv63 := isr_mul hv34 hv62
  have hv64 := isr_sub hv56 hv63
  have hv65 := isr_col hv32 broadcasts_S256x1_S256x1024
  exact IsR.congr (isr_mul hv65 hv64) fun i => rfl

def k3_pay12_r (Fv32 Fv34 Fv36 Fv39 Fv43 Fv47 Fv68 : RM) (r d : ℕ) : ℝ :=
  (Fv68 0 d * k3_pay11_r (fun r d => Fv32 r d) (fun r d => Fv34 r d) (fun r d => Fv36 r d) (fun r d => Fv39 r d) (fun r d => Fv43 r d) (fun r d => Fv47 r d) r d)
theorem k3_pay12_isr (hv32 : T 256 1 .f32 v32 Fv32) (hv34 : T 256 1024 .f32 v34 Fv34) (hv36 : T 1 1024 .f32 v36 Fv36) (hv39 : T 1 1024 .f32 v39 Fv39) (hv43 : T 256 1024 .f32 v43 Fv43) (hv47 : T 1 1024 .f32 v47 Fv47) (hv68 : T 1 1024 .f32 v68 Fv68) : T 256 1024 .bf16 (k3_pay12 v32 v34 v36 v39 v43 v47 v68) (k3_pay12_r Fv32 Fv34 Fv36 Fv39 Fv43 Fv47 Fv68) := by
  have hv69 := isr_cast hv68 shapeCasts_S1x1024_S1x1024
  have hv70 := isr_row hv69 broadcasts_S1x1024_S256x1024
  have hv71 := isr_mul hv70 (k3_pay11_isr hv32 hv34 hv36 hv39 hv43 hv47)
  exact IsR.congr (isr_trunc bitsLt_bf16_f32 hv71) fun i => rfl

def k3_pay13_r (Fv74 : RM) (r d : ℕ) : ℝ :=
  Fv74 r d
theorem k3_pay13_isr (hv74 : T 1 1024 .f32 v74 Fv74) : T 1 1024 .f32 (k3_pay13 v74) (k3_pay13_r Fv74) := by
  exact IsR.congr (isr_cast hv74 shapeCasts_S1x1024_S1x1024) fun i => rfl

def k3_pay14_r (Fv44 Fv75 : RM) (r d : ℕ) : ℝ :=
  (Fv75 r d + ((∑ k1 : Fin 256, (Fv44 k1.val d * Fv44 k1.val d)) * (1/2048)))
theorem k3_pay14_isr (hv44 : T 256 1024 .f32 v44 Fv44) (hv75 : T 1 1024 .f32 v75 Fv75) : T 1 1024 .f32 (k3_pay14 v44 v75) (k3_pay14_r Fv44 Fv75) := by
  have hv76 := isr_mul hv44 hv44
  have hv77 := isr_red0 hv76 reduces_S256x1024_S1024 (.inl rfl) rfl
  have hv78 := isr_cast_row hv77 shapeCasts_S1024_S1x1024
  have hv79 := isr_bc (s := S1x1024) lit_halfD
  have hv80 := isr_mul hv78 hv79
  exact IsR.congr (isr_add hv75 hv80) fun i => rfl

def k3_pay15_r (Fv34 Fv46 Fv83 : RM) (r d : ℕ) : ℝ :=
  (Fv83 r d + (∑ k1 : Fin 256, (Fv46 k1.val d * Fv34 k1.val d)))
theorem k3_pay15_isr (hv34 : T 256 1024 .f32 v34 Fv34) (hv46 : T 256 1024 .f32 v46 Fv46) (hv83 : T 1 1024 .f32 v83 Fv83) : T 1 1024 .f32 (k3_pay15 v34 v46 v83) (k3_pay15_r Fv34 Fv46 Fv83) := by
  have hv84 := isr_cast hv83 shapeCasts_S1x1024_S1x1024
  have hv85 := isr_mul hv46 hv34
  have hv86 := isr_red0 hv85 reduces_S256x1024_S1024 (.inl rfl) rfl
  have hv87 := isr_cast_row hv86 shapeCasts_S1024_S1x1024
  exact IsR.congr (isr_add hv84 hv87) fun i => rfl

def k3_pay16_r (Fv46 Fv90 : RM) (r d : ℕ) : ℝ :=
  (Fv90 r d + (∑ k1 : Fin 256, Fv46 k1.val d))
theorem k3_pay16_isr (hv46 : T 256 1024 .f32 v46 Fv46) (hv90 : T 1 1024 .f32 v90 Fv90) : T 1 1024 .f32 (k3_pay16 v46 v90) (k3_pay16_r Fv46 Fv90) := by
  have hv91 := isr_cast hv90 shapeCasts_S1x1024_S1x1024
  have hv92 := isr_red0 hv46 reduces_S256x1024_S1024 (.inl rfl) rfl
  have hv93 := isr_cast_row hv92 shapeCasts_S1024_S1x1024
  exact IsR.congr (isr_add hv91 hv93) fun i => rfl

def k3_pay17_r (Fv9 Fv66 Fv96 : RM) (r d : ℕ) : ℝ :=
  (Fv96 r d + (∑ k1 : Fin 256, (Fv66 k1.val d * Fv9 k1.val d)))
theorem k3_pay17_isr (hv9 : T 256 1024 .f32 v9 Fv9) (hv66 : T 256 1024 .f32 v66 Fv66) (hv96 : T 1 1024 .f32 v96 Fv96) : T 1 1024 .f32 (k3_pay17 v9 v66 v96) (k3_pay17_r Fv9 Fv66 Fv96) := by
  have hv97 := isr_cast hv96 shapeCasts_S1x1024_S1x1024
  have hv98 := isr_mul hv66 hv9
  have hv99 := isr_red0 hv98 reduces_S256x1024_S1024 (.inl rfl) rfl
  have hv100 := isr_cast_row hv99 shapeCasts_S1024_S1x1024
  exact IsR.congr (isr_add hv97 hv100) fun i => rfl

def k3_pay18_r (Fv103 Fv105 : RM) (r d : ℕ) : ℝ :=
  (∑ k1 : Fin 2816, Fv103 r k1.val * Fv105 k1.val d)
theorem k3_pay18_isr (hv103 : T 256 2816 .bf16 v103 Fv103) (hv105 : T 2816 1024 .bf16 v105 Fv105) : T 256 1024 .f32 (k3_pay18 v103 v105) (k3_pay18_r Fv103 Fv105) := by
  have hv104 := isr_cast hv103 shapeCasts_S256x2816_S256x2816
  have hv106 := isr_cast hv105 shapeCasts_S2816x1024_S2816x1024
  exact IsR.congr (isk_S256x2816_S2816x1024_S256x1024_1_0_0_1_n_n hv104 hv106) fun i => rfl

def k3_pay19_r (Fv107 Fv108 Fv112 : RM) (r d : ℕ) : ℝ :=
  (((alphaR * Fv108 r d) + (Fv112 0 d * Fv107 r d)) - ((∑ k1 : Fin 1024, ((alphaR * Fv108 r k1.val) + (Fv112 0 k1.val * Fv107 r k1.val))) / 1024))
theorem k3_pay19_isr (hv107 : T 256 1024 .f32 v107 Fv107) (hv108 : T 256 1024 .f32 v108 Fv108) (hv112 : T 1 1024 .f32 v112 Fv112) : T 256 1024 .f32 (k3_pay19 v107 v108 v112) (k3_pay19_r Fv107 Fv108 Fv112) := by
  have hv109 := isr_cast hv108 shapeCasts_S256x1024_S256x1024
  have hv110 := isr_bc (s := S256x1024) lit_alpha
  have hv111 := isr_mul hv110 hv109
  have hv113 := isr_cast hv112 shapeCasts_S1x1024_S1x1024
  have hv114 := isr_row hv113 broadcasts_S1x1024_S256x1024
  have hv115 := isr_mul hv114 hv107
  have hv116 := isr_add hv111 hv115
  have hv117 := isr_red1 hv116 reduces_S256x1024_S256 (.inl rfl) rfl
  have hv118 := isr_cast_col256 hv117 shapeCasts_S256_S256x1
  have hv119 := isr_bc (s := S256x1) lit_lanes
  have hv120 := isr_div hv118 hv119 (fun _ => by norm_num)
  have hv121 := isr_col hv120 broadcasts_S256x1_S256x1024
  exact IsR.congr (isr_sub hv116 hv121) fun i => rfl

def k3_pay20_r (Fv107 Fv108 Fv112 : RM) (r d : ℕ) : ℝ :=
  (Real.sqrt ((((∑ k1 : Fin 1024, (k3_pay19_r (fun r d => Fv107 r d) (fun r d => Fv108 r d) (fun r d => Fv112 r d) r k1.val * k3_pay19_r (fun r d => Fv107 r d) (fun r d => Fv108 r d) (fun r d => Fv112 r d) r k1.val)) / 1024) + epsR)))⁻¹
theorem k3_pay20_isr (hv107 : T 256 1024 .f32 v107 Fv107) (hv108 : T 256 1024 .f32 v108 Fv108) (hv112 : T 1 1024 .f32 v112 Fv112) : T 256 1 .f32 (k3_pay20 v107 v108 v112) (k3_pay20_r Fv107 Fv108 Fv112) := by
  have hv123 := isr_mul (k3_pay19_isr hv107 hv108 hv112) (k3_pay19_isr hv107 hv108 hv112)
  have hv124 := isr_red1 hv123 reduces_S256x1024_S256 (.inl rfl) rfl
  have hv125 := isr_cast_col256 hv124 shapeCasts_S256_S256x1
  have hv126 := isr_bc (s := S256x1) lit_lanes
  have hv127 := isr_div hv125 hv126 (fun _ => by norm_num)
  have hv128 := isr_bc (s := S256x1) lit_eps
  have hv129 := isr_add hv127 hv128
  exact IsR.congr (isr_rsqrt hv129 (fun _ => var_pos _)) fun i => rfl

def k3_pay21_r (Fv107 Fv108 Fv112 : RM) (r d : ℕ) : ℝ :=
  (k3_pay19_r (fun r d => Fv107 r d) (fun r d => Fv108 r d) (fun r d => Fv112 r d) r d * k3_pay20_r (fun r d => Fv107 r d) (fun r d => Fv108 r d) (fun r d => Fv112 r d) r 0)
theorem k3_pay21_isr (hv107 : T 256 1024 .f32 v107 Fv107) (hv108 : T 256 1024 .f32 v108 Fv108) (hv112 : T 1 1024 .f32 v112 Fv112) : T 256 1024 .f32 (k3_pay21 v107 v108 v112) (k3_pay21_r Fv107 Fv108 Fv112) := by
  have hv131 := isr_col (k3_pay20_isr hv107 hv108 hv112) broadcasts_S256x1_S256x1024
  exact IsR.congr (isr_mul (k3_pay19_isr hv107 hv108 hv112) hv131) fun i => rfl

def k3_pay22_r (Fv107 Fv108 Fv112 Fv133 Fv137 Fv141 : RM) (r d : ℕ) : ℝ :=
  (((k3_pay21_r (fun r d => Fv107 r d) (fun r d => Fv108 r d) (fun r d => Fv112 r d) r d * Fv133 0 d) + Fv137 0 d) - Fv141 r d)
theorem k3_pay22_isr (hv107 : T 256 1024 .f32 v107 Fv107) (hv108 : T 256 1024 .f32 v108 Fv108) (hv112 : T 1 1024 .f32 v112 Fv112) (hv133 : T 1 1024 .f32 v133 Fv133) (hv137 : T 1 1024 .f32 v137 Fv137) (hv141 : T 256 1024 .f32 v141 Fv141) : T 256 1024 .f32 (k3_pay22 v107 v108 v112 v133 v137 v141) (k3_pay22_r Fv107 Fv108 Fv112 Fv133 Fv137 Fv141) := by
  have hv134 := isr_cast hv133 shapeCasts_S1x1024_S1x1024
  have hv135 := isr_row hv134 broadcasts_S1x1024_S256x1024
  have hv136 := isr_mul (k3_pay21_isr hv107 hv108 hv112) hv135
  have hv138 := isr_cast hv137 shapeCasts_S1x1024_S1x1024
  have hv139 := isr_row hv138 broadcasts_S1x1024_S256x1024
  have hv140 := isr_add hv136 hv139
  exact IsR.congr (isr_sub hv140 hv141) fun i => rfl

def k3_pay23_r (Fv107 Fv108 Fv112 Fv133 Fv137 Fv141 : RM) (r d : ℕ) : ℝ :=
  (k3_pay22_r (fun r d => Fv107 r d) (fun r d => Fv108 r d) (fun r d => Fv112 r d) (fun r d => Fv133 r d) (fun r d => Fv137 r d) (fun r d => Fv141 r d) r d * (1/1024))
theorem k3_pay23_isr (hv107 : T 256 1024 .f32 v107 Fv107) (hv108 : T 256 1024 .f32 v108 Fv108) (hv112 : T 1 1024 .f32 v112 Fv112) (hv133 : T 1 1024 .f32 v133 Fv133) (hv137 : T 1 1024 .f32 v137 Fv137) (hv141 : T 256 1024 .f32 v141 Fv141) : T 256 1024 .f32 (k3_pay23 v107 v108 v112 v133 v137 v141) (k3_pay23_r Fv107 Fv108 Fv112 Fv133 Fv137 Fv141) := by
  have hv143 := isr_bc (s := S256x1024) lit_invD
  exact IsR.congr (isr_mul (k3_pay22_isr hv107 hv108 hv112 hv133 hv137 hv141) hv143) fun i => rfl

def k3_pay24_r (Fv107 Fv108 Fv112 Fv133 Fv137 Fv141 Fv145 : RM) (r d : ℕ) : ℝ :=
  (k3_pay23_r (fun r d => Fv107 r d) (fun r d => Fv108 r d) (fun r d => Fv112 r d) (fun r d => Fv133 r d) (fun r d => Fv137 r d) (fun r d => Fv141 r d) r d * Fv145 0 d)
theorem k3_pay24_isr (hv107 : T 256 1024 .f32 v107 Fv107) (hv108 : T 256 1024 .f32 v108 Fv108) (hv112 : T 1 1024 .f32 v112 Fv112) (hv133 : T 1 1024 .f32 v133 Fv133) (hv137 : T 1 1024 .f32 v137 Fv137) (hv141 : T 256 1024 .f32 v141 Fv141) (hv145 : T 1 1024 .f32 v145 Fv145) : T 256 1024 .f32 (k3_pay24 v107 v108 v112 v133 v137 v141 v145) (k3_pay24_r Fv107 Fv108 Fv112 Fv133 Fv137 Fv141 Fv145) := by
  have hv146 := isr_cast hv145 shapeCasts_S1x1024_S1x1024
  have hv147 := isr_row hv146 broadcasts_S1x1024_S256x1024
  exact IsR.congr (isr_mul (k3_pay23_isr hv107 hv108 hv112 hv133 hv137 hv141) hv147) fun i => rfl

def k3_pay25_r (Fv130 Fv132 Fv148 : RM) (r d : ℕ) : ℝ :=
  (Fv130 r 0 * ((Fv148 r d - ((∑ k1 : Fin 1024, Fv148 r k1.val) / 1024)) - (Fv132 r d * ((∑ k2 : Fin 1024, (Fv148 r k2.val * Fv132 r k2.val)) / 1024))))
theorem k3_pay25_isr (hv130 : T 256 1 .f32 v130 Fv130) (hv132 : T 256 1024 .f32 v132 Fv132) (hv148 : T 256 1024 .f32 v148 Fv148) : T 256 1024 .f32 (k3_pay25 v130 v132 v148) (k3_pay25_r Fv130 Fv132 Fv148) := by
  have hv149 := isr_red1 hv148 reduces_S256x1024_S256 (.inl rfl) rfl
  have hv150 := isr_cast_col256 hv149 shapeCasts_S256_S256x1
  have hv151 := isr_bc (s := S256x1) lit_lanes
  have hv152 := isr_div hv150 hv151 (fun _ => by norm_num)
  have hv153 := isr_col hv152 broadcasts_S256x1_S256x1024
  have hv154 := isr_sub hv148 hv153
  have hv155 := isr_mul hv148 hv132
  have hv156 := isr_red1 hv155 reduces_S256x1024_S256 (.inl rfl) rfl
  have hv157 := isr_cast_col256 hv156 shapeCasts_S256_S256x1
  have hv158 := isr_bc (s := S256x1) lit_lanes
  have hv159 := isr_div hv157 hv158 (fun _ => by norm_num)
  have hv160 := isr_col hv159 broadcasts_S256x1_S256x1024
  have hv161 := isr_mul hv132 hv160
  have hv162 := isr_sub hv154 hv161
  have hv163 := isr_col hv130 broadcasts_S256x1_S256x1024
  exact IsR.congr (isr_mul hv163 hv162) fun i => rfl

def k3_pay26_r (Fv130 Fv132 Fv148 Fv166 : RM) (r d : ℕ) : ℝ :=
  (Fv166 0 d * k3_pay25_r (fun r d => Fv130 r d) (fun r d => Fv132 r d) (fun r d => Fv148 r d) r d)
theorem k3_pay26_isr (hv130 : T 256 1 .f32 v130 Fv130) (hv132 : T 256 1024 .f32 v132 Fv132) (hv148 : T 256 1024 .f32 v148 Fv148) (hv166 : T 1 1024 .f32 v166 Fv166) : T 256 1024 .bf16 (k3_pay26 v130 v132 v148 v166) (k3_pay26_r Fv130 Fv132 Fv148 Fv166) := by
  have hv167 := isr_cast hv166 shapeCasts_S1x1024_S1x1024
  have hv168 := isr_row hv167 broadcasts_S1x1024_S256x1024
  have hv169 := isr_mul hv168 (k3_pay25_isr hv130 hv132 hv148)
  exact IsR.congr (isr_trunc bitsLt_bf16_f32 hv169) fun i => rfl

def k3_pay27_r (Fv142 Fv172 : RM) (r d : ℕ) : ℝ :=
  (Fv172 r d + ((∑ k1 : Fin 256, (Fv142 k1.val d * Fv142 k1.val d)) * (1/2048)))
theorem k3_pay27_isr (hv142 : T 256 1024 .f32 v142 Fv142) (hv172 : T 1 1024 .f32 v172 Fv172) : T 1 1024 .f32 (k3_pay27 v142 v172) (k3_pay27_r Fv142 Fv172) := by
  have hv173 := isr_cast hv172 shapeCasts_S1x1024_S1x1024
  have hv174 := isr_mul hv142 hv142
  have hv175 := isr_red0 hv174 reduces_S256x1024_S1024 (.inl rfl) rfl
  have hv176 := isr_cast_row hv175 shapeCasts_S1024_S1x1024
  have hv177 := isr_bc (s := S1x1024) lit_halfD
  have hv178 := isr_mul hv176 hv177
  exact IsR.congr (isr_add hv173 hv178) fun i => rfl

def k3_pay28_r (Fv132 Fv144 Fv181 : RM) (r d : ℕ) : ℝ :=
  (Fv181 r d + (∑ k1 : Fin 256, (Fv144 k1.val d * Fv132 k1.val d)))
theorem k3_pay28_isr (hv132 : T 256 1024 .f32 v132 Fv132) (hv144 : T 256 1024 .f32 v144 Fv144) (hv181 : T 1 1024 .f32 v181 Fv181) : T 1 1024 .f32 (k3_pay28 v132 v144 v181) (k3_pay28_r Fv132 Fv144 Fv181) := by
  have hv182 := isr_cast hv181 shapeCasts_S1x1024_S1x1024
  have hv183 := isr_mul hv144 hv132
  have hv184 := isr_red0 hv183 reduces_S256x1024_S1024 (.inl rfl) rfl
  have hv185 := isr_cast_row hv184 shapeCasts_S1024_S1x1024
  exact IsR.congr (isr_add hv182 hv185) fun i => rfl

end Cert.Tail

end
-- ==== Proof.Tail.R3.lean ====
/-
  Region 3 of the kernel (untrusted): its input blocks as shifted real matrices, what each point of the grid leaves in its
  output windows, and the arrays after the last point.
-/
module

public import proofs.«01_k».proof.Proof.Gen.KernelIdeal.Frame.Region3
public import proofs.«01_k».proof.Proof.Tail.Pay3
public import proofs.«01_k».proof.Proof.Tail.Spec
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R3

open Cert.KernelIdeal Cert.KernelIdeal.Gen
variable (V : (c : Dev nD) → (b : Ref sig .tc) → Buf (Elt Ideal) ((c : Thread nD τ).loc b))

theorem idx : ∀ t : Fin cfg3.N,
    win3_0.index t = ![t.val, 0]
    ∧ win3_1.index t = ![0, 0]
    ∧ win3_2.index t = ![t.val, 0]
    ∧ win3_3.index t = ![t.val, 0]
    ∧ win3_4.index t = ![0, 0]
    ∧ win3_5.index t = ![0, 0]
    ∧ win3_6.index t = ![t.val, 0]
    ∧ win3_7.index t = ![t.val, 0]
    ∧ win3_8.index t = ![0, 0] :=
  (by decide +kernel : ∀ t : Fin grid3.N, _)

theorem blk_0 {F : RM} (c : Dev nD) (t : Fin cfg3.N) (h : T 16384 2816 .bf16 (V c main_v16_2) F) :
    T 512 2816 .bf16 (iblk3 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg3.N) (h : T 2816 1024 .bf16 (V c main_v5) F) :
    T 2816 1024 .bf16 (iblk3 V c 1 t) F := fun i => by
  refine IsR.at h (congrArg₂ F ?_ ?_) <;> (blk_simp; rw [(idx t).2.1]; first | exact off _ _ _ | exact off0 _ _ | exact off1 _ _)
theorem blk_2 {F : RM} (c : Dev nD) (t : Fin cfg3.N) (h : T 16384 1024 .f32 (V c main_v15_1) F) :
    T 512 1024 .f32 (iblk3 V c 2 t) (fun r d => F (512 * t.val + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg3.N) (h : T 16384 1024 .f32 (V c main_arg16) F) :
    T 512 1024 .f32 (iblk3 V c 3 t) (fun r d => F (512 * t.val + r) d) := fun i => by
  refine IsR.at h (congrArg₂ F ?_ ?_) <;> (blk_simp; rw [(idx t).2.2.2.1]; first | exact off _ _ _ | exact off0 _ _ | exact off1 _ _)
theorem blk_4 {F : RM} (c : Dev nD) (t : Fin cfg3.N) (h : T 8 1024 .f32 (V c main_v7) F) :
    T 8 1024 .f32 (iblk3 V c 4 t) F := fun i => by
  refine IsR.at h (congrArg₂ F ?_ ?_) <;> (blk_simp; rw [(idx t).2.2.2.2.1]; first | exact off _ _ _ | exact off0 _ _ | exact off1 _ _)
theorem blk_5 {F : RM} (c : Dev nD) (t : Fin cfg3.N) (h : T 8 1024 .f32 (V c main_v13) F) :
    T 8 1024 .f32 (iblk3 V c 5 t) F := fun i => by
  refine IsR.at h (congrArg₂ F ?_ ?_) <;> (blk_simp; rw [(idx t).2.2.2.2.2.1]; first | exact off _ _ _ | exact off0 _ _ | exact off1 _ _)
theorem o_6 {F0 F1 F2 F3 F4 F5 : RM} (c : Dev nD) (t : Fin cfg3.N) (g0 : T 512 2816 .bf16 (iblk3 V c 0 t) F0)
    (g1 : T 2816 1024 .bf16 (iblk3 V c 1 t) F1)
    (g2 : T 512 1024 .f32 (iblk3 V c 2 t) F2)
    (g3 : T 512 1024 .f32 (iblk3 V c 3 t) F3)
    (g4 : T 8 1024 .f32 (iblk3 V c 4 t) F4)
    (g5 : T 8 1024 .f32 (iblk3 V c 5 t) F5) :
    T 512 1024 .f32 ((outsAt3 V c t.val t.isLt).1) (s3_6 F0 F1 F2 F3 F4 F5) := fun y => by
  show (outsAt3 V c t.val t.isLt).1 y = _
  by_cases hc : t.val % 32 = 0
  on_goal 1 => rw [outsAt3_A V c t hc]
  on_goal 2 => rw [outsAt3_B V c t hc]
  all_goals
    frame_out
    canon_tiles x h
    all_goals
      apply IsR.at (s := S256x1024) (φ := .f32) (i := x)
      rotate_left
      ·
        repeat' first
          | with_reducible (first | apply k3_pay1_isr | apply k3_pay2_isr | apply k3_pay3_isr | apply k3_pay4_isr | apply k3_pay5_isr | apply k3_pay6_isr | apply k3_pay7_isr | apply k3_pay8_isr | apply k3_pay9_isr | apply k3_pay10_isr | apply k3_pay11_isr | apply k3_pay12_isr | apply k3_pay13_isr | apply k3_pay14_isr | apply k3_pay15_isr | apply k3_pay16_isr | apply k3_pay17_isr | apply k3_pay18_isr | apply k3_pay19_isr | apply k3_pay20_isr | apply k3_pay21_isr | apply k3_pay22_isr | apply k3_pay23_isr | apply k3_pay24_isr | apply k3_pay25_isr | apply k3_pay26_isr | apply k3_pay27_isr | apply k3_pay28_isr)
          | apply isr_ld00 | apply isr_ld00b | apply isr_ld_row | apply isr_ld_rowb
          | exact g0 | exact g1 | exact g2 | exact g3 | exact g4 | exact g5
          | apply pos_all
      · show _ = s3_6 F0 F1 F2 F3 F4 F5 (y 0).val (y 1).val
        rw [h0, h1]
        rfl
theorem o_7 {F0 F1 F2 F3 F4 F5 : RM} (c : Dev nD) (t : Fin cfg3.N) (g0 : T 512 2816 .bf16 (iblk3 V c 0 t) F0)
    (g1 : T 2816 1024 .bf16 (iblk3 V c 1 t) F1)
    (g2 : T 512 1024 .f32 (iblk3 V c 2 t) F2)
    (g3 : T 512 1024 .f32 (iblk3 V c 3 t) F3)
    (g4 : T 8 1024 .f32 (iblk3 V c 4 t) F4)
    (g5 : T 8 1024 .f32 (iblk3 V c 5 t) F5) :
    T 512 1024 .bf16 ((outsAt3 V c t.val t.isLt).2.1) (s3_7 F0 F1 F2 F3 F4 F5) := fun y => by
  show (outsAt3 V c t.val t.isLt).2.1 y = _
  by_cases hc : t.val % 32 = 0
  on_goal 1 => rw [outsAt3_A V c t hc]
  on_goal 2 => rw [outsAt3_B V c t hc]
  all_goals
    frame_out
    canon_tiles x h
    all_goals
      apply IsR.at (s := S256x1024) (φ := .bf16) (i := x)
      rotate_left
      ·
        repeat' first
          | with_reducible (first | apply k3_pay1_isr | apply k3_pay2_isr | apply k3_pay3_isr | apply k3_pay4_isr | apply k3_pay5_isr | apply k3_pay6_isr | apply k3_pay7_isr | apply k3_pay8_isr | apply k3_pay9_isr | apply k3_pay10_isr | apply k3_pay11_isr | apply k3_pay12_isr | apply k3_pay13_isr | apply k3_pay14_isr | apply k3_pay15_isr | apply k3_pay16_isr | apply k3_pay17_isr | apply k3_pay18_isr | apply k3_pay19_isr | apply k3_pay20_isr | apply k3_pay21_isr | apply k3_pay22_isr | apply k3_pay23_isr | apply k3_pay24_isr | apply k3_pay25_isr | apply k3_pay26_isr | apply k3_pay27_isr | apply k3_pay28_isr)
          | apply isr_ld00 | apply isr_ld00b | apply isr_ld_row | apply isr_ld_rowb
          | exact g0 | exact g1 | exact g2 | exact g3 | exact g4 | exact g5
          | apply pos_all
      · show _ = s3_7 F0 F1 F2 F3 F4 F5 (y 0).val (y 1).val
        rw [h0, h1]
        rfl
theorem fin_6 {A0 A1 A2 A3 A4 A5 : RM} (c : Dev nD)
    (g0 : T 16384 2816 .bf16 (V c main_v16_2) A0)
    (g1 : T 2816 1024 .bf16 (V c main_v5) A1)
    (g2 : T 16384 1024 .f32 (V c main_v15_1) A2)
    (g3 : T 16384 1024 .f32 (V c main_arg16) A3)
    (g4 : T 8 1024 .f32 (V c main_v7) A4)
    (g5 : T 8 1024 .f32 (V c main_v13) A5) :
    T 16384 1024 .f32 ((dat3 V c).arrAt 6 cfg3.N) (s3_6 A0 A1 A2 A3 A4 A5) := by
  have e : (dat3 V c).arrAt 6 cfg3.N = (fun i => ((N2 (a := 16384) (b := 1024) (s3_6 A0 A1 A2 A3 A4 A5) i : ℝ) : EReal) : FVec Ideal S16384x1024 .f32) := by
    refine (dat3 V c).arrAt_eq_of_covers 6 _ (by decide +kernel) fun t _ y => ?_
    blk_simp
    rw [after3_6]
    refine (o_6 V c t (blk_0 V c t g0) (blk_1 V c t g1) (blk_2 V c t g2) (blk_3 V c t g3) (blk_4 V c t g4) (blk_5 V c t g5) y).trans ?_
    refine congrArg _ ?_
    refine Eq.trans ?_ (congrArg₂ (s3_6 A0 A1 A2 A3 A4 A5) (x' := 512 * t.val + (y 0).val) (y' := (y 1).val) ?_ ?_).symm
    rotate_left
    iterate 2 (blk_simp; rw [(idx t).2.2.2.2.2.2.1]; first | exact off _ _ _ | exact off0 _ _ | exact off1 _ _)
    rfl
  exact fun i => congrFun e i
theorem fin_7 {A0 A1 A2 A3 A4 A5 : RM} (c : Dev nD)
    (g0 : T 16384 2816 .bf16 (V c main_v16_2) A0)
    (g1 : T 2816 1024 .bf16 (V c main_v5) A1)
    (g2 : T 16384 1024 .f32 (V c main_v15_1) A2)
    (g3 : T 16384 1024 .f32 (V c main_arg16) A3)
    (g4 : T 8 1024 .f32 (V c main_v7) A4)
    (g5 : T 8 1024 .f32 (V c main_v13) A5) :
    T 16384 1024 .bf16 ((dat3 V c).arrAt 7 cfg3.N) (s3_7 A0 A1 A2 A3 A4 A5) := by
  have e : (dat3 V c).arrAt 7 cfg3.N = (fun i => ((N2 (a := 16384) (b := 1024) (s3_7 A0 A1 A2 A3 A4 A5) i : ℝ) : EReal) : FVec Ideal S16384x1024 .bf16) := by
    refine (dat3 V c).arrAt_eq_of_covers 7 _ (by decide +kernel) fun t _ y => ?_
    blk_simp
    rw [after3_7]
    refine (o_7 V c t (blk_0 V c t g0) (blk_1 V c t g1) (blk_2 V c t g2) (blk_3 V c t g3) (blk_4 V c t g4) (blk_5 V c t g5) y).trans ?_
    refine congrArg _ ?_
    refine Eq.trans ?_ (congrArg₂ (s3_7 A0 A1 A2 A3 A4 A5) (x' := 512 * t.val + (y 0).val) (y' := (y 1).val) ?_ ?_).symm
    rotate_left
    iterate 2 (blk_simp; rw [(idx t).2.2.2.2.2.2.2.1]; first | exact off _ _ _ | exact off0 _ _ | exact off1 _ _)
    rfl
  exact fun i => congrFun e i

end Cert.Tail.R3

end
-- ==== Proof.Tail.Acc.lean ====
/-
  Bases of the row accumulators (untrusted): a whole-window fill, and a window no store of the current point has touched.
-/
module

public import proofs.«01_k».proof.Proof.Tail.Spec
public import Idealize.ShloMosaic.Lib.Pipeline.ValueKit

@[expose] public section

noncomputable section

open Idealize.ShloMosaic Idealize.ShloMosaic.TcCoe Idealize.SL.Sem

namespace Cert.Tail

theorem isr_canon_fill {a b : ℕ} {G : ℕ → ℕ → ℝ} {L : List (View.Piece (Elt Ideal) (⟨2, ![a, b]⟩ : Shape) .f32)}
    (inb : ∀ k : Fin 2, (![0, 0] : Fin 2 → ℕ) k + (![a, b] : Fin 2 → ℕ) k ≤ (![a, b] : Fin 2 → ℕ) k)
    {w : (⟨2, ![a, b]⟩ : Shape).Idx → Elt Ideal .f32} (hw : IsR (s := ⟨2, ![a, b]⟩) (φ := .f32) w (N2 G)) :
    IsR (s := ⟨2, ![a, b]⟩) (φ := .f32)
      (View.canon ((⟨Rect.unit (s := ⟨2, ![a, b]⟩) ![0, 0] ![a, b] inb, w⟩ : View.Piece (Elt Ideal) (⟨2, ![a, b]⟩ : Shape) .f32) :: L)) (N2 G) := by
  have e : View.canon ((⟨Rect.unit (s := ⟨2, ![a, b]⟩) ![0, 0] ![a, b] inb, w⟩ : View.Piece (Elt Ideal) (⟨2, ![a, b]⟩ : Shape) .f32) :: L) = w :=
    View.canon_cons_unit_lit (S := ⟨2, ![a, b]⟩) inb w L (fun k => match k with | ⟨0, _⟩ => rfl | ⟨1, _⟩ => rfl)
  rw [e]
  exact hw

theorem isr_unread {a b : ℕ} {G : ℕ → ℕ → ℝ} {sig : RefSig} {κ : Kind} {sp : Space} {m : Memref sig κ sp (⟨2, ![a, b]⟩ : Shape) .f32}
    (h : m.IsWhole) {X : (⟨2, ![a, b]⟩ : Shape).Idx → Elt Ideal .f32} (hX : IsR (s := ⟨2, ![a, b]⟩) (φ := .f32) X (N2 G)) :
    IsR (s := ⟨2, ![a, b]⟩) (φ := .f32) (m.view.read (Elt Ideal) (m.view.writes (Elt Ideal) (h.unread X) [])) (N2 G) := by
  have e : m.view.read (Elt Ideal) (m.view.writes (Elt Ideal) (h.unread X) []) = X := h.read_unread X
  rw [e]
  exact hX

end Cert.Tail

end
-- ==== Proof.Tail.Num3.lean ====
/-
  Region 3 of the kernel (untrusted): one point's sums over its rows, as a sum over the rows of its block.
-/
module

public import proofs.«01_k».proof.Proof.Tail.Pay3
public import proofs.«01_k».proof.Proof.Tail.Spec

@[expose] public section

set_option maxRecDepth 16384

noncomputable section

open Idealize.ShloMosaic Idealize.ShloMosaic.TcCoe Idealize.SL.Sem
namespace Cert.Tail.R3

/-- What one point of the grid adds to the sums over the rows. -/
def part (F0 F1 F2 F3 F4 F5 : RM) (i j : ℕ) : ℝ := ∑ k : Fin 512, s3_u F0 F1 F2 F3 F4 F5 i k.val j

theorem num {F0 F1 F2 F3 F4 F5 G : RM} :

      (fun i j =>
        if i = 3 then
          k3_pay2_r (k3_pay18_r (fun r d => F0 (256 + r) d) F1)
            (k3_pay25_r
              (k3_pay20_r (k3_pay18_r (fun r d => F0 (256 + r) d) F1) (fun r d => F2 (256 + r) d) fun r d =>
                F4 (5 + r) d)
              (k3_pay21_r (k3_pay18_r (fun r d => F0 (256 + r) d) F1) (fun r d => F2 (256 + r) d) fun r d =>
                F4 (5 + r) d)
              (k3_pay24_r (k3_pay18_r (fun r d => F0 (256 + r) d) F1) (fun r d => F2 (256 + r) d)
                (fun r d => F4 (5 + r) d) F5 (fun r d => F5 (1 + r) d) (fun r d => F3 (256 + r) d) F5))
            (k3_pay17_r (k3_pay4_r F0 F1)
              (k3_pay11_r (k3_pay6_r F0 F1 F2 fun r d => F4 (5 + r) d) (k3_pay7_r F0 F1 F2 fun r d => F4 (5 + r) d)
                (k3_pay8_r F5) (fun r d => F5 (1 + r) d) F3 F5)
              fun r d => G (3 + r) d)
            0 j
        else
          if i = 2 then
            k3_pay1_r
              (k3_pay23_r (k3_pay18_r (fun r d => F0 (256 + r) d) F1) (fun r d => F2 (256 + r) d)
                (fun r d => F4 (5 + r) d) F5 (fun r d => F5 (1 + r) d) fun r d => F3 (256 + r) d)
              (k3_pay16_r
                (k3_pay10_r (k3_pay7_r F0 F1 F2 fun r d => F4 (5 + r) d) (k3_pay8_r F5) (fun r d => F5 (1 + r) d) F3)
                fun r d => G (2 + r) d)
              0 j
          else
            if i = 1 then
              k3_pay28_r
                (k3_pay21_r (k3_pay18_r (fun r d => F0 (256 + r) d) F1) (fun r d => F2 (256 + r) d) fun r d =>
                  F4 (5 + r) d)
                (k3_pay23_r (k3_pay18_r (fun r d => F0 (256 + r) d) F1) (fun r d => F2 (256 + r) d)
                  (fun r d => F4 (5 + r) d) F5 (fun r d => F5 (1 + r) d) fun r d => F3 (256 + r) d)
                (k3_pay15_r (k3_pay7_r F0 F1 F2 fun r d => F4 (5 + r) d)
                  (k3_pay10_r (k3_pay7_r F0 F1 F2 fun r d => F4 (5 + r) d) (k3_pay8_r F5) (fun r d => F5 (1 + r) d) F3)
                  fun r d => G (1 + r) d)
                0 j
            else
              if i = 0 then
                k3_pay27_r
                  (k3_pay22_r (k3_pay18_r (fun r d => F0 (256 + r) d) F1) (fun r d => F2 (256 + r) d)
                    (fun r d => F4 (5 + r) d) F5 (fun r d => F5 (1 + r) d) fun r d => F3 (256 + r) d)
                  (k3_pay14_r
                    (k3_pay9_r (k3_pay7_r F0 F1 F2 fun r d => F4 (5 + r) d) (k3_pay8_r F5) (fun r d => F5 (1 + r) d) F3)
                    (k3_pay13_r G))
                  0 j
              else
                if i = 3 then
                  k3_pay17_r (k3_pay4_r F0 F1)
                    (k3_pay11_r (k3_pay6_r F0 F1 F2 fun r d => F4 (5 + r) d)
                      (k3_pay7_r F0 F1 F2 fun r d => F4 (5 + r) d) (k3_pay8_r F5) (fun r d => F5 (1 + r) d) F3 F5)
                    (fun r d => G (3 + r) d) 0 j
                else
                  if i = 2 then
                    k3_pay16_r
                      (k3_pay10_r (k3_pay7_r F0 F1 F2 fun r d => F4 (5 + r) d) (k3_pay8_r F5) (fun r d => F5 (1 + r) d)
                        F3)
                      (fun r d => G (2 + r) d) 0 j
                  else
                    if i = 1 then
                      k3_pay15_r (k3_pay7_r F0 F1 F2 fun r d => F4 (5 + r) d)
                        (k3_pay10_r (k3_pay7_r F0 F1 F2 fun r d => F4 (5 + r) d) (k3_pay8_r F5)
                          (fun r d => F5 (1 + r) d) F3)
                        (fun r d => G (1 + r) d) 0 j
                    else
                      if i = 0 then
                        k3_pay14_r
                          (k3_pay9_r (k3_pay7_r F0 F1 F2 fun r d => F4 (5 + r) d) (k3_pay8_r F5)
                            (fun r d => F5 (1 + r) d) F3)
                          (k3_pay13_r G) 0 j
                      else G i j)
    = fun i j => G i j + part F0 F1 F2 F3 F4 F5 i j := by
  funext i j
  by_cases e0 : i = 0
  · subst e0
    refine Eq.trans ?_ (congrArg (G 0 j + ·) (sum_halves 256 fun k => s3_u F0 F1 F2 F3 F4 F5 0 k j))
    show _ = G 0 j + (∑ k : Fin 256, s3_u F0 F1 F2 F3 F4 F5 0 k.val j + ∑ k : Fin 256, s3_u F0 F1 F2 F3 F4 F5 0 (256 + k.val) j)
    rw [← add_assoc]
    simp only [s3_u, Nat.reduceEqDiff, reduceIte, one_ne_zero, OfNat.ofNat_ne_zero, OfNat.ofNat_ne_one]
    rw [← Finset.sum_mul, ← Finset.sum_mul]
    rfl
  by_cases e1 : i = 1
  · subst e1
    refine Eq.trans ?_ (congrArg (G 1 j + ·) (sum_halves 256 fun k => s3_u F0 F1 F2 F3 F4 F5 1 k j))
    show _ = G 1 j + (∑ k : Fin 256, s3_u F0 F1 F2 F3 F4 F5 1 k.val j + ∑ k : Fin 256, s3_u F0 F1 F2 F3 F4 F5 1 (256 + k.val) j)
    rw [← add_assoc]
    simp only [s3_u, Nat.reduceEqDiff, reduceIte, one_ne_zero, OfNat.ofNat_ne_zero, OfNat.ofNat_ne_one]
    rfl
  by_cases e2 : i = 2
  · subst e2
    refine Eq.trans ?_ (congrArg (G 2 j + ·) (sum_halves 256 fun k => s3_u F0 F1 F2 F3 F4 F5 2 k j))
    show _ = G 2 j + (∑ k : Fin 256, s3_u F0 F1 F2 F3 F4 F5 2 k.val j + ∑ k : Fin 256, s3_u F0 F1 F2 F3 F4 F5 2 (256 + k.val) j)
    rw [← add_assoc]
    simp only [s3_u, Nat.reduceEqDiff, reduceIte, one_ne_zero, OfNat.ofNat_ne_zero, OfNat.ofNat_ne_one]
    rfl
  by_cases e3 : i = 3
  · subst e3
    refine Eq.trans ?_ (congrArg (G 3 j + ·) (sum_halves 256 fun k => s3_u F0 F1 F2 F3 F4 F5 3 k j))
    show _ = G 3 j + (∑ k : Fin 256, s3_u F0 F1 F2 F3 F4 F5 3 k.val j + ∑ k : Fin 256, s3_u F0 F1 F2 F3 F4 F5 3 (256 + k.val) j)
    rw [← add_assoc]
    simp only [s3_u, Nat.reduceEqDiff, reduceIte, one_ne_zero, OfNat.ofNat_ne_zero, OfNat.ofNat_ne_one]
    rfl
  simp only [part, s3_u, e0, e1, e2, e3, if_false, Finset.sum_const_zero, add_zero]

end Cert.Tail.R3

end
-- ==== Proof.Tail.R3a.lean ====
/-
  Region 3 of the kernel (untrusted): its input blocks as shifted real matrices, what each point of the grid leaves in its
  output windows, and the arrays after the last point.
-/
module

public import proofs.«01_k».proof.Proof.Tail.R3
public import proofs.«01_k».proof.Proof.Tail.Pay3
public import proofs.«01_k».proof.Proof.Tail.Acc
public import proofs.«01_k».proof.Proof.Tail.Num3
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R3

open Cert.KernelIdeal Cert.KernelIdeal.Gen
variable (V : (c : Dev nD) → (b : Ref sig .tc) → Buf (Elt Ideal) ((c : Thread nD τ).loc b))

theorem zero_step {F0 F1 F2 F3 F4 F5 : RM} (c : Dev nD) (t : Fin cfg3.N) (g0 : T 512 2816 .bf16 (iblk3 V c 0 t) F0)
    (g1 : T 2816 1024 .bf16 (iblk3 V c 1 t) F1)
    (g2 : T 512 1024 .f32 (iblk3 V c 2 t) F2)
    (g3 : T 512 1024 .f32 (iblk3 V c 3 t) F3)
    (g4 : T 8 1024 .f32 (iblk3 V c 4 t) F4)
    (g5 : T 8 1024 .f32 (iblk3 V c 5 t) F5) (hc : t.val % 32 = 0) :
    T 8 1024 .f32 ((outsAt3 V c t.val t.isLt).2.2) (part F0 F1 F2 F3 F4 F5) := fun y => by
  show (outsAt3 V c t.val t.isLt).2.2 y = _
  rw [outsAt3_A V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k3_pay1_isr | apply k3_pay2_isr | apply k3_pay3_isr | apply k3_pay4_isr | apply k3_pay5_isr | apply k3_pay6_isr | apply k3_pay7_isr | apply k3_pay8_isr | apply k3_pay9_isr | apply k3_pay10_isr | apply k3_pay11_isr | apply k3_pay12_isr | apply k3_pay13_isr | apply k3_pay14_isr | apply k3_pay15_isr | apply k3_pay16_isr | apply k3_pay17_isr | apply k3_pay18_isr | apply k3_pay19_isr | apply k3_pay20_isr | apply k3_pay21_isr | apply k3_pay22_isr | apply k3_pay23_isr | apply k3_pay24_isr | apply k3_pay25_isr | apply k3_pay26_isr | apply k3_pay27_isr | apply k3_pay28_isr | apply isr_canon_row | apply isr_writes_row | apply isr_canon_fill | apply isr_unread)
        | apply isr_ld00 | apply isr_ld00b | apply isr_ld_row | apply isr_ld_rowb
        | exact g0 | exact g1 | exact g2 | exact g3 | exact g4 | exact g5
          | apply pos_all
  ·
    refine (congrFun (congrArg N2 (num (G := k3_pay3_r))) y).trans ?_
    show k3_pay3_r (y 0).val (y 1).val + part F0 F1 F2 F3 F4 F5 (y 0).val (y 1).val = _
    exact zero_add _

end Cert.Tail.R3

end
-- ==== Proof.Tail.R3b.lean ====
/-
  Region 3 of the kernel (untrusted): its input blocks as shifted real matrices, what each point of the grid leaves in its
  output windows, and the arrays after the last point.
-/
module

public import proofs.«01_k».proof.Proof.Tail.R3
public import proofs.«01_k».proof.Proof.Tail.Pay3
public import proofs.«01_k».proof.Proof.Tail.Acc
public import proofs.«01_k».proof.Proof.Tail.Num3
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R3

open Cert.KernelIdeal Cert.KernelIdeal.Gen
variable (V : (c : Dev nD) → (b : Ref sig .tc) → Buf (Elt Ideal) ((c : Thread nD τ).loc b))

theorem next_step {F0 F1 F2 F3 F4 F5 G : RM} (c : Dev nD) (t : Fin cfg3.N) (g0 : T 512 2816 .bf16 (iblk3 V c 0 t) F0)
    (g1 : T 2816 1024 .bf16 (iblk3 V c 1 t) F1)
    (g2 : T 512 1024 .f32 (iblk3 V c 2 t) F2)
    (g3 : T 512 1024 .f32 (iblk3 V c 3 t) F3)
    (g4 : T 8 1024 .f32 (iblk3 V c 4 t) F4)
    (g5 : T 8 1024 .f32 (iblk3 V c 5 t) F5) (hc : ¬ t.val % 32 = 0)
    (gp : T 8 1024 .f32 ((outsAt3 V c (t.val - 1) (Nat.lt_of_le_of_lt (Nat.sub_le _ _) t.isLt)).2.2) G) :
    T 8 1024 .f32 ((outsAt3 V c t.val t.isLt).2.2) (fun i j => G i j + part F0 F1 F2 F3 F4 F5 i j) := fun y => by
  show (outsAt3 V c t.val t.isLt).2.2 y = _
  rw [outsAt3_B V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k3_pay1_isr | apply k3_pay2_isr | apply k3_pay3_isr | apply k3_pay4_isr | apply k3_pay5_isr | apply k3_pay6_isr | apply k3_pay7_isr | apply k3_pay8_isr | apply k3_pay9_isr | apply k3_pay10_isr | apply k3_pay11_isr | apply k3_pay12_isr | apply k3_pay13_isr | apply k3_pay14_isr | apply k3_pay15_isr | apply k3_pay16_isr | apply k3_pay17_isr | apply k3_pay18_isr | apply k3_pay19_isr | apply k3_pay20_isr | apply k3_pay21_isr | apply k3_pay22_isr | apply k3_pay23_isr | apply k3_pay24_isr | apply k3_pay25_isr | apply k3_pay26_isr | apply k3_pay27_isr | apply k3_pay28_isr | apply isr_canon_row | apply isr_writes_row | apply isr_canon_fill | apply isr_unread)
        | apply isr_ld00 | apply isr_ld00b | apply isr_ld_row | apply isr_ld_rowb
        | exact gp | exact g0 | exact g1 | exact g2 | exact g3 | exact g4 | exact g5
          | apply pos_all
  ·
    exact congrFun (congrArg N2 num) y

end Cert.Tail.R3

end
-- ==== Proof.Tail.R3c.lean ====
/-
  Region 3 of the kernel (untrusted): its input blocks as shifted real matrices, what each point of the grid leaves in its
  output windows, and the arrays after the last point.
-/
module

public import proofs.«01_k».proof.Proof.Tail.R3a
public import proofs.«01_k».proof.Proof.Tail.R3b
public import proofs.«01_k».proof.Proof.Tail.Pay3
public import proofs.«01_k».proof.Proof.Tail.Acc
public import proofs.«01_k».proof.Proof.Tail.Num3
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R3

open Cert.KernelIdeal Cert.KernelIdeal.Gen
variable (V : (c : Dev nD) → (b : Ref sig .tc) → Buf (Elt Ideal) ((c : Thread nD τ).loc b))

theorem fin_8 {A0 A1 A2 A3 A4 A5 : RM} (c : Dev nD)
    (g0 : T 16384 2816 .bf16 (V c main_v16_2) A0)
    (g1 : T 2816 1024 .bf16 (V c main_v5) A1)
    (g2 : T 16384 1024 .f32 (V c main_v15_1) A2)
    (g3 : T 16384 1024 .f32 (V c main_arg16) A3)
    (g4 : T 8 1024 .f32 (V c main_v7) A4)
    (g5 : T 8 1024 .f32 (V c main_v13) A5) :
    T 8 1024 .f32 ((dat3 V c).arrAt 8 cfg3.N) (fun q d => ∑ r : Fin 16384, s3_u A0 A1 A2 A3 A4 A5 q r.val d) := by
  have e : (dat3 V c).arrAt 8 cfg3.N = (fun i => ((N2 (a := 8) (b := 1024) (fun q d => ∑ r : Fin 16384, s3_u A0 A1 A2 A3 A4 A5 q r.val d) i : ℝ) : EReal) : FVec Ideal S8x1024 .f32) := by
    refine (dat3 V c).arrAt_eq_of_covers 8 _ (by decide +kernel) fun t hf y => ?_
    blk_simp
    rw [after3_8]
    refine (isr_acc (fun n h => (outsAt3 V c n h).2.2) 32 (fun t => part (fun r d => A0 (512 * t + r) d) A1 (fun r d => A2 (512 * t + r) d) (fun r d => A3 (512 * t + r) d) A4 A5)
      (fun t h => zero_step V c t (blk_0 V c t g0) (blk_1 V c t g1) (blk_2 V c t g2) (blk_3 V c t g3) (blk_4 V c t g4) (blk_5 V c t g5) h)
      (fun t h G gp => next_step V c t (blk_0 V c t g0) (blk_1 V c t g1) (blk_2 V c t g2) (blk_3 V c t g3) (blk_4 V c t g4) (blk_5 V c t g5) h gp) t y).trans ?_
    refine congrArg _ ?_
    have hm : t.val % 32 + 1 = 32 := by have := (flush3_8 t).mp hf; omega
    refine Eq.trans ?_ (congrArg₂ (fun q d => ∑ r : Fin 16384, s3_u A0 A1 A2 A3 A4 A5 q r.val d) (x' := (y 0).val) (y' := (y 1).val) ?_ ?_).symm
    rotate_left
    iterate 2 (blk_simp; rw [(idx t).2.2.2.2.2.2.2.2]; first | exact off _ _ _ | exact off0 _ _ | exact off1 _ _)
    show ∑ s ∈ Finset.range (t.val % 32 + 1), (fun t => part (fun r d => A0 (512 * t + r) d) A1 (fun r d => A2 (512 * t + r) d) (fun r d => A3 (512 * t + r) d) A4 A5) (32 * (t.val / 32) + s) (y 0).val (y 1).val = _
    rw [hm]
    have hq : t.val / 32 = 0 := (by decide +kernel : ∀ t : Fin grid3.N, t.val / 32 = 0) t
    rw [hq]
    exact sum_run0 512 32 fun r => s3_u A0 A1 A2 A3 A4 A5 (y 0).val r (y 1).val
  exact fun i => congrFun e i

end Cert.Tail.R3

end
-- ==== Proof.Tail.Pay4.lean ====
/-
  The printed vector operations of region 4 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k4_pay1_r (r d : ℕ) : ℝ :=
  0
theorem k4_pay1_isr : T 2816 512 .f32 (k4_pay1 ) (k4_pay1_r ) := by
  exact IsR.congr (isr_bc (s := S2816x512) lit_zero) fun i => rfl

def k4_pay2_r (Fv3 Fv5 Fv7 : RM) (r d : ℕ) : ℝ :=
  (Fv3 r d + (∑ k1 : Fin 1024, Fv5 k1.val r * Fv7 k1.val d))
theorem k4_pay2_isr (hv3 : T 2816 512 .f32 v3 Fv3) (hv5 : T 1024 2816 .bf16 v5 Fv5) (hv7 : T 1024 512 .bf16 v7 Fv7) : T 2816 512 .f32 (k4_pay2 v3 v5 v7) (k4_pay2_r Fv3 Fv5 Fv7) := by
  have hv4 := isr_cast hv3 shapeCasts_S2816x512_S2816x512
  have hv6 := isr_cast hv5 shapeCasts_S1024x2816_S1024x2816
  have hv8 := isr_cast hv7 shapeCasts_S1024x512_S1024x512
  have hv9 := isk_S1024x2816_S1024x512_S2816x512_0_0_1_1_n_n hv6 hv8
  exact IsR.congr (isr_add hv4 hv9) fun i => rfl

end Cert.Tail

end
-- ==== Proof.Tail.R4.lean ====
/-
  Region 4 of the kernel (untrusted): its input blocks as shifted real matrices, what each point of the grid leaves in its
  output windows, and the arrays after the last point.
-/
module

public import proofs.«01_k».proof.Proof.Gen.KernelIdeal.Frame.Region4
public import proofs.«01_k».proof.Proof.Tail.Pay4
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R4

open Cert.KernelIdeal Cert.KernelIdeal.Gen
variable (V : (c : Dev nD) → (b : Ref sig .tc) → Buf (Elt Ideal) ((c : Thread nD τ).loc b))

theorem idx : ∀ t : Fin cfg4.N,
    win4_0.index t = ![t.val % 16, 0]
    ∧ win4_1.index t = ![t.val % 16, t.val / 16]
    ∧ win4_2.index t = ![0, t.val / 16] :=
  (by decide +kernel : ∀ t : Fin grid4.N, _)

theorem blk_0 {F : RM} (c : Dev nD) (t : Fin cfg4.N) (h : T 16384 2816 .bf16 (V c main_v16_2) F) :
    T 1024 2816 .bf16 (iblk4 V c 0 t) (fun r d => F (1024 * (t.val % 16) + r) d) := fun i => by
  refine IsR.at h (congrArg₂ F ?_ ?_) <;> (blk_simp; rw [(idx t).1]; first | exact off _ _ _ | exact off0 _ _ | exact off1 _ _)
theorem blk_1 {F : RM} (c : Dev nD) (t : Fin cfg4.N) (h : T 16384 1024 .bf16 (V c main_v17_1) F) :
    T 1024 512 .bf16 (iblk4 V c 1 t) (fun r d => F (1024 * (t.val % 16) + r) (512 * (t.val / 16) + d)) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 1024, A0 (1024 * (t % 16) + k.val) i * A1 (1024 * (t % 16) + k.val) (512 * (t / 16) + j)
theorem zero_step {A0 A1 : RM} (c : Dev nD) (g0 : T 16384 2816 .bf16 (V c main_v16_2) A0) (g1 : T 16384 1024 .bf16 (V c main_v17_1) A1) (t : Fin cfg4.N) (h : t.val % 16 = 0) :
    T 2816 512 .f32 (outsAt4 V c t.val t.isLt) (fun i j => 0 + part A0 A1 t.val i j) := fun y => by
  show outsAt4 V c t.val t.isLt y = _
  rw [outsAt4_A V c t h]
  frame_out
  · apply IsR.at (s := S2816x512) (φ := .f32) (i := y)
    rotate_left
    ·
      repeat' first
        | with_reducible apply k4_pay2_isr | with_reducible apply k4_pay1_isr
        | exact blk_0 V c t g0 | exact blk_1 V c t g1
    · show _ = 0 + part A0 A1 t.val (y 0).val (y 1).val
      rfl
theorem next_step {A0 A1 G : RM} (c : Dev nD) (g0 : T 16384 2816 .bf16 (V c main_v16_2) A0) (g1 : T 16384 1024 .bf16 (V c main_v17_1) A1) (t : Fin cfg4.N) (h : ¬ t.val % 16 = 0)
    (gp : T 2816 512 .f32 (outsAt4 V c (t.val - 1) (Nat.lt_of_le_of_lt (Nat.sub_le _ _) t.isLt)) G) :
    T 2816 512 .f32 (outsAt4 V c t.val t.isLt) (fun i j => G i j + part A0 A1 t.val i j) := fun y => by
  show outsAt4 V c t.val t.isLt y = _
  rw [outsAt4_B V c t h]
  frame_out
  · apply IsR.at (s := S2816x512) (φ := .f32) (i := y)
    rotate_left
    ·
      repeat' first
        | with_reducible apply k4_pay2_isr | with_reducible apply k4_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 2816 .bf16 (V c main_v16_2) A0) (g1 : T 16384 1024 .bf16 (V c main_v17_1) A1) :
    T 2816 1024 .f32 ((dat4 V c).arrAt 2 cfg4.N) (dotL 16384 A0 A1) := by
  have e : (dat4 V c).arrAt 2 cfg4.N = (fun i => ((N2 (a := 2816) (b := 1024) (dotL 16384 A0 A1) i : ℝ) : EReal) : FVec Ideal S2816x1024 .f32) := by
    refine (dat4 V c).arrAt_eq_of_covers 2 _ (by decide +kernel) fun t hf y => ?_
    blk_simp
    rw [after4_2]
    refine (isr_acc (fun n h => outsAt4 V c n h) 16 (part A0 A1)
      (fun t h => (zero_step V c g0 g1 t h).congr fun i => zero_add _)
      (fun t h G gp => next_step V c g0 g1 t h gp) t y).trans ?_
    refine congrArg _ ?_
    have hm : t.val % 16 + 1 = 16 := by have := (flush4_2 t).mp hf; omega
    refine Eq.trans ?_ (congrArg₂ (dotL 16384 A0 A1) (x' := (y 0).val) (y' := 512 * (t.val / 16) + (y 1).val) ?_ ?_).symm
    rotate_left
    iterate 2 (blk_simp; rw [(idx t).2.2]; first | exact off _ _ _ | exact off0 _ _ | exact off1 _ _)
    show ∑ s ∈ Finset.range (t.val % 16 + 1), part A0 A1 (16 * (t.val / 16) + s) (y 0).val (y 1).val = _
    rw [hm]
    exact sum_run 1024 16 (t.val / 16) (by norm_num) fun r q => A0 r (y 0).val * A1 r (512 * q + (y 1).val)
  exact fun i => congrFun e i

end Cert.Tail.R4

end
-- ==== Proof.Tail.Pay5.lean ====
/-
  The printed vector operations of region 5 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k5_pay1_r (Fv33 Fv34 : RM) (r d : ℕ) : ℝ :=
  (∑ k1 : Fin 1024, Fv33 r k1.val * Fv34 d k1.val)
theorem k5_pay1_isr (hv33 : T 256 1024 .bf16 v33 Fv33) (hv34 : T 1408 1024 .bf16 v34 Fv34) : T 256 1408 .f32 (k5_pay1 v33 v34) (k5_pay1_r Fv33 Fv34) := by
  have hv35 := isr_cast hv34 shapeCasts_S1408x1024_S1408x1024
  exact IsR.congr (isk_S256x1024_S1408x1024_S256x1408_1_1_0_0_n_n hv33 hv35) fun i => rfl

def k5_pay2_r (Fv37 : RM) (r d : ℕ) : ℝ :=
  Fv37 r d
theorem k5_pay2_isr (hv37 : T 256 1408 .bf16 v37 Fv37) : T 256 1408 .f32 (k5_pay2 v37) (k5_pay2_r Fv37) := by
  have hv38 := isr_cast hv37 shapeCasts_S256x1408_S256x1408
  exact IsR.congr (isr_ext bitsLt_bf16_f32 hv38) fun i => rfl

def k5_pay3_r (Fv37 : RM) (r d : ℕ) : ℝ :=
  (((1/2) * Real.tanh (((1/2) * k5_pay2_r (fun r d => Fv37 r d) r d))) + (1/2))
theorem k5_pay3_isr (hv37 : T 256 1408 .bf16 v37 Fv37) : T 256 1408 .f32 (k5_pay3 v37) (k5_pay3_r Fv37) := by
  have hv43 := isr_bc (s := S256x1408) lit_half
  have hv44 := isr_mul hv43 (k5_pay2_isr hv37)
  have hv45 := isr_tanh hv44
  have hv46 := isr_bc (s := S256x1408) lit_half
  have hv47 := isr_mul hv46 hv45
  have hv48 := isr_bc (s := S256x1408) lit_half
  exact IsR.congr (isr_add hv47 hv48) fun i => rfl

def k5_pay4_r (Fv33 Fv34 Fv37 Fv40 : RM) (r d : ℕ) : ℝ :=
  (((k5_pay1_r (fun r d => Fv33 r d) (fun r d => Fv34 r d) r d * Fv40 r d) * k5_pay3_r (fun r d => Fv37 r d) r d) * (1 + (k5_pay2_r (fun r d => Fv37 r d) r d * (1 - k5_pay3_r (fun r d => Fv37 r d) r d))))
theorem k5_pay4_isr (hv33 : T 256 1024 .bf16 v33 Fv33) (hv34 : T 1408 1024 .bf16 v34 Fv34) (hv37 : T 256 1408 .bf16 v37 Fv37) (hv40 : T 256 1408 .bf16 v40 Fv40) : T 256 1408 .bf16 (k5_pay4 v33 v34 v37 v40) (k5_pay4_r Fv33 Fv34 Fv37 Fv40) := by
  have hv41 := isr_cast hv40 shapeCasts_S256x1408_S256x1408
  have hv42 := isr_ext bitsLt_bf16_f32 hv41
  have hv50 := isr_mul (k5_pay1_isr hv33 hv34) hv42
  have hv51 := isr_mul hv50 (k5_pay3_isr hv37)
  have hv52 := isr_bc (s := S256x1408) lit_one
  have hv53 := isr_sub hv52 (k5_pay3_isr hv37)
  have hv54 := isr_mul (k5_pay2_isr hv37) hv53
  have hv55 := isr_bc (s := S256x1408) lit_one
  have hv56 := isr_add hv55 hv54
  have hv57 := isr_mul hv51 hv56
  exact IsR.congr (isr_trunc bitsLt_bf16_f32 hv57) fun i => rfl

def k5_pay5_r (Fv33 Fv34 Fv37 : RM) (r d : ℕ) : ℝ :=
  ((k5_pay1_r (fun r d => Fv33 r d) (fun r d => Fv34 r d) r d * k5_pay2_r (fun r d => Fv37 r d) r d) * k5_pay3_r (fun r d => Fv37 r d) r d)
theorem k5_pay5_isr (hv33 : T 256 1024 .bf16 v33 Fv33) (hv34 : T 1408 1024 .bf16 v34 Fv34) (hv37 : T 256 1408 .bf16 v37 Fv37) : T 256 1408 .bf16 (k5_pay5 v33 v34 v37) (k5_pay5_r Fv33 Fv34 Fv37) := by
  have hv60 := isr_mul (k5_pay1_isr hv33 hv34) (k5_pay2_isr hv37)
  have hv61 := isr_mul hv60 (k5_pay3_isr hv37)
  exact IsR.congr (isr_trunc bitsLt_bf16_f32 hv61) fun i => rfl

def k5_pay6_r (Fv0 Fv2 : RM) (r d : ℕ) : ℝ :=
  (∑ k1 : Fin 1024, Fv0 r k1.val * Fv2 d k1.val)
theorem k5_pay6_isr (hv0 : T 256 1024 .bf16 v0 Fv0) (hv2 : T 1408 1024 .bf16 v2 Fv2) : T 256 1408 .f32 (k5_pay6 v0 v2) (k5_pay6_r Fv0 Fv2) := by
  have hv1 := isr_cast hv0 shapeCasts_S256x1024_S256x1024
  have hv3 := isr_cast hv2 shapeCasts_S1408x1024_S1408x1024
  exact IsR.congr (isk_S256x1024_S1408x1024_S256x1408_1_1_0_0_n_n hv1 hv3) fun i => rfl

def k5_pay7_r (Fv5 : RM) (r d : ℕ) : ℝ :=
  Fv5 r d
theorem k5_pay7_isr (hv5 : T 256 1408 .bf16 v5 Fv5) : T 256 1408 .f32 (k5_pay7 v5) (k5_pay7_r Fv5) := by
  have hv6 := isr_cast hv5 shapeCasts_S256x1408_S256x1408
  exact IsR.congr (isr_ext bitsLt_bf16_f32 hv6) fun i => rfl

def k5_pay8_r (Fv5 : RM) (r d : ℕ) : ℝ :=
  (((1/2) * Real.tanh (((1/2) * k5_pay7_r (fun r d => Fv5 r d) r d))) + (1/2))
theorem k5_pay8_isr (hv5 : T 256 1408 .bf16 v5 Fv5) : T 256 1408 .f32 (k5_pay8 v5) (k5_pay8_r Fv5) := by
  have hv11 := isr_bc (s := S256x1408) lit_half
  have hv12 := isr_mul hv11 (k5_pay7_isr hv5)
  have hv13 := isr_tanh hv12
  have hv14 := isr_bc (s := S256x1408) lit_half
  have hv15 := isr_mul hv14 hv13
  have hv16 := isr_bc (s := S256x1408) lit_half
  exact IsR.congr (isr_add hv15 hv16) fun i => rfl

def k5_pay9_r (Fv0 Fv2 Fv5 Fv8 : RM) (r d : ℕ) : ℝ :=
  (((k5_pay6_r (fun r d => Fv0 r d) (fun r d => Fv2 r d) r d * Fv8 r d) * k5_pay8_r (fun r d => Fv5 r d) r d) * (1 + (k5_pay7_r (fun r d => Fv5 r d) r d * (1 - k5_pay8_r (fun r d => Fv5 r d) r d))))
theorem k5_pay9_isr (hv0 : T 256 1024 .bf16 v0 Fv0) (hv2 : T 1408 1024 .bf16 v2 Fv2) (hv5 : T 256 1408 .bf16 v5 Fv5) (hv8 : T 256 1408 .bf16 v8 Fv8) : T 256 1408 .bf16 (k5_pay9 v0 v2 v5 v8) (k5_pay9_r Fv0 Fv2 Fv5 Fv8) := by
  have hv9 := isr_cast hv8 shapeCasts_S256x1408_S256x1408
  have hv10 := isr_ext bitsLt_bf16_f32 hv9
  have hv18 := isr_mul (k5_pay6_isr hv0 hv2) hv10
  have hv19 := isr_mul hv18 (k5_pay8_isr hv5)
  have hv20 := isr_bc (s := S256x1408) lit_one
  have hv21 := isr_sub hv20 (k5_pay8_isr hv5)
  have hv22 := isr_mul (k5_pay7_isr hv5) hv21
  have hv23 := isr_bc (s := S256x1408) lit_one
  have hv24 := isr_add hv23 hv22
  have hv25 := isr_mul hv19 hv24
  exact IsR.congr (isr_trunc bitsLt_bf16_f32 hv25) fun i => rfl

def k5_pay10_r (Fv0 Fv2 Fv5 : RM) (r d : ℕ) : ℝ :=
  ((k5_pay6_r (fun r d => Fv0 r d) (fun r d => Fv2 r d) r d * k5_pay7_r (fun r d => Fv5 r d) r d) * k5_pay8_r (fun r d => Fv5 r d) r d)
theorem k5_pay10_isr (hv0 : T 256 1024 .bf16 v0 Fv0) (hv2 : T 1408 1024 .bf16 v2 Fv2) (hv5 : T 256 1408 .bf16 v5 Fv5) : T 256 1408 .bf16 (k5_pay10 v0 v2 v5) (k5_pay10_r Fv0 Fv2 Fv5) := by
  have hv28 := isr_mul (k5_pay6_isr hv0 hv2) (k5_pay7_isr hv5)
  have hv29 := isr_mul hv28 (k5_pay8_isr hv5)
  exact IsR.congr (isr_trunc bitsLt_bf16_f32 hv29) fun i => rfl

def k5_pay11_r (Fv32 : RM) (r d : ℕ) : ℝ :=
  Fv32 r d
theorem k5_pay11_isr (hv32 : T 256 1024 .bf16 v32 Fv32) : T 256 1024 .bf16 (k5_pay11 v32) (k5_pay11_r Fv32) := by
  exact IsR.congr (isr_cast hv32 shapeCasts_S256x1024_S256x1024) fun i => rfl

end Cert.Tail

end
-- ==== Proof.Tail.R5.lean ====
/-
  Region 5 of the kernel (untrusted): its input blocks as shifted real matrices, what each point of the grid leaves in its
  output windows, and the arrays after the last point.
-/
module

public import proofs.«01_k».proof.Proof.Gen.KernelIdeal.Frame.Region5
public import proofs.«01_k».proof.Proof.Tail.Pay5
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R5

open Cert.KernelIdeal Cert.KernelIdeal.Gen
variable (V : (c : Dev nD) → (b : Ref sig .tc) → Buf (Elt Ideal) ((c : Thread nD τ).loc b))

theorem idx : ∀ t : Fin cfg5.N,
    win5_0.index t = ![t.val % 32, 0]
    ∧ win5_1.index t = ![t.val / 32, 0]
    ∧ win5_2.index t = ![t.val % 32, t.val / 32]
    ∧ win5_3.index t = ![t.val % 32, t.val / 32]
    ∧ win5_4.index t = ![t.val % 32, t.val / 32]
    ∧ win5_5.index t = ![t.val % 32, t.val / 32] :=
  (by decide +kernel : ∀ t : Fin grid5.N, _)

theorem blk_0 {F : RM} (c : Dev nD) (t : Fin cfg5.N) (h : T 16384 1024 .bf16 (V c main_v17_1) F) :
    T 512 1024 .bf16 (iblk5 V c 0 t) (fun r d => F (512 * (t.val % 32) + r) d) := fun i => by
  refine IsR.at h (congrArg₂ F ?_ ?_) <;> (blk_simp; rw [(idx t).1]; first | exact off _ _ _ | exact off0 _ _ | exact off1 _ _)
theorem blk_1 {F : RM} (c : Dev nD) (t : Fin cfg5.N) (h : T 2816 1024 .bf16 (V c main_v5) F) :
    T 1408 1024 .bf16 (iblk5 V c 1 t) (fun r d => F (1408 * (t.val / 32) + r) d) := fun i => by
  refine IsR.at h (congrArg₂ F ?_ ?_) <;> (blk_simp; rw [(idx t).2.1]; first | exact off _ _ _ | exact off0 _ _ | exact off1 _ _)
theorem blk_2 {F : RM} (c : Dev nD) (t : Fin cfg5.N) (h : T 16384 2816 .bf16 (V c main_v16_0) F) :
    T 512 1408 .bf16 (iblk5 V c 2 t) (fun r d => F (512 * (t.val % 32) + r) (1408 * (t.val / 32) + d)) := fun i => by
  refine IsR.at h (congrArg₂ F ?_ ?_) <;> (blk_simp; rw [(idx t).2.2.1]; first | exact off _ _ _ | exact off0 _ _ | exact off1 _ _)
theorem blk_3 {F : RM} (c : Dev nD) (t : Fin cfg5.N) (h : T 16384 2816 .bf16 (V c main_v16_1) F) :
    T 512 1408 .bf16 (iblk5 V c 3 t) (fun r d => F (512 * (t.val % 32) + r) (1408 * (t.val / 32) + d)) := fun i => by
  refine IsR.at h (congrArg₂ F ?_ ?_) <;> (blk_simp; rw [(idx t).2.2.2.1]; first | exact off _ _ _ | exact off0 _ _ | exact off1 _ _)

theorem o_4 {F0 F1 F2 F3 : RM} (x0 : Vec Ideal S512x1024 .bf16) (x1 : Vec Ideal S1408x1024 .bf16) (x2 : Vec Ideal S512x1408 .bf16) (x3 : Vec Ideal S512x1408 .bf16)
    (g0 : T 512 1024 .bf16 x0 F0)
    (g1 : T 1408 1024 .bf16 x1 F1)
    (g2 : T 512 1408 .bf16 x2 F2)
    (g3 : T 512 1408 .bf16 x3 F3) :
    T 512 1408 .bf16 (out5_4 x0 x1 x2 x3) (s5_4 F0 F1 F2 F3) := fun y => by
  show out5_4 x0 x1 x2 x3 y = _
  canon_tiles x h
  all_goals
    apply IsR.at (s := S256x1408) (φ := .bf16) (i := x)
    rotate_left
    ·
      try unfold k5_pay12
      repeat' first
        | with_reducible (first | apply k5_pay1_isr | apply k5_pay2_isr | apply k5_pay3_isr | apply k5_pay4_isr | apply k5_pay5_isr | apply k5_pay6_isr | apply k5_pay7_isr | apply k5_pay8_isr | apply k5_pay9_isr | apply k5_pay10_isr | apply k5_pay11_isr)
        | apply isr_ld00 | apply isr_ld00b | apply isr_ld_row | apply isr_ld_rowb
        | exact g0 | exact g1 | exact g2 | exact g3
        | apply pos_all
    · show _ = s5_4 F0 F1 F2 F3 (y 0).val (y 1).val
      rw [h0, h1]
      rfl
theorem o_5 {F0 F1 F2 F3 : RM} (x0 : Vec Ideal S512x1024 .bf16) (x1 : Vec Ideal S1408x1024 .bf16) (x2 : Vec Ideal S512x1408 .bf16) (x3 : Vec Ideal S512x1408 .bf16)
    (g0 : T 512 1024 .bf16 x0 F0)
    (g1 : T 1408 1024 .bf16 x1 F1)
    (g2 : T 512 1408 .bf16 x2 F2)
    (g3 : T 512 1408 .bf16 x3 F3) :
    T 512 1408 .bf16 (out5_5 x0 x1 x2 x3) (s5_5 F0 F1 F2 F3) := fun y => by
  show out5_5 x0 x1 x2 x3 y = _
  canon_tiles x h
  all_goals
    apply IsR.at (s := S256x1408) (φ := .bf16) (i := x)
    rotate_left
    ·
      try unfold k5_pay12
      repeat' first
        | with_reducible (first | apply k5_pay1_isr | apply k5_pay2_isr | apply k5_pay3_isr | apply k5_pay4_isr | apply k5_pay5_isr | apply k5_pay6_isr | apply k5_pay7_isr | apply k5_pay8_isr | apply k5_pay9_isr | apply k5_pay10_isr | apply k5_pay11_isr)
        | apply isr_ld00 | apply isr_ld00b | apply isr_ld_row | apply isr_ld_rowb
        | exact g0 | exact g1 | exact g2 | exact g3
        | apply pos_all
    · show _ = s5_5 F0 F1 F2 F3 (y 0).val (y 1).val
      rw [h0, h1]
      rfl

theorem fin_4 {A0 A1 A2 A3 : RM} (c : Dev nD)
    (g0 : T 16384 1024 .bf16 (V c main_v17_1) A0)
    (g1 : T 2816 1024 .bf16 (V c main_v5) A1)
    (g2 : T 16384 2816 .bf16 (V c main_v16_0) A2)
    (g3 : T 16384 2816 .bf16 (V c main_v16_1) A3) :
    T 16384 2816 .bf16 ((dat5 V c).arrAt 4 cfg5.N) (s5_4 A0 A1 A2 A3) := by
  have e : (dat5 V c).arrAt 4 cfg5.N = (fun i => ((N2 (a := 16384) (b := 2816) (s5_4 A0 A1 A2 A3) i : ℝ) : EReal) : FVec Ideal S16384x2816 .bf16) := by
    refine (dat5 V c).arrAt_eq_of_covers 4 _ (by decide +kernel) fun t _ y => ?_
    blk_simp
    rw [after5_4]
    refine (o_4 _ _ _ _ (blk_0 V c t g0) (blk_1 V c t g1) (blk_2 V c t g2) (blk_3 V c t g3) y).trans ?_
    refine congrArg _ ?_
    refine Eq.trans ?_ (congrArg₂ (s5_4 A0 A1 A2 A3) (x' := 512 * (t.val % 32) + (y 0).val) (y' := 1408 * (t.val / 32) + (y 1).val) ?_ ?_).symm
    rotate_left
    iterate 2 (blk_simp; rw [(idx t).2.2.2.2.1]; first | exact off _ _ _ | exact off0 _ _ | exact off1 _ _)
    rfl
  exact fun i => congrFun e i
theorem fin_5 {A0 A1 A2 A3 : RM} (c : Dev nD)
    (g0 : T 16384 1024 .bf16 (V c main_v17_1) A0)
    (g1 : T 2816 1024 .bf16 (V c main_v5) A1)
    (g2 : T 16384 2816 .bf16 (V c main_v16_0) A2)
    (g3 : T 16384 2816 .bf16 (V c main_v16_1) A3) :
    T 16384 2816 .bf16 ((dat5 V c).arrAt 5 cfg5.N) (s5_5 A0 A1 A2 A3) := by
  have e : (dat5 V c).arrAt 5 cfg5.N = (fun i => ((N2 (a := 16384) (b := 2816) (s5_5 A0 A1 A2 A3) i : ℝ) : EReal) : FVec Ideal S16384x2816 .bf16) := by
    refine (dat5 V c).arrAt_eq_of_covers 5 _ (by decide +kernel) fun t _ y => ?_
    blk_simp
    rw [after5_5]
    refine (o_5 _ _ _ _ (blk_0 V c t g0) (blk_1 V c t g1) (blk_2 V c t g2) (blk_3 V c t g3) y).trans ?_
    refine congrArg _ ?_
    refine Eq.trans ?_ (congrArg₂ (s5_5 A0 A1 A2 A3) (x' := 512 * (t.val % 32) + (y 0).val) (y' := 1408 * (t.val / 32) + (y 1).val) ?_ ?_).symm
    rotate_left
    iterate 2 (blk_simp; rw [(idx t).2.2.2.2.2]; first | exact off _ _ _ | exact off0 _ _ | exact off1 _ _)
    rfl
  exact fun i => congrFun e i

end Cert.Tail.R5

end
-- ==== Proof.Tail.Pay6.lean ====
/-
  The printed vector operations of region 6 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k6_pay1_r (r d : ℕ) : ℝ :=
  0
theorem k6_pay1_isr : T 1024 1408 .f32 (k6_pay1 ) (k6_pay1_r ) := by
  exact IsR.congr (isr_bc (s := S1024x1408) lit_zero) fun i => rfl

def k6_pay2_r (Fv3 Fv5 Fv7 : RM) (r d : ℕ) : ℝ :=
  (Fv3 r d + (∑ k1 : Fin 2048, Fv5 k1.val r * Fv7 k1.val d))
theorem k6_pay2_isr (hv3 : T 1024 1408 .f32 v3 Fv3) (hv5 : T 2048 1024 .bf16 v5 Fv5) (hv7 : T 2048 1408 .bf16 v7 Fv7) : T 1024 1408 .f32 (k6_pay2 v3 v5 v7) (k6_pay2_r Fv3 Fv5 Fv7) := by
  have hv4 := isr_cast hv3 shapeCasts_S1024x1408_S1024x1408
  have hv6 := isr_cast hv5 shapeCasts_S2048x1024_S2048x1024
  have hv8 := isr_cast hv7 shapeCasts_S2048x1408_S2048x1408
  have hv9 := isk_S2048x1024_S2048x1408_S1024x1408_0_0_1_1_n_n hv6 hv8
  exact IsR.congr (isr_add hv4 hv9) fun i => rfl

end Cert.Tail

end
-- ==== Proof.Tail.R6.lean ====
/-
  Region 6 of the kernel (untrusted): its input blocks as shifted real matrices, what each point of the grid leaves in its
  output windows, and the arrays after the last point.
-/
module

public import proofs.«01_k».proof.Proof.Gen.KernelIdeal.Frame.Region6
public import proofs.«01_k».proof.Proof.Tail.Pay6
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R6

open Cert.KernelIdeal Cert.KernelIdeal.Gen
variable (V : (c : Dev nD) → (b : Ref sig .tc) → Buf (Elt Ideal) ((c : Thread nD τ).loc b))

theorem idx : ∀ t : Fin cfg6.N,
    win6_0.index t = ![t.val % 8, 0]
    ∧ win6_1.index t = ![t.val % 8, t.val / 8]
    ∧ win6_2.index t = ![0, t.val / 8] :=
  (by decide +kernel : ∀ t : Fin grid6.N, _)

theorem blk_0 {F : RM} (c : Dev nD) (t : Fin cfg6.N) (h : T 16384 1024 .bf16 (V c main_v15_2) F) :
    T 2048 1024 .bf16 (iblk6 V c 0 t) (fun r d => F (2048 * (t.val % 8) + r) d) := fun i => by
  refine IsR.at h (congrArg₂ F ?_ ?_) <;> (blk_simp; rw [(idx t).1]; first | exact off _ _ _ | exact off0 _ _ | exact off1 _ _)
theorem blk_1 {F : RM} (c : Dev nD) (t : Fin cfg6.N) (h : T 16384 2816 .bf16 (V c main_v19_0) F) :
    T 2048 1408 .bf16 (iblk6 V c 1 t) (fun r d => F (2048 * (t.val % 8) + r) (1408 * (t.val / 8) + d)) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * (t % 8) + k.val) i * A1 (2048 * (t % 8) + k.val) (1408 * (t / 8) + j)
theorem zero_step {A0 A1 : RM} (c : Dev nD) (g0 : T 16384 1024 .bf16 (V c main_v15_2) A0) (g1 : T 16384 2816 .bf16 (V c main_v19_0) A1) (t : Fin cfg6.N) (h : t.val % 8 = 0) :
    T 1024 1408 .f32 (outsAt6 V c t.val t.isLt) (fun i j => 0 + part A0 A1 t.val i j) := fun y => by
  show outsAt6 V c t.val t.isLt y = _
  rw [outsAt6_A V c t h]
  frame_out
  · apply IsR.at (s := S1024x1408) (φ := .f32) (i := y)
    rotate_left
    ·
      repeat' first
        | with_reducible apply k6_pay2_isr | with_reducible apply k6_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v15_2) A0) (g1 : T 16384 2816 .bf16 (V c main_v19_0) A1) (t : Fin cfg6.N) (h : ¬ t.val % 8 = 0)
    (gp : T 1024 1408 .f32 (outsAt6 V c (t.val - 1) (Nat.lt_of_le_of_lt (Nat.sub_le _ _) t.isLt)) G) :
    T 1024 1408 .f32 (outsAt6 V c t.val t.isLt) (fun i j => G i j + part A0 A1 t.val i j) := fun y => by
  show outsAt6 V c t.val t.isLt y = _
  rw [outsAt6_B V c t h]
  frame_out
  · apply IsR.at (s := S1024x1408) (φ := .f32) (i := y)
    rotate_left
    ·
      repeat' first
        | with_reducible apply k6_pay2_isr | with_reducible apply k6_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v15_2) A0) (g1 : T 16384 2816 .bf16 (V c main_v19_0) A1) :
    T 1024 2816 .f32 ((dat6 V c).arrAt 2 cfg6.N) (dotL 16384 A0 A1) := by
  have e : (dat6 V c).arrAt 2 cfg6.N = (fun i => ((N2 (a := 1024) (b := 2816) (dotL 16384 A0 A1) i : ℝ) : EReal) : FVec Ideal S1024x2816 .f32) := by
    refine (dat6 V c).arrAt_eq_of_covers 2 _ (by decide +kernel) fun t hf y => ?_
    blk_simp
    rw [after6_2]
    refine (isr_acc (fun n h => outsAt6 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush6_2 t).mp hf; omega
    refine Eq.trans ?_ (congrArg₂ (dotL 16384 A0 A1) (x' := (y 0).val) (y' := 1408 * (t.val / 8) + (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    exact sum_run 2048 8 (t.val / 8) (by norm_num) fun r q => A0 r (y 0).val * A1 r (1408 * q + (y 1).val)
  exact fun i => congrFun e i

end Cert.Tail.R6

end
-- ==== Proof.Tail.Pay7.lean ====
/-
  The printed vector operations of region 7 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k7_pay1_r (r d : ℕ) : ℝ :=
  0
theorem k7_pay1_isr : T 1024 1408 .f32 (k7_pay1 ) (k7_pay1_r ) := by
  exact IsR.congr (isr_bc (s := S1024x1408) lit_zero) fun i => rfl

def k7_pay2_r (Fv3 Fv5 Fv7 : RM) (r d : ℕ) : ℝ :=
  (Fv3 r d + (∑ k1 : Fin 2048, Fv5 k1.val r * Fv7 k1.val d))
theorem k7_pay2_isr (hv3 : T 1024 1408 .f32 v3 Fv3) (hv5 : T 2048 1024 .bf16 v5 Fv5) (hv7 : T 2048 1408 .bf16 v7 Fv7) : T 1024 1408 .f32 (k7_pay2 v3 v5 v7) (k7_pay2_r Fv3 Fv5 Fv7) := by
  have hv4 := isr_cast hv3 shapeCasts_S1024x1408_S1024x1408
  have hv6 := isr_cast hv5 shapeCasts_S2048x1024_S2048x1024
  have hv8 := isr_cast hv7 shapeCasts_S2048x1408_S2048x1408
  have hv9 := isk_S2048x1024_S2048x1408_S1024x1408_0_0_1_1_n_n hv6 hv8
  exact IsR.congr (isr_add hv4 hv9) fun i => rfl

end Cert.Tail

end
-- ==== Proof.Tail.R7.lean ====
/-
  Region 7 of the kernel (untrusted): its input blocks as shifted real matrices, what each point of the grid leaves in its
  output windows, and the arrays after the last point.
-/
module

public import proofs.«01_k».proof.Proof.Gen.KernelIdeal.Frame.Region7
public import proofs.«01_k».proof.Proof.Tail.Pay7
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R7

open Cert.KernelIdeal Cert.KernelIdeal.Gen
variable (V : (c : Dev nD) → (b : Ref sig .tc) → Buf (Elt Ideal) ((c : Thread nD τ).loc b))

theorem idx : ∀ t : Fin cfg7.N,
    win7_0.index t = ![t.val % 8, 0]
    ∧ win7_1.index t = ![t.val % 8, t.val / 8]
    ∧ win7_2.index t = ![0, t.val / 8] :=
  (by decide +kernel : ∀ t : Fin grid7.N, _)

theorem blk_0 {F : RM} (c : Dev nD) (t : Fin cfg7.N) (h : T 16384 1024 .bf16 (V c main_v15_2) F) :
    T 2048 1024 .bf16 (iblk7 V c 0 t) (fun r d => F (2048 * (t.val % 8) + r) d) := fun i => by
  refine IsR.at h (congrArg₂ F ?_ ?_) <;> (blk_simp; rw [(idx t).1]; first | exact off _ _ _ | exact off0 _ _ | exact off1 _ _)
theorem blk_1 {F : RM} (c : Dev nD) (t : Fin cfg7.N) (h : T 16384 2816 .bf16 (V c main_v19_1) F) :
    T 2048 1408 .bf16 (iblk7 V c 1 t) (fun r d => F (2048 * (t.val % 8) + r) (1408 * (t.val / 8) + d)) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * (t % 8) + k.val) i * A1 (2048 * (t % 8) + k.val) (1408 * (t / 8) + j)
theorem zero_step {A0 A1 : RM} (c : Dev nD) (g0 : T 16384 1024 .bf16 (V c main_v15_2) A0) (g1 : T 16384 2816 .bf16 (V c main_v19_1) A1) (t : Fin cfg7.N) (h : t.val % 8 = 0) :
    T 1024 1408 .f32 (outsAt7 V c t.val t.isLt) (fun i j => 0 + part A0 A1 t.val i j) := fun y => by
  show outsAt7 V c t.val t.isLt y = _
  rw [outsAt7_A V c t h]
  frame_out
  · apply IsR.at (s := S1024x1408) (φ := .f32) (i := y)
    rotate_left
    ·
      repeat' first
        | with_reducible apply k7_pay2_isr | with_reducible apply k7_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v15_2) A0) (g1 : T 16384 2816 .bf16 (V c main_v19_1) A1) (t : Fin cfg7.N) (h : ¬ t.val % 8 = 0)
    (gp : T 1024 1408 .f32 (outsAt7 V c (t.val - 1) (Nat.lt_of_le_of_lt (Nat.sub_le _ _) t.isLt)) G) :
    T 1024 1408 .f32 (outsAt7 V c t.val t.isLt) (fun i j => G i j + part A0 A1 t.val i j) := fun y => by
  show outsAt7 V c t.val t.isLt y = _
  rw [outsAt7_B V c t h]
  frame_out
  · apply IsR.at (s := S1024x1408) (φ := .f32) (i := y)
    rotate_left
    ·
      repeat' first
        | with_reducible apply k7_pay2_isr | with_reducible apply k7_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v15_2) A0) (g1 : T 16384 2816 .bf16 (V c main_v19_1) A1) :
    T 1024 2816 .f32 ((dat7 V c).arrAt 2 cfg7.N) (dotL 16384 A0 A1) := by
  have e : (dat7 V c).arrAt 2 cfg7.N = (fun i => ((N2 (a := 1024) (b := 2816) (dotL 16384 A0 A1) i : ℝ) : EReal) : FVec Ideal S1024x2816 .f32) := by
    refine (dat7 V c).arrAt_eq_of_covers 2 _ (by decide +kernel) fun t hf y => ?_
    blk_simp
    rw [after7_2]
    refine (isr_acc (fun n h => outsAt7 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush7_2 t).mp hf; omega
    refine Eq.trans ?_ (congrArg₂ (dotL 16384 A0 A1) (x' := (y 0).val) (y' := 1408 * (t.val / 8) + (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    exact sum_run 2048 8 (t.val / 8) (by norm_num) fun r q => A0 r (y 0).val * A1 r (1408 * q + (y 1).val)
  exact fun i => congrFun e i

end Cert.Tail.R7

end
-- ==== Proof.Tail.Pay8.lean ====
/-
  The printed vector operations of region 8 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k8_pay1_r (Fv149 Fv150 : RM) (r d : ℕ) : ℝ :=
  (Fv149 r d + (∑ k1 : Fin 256, Fv150 k1.val d))
theorem k8_pay1_isr (hv149 : T 1 1024 .f32 v149 Fv149) (hv150 : T 256 1024 .f32 v150 Fv150) : T 1 1024 .f32 (k8_pay1 v149 v150) (k8_pay1_r Fv149 Fv150) := by
  have hv151 := isr_red0 hv150 reduces_S256x1024_S1024 (.inl rfl) rfl
  have hv152 := isr_cast_row hv151 shapeCasts_S1024_S1x1024
  exact IsR.congr (isr_add hv149 hv152) fun i => rfl

def k8_pay2_r (r d : ℕ) : ℝ :=
  0
theorem k8_pay2_isr : T 8 1024 .f32 (k8_pay2 ) (k8_pay2_r ) := by
  exact IsR.congr (isr_bc (s := S8x1024) lit_zero) fun i => rfl

def k8_pay3_r (Fv5 Fv7 Fv10 Fv12 : RM) (r d : ℕ) : ℝ :=
  ((∑ k1 : Fin 2816, Fv5 r k1.val * Fv7 d k1.val) + (∑ k2 : Fin 2816, Fv10 r k2.val * Fv12 d k2.val))
theorem k8_pay3_isr (hv5 : T 256 2816 .bf16 v5 Fv5) (hv7 : T 1024 2816 .bf16 v7 Fv7) (hv10 : T 256 2816 .bf16 v10 Fv10) (hv12 : T 1024 2816 .bf16 v12 Fv12) : T 256 1024 .f32 (k8_pay3 v5 v7 v10 v12) (k8_pay3_r Fv5 Fv7 Fv10 Fv12) := by
  have hv6 := isr_cast hv5 shapeCasts_S256x2816_S256x2816
  have hv8 := isr_cast hv7 shapeCasts_S1024x2816_S1024x2816
  have hv9 := isk_S256x2816_S1024x2816_S256x1024_1_1_0_0_n_n hv6 hv8
  have hv11 := isr_cast hv10 shapeCasts_S256x2816_S256x2816
  have hv13 := isr_cast hv12 shapeCasts_S1024x2816_S1024x2816
  have hv14 := isk_S256x2816_S1024x2816_S256x1024_1_1_0_0_n_n hv11 hv13
  exact IsR.congr (isr_add hv9 hv14) fun i => rfl

def k8_pay4_r (Fv16 : RM) (r d : ℕ) : ℝ :=
  Fv16 r d
theorem k8_pay4_isr (hv16 : T 256 1024 .f32 v16 Fv16) : T 256 1024 .f32 (k8_pay4 v16) (k8_pay4_r Fv16) := by
  exact IsR.congr (isr_cast hv16 shapeCasts_S256x1024_S256x1024) fun i => rfl

def k8_pay5_r (Fv16 Fv18 Fv21 : RM) (r d : ℕ) : ℝ :=
  (((alphaR * Fv18 r d) + (Fv21 0 d * k8_pay4_r (fun r d => Fv16 r d) r d)) - ((∑ k1 : Fin 1024, ((alphaR * Fv18 r k1.val) + (Fv21 0 k1.val * k8_pay4_r (fun r d => Fv16 r d) r k1.val))) / 1024))
theorem k8_pay5_isr (hv16 : T 256 1024 .f32 v16 Fv16) (hv18 : T 256 1024 .f32 v18 Fv18) (hv21 : T 1 1024 .f32 v21 Fv21) : T 256 1024 .f32 (k8_pay5 v16 v18 v21) (k8_pay5_r Fv16 Fv18 Fv21) := by
  have hv19 := isr_bc (s := S256x1024) lit_alpha
  have hv20 := isr_mul hv19 hv18
  have hv22 := isr_cast hv21 shapeCasts_S1x1024_S1x1024
  have hv23 := isr_row hv22 broadcasts_S1x1024_S256x1024
  have hv24 := isr_mul hv23 (k8_pay4_isr hv16)
  have hv25 := isr_add hv20 hv24
  have hv26 := isr_red1 hv25 reduces_S256x1024_S256 (.inl rfl) rfl
  have hv27 := isr_cast_col256 hv26 shapeCasts_S256_S256x1
  have hv28 := isr_bc (s := S256x1) lit_lanes
  have hv29 := isr_div hv27 hv28 (fun _ => by norm_num)
  have hv30 := isr_col hv29 broadcasts_S256x1_S256x1024
  exact IsR.congr (isr_sub hv25 hv30) fun i => rfl

def k8_pay6_r (Fv16 Fv18 Fv21 : RM) (r d : ℕ) : ℝ :=
  (∑ k1 : Fin 1024, (k8_pay5_r (fun r d => Fv16 r d) (fun r d => Fv18 r d) (fun r d => Fv21 r d) r k1.val * k8_pay5_r (fun r d => Fv16 r d) (fun r d => Fv18 r d) (fun r d => Fv21 r d) r k1.val))
theorem k8_pay6_isr (hv16 : T 256 1024 .f32 v16 Fv16) (hv18 : T 256 1024 .f32 v18 Fv18) (hv21 : T 1 1024 .f32 v21 Fv21) :
    IsR (s := S256) (φ := .f32) (k8_pay6 v16 v18 v21) (N1 (k8_pay6_r Fv16 Fv18 Fv21)) := by
  have hv32 := isr_mul (k8_pay5_isr hv16 hv18 hv21) (k8_pay5_isr hv16 hv18 hv21)
  exact IsR.congr (isr_red1 hv32 reduces_S256x1024_S256 (.inl rfl) rfl) fun i => rfl

def k8_pay7_r (Fv33 : RM) (r d : ℕ) : ℝ :=
  (Real.sqrt (((Fv33 r 0 / 1024) + epsR)))⁻¹
theorem k8_pay7_isr {Fv33 : RM} (hv33 : IsR (s := S256) (φ := .f32) v33 (N1 Fv33)) (hp : ∀ r d : ℕ, 0 < ((Fv33 r 0 / 1024) + epsR)) : T 256 1 .f32 (k8_pay7 v33) (k8_pay7_r Fv33) := by
  have hv34 := isr_cast_col256 hv33 shapeCasts_S256_S256x1
  have hv35 := isr_bc (s := S256x1) lit_lanes
  have hv36 := isr_div hv34 hv35 (fun _ => by norm_num)
  have hv37 := isr_bc (s := S256x1) lit_eps
  have hv38 := isr_add hv36 hv37
  exact IsR.congr (isr_rsqrt hv38 (fun i => hp (i 0).val (i 1).val)) fun i => rfl

def k8_pay8_r (Fv31 Fv33 : RM) (r d : ℕ) : ℝ :=
  (Fv31 r d * k8_pay7_r (fun r d => Fv33 r 0) r 0)
theorem k8_pay8_isr {Fv31 Fv33 : RM} (hv31 : T 256 1024 .f32 v31 Fv31) (hv33 : IsR (s := S256) (φ := .f32) v33 (N1 Fv33)) (hp : ∀ r d : ℕ, 0 < ((Fv33 r 0 / 1024) + epsR)) : T 256 1024 .f32 (k8_pay8 v31 v33) (k8_pay8_r Fv31 Fv33) := by
  have hv40 := isr_col (k8_pay7_isr hv33 hp) broadcasts_S256x1_S256x1024
  exact IsR.congr (isr_mul hv31 hv40) fun i => rfl

def k8_pay9_r (Fv31 Fv33 Fv42 Fv46 : RM) (r d : ℕ) : ℝ :=
  (((k8_pay8_r (fun r d => Fv31 r d) (fun r d => Fv33 r 0) r d * Fv42 0 d) + Fv46 0 d) - ((∑ k1 : Fin 1024, ((k8_pay8_r (fun r d => Fv31 r d) (fun r d => Fv33 r 0) r k1.val * Fv42 0 k1.val) + Fv46 0 k1.val)) / 1024))
theorem k8_pay9_isr {Fv31 Fv33 Fv42 Fv46 : RM} (hv31 : T 256 1024 .f32 v31 Fv31) (hv33 : IsR (s := S256) (φ := .f32) v33 (N1 Fv33)) (hv42 : T 1 1024 .f32 v42 Fv42) (hv46 : T 1 1024 .f32 v46 Fv46) (hp : ∀ r d : ℕ, 0 < ((Fv33 r 0 / 1024) + epsR)) : T 256 1024 .f32 (k8_pay9 v31 v33 v42 v46) (k8_pay9_r Fv31 Fv33 Fv42 Fv46) := by
  have hv43 := isr_cast hv42 shapeCasts_S1x1024_S1x1024
  have hv44 := isr_row hv43 broadcasts_S1x1024_S256x1024
  have hv45 := isr_mul (k8_pay8_isr hv31 hv33 hp) hv44
  have hv47 := isr_cast hv46 shapeCasts_S1x1024_S1x1024
  have hv48 := isr_row hv47 broadcasts_S1x1024_S256x1024
  have hv49 := isr_add hv45 hv48
  have hv50 := isr_red1 hv49 reduces_S256x1024_S256 (.inl rfl) rfl
  have hv51 := isr_cast_col256 hv50 shapeCasts_S256_S256x1
  have hv52 := isr_bc (s := S256x1) lit_lanes
  have hv53 := isr_div hv51 hv52 (fun _ => by norm_num)
  have hv54 := isr_col hv53 broadcasts_S256x1_S256x1024
  exact IsR.congr (isr_sub hv49 hv54) fun i => rfl

def k8_pay10_r (Fv31 Fv33 Fv42 Fv46 : RM) (r d : ℕ) : ℝ :=
  (Real.sqrt ((((∑ k1 : Fin 1024, (k8_pay9_r (fun r d => Fv31 r d) (fun r d => Fv33 r 0) (fun r d => Fv42 r d) (fun r d => Fv46 r d) r k1.val * k8_pay9_r (fun r d => Fv31 r d) (fun r d => Fv33 r 0) (fun r d => Fv42 r d) (fun r d => Fv46 r d) r k1.val)) / 1024) + epsR)))⁻¹
theorem k8_pay10_isr {Fv31 Fv33 Fv42 Fv46 : RM} (hv31 : T 256 1024 .f32 v31 Fv31) (hv33 : IsR (s := S256) (φ := .f32) v33 (N1 Fv33)) (hv42 : T 1 1024 .f32 v42 Fv42) (hv46 : T 1 1024 .f32 v46 Fv46) (hp : ∀ r d : ℕ, 0 < ((Fv33 r 0 / 1024) + epsR)) : T 256 1 .f32 (k8_pay10 v31 v33 v42 v46) (k8_pay10_r Fv31 Fv33 Fv42 Fv46) := by
  have hv56 := isr_mul (k8_pay9_isr hv31 hv33 hv42 hv46 hp) (k8_pay9_isr hv31 hv33 hv42 hv46 hp)
  have hv57 := isr_red1 hv56 reduces_S256x1024_S256 (.inl rfl) rfl
  have hv58 := isr_cast_col256 hv57 shapeCasts_S256_S256x1
  have hv59 := isr_bc (s := S256x1) lit_lanes
  have hv60 := isr_div hv58 hv59 (fun _ => by norm_num)
  have hv61 := isr_bc (s := S256x1) lit_eps
  have hv62 := isr_add hv60 hv61
  exact IsR.congr (isr_rsqrt hv62 (fun _ => var_pos _)) fun i => rfl

def k8_pay11_r (Fv31 Fv33 Fv42 Fv46 : RM) (r d : ℕ) : ℝ :=
  (k8_pay9_r (fun r d => Fv31 r d) (fun r d => Fv33 r 0) (fun r d => Fv42 r d) (fun r d => Fv46 r d) r d * k8_pay10_r (fun r d => Fv31 r d) (fun r d => Fv33 r 0) (fun r d => Fv42 r d) (fun r d => Fv46 r d) r 0)
theorem k8_pay11_isr {Fv31 Fv33 Fv42 Fv46 : RM} (hv31 : T 256 1024 .f32 v31 Fv31) (hv33 : IsR (s := S256) (φ := .f32) v33 (N1 Fv33)) (hv42 : T 1 1024 .f32 v42 Fv42) (hv46 : T 1 1024 .f32 v46 Fv46) (hp : ∀ r d : ℕ, 0 < ((Fv33 r 0 / 1024) + epsR)) : T 256 1024 .f32 (k8_pay11 v31 v33 v42 v46) (k8_pay11_r Fv31 Fv33 Fv42 Fv46) := by
  have hv64 := isr_col (k8_pay10_isr hv31 hv33 hv42 hv46 hp) broadcasts_S256x1_S256x1024
  exact IsR.congr (isr_mul (k8_pay9_isr hv31 hv33 hv42 hv46 hp) hv64) fun i => rfl

def k8_pay12_r (Fv66 : RM) (r d : ℕ) : ℝ :=
  (alphaR * Fv66 r d)
theorem k8_pay12_isr (hv66 : T 256 1024 .f32 v66 Fv66) : T 256 1024 .f32 (k8_pay12 v66) (k8_pay12_r Fv66) := by
  have hv67 := isr_cast hv66 shapeCasts_S256x1024_S256x1024
  have hv68 := isr_bc (s := S256x1024) lit_alpha
  exact IsR.congr (isr_mul hv68 hv67) fun i => rfl

def k8_pay13_r (Fv15 Fv70 : RM) (r d : ℕ) : ℝ :=
  (Fv15 r d * (1 + Fv70 0 d))
theorem k8_pay13_isr (hv15 : T 256 1024 .f32 v15 Fv15) (hv70 : T 1 1024 .f32 v70 Fv70) : T 256 1024 .f32 (k8_pay13 v15 v70) (k8_pay13_r Fv15 Fv70) := by
  have hv71 := isr_cast hv70 shapeCasts_S1x1024_S1x1024
  have hv72 := isr_bc (s := S1x1024) lit_one
  have hv73 := isr_add hv72 hv71
  have hv74 := isr_row hv73 broadcasts_S1x1024_S256x1024
  exact IsR.congr (isr_mul hv15 hv74) fun i => rfl

def k8_pay14_r (Fv63 Fv65 Fv69 Fv75 : RM) (r d : ℕ) : ℝ :=
  (Fv69 r d + (Fv63 r 0 * ((Fv75 r d - ((∑ k1 : Fin 1024, Fv75 r k1.val) / 1024)) - (Fv65 r d * ((∑ k2 : Fin 1024, (Fv75 r k2.val * Fv65 r k2.val)) / 1024)))))
theorem k8_pay14_isr (hv63 : T 256 1 .f32 v63 Fv63) (hv65 : T 256 1024 .f32 v65 Fv65) (hv69 : T 256 1024 .f32 v69 Fv69) (hv75 : T 256 1024 .f32 v75 Fv75) : T 256 1024 .f32 (k8_pay14 v63 v65 v69 v75) (k8_pay14_r Fv63 Fv65 Fv69 Fv75) := by
  have hv76 := isr_red1 hv75 reduces_S256x1024_S256 (.inl rfl) rfl
  have hv77 := isr_cast_col256 hv76 shapeCasts_S256_S256x1
  have hv78 := isr_bc (s := S256x1) lit_lanes
  have hv79 := isr_div hv77 hv78 (fun _ => by norm_num)
  have hv80 := isr_col hv79 broadcasts_S256x1_S256x1024
  have hv81 := isr_sub hv75 hv80
  have hv82 := isr_mul hv75 hv65
  have hv83 := isr_red1 hv82 reduces_S256x1024_S256 (.inl rfl) rfl
  have hv84 := isr_cast_col256 hv83 shapeCasts_S256_S256x1
  have hv85 := isr_bc (s := S256x1) lit_lanes
  have hv86 := isr_div hv84 hv85 (fun _ => by norm_num)
  have hv87 := isr_col hv86 broadcasts_S256x1_S256x1024
  have hv88 := isr_mul hv65 hv87
  have hv89 := isr_sub hv81 hv88
  have hv90 := isr_col hv63 broadcasts_S256x1_S256x1024
  have hv91 := isr_mul hv90 hv89
  exact IsR.congr (isr_add hv69 hv91) fun i => rfl

def k8_pay15_r (Fv39 Fv41 Fv63 Fv65 Fv69 Fv75 Fv93 : RM) (r d : ℕ) : ℝ :=
  (Fv39 r 0 * (((k8_pay14_r (fun r d => Fv63 r d) (fun r d => Fv65 r d) (fun r d => Fv69 r d) (fun r d => Fv75 r d) r d * Fv93 0 d) - ((∑ k1 : Fin 1024, (k8_pay14_r (fun r d => Fv63 r d) (fun r d => Fv65 r d) (fun r d => Fv69 r d) (fun r d => Fv75 r d) r k1.val * Fv93 0 k1.val)) / 1024)) - (Fv41 r d * ((∑ k2 : Fin 1024, ((k8_pay14_r (fun r d => Fv63 r d) (fun r d => Fv65 r d) (fun r d => Fv69 r d) (fun r d => Fv75 r d) r k2.val * Fv93 0 k2.val) * Fv41 r k2.val)) / 1024))))
theorem k8_pay15_isr (hv39 : T 256 1 .f32 v39 Fv39) (hv41 : T 256 1024 .f32 v41 Fv41) (hv63 : T 256 1 .f32 v63 Fv63) (hv65 : T 256 1024 .f32 v65 Fv65) (hv69 : T 256 1024 .f32 v69 Fv69) (hv75 : T 256 1024 .f32 v75 Fv75) (hv93 : T 1 1024 .f32 v93 Fv93) : T 256 1024 .f32 (k8_pay15 v39 v41 v63 v65 v69 v75 v93) (k8_pay15_r Fv39 Fv41 Fv63 Fv65 Fv69 Fv75 Fv93) := by
  have hv94 := isr_cast hv93 shapeCasts_S1x1024_S1x1024
  have hv95 := isr_row hv94 broadcasts_S1x1024_S256x1024
  have hv96 := isr_mul (k8_pay14_isr hv63 hv65 hv69 hv75) hv95
  have hv97 := isr_red1 hv96 reduces_S256x1024_S256 (.inl rfl) rfl
  have hv98 := isr_cast_col256 hv97 shapeCasts_S256_S256x1
  have hv99 := isr_bc (s := S256x1) lit_lanes
  have hv100 := isr_div hv98 hv99 (fun _ => by norm_num)
  have hv101 := isr_col hv100 broadcasts_S256x1_S256x1024
  have hv102 := isr_sub hv96 hv101
  have hv103 := isr_mul hv96 hv41
  have hv104 := isr_red1 hv103 reduces_S256x1024_S256 (.inl rfl) rfl
  have hv105 := isr_cast_col256 hv104 shapeCasts_S256_S256x1
  have hv106 := isr_bc (s := S256x1) lit_lanes
  have hv107 := isr_div hv105 hv106 (fun _ => by norm_num)
  have hv108 := isr_col hv107 broadcasts_S256x1_S256x1024
  have hv109 := isr_mul hv41 hv108
  have hv110 := isr_sub hv102 hv109
  have hv111 := isr_col hv39 broadcasts_S256x1_S256x1024
  exact IsR.congr (isr_mul hv111 hv110) fun i => rfl

def k8_pay16_r (Fv39 Fv41 Fv63 Fv65 Fv69 Fv75 Fv93 : RM) (r d : ℕ) : ℝ :=
  (alphaR * k8_pay15_r (fun r d => Fv39 r d) (fun r d => Fv41 r d) (fun r d => Fv63 r d) (fun r d => Fv65 r d) (fun r d => Fv69 r d) (fun r d => Fv75 r d) (fun r d => Fv93 r d) r d)
theorem k8_pay16_isr (hv39 : T 256 1 .f32 v39 Fv39) (hv41 : T 256 1024 .f32 v41 Fv41) (hv63 : T 256 1 .f32 v63 Fv63) (hv65 : T 256 1024 .f32 v65 Fv65) (hv69 : T 256 1024 .f32 v69 Fv69) (hv75 : T 256 1024 .f32 v75 Fv75) (hv93 : T 1 1024 .f32 v93 Fv93) : T 256 1024 .f32 (k8_pay16 v39 v41 v63 v65 v69 v75 v93) (k8_pay16_r Fv39 Fv41 Fv63 Fv65 Fv69 Fv75 Fv93) := by
  have hv113 := isr_bc (s := S256x1024) lit_alpha
  exact IsR.congr (isr_mul hv113 (k8_pay15_isr hv39 hv41 hv63 hv65 hv69 hv75 hv93)) fun i => rfl

def k8_pay17_r (Fv39 Fv41 Fv63 Fv65 Fv69 Fv75 Fv93 Fv116 : RM) (r d : ℕ) : ℝ :=
  (Fv116 0 d * k8_pay15_r (fun r d => Fv39 r d) (fun r d => Fv41 r d) (fun r d => Fv63 r d) (fun r d => Fv65 r d) (fun r d => Fv69 r d) (fun r d => Fv75 r d) (fun r d => Fv93 r d) r d)
theorem k8_pay17_isr (hv39 : T 256 1 .f32 v39 Fv39) (hv41 : T 256 1024 .f32 v41 Fv41) (hv63 : T 256 1 .f32 v63 Fv63) (hv65 : T 256 1024 .f32 v65 Fv65) (hv69 : T 256 1024 .f32 v69 Fv69) (hv75 : T 256 1024 .f32 v75 Fv75) (hv93 : T 1 1024 .f32 v93 Fv93) (hv116 : T 1 1024 .f32 v116 Fv116) : T 256 1024 .bf16 (k8_pay17 v39 v41 v63 v65 v69 v75 v93 v116) (k8_pay17_r Fv39 Fv41 Fv63 Fv65 Fv69 Fv75 Fv93 Fv116) := by
  have hv117 := isr_cast hv116 shapeCasts_S1x1024_S1x1024
  have hv118 := isr_row hv117 broadcasts_S1x1024_S256x1024
  have hv119 := isr_mul hv118 (k8_pay15_isr hv39 hv41 hv63 hv65 hv69 hv75 hv93)
  exact IsR.congr (isr_trunc bitsLt_bf16_f32 hv119) fun i => rfl

def k8_pay18_r (Fv15 Fv65 Fv122 : RM) (r d : ℕ) : ℝ :=
  (Fv122 r d + (∑ k1 : Fin 256, (Fv15 k1.val d * Fv65 k1.val d)))
theorem k8_pay18_isr (hv15 : T 256 1024 .f32 v15 Fv15) (hv65 : T 256 1024 .f32 v65 Fv65) (hv122 : T 1 1024 .f32 v122 Fv122) : T 1 1024 .f32 (k8_pay18 v15 v65 v122) (k8_pay18_r Fv15 Fv65 Fv122) := by
  have hv123 := isr_cast hv122 shapeCasts_S1x1024_S1x1024
  have hv124 := isr_mul hv15 hv65
  have hv125 := isr_red0 hv124 reduces_S256x1024_S1024 (.inl rfl) rfl
  have hv126 := isr_cast_row hv125 shapeCasts_S1024_S1x1024
  exact IsR.congr (isr_add hv123 hv126) fun i => rfl

def k8_pay19_r (Fv15 Fv129 : RM) (r d : ℕ) : ℝ :=
  (Fv129 r d + (∑ k1 : Fin 256, Fv15 k1.val d))
theorem k8_pay19_isr (hv15 : T 256 1024 .f32 v15 Fv15) (hv129 : T 1 1024 .f32 v129 Fv129) : T 1 1024 .f32 (k8_pay19 v15 v129) (k8_pay19_r Fv15 Fv129) := by
  have hv130 := isr_cast hv129 shapeCasts_S1x1024_S1x1024
  have hv131 := isr_red0 hv15 reduces_S256x1024_S1024 (.inl rfl) rfl
  have hv132 := isr_cast_row hv131 shapeCasts_S1024_S1x1024
  exact IsR.congr (isr_add hv130 hv132) fun i => rfl

def k8_pay20_r (Fv41 Fv92 Fv135 : RM) (r d : ℕ) : ℝ :=
  (Fv135 r d + (∑ k1 : Fin 256, (Fv92 k1.val d * Fv41 k1.val d)))
theorem k8_pay20_isr (hv41 : T 256 1024 .f32 v41 Fv41) (hv92 : T 256 1024 .f32 v92 Fv92) (hv135 : T 1 1024 .f32 v135 Fv135) : T 1 1024 .f32 (k8_pay20 v41 v92 v135) (k8_pay20_r Fv41 Fv92 Fv135) := by
  have hv136 := isr_cast hv135 shapeCasts_S1x1024_S1x1024
  have hv137 := isr_mul hv92 hv41
  have hv138 := isr_red0 hv137 reduces_S256x1024_S1024 (.inl rfl) rfl
  have hv139 := isr_cast_row hv138 shapeCasts_S1024_S1x1024
  exact IsR.congr (isr_add hv136 hv139) fun i => rfl

def k8_pay21_r (Fv92 Fv142 : RM) (r d : ℕ) : ℝ :=
  (Fv142 r d + (∑ k1 : Fin 256, Fv92 k1.val d))
theorem k8_pay21_isr (hv92 : T 256 1024 .f32 v92 Fv92) (hv142 : T 1 1024 .f32 v142 Fv142) : T 1 1024 .f32 (k8_pay21 v92 v142) (k8_pay21_r Fv92 Fv142) := by
  have hv143 := isr_cast hv142 shapeCasts_S1x1024_S1x1024
  have hv144 := isr_red0 hv92 reduces_S256x1024_S1024 (.inl rfl) rfl
  have hv145 := isr_cast_row hv144 shapeCasts_S1024_S1x1024
  exact IsR.congr (isr_add hv143 hv145) fun i => rfl

def k8_pay22_r (Fv148 : RM) (r d : ℕ) : ℝ :=
  Fv148 r d
theorem k8_pay22_isr (hv148 : T 1 1024 .f32 v148 Fv148) : T 1 1024 .f32 (k8_pay22 v148) (k8_pay22_r Fv148) := by
  exact IsR.congr (isr_cast hv148 shapeCasts_S1x1024_S1x1024) fun i => rfl

def k8_pay23_r (Fv17 Fv112 : RM) (r d : ℕ) : ℝ :=
  (Fv112 r d * Fv17 r d)
theorem k8_pay23_isr (hv17 : T 256 1024 .f32 v17 Fv17) (hv112 : T 256 1024 .f32 v112 Fv112) : T 256 1024 .f32 (k8_pay23 v17 v112) (k8_pay23_r Fv17 Fv112) := by
  exact IsR.congr (isr_mul hv112 hv17) fun i => rfl

end Cert.Tail

end
-- ==== Proof.Tail.R8.lean ====
/-
  Region 8 of the kernel (untrusted): its input blocks as shifted real matrices, what each point of the grid leaves in its
  output windows, and the arrays after the last point.
-/
module

public import proofs.«01_k».proof.Proof.Gen.KernelIdeal.Frame.Region8
public import proofs.«01_k».proof.Proof.Tail.Pay8
public import proofs.«01_k».proof.Proof.Tail.Spec
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R8

open Cert.KernelIdeal Cert.KernelIdeal.Gen
variable (V : (c : Dev nD) → (b : Ref sig .tc) → Buf (Elt Ideal) ((c : Thread nD τ).loc b))

theorem idx : ∀ t : Fin cfg8.N,
    win8_0.index t = ![t.val, 0]
    ∧ win8_1.index t = ![0, 0]
    ∧ win8_2.index t = ![t.val, 0]
    ∧ win8_3.index t = ![0, 0]
    ∧ win8_4.index t = ![t.val, 0]
    ∧ win8_5.index t = ![t.val, 0]
    ∧ win8_6.index t = ![t.val, 0]
    ∧ win8_7.index t = ![0, 0]
    ∧ win8_8.index t = ![0, 0]
    ∧ win8_9.index t = ![t.val, 0]
    ∧ win8_10.index t = ![t.val, 0]
    ∧ win8_11.index t = ![0, 0] :=
  (by decide +kernel : ∀ t : Fin grid8.N, _)

theorem blk_0 {F : RM} (c : Dev nD) (t : Fin cfg8.N) (h : T 16384 2816 .bf16 (V c main_v19_0) F) :
    T 256 2816 .bf16 (iblk8 V c 0 t) (fun r d => F (256 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg8.N) (h : T 1024 2816 .bf16 (V c main_v3) F) :
    T 1024 2816 .bf16 (iblk8 V c 1 t) F := fun i => by
  refine IsR.at h (congrArg₂ F ?_ ?_) <;> (blk_simp; rw [(idx t).2.1]; first | exact off _ _ _ | exact off0 _ _ | exact off1 _ _)
theorem blk_2 {F : RM} (c : Dev nD) (t : Fin cfg8.N) (h : T 16384 2816 .bf16 (V c main_v19_1) F) :
    T 256 2816 .bf16 (iblk8 V c 2 t) (fun r d => F (256 * t.val + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg8.N) (h : T 1024 2816 .bf16 (V c main_v4) F) :
    T 1024 2816 .bf16 (iblk8 V c 3 t) F := fun i => by
  refine IsR.at h (congrArg₂ F ?_ ?_) <;> (blk_simp; rw [(idx t).2.2.2.1]; first | exact off _ _ _ | exact off0 _ _ | exact off1 _ _)
theorem blk_4 {F : RM} (c : Dev nD) (t : Fin cfg8.N) (h : T 16384 1024 .f32 (V c main_arg0) F) :
    T 256 1024 .f32 (iblk8 V c 4 t) (fun r d => F (256 * t.val + r) d) := fun i => by
  refine IsR.at h (congrArg₂ F ?_ ?_) <;> (blk_simp; rw [(idx t).2.2.2.2.1]; first | exact off _ _ _ | exact off0 _ _ | exact off1 _ _)
theorem blk_5 {F : RM} (c : Dev nD) (t : Fin cfg8.N) (h : T 16384 1024 .f32 (V c main_v15_0) F) :
    T 256 1024 .f32 (iblk8 V c 5 t) (fun r d => F (256 * t.val + r) d) := fun i => by
  refine IsR.at h (congrArg₂ F ?_ ?_) <;> (blk_simp; rw [(idx t).2.2.2.2.2.1]; first | exact off _ _ _ | exact off0 _ _ | exact off1 _ _)
theorem blk_6 {F : RM} (c : Dev nD) (t : Fin cfg8.N) (h : T 16384 1024 .f32 (V c main_v17_0) F) :
    T 256 1024 .f32 (iblk8 V c 6 t) (fun r d => F (256 * t.val + r) d) := fun i => by
  refine IsR.at h (congrArg₂ F ?_ ?_) <;> (blk_simp; rw [(idx t).2.2.2.2.2.2.1]; first | exact off _ _ _ | exact off0 _ _ | exact off1 _ _)
theorem blk_7 {F : RM} (c : Dev nD) (t : Fin cfg8.N) (h : T 8 1024 .f32 (V c main_v7) F) :
    T 8 1024 .f32 (iblk8 V c 7 t) F := fun i => by
  refine IsR.at h (congrArg₂ F ?_ ?_) <;> (blk_simp; rw [(idx t).2.2.2.2.2.2.2.1]; first | exact off _ _ _ | exact off0 _ _ | exact off1 _ _)
theorem blk_8 {F : RM} (c : Dev nD) (t : Fin cfg8.N) (h : T 8 1024 .f32 (V c main_v11) F) :
    T 8 1024 .f32 (iblk8 V c 8 t) F := fun i => by
  refine IsR.at h (congrArg₂ F ?_ ?_) <;> (blk_simp; rw [(idx t).2.2.2.2.2.2.2.2.1]; first | exact off _ _ _ | exact off0 _ _ | exact off1 _ _)
theorem o_9 {F0 F1 F2 F3 F4 F5 F6 F7 F8 : RM} (c : Dev nD) (t : Fin cfg8.N) (g0 : T 256 2816 .bf16 (iblk8 V c 0 t) F0)
    (g1 : T 1024 2816 .bf16 (iblk8 V c 1 t) F1)
    (g2 : T 256 2816 .bf16 (iblk8 V c 2 t) F2)
    (g3 : T 1024 2816 .bf16 (iblk8 V c 3 t) F3)
    (g4 : T 256 1024 .f32 (iblk8 V c 4 t) F4)
    (g5 : T 256 1024 .f32 (iblk8 V c 5 t) F5)
    (g6 : T 256 1024 .f32 (iblk8 V c 6 t) F6)
    (g7 : T 8 1024 .f32 (iblk8 V c 7 t) F7)
    (g8 : T 8 1024 .f32 (iblk8 V c 8 t) F8) :
    T 256 1024 .f32 ((outsAt8 V c t.val t.isLt).1) (s8_9 F0 F1 F2 F3 F4 F5 F6 F7 F8) := fun y => by
  show (outsAt8 V c t.val t.isLt).1 y = _
  by_cases hc : t.val % 64 = 0
  on_goal 1 => rw [outsAt8_A V c t hc]
  on_goal 2 => rw [outsAt8_B V c t hc]
  all_goals
    frame_out
    all_goals
      apply IsR.at (s := S256x1024) (φ := .f32) (i := y)
      rotate_left
      ·
        repeat' first
          | with_reducible (first | apply k8_pay1_isr | apply k8_pay2_isr | apply k8_pay3_isr | apply k8_pay4_isr | apply k8_pay5_isr | apply k8_pay6_isr | apply k8_pay7_isr | apply k8_pay8_isr | apply k8_pay9_isr | apply k8_pay10_isr | apply k8_pay11_isr | apply k8_pay12_isr | apply k8_pay13_isr | apply k8_pay14_isr | apply k8_pay15_isr | apply k8_pay16_isr | apply k8_pay17_isr | apply k8_pay18_isr | apply k8_pay19_isr | apply k8_pay20_isr | apply k8_pay21_isr | apply k8_pay22_isr | apply k8_pay23_isr)
          | apply isr_ld00 | apply isr_ld00b | apply isr_ld_row | apply isr_ld_rowb
          | exact g0 | exact g1 | exact g2 | exact g3 | exact g4 | exact g5 | exact g6 | exact g7 | exact g8
          | apply pos_all
      · show _ = s8_9 F0 F1 F2 F3 F4 F5 F6 F7 F8 (y 0).val (y 1).val
        rfl
theorem o_10 {F0 F1 F2 F3 F4 F5 F6 F7 F8 : RM} (c : Dev nD) (t : Fin cfg8.N) (g0 : T 256 2816 .bf16 (iblk8 V c 0 t) F0)
    (g1 : T 1024 2816 .bf16 (iblk8 V c 1 t) F1)
    (g2 : T 256 2816 .bf16 (iblk8 V c 2 t) F2)
    (g3 : T 1024 2816 .bf16 (iblk8 V c 3 t) F3)
    (g4 : T 256 1024 .f32 (iblk8 V c 4 t) F4)
    (g5 : T 256 1024 .f32 (iblk8 V c 5 t) F5)
    (g6 : T 256 1024 .f32 (iblk8 V c 6 t) F6)
    (g7 : T 8 1024 .f32 (iblk8 V c 7 t) F7)
    (g8 : T 8 1024 .f32 (iblk8 V c 8 t) F8) :
    T 256 1024 .bf16 ((outsAt8 V c t.val t.isLt).2.1) (s8_10 F0 F1 F2 F3 F4 F5 F6 F7 F8) := fun y => by
  show (outsAt8 V c t.val t.isLt).2.1 y = _
  by_cases hc : t.val % 64 = 0
  on_goal 1 => rw [outsAt8_A V c t hc]
  on_goal 2 => rw [outsAt8_B V c t hc]
  all_goals
    frame_out
    all_goals
      apply IsR.at (s := S256x1024) (φ := .bf16) (i := y)
      rotate_left
      ·
        repeat' first
          | with_reducible (first | apply k8_pay1_isr | apply k8_pay2_isr | apply k8_pay3_isr | apply k8_pay4_isr | apply k8_pay5_isr | apply k8_pay6_isr | apply k8_pay7_isr | apply k8_pay8_isr | apply k8_pay9_isr | apply k8_pay10_isr | apply k8_pay11_isr | apply k8_pay12_isr | apply k8_pay13_isr | apply k8_pay14_isr | apply k8_pay15_isr | apply k8_pay16_isr | apply k8_pay17_isr | apply k8_pay18_isr | apply k8_pay19_isr | apply k8_pay20_isr | apply k8_pay21_isr | apply k8_pay22_isr | apply k8_pay23_isr)
          | apply isr_ld00 | apply isr_ld00b | apply isr_ld_row | apply isr_ld_rowb
          | exact g0 | exact g1 | exact g2 | exact g3 | exact g4 | exact g5 | exact g6 | exact g7 | exact g8
          | apply pos_all
      · show _ = s8_10 F0 F1 F2 F3 F4 F5 F6 F7 F8 (y 0).val (y 1).val
        rfl
theorem fin_9 {A0 A1 A2 A3 A4 A5 A6 A7 A8 : RM} (c : Dev nD)
    (g0 : T 16384 2816 .bf16 (V c main_v19_0) A0)
    (g1 : T 1024 2816 .bf16 (V c main_v3) A1)
    (g2 : T 16384 2816 .bf16 (V c main_v19_1) A2)
    (g3 : T 1024 2816 .bf16 (V c main_v4) A3)
    (g4 : T 16384 1024 .f32 (V c main_arg0) A4)
    (g5 : T 16384 1024 .f32 (V c main_v15_0) A5)
    (g6 : T 16384 1024 .f32 (V c main_v17_0) A6)
    (g7 : T 8 1024 .f32 (V c main_v7) A7)
    (g8 : T 8 1024 .f32 (V c main_v11) A8) :
    T 16384 1024 .f32 ((dat8 V c).arrAt 9 cfg8.N) (s8_9 A0 A1 A2 A3 A4 A5 A6 A7 A8) := by
  have e : (dat8 V c).arrAt 9 cfg8.N = (fun i => ((N2 (a := 16384) (b := 1024) (s8_9 A0 A1 A2 A3 A4 A5 A6 A7 A8) i : ℝ) : EReal) : FVec Ideal S16384x1024 .f32) := by
    refine (dat8 V c).arrAt_eq_of_covers 9 _ (by decide +kernel) fun t _ y => ?_
    blk_simp
    rw [after8_9]
    refine (o_9 V c t (blk_0 V c t g0) (blk_1 V c t g1) (blk_2 V c t g2) (blk_3 V c t g3) (blk_4 V c t g4) (blk_5 V c t g5) (blk_6 V c t g6) (blk_7 V c t g7) (blk_8 V c t g8) y).trans ?_
    refine congrArg _ ?_
    refine Eq.trans ?_ (congrArg₂ (s8_9 A0 A1 A2 A3 A4 A5 A6 A7 A8) (x' := 256 * t.val + (y 0).val) (y' := (y 1).val) ?_ ?_).symm
    rotate_left
    iterate 2 (blk_simp; rw [(idx t).2.2.2.2.2.2.2.2.2.1]; first | exact off _ _ _ | exact off0 _ _ | exact off1 _ _)
    rfl
  exact fun i => congrFun e i
theorem fin_10 {A0 A1 A2 A3 A4 A5 A6 A7 A8 : RM} (c : Dev nD)
    (g0 : T 16384 2816 .bf16 (V c main_v19_0) A0)
    (g1 : T 1024 2816 .bf16 (V c main_v3) A1)
    (g2 : T 16384 2816 .bf16 (V c main_v19_1) A2)
    (g3 : T 1024 2816 .bf16 (V c main_v4) A3)
    (g4 : T 16384 1024 .f32 (V c main_arg0) A4)
    (g5 : T 16384 1024 .f32 (V c main_v15_0) A5)
    (g6 : T 16384 1024 .f32 (V c main_v17_0) A6)
    (g7 : T 8 1024 .f32 (V c main_v7) A7)
    (g8 : T 8 1024 .f32 (V c main_v11) A8) :
    T 16384 1024 .bf16 ((dat8 V c).arrAt 10 cfg8.N) (s8_10 A0 A1 A2 A3 A4 A5 A6 A7 A8) := by
  have e : (dat8 V c).arrAt 10 cfg8.N = (fun i => ((N2 (a := 16384) (b := 1024) (s8_10 A0 A1 A2 A3 A4 A5 A6 A7 A8) i : ℝ) : EReal) : FVec Ideal S16384x1024 .bf16) := by
    refine (dat8 V c).arrAt_eq_of_covers 10 _ (by decide +kernel) fun t _ y => ?_
    blk_simp
    rw [after8_10]
    refine (o_10 V c t (blk_0 V c t g0) (blk_1 V c t g1) (blk_2 V c t g2) (blk_3 V c t g3) (blk_4 V c t g4) (blk_5 V c t g5) (blk_6 V c t g6) (blk_7 V c t g7) (blk_8 V c t g8) y).trans ?_
    refine congrArg _ ?_
    refine Eq.trans ?_ (congrArg₂ (s8_10 A0 A1 A2 A3 A4 A5 A6 A7 A8) (x' := 256 * t.val + (y 0).val) (y' := (y 1).val) ?_ ?_).symm
    rotate_left
    iterate 2 (blk_simp; rw [(idx t).2.2.2.2.2.2.2.2.2.2.1]; first | exact off _ _ _ | exact off0 _ _ | exact off1 _ _)
    rfl
  exact fun i => congrFun e i

end Cert.Tail.R8

end
-- ==== Proof.Tail.Num8.lean ====
/-
  Region 8 of the kernel (untrusted): one point's sums over its rows, as a sum over the rows of its block.
-/
module

public import proofs.«01_k».proof.Proof.Tail.Pay8
public import proofs.«01_k».proof.Proof.Tail.Spec

@[expose] public section

set_option maxRecDepth 16384

noncomputable section

open Idealize.ShloMosaic Idealize.ShloMosaic.TcCoe Idealize.SL.Sem
namespace Cert.Tail.R8

/-- What one point of the grid adds to the sums over the rows. -/
def part (F0 F1 F2 F3 F4 F5 F6 F7 F8 : RM) (i j : ℕ) : ℝ := ∑ k : Fin 256, s8_u F0 F1 F2 F3 F4 F5 F6 F7 F8 i k.val j

theorem num {F0 F1 F2 F3 F4 F5 F6 F7 F8 G : RM} :

      (fun i j =>
        if i = 4 then
          k8_pay1_r (k8_pay22_r fun r d => G (4 + r) d)
            (k8_pay23_r (k8_pay4_r F5)
              (k8_pay15_r (k8_pay7_r (k8_pay6_r F5 F4 fun r d => F7 (2 + r) d))
                (k8_pay8_r (k8_pay5_r F5 F4 fun r d => F7 (2 + r) d) (k8_pay6_r F5 F4 fun r d => F7 (2 + r) d))
                (k8_pay10_r (k8_pay5_r F5 F4 fun r d => F7 (2 + r) d) (k8_pay6_r F5 F4 fun r d => F7 (2 + r) d) F8
                  fun r d => F8 (1 + r) d)
                (k8_pay11_r (k8_pay5_r F5 F4 fun r d => F7 (2 + r) d) (k8_pay6_r F5 F4 fun r d => F7 (2 + r) d) F8
                  fun r d => F8 (1 + r) d)
                (k8_pay12_r F6) (k8_pay13_r (k8_pay3_r F0 F1 F2 F3) fun r d => F7 (4 + r) d) F8))
            0 j
        else
          if i = 3 then
            k8_pay21_r
              (k8_pay14_r
                (k8_pay10_r (k8_pay5_r F5 F4 fun r d => F7 (2 + r) d) (k8_pay6_r F5 F4 fun r d => F7 (2 + r) d) F8
                  fun r d => F8 (1 + r) d)
                (k8_pay11_r (k8_pay5_r F5 F4 fun r d => F7 (2 + r) d) (k8_pay6_r F5 F4 fun r d => F7 (2 + r) d) F8
                  fun r d => F8 (1 + r) d)
                (k8_pay12_r F6) (k8_pay13_r (k8_pay3_r F0 F1 F2 F3) fun r d => F7 (4 + r) d))
              (fun r d => G (3 + r) d) 0 j
          else
            if i = 2 then
              k8_pay20_r (k8_pay8_r (k8_pay5_r F5 F4 fun r d => F7 (2 + r) d) (k8_pay6_r F5 F4 fun r d => F7 (2 + r) d))
                (k8_pay14_r
                  (k8_pay10_r (k8_pay5_r F5 F4 fun r d => F7 (2 + r) d) (k8_pay6_r F5 F4 fun r d => F7 (2 + r) d) F8
                    fun r d => F8 (1 + r) d)
                  (k8_pay11_r (k8_pay5_r F5 F4 fun r d => F7 (2 + r) d) (k8_pay6_r F5 F4 fun r d => F7 (2 + r) d) F8
                    fun r d => F8 (1 + r) d)
                  (k8_pay12_r F6) (k8_pay13_r (k8_pay3_r F0 F1 F2 F3) fun r d => F7 (4 + r) d))
                (fun r d => G (2 + r) d) 0 j
            else
              if i = 1 then k8_pay19_r (k8_pay3_r F0 F1 F2 F3) (fun r d => G (1 + r) d) 0 j
              else
                if i = 0 then
                  k8_pay18_r (k8_pay3_r F0 F1 F2 F3)
                    (k8_pay11_r (k8_pay5_r F5 F4 fun r d => F7 (2 + r) d) (k8_pay6_r F5 F4 fun r d => F7 (2 + r) d) F8
                      fun r d => F8 (1 + r) d)
                    G 0 j
                else G i j)
    = fun i j => G i j + part F0 F1 F2 F3 F4 F5 F6 F7 F8 i j := by
  funext i j
  by_cases e0 : i = 0
  · subst e0
    show _ = G 0 j + ∑ k : Fin 256, s8_u F0 F1 F2 F3 F4 F5 F6 F7 F8 0 k.val j
    simp only [s8_u, Nat.reduceEqDiff, reduceIte, one_ne_zero, OfNat.ofNat_ne_zero, OfNat.ofNat_ne_one]
    rfl
  by_cases e1 : i = 1
  · subst e1
    show _ = G 1 j + ∑ k : Fin 256, s8_u F0 F1 F2 F3 F4 F5 F6 F7 F8 1 k.val j
    simp only [s8_u, Nat.reduceEqDiff, reduceIte, one_ne_zero, OfNat.ofNat_ne_zero, OfNat.ofNat_ne_one]
    rfl
  by_cases e2 : i = 2
  · subst e2
    show _ = G 2 j + ∑ k : Fin 256, s8_u F0 F1 F2 F3 F4 F5 F6 F7 F8 2 k.val j
    simp only [s8_u, Nat.reduceEqDiff, reduceIte, one_ne_zero, OfNat.ofNat_ne_zero, OfNat.ofNat_ne_one]
    rfl
  by_cases e3 : i = 3
  · subst e3
    show _ = G 3 j + ∑ k : Fin 256, s8_u F0 F1 F2 F3 F4 F5 F6 F7 F8 3 k.val j
    simp only [s8_u, Nat.reduceEqDiff, reduceIte, one_ne_zero, OfNat.ofNat_ne_zero, OfNat.ofNat_ne_one]
    rfl
  by_cases e4 : i = 4
  · subst e4
    show _ = G 4 j + ∑ k : Fin 256, s8_u F0 F1 F2 F3 F4 F5 F6 F7 F8 4 k.val j
    simp only [s8_u, Nat.reduceEqDiff, reduceIte, one_ne_zero, OfNat.ofNat_ne_zero, OfNat.ofNat_ne_one]
    rfl
  simp only [part, s8_u, e0, e1, e2, e3, e4, if_false, Finset.sum_const_zero, add_zero]

end Cert.Tail.R8

end
-- ==== Proof.Tail.R8a.lean ====
/-
  Region 8 of the kernel (untrusted): its input blocks as shifted real matrices, what each point of the grid leaves in its
  output windows, and the arrays after the last point.
-/
module

public import proofs.«01_k».proof.Proof.Tail.R8
public import proofs.«01_k».proof.Proof.Tail.Pay8
public import proofs.«01_k».proof.Proof.Tail.Acc
public import proofs.«01_k».proof.Proof.Tail.Num8
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R8

open Cert.KernelIdeal Cert.KernelIdeal.Gen
variable (V : (c : Dev nD) → (b : Ref sig .tc) → Buf (Elt Ideal) ((c : Thread nD τ).loc b))

theorem zero_step {F0 F1 F2 F3 F4 F5 F6 F7 F8 : RM} (c : Dev nD) (t : Fin cfg8.N) (g0 : T 256 2816 .bf16 (iblk8 V c 0 t) F0)
    (g1 : T 1024 2816 .bf16 (iblk8 V c 1 t) F1)
    (g2 : T 256 2816 .bf16 (iblk8 V c 2 t) F2)
    (g3 : T 1024 2816 .bf16 (iblk8 V c 3 t) F3)
    (g4 : T 256 1024 .f32 (iblk8 V c 4 t) F4)
    (g5 : T 256 1024 .f32 (iblk8 V c 5 t) F5)
    (g6 : T 256 1024 .f32 (iblk8 V c 6 t) F6)
    (g7 : T 8 1024 .f32 (iblk8 V c 7 t) F7)
    (g8 : T 8 1024 .f32 (iblk8 V c 8 t) F8) (hc : t.val % 64 = 0) :
    T 8 1024 .f32 ((outsAt8 V c t.val t.isLt).2.2) (part F0 F1 F2 F3 F4 F5 F6 F7 F8) := fun y => by
  show (outsAt8 V c t.val t.isLt).2.2 y = _
  rw [outsAt8_A V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k8_pay1_isr | apply k8_pay2_isr | apply k8_pay3_isr | apply k8_pay4_isr | apply k8_pay5_isr | apply k8_pay6_isr | apply k8_pay7_isr | apply k8_pay8_isr | apply k8_pay9_isr | apply k8_pay10_isr | apply k8_pay11_isr | apply k8_pay12_isr | apply k8_pay13_isr | apply k8_pay14_isr | apply k8_pay15_isr | apply k8_pay16_isr | apply k8_pay17_isr | apply k8_pay18_isr | apply k8_pay19_isr | apply k8_pay20_isr | apply k8_pay21_isr | apply k8_pay22_isr | apply k8_pay23_isr | apply isr_canon_row | apply isr_writes_row | apply isr_canon_fill | apply isr_unread)
        | apply isr_ld00 | apply isr_ld00b | apply isr_ld_row | apply isr_ld_rowb
        | exact g0 | exact g1 | exact g2 | exact g3 | exact g4 | exact g5 | exact g6 | exact g7 | exact g8
          | apply pos_all
  ·
    refine (congrFun (congrArg N2 (num (G := k8_pay2_r))) y).trans ?_
    show k8_pay2_r (y 0).val (y 1).val + part F0 F1 F2 F3 F4 F5 F6 F7 F8 (y 0).val (y 1).val = _
    exact zero_add _

end Cert.Tail.R8

end
-- ==== Proof.Tail.R8b.lean ====
/-
  Region 8 of the kernel (untrusted): its input blocks as shifted real matrices, what each point of the grid leaves in its
  output windows, and the arrays after the last point.
-/
module

public import proofs.«01_k».proof.Proof.Tail.R8
public import proofs.«01_k».proof.Proof.Tail.Pay8
public import proofs.«01_k».proof.Proof.Tail.Acc
public import proofs.«01_k».proof.Proof.Tail.Num8
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R8

open Cert.KernelIdeal Cert.KernelIdeal.Gen
variable (V : (c : Dev nD) → (b : Ref sig .tc) → Buf (Elt Ideal) ((c : Thread nD τ).loc b))

theorem next_step {F0 F1 F2 F3 F4 F5 F6 F7 F8 G : RM} (c : Dev nD) (t : Fin cfg8.N) (g0 : T 256 2816 .bf16 (iblk8 V c 0 t) F0)
    (g1 : T 1024 2816 .bf16 (iblk8 V c 1 t) F1)
    (g2 : T 256 2816 .bf16 (iblk8 V c 2 t) F2)
    (g3 : T 1024 2816 .bf16 (iblk8 V c 3 t) F3)
    (g4 : T 256 1024 .f32 (iblk8 V c 4 t) F4)
    (g5 : T 256 1024 .f32 (iblk8 V c 5 t) F5)
    (g6 : T 256 1024 .f32 (iblk8 V c 6 t) F6)
    (g7 : T 8 1024 .f32 (iblk8 V c 7 t) F7)
    (g8 : T 8 1024 .f32 (iblk8 V c 8 t) F8) (hc : ¬ t.val % 64 = 0)
    (gp : T 8 1024 .f32 ((outsAt8 V c (t.val - 1) (Nat.lt_of_le_of_lt (Nat.sub_le _ _) t.isLt)).2.2) G) :
    T 8 1024 .f32 ((outsAt8 V c t.val t.isLt).2.2) (fun i j => G i j + part F0 F1 F2 F3 F4 F5 F6 F7 F8 i j) := fun y => by
  show (outsAt8 V c t.val t.isLt).2.2 y = _
  rw [outsAt8_B V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k8_pay1_isr | apply k8_pay2_isr | apply k8_pay3_isr | apply k8_pay4_isr | apply k8_pay5_isr | apply k8_pay6_isr | apply k8_pay7_isr | apply k8_pay8_isr | apply k8_pay9_isr | apply k8_pay10_isr | apply k8_pay11_isr | apply k8_pay12_isr | apply k8_pay13_isr | apply k8_pay14_isr | apply k8_pay15_isr | apply k8_pay16_isr | apply k8_pay17_isr | apply k8_pay18_isr | apply k8_pay19_isr | apply k8_pay20_isr | apply k8_pay21_isr | apply k8_pay22_isr | apply k8_pay23_isr | apply isr_canon_row | apply isr_writes_row | apply isr_canon_fill | apply isr_unread)
        | apply isr_ld00 | apply isr_ld00b | apply isr_ld_row | apply isr_ld_rowb
        | exact gp | exact g0 | exact g1 | exact g2 | exact g3 | exact g4 | exact g5 | exact g6 | exact g7 | exact g8
          | apply pos_all
  ·
    exact congrFun (congrArg N2 num) y

end Cert.Tail.R8

end
-- ==== Proof.Tail.R8c.lean ====
/-
  Region 8 of the kernel (untrusted): its input blocks as shifted real matrices, what each point of the grid leaves in its
  output windows, and the arrays after the last point.
-/
module

public import proofs.«01_k».proof.Proof.Tail.R8a
public import proofs.«01_k».proof.Proof.Tail.R8b
public import proofs.«01_k».proof.Proof.Tail.Pay8
public import proofs.«01_k».proof.Proof.Tail.Acc
public import proofs.«01_k».proof.Proof.Tail.Num8
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R8

open Cert.KernelIdeal Cert.KernelIdeal.Gen
variable (V : (c : Dev nD) → (b : Ref sig .tc) → Buf (Elt Ideal) ((c : Thread nD τ).loc b))

theorem fin_11 {A0 A1 A2 A3 A4 A5 A6 A7 A8 : RM} (c : Dev nD)
    (g0 : T 16384 2816 .bf16 (V c main_v19_0) A0)
    (g1 : T 1024 2816 .bf16 (V c main_v3) A1)
    (g2 : T 16384 2816 .bf16 (V c main_v19_1) A2)
    (g3 : T 1024 2816 .bf16 (V c main_v4) A3)
    (g4 : T 16384 1024 .f32 (V c main_arg0) A4)
    (g5 : T 16384 1024 .f32 (V c main_v15_0) A5)
    (g6 : T 16384 1024 .f32 (V c main_v17_0) A6)
    (g7 : T 8 1024 .f32 (V c main_v7) A7)
    (g8 : T 8 1024 .f32 (V c main_v11) A8) :
    T 8 1024 .f32 ((dat8 V c).arrAt 11 cfg8.N) (fun q d => ∑ r : Fin 16384, s8_u A0 A1 A2 A3 A4 A5 A6 A7 A8 q r.val d) := by
  have e : (dat8 V c).arrAt 11 cfg8.N = (fun i => ((N2 (a := 8) (b := 1024) (fun q d => ∑ r : Fin 16384, s8_u A0 A1 A2 A3 A4 A5 A6 A7 A8 q r.val d) i : ℝ) : EReal) : FVec Ideal S8x1024 .f32) := by
    refine (dat8 V c).arrAt_eq_of_covers 11 _ (by decide +kernel) fun t hf y => ?_
    blk_simp
    rw [after8_11]
    refine (isr_acc (fun n h => (outsAt8 V c n h).2.2) 64 (fun t => part (fun r d => A0 (256 * t + r) d) A1 (fun r d => A2 (256 * t + r) d) A3 (fun r d => A4 (256 * t + r) d) (fun r d => A5 (256 * t + r) d) (fun r d => A6 (256 * t + r) d) A7 A8)
      (fun t h => zero_step V c t (blk_0 V c t g0) (blk_1 V c t g1) (blk_2 V c t g2) (blk_3 V c t g3) (blk_4 V c t g4) (blk_5 V c t g5) (blk_6 V c t g6) (blk_7 V c t g7) (blk_8 V c t g8) h)
      (fun t h G gp => next_step V c t (blk_0 V c t g0) (blk_1 V c t g1) (blk_2 V c t g2) (blk_3 V c t g3) (blk_4 V c t g4) (blk_5 V c t g5) (blk_6 V c t g6) (blk_7 V c t g7) (blk_8 V c t g8) h gp) t y).trans ?_
    refine congrArg _ ?_
    have hm : t.val % 64 + 1 = 64 := by have := (flush8_11 t).mp hf; omega
    refine Eq.trans ?_ (congrArg₂ (fun q d => ∑ r : Fin 16384, s8_u A0 A1 A2 A3 A4 A5 A6 A7 A8 q r.val d) (x' := (y 0).val) (y' := (y 1).val) ?_ ?_).symm
    rotate_left
    iterate 2 (blk_simp; rw [(idx t).2.2.2.2.2.2.2.2.2.2.2]; first | exact off _ _ _ | exact off0 _ _ | exact off1 _ _)
    show ∑ s ∈ Finset.range (t.val % 64 + 1), (fun t => part (fun r d => A0 (256 * t + r) d) A1 (fun r d => A2 (256 * t + r) d) A3 (fun r d => A4 (256 * t + r) d) (fun r d => A5 (256 * t + r) d) (fun r d => A6 (256 * t + r) d) A7 A8) (64 * (t.val / 64) + s) (y 0).val (y 1).val = _
    rw [hm]
    have hq : t.val / 64 = 0 := (by decide +kernel : ∀ t : Fin grid8.N, t.val / 64 = 0) t
    rw [hq]
    exact sum_run0 256 64 fun r => s8_u A0 A1 A2 A3 A4 A5 A6 A7 A8 (y 0).val r (y 1).val
  exact fun i => congrFun e i

end Cert.Tail.R8

end
-- ==== Proof.Tail.Pay9.lean ====
/-
  The printed vector operations of region 9 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k9_pay1_r (r d : ℕ) : ℝ :=
  0
theorem k9_pay1_isr : T 1024 1024 .f32 (k9_pay1 ) (k9_pay1_r ) := by
  exact IsR.congr (isr_bc (s := S1024x1024) lit_zero) fun i => rfl

def k9_pay2_r (Fv3 Fv5 Fv7 : RM) (r d : ℕ) : ℝ :=
  (Fv3 r d + (∑ k1 : Fin 2048, Fv5 k1.val r * Fv7 k1.val d))
theorem k9_pay2_isr (hv3 : T 1024 1024 .f32 v3 Fv3) (hv5 : T 2048 1024 .bf16 v5 Fv5) (hv7 : T 2048 1024 .bf16 v7 Fv7) : T 1024 1024 .f32 (k9_pay2 v3 v5 v7) (k9_pay2_r Fv3 Fv5 Fv7) := by
  have hv4 := isr_cast hv3 shapeCasts_S1024x1024_S1024x1024
  have hv6 := isr_cast hv5 shapeCasts_S2048x1024_S2048x1024
  have hv8 := isr_cast hv7 shapeCasts_S2048x1024_S2048x1024
  have hv9 := isk_S2048x1024_S2048x1024_S1024x1024_0_0_1_1_n_n hv6 hv8
  exact IsR.congr (isr_add hv4 hv9) fun i => rfl

end Cert.Tail

end
-- ==== Proof.Tail.R9.lean ====
/-
  Region 9 of the kernel (untrusted): its input blocks as shifted real matrices, what each point of the grid leaves in its
  output windows, and the arrays after the last point.
-/
module

public import proofs.«01_k».proof.Proof.Gen.KernelIdeal.Frame.Region9
public import proofs.«01_k».proof.Proof.Tail.Pay9
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R9

open Cert.KernelIdeal Cert.KernelIdeal.Gen
variable (V : (c : Dev nD) → (b : Ref sig .tc) → Buf (Elt Ideal) ((c : Thread nD τ).loc b))

theorem idx : ∀ t : Fin cfg9.N,
    win9_0.index t = ![t.val, 0]
    ∧ win9_1.index t = ![t.val, 0]
    ∧ win9_2.index t = ![0, 0] :=
  (by decide +kernel : ∀ t : Fin grid9.N, _)

theorem blk_0 {F : RM} (c : Dev nD) (t : Fin cfg9.N) (h : T 16384 1024 .bf16 (V c main_v14_2) F) :
    T 2048 1024 .bf16 (iblk9 V c 0 t) (fun r d => F (2048 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg9.N) (h : T 16384 1024 .bf16 (V c main_v22_1) F) :
    T 2048 1024 .bf16 (iblk9 V c 1 t) (fun r d => F (2048 * t.val + r) d) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * t + k.val) i * A1 (2048 * t + k.val) j
theorem zero_step {A0 A1 : RM} (c : Dev nD) (g0 : T 16384 1024 .bf16 (V c main_v14_2) A0) (g1 : T 16384 1024 .bf16 (V c main_v22_1) A1) (t : Fin cfg9.N) (h : t.val % 8 = 0) :
    T 1024 1024 .f32 (outsAt9 V c t.val t.isLt) (fun i j => 0 + part A0 A1 t.val i j) := fun y => by
  show outsAt9 V c t.val t.isLt y = _
  rw [outsAt9_A V c t h]
  frame_out
  · apply IsR.at (s := S1024x1024) (φ := .f32) (i := y)
    rotate_left
    ·
      repeat' first
        | with_reducible apply k9_pay2_isr | with_reducible apply k9_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v14_2) A0) (g1 : T 16384 1024 .bf16 (V c main_v22_1) A1) (t : Fin cfg9.N) (h : ¬ t.val % 8 = 0)
    (gp : T 1024 1024 .f32 (outsAt9 V c (t.val - 1) (Nat.lt_of_le_of_lt (Nat.sub_le _ _) t.isLt)) G) :
    T 1024 1024 .f32 (outsAt9 V c t.val t.isLt) (fun i j => G i j + part A0 A1 t.val i j) := fun y => by
  show outsAt9 V c t.val t.isLt y = _
  rw [outsAt9_B V c t h]
  frame_out
  · apply IsR.at (s := S1024x1024) (φ := .f32) (i := y)
    rotate_left
    ·
      repeat' first
        | with_reducible apply k9_pay2_isr | with_reducible apply k9_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v14_2) A0) (g1 : T 16384 1024 .bf16 (V c main_v22_1) A1) :
    T 1024 1024 .f32 ((dat9 V c).arrAt 2 cfg9.N) (dotL 16384 A0 A1) := by
  have e : (dat9 V c).arrAt 2 cfg9.N = (fun i => ((N2 (a := 1024) (b := 1024) (dotL 16384 A0 A1) i : ℝ) : EReal) : FVec Ideal S1024x1024 .f32) := by
    refine (dat9 V c).arrAt_eq_of_covers 2 _ (by decide +kernel) fun t hf y => ?_
    blk_simp
    rw [after9_2]
    refine (isr_acc (fun n h => outsAt9 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush9_2 t).mp hf; omega
    refine Eq.trans ?_ (congrArg₂ (dotL 16384 A0 A1) (x' := (y 0).val) (y' := (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    have hq : t.val / 8 = 0 := (by decide +kernel : ∀ t : Fin grid9.N, t.val / 8 = 0) t
    rw [hq]
    exact sum_run0 2048 8 fun r => A0 r (y 0).val * A1 r (y 1).val
  exact fun i => congrFun e i

end Cert.Tail.R9

end
-- ==== Proof.Tail.Pay10.lean ====
/-
  The printed vector operations of region 10 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k10_pay1_r (Fv120 Fv135 : RM) (r d : ℕ) : ℝ :=
  (Fv135 r d + (∑ k1 : Fin 256, Fv120 k1.val d))
theorem k10_pay1_isr (hv120 : T 256 1024 .f32 v120 Fv120) (hv135 : T 1 1024 .f32 v135 Fv135) : T 1 1024 .f32 (k10_pay1 v120 v135) (k10_pay1_r Fv120 Fv135) := by
  have hv136 := isr_cast hv135 shapeCasts_S1x1024_S1x1024
  have hv137 := isr_red0 hv120 reduces_S256x1024_S1024 (.inl rfl) rfl
  have hv138 := isr_cast_row hv137 shapeCasts_S1024_S1x1024
  exact IsR.congr (isr_add hv136 hv138) fun i => rfl

def k10_pay2_r (Fv128 Fv141 : RM) (r d : ℕ) : ℝ :=
  (Fv141 r d + (∑ k1 : Fin 256, Fv128 k1.val d))
theorem k10_pay2_isr (hv128 : T 256 1024 .f32 v128 Fv128) (hv141 : T 1 1024 .f32 v141 Fv141) : T 1 1024 .f32 (k10_pay2 v128 v141) (k10_pay2_r Fv128 Fv141) := by
  have hv142 := isr_cast hv141 shapeCasts_S1x1024_S1x1024
  have hv143 := isr_red0 hv128 reduces_S256x1024_S1024 (.inl rfl) rfl
  have hv144 := isr_cast_row hv143 shapeCasts_S1024_S1x1024
  exact IsR.congr (isr_add hv142 hv144) fun i => rfl

def k10_pay3_r (r d : ℕ) : ℝ :=
  0
theorem k10_pay3_isr : T 8 1024 .f32 (k10_pay3 ) (k10_pay3_r ) := by
  exact IsR.congr (isr_bc (s := S8x1024) lit_zero) fun i => rfl

def k10_pay4_r (Fv5 Fv7 : RM) (r d : ℕ) : ℝ :=
  (∑ k1 : Fin 1024, Fv5 r k1.val * Fv7 d k1.val)
theorem k10_pay4_isr (hv5 : T 256 1024 .bf16 v5 Fv5) (hv7 : T 1024 1024 .bf16 v7 Fv7) : T 256 1024 .f32 (k10_pay4 v5 v7) (k10_pay4_r Fv5 Fv7) := by
  have hv6 := isr_cast hv5 shapeCasts_S256x1024_S256x1024
  have hv8 := isr_cast hv7 shapeCasts_S1024x1024_S1024x1024
  exact IsR.congr (isk_S256x1024_S1024x1024_S256x1024_1_1_0_0_n_n hv6 hv8) fun i => rfl

def k10_pay5_r (Fv10 Fv11 : RM) (r d : ℕ) : ℝ :=
  (((1/2) * Real.tanh (((1/2) * (Fv10 r d + Fv11 0 d)))) + (1/2))
theorem k10_pay5_isr (hv10 : T 256 1024 .bf16 v10 Fv10) (hv11 : T 1 1024 .f32 v11 Fv11) : T 256 1024 .f32 (k10_pay5 v10 v11) (k10_pay5_r Fv10 Fv11) := by
  have hv12 := isr_cast hv11 shapeCasts_S1x1024_S1x1024
  have hv13 := isr_ext bitsLt_bf16_f32 hv10
  have hv14 := isr_row hv12 broadcasts_S1x1024_S256x1024
  have hv15 := isr_add hv13 hv14
  have hv16 := isr_bc (s := S256x1024) lit_half
  have hv17 := isr_mul hv16 hv15
  have hv18 := isr_tanh hv17
  have hv19 := isr_bc (s := S256x1024) lit_half
  have hv20 := isr_mul hv19 hv18
  have hv21 := isr_bc (s := S256x1024) lit_half
  exact IsR.congr (isr_add hv20 hv21) fun i => rfl

def k10_pay6_r (Fv23 Fv24 : RM) (r d : ℕ) : ℝ :=
  ((1/2) * Real.tanh (((1/2) * (Fv23 r d + Fv24 0 d))))
theorem k10_pay6_isr (hv23 : T 256 1024 .bf16 v23 Fv23) (hv24 : T 1 1024 .f32 v24 Fv24) : T 256 1024 .f32 (k10_pay6 v23 v24) (k10_pay6_r Fv23 Fv24) := by
  have hv25 := isr_cast hv24 shapeCasts_S1x1024_S1x1024
  have hv26 := isr_ext bitsLt_bf16_f32 hv23
  have hv27 := isr_row hv25 broadcasts_S1x1024_S256x1024
  have hv28 := isr_add hv26 hv27
  have hv29 := isr_bc (s := S256x1024) lit_half
  have hv30 := isr_mul hv29 hv28
  have hv31 := isr_tanh hv30
  have hv32 := isr_bc (s := S256x1024) lit_half
  exact IsR.congr (isr_mul hv32 hv31) fun i => rfl

def k10_pay7_r (r d : ℕ) : ℝ :=
  (1/2)
theorem k10_pay7_isr : T 256 1024 .f32 (k10_pay7 ) (k10_pay7_r ) := by
  exact IsR.congr (isr_bc (s := S256x1024) lit_half) fun i => rfl

def k10_pay8_r (Fv33 Fv34 : RM) (r d : ℕ) : ℝ :=
  (Fv33 r d + Fv34 r d)
theorem k10_pay8_isr (hv33 : T 256 1024 .f32 v33 Fv33) (hv34 : T 256 1024 .f32 v34 Fv34) : T 256 1024 .f32 (k10_pay8 v33 v34) (k10_pay8_r Fv33 Fv34) := by
  exact IsR.congr (isr_add hv33 hv34) fun i => rfl

def k10_pay9_r (Fv9 Fv22 : RM) (r d : ℕ) : ℝ :=
  (Fv9 r d * Fv22 r d)
theorem k10_pay9_isr (hv9 : T 256 1024 .f32 v9 Fv9) (hv22 : T 256 1024 .f32 v22 Fv22) : T 256 1024 .bf16 (k10_pay9 v9 v22) (k10_pay9_r Fv9 Fv22) := by
  have hv36 := isr_mul hv9 hv22
  exact IsR.congr (isr_trunc bitsLt_bf16_f32 hv36) fun i => rfl

def k10_pay10_r (Fv9 Fv33 Fv34 : RM) (r d : ℕ) : ℝ :=
  (Fv9 r d * k10_pay8_r (fun r d => Fv33 r d) (fun r d => Fv34 r d) r d)
theorem k10_pay10_isr (hv9 : T 256 1024 .f32 v9 Fv9) (hv33 : T 256 1024 .f32 v33 Fv33) (hv34 : T 256 1024 .f32 v34 Fv34) : T 256 1024 .bf16 (k10_pay10 v9 v33 v34) (k10_pay10_r Fv9 Fv33 Fv34) := by
  have hv39 := isr_mul hv9 (k10_pay8_isr hv33 hv34)
  exact IsR.congr (isr_trunc bitsLt_bf16_f32 hv39) fun i => rfl

def k10_pay11_r (Fv9 Fv22 Fv42 : RM) (r d : ℕ) : ℝ :=
  (((Fv9 r d * Fv42 r d) * Fv22 r d) * (1 - Fv22 r d))
theorem k10_pay11_isr (hv9 : T 256 1024 .f32 v9 Fv9) (hv22 : T 256 1024 .f32 v22 Fv22) (hv42 : T 256 1024 .bf16 v42 Fv42) : T 256 1024 .f32 (k10_pay11 v9 v22 v42) (k10_pay11_r Fv9 Fv22 Fv42) := by
  have hv43 := isr_cast hv42 shapeCasts_S256x1024_S256x1024
  have hv44 := isr_ext bitsLt_bf16_f32 hv43
  have hv45 := isr_mul hv9 hv44
  have hv46 := isr_mul hv45 hv22
  have hv47 := isr_bc (s := S256x1024) lit_one
  have hv48 := isr_sub hv47 hv22
  exact IsR.congr (isr_mul hv46 hv48) fun i => rfl

def k10_pay12_r (Fv9 Fv33 Fv34 Fv50 : RM) (r d : ℕ) : ℝ :=
  (((Fv9 r d * Fv50 r d) * k10_pay8_r (fun r d => Fv33 r d) (fun r d => Fv34 r d) r d) * (1 - k10_pay8_r (fun r d => Fv33 r d) (fun r d => Fv34 r d) r d))
theorem k10_pay12_isr (hv9 : T 256 1024 .f32 v9 Fv9) (hv33 : T 256 1024 .f32 v33 Fv33) (hv34 : T 256 1024 .f32 v34 Fv34) (hv50 : T 256 1024 .bf16 v50 Fv50) : T 256 1024 .f32 (k10_pay12 v9 v33 v34 v50) (k10_pay12_r Fv9 Fv33 Fv34 Fv50) := by
  have hv51 := isr_cast hv50 shapeCasts_S256x1024_S256x1024
  have hv52 := isr_ext bitsLt_bf16_f32 hv51
  have hv53 := isr_mul hv9 hv52
  have hv54 := isr_mul hv53 (k10_pay8_isr hv33 hv34)
  have hv55 := isr_bc (s := S256x1024) lit_one
  have hv56 := isr_sub hv55 (k10_pay8_isr hv33 hv34)
  exact IsR.congr (isr_mul hv54 hv56) fun i => rfl

def k10_pay13_r (Fv9 Fv22 Fv42 : RM) (r d : ℕ) : ℝ :=
  k10_pay11_r (fun r d => Fv9 r d) (fun r d => Fv22 r d) (fun r d => Fv42 r d) r d
theorem k10_pay13_isr (hv9 : T 256 1024 .f32 v9 Fv9) (hv22 : T 256 1024 .f32 v22 Fv22) (hv42 : T 256 1024 .bf16 v42 Fv42) : T 256 1024 .bf16 (k10_pay13 v9 v22 v42) (k10_pay13_r Fv9 Fv22 Fv42) := by
  exact IsR.congr (isr_trunc bitsLt_bf16_f32 (k10_pay11_isr hv9 hv22 hv42)) fun i => rfl

def k10_pay14_r (Fv9 Fv33 Fv34 Fv50 : RM) (r d : ℕ) : ℝ :=
  k10_pay12_r (fun r d => Fv9 r d) (fun r d => Fv33 r d) (fun r d => Fv34 r d) (fun r d => Fv50 r d) r d
theorem k10_pay14_isr (hv9 : T 256 1024 .f32 v9 Fv9) (hv33 : T 256 1024 .f32 v33 Fv33) (hv34 : T 256 1024 .f32 v34 Fv34) (hv50 : T 256 1024 .bf16 v50 Fv50) : T 256 1024 .bf16 (k10_pay14 v9 v33 v34 v50) (k10_pay14_r Fv9 Fv33 Fv34 Fv50) := by
  exact IsR.congr (isr_trunc bitsLt_bf16_f32 (k10_pay12_isr hv9 hv33 hv34 hv50)) fun i => rfl

def k10_pay15_r (Fv64 : RM) (r d : ℕ) : ℝ :=
  Fv64 r d
theorem k10_pay15_isr (hv64 : T 1 1024 .f32 v64 Fv64) : T 1 1024 .f32 (k10_pay15 v64) (k10_pay15_r Fv64) := by
  exact IsR.congr (isr_cast hv64 shapeCasts_S1x1024_S1x1024) fun i => rfl

def k10_pay16_r (Fv9 Fv22 Fv42 : RM) (r d : ℕ) : ℝ :=
  (∑ k1 : Fin 256, k10_pay11_r (fun r d => Fv9 r d) (fun r d => Fv22 r d) (fun r d => Fv42 r d) k1.val d)
theorem k10_pay16_isr (hv9 : T 256 1024 .f32 v9 Fv9) (hv22 : T 256 1024 .f32 v22 Fv22) (hv42 : T 256 1024 .bf16 v42 Fv42) : T 1 1024 .f32 (k10_pay16 v9 v22 v42) (k10_pay16_r Fv9 Fv22 Fv42) := by
  have hv66 := isr_red0 (k10_pay11_isr hv9 hv22 hv42) reduces_S256x1024_S1024 (.inl rfl) rfl
  exact IsR.congr (isr_cast_row hv66 shapeCasts_S1024_S1x1024) fun i => rfl

def k10_pay17_r (Fv65 Fv67 : RM) (r d : ℕ) : ℝ :=
  (Fv65 r d + Fv67 r d)
theorem k10_pay17_isr (hv65 : T 1 1024 .f32 v65 Fv65) (hv67 : T 1 1024 .f32 v67 Fv67) : T 1 1024 .f32 (k10_pay17 v65 v67) (k10_pay17_r Fv65 Fv67) := by
  exact IsR.congr (isr_add hv65 hv67) fun i => rfl

def k10_pay18_r (Fv57 Fv70 : RM) (r d : ℕ) : ℝ :=
  (Fv70 r d + (∑ k1 : Fin 256, Fv57 k1.val d))
theorem k10_pay18_isr (hv57 : T 256 1024 .f32 v57 Fv57) (hv70 : T 1 1024 .f32 v70 Fv70) : T 1 1024 .f32 (k10_pay18 v57 v70) (k10_pay18_r Fv57 Fv70) := by
  have hv71 := isr_cast hv70 shapeCasts_S1x1024_S1x1024
  have hv72 := isr_red0 hv57 reduces_S256x1024_S1024 (.inl rfl) rfl
  have hv73 := isr_cast_row hv72 shapeCasts_S1024_S1x1024
  exact IsR.congr (isr_add hv71 hv73) fun i => rfl

def k10_pay19_r (Fv76 Fv78 : RM) (r d : ℕ) : ℝ :=
  (∑ k1 : Fin 1024, Fv76 r k1.val * Fv78 d k1.val)
theorem k10_pay19_isr (hv76 : T 256 1024 .bf16 v76 Fv76) (hv78 : T 1024 1024 .bf16 v78 Fv78) : T 256 1024 .f32 (k10_pay19 v76 v78) (k10_pay19_r Fv76 Fv78) := by
  have hv77 := isr_cast hv76 shapeCasts_S256x1024_S256x1024
  have hv79 := isr_cast hv78 shapeCasts_S1024x1024_S1024x1024
  exact IsR.congr (isk_S256x1024_S1024x1024_S256x1024_1_1_0_0_n_n hv77 hv79) fun i => rfl

def k10_pay20_r (Fv81 Fv82 : RM) (r d : ℕ) : ℝ :=
  (((1/2) * Real.tanh (((1/2) * (Fv81 r d + Fv82 0 d)))) + (1/2))
theorem k10_pay20_isr (hv81 : T 256 1024 .bf16 v81 Fv81) (hv82 : T 1 1024 .f32 v82 Fv82) : T 256 1024 .f32 (k10_pay20 v81 v82) (k10_pay20_r Fv81 Fv82) := by
  have hv83 := isr_cast hv82 shapeCasts_S1x1024_S1x1024
  have hv84 := isr_ext bitsLt_bf16_f32 hv81
  have hv85 := isr_row hv83 broadcasts_S1x1024_S256x1024
  have hv86 := isr_add hv84 hv85
  have hv87 := isr_bc (s := S256x1024) lit_half
  have hv88 := isr_mul hv87 hv86
  have hv89 := isr_tanh hv88
  have hv90 := isr_bc (s := S256x1024) lit_half
  have hv91 := isr_mul hv90 hv89
  have hv92 := isr_bc (s := S256x1024) lit_half
  exact IsR.congr (isr_add hv91 hv92) fun i => rfl

def k10_pay21_r (Fv94 Fv95 : RM) (r d : ℕ) : ℝ :=
  ((1/2) * (Fv94 r d + Fv95 0 d))
theorem k10_pay21_isr (hv94 : T 256 1024 .bf16 v94 Fv94) (hv95 : T 1 1024 .f32 v95 Fv95) : T 256 1024 .f32 (k10_pay21 v94 v95) (k10_pay21_r Fv94 Fv95) := by
  have hv96 := isr_cast hv95 shapeCasts_S1x1024_S1x1024
  have hv97 := isr_ext bitsLt_bf16_f32 hv94
  have hv98 := isr_row hv96 broadcasts_S1x1024_S256x1024
  have hv99 := isr_add hv97 hv98
  have hv100 := isr_bc (s := S256x1024) lit_half
  exact IsR.congr (isr_mul hv100 hv99) fun i => rfl

def k10_pay22_r (Fv101 : RM) (r d : ℕ) : ℝ :=
  (((1/2) * Real.tanh (Fv101 r d)) + (1/2))
theorem k10_pay22_isr (hv101 : T 256 1024 .f32 v101 Fv101) : T 256 1024 .f32 (k10_pay22 v101) (k10_pay22_r Fv101) := by
  have hv102 := isr_tanh hv101
  have hv103 := isr_bc (s := S256x1024) lit_half
  have hv104 := isr_mul hv103 hv102
  have hv105 := isr_bc (s := S256x1024) lit_half
  exact IsR.congr (isr_add hv104 hv105) fun i => rfl

def k10_pay23_r (Fv80 Fv93 : RM) (r d : ℕ) : ℝ :=
  (Fv80 r d * Fv93 r d)
theorem k10_pay23_isr (hv80 : T 256 1024 .f32 v80 Fv80) (hv93 : T 256 1024 .f32 v93 Fv93) : T 256 1024 .bf16 (k10_pay23 v80 v93) (k10_pay23_r Fv80 Fv93) := by
  have hv107 := isr_mul hv80 hv93
  exact IsR.congr (isr_trunc bitsLt_bf16_f32 hv107) fun i => rfl

def k10_pay24_r (Fv80 Fv101 : RM) (r d : ℕ) : ℝ :=
  (Fv80 r d * k10_pay22_r (fun r d => Fv101 r d) r d)
theorem k10_pay24_isr (hv80 : T 256 1024 .f32 v80 Fv80) (hv101 : T 256 1024 .f32 v101 Fv101) : T 256 1024 .bf16 (k10_pay24 v80 v101) (k10_pay24_r Fv80 Fv101) := by
  have hv110 := isr_mul hv80 (k10_pay22_isr hv101)
  exact IsR.congr (isr_trunc bitsLt_bf16_f32 hv110) fun i => rfl

def k10_pay25_r (Fv80 Fv93 Fv113 : RM) (r d : ℕ) : ℝ :=
  (((Fv80 r d * Fv113 r d) * Fv93 r d) * (1 - Fv93 r d))
theorem k10_pay25_isr (hv80 : T 256 1024 .f32 v80 Fv80) (hv93 : T 256 1024 .f32 v93 Fv93) (hv113 : T 256 1024 .bf16 v113 Fv113) : T 256 1024 .f32 (k10_pay25 v80 v93 v113) (k10_pay25_r Fv80 Fv93 Fv113) := by
  have hv114 := isr_cast hv113 shapeCasts_S256x1024_S256x1024
  have hv115 := isr_ext bitsLt_bf16_f32 hv114
  have hv116 := isr_mul hv80 hv115
  have hv117 := isr_mul hv116 hv93
  have hv118 := isr_bc (s := S256x1024) lit_one
  have hv119 := isr_sub hv118 hv93
  exact IsR.congr (isr_mul hv117 hv119) fun i => rfl

def k10_pay26_r (Fv80 Fv101 Fv121 : RM) (r d : ℕ) : ℝ :=
  (((Fv80 r d * Fv121 r d) * k10_pay22_r (fun r d => Fv101 r d) r d) * (1 - k10_pay22_r (fun r d => Fv101 r d) r d))
theorem k10_pay26_isr (hv80 : T 256 1024 .f32 v80 Fv80) (hv101 : T 256 1024 .f32 v101 Fv101) (hv121 : T 256 1024 .bf16 v121 Fv121) : T 256 1024 .f32 (k10_pay26 v80 v101 v121) (k10_pay26_r Fv80 Fv101 Fv121) := by
  have hv122 := isr_cast hv121 shapeCasts_S256x1024_S256x1024
  have hv123 := isr_ext bitsLt_bf16_f32 hv122
  have hv124 := isr_mul hv80 hv123
  have hv125 := isr_mul hv124 (k10_pay22_isr hv101)
  have hv126 := isr_bc (s := S256x1024) lit_one
  have hv127 := isr_sub hv126 (k10_pay22_isr hv101)
  exact IsR.congr (isr_mul hv125 hv127) fun i => rfl

def k10_pay27_r (Fv80 Fv93 Fv113 : RM) (r d : ℕ) : ℝ :=
  k10_pay25_r (fun r d => Fv80 r d) (fun r d => Fv93 r d) (fun r d => Fv113 r d) r d
theorem k10_pay27_isr (hv80 : T 256 1024 .f32 v80 Fv80) (hv93 : T 256 1024 .f32 v93 Fv93) (hv113 : T 256 1024 .bf16 v113 Fv113) : T 256 1024 .bf16 (k10_pay27 v80 v93 v113) (k10_pay27_r Fv80 Fv93 Fv113) := by
  exact IsR.congr (isr_trunc bitsLt_bf16_f32 (k10_pay25_isr hv80 hv93 hv113)) fun i => rfl

def k10_pay28_r (Fv80 Fv101 Fv121 : RM) (r d : ℕ) : ℝ :=
  k10_pay26_r (fun r d => Fv80 r d) (fun r d => Fv101 r d) (fun r d => Fv121 r d) r d
theorem k10_pay28_isr (hv80 : T 256 1024 .f32 v80 Fv80) (hv101 : T 256 1024 .f32 v101 Fv101) (hv121 : T 256 1024 .bf16 v121 Fv121) : T 256 1024 .bf16 (k10_pay28 v80 v101 v121) (k10_pay28_r Fv80 Fv101 Fv121) := by
  exact IsR.congr (isr_trunc bitsLt_bf16_f32 (k10_pay26_isr hv80 hv101 hv121)) fun i => rfl

end Cert.Tail

end
-- ==== Proof.Tail.R10.lean ====
/-
  Region 10 of the kernel (untrusted): its input blocks as shifted real matrices, what each point of the grid leaves in its
  output windows, and the arrays after the last point.
-/
module

public import proofs.«01_k».proof.Proof.Gen.KernelIdeal.Frame.Region10
public import proofs.«01_k».proof.Proof.Tail.Pay10
public import proofs.«01_k».proof.Proof.Tail.Spec
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R10

open Cert.KernelIdeal Cert.KernelIdeal.Gen
variable (V : (c : Dev nD) → (b : Ref sig .tc) → Buf (Elt Ideal) ((c : Thread nD τ).loc b))

theorem idx : ∀ t : Fin cfg10.N,
    win10_0.index t = ![t.val, 0]
    ∧ win10_1.index t = ![0, 0]
    ∧ win10_2.index t = ![t.val, 0]
    ∧ win10_3.index t = ![t.val, 1]
    ∧ win10_4.index t = ![t.val, 0]
    ∧ win10_5.index t = ![t.val, 0]
    ∧ win10_6.index t = ![0, 0]
    ∧ win10_7.index t = ![t.val, 0]
    ∧ win10_8.index t = ![t.val, 0]
    ∧ win10_9.index t = ![t.val, 0]
    ∧ win10_10.index t = ![0, 0] :=
  (by decide +kernel : ∀ t : Fin grid10.N, _)

theorem s10_9_lt {F0 F1 F2 F3 F4 F5 F6 : RM} {r d : ℕ} (h : d < 1024) :
    s10_9 F0 F1 F2 F3 F4 F5 F6 r d = s10_a F0 F1 F2 F3 F4 F5 F6 r d := if_pos h
theorem s10_9_ge {F0 F1 F2 F3 F4 F5 F6 : RM} {r d : ℕ} :
    s10_9 F0 F1 F2 F3 F4 F5 F6 r (1024 + d) = s10_b F0 F1 F2 F3 F4 F5 F6 r d := by
  unfold s10_9
  rw [if_neg (by omega), Nat.add_sub_cancel_left]

theorem blk_0 {F : RM} (c : Dev nD) (t : Fin cfg10.N) (h : T 16384 1024 .bf16 (V c main_v22_1) F) :
    T 512 1024 .bf16 (iblk10 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg10.N) (h : T 1024 1024 .bf16 (V c main_v2) F) :
    T 1024 1024 .bf16 (iblk10 V c 1 t) F := fun i => by
  refine IsR.at h (congrArg₂ F ?_ ?_) <;> (blk_simp; rw [(idx t).2.1]; first | exact off _ _ _ | exact off0 _ _ | exact off1 _ _)
theorem blk_2 {F : RM} (c : Dev nD) (t : Fin cfg10.N) (h : T 16384 2048 .bf16 (V c main_arg3) F) :
    T 512 1024 .bf16 (iblk10 V c 2 t) (fun r d => F (512 * t.val + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg10.N) (h : T 16384 2048 .bf16 (V c main_arg3) F) :
    T 512 1024 .bf16 (iblk10 V c 3 t) (fun r d => F (512 * t.val + r) (1024 + d)) := fun i => by
  refine IsR.at h (congrArg₂ F ?_ ?_) <;> (blk_simp; rw [(idx t).2.2.2.1]; first | exact off _ _ _ | exact off0 _ _ | exact off1 _ _)
theorem blk_4 {F : RM} (c : Dev nD) (t : Fin cfg10.N) (h : T 16384 1024 .bf16 (V c main_v14_0) F) :
    T 512 1024 .bf16 (iblk10 V c 4 t) (fun r d => F (512 * t.val + r) d) := fun i => by
  refine IsR.at h (congrArg₂ F ?_ ?_) <;> (blk_simp; rw [(idx t).2.2.2.2.1]; first | exact off _ _ _ | exact off0 _ _ | exact off1 _ _)
theorem blk_5 {F : RM} (c : Dev nD) (t : Fin cfg10.N) (h : T 16384 1024 .bf16 (V c main_v14_1) F) :
    T 512 1024 .bf16 (iblk10 V c 5 t) (fun r d => F (512 * t.val + r) d) := fun i => by
  refine IsR.at h (congrArg₂ F ?_ ?_) <;> (blk_simp; rw [(idx t).2.2.2.2.2.1]; first | exact off _ _ _ | exact off0 _ _ | exact off1 _ _)
theorem blk_6 {F : RM} (c : Dev nD) (t : Fin cfg10.N) (h : T 8 1024 .f32 (V c main_v9) F) :
    T 8 1024 .f32 (iblk10 V c 6 t) F := fun i => by
  refine IsR.at h (congrArg₂ F ?_ ?_) <;> (blk_simp; rw [(idx t).2.2.2.2.2.2.1]; first | exact off _ _ _ | exact off0 _ _ | exact off1 _ _)
theorem o_7 {F0 F1 F2 F3 F4 F5 F6 : RM} (c : Dev nD) (t : Fin cfg10.N) (g0 : T 512 1024 .bf16 (iblk10 V c 0 t) F0)
    (g1 : T 1024 1024 .bf16 (iblk10 V c 1 t) F1)
    (g2 : T 512 1024 .bf16 (iblk10 V c 2 t) F2)
    (g3 : T 512 1024 .bf16 (iblk10 V c 3 t) F3)
    (g4 : T 512 1024 .bf16 (iblk10 V c 4 t) F4)
    (g5 : T 512 1024 .bf16 (iblk10 V c 5 t) F5)
    (g6 : T 8 1024 .f32 (iblk10 V c 6 t) F6) :
    T 512 1024 .bf16 ((outsAt10 V c t.val t.isLt).1) (s10_7 F0 F1 F2 F3 F4 F5 F6) := fun y => by
  show (outsAt10 V c t.val t.isLt).1 y = _
  by_cases hc : t.val % 32 = 0
  on_goal 1 => rw [outsAt10_A V c t hc]
  on_goal 2 => rw [outsAt10_B V c t hc]
  all_goals
    frame_out
    canon_tiles x h
    all_goals
      apply IsR.at (s := S256x1024) (φ := .bf16) (i := x)
      rotate_left
      ·
        repeat' first
          | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr | apply k10_pay12_isr | apply k10_pay13_isr | apply k10_pay14_isr | apply k10_pay15_isr | apply k10_pay16_isr | apply k10_pay17_isr | apply k10_pay18_isr | apply k10_pay19_isr | apply k10_pay20_isr | apply k10_pay21_isr | apply k10_pay22_isr | apply k10_pay23_isr | apply k10_pay24_isr | apply k10_pay25_isr | apply k10_pay26_isr | apply k10_pay27_isr | apply k10_pay28_isr)
          | apply isr_ld00 | apply isr_ld00b | apply isr_ld_row | apply isr_ld_rowb
          | exact g0 | exact g1 | exact g2 | exact g3 | exact g4 | exact g5 | exact g6
          | apply pos_all
      · show _ = s10_7 F0 F1 F2 F3 F4 F5 F6 (y 0).val (y 1).val
        rw [h0, h1]
        rfl
theorem o_8 {F0 F1 F2 F3 F4 F5 F6 : RM} (c : Dev nD) (t : Fin cfg10.N) (g0 : T 512 1024 .bf16 (iblk10 V c 0 t) F0)
    (g1 : T 1024 1024 .bf16 (iblk10 V c 1 t) F1)
    (g2 : T 512 1024 .bf16 (iblk10 V c 2 t) F2)
    (g3 : T 512 1024 .bf16 (iblk10 V c 3 t) F3)
    (g4 : T 512 1024 .bf16 (iblk10 V c 4 t) F4)
    (g5 : T 512 1024 .bf16 (iblk10 V c 5 t) F5)
    (g6 : T 8 1024 .f32 (iblk10 V c 6 t) F6) :
    T 512 1024 .bf16 ((outsAt10 V c t.val t.isLt).2.1) (s10_8 F0 F1 F2 F3 F4 F5 F6) := fun y => by
  show (outsAt10 V c t.val t.isLt).2.1 y = _
  by_cases hc : t.val % 32 = 0
  on_goal 1 => rw [outsAt10_A V c t hc]
  on_goal 2 => rw [outsAt10_B V c t hc]
  all_goals
    frame_out
    canon_tiles x h
    all_goals
      apply IsR.at (s := S256x1024) (φ := .bf16) (i := x)
      rotate_left
      ·
        repeat' first
          | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr | apply k10_pay12_isr | apply k10_pay13_isr | apply k10_pay14_isr | apply k10_pay15_isr | apply k10_pay16_isr | apply k10_pay17_isr | apply k10_pay18_isr | apply k10_pay19_isr | apply k10_pay20_isr | apply k10_pay21_isr | apply k10_pay22_isr | apply k10_pay23_isr | apply k10_pay24_isr | apply k10_pay25_isr | apply k10_pay26_isr | apply k10_pay27_isr | apply k10_pay28_isr)
          | apply isr_ld00 | apply isr_ld00b | apply isr_ld_row | apply isr_ld_rowb
          | exact g0 | exact g1 | exact g2 | exact g3 | exact g4 | exact g5 | exact g6
          | apply pos_all
      · show _ = s10_8 F0 F1 F2 F3 F4 F5 F6 (y 0).val (y 1).val
        rw [h0, h1]
        rfl
theorem o_9 {F0 F1 F2 F3 F4 F5 F6 : RM} (c : Dev nD) (t : Fin cfg10.N) (g0 : T 512 1024 .bf16 (iblk10 V c 0 t) F0)
    (g1 : T 1024 1024 .bf16 (iblk10 V c 1 t) F1)
    (g2 : T 512 1024 .bf16 (iblk10 V c 2 t) F2)
    (g3 : T 512 1024 .bf16 (iblk10 V c 3 t) F3)
    (g4 : T 512 1024 .bf16 (iblk10 V c 4 t) F4)
    (g5 : T 512 1024 .bf16 (iblk10 V c 5 t) F5)
    (g6 : T 8 1024 .f32 (iblk10 V c 6 t) F6) :
    T 512 2048 .bf16 ((outsAt10 V c t.val t.isLt).2.2.1) (s10_9 F0 F1 F2 F3 F4 F5 F6) := fun y => by
  show (outsAt10 V c t.val t.isLt).2.2.1 y = _
  by_cases hc : t.val % 32 = 0
  on_goal 1 => rw [outsAt10_A V c t hc]
  on_goal 2 => rw [outsAt10_B V c t hc]
  all_goals
    frame_out
    canon_tiles x h
    all_goals
      apply IsR.at (s := S256x1024) (φ := .bf16) (i := x)
      rotate_left
      ·
        repeat' first
          | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr | apply k10_pay12_isr | apply k10_pay13_isr | apply k10_pay14_isr | apply k10_pay15_isr | apply k10_pay16_isr | apply k10_pay17_isr | apply k10_pay18_isr | apply k10_pay19_isr | apply k10_pay20_isr | apply k10_pay21_isr | apply k10_pay22_isr | apply k10_pay23_isr | apply k10_pay24_isr | apply k10_pay25_isr | apply k10_pay26_isr | apply k10_pay27_isr | apply k10_pay28_isr)
          | apply isr_ld00 | apply isr_ld00b | apply isr_ld_row | apply isr_ld_rowb
          | exact g0 | exact g1 | exact g2 | exact g3 | exact g4 | exact g5 | exact g6
          | apply pos_all
      · show _ = s10_9 F0 F1 F2 F3 F4 F5 F6 (y 0).val (y 1).val
        rw [h0, h1]
        first | (rw [s10_9_ge]; rfl) | (rw [s10_9_lt x1_lt]; rfl)
theorem fin_7 {A0 A1 A2 A4 A5 A6 : RM} (c : Dev nD)
    (g0 : T 16384 1024 .bf16 (V c main_v22_1) A0)
    (g1 : T 1024 1024 .bf16 (V c main_v2) A1)
    (g2 : T 16384 2048 .bf16 (V c main_arg3) A2)
    (g4 : T 16384 1024 .bf16 (V c main_v14_0) A4)
    (g5 : T 16384 1024 .bf16 (V c main_v14_1) A5)
    (g6 : T 8 1024 .f32 (V c main_v9) A6) :
    T 16384 1024 .bf16 ((dat10 V c).arrAt 7 cfg10.N) (s10_7 A0 A1 A2 (fun r d => A2 r (1024 + d)) A4 A5 A6) := by
  have e : (dat10 V c).arrAt 7 cfg10.N = (fun i => ((N2 (a := 16384) (b := 1024) (s10_7 A0 A1 A2 (fun r d => A2 r (1024 + d)) A4 A5 A6) i : ℝ) : EReal) : FVec Ideal S16384x1024 .bf16) := by
    refine (dat10 V c).arrAt_eq_of_covers 7 _ (by decide +kernel) fun t _ y => ?_
    blk_simp
    rw [after10_7]
    refine (o_7 V c t (blk_0 V c t g0) (blk_1 V c t g1) (blk_2 V c t g2) (blk_3 V c t g2) (blk_4 V c t g4) (blk_5 V c t g5) (blk_6 V c t g6) y).trans ?_
    refine congrArg _ ?_
    refine Eq.trans ?_ (congrArg₂ (s10_7 A0 A1 A2 (fun r d => A2 r (1024 + d)) A4 A5 A6) (x' := 512 * t.val + (y 0).val) (y' := (y 1).val) ?_ ?_).symm
    rotate_left
    iterate 2 (blk_simp; rw [(idx t).2.2.2.2.2.2.2.1]; first | exact off _ _ _ | exact off0 _ _ | exact off1 _ _)
    rfl
  exact fun i => congrFun e i
theorem fin_8 {A0 A1 A2 A4 A5 A6 : RM} (c : Dev nD)
    (g0 : T 16384 1024 .bf16 (V c main_v22_1) A0)
    (g1 : T 1024 1024 .bf16 (V c main_v2) A1)
    (g2 : T 16384 2048 .bf16 (V c main_arg3) A2)
    (g4 : T 16384 1024 .bf16 (V c main_v14_0) A4)
    (g5 : T 16384 1024 .bf16 (V c main_v14_1) A5)
    (g6 : T 8 1024 .f32 (V c main_v9) A6) :
    T 16384 1024 .bf16 ((dat10 V c).arrAt 8 cfg10.N) (s10_8 A0 A1 A2 (fun r d => A2 r (1024 + d)) A4 A5 A6) := by
  have e : (dat10 V c).arrAt 8 cfg10.N = (fun i => ((N2 (a := 16384) (b := 1024) (s10_8 A0 A1 A2 (fun r d => A2 r (1024 + d)) A4 A5 A6) i : ℝ) : EReal) : FVec Ideal S16384x1024 .bf16) := by
    refine (dat10 V c).arrAt_eq_of_covers 8 _ (by decide +kernel) fun t _ y => ?_
    blk_simp
    rw [after10_8]
    refine (o_8 V c t (blk_0 V c t g0) (blk_1 V c t g1) (blk_2 V c t g2) (blk_3 V c t g2) (blk_4 V c t g4) (blk_5 V c t g5) (blk_6 V c t g6) y).trans ?_
    refine congrArg _ ?_
    refine Eq.trans ?_ (congrArg₂ (s10_8 A0 A1 A2 (fun r d => A2 r (1024 + d)) A4 A5 A6) (x' := 512 * t.val + (y 0).val) (y' := (y 1).val) ?_ ?_).symm
    rotate_left
    iterate 2 (blk_simp; rw [(idx t).2.2.2.2.2.2.2.2.1]; first | exact off _ _ _ | exact off0 _ _ | exact off1 _ _)
    rfl
  exact fun i => congrFun e i
theorem fin_9 {A0 A1 A2 A4 A5 A6 : RM} (c : Dev nD)
    (g0 : T 16384 1024 .bf16 (V c main_v22_1) A0)
    (g1 : T 1024 1024 .bf16 (V c main_v2) A1)
    (g2 : T 16384 2048 .bf16 (V c main_arg3) A2)
    (g4 : T 16384 1024 .bf16 (V c main_v14_0) A4)
    (g5 : T 16384 1024 .bf16 (V c main_v14_1) A5)
    (g6 : T 8 1024 .f32 (V c main_v9) A6) :
    T 16384 2048 .bf16 ((dat10 V c).arrAt 9 cfg10.N) (s10_9 A0 A1 A2 (fun r d => A2 r (1024 + d)) A4 A5 A6) := by
  have e : (dat10 V c).arrAt 9 cfg10.N = (fun i => ((N2 (a := 16384) (b := 2048) (s10_9 A0 A1 A2 (fun r d => A2 r (1024 + d)) A4 A5 A6) i : ℝ) : EReal) : FVec Ideal S16384x2048 .bf16) := by
    refine (dat10 V c).arrAt_eq_of_covers 9 _ (by decide +kernel) fun t _ y => ?_
    blk_simp
    rw [after10_9]
    refine (o_9 V c t (blk_0 V c t g0) (blk_1 V c t g1) (blk_2 V c t g2) (blk_3 V c t g2) (blk_4 V c t g4) (blk_5 V c t g5) (blk_6 V c t g6) y).trans ?_
    refine congrArg _ ?_
    refine Eq.trans ?_ (congrArg₂ (s10_9 A0 A1 A2 (fun r d => A2 r (1024 + d)) A4 A5 A6) (x' := 512 * t.val + (y 0).val) (y' := (y 1).val) ?_ ?_).symm
    rotate_left
    iterate 2 (blk_simp; rw [(idx t).2.2.2.2.2.2.2.2.2.1]; first | exact off _ _ _ | exact off0 _ _ | exact off1 _ _)
    rfl
  exact fun i => congrFun e i

end Cert.Tail.R10

end
-- ==== Proof.Tail.Num10.lean ====
/-
  Region 10 of the kernel (untrusted): one point's sums over its rows, as a sum over the rows of its block.
-/
module

public import proofs.«01_k».proof.Proof.Tail.Pay10
public import proofs.«01_k».proof.Proof.Tail.Spec

@[expose] public section

set_option maxRecDepth 16384

noncomputable section

open Idealize.ShloMosaic Idealize.ShloMosaic.TcCoe Idealize.SL.Sem
namespace Cert.Tail.R10

/-- What one point of the grid adds to the sums over the rows. -/
def part (F0 F1 F2 F3 F4 F5 F6 : RM) (i j : ℕ) : ℝ := ∑ k : Fin 512, s10_u F0 F1 F2 F3 F4 F5 F6 i k.val j

theorem num {F0 F1 F2 F3 F4 F5 F6 G : RM} :

      (fun i j =>
        if i = 1 then
          k10_pay2_r
            (k10_pay26_r (k10_pay19_r (fun r d => F0 (256 + r) d) F1)
              (k10_pay21_r (fun r d => F3 (256 + r) d) fun r d => F6 (1 + r) d) fun r d => F5 (256 + r) d)
            (k10_pay18_r (k10_pay12_r (k10_pay4_r F0 F1) (k10_pay6_r F3 fun r d => F6 (1 + r) d) k10_pay7_r F5)
              fun r d => G (1 + r) d)
            0 j
        else
          if i = 0 then
            k10_pay1_r
              (k10_pay25_r (k10_pay19_r (fun r d => F0 (256 + r) d) F1) (k10_pay20_r (fun r d => F2 (256 + r) d) F6)
                fun r d => F4 (256 + r) d)
              (k10_pay17_r (k10_pay15_r G) (k10_pay16_r (k10_pay4_r F0 F1) (k10_pay5_r F2 F6) F4)) 0 j
          else
            if i = 1 then
              k10_pay18_r (k10_pay12_r (k10_pay4_r F0 F1) (k10_pay6_r F3 fun r d => F6 (1 + r) d) k10_pay7_r F5)
                (fun r d => G (1 + r) d) 0 j
            else
              if i = 0 then k10_pay17_r (k10_pay15_r G) (k10_pay16_r (k10_pay4_r F0 F1) (k10_pay5_r F2 F6) F4) 0 j
              else G i j)
    = fun i j => G i j + part F0 F1 F2 F3 F4 F5 F6 i j := by
  funext i j
  by_cases e0 : i = 0
  · subst e0
    refine Eq.trans ?_ (congrArg (G 0 j + ·) (sum_halves 256 fun k => s10_u F0 F1 F2 F3 F4 F5 F6 0 k j))
    show _ = G 0 j + (∑ k : Fin 256, s10_u F0 F1 F2 F3 F4 F5 F6 0 k.val j + ∑ k : Fin 256, s10_u F0 F1 F2 F3 F4 F5 F6 0 (256 + k.val) j)
    rw [← add_assoc]
    simp only [s10_u, Nat.reduceEqDiff, reduceIte, one_ne_zero, OfNat.ofNat_ne_zero, OfNat.ofNat_ne_one]
    rfl
  by_cases e1 : i = 1
  · subst e1
    refine Eq.trans ?_ (congrArg (G 1 j + ·) (sum_halves 256 fun k => s10_u F0 F1 F2 F3 F4 F5 F6 1 k j))
    show _ = G 1 j + (∑ k : Fin 256, s10_u F0 F1 F2 F3 F4 F5 F6 1 k.val j + ∑ k : Fin 256, s10_u F0 F1 F2 F3 F4 F5 F6 1 (256 + k.val) j)
    rw [← add_assoc]
    simp only [s10_u, Nat.reduceEqDiff, reduceIte, one_ne_zero, OfNat.ofNat_ne_zero, OfNat.ofNat_ne_one]
    rfl
  simp only [part, s10_u, e0, e1, if_false, Finset.sum_const_zero, add_zero]

end Cert.Tail.R10

end
-- ==== Proof.Tail.R10a.lean ====
/-
  Region 10 of the kernel (untrusted): its input blocks as shifted real matrices, what each point of the grid leaves in its
  output windows, and the arrays after the last point.
-/
module

public import proofs.«01_k».proof.Proof.Tail.R10
public import proofs.«01_k».proof.Proof.Tail.Pay10
public import proofs.«01_k».proof.Proof.Tail.Acc
public import proofs.«01_k».proof.Proof.Tail.Num10
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R10

open Cert.KernelIdeal Cert.KernelIdeal.Gen
variable (V : (c : Dev nD) → (b : Ref sig .tc) → Buf (Elt Ideal) ((c : Thread nD τ).loc b))

theorem zero_step {F0 F1 F2 F3 F4 F5 F6 : RM} (c : Dev nD) (t : Fin cfg10.N) (g0 : T 512 1024 .bf16 (iblk10 V c 0 t) F0)
    (g1 : T 1024 1024 .bf16 (iblk10 V c 1 t) F1)
    (g2 : T 512 1024 .bf16 (iblk10 V c 2 t) F2)
    (g3 : T 512 1024 .bf16 (iblk10 V c 3 t) F3)
    (g4 : T 512 1024 .bf16 (iblk10 V c 4 t) F4)
    (g5 : T 512 1024 .bf16 (iblk10 V c 5 t) F5)
    (g6 : T 8 1024 .f32 (iblk10 V c 6 t) F6) (hc : t.val % 32 = 0) :
    T 8 1024 .f32 ((outsAt10 V c t.val t.isLt).2.2.2) (part F0 F1 F2 F3 F4 F5 F6) := fun y => by
  show (outsAt10 V c t.val t.isLt).2.2.2 y = _
  rw [outsAt10_A V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr | apply k10_pay12_isr | apply k10_pay13_isr | apply k10_pay14_isr | apply k10_pay15_isr | apply k10_pay16_isr | apply k10_pay17_isr | apply k10_pay18_isr | apply k10_pay19_isr | apply k10_pay20_isr | apply k10_pay21_isr | apply k10_pay22_isr | apply k10_pay23_isr | apply k10_pay24_isr | apply k10_pay25_isr | apply k10_pay26_isr | apply k10_pay27_isr | apply k10_pay28_isr | apply isr_canon_row | apply isr_writes_row | apply isr_canon_fill | apply isr_unread)
        | apply isr_ld00 | apply isr_ld00b | apply isr_ld_row | apply isr_ld_rowb
        | exact g0 | exact g1 | exact g2 | exact g3 | exact g4 | exact g5 | exact g6
          | apply pos_all
  ·
    refine (congrFun (congrArg N2 (num (G := k10_pay3_r))) y).trans ?_
    show k10_pay3_r (y 0).val (y 1).val + part F0 F1 F2 F3 F4 F5 F6 (y 0).val (y 1).val = _
    exact zero_add _

end Cert.Tail.R10

end
-- ==== Proof.Tail.R10b.lean ====
/-
  Region 10 of the kernel (untrusted): its input blocks as shifted real matrices, what each point of the grid leaves in its
  output windows, and the arrays after the last point.
-/
module

public import proofs.«01_k».proof.Proof.Tail.R10
public import proofs.«01_k».proof.Proof.Tail.Pay10
public import proofs.«01_k».proof.Proof.Tail.Acc
public import proofs.«01_k».proof.Proof.Tail.Num10
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R10

open Cert.KernelIdeal Cert.KernelIdeal.Gen
variable (V : (c : Dev nD) → (b : Ref sig .tc) → Buf (Elt Ideal) ((c : Thread nD τ).loc b))

theorem next_step {F0 F1 F2 F3 F4 F5 F6 G : RM} (c : Dev nD) (t : Fin cfg10.N) (g0 : T 512 1024 .bf16 (iblk10 V c 0 t) F0)
    (g1 : T 1024 1024 .bf16 (iblk10 V c 1 t) F1)
    (g2 : T 512 1024 .bf16 (iblk10 V c 2 t) F2)
    (g3 : T 512 1024 .bf16 (iblk10 V c 3 t) F3)
    (g4 : T 512 1024 .bf16 (iblk10 V c 4 t) F4)
    (g5 : T 512 1024 .bf16 (iblk10 V c 5 t) F5)
    (g6 : T 8 1024 .f32 (iblk10 V c 6 t) F6) (hc : ¬ t.val % 32 = 0)
    (gp : T 8 1024 .f32 ((outsAt10 V c (t.val - 1) (Nat.lt_of_le_of_lt (Nat.sub_le _ _) t.isLt)).2.2.2) G) :
    T 8 1024 .f32 ((outsAt10 V c t.val t.isLt).2.2.2) (fun i j => G i j + part F0 F1 F2 F3 F4 F5 F6 i j) := fun y => by
  show (outsAt10 V c t.val t.isLt).2.2.2 y = _
  rw [outsAt10_B V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr | apply k10_pay12_isr | apply k10_pay13_isr | apply k10_pay14_isr | apply k10_pay15_isr | apply k10_pay16_isr | apply k10_pay17_isr | apply k10_pay18_isr | apply k10_pay19_isr | apply k10_pay20_isr | apply k10_pay21_isr | apply k10_pay22_isr | apply k10_pay23_isr | apply k10_pay24_isr | apply k10_pay25_isr | apply k10_pay26_isr | apply k10_pay27_isr | apply k10_pay28_isr | apply isr_canon_row | apply isr_writes_row | apply isr_canon_fill | apply isr_unread)
        | apply isr_ld00 | apply isr_ld00b | apply isr_ld_row | apply isr_ld_rowb
        | exact gp | exact g0 | exact g1 | exact g2 | exact g3 | exact g4 | exact g5 | exact g6
          | apply pos_all
  ·
    exact congrFun (congrArg N2 num) y

end Cert.Tail.R10

end
-- ==== Proof.Tail.R10c.lean ====
/-
  Region 10 of the kernel (untrusted): its input blocks as shifted real matrices, what each point of the grid leaves in its
  output windows, and the arrays after the last point.
-/
module

public import proofs.«01_k».proof.Proof.Tail.R10a
public import proofs.«01_k».proof.Proof.Tail.R10b
public import proofs.«01_k».proof.Proof.Tail.Pay10
public import proofs.«01_k».proof.Proof.Tail.Acc
public import proofs.«01_k».proof.Proof.Tail.Num10
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Tail.R10

open Cert.KernelIdeal Cert.KernelIdeal.Gen
variable (V : (c : Dev nD) → (b : Ref sig .tc) → Buf (Elt Ideal) ((c : Thread nD τ).loc b))

theorem fin_10 {A0 A1 A2 A4 A5 A6 : RM} (c : Dev nD)
    (g0 : T 16384 1024 .bf16 (V c main_v22_1) A0)
    (g1 : T 1024 1024 .bf16 (V c main_v2) A1)
    (g2 : T 16384 2048 .bf16 (V c main_arg3) A2)
    (g4 : T 16384 1024 .bf16 (V c main_v14_0) A4)
    (g5 : T 16384 1024 .bf16 (V c main_v14_1) A5)
    (g6 : T 8 1024 .f32 (V c main_v9) A6) :
    T 8 1024 .f32 ((dat10 V c).arrAt 10 cfg10.N) (fun q d => ∑ r : Fin 16384, s10_u A0 A1 A2 (fun r d => A2 r (1024 + d)) A4 A5 A6 q r.val d) := by
  have e : (dat10 V c).arrAt 10 cfg10.N = (fun i => ((N2 (a := 8) (b := 1024) (fun q d => ∑ r : Fin 16384, s10_u A0 A1 A2 (fun r d => A2 r (1024 + d)) A4 A5 A6 q r.val d) i : ℝ) : EReal) : FVec Ideal S8x1024 .f32) := by
    refine (dat10 V c).arrAt_eq_of_covers 10 _ (by decide +kernel) fun t hf y => ?_
    blk_simp
    rw [after10_10]
    refine (isr_acc (fun n h => (outsAt10 V c n h).2.2.2) 32 (fun t => part (fun r d => A0 (512 * t + r) d) A1 (fun r d => A2 (512 * t + r) d) (fun r d => A2 (512 * t + r) (1024 + d)) (fun r d => A4 (512 * t + r) d) (fun r d => A5 (512 * t + r) d) A6)
      (fun t h => zero_step V c t (blk_0 V c t g0) (blk_1 V c t g1) (blk_2 V c t g2) (blk_3 V c t g2) (blk_4 V c t g4) (blk_5 V c t g5) (blk_6 V c t g6) h)
      (fun t h G gp => next_step V c t (blk_0 V c t g0) (blk_1 V c t g1) (blk_2 V c t g2) (blk_3 V c t g2) (blk_4 V c t g4) (blk_5 V c t g5) (blk_6 V c t g6) h gp) t y).trans ?_
    refine congrArg _ ?_
    have hm : t.val % 32 + 1 = 32 := by have := (flush10_10 t).mp hf; omega
    refine Eq.trans ?_ (congrArg₂ (fun q d => ∑ r : Fin 16384, s10_u A0 A1 A2 (fun r d => A2 r (1024 + d)) A4 A5 A6 q r.val d) (x' := (y 0).val) (y' := (y 1).val) ?_ ?_).symm
    rotate_left
    iterate 2 (blk_simp; rw [(idx t).2.2.2.2.2.2.2.2.2.2]; first | exact off _ _ _ | exact off0 _ _ | exact off1 _ _)
    show ∑ s ∈ Finset.range (t.val % 32 + 1), (fun t => part (fun r d => A0 (512 * t + r) d) A1 (fun r d => A2 (512 * t + r) d) (fun r d => A2 (512 * t + r) (1024 + d)) (fun r d => A4 (512 * t + r) d) (fun r d => A5 (512 * t + r) d) A6) (32 * (t.val / 32) + s) (y 0).val (y 1).val = _
    rw [hm]
    have hq : t.val / 32 = 0 := (by decide +kernel : ∀ t : Fin grid10.N, t.val / 32 = 0) t
    rw [hq]
    exact sum_run0 512 32 fun r => s10_u A0 A1 A2 (fun r d => A2 r (1024 + d)) A4 A5 A6 (y 0).val r (y 1).val
  exact fun i => congrFun e i

end Cert.Tail.R10

end
-- ==== Proof.Tail.Pay11.lean ====
/-
  The printed vector operations of region 11 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k11_pay1_r (Fv0 Fv2 : RM) (r d : ℕ) : ℝ :=
  (∑ k1 : Fin 1024, Fv0 r k1.val * Fv2 d k1.val)
theorem k11_pay1_isr (hv0 : T 512 1024 .bf16 v0 Fv0) (hv2 : T 1280 1024 .bf16 v2 Fv2) : T 512 1280 .f32 (k11_pay1 v0 v2) (k11_pay1_r Fv0 Fv2) := by
  have hv1 := isr_cast hv0 shapeCasts_S512x1024_S512x1024
  have hv3 := isr_cast hv2 shapeCasts_S1280x1024_S1280x1024
  exact IsR.congr (isk_S512x1024_S1280x1024_S512x1280_1_1_0_0_n_n hv1 hv3) fun i => rfl

end Cert.Tail

end
-- ==== Proof.Tail.R11.lean ====
/-
  Region 11 of the kernel (untrusted): its input blocks as shifted real matrices, what each point of the grid leaves in its
  output windows, and the arrays after the last point.
-/
module

public import proofs.«01_k».proof.Proof.Gen.KernelIdeal.Frame.Region11
public import proofs.«01_k».proof.Proof.Tail.Pay11
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R11

open Cert.KernelIdeal Cert.KernelIdeal.Gen
variable (V : (c : Dev nD) → (b : Ref sig .tc) → Buf (Elt Ideal) ((c : Thread nD τ).loc b))

theorem idx : ∀ t : Fin cfg11.N,
    win11_0.index t = ![t.val, 0]
    ∧ win11_1.index t = ![0, 0]
    ∧ win11_2.index t = ![t.val, 0] :=
  (by decide +kernel : ∀ t : Fin grid11.N, _)

theorem blk_0 {F : RM} (c : Dev nD) (t : Fin cfg11.N) (h : T 16384 1024 .bf16 (V c main_v24_0) F) :
    T 512 1024 .bf16 (iblk11 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg11.N) (h : T 1280 1024 .bf16 (V c main_v0) F) :
    T 1280 1024 .bf16 (iblk11 V c 1 t) F := fun i => by
  refine IsR.at h (congrArg₂ F ?_ ?_) <;> (blk_simp; rw [(idx t).2.1]; first | exact off _ _ _ | exact off0 _ _ | exact off1 _ _)

theorem o_2 {F0 F1 : RM} (x0 : Vec Ideal S512x1024 .bf16) (x1 : Vec Ideal S1280x1024 .bf16)
    (g0 : T 512 1024 .bf16 x0 F0)
    (g1 : T 1280 1024 .bf16 x1 F1) :
    T 512 1280 .f32 (out11_2 x0 x1) (s11_2 F0 F1) := fun y => by
  show out11_2 x0 x1 y = _
  canon_tiles x h
  all_goals
    apply IsR.at (s := S512x1280) (φ := .f32) (i := x)
    rotate_left
    ·
      repeat' first
        | with_reducible (first | apply k11_pay1_isr)
        | apply isr_ld00 | apply isr_ld00b | apply isr_ld_row | apply isr_ld_rowb
        | exact g0 | exact g1
        | apply pos_all
    · show _ = s11_2 F0 F1 (y 0).val (y 1).val
      rw [h0, h1]
      rfl

theorem fin_2 {A0 A1 : RM} (c : Dev nD)
    (g0 : T 16384 1024 .bf16 (V c main_v24_0) A0)
    (g1 : T 1280 1024 .bf16 (V c main_v0) A1) :
    T 16384 1280 .f32 ((dat11 V c).arrAt 2 cfg11.N) (s11_2 A0 A1) := by
  have e : (dat11 V c).arrAt 2 cfg11.N = (fun i => ((N2 (a := 16384) (b := 1280) (s11_2 A0 A1) i : ℝ) : EReal) : FVec Ideal S16384x1280 .f32) := by
    refine (dat11 V c).arrAt_eq_of_covers 2 _ (by decide +kernel) fun t _ y => ?_
    blk_simp
    rw [after11_2]
    refine (o_2 _ _ (blk_0 V c t g0) (blk_1 V c t g1) y).trans ?_
    refine congrArg _ ?_
    refine Eq.trans ?_ (congrArg₂ (s11_2 A0 A1) (x' := 512 * t.val + (y 0).val) (y' := (y 1).val) ?_ ?_).symm
    rotate_left
    iterate 2 (blk_simp; rw [(idx t).2.2]; first | exact off _ _ _ | exact off0 _ _ | exact off1 _ _)
    rfl
  exact fun i => congrFun e i

end Cert.Tail.R11

end
-- ==== Proof.Tail.Pay12.lean ====
/-
  The printed vector operations of region 12 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k12_pay1_r (Fv0 Fv2 : RM) (r d : ℕ) : ℝ :=
  (∑ k1 : Fin 1024, Fv0 r k1.val * Fv2 d k1.val)
theorem k12_pay1_isr (hv0 : T 512 1024 .bf16 v0 Fv0) (hv2 : T 1024 1024 .bf16 v2 Fv2) : T 512 1024 .f32 (k12_pay1 v0 v2) (k12_pay1_r Fv0 Fv2) := by
  have hv1 := isr_cast hv0 shapeCasts_S512x1024_S512x1024
  have hv3 := isr_cast hv2 shapeCasts_S1024x1024_S1024x1024
  exact IsR.congr (isk_S512x1024_S1024x1024_S512x1024_1_1_0_0_n_n hv1 hv3) fun i => rfl

end Cert.Tail

end
-- ==== Proof.Tail.R12.lean ====
/-
  Region 12 of the kernel (untrusted): its input blocks as shifted real matrices, what each point of the grid leaves in its
  output windows, and the arrays after the last point.
-/
module

public import proofs.«01_k».proof.Proof.Gen.KernelIdeal.Frame.Region12
public import proofs.«01_k».proof.Proof.Tail.Pay12
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R12

open Cert.KernelIdeal Cert.KernelIdeal.Gen
variable (V : (c : Dev nD) → (b : Ref sig .tc) → Buf (Elt Ideal) ((c : Thread nD τ).loc b))

theorem idx : ∀ t : Fin cfg12.N,
    win12_0.index t = ![t.val, 0]
    ∧ win12_1.index t = ![0, 0]
    ∧ win12_2.index t = ![t.val, 0] :=
  (by decide +kernel : ∀ t : Fin grid12.N, _)

theorem blk_0 {F : RM} (c : Dev nD) (t : Fin cfg12.N) (h : T 16384 1024 .bf16 (V c main_v24_1) F) :
    T 512 1024 .bf16 (iblk12 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg12.N) (h : T 1024 1024 .bf16 (V c main_v1) F) :
    T 1024 1024 .bf16 (iblk12 V c 1 t) F := fun i => by
  refine IsR.at h (congrArg₂ F ?_ ?_) <;> (blk_simp; rw [(idx t).2.1]; first | exact off _ _ _ | exact off0 _ _ | exact off1 _ _)

theorem o_2 {F0 F1 : RM} (x0 : Vec Ideal S512x1024 .bf16) (x1 : Vec Ideal S1024x1024 .bf16)
    (g0 : T 512 1024 .bf16 x0 F0)
    (g1 : T 1024 1024 .bf16 x1 F1) :
    T 512 1024 .f32 (out12_2 x0 x1) (s12_2 F0 F1) := fun y => by
  show out12_2 x0 x1 y = _
  canon_tiles x h
  all_goals
    apply IsR.at (s := S512x1024) (φ := .f32) (i := x)
    rotate_left
    ·
      repeat' first
        | with_reducible (first | apply k12_pay1_isr)
        | apply isr_ld00 | apply isr_ld00b | apply isr_ld_row | apply isr_ld_rowb
        | exact g0 | exact g1
        | apply pos_all
    · show _ = s12_2 F0 F1 (y 0).val (y 1).val
      rw [h0, h1]
      rfl

theorem fin_2 {A0 A1 : RM} (c : Dev nD)
    (g0 : T 16384 1024 .bf16 (V c main_v24_1) A0)
    (g1 : T 1024 1024 .bf16 (V c main_v1) A1) :
    T 16384 1024 .f32 ((dat12 V c).arrAt 2 cfg12.N) (s12_2 A0 A1) := by
  have e : (dat12 V c).arrAt 2 cfg12.N = (fun i => ((N2 (a := 16384) (b := 1024) (s12_2 A0 A1) i : ℝ) : EReal) : FVec Ideal S16384x1024 .f32) := by
    refine (dat12 V c).arrAt_eq_of_covers 2 _ (by decide +kernel) fun t _ y => ?_
    blk_simp
    rw [after12_2]
    refine (o_2 _ _ (blk_0 V c t g0) (blk_1 V c t g1) y).trans ?_
    refine congrArg _ ?_
    refine Eq.trans ?_ (congrArg₂ (s12_2 A0 A1) (x' := 512 * t.val + (y 0).val) (y' := (y 1).val) ?_ ?_).symm
    rotate_left
    iterate 2 (blk_simp; rw [(idx t).2.2]; first | exact off _ _ _ | exact off0 _ _ | exact off1 _ _)
    rfl
  exact fun i => congrFun e i

end Cert.Tail.R12

end
-- ==== Proof.Tail.Pay13.lean ====
/-
  The printed vector operations of region 13 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k13_pay1_r (r d : ℕ) : ℝ :=
  0
theorem k13_pay1_isr : T 1280 1024 .f32 (k13_pay1 ) (k13_pay1_r ) := by
  exact IsR.congr (isr_bc (s := S1280x1024) lit_zero) fun i => rfl

def k13_pay2_r (Fv3 Fv5 Fv6 : RM) (r d : ℕ) : ℝ :=
  (Fv3 r d + (∑ k1 : Fin 2048, Fv5 k1.val r * Fv6 k1.val d))
theorem k13_pay2_isr (hv3 : T 1280 1024 .f32 v3 Fv3) (hv5 : T 2048 1280 .bf16 v5 Fv5) (hv6 : T 2048 1024 .bf16 v6 Fv6) : T 1280 1024 .f32 (k13_pay2 v3 v5 v6) (k13_pay2_r Fv3 Fv5 Fv6) := by
  have hv4 := isr_cast hv3 shapeCasts_S1280x1024_S1280x1024
  have hv7 := isr_cast hv6 shapeCasts_S2048x1024_S2048x1024
  have hv8 := isk_S2048x1280_S2048x1024_S1280x1024_0_0_1_1_n_n hv5 hv7
  exact IsR.congr (isr_add hv4 hv8) fun i => rfl

end Cert.Tail

end
-- ==== Proof.Tail.R13.lean ====
/-
  Region 13 of the kernel (untrusted): its input blocks as shifted real matrices, what each point of the grid leaves in its
  output windows, and the arrays after the last point.
-/
module

public import proofs.«01_k».proof.Proof.Gen.KernelIdeal.Frame.Region13
public import proofs.«01_k».proof.Proof.Tail.Pay13
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R13

open Cert.KernelIdeal Cert.KernelIdeal.Gen
variable (V : (c : Dev nD) → (b : Ref sig .tc) → Buf (Elt Ideal) ((c : Thread nD τ).loc b))

theorem idx : ∀ t : Fin cfg13.N,
    win13_0.index t = ![t.val, 0]
    ∧ win13_1.index t = ![t.val, 0]
    ∧ win13_2.index t = ![0, 0] :=
  (by decide +kernel : ∀ t : Fin grid13.N, _)

theorem blk_0 {F : RM} (c : Dev nD) (t : Fin cfg13.N) (h : T 16384 1280 .bf16 (V c main_arg1) F) :
    T 2048 1280 .bf16 (iblk13 V c 0 t) (fun r d => F (2048 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg13.N) (h : T 16384 1024 .bf16 (V c main_v24_0) F) :
    T 2048 1024 .bf16 (iblk13 V c 1 t) (fun r d => F (2048 * t.val + r) d) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * t + k.val) i * A1 (2048 * t + k.val) j
theorem zero_step {A0 A1 : RM} (c : Dev nD) (g0 : T 16384 1280 .bf16 (V c main_arg1) A0) (g1 : T 16384 1024 .bf16 (V c main_v24_0) A1) (t : Fin cfg13.N) (h : t.val % 8 = 0) :
    T 1280 1024 .f32 (outsAt13 V c t.val t.isLt) (fun i j => 0 + part A0 A1 t.val i j) := fun y => by
  show outsAt13 V c t.val t.isLt y = _
  rw [outsAt13_A V c t h]
  frame_out
  · apply IsR.at (s := S1280x1024) (φ := .f32) (i := y)
    rotate_left
    ·
      repeat' first
        | with_reducible apply k13_pay2_isr | with_reducible apply k13_pay1_isr
        | exact blk_0 V c t g0 | exact blk_1 V c t g1
    · show _ = 0 + part A0 A1 t.val (y 0).val (y 1).val
      rfl
theorem next_step {A0 A1 G : RM} (c : Dev nD) (g0 : T 16384 1280 .bf16 (V c main_arg1) A0) (g1 : T 16384 1024 .bf16 (V c main_v24_0) A1) (t : Fin cfg13.N) (h : ¬ t.val % 8 = 0)
    (gp : T 1280 1024 .f32 (outsAt13 V c (t.val - 1) (Nat.lt_of_le_of_lt (Nat.sub_le _ _) t.isLt)) G) :
    T 1280 1024 .f32 (outsAt13 V c t.val t.isLt) (fun i j => G i j + part A0 A1 t.val i j) := fun y => by
  show outsAt13 V c t.val t.isLt y = _
  rw [outsAt13_B V c t h]
  frame_out
  · apply IsR.at (s := S1280x1024) (φ := .f32) (i := y)
    rotate_left
    ·
      repeat' first
        | with_reducible apply k13_pay2_isr | with_reducible apply k13_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1280 .bf16 (V c main_arg1) A0) (g1 : T 16384 1024 .bf16 (V c main_v24_0) A1) :
    T 1280 1024 .f32 ((dat13 V c).arrAt 2 cfg13.N) (dotL 16384 A0 A1) := by
  have e : (dat13 V c).arrAt 2 cfg13.N = (fun i => ((N2 (a := 1280) (b := 1024) (dotL 16384 A0 A1) i : ℝ) : EReal) : FVec Ideal S1280x1024 .f32) := by
    refine (dat13 V c).arrAt_eq_of_covers 2 _ (by decide +kernel) fun t hf y => ?_
    blk_simp
    rw [after13_2]
    refine (isr_acc (fun n h => outsAt13 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush13_2 t).mp hf; omega
    refine Eq.trans ?_ (congrArg₂ (dotL 16384 A0 A1) (x' := (y 0).val) (y' := (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    have hq : t.val / 8 = 0 := (by decide +kernel : ∀ t : Fin grid13.N, t.val / 8 = 0) t
    rw [hq]
    exact sum_run0 2048 8 fun r => A0 r (y 0).val * A1 r (y 1).val
  exact fun i => congrFun e i

end Cert.Tail.R13

end
-- ==== Proof.Tail.Pay14.lean ====
/-
  The printed vector operations of region 14 of the kernel, read on real matrices (untrusted): each `_r` is the real function,
  each `_isr` carries it across.
-/
module

public import proofs.«01_k».proof.Proof.Tail.DotsK
public import proofs.«01_k».proof.Proof.Tail.Num

@[expose] public section

set_option relaxedAutoImplicit true
set_option maxRecDepth 16384

noncomputable section

open Idealize.ShloMosaic

namespace Cert.Tail

open Cert.KernelIdeal Cert.KernelIdeal.Gen

def k14_pay1_r (r d : ℕ) : ℝ :=
  0
theorem k14_pay1_isr : T 1024 1024 .f32 (k14_pay1 ) (k14_pay1_r ) := by
  exact IsR.congr (isr_bc (s := S1024x1024) lit_zero) fun i => rfl

def k14_pay2_r (Fv3 Fv5 Fv6 : RM) (r d : ℕ) : ℝ :=
  (Fv3 r d + (∑ k1 : Fin 2048, Fv5 k1.val r * Fv6 k1.val d))
theorem k14_pay2_isr (hv3 : T 1024 1024 .f32 v3 Fv3) (hv5 : T 2048 1024 .bf16 v5 Fv5) (hv6 : T 2048 1024 .bf16 v6 Fv6) : T 1024 1024 .f32 (k14_pay2 v3 v5 v6) (k14_pay2_r Fv3 Fv5 Fv6) := by
  have hv4 := isr_cast hv3 shapeCasts_S1024x1024_S1024x1024
  have hv7 := isr_cast hv6 shapeCasts_S2048x1024_S2048x1024
  have hv8 := isk_S2048x1024_S2048x1024_S1024x1024_0_0_1_1_n_n hv5 hv7
  exact IsR.congr (isr_add hv4 hv8) fun i => rfl

end Cert.Tail

end
-- ==== Proof.Tail.R14.lean ====
/-
  Region 14 of the kernel (untrusted): its input blocks as shifted real matrices, what each point of the grid leaves in its
  output windows, and the arrays after the last point.
-/
module

public import proofs.«01_k».proof.Proof.Gen.KernelIdeal.Frame.Region14
public import proofs.«01_k».proof.Proof.Tail.Pay14
public import proofs.«01_k».proof.Proof.Tail.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Tail.R14

open Cert.KernelIdeal Cert.KernelIdeal.Gen
variable (V : (c : Dev nD) → (b : Ref sig .tc) → Buf (Elt Ideal) ((c : Thread nD τ).loc b))

theorem idx : ∀ t : Fin cfg14.N,
    win14_0.index t = ![t.val, 0]
    ∧ win14_1.index t = ![t.val, 0]
    ∧ win14_2.index t = ![0, 0] :=
  (by decide +kernel : ∀ t : Fin grid14.N, _)

theorem blk_0 {F : RM} (c : Dev nD) (t : Fin cfg14.N) (h : T 16384 1024 .bf16 (V c main_arg2) F) :
    T 2048 1024 .bf16 (iblk14 V c 0 t) (fun r d => F (2048 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg14.N) (h : T 16384 1024 .bf16 (V c main_v24_1) F) :
    T 2048 1024 .bf16 (iblk14 V c 1 t) (fun r d => F (2048 * t.val + r) d) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * t + k.val) i * A1 (2048 * t + k.val) j
theorem zero_step {A0 A1 : RM} (c : Dev nD) (g0 : T 16384 1024 .bf16 (V c main_arg2) A0) (g1 : T 16384 1024 .bf16 (V c main_v24_1) A1) (t : Fin cfg14.N) (h : t.val % 8 = 0) :
    T 1024 1024 .f32 (outsAt14 V c t.val t.isLt) (fun i j => 0 + part A0 A1 t.val i j) := fun y => by
  show outsAt14 V c t.val t.isLt y = _
  rw [outsAt14_A V c t h]
  frame_out
  · apply IsR.at (s := S1024x1024) (φ := .f32) (i := y)
    rotate_left
    ·
      repeat' first
        | with_reducible apply k14_pay2_isr | with_reducible apply k14_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_arg2) A0) (g1 : T 16384 1024 .bf16 (V c main_v24_1) A1) (t : Fin cfg14.N) (h : ¬ t.val % 8 = 0)
    (gp : T 1024 1024 .f32 (outsAt14 V c (t.val - 1) (Nat.lt_of_le_of_lt (Nat.sub_le _ _) t.isLt)) G) :
    T 1024 1024 .f32 (outsAt14 V c t.val t.isLt) (fun i j => G i j + part A0 A1 t.val i j) := fun y => by
  show outsAt14 V c t.val t.isLt y = _
  rw [outsAt14_B V c t h]
  frame_out
  · apply IsR.at (s := S1024x1024) (φ := .f32) (i := y)
    rotate_left
    ·
      repeat' first
        | with_reducible apply k14_pay2_isr | with_reducible apply k14_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_arg2) A0) (g1 : T 16384 1024 .bf16 (V c main_v24_1) A1) :
    T 1024 1024 .f32 ((dat14 V c).arrAt 2 cfg14.N) (dotL 16384 A0 A1) := by
  have e : (dat14 V c).arrAt 2 cfg14.N = (fun i => ((N2 (a := 1024) (b := 1024) (dotL 16384 A0 A1) i : ℝ) : EReal) : FVec Ideal S1024x1024 .f32) := by
    refine (dat14 V c).arrAt_eq_of_covers 2 _ (by decide +kernel) fun t hf y => ?_
    blk_simp
    rw [after14_2]
    refine (isr_acc (fun n h => outsAt14 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush14_2 t).mp hf; omega
    refine Eq.trans ?_ (congrArg₂ (dotL 16384 A0 A1) (x' := (y 0).val) (y' := (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    have hq : t.val / 8 = 0 := (by decide +kernel : ∀ t : Fin grid14.N, t.val / 8 = 0) t
    rw [hq]
    exact sum_run0 2048 8 fun r => A0 r (y 0).val * A1 r (y 1).val
  exact fun i => congrFun e i

end Cert.Tail.R14

end
-- ==== Proof.Tail.Ends.lean ====
/-
  The real matrices the arrays hold at every boundary between the calls (untrusted): the host's casts and joins, each
  call's results, and every array carried to the call that reads it and to the end.
-/
module

public import proofs.«01_k».proof.Proof.Gen.KernelIdeal.Frame.Fold0
public import proofs.«01_k».proof.Proof.Tail.Lay
public import proofs.«01_k».proof.Proof.Tail.RefIsrA
public import proofs.«01_k».proof.Proof.Tail.Chain
public import proofs.«01_k».proof.Proof.Tail.R0
public import proofs.«01_k».proof.Proof.Tail.R1
public import proofs.«01_k».proof.Proof.Tail.R2
public import proofs.«01_k».proof.Proof.Tail.R3
public import proofs.«01_k».proof.Proof.Tail.R3c
public import proofs.«01_k».proof.Proof.Tail.R4
public import proofs.«01_k».proof.Proof.Tail.R5
public import proofs.«01_k».proof.Proof.Tail.R6
public import proofs.«01_k».proof.Proof.Tail.R7
public import proofs.«01_k».proof.Proof.Tail.R8
public import proofs.«01_k».proof.Proof.Tail.R8c
public import proofs.«01_k».proof.Proof.Tail.R9
public import proofs.«01_k».proof.Proof.Tail.R10
public import proofs.«01_k».proof.Proof.Tail.R10c
public import proofs.«01_k».proof.Proof.Tail.R11
public import proofs.«01_k».proof.Proof.Tail.R12
public import proofs.«01_k».proof.Proof.Tail.R13
public import proofs.«01_k».proof.Proof.Tail.R14

@[expose] public section

set_option maxRecDepth 16384

noncomputable section

open Idealize.ShloMosaic Idealize.ShloMosaic.TcCoe Idealize.SL.Sem

namespace Cert.Tail.Ends

open Cert.KernelIdeal Cert.KernelIdeal.Gen
open Cert.Tail

/-- The arguments' matrices. -/
abbrev Args (m : (ℓ : Loc nD τ sig) → Buf (Elt Ideal) ℓ) (c : Dev nD) (a : A) : Prop :=
  Hyp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) a

theorem of_eq {s : Shape} {φ : FTy} {x y : FVec Ideal s φ} {f : s.Idx → ℝ} (e : x = y) (h : IsR y f) : IsR x f := e ▸ h

variable {m : (ℓ : Loc nD τ sig) → Buf (Elt Ideal) ℓ} {ρ : Dev nD → PrngReg} {c : Dev nD} {a : A}

/-! ## The host's casts and joins -/

theorem w_v0 : W1 m ρ c (Proc.devRef .tc main_v0) = (truncf .bf16 (m ((c : Thread nD τ).loc main_arg5) : FVec Ideal S1280x1024 .f32) bitsLt_bf16_f32 : FVec Ideal S1280x1024 .bf16) := by
  show StableHlo.after hostOps0 _ (Proc.devRef .tc main_v0) = _
  after_results
  all_goals rfl

theorem w_v1 : W1 m ρ c (Proc.devRef .tc main_v1) = (truncf .bf16 (m ((c : Thread nD τ).loc main_arg6) : FVec Ideal S1024x1024 .f32) bitsLt_bf16_f32 : FVec Ideal S1024x1024 .bf16) := by
  show StableHlo.after hostOps0 _ (Proc.devRef .tc main_v1) = _
  after_results
  all_goals rfl

theorem w_v2 : W1 m ρ c (Proc.devRef .tc main_v2) = (truncf .bf16 (m ((c : Thread nD τ).loc main_arg8) : FVec Ideal S1024x1024 .f32) bitsLt_bf16_f32 : FVec Ideal S1024x1024 .bf16) := by
  show StableHlo.after hostOps0 _ (Proc.devRef .tc main_v2) = _
  after_results
  all_goals rfl

theorem w_v3 : W1 m ρ c (Proc.devRef .tc main_v3) = (truncf .bf16 (m ((c : Thread nD τ).loc main_arg11) : FVec Ideal S1024x2816 .f32) bitsLt_bf16_f32 : FVec Ideal S1024x2816 .bf16) := by
  show StableHlo.after hostOps0 _ (Proc.devRef .tc main_v3) = _
  after_results
  all_goals rfl

theorem w_v4 : W1 m ρ c (Proc.devRef .tc main_v4) = (truncf .bf16 (m ((c : Thread nD τ).loc main_arg12) : FVec Ideal S1024x2816 .f32) bitsLt_bf16_f32 : FVec Ideal S1024x2816 .bf16) := by
  show StableHlo.after hostOps0 _ (Proc.devRef .tc main_v4) = _
  after_results
  all_goals rfl

theorem w_v5 : W1 m ρ c (Proc.devRef .tc main_v5) = (truncf .bf16 (m ((c : Thread nD τ).loc main_arg13) : FVec Ideal S2816x1024 .f32) bitsLt_bf16_f32 : FVec Ideal S2816x1024 .bf16) := by
  show StableHlo.after hostOps0 _ (Proc.devRef .tc main_v5) = _
  after_results
  all_goals rfl

theorem w_v7 : W1 m ρ c (Proc.devRef .tc main_v7) = (concatenate S8x1024 0 [⟨S6x1024, (m ((c : Thread nD τ).loc main_arg4))⟩, ⟨S2x1024, (broadcastInDim S2x1024 ![] bcast_S_S2x1024 (constant S_ .f32 0x00000000#32))⟩] concatenates_S6x1024_S2x1024_S8x1024_d0 : FVec Ideal S8x1024 .f32) := by
  show StableHlo.after hostOps0 _ (Proc.devRef .tc main_v7) = _
  after_results
  all_goals rfl

theorem w_v9 : W1 m ρ c (Proc.devRef .tc main_v9) = (concatenate S8x1024 0 [⟨S2x1024, (m ((c : Thread nD τ).loc main_arg7))⟩, ⟨S6x1024, (broadcastInDim S6x1024 ![] bcast_S_S6x1024 (constant S_ .f32 0x00000000#32))⟩] concatenates_S2x1024_S6x1024_S8x1024_d0 : FVec Ideal S8x1024 .f32) := by
  show StableHlo.after hostOps0 _ (Proc.devRef .tc main_v9) = _
  after_results
  all_goals rfl

theorem w_v11 : W1 m ρ c (Proc.devRef .tc main_v11) = (concatenate S8x1024 0 [⟨S1x1024, (m ((c : Thread nD τ).loc main_arg9))⟩, ⟨S1x1024, (m ((c : Thread nD τ).loc main_arg10))⟩, ⟨S6x1024, (broadcastInDim S6x1024 ![] bcast_S_S6x1024 (constant S_ .f32 0x00000000#32))⟩] concatenates_S1x1024_S1x1024_S6x1024_S8x1024_d0 : FVec Ideal S8x1024 .f32) := by
  show StableHlo.after hostOps0 _ (Proc.devRef .tc main_v11) = _
  after_results
  all_goals rfl

theorem w_v13 : W1 m ρ c (Proc.devRef .tc main_v13) = (concatenate S8x1024 0 [⟨S1x1024, (m ((c : Thread nD τ).loc main_arg14))⟩, ⟨S1x1024, (m ((c : Thread nD τ).loc main_arg15))⟩, ⟨S6x1024, (broadcastInDim S6x1024 ![] bcast_S_S6x1024 (constant S_ .f32 0x00000000#32))⟩] concatenates_S1x1024_S1x1024_S6x1024_S8x1024_d0 : FVec Ideal S8x1024 .f32) := by
  show StableHlo.after hostOps0 _ (Proc.devRef .tc main_v13) = _
  after_results
  all_goals rfl

theorem w_v31 : W17 m ρ c (Proc.devRef .tc main_v31) = (Host.reduceAdd (shapeCast S1024 (extractStridedSlice S1x1024 ![0, 0] (W16 m ρ c (Proc.devRef .tc main_v17_2) : FVec Ideal S8x1024 .f32) slices_S8x1024_S1x1024_0_0) shapeCasts_S1x1024_S1024) (constant S_ .f32 0x00000000#32) reducesTo_S1024_S_d0 h_S_ : FVec Ideal S_ .f32) := by
  show StableHlo.after hostOps15 _ (Proc.devRef .tc main_v31) = _
  after_results
  all_goals rfl

theorem w_v36 : W17 m ρ c (Proc.devRef .tc main_v36) = (concatenate S4x1024 0 [⟨S1x1024, (extractStridedSlice S1x1024 ![4, 0] (W16 m ρ c (Proc.devRef .tc main_v22_2) : FVec Ideal S8x1024 .f32) slices_S8x1024_S1x1024_4_0)⟩, ⟨S1x1024, (extractStridedSlice S1x1024 ![1, 0] (W16 m ρ c (Proc.devRef .tc main_v22_2) : FVec Ideal S8x1024 .f32) slices_S8x1024_S1x1024_1_0)⟩, ⟨S1x1024, (extractStridedSlice S1x1024 ![0, 0] (W16 m ρ c (Proc.devRef .tc main_v22_2) : FVec Ideal S8x1024 .f32) slices_S8x1024_S1x1024_0_0)⟩, ⟨S1x1024, (extractStridedSlice S1x1024 ![3, 0] (W16 m ρ c (Proc.devRef .tc main_v17_2) : FVec Ideal S8x1024 .f32) slices_S8x1024_S1x1024_3_0)⟩] concatenates_S1x1024_S1x1024_S1x1024_S1x1024_S4x1024_d0 : FVec Ideal S4x1024 .f32) := by
  show StableHlo.after hostOps15 _ (Proc.devRef .tc main_v36) = _
  after_results
  all_goals rfl

theorem w_v37 : W17 m ρ c (Proc.devRef .tc main_v37) = ((extractStridedSlice S2x1024 ![0, 0] (W16 m ρ c (Proc.devRef .tc main_v24_3) : FVec Ideal S8x1024 .f32) slices_S8x1024_S2x1024_0_0) : FVec Ideal S2x1024 .f32) := by
  show StableHlo.after hostOps15 _ (Proc.devRef .tc main_v37) = _
  after_results
  all_goals rfl

theorem w_v38 : W17 m ρ c (Proc.devRef .tc main_v38) = ((extractStridedSlice S2x1024 ![2, 0] (W16 m ρ c (Proc.devRef .tc main_v22_2) : FVec Ideal S8x1024 .f32) slices_S8x1024_S2x1024_2_0) : FVec Ideal S2x1024 .f32) := by
  show StableHlo.after hostOps15 _ (Proc.devRef .tc main_v38) = _
  after_results
  all_goals rfl

theorem w_v39 : W17 m ρ c (Proc.devRef .tc main_v39) = ((extractStridedSlice S2x1024 ![1, 0] (W16 m ρ c (Proc.devRef .tc main_v17_2) : FVec Ideal S8x1024 .f32) slices_S8x1024_S2x1024_1_0) : FVec Ideal S2x1024 .f32) := by
  show StableHlo.after hostOps15 _ (Proc.devRef .tc main_v39) = _
  after_results
  all_goals rfl

variable (H : Args m c a)
include H

theorem v0_1 : T 1280 1024 .bf16 (V1 m ρ c main_v0) a.a5 :=
  of_eq w_v0 (isr_trunc bitsLt_bf16_f32 H.h5)
theorem v1_1 : T 1024 1024 .bf16 (V1 m ρ c main_v1) a.a6 :=
  of_eq w_v1 (isr_trunc bitsLt_bf16_f32 H.h6)
theorem v2_1 : T 1024 1024 .bf16 (V1 m ρ c main_v2) a.a8 :=
  of_eq w_v2 (isr_trunc bitsLt_bf16_f32 H.h8)
theorem v3_1 : T 1024 2816 .bf16 (V1 m ρ c main_v3) a.a11 :=
  of_eq w_v3 (isr_trunc bitsLt_bf16_f32 H.h11)
theorem v4_1 : T 1024 2816 .bf16 (V1 m ρ c main_v4) a.a12 :=
  of_eq w_v4 (isr_trunc bitsLt_bf16_f32 H.h12)
theorem v5_1 : T 2816 1024 .bf16 (V1 m ρ c main_v5) a.a13 :=
  of_eq w_v5 (isr_trunc bitsLt_bf16_f32 H.h13)
theorem v7_1 : T 8 1024 .f32 (V1 m ρ c main_v7) (md a) :=
  of_eq w_v7 (isr_cat62 H.h4 ((isr_bid0 (isr_const lit_zero) ![] bcast_S_S2x1024).congr fun i => rfl) concatenates_S6x1024_S2x1024_S8x1024_d0)
theorem v9_1 : T 8 1024 .f32 (V1 m ρ c main_v9) (bg a) :=
  of_eq w_v9 (isr_cat26 H.h7 ((isr_bid0 (isr_const lit_zero) ![] bcast_S_S6x1024).congr fun i => rfl) concatenates_S2x1024_S6x1024_S8x1024_d0)
theorem v11_1 : T 8 1024 .f32 (V1 m ρ c main_v11) (l1 a) :=
  of_eq w_v11 (isr_cat116 H.h9 H.h10 ((isr_bid0 (isr_const lit_zero) ![] bcast_S_S6x1024).congr fun i => rfl) concatenates_S1x1024_S1x1024_S6x1024_S8x1024_d0)
theorem v13_1 : T 8 1024 .f32 (V1 m ρ c main_v13) (l2 a) :=
  of_eq w_v13 (isr_cat116 H.h14 H.h15 ((isr_bid0 (isr_const lit_zero) ![] bcast_S_S6x1024).congr fun i => rfl) concatenates_S1x1024_S1x1024_S6x1024_S8x1024_d0)
theorem arg1_1 : T 16384 1280 .bf16 (V1 m ρ c main_arg1) a.a1 :=
  of_eq (W1_args m ρ c main_arg1 (by decide)) H.h1
theorem arg2_1 : T 16384 1024 .bf16 (V1 m ρ c main_arg2) a.a2 :=
  of_eq (W1_args m ρ c main_arg2 (by decide)) H.h2
theorem arg3_1 : T 16384 2048 .bf16 (V1 m ρ c main_arg3) a.a3 :=
  of_eq (W1_args m ρ c main_arg3 (by decide)) H.h3
theorem v2_2 : T 1024 1024 .bf16 (V2 m ρ c main_v2) a.a8 :=
  of_eq (W2_of m ρ c main_v2 (by decide +kernel)) (v2_1 H)
theorem v7_2 : T 8 1024 .f32 (V2 m ρ c main_v7) (md a) :=
  of_eq (W2_of m ρ c main_v7 (by decide +kernel)) (v7_1 H)
theorem v11_2 : T 8 1024 .f32 (V2 m ρ c main_v11) (l1 a) :=
  of_eq (W2_of m ρ c main_v11 (by decide +kernel)) (v11_1 H)
theorem v14_0_2 : T 16384 1024 .bf16 (V2 m ρ c main_v14_0) (k14_0 a) :=
  of_eq (W2_arr m ρ c 7) (R0.fin_7 (V1 m ρ) c (arg1_1 H) (v0_1 H) (arg2_1 H) (v1_1 H) (arg3_1 H) (v9_1 H))
theorem v14_1_2 : T 16384 1024 .bf16 (V2 m ρ c main_v14_1) (k14_1 a) :=
  of_eq (W2_arr m ρ c 8) (R0.fin_8 (V1 m ρ) c (arg1_1 H) (v0_1 H) (arg2_1 H) (v1_1 H) (arg3_1 H) (v9_1 H))
theorem v14_2_2 : T 16384 1024 .bf16 (V2 m ρ c main_v14_2) (k14_2 a) :=
  of_eq (W2_arr m ρ c 9) (R0.fin_9 (V1 m ρ) c (arg1_1 H) (v0_1 H) (arg2_1 H) (v1_1 H) (arg3_1 H) (v9_1 H))
theorem arg0_2 : T 16384 1024 .f32 (V2 m ρ c main_arg0) a.a0 :=
  of_eq (W2_args m ρ c main_arg0 (by decide)) H.h0
theorem v3_3 : T 1024 2816 .bf16 (V3 m ρ c main_v3) a.a11 :=
  of_eq (W3_of m ρ c main_v3 (by decide +kernel)) (of_eq (W2_of m ρ c main_v3 (by decide +kernel)) (v3_1 H))
theorem v4_3 : T 1024 2816 .bf16 (V3 m ρ c main_v4) a.a12 :=
  of_eq (W3_of m ρ c main_v4 (by decide +kernel)) (of_eq (W2_of m ρ c main_v4 (by decide +kernel)) (v4_1 H))
theorem v15_0_3 : T 16384 1024 .f32 (V3 m ρ c main_v15_0) (k15_0 a) :=
  of_eq (W3_arr m ρ c 5) (R1.fin_5 (V2 m ρ) c (v14_2_2 H) (v2_2 H) (arg0_2 H) (v7_2 H) (v11_2 H))
theorem v15_1_3 : T 16384 1024 .f32 (V3 m ρ c main_v15_1) (k15_1 a) :=
  of_eq (W3_arr m ρ c 6) (R1.fin_6 (V2 m ρ) c (v14_2_2 H) (v2_2 H) (arg0_2 H) (v7_2 H) (v11_2 H))
theorem v15_2_3 : T 16384 1024 .bf16 (V3 m ρ c main_v15_2) (k15_2 a) :=
  of_eq (W3_arr m ρ c 7) (R1.fin_7 (V2 m ρ) c (v14_2_2 H) (v2_2 H) (arg0_2 H) (v7_2 H) (v11_2 H))
theorem v5_4 : T 2816 1024 .bf16 (V4 m ρ c main_v5) a.a13 :=
  of_eq (W4_of m ρ c main_v5 (by decide +kernel)) (of_eq (W3_of m ρ c main_v5 (by decide +kernel)) (of_eq (W2_of m ρ c main_v5 (by decide +kernel)) (v5_1 H)))
theorem v7_4 : T 8 1024 .f32 (V4 m ρ c main_v7) (md a) :=
  of_eq (W4_of m ρ c main_v7 (by decide +kernel)) (of_eq (W3_of m ρ c main_v7 (by decide +kernel)) (v7_2 H))
theorem v13_4 : T 8 1024 .f32 (V4 m ρ c main_v13) (l2 a) :=
  of_eq (W4_of m ρ c main_v13 (by decide +kernel)) (of_eq (W3_of m ρ c main_v13 (by decide +kernel)) (of_eq (W2_of m ρ c main_v13 (by decide +kernel)) (v13_1 H)))
theorem v15_1_4 : T 16384 1024 .f32 (V4 m ρ c main_v15_1) (k15_1 a) :=
  of_eq (W4_of m ρ c main_v15_1 (by decide +kernel)) (v15_1_3 H)
theorem v16_0_4 : T 16384 2816 .bf16 (V4 m ρ c main_v16_0) (k16_0 a) :=
  of_eq (W4_arr m ρ c 4) (R2.fin_4 (V3 m ρ) c (v15_2_3 H) (v3_3 H) (v4_3 H))
theorem v16_1_4 : T 16384 2816 .bf16 (V4 m ρ c main_v16_1) (k16_1 a) :=
  of_eq (W4_arr m ρ c 5) (R2.fin_5 (V3 m ρ) c (v15_2_3 H) (v3_3 H) (v4_3 H))
theorem v16_2_4 : T 16384 2816 .bf16 (V4 m ρ c main_v16_2) (k16_2 a) :=
  of_eq (W4_arr m ρ c 6) (R2.fin_6 (V3 m ρ) c (v15_2_3 H) (v3_3 H) (v4_3 H))
theorem arg16_4 : T 16384 1024 .f32 (V4 m ρ c main_arg16) a.a16 :=
  of_eq (W4_args m ρ c main_arg16 (by decide)) H.h16
theorem v16_2_5 : T 16384 2816 .bf16 (V5 m ρ c main_v16_2) (k16_2 a) :=
  of_eq (W5_of m ρ c main_v16_2 (by decide +kernel)) (v16_2_4 H)
theorem v17_0_5 : T 16384 1024 .f32 (V5 m ρ c main_v17_0) (k17_0 a) :=
  of_eq (W5_arr m ρ c 6) (R3.fin_6 (V4 m ρ) c (v16_2_4 H) (v5_4 H) (v15_1_4 H) (arg16_4 H) (v7_4 H) (v13_4 H))
theorem v17_1_5 : T 16384 1024 .bf16 (V5 m ρ c main_v17_1) (k17_1 a) :=
  of_eq (W5_arr m ρ c 7) (R3.fin_7 (V4 m ρ) c (v16_2_4 H) (v5_4 H) (v15_1_4 H) (arg16_4 H) (v7_4 H) (v13_4 H))
theorem v17_2_5 : T 8 1024 .f32 (V5 m ρ c main_v17_2) (k17_2 a) :=
  of_eq (W5_arr m ρ c 8) (R3.fin_8 (V4 m ρ) c (v16_2_4 H) (v5_4 H) (v15_1_4 H) (arg16_4 H) (v7_4 H) (v13_4 H))
theorem v5_6 : T 2816 1024 .bf16 (V6 m ρ c main_v5) a.a13 :=
  of_eq (W6_of m ρ c main_v5 (by decide +kernel)) (of_eq (W5_of m ρ c main_v5 (by decide +kernel)) (v5_4 H))
theorem v16_0_6 : T 16384 2816 .bf16 (V6 m ρ c main_v16_0) (k16_0 a) :=
  of_eq (W6_of m ρ c main_v16_0 (by decide +kernel)) (of_eq (W5_of m ρ c main_v16_0 (by decide +kernel)) (v16_0_4 H))
theorem v16_1_6 : T 16384 2816 .bf16 (V6 m ρ c main_v16_1) (k16_1 a) :=
  of_eq (W6_of m ρ c main_v16_1 (by decide +kernel)) (of_eq (W5_of m ρ c main_v16_1 (by decide +kernel)) (v16_1_4 H))
theorem v17_1_6 : T 16384 1024 .bf16 (V6 m ρ c main_v17_1) (k17_1 a) :=
  of_eq (W6_of m ρ c main_v17_1 (by decide +kernel)) (v17_1_5 H)
theorem v18_6 : T 2816 1024 .f32 (V6 m ρ c main_v18) (k18 a) :=
  of_eq (W6_arr m ρ c 2) (R4.fin_2 (V5 m ρ) c (v16_2_5 H) (v17_1_5 H))
theorem v15_2_7 : T 16384 1024 .bf16 (V7 m ρ c main_v15_2) (k15_2 a) :=
  of_eq (W7_of m ρ c main_v15_2 (by decide +kernel)) (of_eq (W6_of m ρ c main_v15_2 (by decide +kernel)) (of_eq (W5_of m ρ c main_v15_2 (by decide +kernel)) (of_eq (W4_of m ρ c main_v15_2 (by decide +kernel)) (v15_2_3 H))))
theorem v19_0_7 : T 16384 2816 .bf16 (V7 m ρ c main_v19_0) (k19_0 a) :=
  of_eq (W7_arr m ρ c 4) (R5.fin_4 (V6 m ρ) c (v17_1_6 H) (v5_6 H) (v16_0_6 H) (v16_1_6 H))
theorem v19_1_7 : T 16384 2816 .bf16 (V7 m ρ c main_v19_1) (k19_1 a) :=
  of_eq (W7_arr m ρ c 5) (R5.fin_5 (V6 m ρ) c (v17_1_6 H) (v5_6 H) (v16_0_6 H) (v16_1_6 H))
theorem v15_2_8 : T 16384 1024 .bf16 (V8 m ρ c main_v15_2) (k15_2 a) :=
  of_eq (W8_of m ρ c main_v15_2 (by decide +kernel)) (v15_2_7 H)
theorem v19_1_8 : T 16384 2816 .bf16 (V8 m ρ c main_v19_1) (k19_1 a) :=
  of_eq (W8_of m ρ c main_v19_1 (by decide +kernel)) (v19_1_7 H)
theorem v20_8 : T 1024 2816 .f32 (V8 m ρ c main_v20) (k20 a) :=
  of_eq (W8_arr m ρ c 2) (R6.fin_2 (V7 m ρ) c (v15_2_7 H) (v19_0_7 H))
theorem v3_9 : T 1024 2816 .bf16 (V9 m ρ c main_v3) a.a11 :=
  of_eq (W9_of m ρ c main_v3 (by decide +kernel)) (of_eq (W8_of m ρ c main_v3 (by decide +kernel)) (of_eq (W7_of m ρ c main_v3 (by decide +kernel)) (of_eq (W6_of m ρ c main_v3 (by decide +kernel)) (of_eq (W5_of m ρ c main_v3 (by decide +kernel)) (of_eq (W4_of m ρ c main_v3 (by decide +kernel)) (v3_3 H))))))
theorem v4_9 : T 1024 2816 .bf16 (V9 m ρ c main_v4) a.a12 :=
  of_eq (W9_of m ρ c main_v4 (by decide +kernel)) (of_eq (W8_of m ρ c main_v4 (by decide +kernel)) (of_eq (W7_of m ρ c main_v4 (by decide +kernel)) (of_eq (W6_of m ρ c main_v4 (by decide +kernel)) (of_eq (W5_of m ρ c main_v4 (by decide +kernel)) (of_eq (W4_of m ρ c main_v4 (by decide +kernel)) (v4_3 H))))))
theorem v7_9 : T 8 1024 .f32 (V9 m ρ c main_v7) (md a) :=
  of_eq (W9_of m ρ c main_v7 (by decide +kernel)) (of_eq (W8_of m ρ c main_v7 (by decide +kernel)) (of_eq (W7_of m ρ c main_v7 (by decide +kernel)) (of_eq (W6_of m ρ c main_v7 (by decide +kernel)) (of_eq (W5_of m ρ c main_v7 (by decide +kernel)) (v7_4 H)))))
theorem v11_9 : T 8 1024 .f32 (V9 m ρ c main_v11) (l1 a) :=
  of_eq (W9_of m ρ c main_v11 (by decide +kernel)) (of_eq (W8_of m ρ c main_v11 (by decide +kernel)) (of_eq (W7_of m ρ c main_v11 (by decide +kernel)) (of_eq (W6_of m ρ c main_v11 (by decide +kernel)) (of_eq (W5_of m ρ c main_v11 (by decide +kernel)) (of_eq (W4_of m ρ c main_v11 (by decide +kernel)) (of_eq (W3_of m ρ c main_v11 (by decide +kernel)) (v11_2 H)))))))
theorem v15_0_9 : T 16384 1024 .f32 (V9 m ρ c main_v15_0) (k15_0 a) :=
  of_eq (W9_of m ρ c main_v15_0 (by decide +kernel)) (of_eq (W8_of m ρ c main_v15_0 (by decide +kernel)) (of_eq (W7_of m ρ c main_v15_0 (by decide +kernel)) (of_eq (W6_of m ρ c main_v15_0 (by decide +kernel)) (of_eq (W5_of m ρ c main_v15_0 (by decide +kernel)) (of_eq (W4_of m ρ c main_v15_0 (by decide +kernel)) (v15_0_3 H))))))
theorem v17_0_9 : T 16384 1024 .f32 (V9 m ρ c main_v17_0) (k17_0 a) :=
  of_eq (W9_of m ρ c main_v17_0 (by decide +kernel)) (of_eq (W8_of m ρ c main_v17_0 (by decide +kernel)) (of_eq (W7_of m ρ c main_v17_0 (by decide +kernel)) (of_eq (W6_of m ρ c main_v17_0 (by decide +kernel)) (v17_0_5 H))))
theorem v19_0_9 : T 16384 2816 .bf16 (V9 m ρ c main_v19_0) (k19_0 a) :=
  of_eq (W9_of m ρ c main_v19_0 (by decide +kernel)) (of_eq (W8_of m ρ c main_v19_0 (by decide +kernel)) (v19_0_7 H))
theorem v19_1_9 : T 16384 2816 .bf16 (V9 m ρ c main_v19_1) (k19_1 a) :=
  of_eq (W9_of m ρ c main_v19_1 (by decide +kernel)) (v19_1_8 H)
theorem v21_9 : T 1024 2816 .f32 (V9 m ρ c main_v21) (k21 a) :=
  of_eq (W9_arr m ρ c 2) (R7.fin_2 (V8 m ρ) c (v15_2_8 H) (v19_1_8 H))
theorem arg0_9 : T 16384 1024 .f32 (V9 m ρ c main_arg0) a.a0 :=
  of_eq (W9_args m ρ c main_arg0 (by decide)) H.h0
theorem v14_2_10 : T 16384 1024 .bf16 (V10 m ρ c main_v14_2) (k14_2 a) :=
  of_eq (W10_of m ρ c main_v14_2 (by decide +kernel)) (of_eq (W9_of m ρ c main_v14_2 (by decide +kernel)) (of_eq (W8_of m ρ c main_v14_2 (by decide +kernel)) (of_eq (W7_of m ρ c main_v14_2 (by decide +kernel)) (of_eq (W6_of m ρ c main_v14_2 (by decide +kernel)) (of_eq (W5_of m ρ c main_v14_2 (by decide +kernel)) (of_eq (W4_of m ρ c main_v14_2 (by decide +kernel)) (of_eq (W3_of m ρ c main_v14_2 (by decide +kernel)) (v14_2_2 H))))))))
theorem v22_0_10 : T 16384 1024 .f32 (V10 m ρ c main_v22_0) (k22_0 a) :=
  of_eq (W10_arr m ρ c 9) (R8.fin_9 (V9 m ρ) c (v19_0_9 H) (v3_9 H) (v19_1_9 H) (v4_9 H) (arg0_9 H) (v15_0_9 H) (v17_0_9 H) (v7_9 H) (v11_9 H))
theorem v22_1_10 : T 16384 1024 .bf16 (V10 m ρ c main_v22_1) (k22_1 a) :=
  of_eq (W10_arr m ρ c 10) (R8.fin_10 (V9 m ρ) c (v19_0_9 H) (v3_9 H) (v19_1_9 H) (v4_9 H) (arg0_9 H) (v15_0_9 H) (v17_0_9 H) (v7_9 H) (v11_9 H))
theorem v22_2_10 : T 8 1024 .f32 (V10 m ρ c main_v22_2) (k22_2 a) :=
  of_eq (W10_arr m ρ c 11) (R8.fin_11 (V9 m ρ) c (v19_0_9 H) (v3_9 H) (v19_1_9 H) (v4_9 H) (arg0_9 H) (v15_0_9 H) (v17_0_9 H) (v7_9 H) (v11_9 H))
theorem v2_11 : T 1024 1024 .bf16 (V11 m ρ c main_v2) a.a8 :=
  of_eq (W11_of m ρ c main_v2 (by decide +kernel)) (of_eq (W10_of m ρ c main_v2 (by decide +kernel)) (of_eq (W9_of m ρ c main_v2 (by decide +kernel)) (of_eq (W8_of m ρ c main_v2 (by decide +kernel)) (of_eq (W7_of m ρ c main_v2 (by decide +kernel)) (of_eq (W6_of m ρ c main_v2 (by decide +kernel)) (of_eq (W5_of m ρ c main_v2 (by decide +kernel)) (of_eq (W4_of m ρ c main_v2 (by decide +kernel)) (of_eq (W3_of m ρ c main_v2 (by decide +kernel)) (v2_2 H)))))))))
theorem v9_11 : T 8 1024 .f32 (V11 m ρ c main_v9) (bg a) :=
  of_eq (W11_of m ρ c main_v9 (by decide +kernel)) (of_eq (W10_of m ρ c main_v9 (by decide +kernel)) (of_eq (W9_of m ρ c main_v9 (by decide +kernel)) (of_eq (W8_of m ρ c main_v9 (by decide +kernel)) (of_eq (W7_of m ρ c main_v9 (by decide +kernel)) (of_eq (W6_of m ρ c main_v9 (by decide +kernel)) (of_eq (W5_of m ρ c main_v9 (by decide +kernel)) (of_eq (W4_of m ρ c main_v9 (by decide +kernel)) (of_eq (W3_of m ρ c main_v9 (by decide +kernel)) (of_eq (W2_of m ρ c main_v9 (by decide +kernel)) (v9_1 H))))))))))
theorem v14_0_11 : T 16384 1024 .bf16 (V11 m ρ c main_v14_0) (k14_0 a) :=
  of_eq (W11_of m ρ c main_v14_0 (by decide +kernel)) (of_eq (W10_of m ρ c main_v14_0 (by decide +kernel)) (of_eq (W9_of m ρ c main_v14_0 (by decide +kernel)) (of_eq (W8_of m ρ c main_v14_0 (by decide +kernel)) (of_eq (W7_of m ρ c main_v14_0 (by decide +kernel)) (of_eq (W6_of m ρ c main_v14_0 (by decide +kernel)) (of_eq (W5_of m ρ c main_v14_0 (by decide +kernel)) (of_eq (W4_of m ρ c main_v14_0 (by decide +kernel)) (of_eq (W3_of m ρ c main_v14_0 (by decide +kernel)) (v14_0_2 H)))))))))
theorem v14_1_11 : T 16384 1024 .bf16 (V11 m ρ c main_v14_1) (k14_1 a) :=
  of_eq (W11_of m ρ c main_v14_1 (by decide +kernel)) (of_eq (W10_of m ρ c main_v14_1 (by decide +kernel)) (of_eq (W9_of m ρ c main_v14_1 (by decide +kernel)) (of_eq (W8_of m ρ c main_v14_1 (by decide +kernel)) (of_eq (W7_of m ρ c main_v14_1 (by decide +kernel)) (of_eq (W6_of m ρ c main_v14_1 (by decide +kernel)) (of_eq (W5_of m ρ c main_v14_1 (by decide +kernel)) (of_eq (W4_of m ρ c main_v14_1 (by decide +kernel)) (of_eq (W3_of m ρ c main_v14_1 (by decide +kernel)) (v14_1_2 H)))))))))
theorem v22_1_11 : T 16384 1024 .bf16 (V11 m ρ c main_v22_1) (k22_1 a) :=
  of_eq (W11_of m ρ c main_v22_1 (by decide +kernel)) (v22_1_10 H)
theorem v23_11 : T 1024 1024 .f32 (V11 m ρ c main_v23) (k23 a) :=
  of_eq (W11_arr m ρ c 2) (R9.fin_2 (V10 m ρ) c (v14_2_10 H) (v22_1_10 H))
theorem arg3_11 : T 16384 2048 .bf16 (V11 m ρ c main_arg3) a.a3 :=
  of_eq (W11_args m ρ c main_arg3 (by decide)) H.h3
theorem v0_12 : T 1280 1024 .bf16 (V12 m ρ c main_v0) a.a5 :=
  of_eq (W12_of m ρ c main_v0 (by decide +kernel)) (of_eq (W11_of m ρ c main_v0 (by decide +kernel)) (of_eq (W10_of m ρ c main_v0 (by decide +kernel)) (of_eq (W9_of m ρ c main_v0 (by decide +kernel)) (of_eq (W8_of m ρ c main_v0 (by decide +kernel)) (of_eq (W7_of m ρ c main_v0 (by decide +kernel)) (of_eq (W6_of m ρ c main_v0 (by decide +kernel)) (of_eq (W5_of m ρ c main_v0 (by decide +kernel)) (of_eq (W4_of m ρ c main_v0 (by decide +kernel)) (of_eq (W3_of m ρ c main_v0 (by decide +kernel)) (of_eq (W2_of m ρ c main_v0 (by decide +kernel)) (v0_1 H)))))))))))
theorem v24_0_12 : T 16384 1024 .bf16 (V12 m ρ c main_v24_0) (k24_0 a) :=
  of_eq (W12_arr m ρ c 7) (R10.fin_7 (V11 m ρ) c (v22_1_11 H) (v2_11 H) (arg3_11 H) (v14_0_11 H) (v14_1_11 H) (v9_11 H))
theorem v24_1_12 : T 16384 1024 .bf16 (V12 m ρ c main_v24_1) (k24_1 a) :=
  of_eq (W12_arr m ρ c 8) (R10.fin_8 (V11 m ρ) c (v22_1_11 H) (v2_11 H) (arg3_11 H) (v14_0_11 H) (v14_1_11 H) (v9_11 H))
theorem v24_2_12 : T 16384 2048 .bf16 (V12 m ρ c main_v24_2) (k24_2 a) :=
  of_eq (W12_arr m ρ c 9) (R10.fin_9 (V11 m ρ) c (v22_1_11 H) (v2_11 H) (arg3_11 H) (v14_0_11 H) (v14_1_11 H) (v9_11 H))
theorem v24_3_12 : T 8 1024 .f32 (V12 m ρ c main_v24_3) (k24_3 a) :=
  of_eq (W12_arr m ρ c 10) (R10.fin_10 (V11 m ρ) c (v22_1_11 H) (v2_11 H) (arg3_11 H) (v14_0_11 H) (v14_1_11 H) (v9_11 H))
theorem v1_13 : T 1024 1024 .bf16 (V13 m ρ c main_v1) a.a6 :=
  of_eq (W13_of m ρ c main_v1 (by decide +kernel)) (of_eq (W12_of m ρ c main_v1 (by decide +kernel)) (of_eq (W11_of m ρ c main_v1 (by decide +kernel)) (of_eq (W10_of m ρ c main_v1 (by decide +kernel)) (of_eq (W9_of m ρ c main_v1 (by decide +kernel)) (of_eq (W8_of m ρ c main_v1 (by decide +kernel)) (of_eq (W7_of m ρ c main_v1 (by decide +kernel)) (of_eq (W6_of m ρ c main_v1 (by decide +kernel)) (of_eq (W5_of m ρ c main_v1 (by decide +kernel)) (of_eq (W4_of m ρ c main_v1 (by decide +kernel)) (of_eq (W3_of m ρ c main_v1 (by decide +kernel)) (of_eq (W2_of m ρ c main_v1 (by decide +kernel)) (v1_1 H))))))))))))
theorem v24_1_13 : T 16384 1024 .bf16 (V13 m ρ c main_v24_1) (k24_1 a) :=
  of_eq (W13_of m ρ c main_v24_1 (by decide +kernel)) (v24_1_12 H)
theorem v25_13 : T 16384 1280 .f32 (V13 m ρ c main_v25) (k25 a) :=
  of_eq (W13_arr m ρ c 2) (R11.fin_2 (V12 m ρ) c (v24_0_12 H) (v0_12 H))
theorem v24_0_14 : T 16384 1024 .bf16 (V14 m ρ c main_v24_0) (k24_0 a) :=
  of_eq (W14_of m ρ c main_v24_0 (by decide +kernel)) (of_eq (W13_of m ρ c main_v24_0 (by decide +kernel)) (v24_0_12 H))
theorem v26_14 : T 16384 1024 .f32 (V14 m ρ c main_v26) (k26 a) :=
  of_eq (W14_arr m ρ c 2) (R12.fin_2 (V13 m ρ) c (v24_1_13 H) (v1_13 H))
theorem arg1_14 : T 16384 1280 .bf16 (V14 m ρ c main_arg1) a.a1 :=
  of_eq (W14_args m ρ c main_arg1 (by decide)) H.h1
theorem v24_1_15 : T 16384 1024 .bf16 (V15 m ρ c main_v24_1) (k24_1 a) :=
  of_eq (W15_of m ρ c main_v24_1 (by decide +kernel)) (of_eq (W14_of m ρ c main_v24_1 (by decide +kernel)) (v24_1_13 H))
theorem v27_15 : T 1280 1024 .f32 (V15 m ρ c main_v27) (k27 a) :=
  of_eq (W15_arr m ρ c 2) (R13.fin_2 (V14 m ρ) c (arg1_14 H) (v24_0_14 H))
theorem arg2_15 : T 16384 1024 .bf16 (V15 m ρ c main_arg2) a.a2 :=
  of_eq (W15_args m ρ c main_arg2 (by decide)) H.h2
theorem v17_2_16 : T 8 1024 .f32 (W16 m ρ c (Proc.devRef .tc main_v17_2)) (k17_2 a) :=
  of_eq (W16_of m ρ c main_v17_2 (by decide +kernel)) (of_eq (W15_of m ρ c main_v17_2 (by decide +kernel)) (of_eq (W14_of m ρ c main_v17_2 (by decide +kernel)) (of_eq (W13_of m ρ c main_v17_2 (by decide +kernel)) (of_eq (W12_of m ρ c main_v17_2 (by decide +kernel)) (of_eq (W11_of m ρ c main_v17_2 (by decide +kernel)) (of_eq (W10_of m ρ c main_v17_2 (by decide +kernel)) (of_eq (W9_of m ρ c main_v17_2 (by decide +kernel)) (of_eq (W8_of m ρ c main_v17_2 (by decide +kernel)) (of_eq (W7_of m ρ c main_v17_2 (by decide +kernel)) (of_eq (W6_of m ρ c main_v17_2 (by decide +kernel)) (v17_2_5 H)))))))))))
theorem v22_2_16 : T 8 1024 .f32 (W16 m ρ c (Proc.devRef .tc main_v22_2)) (k22_2 a) :=
  of_eq (W16_of m ρ c main_v22_2 (by decide +kernel)) (of_eq (W15_of m ρ c main_v22_2 (by decide +kernel)) (of_eq (W14_of m ρ c main_v22_2 (by decide +kernel)) (of_eq (W13_of m ρ c main_v22_2 (by decide +kernel)) (of_eq (W12_of m ρ c main_v22_2 (by decide +kernel)) (of_eq (W11_of m ρ c main_v22_2 (by decide +kernel)) (v22_2_10 H))))))
theorem v24_3_16 : T 8 1024 .f32 (W16 m ρ c (Proc.devRef .tc main_v24_3)) (k24_3 a) :=
  of_eq (W16_of m ρ c main_v24_3 (by decide +kernel)) (of_eq (W15_of m ρ c main_v24_3 (by decide +kernel)) (of_eq (W14_of m ρ c main_v24_3 (by decide +kernel)) (of_eq (W13_of m ρ c main_v24_3 (by decide +kernel)) (v24_3_12 H))))
theorem v28_16 : T 1024 1024 .f32 (V16 m ρ c main_v28) (k28 a) :=
  of_eq (W16_arr m ρ c 2) (R14.fin_2 (V15 m ρ) c (arg2_15 H) (v24_1_15 H))
theorem v18_17 : T 2816 1024 .f32 (W17 m ρ c (Proc.devRef .tc main_v18)) (k18 a) :=
  of_eq (W17_of m ρ c main_v18 (by decide)) (of_eq (W16_of m ρ c main_v18 (by decide +kernel)) (of_eq (W15_of m ρ c main_v18 (by decide +kernel)) (of_eq (W14_of m ρ c main_v18 (by decide +kernel)) (of_eq (W13_of m ρ c main_v18 (by decide +kernel)) (of_eq (W12_of m ρ c main_v18 (by decide +kernel)) (of_eq (W11_of m ρ c main_v18 (by decide +kernel)) (of_eq (W10_of m ρ c main_v18 (by decide +kernel)) (of_eq (W9_of m ρ c main_v18 (by decide +kernel)) (of_eq (W8_of m ρ c main_v18 (by decide +kernel)) (of_eq (W7_of m ρ c main_v18 (by decide +kernel)) (v18_6 H)))))))))))
theorem v20_17 : T 1024 2816 .f32 (W17 m ρ c (Proc.devRef .tc main_v20)) (k20 a) :=
  of_eq (W17_of m ρ c main_v20 (by decide)) (of_eq (W16_of m ρ c main_v20 (by decide +kernel)) (of_eq (W15_of m ρ c main_v20 (by decide +kernel)) (of_eq (W14_of m ρ c main_v20 (by decide +kernel)) (of_eq (W13_of m ρ c main_v20 (by decide +kernel)) (of_eq (W12_of m ρ c main_v20 (by decide +kernel)) (of_eq (W11_of m ρ c main_v20 (by decide +kernel)) (of_eq (W10_of m ρ c main_v20 (by decide +kernel)) (of_eq (W9_of m ρ c main_v20 (by decide +kernel)) (v20_8 H)))))))))
theorem v21_17 : T 1024 2816 .f32 (W17 m ρ c (Proc.devRef .tc main_v21)) (k21 a) :=
  of_eq (W17_of m ρ c main_v21 (by decide)) (of_eq (W16_of m ρ c main_v21 (by decide +kernel)) (of_eq (W15_of m ρ c main_v21 (by decide +kernel)) (of_eq (W14_of m ρ c main_v21 (by decide +kernel)) (of_eq (W13_of m ρ c main_v21 (by decide +kernel)) (of_eq (W12_of m ρ c main_v21 (by decide +kernel)) (of_eq (W11_of m ρ c main_v21 (by decide +kernel)) (of_eq (W10_of m ρ c main_v21 (by decide +kernel)) (v21_9 H))))))))
theorem v22_0_17 : T 16384 1024 .f32 (W17 m ρ c (Proc.devRef .tc main_v22_0)) (k22_0 a) :=
  of_eq (W17_of m ρ c main_v22_0 (by decide)) (of_eq (W16_of m ρ c main_v22_0 (by decide +kernel)) (of_eq (W15_of m ρ c main_v22_0 (by decide +kernel)) (of_eq (W14_of m ρ c main_v22_0 (by decide +kernel)) (of_eq (W13_of m ρ c main_v22_0 (by decide +kernel)) (of_eq (W12_of m ρ c main_v22_0 (by decide +kernel)) (of_eq (W11_of m ρ c main_v22_0 (by decide +kernel)) (v22_0_10 H)))))))
theorem v23_17 : T 1024 1024 .f32 (W17 m ρ c (Proc.devRef .tc main_v23)) (k23 a) :=
  of_eq (W17_of m ρ c main_v23 (by decide)) (of_eq (W16_of m ρ c main_v23 (by decide +kernel)) (of_eq (W15_of m ρ c main_v23 (by decide +kernel)) (of_eq (W14_of m ρ c main_v23 (by decide +kernel)) (of_eq (W13_of m ρ c main_v23 (by decide +kernel)) (of_eq (W12_of m ρ c main_v23 (by decide +kernel)) (v23_11 H))))))
theorem v24_2_17 : T 16384 2048 .bf16 (W17 m ρ c (Proc.devRef .tc main_v24_2)) (k24_2 a) :=
  of_eq (W17_of m ρ c main_v24_2 (by decide)) (of_eq (W16_of m ρ c main_v24_2 (by decide +kernel)) (of_eq (W15_of m ρ c main_v24_2 (by decide +kernel)) (of_eq (W14_of m ρ c main_v24_2 (by decide +kernel)) (of_eq (W13_of m ρ c main_v24_2 (by decide +kernel)) (v24_2_12 H)))))
theorem v25_17 : T 16384 1280 .f32 (W17 m ρ c (Proc.devRef .tc main_v25)) (k25 a) :=
  of_eq (W17_of m ρ c main_v25 (by decide)) (of_eq (W16_of m ρ c main_v25 (by decide +kernel)) (of_eq (W15_of m ρ c main_v25 (by decide +kernel)) (of_eq (W14_of m ρ c main_v25 (by decide +kernel)) (v25_13 H))))
theorem v26_17 : T 16384 1024 .f32 (W17 m ρ c (Proc.devRef .tc main_v26)) (k26 a) :=
  of_eq (W17_of m ρ c main_v26 (by decide)) (of_eq (W16_of m ρ c main_v26 (by decide +kernel)) (of_eq (W15_of m ρ c main_v26 (by decide +kernel)) (v26_14 H)))
theorem v27_17 : T 1280 1024 .f32 (W17 m ρ c (Proc.devRef .tc main_v27)) (k27 a) :=
  of_eq (W17_of m ρ c main_v27 (by decide)) (of_eq (W16_of m ρ c main_v27 (by decide +kernel)) (v27_15 H))
theorem v28_17 : T 1024 1024 .f32 (W17 m ρ c (Proc.devRef .tc main_v28)) (k28 a) :=
  of_eq (W17_of m ρ c main_v28 (by decide)) (v28_16 H)
theorem v31_17 : IsR (s := S_) (φ := .f32) (W17 m ρ c (Proc.devRef .tc main_v31)) (fun _ => ∑ d : Fin 1024, k17_2 a 0 d.val) :=
  of_eq w_v31 ((isr_hredall (isr_uncast_row (isr_slice_row (v17_2_16 H) slices_S8x1024_S1x1024_0_0) shapeCasts_S1x1024_S1024) (isr_const lit_zero) reducesTo_S1024_S_d0 h_S_).congr fun i => rfl)
theorem v36_17 : IsR (s := S4x1024) (φ := .f32) (W17 m ρ c (Proc.devRef .tc main_v36)) (N2 fun r d => if r = 0 then k22_2 a 4 d else if r = 1 then k22_2 a 1 d else if r = 2 then k22_2 a 0 d else k17_2 a 3 d) :=
  of_eq w_v36 (isr_cat4 (isr_slice_row (v22_2_16 H) slices_S8x1024_S1x1024_4_0) (isr_slice_row (v22_2_16 H) slices_S8x1024_S1x1024_1_0) (isr_slice_row (v22_2_16 H) slices_S8x1024_S1x1024_0_0) (isr_slice_row (v17_2_16 H) slices_S8x1024_S1x1024_3_0) concatenates_S1x1024_S1x1024_S1x1024_S1x1024_S4x1024_d0)
theorem v37_17 : IsR (s := S2x1024) (φ := .f32) (W17 m ρ c (Proc.devRef .tc main_v37)) (N2 (k24_3 a)) :=
  of_eq w_v37 (isr_slice00 (v24_3_16 H) slices_S8x1024_S2x1024_0_0)
theorem v38_17 : IsR (s := S2x1024) (φ := .f32) (W17 m ρ c (Proc.devRef .tc main_v38)) (N2 fun r d => k22_2 a (2 + r) d) :=
  of_eq w_v38 (isr_slice_rows (v22_2_16 H) slices_S8x1024_S2x1024_2_0)
theorem v39_17 : IsR (s := S2x1024) (φ := .f32) (W17 m ρ c (Proc.devRef .tc main_v39)) (N2 fun r d => k17_2 a (1 + r) d) :=
  of_eq w_v39 (isr_slice_rows (v17_2_16 H) slices_S8x1024_S2x1024_1_0)

end Cert.Tail.Ends

end
-- ==== Proof.Tail.RefIsrB.lean ====
/-
  The reference's operations on real arguments, from the loss to the gradients (untrusted).
-/
module

public import proofs.«01_k».proof.Proof.Tail.RefIsrA

@[expose] public section

set_option maxRecDepth 16384

noncomputable section

open Idealize.ShloMosaic

namespace Cert.Tail

open Cert.ReferenceIdeal Cert.ReferenceIdeal.Gen Cert.ReferenceIdeal.Read

variable {x0 : FVec Ideal S16384x1024 .f32} {x1 : FVec Ideal S16384x1280 .bf16} {x2 : FVec Ideal S16384x1024 .bf16} {x3 : FVec Ideal S16384x2048 .bf16} {x4 : FVec Ideal S6x1024 .f32} {x5 : FVec Ideal S1280x1024 .f32} {x6 : FVec Ideal S1024x1024 .f32} {x7 : FVec Ideal S2x1024 .f32} {x8 : FVec Ideal S1024x1024 .f32} {x9 : FVec Ideal S1x1024 .f32} {x10 : FVec Ideal S1x1024 .f32} {x11 : FVec Ideal S1024x2816 .f32} {x12 : FVec Ideal S1024x2816 .f32} {x13 : FVec Ideal S2816x1024 .f32} {x14 : FVec Ideal S1x1024 .f32} {x15 : FVec Ideal S1x1024 .f32} {x16 : FVec Ideal S16384x1024 .f32} {a : A}
variable (H : Hyp x0 x1 x2 x3 x4 x5 x6 x7 x8 x9 x10 x11 x12 x13 x14 x15 x16 a)
include H

theorem icst_34 : IsR (s := S_) (φ := .f32) (val_main_cst_34 (F := Ideal)) (fun _ => (1/2)) := (isr_const lit_half).congr fun _ => rfl
theorem icst_35 : IsR (s := S_) (φ := .f32) (val_main_cst_35 (F := Ideal)) (fun _ => 1) := (isr_const lit_one).congr fun _ => rfl
theorem i151 : IsR (s := S_) (φ := .f32) (val_main_v151 (F := Ideal)) (fun _ => r151 a 0 0) := (isr_mul (icst_34 H) (icst_35 H)).congr fun _ => rfl
theorem i152 : IsR (s := S16384) (φ := .f32) (val_main_v152 (F := Ideal)) (N1 fun r d => r151 a 0 0) := (isr_bid0 (i151 H) ![] bcast_S_S16384).congr fun _ => rfl
theorem icst_36 : IsR (s := S_) (φ := .f32) (val_main_cst_36 (F := Ideal)) (fun _ => 1024) := (isr_const lit_lanes).congr fun _ => rfl
theorem i153 : IsR (s := S16384) (φ := .f32) (val_main_v153 (F := Ideal)) (N1 fun r d => 1024) := (isr_bid0 (icst_36 H) ![] bcast_S_S16384).congr fun _ => rfl
theorem i154 : IsR (s := S16384) (φ := .f32) (val_main_v154 (F := Ideal)) (N1 fun r d => r154 a r 0) := (isr_hdiv (i152 H) (i153 H) (fun _ => by norm_num)).congr fun _ => rfl
theorem i155 : T 16384 1024 .f32 (val_main_v155 (F := Ideal)) (fun r d => r154 a r 0) := (isr_bid_d0 (i154 H) bcast_S16384_S16384x1024_0).congr fun _ => rfl
theorem i156 : T 16384 1024 .f32 (val_main_v156 (F := Ideal) x0 x1 x2 x3 x4 x5 x6 x7 x8 x9 x10 x11 x12 x13 x14 x15 x16) (r156 a) := (isr_mul (i155 H) (i145 H)).congr fun _ => rfl
theorem icst_37 : IsR (s := S_) (φ := .f32) (val_main_cst_37 (F := Ideal)) (fun _ => 0) := (isr_const lit_zero).congr fun _ => rfl
theorem i157 : IsR (s := S1024) (φ := .f32) (val_main_v157 (F := Ideal) x0 x1 x2 x3 x4 x5 x6 x7 x8 x9 x10 x11 x12 x13 x14 x15 x16) (N1 fun r d => r157 a r 0) := (isr_hred0 (i156 H) (icst_37 H) reducesTo_S16384x1024_S1024_d0 h_S_).congr fun _ => rfl
theorem i158 : T 1 1024 .f32 (val_main_v158 (F := Ideal) x0 x1 x2 x3 x4 x5 x6 x7 x8 x9 x10 x11 x12 x13 x14 x15 x16) (fun r d => r157 a d 0) := (isr_cast_row (i157 H) shapeCasts_S1024_S1x1024).congr fun _ => rfl
theorem i159 : T 16384 1024 .f32 (val_main_v159 (F := Ideal) x0 x1 x2 x3 x4 x5 x6 x7 x8 x9 x10 x11 x12 x13 x14 x15 x16) (r159 a) := (isr_mul (i137 H) (i156 H)).congr fun _ => rfl
theorem icst_38 : IsR (s := S_) (φ := .f32) (val_main_cst_38 (F := Ideal)) (fun _ => 0) := (isr_const lit_zero).congr fun _ => rfl
theorem i160 : IsR (s := S1024) (φ := .f32) (val_main_v160 (F := Ideal) x0 x1 x2 x3 x4 x5 x6 x7 x8 x9 x10 x11 x12 x13 x14 x15 x16) (N1 fun r d => r160 a r 0) := (isr_hred0 (i159 H) (icst_38 H) reducesTo_S16384x1024_S1024_d0 h_S_).congr fun _ => rfl
theorem i161 : T 1 1024 .f32 (val_main_v161 (F := Ideal) x0 x1 x2 x3 x4 x5 x6 x7 x8 x9 x10 x11 x12 x13 x14 x15 x16) (fun r d => r160 a d 0) := (isr_cast_row (i160 H) shapeCasts_S1024_S1x1024).congr fun _ => rfl
theorem i162 : T 16384 1024 .f32 (val_main_v162 (F := Ideal) x14) (fun r d => a.a14 0 d) := (isr_bid_row H.h14 bcast_S1x1024_S16384x1024_0_1).congr fun _ => rfl
theorem i163 : T 16384 1024 .f32 (val_main_v163 (F := Ideal) x0 x1 x2 x3 x4 x5 x6 x7 x8 x9 x10 x11 x12 x13 x14 x15 x16) (r163 a) := (isr_mul (i156 H) (i162 H)).congr fun _ => rfl
theorem i164 : T 16384 1024 .f32 (val_main_v164 (F := Ideal) x0 x1 x2 x3 x4 x5 x6 x7 x8 x9 x10 x11 x12 x13 x14 x15 x16) (r164 a) := (isr_mul (i129 H) (i163 H)).congr fun _ => rfl
theorem icst_39 : IsR (s := S_) (φ := .f32) (val_main_cst_39 (F := Ideal)) (fun _ => 0) := (isr_const lit_zero).congr fun _ => rfl
theorem i165 : IsR (s := S16384) (φ := .f32) (val_main_v165 (F := Ideal) x0 x1 x2 x3 x4 x5 x6 x7 x8 x9 x10 x11 x12 x13 x14 x15 x16) (N1 fun r d => r165 a r 0) := (isr_hred1 (i164 H) (icst_39 H) reducesTo_S16384x1024_S16384_d1 h_S_).congr fun _ => rfl
theorem i166 : T 16384 1 .f32 (val_main_v166 (F := Ideal) x0 x1 x2 x3 x4 x5 x6 x7 x8 x9 x10 x11 x12 x13 x14 x15 x16) (fun r d => r165 a r 0) := (isr_cast_col16384 (i165 H) shapeCasts_S16384_S16384x1).congr fun _ => rfl
theorem i167 : T 16384 1024 .f32 (val_main_v167 (F := Ideal) x0 x1 x2 x3 x4 x5 x6 x7 x8 x9 x10 x11 x12 x13) (fun r d => r132 a r 0) := (isr_bid_col (i132 H) bcast_S16384x1_S16384x1024_0_1).congr fun _ => rfl
theorem i168 : T 16384 1024 .f32 (val_main_v168 (F := Ideal) x0 x1 x2 x3 x4 x5 x6 x7 x8 x9 x10 x11 x12 x13 x14 x15 x16) (r168 a) := (isr_mul (i163 H) (i167 H)).congr fun _ => rfl
theorem i169 : T 16384 1 .f32 (val_main_v169 (F := Ideal) x0 x1 x2 x3 x4 x5 x6 x7 x8 x9 x10 x11 x12 x13 x14 x15 x16) (r169 a) := (isr_mul (i166 H) (i135 H)).congr fun _ => rfl
theorem i170 : T 16384 1024 .f32 (val_main_v170 (F := Ideal) x0 x1 x2 x3 x4 x5 x6 x7 x8 x9 x10 x11 x12 x13 x14 x15 x16) (r170 a) := (isr_neg (i168 H)).congr fun _ => rfl
theorem icst_40 : IsR (s := S_) (φ := .f32) (val_main_cst_40 (F := Ideal)) (fun _ => 0) := (isr_const lit_zero).congr fun _ => rfl
theorem i171 : IsR (s := S16384) (φ := .f32) (val_main_v171 (F := Ideal) x0 x1 x2 x3 x4 x5 x6 x7 x8 x9 x10 x11 x12 x13 x14 x15 x16) (N1 fun r d => r171 a r 0) := (isr_hred1 (i170 H) (icst_40 H) reducesTo_S16384x1024_S16384_d1 h_S_).congr fun _ => rfl
theorem i172 : T 16384 1 .f32 (val_main_v172 (F := Ideal) x0 x1 x2 x3 x4 x5 x6 x7 x8 x9 x10 x11 x12 x13 x14 x15 x16) (fun r d => r171 a r 0) := (isr_cast_col16384 (i171 H) shapeCasts_S16384_S16384x1).congr fun _ => rfl
theorem icst_41 : IsR (s := S_) (φ := .f32) (val_main_cst_41 (F := Ideal)) (fun _ => 1024) := (isr_const lit_lanes).congr fun _ => rfl
theorem i173 : T 16384 1 .f32 (val_main_v173 (F := Ideal)) (fun r d => 1024) := (isr_bid0 (icst_41 H) ![] bcast_S_S16384x1).congr fun _ => rfl
theorem i174 : T 16384 1 .f32 (val_main_v174 (F := Ideal) x0 x1 x2 x3 x4 x5 x6 x7 x8 x9 x10 x11 x12 x13 x14 x15 x16) (r174 a) := (isr_hdiv (i169 H) (i173 H) (fun _ => by norm_num)).congr fun _ => rfl
theorem icst_42 : IsR (s := S_) (φ := .f32) (val_main_cst_42 (F := Ideal)) (fun _ => 0) := (isr_const lit_zero).congr fun _ => rfl
theorem i175 : IsR (s := S16384) (φ := .f32) (val_main_v175 (F := Ideal) x0 x1 x2 x3 x4 x5 x6 x7 x8 x9 x10 x11 x12 x13 x14 x15 x16) (N1 fun r d => r175 a r 0) := (isr_hred1 (i174 H) (icst_42 H) reducesTo_S16384x1_S16384_d1 h_S_).congr fun _ => rfl
theorem i176 : T 16384 1024 .f32 (val_main_v176 (F := Ideal) x0 x1 x2 x3 x4 x5 x6 x7 x8 x9 x10 x11 x12 x13 x14 x15 x16) (fun r d => r175 a r 0) := (isr_bid_d0 (i175 H) bcast_S16384_S16384x1024_0).congr fun _ => rfl
theorem i177 : T 16384 1024 .f32 (val_main_v177 (F := Ideal) x0 x1 x2 x3 x4 x5 x6 x7 x8 x9 x10 x11 x12 x13 x14 x15 x16) (r177 a) := (isr_mul (i176 H) (i123 H)).congr fun _ => rfl
theorem i178 : T 16384 1024 .f32 (val_main_v178 (F := Ideal) x0 x1 x2 x3 x4 x5 x6 x7 x8 x9 x10 x11 x12 x13 x14 x15 x16) (r178 a) := (isr_neg (i177 H)).congr fun _ => rfl
theorem icst_43 : IsR (s := S_) (φ := .f32) (val_main_cst_43 (F := Ideal)) (fun _ => 0) := (isr_const lit_zero).congr fun _ => rfl
theorem i179 : IsR (s := S16384) (φ := .f32) (val_main_v179 (F := Ideal) x0 x1 x2 x3 x4 x5 x6 x7 x8 x9 x10 x11 x12 x13 x14 x15 x16) (N1 fun r d => r179 a r 0) := (isr_hred1 (i178 H) (icst_43 H) reducesTo_S16384x1024_S16384_d1 h_S_).congr fun _ => rfl
theorem i180 : T 16384 1 .f32 (val_main_v180 (F := Ideal) x0 x1 x2 x3 x4 x5 x6 x7 x8 x9 x10 x11 x12 x13 x14 x15 x16) (fun r d => r179 a r 0) := (isr_cast_col16384 (i179 H) shapeCasts_S16384_S16384x1).congr fun _ => rfl
theorem i181 : T 16384 1024 .f32 (val_main_v181 (F := Ideal) x0 x1 x2 x3 x4 x5 x6 x7 x8 x9 x10 x11 x12 x13 x14 x15 x16) (r181 a) := (isr_add (i168 H) (i177 H)).congr fun _ => rfl
theorem i182 : T 16384 1 .f32 (val_main_v182 (F := Ideal) x0 x1 x2 x3 x4 x5 x6 x7 x8 x9 x10 x11 x12 x13 x14 x15 x16) (r182 a) := (isr_add (i172 H) (i180 H)).congr fun _ => rfl
theorem icst_44 : IsR (s := S_) (φ := .f32) (val_main_cst_44 (F := Ideal)) (fun _ => 1024) := (isr_const lit_lanes).congr fun _ => rfl
theorem i183 : T 16384 1 .f32 (val_main_v183 (F := Ideal)) (fun r d => 1024) := (isr_bid0 (icst_44 H) ![] bcast_S_S16384x1).congr fun _ => rfl
theorem i184 : T 16384 1 .f32 (val_main_v184 (F := Ideal) x0 x1 x2 x3 x4 x5 x6 x7 x8 x9 x10 x11 x12 x13 x14 x15 x16) (r184 a) := (isr_hdiv (i182 H) (i183 H) (fun _ => by norm_num)).congr fun _ => rfl
theorem icst_45 : IsR (s := S_) (φ := .f32) (val_main_cst_45 (F := Ideal)) (fun _ => 0) := (isr_const lit_zero).congr fun _ => rfl
theorem i185 : IsR (s := S16384) (φ := .f32) (val_main_v185 (F := Ideal) x0 x1 x2 x3 x4 x5 x6 x7 x8 x9 x10 x11 x12 x13 x14 x15 x16) (N1 fun r d => r185 a r 0) := (isr_hred1 (i184 H) (icst_45 H) reducesTo_S16384x1_S16384_d1 h_S_).congr fun _ => rfl
theorem i186 : T 16384 1024 .f32 (val_main_v186 (F := Ideal) x0 x1 x2 x3 x4 x5 x6 x7 x8 x9 x10 x11 x12 x13 x14 x15 x16) (fun r d => r185 a r 0) := (isr_bid_d0 (i185 H) bcast_S16384_S16384x1024_0).congr fun _ => rfl
theorem i187 : T 16384 1024 .f32 (val_main_v187 (F := Ideal) x0 x1 x2 x3 x4 x5 x6 x7 x8 x9 x10 x11 x12 x13 x14 x15 x16) (r187 a) := (isr_add (i181 H) (i186 H)).congr fun _ => rfl
theorem i188 : T 16384 1024 .f32 (val_main_v188 (F := Ideal) x4) (fun r d => a.a4 5 d) := (isr_bid_row (i9 H) bcast_S1x1024_S16384x1024_0_1).congr fun _ => rfl
theorem i189 : T 16384 1024 .f32 (val_main_v189 (F := Ideal) x0 x1 x2 x3 x4 x5 x6 x7 x8 x9 x10 x11 x12 x13 x14 x15 x16) (r189 a) := (isr_mul (i188 H) (i187 H)).congr fun _ => rfl
theorem i190 : T 16384 1024 .f32 (val_main_v190 (F := Ideal) x0 x1 x2 x3 x4 x5 x6 x7 x8 x9 x10 x11 x12 x13 x14 x15 x16) (r190 a) := (isr_mul (i187 H) (i109 H)).congr fun _ => rfl
theorem icst_46 : IsR (s := S_) (φ := .f32) (val_main_cst_46 (F := Ideal)) (fun _ => 0) := (isr_const lit_zero).congr fun _ => rfl
theorem i191 : IsR (s := S1024) (φ := .f32) (val_main_v191 (F := Ideal) x0 x1 x2 x3 x4 x5 x6 x7 x8 x9 x10 x11 x12 x13 x14 x15 x16) (N1 fun r d => r191 a r 0) := (isr_hred0 (i190 H) (icst_46 H) reducesTo_S16384x1024_S1024_d0 h_S_).congr fun _ => rfl
theorem i192 : T 1 1024 .f32 (val_main_v192 (F := Ideal) x0 x1 x2 x3 x4 x5 x6 x7 x8 x9 x10 x11 x12 x13 x14 x15 x16) (fun r d => r191 a d 0) := (isr_cast_row (i191 H) shapeCasts_S1024_S1x1024).congr fun _ => rfl
theorem icst_47 : IsR (s := S_) (φ := .f32) (val_main_cst_47 (F := Ideal)) (fun _ => alphaR) := (isr_const lit_alpha).congr fun _ => rfl
theorem i193 : T 16384 1024 .f32 (val_main_v193 (F := Ideal)) (fun r d => alphaR) := (isr_bid0 (icst_47 H) ![] bcast_S_S16384x1024).congr fun _ => rfl
theorem i194 : T 16384 1024 .f32 (val_main_v194 (F := Ideal) x0 x1 x2 x3 x4 x5 x6 x7 x8 x9 x10 x11 x12 x13 x14 x15 x16) (r194 a) := (isr_mul (i193 H) (i187 H)).congr fun _ => rfl
theorem i195 : T 1024 2816 .f32 (val_main_v195 (F := Ideal) x0 x1 x2 x3 x4 x5 x6 x7 x8 x9 x10 x11 x12 x13 x14 x15 x16) (r195 a) := (ish_S16384x1024_S16384x2816_S1024x2816_0_0_1_1_n_n (i189 H) (i108 H)).congr fun _ => rfl
theorem i196 : T 2816 1024 .f32 (val_main_v196 (F := Ideal) x0 x1 x2 x3 x4 x5 x6 x7 x8 x9 x10 x11 x12 x13 x14 x15 x16) (fun r d => r195 a d r) := (isr_transpose (i195 H) transposes_S1024x2816_S2816x1024_1_0).congr fun _ => rfl
theorem i197 : T 16384 2816 .f32 (val_main_v197 (F := Ideal) x0 x1 x2 x3 x4 x5 x6 x7 x8 x9 x10 x11 x12 x13 x14 x15 x16) (r197 a) := (ish_S16384x1024_S2816x1024_S16384x2816_1_1_0_0_n_n (i189 H) H.h13).congr fun _ => rfl
theorem i198 : T 16384 2816 .f32 (val_main_v198 (F := Ideal) x0 x1 x2 x3 x4 x5 x6 x7 x8 x9 x10 x11 x12 x13 x14 x15 x16) (r198 a) := (isr_mul (i106_0 H) (i197 H)).congr fun _ => rfl
theorem i199 : T 16384 2816 .f32 (val_main_v199 (F := Ideal) x0 x1 x2 x3 x4 x5 x6 x7 x8 x9 x10 x11 x12 x13 x14 x15 x16) (r199 a) := (isr_mul (i197 H) (i107 H)).congr fun _ => rfl
theorem i200 : T 2816 1024 .f32 (val_main_v200 (F := Ideal) x0 x1 x2 x3 x4 x5 x6 x7 x8 x9 x10 x11 x12 x13 x14 x15 x16) (r200 a) := (ish_S16384x2816_S16384x1024_S2816x1024_0_0_1_1_n_n (i198 H) (i104 H)).congr fun _ => rfl
theorem i201 : T 1024 2816 .f32 (val_main_v201 (F := Ideal) x0 x1 x2 x3 x4 x5 x6 x7 x8 x9 x10 x11 x12 x13 x14 x15 x16) (fun r d => r200 a d r) := (isr_transpose (i200 H) transposes_S2816x1024_S1024x2816_1_0).congr fun _ => rfl
theorem i202 : T 16384 1024 .f32 (val_main_v202 (F := Ideal) x0 x1 x2 x3 x4 x5 x6 x7 x8 x9 x10 x11 x12 x13 x14 x15 x16) (r202 a) := (ish_S16384x2816_S1024x2816_S16384x1024_1_1_0_0_n_n (i198 H) H.h12).congr fun _ => rfl
theorem icall1_v0 : T 16384 2816 .f32 (val_main_call1_v0 (F := Ideal) x0 x1 x2 x3 x4 x5 x6 x7 x8 x9 x10 x11 x12 x13 x14 x15 x16) (rcall1_v0 a) := (isr_mul (i105 H) (i199 H)).congr fun _ => rfl
theorem icall1_v1 : T 16384 2816 .f32 (val_main_call1_v1 (F := Ideal) x0 x1 x2 x3 x4 x5 x6 x7 x8 x9 x10 x11 x12 x13 x14 x15 x16) (rcall1_v1 a) := (isr_mul (i199 H) (i106_2 H)).congr fun _ => rfl
theorem icall1_v2 : T 16384 2816 .f32 (val_main_call1_v2 (F := Ideal) x0 x1 x2 x3 x4 x5 x6 x7 x8 x9 x10 x11 x12 x13 x14 x15 x16) (rcall1_v2 a) := (isr_mul (icall1_v0 H) (i106_1 H)).congr fun _ => rfl
theorem i203 : T 16384 2816 .f32 (val_main_v203 (F := Ideal) x0 x1 x2 x3 x4 x5 x6 x7 x8 x9 x10 x11 x12 x13 x14 x15 x16) (r203 a) := (isr_add (icall1_v1 H) (icall1_v2 H)).congr fun _ => rfl
theorem i204 : T 2816 1024 .f32 (val_main_v204 (F := Ideal) x0 x1 x2 x3 x4 x5 x6 x7 x8 x9 x10 x11 x12 x13 x14 x15 x16) (r204 a) := (ish_S16384x2816_S16384x1024_S2816x1024_0_0_1_1_n_n (i203 H) (i104 H)).congr fun _ => rfl
theorem i205 : T 1024 2816 .f32 (val_main_v205 (F := Ideal) x0 x1 x2 x3 x4 x5 x6 x7 x8 x9 x10 x11 x12 x13 x14 x15 x16) (fun r d => r204 a d r) := (isr_transpose (i204 H) transposes_S2816x1024_S1024x2816_1_0).congr fun _ => rfl
theorem i206 : T 16384 1024 .f32 (val_main_v206 (F := Ideal) x0 x1 x2 x3 x4 x5 x6 x7 x8 x9 x10 x11 x12 x13 x14 x15 x16) (r206 a) := (ish_S16384x2816_S1024x2816_S16384x1024_1_1_0_0_n_n (i203 H) H.h11).congr fun _ => rfl
theorem i207 : T 16384 1024 .f32 (val_main_v207 (F := Ideal) x0 x1 x2 x3 x4 x5 x6 x7 x8 x9 x10 x11 x12 x13 x14 x15 x16) (r207 a) := (isr_add (i202 H) (i206 H)).congr fun _ => rfl
theorem icst_48 : IsR (s := S_) (φ := .f32) (val_main_cst_48 (F := Ideal)) (fun _ => 0) := (isr_const lit_zero).congr fun _ => rfl
theorem i208 : IsR (s := S1024) (φ := .f32) (val_main_v208 (F := Ideal) x0 x1 x2 x3 x4 x5 x6 x7 x8 x9 x10 x11 x12 x13 x14 x15 x16) (N1 fun r d => r208 a r 0) := (isr_hred0 (i207 H) (icst_48 H) reducesTo_S16384x1024_S1024_d0 h_S_).congr fun _ => rfl
theorem i209 : T 1 1024 .f32 (val_main_v209 (F := Ideal) x0 x1 x2 x3 x4 x5 x6 x7 x8 x9 x10 x11 x12 x13 x14 x15 x16) (fun r d => r208 a d 0) := (isr_cast_row (i208 H) shapeCasts_S1024_S1x1024).congr fun _ => rfl
theorem i210 : T 16384 1024 .f32 (val_main_v210 (F := Ideal) x0 x1 x2 x3 x4 x5 x6 x7 x8 x9 x10 x11 x12 x13 x14 x15 x16) (r210 a) := (isr_mul (i98 H) (i207 H)).congr fun _ => rfl
theorem icst_49 : IsR (s := S_) (φ := .f32) (val_main_cst_49 (F := Ideal)) (fun _ => 0) := (isr_const lit_zero).congr fun _ => rfl
theorem i211 : IsR (s := S1024) (φ := .f32) (val_main_v211 (F := Ideal) x0 x1 x2 x3 x4 x5 x6 x7 x8 x9 x10 x11 x12 x13 x14 x15 x16) (N1 fun r d => r211 a r 0) := (isr_hred0 (i210 H) (icst_49 H) reducesTo_S16384x1024_S1024_d0 h_S_).congr fun _ => rfl
theorem i212 : T 1 1024 .f32 (val_main_v212 (F := Ideal) x0 x1 x2 x3 x4 x5 x6 x7 x8 x9 x10 x11 x12 x13 x14 x15 x16) (fun r d => r211 a d 0) := (isr_cast_row (i211 H) shapeCasts_S1024_S1x1024).congr fun _ => rfl
theorem i213 : T 16384 1024 .f32 (val_main_v213 (F := Ideal) x4) (fun r d => r100 a 0 d) := (isr_bid_row (i100 H) bcast_S1x1024_S16384x1024_0_1).congr fun _ => rfl
theorem i214 : T 16384 1024 .f32 (val_main_v214 (F := Ideal) x0 x1 x2 x3 x4 x5 x6 x7 x8 x9 x10 x11 x12 x13 x14 x15 x16) (r214 a) := (isr_mul (i207 H) (i213 H)).congr fun _ => rfl
theorem i215 : T 16384 1024 .f32 (val_main_v215 (F := Ideal) x0 x1 x2 x3 x4 x5 x6 x7 x8 x9 x10 x11 x12 x13 x14 x15 x16) (r215 a) := (isr_mul (i90 H) (i214 H)).congr fun _ => rfl
theorem icst_50 : IsR (s := S_) (φ := .f32) (val_main_cst_50 (F := Ideal)) (fun _ => 0) := (isr_const lit_zero).congr fun _ => rfl
theorem i216 : IsR (s := S16384) (φ := .f32) (val_main_v216 (F := Ideal) x0 x1 x2 x3 x4 x5 x6 x7 x8 x9 x10 x11 x12 x13 x14 x15 x16) (N1 fun r d => r216 a r 0) := (isr_hred1 (i215 H) (icst_50 H) reducesTo_S16384x1024_S16384_d1 h_S_).congr fun _ => rfl
theorem i217 : T 16384 1 .f32 (val_main_v217 (F := Ideal) x0 x1 x2 x3 x4 x5 x6 x7 x8 x9 x10 x11 x12 x13 x14 x15 x16) (fun r d => r216 a r 0) := (isr_cast_col16384 (i216 H) shapeCasts_S16384_S16384x1).congr fun _ => rfl
theorem i218 : T 16384 1024 .f32 (val_main_v218 (F := Ideal) x0 x1 x2 x3 x4 x5 x6 x7 x8 x9 x10) (fun r d => r93 a r 0) := (isr_bid_col (i93 H) bcast_S16384x1_S16384x1024_0_1).congr fun _ => rfl
theorem i219 : T 16384 1024 .f32 (val_main_v219 (F := Ideal) x0 x1 x2 x3 x4 x5 x6 x7 x8 x9 x10 x11 x12 x13 x14 x15 x16) (r219 a) := (isr_mul (i214 H) (i218 H)).congr fun _ => rfl
theorem i220 : T 16384 1 .f32 (val_main_v220 (F := Ideal) x0 x1 x2 x3 x4 x5 x6 x7 x8 x9 x10 x11 x12 x13 x14 x15 x16) (r220 a) := (isr_mul (i217 H) (i96 H)).congr fun _ => rfl
theorem i221 : T 16384 1024 .f32 (val_main_v221 (F := Ideal) x0 x1 x2 x3 x4 x5 x6 x7 x8 x9 x10 x11 x12 x13 x14 x15 x16) (r221 a) := (isr_neg (i219 H)).congr fun _ => rfl
theorem icst_51 : IsR (s := S_) (φ := .f32) (val_main_cst_51 (F := Ideal)) (fun _ => 0) := (isr_const lit_zero).congr fun _ => rfl
theorem i222 : IsR (s := S16384) (φ := .f32) (val_main_v222 (F := Ideal) x0 x1 x2 x3 x4 x5 x6 x7 x8 x9 x10 x11 x12 x13 x14 x15 x16) (N1 fun r d => r222 a r 0) := (isr_hred1 (i221 H) (icst_51 H) reducesTo_S16384x1024_S16384_d1 h_S_).congr fun _ => rfl
theorem i223 : T 16384 1 .f32 (val_main_v223 (F := Ideal) x0 x1 x2 x3 x4 x5 x6 x7 x8 x9 x10 x11 x12 x13 x14 x15 x16) (fun r d => r222 a r 0) := (isr_cast_col16384 (i222 H) shapeCasts_S16384_S16384x1).congr fun _ => rfl
theorem i224 : T 16384 1024 .f32 (val_main_v224 (F := Ideal) x0 x1 x2 x3 x4 x5 x6 x7 x8 x9 x10 x11 x12 x13 x14 x15 x16) (r224 a) := (isr_add (i194 H) (i219 H)).congr fun _ => rfl
theorem icst_52 : IsR (s := S_) (φ := .f32) (val_main_cst_52 (F := Ideal)) (fun _ => 1024) := (isr_const lit_lanes).congr fun _ => rfl
theorem i225 : T 16384 1 .f32 (val_main_v225 (F := Ideal)) (fun r d => 1024) := (isr_bid0 (icst_52 H) ![] bcast_S_S16384x1).congr fun _ => rfl
theorem i226 : T 16384 1 .f32 (val_main_v226 (F := Ideal) x0 x1 x2 x3 x4 x5 x6 x7 x8 x9 x10 x11 x12 x13 x14 x15 x16) (r226 a) := (isr_hdiv (i220 H) (i225 H) (fun _ => by norm_num)).congr fun _ => rfl
theorem icst_53 : IsR (s := S_) (φ := .f32) (val_main_cst_53 (F := Ideal)) (fun _ => 0) := (isr_const lit_zero).congr fun _ => rfl
theorem i227 : IsR (s := S16384) (φ := .f32) (val_main_v227 (F := Ideal) x0 x1 x2 x3 x4 x5 x6 x7 x8 x9 x10 x11 x12 x13 x14 x15 x16) (N1 fun r d => r227 a r 0) := (isr_hred1 (i226 H) (icst_53 H) reducesTo_S16384x1_S16384_d1 h_S_).congr fun _ => rfl
theorem i228 : T 16384 1024 .f32 (val_main_v228 (F := Ideal) x0 x1 x2 x3 x4 x5 x6 x7 x8 x9 x10 x11 x12 x13 x14 x15 x16) (fun r d => r227 a r 0) := (isr_bid_d0 (i227 H) bcast_S16384_S16384x1024_0).congr fun _ => rfl
theorem i229 : T 16384 1024 .f32 (val_main_v229 (F := Ideal) x0 x1 x2 x3 x4 x5 x6 x7 x8 x9 x10 x11 x12 x13 x14 x15 x16) (r229 a) := (isr_mul (i228 H) (i84 H)).congr fun _ => rfl
theorem i230 : T 16384 1024 .f32 (val_main_v230 (F := Ideal) x0 x1 x2 x3 x4 x5 x6 x7 x8 x9 x10 x11 x12 x13 x14 x15 x16) (r230 a) := (isr_neg (i229 H)).congr fun _ => rfl
theorem icst_54 : IsR (s := S_) (φ := .f32) (val_main_cst_54 (F := Ideal)) (fun _ => 0) := (isr_const lit_zero).congr fun _ => rfl
theorem i231 : IsR (s := S16384) (φ := .f32) (val_main_v231 (F := Ideal) x0 x1 x2 x3 x4 x5 x6 x7 x8 x9 x10 x11 x12 x13 x14 x15 x16) (N1 fun r d => r231 a r 0) := (isr_hred1 (i230 H) (icst_54 H) reducesTo_S16384x1024_S16384_d1 h_S_).congr fun _ => rfl
theorem i232 : T 16384 1 .f32 (val_main_v232 (F := Ideal) x0 x1 x2 x3 x4 x5 x6 x7 x8 x9 x10 x11 x12 x13 x14 x15 x16) (fun r d => r231 a r 0) := (isr_cast_col16384 (i231 H) shapeCasts_S16384_S16384x1).congr fun _ => rfl
theorem i233 : T 16384 1024 .f32 (val_main_v233 (F := Ideal) x0 x1 x2 x3 x4 x5 x6 x7 x8 x9 x10 x11 x12 x13 x14 x15 x16) (r233 a) := (isr_add (i224 H) (i229 H)).congr fun _ => rfl
theorem i234 : T 16384 1 .f32 (val_main_v234 (F := Ideal) x0 x1 x2 x3 x4 x5 x6 x7 x8 x9 x10 x11 x12 x13 x14 x15 x16) (r234 a) := (isr_add (i223 H) (i232 H)).congr fun _ => rfl
theorem icst_55 : IsR (s := S_) (φ := .f32) (val_main_cst_55 (F := Ideal)) (fun _ => 1024) := (isr_const lit_lanes).congr fun _ => rfl
theorem i235 : T 16384 1 .f32 (val_main_v235 (F := Ideal)) (fun r d => 1024) := (isr_bid0 (icst_55 H) ![] bcast_S_S16384x1).congr fun _ => rfl
theorem i236 : T 16384 1 .f32 (val_main_v236 (F := Ideal) x0 x1 x2 x3 x4 x5 x6 x7 x8 x9 x10 x11 x12 x13 x14 x15 x16) (r236 a) := (isr_hdiv (i234 H) (i235 H) (fun _ => by norm_num)).congr fun _ => rfl
theorem icst_56 : IsR (s := S_) (φ := .f32) (val_main_cst_56 (F := Ideal)) (fun _ => 0) := (isr_const lit_zero).congr fun _ => rfl
theorem i237 : IsR (s := S16384) (φ := .f32) (val_main_v237 (F := Ideal) x0 x1 x2 x3 x4 x5 x6 x7 x8 x9 x10 x11 x12 x13 x14 x15 x16) (N1 fun r d => r237 a r 0) := (isr_hred1 (i236 H) (icst_56 H) reducesTo_S16384x1_S16384_d1 h_S_).congr fun _ => rfl
theorem i238 : T 16384 1024 .f32 (val_main_v238 (F := Ideal) x0 x1 x2 x3 x4 x5 x6 x7 x8 x9 x10 x11 x12 x13 x14 x15 x16) (fun r d => r237 a r 0) := (isr_bid_d0 (i237 H) bcast_S16384_S16384x1024_0).congr fun _ => rfl
theorem i239 : T 16384 1024 .f32 (val_main_v239 (F := Ideal) x0 x1 x2 x3 x4 x5 x6 x7 x8 x9 x10 x11 x12 x13 x14 x15 x16) (r239 a) := (isr_add (i233 H) (i238 H)).congr fun _ => rfl
theorem icst_57 : IsR (s := S_) (φ := .f32) (val_main_cst_57 (F := Ideal)) (fun _ => 0) := (isr_const lit_zero).congr fun _ => rfl
theorem i240 : IsR (s := S1024) (φ := .f32) (val_main_v240 (F := Ideal) x0 x1 x2 x3 x4 x5 x6 x7 x8 x9 x10 x11 x12 x13 x14 x15 x16) (N1 fun r d => r240 a r 0) := (isr_hred0 (i239 H) (icst_57 H) reducesTo_S16384x1024_S1024_d0 h_S_).congr fun _ => rfl
theorem i241 : T 1 1024 .f32 (val_main_v241 (F := Ideal) x0 x1 x2 x3 x4 x5 x6 x7 x8 x9 x10 x11 x12 x13 x14 x15 x16) (fun r d => r240 a d 0) := (isr_cast_row (i240 H) shapeCasts_S1024_S1x1024).congr fun _ => rfl
theorem i242 : T 16384 1024 .f32 (val_main_v242 (F := Ideal) x0 x1 x2 x3 x4 x5 x6 x7 x8 x9 x10 x11 x12 x13 x14 x15 x16) (r242 a) := (isr_mul (i71 H) (i239 H)).congr fun _ => rfl
theorem icst_58 : IsR (s := S_) (φ := .f32) (val_main_cst_58 (F := Ideal)) (fun _ => 0) := (isr_const lit_zero).congr fun _ => rfl
theorem i243 : IsR (s := S1024) (φ := .f32) (val_main_v243 (F := Ideal) x0 x1 x2 x3 x4 x5 x6 x7 x8 x9 x10 x11 x12 x13 x14 x15 x16) (N1 fun r d => r243 a r 0) := (isr_hred0 (i242 H) (icst_58 H) reducesTo_S16384x1024_S1024_d0 h_S_).congr fun _ => rfl
theorem i244 : T 1 1024 .f32 (val_main_v244 (F := Ideal) x0 x1 x2 x3 x4 x5 x6 x7 x8 x9 x10 x11 x12 x13 x14 x15 x16) (fun r d => r243 a d 0) := (isr_cast_row (i243 H) shapeCasts_S1024_S1x1024).congr fun _ => rfl
theorem i245 : T 16384 1024 .f32 (val_main_v245 (F := Ideal) x9) (fun r d => a.a9 0 d) := (isr_bid_row H.h9 bcast_S1x1024_S16384x1024_0_1).congr fun _ => rfl
theorem i246 : T 16384 1024 .f32 (val_main_v246 (F := Ideal) x0 x1 x2 x3 x4 x5 x6 x7 x8 x9 x10 x11 x12 x13 x14 x15 x16) (r246 a) := (isr_mul (i239 H) (i245 H)).congr fun _ => rfl
theorem i247 : T 16384 1024 .f32 (val_main_v247 (F := Ideal) x0 x1 x2 x3 x4 x5 x6 x7 x8 x9 x10 x11 x12 x13 x14 x15 x16) (r247 a) := (isr_mul (i63 H) (i246 H)).congr fun _ => rfl
theorem icst_59 : IsR (s := S_) (φ := .f32) (val_main_cst_59 (F := Ideal)) (fun _ => 0) := (isr_const lit_zero).congr fun _ => rfl
theorem i248 : IsR (s := S16384) (φ := .f32) (val_main_v248 (F := Ideal) x0 x1 x2 x3 x4 x5 x6 x7 x8 x9 x10 x11 x12 x13 x14 x15 x16) (N1 fun r d => r248 a r 0) := (isr_hred1 (i247 H) (icst_59 H) reducesTo_S16384x1024_S16384_d1 h_S_).congr fun _ => rfl
theorem i249 : T 16384 1 .f32 (val_main_v249 (F := Ideal) x0 x1 x2 x3 x4 x5 x6 x7 x8 x9 x10 x11 x12 x13 x14 x15 x16) (fun r d => r248 a r 0) := (isr_cast_col16384 (i248 H) shapeCasts_S16384_S16384x1).congr fun _ => rfl
theorem i250 : T 16384 1024 .f32 (val_main_v250 (F := Ideal) x0 x1 x2 x3 x4 x5 x6 x7 x8) (fun r d => r66 a r 0) := (isr_bid_col (i66 H) bcast_S16384x1_S16384x1024_0_1).congr fun _ => rfl
theorem i251 : T 16384 1024 .f32 (val_main_v251 (F := Ideal) x0 x1 x2 x3 x4 x5 x6 x7 x8 x9 x10 x11 x12 x13 x14 x15 x16) (r251 a) := (isr_mul (i246 H) (i250 H)).congr fun _ => rfl
theorem i252 : T 16384 1 .f32 (val_main_v252 (F := Ideal) x0 x1 x2 x3 x4 x5 x6 x7 x8 x9 x10 x11 x12 x13 x14 x15 x16) (r252 a) := (isr_mul (i249 H) (i69 H)).congr fun _ => rfl
theorem i253 : T 16384 1024 .f32 (val_main_v253 (F := Ideal) x0 x1 x2 x3 x4 x5 x6 x7 x8 x9 x10 x11 x12 x13 x14 x15 x16) (r253 a) := (isr_neg (i251 H)).congr fun _ => rfl
theorem icst_60 : IsR (s := S_) (φ := .f32) (val_main_cst_60 (F := Ideal)) (fun _ => 0) := (isr_const lit_zero).congr fun _ => rfl
theorem i254 : IsR (s := S16384) (φ := .f32) (val_main_v254 (F := Ideal) x0 x1 x2 x3 x4 x5 x6 x7 x8 x9 x10 x11 x12 x13 x14 x15 x16) (N1 fun r d => r254 a r 0) := (isr_hred1 (i253 H) (icst_60 H) reducesTo_S16384x1024_S16384_d1 h_S_).congr fun _ => rfl
theorem i255 : T 16384 1 .f32 (val_main_v255 (F := Ideal) x0 x1 x2 x3 x4 x5 x6 x7 x8 x9 x10 x11 x12 x13 x14 x15 x16) (fun r d => r254 a r 0) := (isr_cast_col16384 (i254 H) shapeCasts_S16384_S16384x1).congr fun _ => rfl
theorem icst_61 : IsR (s := S_) (φ := .f32) (val_main_cst_61 (F := Ideal)) (fun _ => 1024) := (isr_const lit_lanes).congr fun _ => rfl
theorem i256 : T 16384 1 .f32 (val_main_v256 (F := Ideal)) (fun r d => 1024) := (isr_bid0 (icst_61 H) ![] bcast_S_S16384x1).congr fun _ => rfl
theorem i257 : T 16384 1 .f32 (val_main_v257 (F := Ideal) x0 x1 x2 x3 x4 x5 x6 x7 x8 x9 x10 x11 x12 x13 x14 x15 x16) (r257 a) := (isr_hdiv (i252 H) (i256 H) (fun _ => by norm_num)).congr fun _ => rfl
theorem icst_62 : IsR (s := S_) (φ := .f32) (val_main_cst_62 (F := Ideal)) (fun _ => 0) := (isr_const lit_zero).congr fun _ => rfl
theorem i258 : IsR (s := S16384) (φ := .f32) (val_main_v258 (F := Ideal) x0 x1 x2 x3 x4 x5 x6 x7 x8 x9 x10 x11 x12 x13 x14 x15 x16) (N1 fun r d => r258 a r 0) := (isr_hred1 (i257 H) (icst_62 H) reducesTo_S16384x1_S16384_d1 h_S_).congr fun _ => rfl
theorem i259 : T 16384 1024 .f32 (val_main_v259 (F := Ideal) x0 x1 x2 x3 x4 x5 x6 x7 x8 x9 x10 x11 x12 x13 x14 x15 x16) (fun r d => r258 a r 0) := (isr_bid_d0 (i258 H) bcast_S16384_S16384x1024_0).congr fun _ => rfl
theorem i260 : T 16384 1024 .f32 (val_main_v260 (F := Ideal) x0 x1 x2 x3 x4 x5 x6 x7 x8 x9 x10 x11 x12 x13 x14 x15 x16) (r260 a) := (isr_mul (i259 H) (i57 H)).congr fun _ => rfl
theorem i261 : T 16384 1024 .f32 (val_main_v261 (F := Ideal) x0 x1 x2 x3 x4 x5 x6 x7 x8 x9 x10 x11 x12 x13 x14 x15 x16) (r261 a) := (isr_neg (i260 H)).congr fun _ => rfl
theorem icst_63 : IsR (s := S_) (φ := .f32) (val_main_cst_63 (F := Ideal)) (fun _ => 0) := (isr_const lit_zero).congr fun _ => rfl
theorem i262 : IsR (s := S16384) (φ := .f32) (val_main_v262 (F := Ideal) x0 x1 x2 x3 x4 x5 x6 x7 x8 x9 x10 x11 x12 x13 x14 x15 x16) (N1 fun r d => r262 a r 0) := (isr_hred1 (i261 H) (icst_63 H) reducesTo_S16384x1024_S16384_d1 h_S_).congr fun _ => rfl
theorem i263 : T 16384 1 .f32 (val_main_v263 (F := Ideal) x0 x1 x2 x3 x4 x5 x6 x7 x8 x9 x10 x11 x12 x13 x14 x15 x16) (fun r d => r262 a r 0) := (isr_cast_col16384 (i262 H) shapeCasts_S16384_S16384x1).congr fun _ => rfl
theorem i264 : T 16384 1024 .f32 (val_main_v264 (F := Ideal) x0 x1 x2 x3 x4 x5 x6 x7 x8 x9 x10 x11 x12 x13 x14 x15 x16) (r264 a) := (isr_add (i251 H) (i260 H)).congr fun _ => rfl
theorem i265 : T 16384 1 .f32 (val_main_v265 (F := Ideal) x0 x1 x2 x3 x4 x5 x6 x7 x8 x9 x10 x11 x12 x13 x14 x15 x16) (r265 a) := (isr_add (i255 H) (i263 H)).congr fun _ => rfl
theorem icst_64 : IsR (s := S_) (φ := .f32) (val_main_cst_64 (F := Ideal)) (fun _ => 1024) := (isr_const lit_lanes).congr fun _ => rfl
theorem i266 : T 16384 1 .f32 (val_main_v266 (F := Ideal)) (fun r d => 1024) := (isr_bid0 (icst_64 H) ![] bcast_S_S16384x1).congr fun _ => rfl
theorem i267 : T 16384 1 .f32 (val_main_v267 (F := Ideal) x0 x1 x2 x3 x4 x5 x6 x7 x8 x9 x10 x11 x12 x13 x14 x15 x16) (r267 a) := (isr_hdiv (i265 H) (i266 H) (fun _ => by norm_num)).congr fun _ => rfl
theorem icst_65 : IsR (s := S_) (φ := .f32) (val_main_cst_65 (F := Ideal)) (fun _ => 0) := (isr_const lit_zero).congr fun _ => rfl
theorem i268 : IsR (s := S16384) (φ := .f32) (val_main_v268 (F := Ideal) x0 x1 x2 x3 x4 x5 x6 x7 x8 x9 x10 x11 x12 x13 x14 x15 x16) (N1 fun r d => r268 a r 0) := (isr_hred1 (i267 H) (icst_65 H) reducesTo_S16384x1_S16384_d1 h_S_).congr fun _ => rfl
theorem i269 : T 16384 1024 .f32 (val_main_v269 (F := Ideal) x0 x1 x2 x3 x4 x5 x6 x7 x8 x9 x10 x11 x12 x13 x14 x15 x16) (fun r d => r268 a r 0) := (isr_bid_d0 (i268 H) bcast_S16384_S16384x1024_0).congr fun _ => rfl
theorem i270 : T 16384 1024 .f32 (val_main_v270 (F := Ideal) x0 x1 x2 x3 x4 x5 x6 x7 x8 x9 x10 x11 x12 x13 x14 x15 x16) (r270 a) := (isr_add (i264 H) (i269 H)).congr fun _ => rfl
theorem i271 : T 16384 1024 .f32 (val_main_v271 (F := Ideal) x4) (fun r d => a.a4 2 d) := (isr_bid_row (i6 H) bcast_S1x1024_S16384x1024_0_1).congr fun _ => rfl
theorem i272 : T 16384 1024 .f32 (val_main_v272 (F := Ideal) x0 x1 x2 x3 x4 x5 x6 x7 x8 x9 x10 x11 x12 x13 x14 x15 x16) (r272 a) := (isr_mul (i271 H) (i270 H)).congr fun _ => rfl
theorem i273 : T 16384 1024 .f32 (val_main_v273 (F := Ideal) x0 x1 x2 x3 x4 x5 x6 x7 x8 x9 x10 x11 x12 x13 x14 x15 x16) (r273 a) := (isr_mul (i270 H) (i43 H)).congr fun _ => rfl
theorem icst_66 : IsR (s := S_) (φ := .f32) (val_main_cst_66 (F := Ideal)) (fun _ => 0) := (isr_const lit_zero).congr fun _ => rfl
theorem i274 : IsR (s := S1024) (φ := .f32) (val_main_v274 (F := Ideal) x0 x1 x2 x3 x4 x5 x6 x7 x8 x9 x10 x11 x12 x13 x14 x15 x16) (N1 fun r d => r274 a r 0) := (isr_hred0 (i273 H) (icst_66 H) reducesTo_S16384x1024_S1024_d0 h_S_).congr fun _ => rfl
theorem i275 : T 1 1024 .f32 (val_main_v275 (F := Ideal) x0 x1 x2 x3 x4 x5 x6 x7 x8 x9 x10 x11 x12 x13 x14 x15 x16) (fun r d => r274 a d 0) := (isr_cast_row (i274 H) shapeCasts_S1024_S1x1024).congr fun _ => rfl
theorem icst_67 : IsR (s := S_) (φ := .f32) (val_main_cst_67 (F := Ideal)) (fun _ => alphaR) := (isr_const lit_alpha).congr fun _ => rfl
theorem i276 : T 16384 1024 .f32 (val_main_v276 (F := Ideal)) (fun r d => alphaR) := (isr_bid0 (icst_67 H) ![] bcast_S_S16384x1024).congr fun _ => rfl
theorem i277 : T 16384 1024 .f32 (val_main_v277 (F := Ideal) x0 x1 x2 x3 x4 x5 x6 x7 x8 x9 x10 x11 x12 x13 x14 x15 x16) (r277 a) := (isr_mul (i276 H) (i270 H)).congr fun _ => rfl
theorem i278 : T 1024 1024 .f32 (val_main_v278 (F := Ideal) x0 x1 x2 x3 x4 x5 x6 x7 x8 x9 x10 x11 x12 x13 x14 x15 x16) (r278 a) := (ish_S16384x1024_S16384x1024_S1024x1024_0_0_1_1_n_n (i272 H) (i42 H)).congr fun _ => rfl
theorem i279 : T 1024 1024 .f32 (val_main_v279 (F := Ideal) x0 x1 x2 x3 x4 x5 x6 x7 x8 x9 x10 x11 x12 x13 x14 x15 x16) (fun r d => r278 a d r) := (isr_transpose (i278 H) transposes_S1024x1024_S1024x1024_1_0).congr fun _ => rfl
theorem i280 : T 16384 1024 .f32 (val_main_v280 (F := Ideal) x0 x1 x2 x3 x4 x5 x6 x7 x8 x9 x10 x11 x12 x13 x14 x15 x16) (r280 a) := (ish_S16384x1024_S1024x1024_S16384x1024_1_1_0_0_n_n (i272 H) H.h8).congr fun _ => rfl
theorem i281 : T 16384 1024 .f32 (val_main_v281 (F := Ideal) x0 x1 x2 x3 x4 x5 x6 x7 x8 x9 x10 x11 x12 x13 x14 x15 x16) (r281 a) := (isr_mul (i34 H) (i280 H)).congr fun _ => rfl
theorem i282 : T 16384 1024 .f32 (val_main_v282 (F := Ideal) x0 x1 x2 x3 x4 x5 x6 x7 x8 x9 x10 x11 x12 x13 x14 x15 x16) (r282 a) := (isr_mul (i280 H) (i40 H)).congr fun _ => rfl
theorem i283 : T 1024 1024 .f32 (val_main_v283 (F := Ideal) x0 x1 x2 x3 x4 x5 x6 x7 x8 x9 x10 x11 x12 x13 x14 x15 x16) (r283 a) := (ish_S16384x1024_S16384x1024_S1024x1024_0_0_1_1_n_n (i281 H) (i5 H)).congr fun _ => rfl
theorem i284 : T 1024 1024 .f32 (val_main_v284 (F := Ideal) x0 x1 x2 x3 x4 x5 x6 x7 x8 x9 x10 x11 x12 x13 x14 x15 x16) (fun r d => r283 a d r) := (isr_transpose (i283 H) transposes_S1024x1024_S1024x1024_1_0).congr fun _ => rfl
theorem i285 : T 16384 1024 .f32 (val_main_v285 (F := Ideal) x0 x1 x2 x3 x4 x5 x6 x7 x8 x9 x10 x11 x12 x13 x14 x15 x16) (r285 a) := (ish_S16384x1024_S1024x1024_S16384x1024_1_1_0_0_n_n (i281 H) H.h6).congr fun _ => rfl
theorem i286 : T 16384 1024 .f32 (val_main_v286 (F := Ideal) x0 x1 x2 x3 x4 x5 x6 x7 x8 x9 x10 x11 x12 x13 x14 x15 x16) (r286 a) := (isr_mul (i20 H) (i280 H)).congr fun _ => rfl
theorem i287 : T 16384 1024 .f32 (val_main_v287 (F := Ideal) x0 x1 x2 x3 x4 x5 x6 x7 x8 x9 x10 x11 x12 x13 x14 x15 x16) (r287 a) := (isr_mul (i280 H) (i38 H)).congr fun _ => rfl
theorem i288 : T 1024 1280 .f32 (val_main_v288 (F := Ideal) x0 x1 x2 x3 x4 x5 x6 x7 x8 x9 x10 x11 x12 x13 x14 x15 x16) (r288 a) := (ish_S16384x1024_S16384x1280_S1024x1280_0_0_1_1_n_n (i286 H) (i4 H)).congr fun _ => rfl
theorem i289 : T 1280 1024 .f32 (val_main_v289 (F := Ideal) x0 x1 x2 x3 x4 x5 x6 x7 x8 x9 x10 x11 x12 x13 x14 x15 x16) (fun r d => r288 a d r) := (isr_transpose (i288 H) transposes_S1024x1280_S1280x1024_1_0).congr fun _ => rfl
theorem i290 : T 16384 1280 .f32 (val_main_v290 (F := Ideal) x0 x1 x2 x3 x4 x5 x6 x7 x8 x9 x10 x11 x12 x13 x14 x15 x16) (r290 a) := (ish_S16384x1024_S1280x1024_S16384x1280_1_1_0_0_n_n (i286 H) H.h5).congr fun _ => rfl
theorem i291 : T 16384 1024 .f32 (val_main_v291 (F := Ideal) x0 x1 x2 x3 x4 x5 x6 x7 x8 x9 x10 x11 x12 x13 x14 x15 x16) (r291 a) := (isr_mul (i282 H) (i37 H)).congr fun _ => rfl
theorem icst_68 : IsR (s := S_) (φ := .f32) (val_main_cst_68 (F := Ideal)) (fun _ => 0) := (isr_const lit_zero).congr fun _ => rfl
theorem i292 : IsR (s := S1024) (φ := .f32) (val_main_v292 (F := Ideal) x0 x1 x2 x3 x4 x5 x6 x7 x8 x9 x10 x11 x12 x13 x14 x15 x16) (N1 fun r d => r292 a r 0) := (isr_hred0 (i291 H) (icst_68 H) reducesTo_S16384x1024_S1024_d0 h_S_).congr fun _ => rfl
theorem i293 : T 1 1024 .f32 (val_main_v293 (F := Ideal) x0 x1 x2 x3 x4 x5 x6 x7 x8 x9 x10 x11 x12 x13 x14 x15 x16) (fun r d => r292 a d 0) := (isr_cast_row (i292 H) shapeCasts_S1024_S1x1024).congr fun _ => rfl
theorem icst_69 : IsR (s := S_) (φ := .f32) (val_main_cst_69 (F := Ideal)) (fun _ => 0) := (isr_const lit_zero).congr fun _ => rfl
theorem i294 : IsR (s := S1024) (φ := .f32) (val_main_v294 (F := Ideal) x0 x1 x2 x3 x4 x5 x6 x7 x8 x9 x10 x11 x12 x13 x14 x15 x16) (N1 fun r d => r294 a r 0) := (isr_hred0 (i293 H) (icst_69 H) reducesTo_S1x1024_S1024_d0 h_S_).congr fun _ => rfl
theorem i295 : T 1 1024 .f32 (val_main_v295 (F := Ideal) x0 x1 x2 x3 x4 x5 x6 x7 x8 x9 x10 x11 x12 x13 x14 x15 x16) (fun r d => r294 a d 0) := (isr_bid_d1 (i294 H) bcast_S1024_S1x1024_1).congr fun _ => rfl
theorem icst_70 : IsR (s := S_) (φ := .f32) (val_main_cst_70 (F := Ideal)) (fun _ => 0) := (isr_const lit_zero).congr fun _ => rfl
theorem i296 : T 2 1024 .f32 (val_main_v296 (F := Ideal) x0 x1 x2 x3 x4 x5 x6 x7 x8 x9 x10 x11 x12 x13 x14 x15 x16) (r296 a) := (isr_pad_top (i295 H) (icst_70 H) pads_S1x1024_S2x1024_100_000 h_S_).congr fun _ => rfl
theorem i297 : T 16384 1024 .f32 (val_main_v297 (F := Ideal) x0 x1 x2 x3 x4 x5 x6 x7 x8 x9 x10 x11 x12 x13 x14 x15 x16) (r297 a) := (isr_mul (i287 H) (i23 H)).congr fun _ => rfl
theorem icst_71 : IsR (s := S_) (φ := .f32) (val_main_cst_71 (F := Ideal)) (fun _ => 0) := (isr_const lit_zero).congr fun _ => rfl
theorem i298 : IsR (s := S1024) (φ := .f32) (val_main_v298 (F := Ideal) x0 x1 x2 x3 x4 x5 x6 x7 x8 x9 x10 x11 x12 x13 x14 x15 x16) (N1 fun r d => r298 a r 0) := (isr_hred0 (i297 H) (icst_71 H) reducesTo_S16384x1024_S1024_d0 h_S_).congr fun _ => rfl
theorem i299 : T 1 1024 .f32 (val_main_v299 (F := Ideal) x0 x1 x2 x3 x4 x5 x6 x7 x8 x9 x10 x11 x12 x13 x14 x15 x16) (fun r d => r298 a d 0) := (isr_cast_row (i298 H) shapeCasts_S1024_S1x1024).congr fun _ => rfl
theorem icst_72 : IsR (s := S_) (φ := .f32) (val_main_cst_72 (F := Ideal)) (fun _ => 0) := (isr_const lit_zero).congr fun _ => rfl
theorem i300 : IsR (s := S1024) (φ := .f32) (val_main_v300 (F := Ideal) x0 x1 x2 x3 x4 x5 x6 x7 x8 x9 x10 x11 x12 x13 x14 x15 x16) (N1 fun r d => r300 a r 0) := (isr_hred0 (i299 H) (icst_72 H) reducesTo_S1x1024_S1024_d0 h_S_).congr fun _ => rfl
theorem i301 : T 1 1024 .f32 (val_main_v301 (F := Ideal) x0 x1 x2 x3 x4 x5 x6 x7 x8 x9 x10 x11 x12 x13 x14 x15 x16) (fun r d => r300 a d 0) := (isr_bid_d1 (i300 H) bcast_S1024_S1x1024_1).congr fun _ => rfl
theorem icst_73 : IsR (s := S_) (φ := .f32) (val_main_cst_73 (F := Ideal)) (fun _ => 0) := (isr_const lit_zero).congr fun _ => rfl
theorem i302 : T 2 1024 .f32 (val_main_v302 (F := Ideal) x0 x1 x2 x3 x4 x5 x6 x7 x8 x9 x10 x11 x12 x13 x14 x15 x16) (r302 a) := (isr_pad_bot (i301 H) (icst_73 H) pads_S1x1024_S2x1024_010_000 h_S_).congr fun _ => rfl
theorem i303 : T 2 1024 .f32 (val_main_v303 (F := Ideal) x0 x1 x2 x3 x4 x5 x6 x7 x8 x9 x10 x11 x12 x13 x14 x15 x16) (r303 a) := (isr_add (i296 H) (i302 H)).congr fun _ => rfl
theorem i304 : T 16384 2048 .f32 (val_main_v304 (F := Ideal) x0 x1 x2 x3 x4 x5 x6 x7 x8 x9 x10 x11 x12 x13 x14 x15 x16) (r304 a) := (isr_cat_cols (i297 H) (i291 H) concatenates_S16384x1024_S16384x1024_S16384x2048_d1).congr fun _ => rfl
theorem i305 : T 16384 2048 .bf16 (val_main_v305 (F := Ideal) x0 x1 x2 x3 x4 x5 x6 x7 x8 x9 x10 x11 x12 x13 x14 x15 x16) (r304 a) := (isr_trunc bitsLt_bf16_f32 (i304 H)).congr fun _ => rfl
theorem i306 : T 4 1024 .f32 (val_main_v306 (F := Ideal) x0 x1 x2 x3 x4 x5 x6 x7 x8 x9 x10 x11 x12 x13 x14 x15 x16) (r306 a) := (isr_cat4 (i275 H) (i209 H) (i212 H) (i192 H) concatenates_S1x1024_S1x1024_S1x1024_S1x1024_S4x1024_d0).congr fun _ => rfl
theorem i307 : T 2 1024 .f32 (val_main_v307 (F := Ideal) x0 x1 x2 x3 x4 x5 x6 x7 x8 x9 x10 x11 x12 x13 x14 x15 x16) (r307 a) := (isr_cat2 (i244 H) (i241 H) concatenates_S1x1024_S1x1024_S2x1024_d0).congr fun _ => rfl
theorem i308 : T 2 1024 .f32 (val_main_v308 (F := Ideal) x0 x1 x2 x3 x4 x5 x6 x7 x8 x9 x10 x11 x12 x13 x14 x15 x16) (r308 a) := (isr_cat2 (i161 H) (i158 H) concatenates_S1x1024_S1x1024_S2x1024_d0).congr fun _ => rfl

end Cert.Tail

end
-- ==== Proof.Tail.RefEq.lean ====
/-
  The reference's formulas and the calls' formulas are the same real functions of the arguments (untrusted).
-/
module

public import proofs.«01_k».proof.Proof.Tail.Chain

@[expose] public section

set_option maxRecDepth 16384

noncomputable section

namespace Cert.Tail

/-! ## The gradient of a normalisation -/

theorem sum_centred (z : ℕ → ℝ) : ∑ k : Fin 1024, (z k.val - meanN z) = 0 := by
  rw [Finset.sum_sub_distrib, Finset.sum_const, Finset.card_univ, Fintype.card_fin, nsmul_eq_mul]
  unfold meanN
  push_cast
  ring

theorem rs_cube {v : ℝ} (hv : 0 < v) : (Real.sqrt v)⁻¹ / v = (Real.sqrt v)⁻¹ * (Real.sqrt v)⁻¹ * (Real.sqrt v)⁻¹ := by
  have h := Real.sqrt_pos.mpr hv
  have e : v = Real.sqrt v * Real.sqrt v := (Real.mul_self_sqrt hv.le).symm
  conv_lhs => rw [div_eq_mul_inv]; rhs; rw [e]
  rw [mul_inv]
  ring

/-- The gradient the reference's operations compute, and the rowwise formula. -/
theorem lnb_eq (C dn : ℕ → ℝ) (s v : ℝ) (d : ℕ) (h0 : ∑ k : Fin 1024, C k.val = 0) (h : s / v = s * s * s) :
    dn d * s + (∑ _k : Fin 1, (∑ j : Fin 1024, C j.val * dn j.val) * (-(1 / 2) * (s / v)) / 1024) * (2 * C d)
      + (∑ _k : Fin 1, ((∑ j : Fin 1024, -(dn j.val * s))
        + ∑ j : Fin 1024, -((∑ _k : Fin 1, (∑ j : Fin 1024, C j.val * dn j.val) * (-(1 / 2) * (s / v)) / 1024) * (2 * C j.val))) / 1024)
    = lnbN dn (fun k => C k * s) s d := by
  rw [h]
  simp only [Fin.sum_univ_one]
  generalize hT : (∑ j : Fin 1024, C j.val * dn j.val) = T
  have e1 : ∑ j : Fin 1024, -(dn j.val * s) = -(∑ j : Fin 1024, dn j.val) * s := by
    rw [Finset.sum_neg_distrib, ← Finset.sum_mul]; ring
  have e2 : ∑ j : Fin 1024, -(T * (-(1 / 2) * (s * s * s)) / 1024 * (2 * C j.val)) = 0 := by
    rw [Finset.sum_neg_distrib, ← Finset.mul_sum, ← Finset.mul_sum, h0]; ring
  have e3 : ∑ k : Fin 1024, dn k.val * (C k.val * s) = T * s := by
    rw [← hT, Finset.sum_mul]
    exact Finset.sum_congr rfl fun k _ => by ring
  rw [e1, e2]
  unfold lnbN meanN
  rw [e3]
  ring

variable (a : A)

/-! ## To the feed-forward input -/

theorem x20 (r d : ℕ) : r20 a r d = sigR (a.a3 r d + bg a 0 d) := (Cert.Proof.Real.sigmoid_eq _).symm
theorem x34 (r d : ℕ) : r34 a r d = sigR (gb a r d + bg a 1 d) := (Cert.Proof.Real.sigmoid_eq _).symm
theorem e38 : r38 a = k14_0 a := rfl
theorem e40 : r40 a = k14_1 a := rfl
theorem e42 : r42 a = k14_2 a := by
  funext r d
  show r20 a r d * r38 a r d + r34 a r d * r40 a r d = _
  rw [x20, x34]
  rfl
theorem e43 : r43 a = k15_0 a := by
  funext r d
  show ∑ k : Fin 1024, r42 a r k.val * a.a8 k.val d = _
  rw [e42]
  rfl
/-- The first residual sum. -/
def z1 : RM := resid a.a0 (k15_0 a) (md a) 2
theorem e48 : r48 a = z1 a := by
  funext r d
  show alphaR * a.a0 r d + a.a4 2 d * r43 a r d = _
  rw [e43]
  rfl
theorem x71 (r d : ℕ) : r71 a r d = lnN (r48 a r) d := rfl
theorem e75 : r75 a = k15_1 a := by
  funext r d
  show r71 a r d * a.a9 0 d + a.a10 0 d = _
  rw [x71, e48]
  rfl
theorem x98 (r d : ℕ) : r98 a r d = lnN (r75 a r) d := rfl
theorem e104 : r104 a = k15_2 a := by
  funext r d
  show r98 a r d * (1 + a.a4 4 d) + a.a4 3 d = _
  rw [x98, e75]
  rfl

/-! ## The gated product -/
theorem e105 : r105 a = k16_0 a := by
  funext r d
  show ∑ k : Fin 1024, r104 a r k.val * a.a11 k.val d = _
  rw [e104]
  rfl
theorem e107 : r107 a = k16_1 a := by
  funext r d
  show ∑ k : Fin 1024, r104 a r k.val * a.a12 k.val d = _
  rw [e104]
  rfl
theorem xsig (r d : ℕ) : r106_2 a r d = sigR (k16_0 a r d) := by
  rw [← e105]
  exact (Cert.Proof.Real.sigmoid_eq _).symm
theorem e108 : r108 a = k16_2 a := by
  funext r d
  show r105 a r d * r106_2 a r d * r107 a r d = _
  rw [xsig, e105, e107]
  rfl

/-! ## Loss and the last normalisation's gradient -/
/-- The down projection. -/
def f2 : RM := dotN 2816 (k16_2 a) a.a13
theorem e109 : r109 a = f2 a := by
  funext r d
  show ∑ k : Fin 2816, r108 a r k.val * a.a13 k.val d = _
  rw [e108]
  rfl
def z2 : RM := s3_z (k16_2 a) a.a13 (k15_1 a) a.a16 (md a) (l2 a)
theorem e114 : r114 a = z2 a := by
  funext r d
  show alphaR * r75 a r d + a.a4 5 d * r109 a r d = _
  rw [e75, e109]
  rfl
theorem x137 (r d : ℕ) : r137 a r d = lnN (r114 a r) d := rfl
theorem x142 (r d : ℕ) : r142 a r d = s3_e (k16_2 a) a.a13 (k15_1 a) a.a16 (md a) (l2 a) r d := by
  show r137 a r d * a.a14 0 d + a.a15 0 d - a.a16 r d = _
  rw [x137, e114]
  rfl
theorem x156 (r d : ℕ) : r156 a r d = s3_d (k16_2 a) a.a13 (k15_1 a) a.a16 (md a) (l2 a) r d := by
  show 1 / 2 * 1 / 1024 * (2 * r142 a r d) = _
  rw [x142]
  unfold s3_d
  ring
theorem x187 (r d : ℕ) : r187 a r d = lnbN (r163 a r) (lnN (r114 a r)) (rstdN (r114 a r)) d :=
  lnb_eq (r120 a r) (r163 a r) _ _ d (sum_centred (r114 a r)) (rs_cube (p131 a r 0))
theorem e187 : r187 a = k17_0 a := by
  funext r d
  have h : r163 a r = fun k => s3_d (k16_2 a) a.a13 (k15_1 a) a.a16 (md a) (l2 a) r k * l2 a 0 k := by
    funext k
    show r156 a r k * a.a14 0 k = _
    rw [x156]
    rfl
  rw [x187, h, e114]
  rfl
theorem e189 : r189 a = k17_1 a := by
  funext r d
  show a.a4 5 d * r187 a r d = _
  rw [e187]
  rfl

/-! ## The gated product's gradient -/
theorem x197 (r d : ℕ) : r197 a r d = dotT 1024 (k17_1 a) a.a13 r d := by
  show ∑ k : Fin 1024, r189 a r k.val * a.a13 d k.val = _
  rw [e189]
  rfl
theorem e198 : r198 a = k19_1 a := by
  funext r d
  show r105 a r d * r106_2 a r d * r197 a r d = dotT 1024 (k17_1 a) a.a13 r d * k16_0 a r d * sigR (k16_0 a r d)
  rw [xsig, x197, e105]
  ring
theorem e203 : r203 a = k19_0 a := by
  funext r d
  show r197 a r d * r107 a r d * r106_2 a r d + r105 a r d * (r197 a r d * r107 a r d) * (r106_2 a r d * (1 - r106_2 a r d))
    = dotT 1024 (k17_1 a) a.a13 r d * k16_1 a r d * sigR (k16_0 a r d) * (1 + k16_0 a r d * (1 - sigR (k16_0 a r d)))
  rw [xsig, x197, e105, e107]
  ring

/-! ## The first normalisations' gradient -/
def dh : RM := s8_h (k19_0 a) a.a11 (k19_1 a) a.a12 a.a0 (k15_0 a) (k17_0 a) (md a) (l1 a)
theorem e207 : r207 a = dh a := by
  funext r d
  show (∑ k : Fin 2816, r198 a r k.val * a.a12 d k.val) + (∑ k : Fin 2816, r203 a r k.val * a.a11 d k.val)
    = dotT 2816 (k19_0 a) a.a11 r d + dotT 2816 (k19_1 a) a.a12 r d
  rw [e198, e203, add_comm]
  rfl
def dx1 : RM := s8_dx (k19_0 a) a.a11 (k19_1 a) a.a12 a.a0 (k15_0 a) (k17_0 a) (md a) (l1 a)
theorem x239 (r d : ℕ) : r239 a r d = r194 a r d + lnbN (r214 a r) (lnN (r75 a r)) (rstdN (r75 a r)) d := by
  show r194 a r d + r219 a r d + r229 a r d + r237 a r 0 = _
  rw [add_assoc, add_assoc, ← add_assoc (r219 a r d)]
  exact congrArg (r194 a r d + ·)
    (lnb_eq (r81 a r) (r214 a r) _ _ d (sum_centred (r75 a r)) (rs_cube (p92 a r 0)))
theorem e239 : r239 a = dx1 a := by
  funext r d
  have h : r214 a r = fun k => dh a r k * (1 + md a 4 k) := by
    funext k
    show r207 a r k * (1 + a.a4 4 k) = _
    rw [e207]
    rfl
  rw [x239, h, e75]
  show alphaR * r187 a r d + _ = _
  rw [e187]
  rfl
def dz1 : RM := s8_dz (k19_0 a) a.a11 (k19_1 a) a.a12 a.a0 (k15_0 a) (k17_0 a) (md a) (l1 a)
theorem x270 (r d : ℕ) : r270 a r d = lnbN (r246 a r) (lnN (r48 a r)) (rstdN (r48 a r)) d :=
  lnb_eq (r54 a r) (r246 a r) _ _ d (sum_centred (r48 a r)) (rs_cube (p65 a r 0))
theorem e270 : r270 a = dz1 a := by
  funext r d
  have h : r246 a r = fun k => dx1 a r k * l1 a 0 k := by
    funext k
    show r239 a r k * a.a9 0 k = _
    rw [e239]
    rfl
  rw [x270, h, e48]
  rfl
theorem e272 : r272 a = k22_1 a := by
  funext r d
  show a.a4 2 d * r270 a r d = _
  rw [e270]
  rfl

/-! ## The merge's gradient -/
theorem x280 (r d : ℕ) : r280 a r d = dotT 1024 (k22_1 a) a.a8 r d := by
  show ∑ k : Fin 1024, r272 a r k.val * a.a8 d k.val = _
  rw [e272]
  rfl
theorem e286 : r286 a = k24_0 a := by
  funext r d
  show r20 a r d * r280 a r d = dotT 1024 (k22_1 a) a.a8 r d * sigR (a.a3 r d + bg a 0 d)
  rw [x20, x280]
  ring
theorem e281 : r281 a = k24_1 a := by
  funext r d
  show r34 a r d * r280 a r d = dotT 1024 (k22_1 a) a.a8 r d * sigR (gb a r d + bg a 1 d)
  rw [x34, x280]
  ring
def dga : RM := s10_a (k22_1 a) a.a8 a.a3 (gb a) (k14_0 a) (k14_1 a) (bg a)
def dgb : RM := s10_b (k22_1 a) a.a8 a.a3 (gb a) (k14_0 a) (k14_1 a) (bg a)
theorem e297 : r297 a = dga a := by
  funext r d
  show r280 a r d * r38 a r d * (r20 a r d * (1 - r20 a r d))
    = dotT 1024 (k22_1 a) a.a8 r d * k14_0 a r d * sigR (a.a3 r d + bg a 0 d) * (1 - sigR (a.a3 r d + bg a 0 d))
  rw [x20, x280, e38]
  ring
theorem e291 : r291 a = dgb a := by
  funext r d
  show r280 a r d * r40 a r d * (r34 a r d * (1 - r34 a r d))
    = dotT 1024 (k22_1 a) a.a8 r d * k14_1 a r d * sigR (gb a r d + bg a 1 d) * (1 - sigR (gb a r d + bg a 1 d))
  rw [x34, x280, e40]
  ring

/-! ## The results -/

theorem q_loss : r150 a 0 0 = ∑ d : Fin 1024, k17_2 a 0 d.val := by
  show 1 / 2 * ∑ r : Fin 16384, (∑ d : Fin 1024, r142 a r.val d.val * r142 a r.val d.val) / 1024
    = ∑ d : Fin 1024, ∑ r : Fin 16384, s3_e (k16_2 a) a.a13 (k15_1 a) a.a16 (md a) (l2 a) r.val d.val
      * s3_e (k16_2 a) a.a13 (k15_1 a) a.a16 (md a) (l2 a) r.val d.val * (1 / 2048)
  rw [Finset.sum_comm, Finset.mul_sum]
  refine Finset.sum_congr rfl fun r _ => ?_
  rw [← Finset.sum_mul]
  simp only [x142]
  ring
theorem q_x (r d : ℕ) : r277 a r d = k22_0 a r d := by
  show alphaR * r270 a r d = _
  rw [e270]
  rfl
theorem q_urnn (r d : ℕ) : r290 a r d = k25 a r d := by
  show ∑ k : Fin 1024, r286 a r k.val * a.a5 d k.val = _
  rw [e286]
  rfl
theorem q_uattn (r d : ℕ) : r285 a r d = k26 a r d := by
  show ∑ k : Fin 1024, r281 a r k.val * a.a6 d k.val = _
  rw [e281]
  rfl
theorem q_gates (r d : ℕ) : r304 a r d = k24_2 a r d := by
  show (if d < 1024 then r297 a r d else r291 a r (d - 1024)) = _
  rw [e297, e291]
  rfl
theorem sum_one (f : ℕ → ℝ) : ∑ k : Fin 1, f k.val = f 0 := by rw [Fin.sum_univ_one]; rfl
theorem q_mod (r d : ℕ) : r306 a r d = if r = 0 then k22_2 a 4 d else if r = 1 then k22_2 a 1 d else if r = 2 then k22_2 a 0 d else k17_2 a 3 d := by
  have h0 : r274 a d 0 = k22_2 a 4 d := by
    show ∑ k : Fin 16384, r270 a k.val d * r43 a k.val d = ∑ k : Fin 16384, dz1 a k.val d * k15_0 a k.val d
    rw [e270, e43]
  have h1 : r208 a d 0 = k22_2 a 1 d := by
    show ∑ k : Fin 16384, r207 a k.val d = ∑ k : Fin 16384, dh a k.val d
    rw [e207]
  have h2 : r211 a d 0 = k22_2 a 0 d := by
    show ∑ k : Fin 16384, r98 a k.val d * r207 a k.val d = ∑ k : Fin 16384, dh a k.val d * lnN (k15_1 a k.val) d
    rw [e207]
    refine Finset.sum_congr rfl fun k _ => ?_
    rw [x98, e75, mul_comm]
  have h3 : r191 a d 0 = k17_2 a 3 d := by
    show ∑ k : Fin 16384, r187 a k.val d * r109 a k.val d = ∑ k : Fin 16384, k17_0 a k.val d * f2 a k.val d
    rw [e187, e109]
  show (if r = 0 then r274 a d 0 else if r = 1 then r208 a d 0 else if r = 2 then r211 a d 0 else r191 a d 0) = _
  rw [h0, h1, h2, h3]
theorem q_wpr (r d : ℕ) : r288 a d r = k27 a r d := by
  show ∑ k : Fin 16384, r286 a k.val d * a.a1 k.val r = ∑ k : Fin 16384, a.a1 k.val r * k24_0 a k.val d
  rw [e286]
  exact Finset.sum_congr rfl fun k _ => mul_comm _ _
theorem q_wpa (r d : ℕ) : r283 a d r = k28 a r d := by
  show ∑ k : Fin 16384, r281 a k.val d * a.a2 k.val r = ∑ k : Fin 16384, a.a2 k.val r * k24_1 a k.val d
  rw [e281]
  exact Finset.sum_congr rfl fun k _ => mul_comm _ _
theorem q_bg (r d : ℕ) (h : r < 2) : r303 a r d = k24_3 a r d := by
  have h0 : r300 a d 0 = k24_3 a 0 d := by
    show ∑ k : Fin 1, r298 a d 0 = ∑ k : Fin 16384, dga a k.val d
    rw [Fin.sum_univ_one, ← e297]
    rfl
  have h1 : r294 a d 0 = k24_3 a 1 d := by
    show ∑ k : Fin 1, r292 a d 0 = ∑ k : Fin 16384, dgb a k.val d
    rw [Fin.sum_univ_one, ← e291]
    rfl
  show (if r = 0 then 0 else r294 a d 0) + (if r = 0 then r300 a d 0 else 0) = _
  rw [h0, h1]
  obtain rfl | rfl : r = 0 ∨ r = 1 := by omega
  · rw [if_pos rfl, if_pos rfl, zero_add]
  · rw [if_neg one_ne_zero, if_neg one_ne_zero, add_zero]
theorem q_wo (r d : ℕ) : r278 a d r = k23 a r d := by
  show ∑ k : Fin 16384, r272 a k.val d * r42 a k.val r = ∑ k : Fin 16384, k14_2 a k.val r * k22_1 a k.val d
  rw [e272, e42]
  exact Finset.sum_congr rfl fun k _ => mul_comm _ _
theorem q_l1 (r d : ℕ) (h : r < 2) : r307 a r d = k22_2 a (2 + r) d := by
  have h0 : r243 a d 0 = k22_2 a 2 d := by
    show ∑ k : Fin 16384, r71 a k.val d * r239 a k.val d = ∑ k : Fin 16384, dx1 a k.val d * lnN (z1 a k.val) d
    rw [e239]
    refine Finset.sum_congr rfl fun k _ => ?_
    rw [x71, e48, mul_comm]
  have h1 : r240 a d 0 = k22_2 a 3 d := by
    show ∑ k : Fin 16384, r239 a k.val d = ∑ k : Fin 16384, dx1 a k.val d
    rw [e239]
  show (if r = 0 then r243 a d 0 else r240 a d 0) = _
  rw [h0, h1]
  obtain rfl | rfl : r = 0 ∨ r = 1 := by omega
  · rfl
  · rfl
theorem q_wg (r d : ℕ) : r204 a d r = k20 a r d := by
  show ∑ k : Fin 16384, r203 a k.val d * r104 a k.val r = ∑ k : Fin 16384, k15_2 a k.val r * k19_0 a k.val d
  rw [e203, e104]
  exact Finset.sum_congr rfl fun k _ => mul_comm _ _
theorem q_wu (r d : ℕ) : r200 a d r = k21 a r d := by
  show ∑ k : Fin 16384, r198 a k.val d * r104 a k.val r = ∑ k : Fin 16384, k15_2 a k.val r * k19_1 a k.val d
  rw [e198, e104]
  exact Finset.sum_congr rfl fun k _ => mul_comm _ _
theorem q_wd (r d : ℕ) : r195 a d r = k18 a r d := by
  show ∑ k : Fin 16384, r189 a k.val d * r108 a k.val r = ∑ k : Fin 16384, k16_2 a k.val r * k17_1 a k.val d
  rw [e189, e108]
  exact Finset.sum_congr rfl fun k _ => mul_comm _ _
theorem q_l2 (r d : ℕ) (h : r < 2) : r308 a r d = k17_2 a (1 + r) d := by
  have h0 : r160 a d 0 = k17_2 a 1 d := by
    show ∑ k : Fin 16384, r137 a k.val d * r156 a k.val d
      = ∑ k : Fin 16384, s3_d (k16_2 a) a.a13 (k15_1 a) a.a16 (md a) (l2 a) k.val d * lnN (z2 a k.val) d
    refine Finset.sum_congr rfl fun k _ => ?_
    rw [x137, x156, e114, mul_comm]
  have h1 : r157 a d 0 = k17_2 a 2 d := by
    show ∑ k : Fin 16384, r156 a k.val d = ∑ k : Fin 16384, s3_d (k16_2 a) a.a13 (k15_1 a) a.a16 (md a) (l2 a) k.val d
    exact Finset.sum_congr rfl fun k _ => x156 a _ _
  show (if r = 0 then r160 a d 0 else r157 a d 0) = _
  rw [h0, h1]
  obtain rfl | rfl : r = 0 ∨ r = 1 := by omega
  · rfl
  · rfl

end Cert.Tail

end
-- ==== Proof.Tail.Claim.lean ====
/-
  The claims of the step's feed-forward, merge and loss calls (untrusted): the reference leaves its arguments alone, and
  kernel and reference end with equal results on the extended reals.
-/
module

public import proofs.«01_k».proof.Defs
public import proofs.«01_k».proof.Proof.Tail.Args
public import proofs.«01_k».proof.Proof.Tail.Run
public import proofs.«01_k».proof.Proof.Tail.Ends
public import proofs.«01_k».proof.Proof.Tail.RefIsrB
public import proofs.«01_k».proof.Proof.Tail.RefEq
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Tail

open Cert.Tail

instance : Cert.KernelIdeal.Facts := Cert.KernelIdeal.Gen.facts
instance : Cert.ReferenceIdeal.Facts := Cert.ReferenceIdeal.Gen.facts

theorem ref_frame : Cert.quiescent_ReferenceIdeal := fun m ρ _ =>
  (θ_run Cert.ReferenceIdeal.defs _ _).mono
    (fun r h => ⟨fun c => (h c).2.2.2.2.2.2.2.2.2.2.2.2.2.2.2, Idealize.ShloMosaic.sem_eq_zero_of_no_sems (by decide) r.2⟩)
    (Cert.ReferenceIdeal.Value.run (F := Ideal) m ρ)

/-- Two arrays that hold the same real numbers. -/
theorem eq_of_isr {s : Shape} {φ : FTy} {x y : FVec Ideal s φ} {f g : s.Idx → ℝ} (hx : IsR x f) (hy : IsR y g)
    (e : ∀ i, f i = g i) : x = y :=
  funext fun i => (hx i).trans ((congrArg _ (e i)).trans (hy i).symm)

theorem algebraic : Cert.algebraic_KernelIdeal_ReferenceIdeal_pre_finite := by
  intro m g m' g' hpre hagree
  refine ⟨fun c => Cert.KernelIdeal.Gen.W17 m g c (Proc.devRef .tc Cert.KernelIdeal.main_v31), fun c => Cert.KernelIdeal.Gen.W17 m g c (Proc.devRef .tc Cert.KernelIdeal.main_v22_0), fun c => Cert.KernelIdeal.Gen.W17 m g c (Proc.devRef .tc Cert.KernelIdeal.main_v25), fun c => Cert.KernelIdeal.Gen.W17 m g c (Proc.devRef .tc Cert.KernelIdeal.main_v26), fun c => Cert.KernelIdeal.Gen.W17 m g c (Proc.devRef .tc Cert.KernelIdeal.main_v24_2), fun c => Cert.KernelIdeal.Gen.W17 m g c (Proc.devRef .tc Cert.KernelIdeal.main_v36), fun c => Cert.KernelIdeal.Gen.W17 m g c (Proc.devRef .tc Cert.KernelIdeal.main_v27), fun c => Cert.KernelIdeal.Gen.W17 m g c (Proc.devRef .tc Cert.KernelIdeal.main_v28), fun c => Cert.KernelIdeal.Gen.W17 m g c (Proc.devRef .tc Cert.KernelIdeal.main_v37), fun c => Cert.KernelIdeal.Gen.W17 m g c (Proc.devRef .tc Cert.KernelIdeal.main_v23), fun c => Cert.KernelIdeal.Gen.W17 m g c (Proc.devRef .tc Cert.KernelIdeal.main_v38), fun c => Cert.KernelIdeal.Gen.W17 m g c (Proc.devRef .tc Cert.KernelIdeal.main_v20), fun c => Cert.KernelIdeal.Gen.W17 m g c (Proc.devRef .tc Cert.KernelIdeal.main_v21), fun c => Cert.KernelIdeal.Gen.W17 m g c (Proc.devRef .tc Cert.KernelIdeal.main_v18), fun c => Cert.KernelIdeal.Gen.W17 m g c (Proc.devRef .tc Cert.KernelIdeal.main_v39), Cert.KernelIdeal.Tail.run m g,
    (θ_run Cert.ReferenceIdeal.defs _ _).mono (fun r hr c => ?_) (Cert.ReferenceIdeal.Value.run (F := Ideal) m' g')⟩
  obtain ⟨h0, h1, h2, h3, h4, h5, h6, h7, h8, h9, h10, h11, h12, h13, h14, ha⟩ := hr c
  obtain ⟨e0, e1, e2, e3, e4, e5, e6, e7, e8, e9, e10, e11, e12, e13, e14, e15, e16⟩ := hagree c
  have H := hyp_of_finite _ _ _ _ _ _ _ _ _ _ _ _ _ _ _ _ _  (hpre c)
  have H' : Hyp (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (m' ((c : Thread Cert.ReferenceIdeal.nD Cert.ReferenceIdeal.τ).loc Cert.ReferenceIdeal.main_arg16)) _ := (show ∀ a, Ends.Args m c a → Hyp (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (m' ((c : Thread Cert.ReferenceIdeal.nD Cert.ReferenceIdeal.τ).loc Cert.ReferenceIdeal.main_arg16)) a from fun a h => by
    rw [e0, e1, e2, e3, e4, e5, e6, e7, e8, e9, e10, e11, e12, e13, e14, e15, e16]
    exact h) _ H
  clear hr
  exact ⟨h0.trans ((Cert.ReferenceIdeal.Read.val_main_v150_eq _).trans (eq_of_isr (s := Cert.KernelIdeal.S_) (φ := .f32) (i150 H') (Ends.v31_17 H) fun i => q_loss _)),
    h1.trans ((Cert.ReferenceIdeal.Read.val_main_v277_eq _).trans (eq_of_isr (s := Cert.KernelIdeal.S16384x1024) (φ := .f32) (i277 H') (Ends.v22_0_17 H) fun i => q_x _ _ _)),
    h2.trans ((Cert.ReferenceIdeal.Read.val_main_v290_eq _).trans (eq_of_isr (s := Cert.KernelIdeal.S16384x1280) (φ := .f32) (i290 H') (Ends.v25_17 H) fun i => q_urnn _ _ _)),
    h3.trans ((Cert.ReferenceIdeal.Read.val_main_v285_eq _).trans (eq_of_isr (s := Cert.KernelIdeal.S16384x1024) (φ := .f32) (i285 H') (Ends.v26_17 H) fun i => q_uattn _ _ _)),
    h4.trans ((Cert.ReferenceIdeal.Read.val_main_v305_eq _).trans (eq_of_isr (s := Cert.KernelIdeal.S16384x2048) (φ := .bf16) (i305 H') (Ends.v24_2_17 H) fun i => q_gates _ _ _)),
    h5.trans ((Cert.ReferenceIdeal.Read.val_main_v306_eq _).trans (eq_of_isr (s := Cert.KernelIdeal.S4x1024) (φ := .f32) (i306 H') (Ends.v36_17 H) fun i => q_mod _ _ _)),
    h6.trans ((Cert.ReferenceIdeal.Read.val_main_v289_eq _).trans (eq_of_isr (s := Cert.KernelIdeal.S1280x1024) (φ := .f32) (i289 H') (Ends.v27_17 H) fun i => q_wpr _ _ _)),
    h7.trans ((Cert.ReferenceIdeal.Read.val_main_v284_eq _).trans (eq_of_isr (s := Cert.KernelIdeal.S1024x1024) (φ := .f32) (i284 H') (Ends.v28_17 H) fun i => q_wpa _ _ _)),
    h8.trans ((Cert.ReferenceIdeal.Read.val_main_v303_eq _).trans (eq_of_isr (s := Cert.KernelIdeal.S2x1024) (φ := .f32) (i303 H') (Ends.v37_17 H) fun i => q_bg _ _ _ (i 0).isLt)),
    h9.trans ((Cert.ReferenceIdeal.Read.val_main_v279_eq _).trans (eq_of_isr (s := Cert.KernelIdeal.S1024x1024) (φ := .f32) (i279 H') (Ends.v23_17 H) fun i => q_wo _ _ _)),
    h10.trans ((Cert.ReferenceIdeal.Read.val_main_v307_eq _).trans (eq_of_isr (s := Cert.KernelIdeal.S2x1024) (φ := .f32) (i307 H') (Ends.v38_17 H) fun i => q_l1 _ _ _ (i 0).isLt)),
    h11.trans ((Cert.ReferenceIdeal.Read.val_main_v205_eq _).trans (eq_of_isr (s := Cert.KernelIdeal.S1024x2816) (φ := .f32) (i205 H') (Ends.v20_17 H) fun i => q_wg _ _ _)),
    h12.trans ((Cert.ReferenceIdeal.Read.val_main_v201_eq _).trans (eq_of_isr (s := Cert.KernelIdeal.S1024x2816) (φ := .f32) (i201 H') (Ends.v21_17 H) fun i => q_wu _ _ _)),
    h13.trans ((Cert.ReferenceIdeal.Read.val_main_v196_eq _).trans (eq_of_isr (s := Cert.KernelIdeal.S2816x1024) (φ := .f32) (i196 H') (Ends.v18_17 H) fun i => q_wd _ _ _)),
    h14.trans ((Cert.ReferenceIdeal.Read.val_main_v308_eq _).trans (eq_of_isr (s := Cert.KernelIdeal.S2x1024) (φ := .f32) (i308 H') (Ends.v39_17 H) fun i => q_l2 _ _ _ (i 0).isLt)), ha⟩

end Cert.Proof.Tail

end
-- ==== Proof.Front.Run.lean ====
/-
  One run of the input side's program (untrusted): it ends with every buffer at the last boundary's contents.
-/
module

public import proofs.«01_k».proof.Proof.Gen.Kernel2Ideal.Frame

@[expose] public section

set_option maxRecDepth 16384

noncomputable section

namespace Cert.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unfolding plain definitions
set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h _ => h)

end Cert.Front

end
-- ==== Proof.Front.DotsR.lean ====
/-
  The matrix products of the reference on vectors of real numbers (untrusted): each is the sum of products of the real entries.
-/
module

public import proofs.«01_k».proof.Proof.Gen.Reference2Ideal
public import proofs.«01_k».proof.Proof.Tail.Isr

@[expose] public section

set_option maxRecDepth 16384

noncomputable section

open Idealize.ShloMosaic

namespace Cert.Front

open Cert.Tail Cert.Reference2Ideal Cert.Reference2Ideal.Gen

theorem ish_S16384x1024_S1024x7680_S16384x7680_1_0_0_1_n_n {φ ψ : FTy} {x : FVec Ideal S16384x1024 φ} {y : FVec Ideal S1024x7680 ψ} {f : S16384x1024.Idx → ℝ} {g : S1024x7680.Idx → ℝ}
    (hx : IsR x f) (hy : IsR y g) : IsR (φ := .f32) (Host.dotGeneral dot_S16384x1024_S1024x7680_S16384x7680_1_0_0_1_n_n none x y)
      (fun i => ∑ k : Fin 1024, f (ix2 (i 0) k) * g (ix2 k (i 1))) := fun i => by
  pointwise []
  rw [Cert.Proof.Real.coe_sum]
  exact Finset.sum_congr rfl fun k _ => by rw [hx, hy, EReal.coe_mul]
theorem ish_S16384x7680_S1024x7680_S16384x1024_1_1_0_0_n_n {φ ψ : FTy} {x : FVec Ideal S16384x7680 φ} {y : FVec Ideal S1024x7680 ψ} {f : S16384x7680.Idx → ℝ} {g : S1024x7680.Idx → ℝ}
    (hx : IsR x f) (hy : IsR y g) : IsR (φ := .f32) (Host.dotGeneral dot_S16384x7680_S1024x7680_S16384x1024_1_1_0_0_n_n none x y)
      (fun i => ∑ k : Fin 7680, f (ix2 (i 0) k) * g (ix2 (i 1) k)) := fun i => by
  pointwise []
  rw [Cert.Proof.Real.coe_sum]
  exact Finset.sum_congr rfl fun k _ => by rw [hx, hy, EReal.coe_mul]
theorem ish_S16384x7680_S16384x1024_S7680x1024_0_0_1_1_n_n {φ ψ : FTy} {x : FVec Ideal S16384x7680 φ} {y : FVec Ideal S16384x1024 ψ} {f : S16384x7680.Idx → ℝ} {g : S16384x1024.Idx → ℝ}
    (hx : IsR x f) (hy : IsR y g) : IsR (φ := .f32) (Host.dotGeneral dot_S16384x7680_S16384x1024_S7680x1024_0_0_1_1_n_n none x y)
      (fun i => ∑ k : Fin 16384, f (ix2 k (i 0)) * g (ix2 k (i 1))) := fun i => by
  pointwise []
  rw [Cert.Proof.Real.coe_sum]
  exact Finset.sum_congr rfl fun k _ => by rw [hx, hy, EReal.coe_mul]

end Cert.Front

end
-- ==== Proof.Front.Lay.lean ====
/-
  Layouts of the input side (untrusted): a column of 512 row values, and five arrays joined along their columns.
-/
module

public import proofs.«01_k».proof.Proof.Tail.Lay

@[expose] public section

set_option maxRecDepth 16384

noncomputable section

open Idealize.ShloMosaic

namespace Cert.Front

open Cert.Tail

theorem isr_cast_col512 {φ : FTy} {x : FVec Ideal ⟨1, ![512]⟩ φ} {f : Shape.Idx ⟨1, ![512]⟩ → ℝ} (hx : IsR x f)
    (h : Shape.ShapeCasts ⟨1, ![512]⟩ ⟨2, ![512, 1]⟩) :
    IsR (φ := φ) (shapeCast ⟨2, ![512, 1]⟩ x h) (fun i => f (ix1 (i 0))) := fun i => by
  pointwise []
  exact hx _

/-- Five matrices next to each other, at a column number. -/
def cat5 (F0 F1 F2 F3 F4 : ℕ → ℕ → ℝ) (r d : ℕ) : ℝ :=
  if d < 2560 then F0 r d else if d - 2560 < 1024 then F1 r (d - 2560) else if d - 2560 - 1024 < 1024 then F2 r (d - 2560 - 1024)
  else if d - 2560 - 1024 - 1024 < 1024 then F3 r (d - 2560 - 1024 - 1024) else F4 r (d - 2560 - 1024 - 1024 - 1024)

theorem isr_cat5 {n : ℕ} {φ : FTy} {F0 F1 F2 F3 F4 : ℕ → ℕ → ℝ} {x0 : FVec Ideal ⟨2, ![n, 2560]⟩ φ}
    {x1 x2 x3 : FVec Ideal ⟨2, ![n, 1024]⟩ φ} {x4 : FVec Ideal ⟨2, ![n, 2048]⟩ φ} (h0 : IsR x0 (N2 F0)) (h1 : IsR x1 (N2 F1))
    (h2 : IsR x2 (N2 F2)) (h3 : IsR x3 (N2 F3)) (h4 : IsR x4 (N2 F4))
    (h : Shape.Concatenates [⟨2, ![n, 2560]⟩, ⟨2, ![n, 1024]⟩, ⟨2, ![n, 1024]⟩, ⟨2, ![n, 1024]⟩, ⟨2, ![n, 2048]⟩] ⟨2, ![n, 7680]⟩ 1) :
    IsR (φ := φ) (concatenate (⟨2, ![n, 7680]⟩ : Shape) 1 [⟨⟨2, ![n, 2560]⟩, x0⟩, ⟨⟨2, ![n, 1024]⟩, x1⟩, ⟨⟨2, ![n, 1024]⟩, x2⟩, ⟨⟨2, ![n, 1024]⟩, x3⟩, ⟨⟨2, ![n, 2048]⟩, x4⟩] h)
      (N2 (cat5 F0 F1 F2 F3 F4)) := fun i => by
  pointwise []
  show _ = ((cat5 F0 F1 F2 F3 F4 (i 0).val (i 1).val : ℝ) : EReal)
  unfold cat5
  split
  · exact h0 _
  split
  · exact h1 _
  split
  · exact h2 _
  split
  · exact h3 _
  exact h4 _

/-- A sum over all columns is the sum of the five parts' sums. -/
theorem sum_cat5 (u0 u1 u2 u3 u4 : ℕ → ℝ) :
    ∑ k : Fin 7680, (if k.val < 2560 then u0 k.val else if k.val - 2560 < 1024 then u1 (k.val - 2560) else if k.val - 2560 - 1024 < 1024 then u2 (k.val - 2560 - 1024)
      else if k.val - 2560 - 1024 - 1024 < 1024 then u3 (k.val - 2560 - 1024 - 1024) else u4 (k.val - 2560 - 1024 - 1024 - 1024))
    = ∑ k : Fin 2560, u0 k.val + ∑ k : Fin 1024, u1 k.val + ∑ k : Fin 1024, u2 k.val + ∑ k : Fin 1024, u3 k.val + ∑ k : Fin 2048, u4 k.val := by
  have step (n m : ℕ) (f g : ℕ → ℝ) : ∑ k : Fin (n + m), (if k.val < n then f k.val else g (k.val - n)) = ∑ k : Fin n, f k.val + ∑ k : Fin m, g k.val := by
    rw [Fin.sum_univ_add]
    refine congrArg₂ _ (Finset.sum_congr rfl fun k _ => if_pos k.isLt) (Finset.sum_congr rfl fun k _ => ?_)
    rw [if_neg (by simp), Fin.val_natAdd, Nat.add_sub_cancel_left]
  have e4 := step 1024 2048 u3 u4
  have e3 := step 1024 3072 u2 fun d => if d < 1024 then u3 d else u4 (d - 1024)
  have e2 := step 1024 4096 u1 fun d => if d < 1024 then u2 d else if d - 1024 < 1024 then u3 (d - 1024) else u4 (d - 1024 - 1024)
  have e1 := step 2560 5120 u0 fun d => if d < 1024 then u1 d else if d - 1024 < 1024 then u2 (d - 1024)
    else if d - 1024 - 1024 < 1024 then u3 (d - 1024 - 1024) else u4 (d - 1024 - 1024 - 1024)
  rw [show (7680 : ℕ) = 2560 + 5120 from rfl]
  refine e1.trans ?_
  rw [show (5120 : ℕ) = 1024 + 4096 from rfl, e2, show (4096 : ℕ) = 1024 + 3072 from rfl, e3, show (3072 : ℕ) = 1024 + 2048 from rfl, e4]
  ring

end Cert.Front

end
-- ==== Proof.Front.Spec.lean ====
/-
  What each call of the input side computes (untrusted), as real functions of its windows' matrices.
-/
module

public import proofs.«01_k».proof.Proof.Tail.Spec
public import proofs.«01_k».proof.Proof.Front.Lay

@[expose] public section

noncomputable section

namespace Cert.Front

open Cert.Tail

/-- The normalised input, scaled and shifted by the modulation's second and first row. -/
def s0_2 (F0 F1 : RM) : RM := fun r d => lnN (F0 r) d * (1 + F1 1 d) + F1 0 d
def s1_2 (F0 F1 : RM) : RM := dotN 1024 F0 F1
def s2_2 (F0 F1 : RM) : RM := dotN 1024 F0 F1
def s3_2 (F0 F1 : RM) : RM := dotN 1024 F0 F1
/-- The gradient of the normalised input: five products added. -/
def s9_10 (F0 F1 F2 F3 F4 F5 F6 F7 F8 F9 : RM) : RM := fun r d =>
  dotT 2560 F0 F1 r d + dotT 1024 F2 F3 r d + dotT 1024 F4 F5 r d + dotT 1024 F6 F7 r d + dotT 2048 F8 F9 r d
/-- The input's gradient: the residual's and the normalisation's. -/
def s10_4 (F0 F1 F2 F3 : RM) : RM := fun r d =>
  F2 r d + lnbN (fun k => F1 r k * (1 + F3 1 k)) (lnN (F0 r)) (rstdN (F0 r)) d
/-- What the sums over the rows add per row. -/
def s10_u (F0 F1 F2 F3 : RM) (q : ℕ) : RM := fun r d =>
  if q = 0 then F1 r d * lnN (F0 r) d else if q = 1 then F1 r d else 0

end Cert.Front

end
-- ==== Proof.Front.RefDefs.lean ====
/-
  The reference's operations as real functions of the arguments' entries, one definition per arithmetic operation (untrusted).
-/
module

public import proofs.«01_k».proof.Proof.Front.Spec

@[expose] public section

set_option maxRecDepth 16384

noncomputable section

namespace Cert.Front

open Cert.Tail

/-- The arguments, as real matrices. -/
structure A where
  a0 : RM
  a1 : RM
  a2 : RM
  a3 : RM
  a4 : RM
  a5 : RM
  a6 : RM
  a7 : RM
  a8 : RM

def r2 (a : A) (r d : ℕ) : ℝ := ∑ k : Fin 1024, a.a0 r k.val
def r5 (a : A) (r d : ℕ) : ℝ := r2 a r 0 / 1024
def r7 (a : A) (r d : ℕ) : ℝ := a.a0 r d - r5 a r 0
def r8 (a : A) (r d : ℕ) : ℝ := r7 a r d * r7 a r d
def r10 (a : A) (r d : ℕ) : ℝ := 2 * r7 a r d
def r11 (a : A) (r d : ℕ) : ℝ := ∑ k : Fin 1024, r8 a r k.val
def r14 (a : A) (r d : ℕ) : ℝ := r11 a r 0 / 1024
def r16 (a : A) (r d : ℕ) : ℝ := a.a0 r d - r5 a r 0
def r18 (a : A) (r d : ℕ) : ℝ := r14 a r d + epsR
theorem p18 (a : A) (r d : ℕ) : 0 < r18 a r d := var_pos fun k => r7 a r k.val
def r19 (a : A) (r d : ℕ) : ℝ := (Real.sqrt (r18 a r d))⁻¹
def r20 (a : A) (r d : ℕ) : ℝ := r19 a r d / r18 a r d
def r22 (a : A) (r d : ℕ) : ℝ := (-(1/2)) * r20 a r d
def r24 (a : A) (r d : ℕ) : ℝ := r16 a r d * r19 a r 0
def r26 (a : A) (r d : ℕ) : ℝ := 1 + a.a1 1 d
def r28 (a : A) (r d : ℕ) : ℝ := r24 a r d * r26 a 0 d
def r30 (a : A) (r d : ℕ) : ℝ := r28 a r d + a.a1 0 d
def r31 (a : A) (r d : ℕ) : ℝ := ∑ k : Fin 1024, r30 a r k.val * a.a2 k.val d
def r37 (a : A) (r d : ℕ) : ℝ := cat5 (fun r d => a.a3 r d) (fun r d => a.a4 r d) (fun r d => a.a5 r d) (fun r d => a.a6 r d) (fun r d => a.a7 r d) r d
def r38 (a : A) (r d : ℕ) : ℝ := ∑ k : Fin 16384, r37 a k.val r * r30 a k.val d
def r40 (a : A) (r d : ℕ) : ℝ := ∑ k : Fin 7680, r37 a r k.val * a.a2 d k.val
def r41 (a : A) (r d : ℕ) : ℝ := ∑ k : Fin 16384, r40 a k.val r
def r43 (a : A) (r d : ℕ) : ℝ := r24 a r d * r40 a r d
def r44 (a : A) (r d : ℕ) : ℝ := ∑ k : Fin 16384, r43 a k.val r
def r47 (a : A) (r d : ℕ) : ℝ := r40 a r d * r26 a 0 d
def r48 (a : A) (r d : ℕ) : ℝ := r16 a r d * r47 a r d
def r49 (a : A) (r d : ℕ) : ℝ := ∑ k : Fin 1024, r48 a r k.val
def r52 (a : A) (r d : ℕ) : ℝ := r47 a r d * r19 a r 0
def r53 (a : A) (r d : ℕ) : ℝ := r49 a r 0 * r22 a r d
def r54 (a : A) (r d : ℕ) : ℝ := -(r52 a r d)
def r55 (a : A) (r d : ℕ) : ℝ := ∑ k : Fin 1024, r54 a r k.val
def r57 (a : A) (r d : ℕ) : ℝ := a.a8 r d + r52 a r d
def r59 (a : A) (r d : ℕ) : ℝ := r53 a r d / 1024
def r60 (a : A) (r d : ℕ) : ℝ := ∑ k : Fin 1, r59 a r k.val
def r62 (a : A) (r d : ℕ) : ℝ := r60 a r 0 * r10 a r d
def r63 (a : A) (r d : ℕ) : ℝ := -(r62 a r d)
def r64 (a : A) (r d : ℕ) : ℝ := ∑ k : Fin 1024, r63 a r k.val
def r66 (a : A) (r d : ℕ) : ℝ := r57 a r d + r62 a r d
def r67 (a : A) (r d : ℕ) : ℝ := r55 a r 0 + r64 a r 0
def r69 (a : A) (r d : ℕ) : ℝ := r67 a r d / 1024
def r70 (a : A) (r d : ℕ) : ℝ := ∑ k : Fin 1, r69 a r k.val
def r72 (a : A) (r d : ℕ) : ℝ := r66 a r d + r70 a r 0
def r78 (a : A) (r d : ℕ) : ℝ := if r = 0 then r41 a d 0 else r44 a d 0

end Cert.Front

end
-- ==== Proof.Front.RefIsr.lean ====
/-
  The reference's operations on real arguments (untrusted).
-/
module

public import proofs.«01_k».proof.Proof.Gen.Reference2Ideal.Read
public import proofs.«01_k».proof.Proof.Front.DotsR
public import proofs.«01_k».proof.Proof.Front.RefDefs

@[expose] public section

set_option maxRecDepth 16384

noncomputable section

open Idealize.ShloMosaic

namespace Cert.Front

open Cert.Tail

open Cert.Reference2Ideal Cert.Reference2Ideal.Gen Cert.Reference2Ideal.Read

/-- The arguments of the reference are real matrices. -/
structure Hyp (x0 : FVec Ideal S16384x1024 .f32) (x1 : FVec Ideal S6x1024 .f32) (x2 : FVec Ideal S1024x7680 .f32) (x3 : FVec Ideal S16384x2560 .bf16) (x4 : FVec Ideal S16384x1024 .bf16) (x5 : FVec Ideal S16384x1024 .bf16) (x6 : FVec Ideal S16384x1024 .bf16) (x7 : FVec Ideal S16384x2048 .bf16) (x8 : FVec Ideal S16384x1024 .f32) (a : A) : Prop where
  h0 : IsR x0 (N2 a.a0)
  h1 : IsR x1 (N2 a.a1)
  h2 : IsR x2 (N2 a.a2)
  h3 : IsR x3 (N2 a.a3)
  h4 : IsR x4 (N2 a.a4)
  h5 : IsR x5 (N2 a.a5)
  h6 : IsR x6 (N2 a.a6)
  h7 : IsR x7 (N2 a.a7)
  h8 : IsR x8 (N2 a.a8)

variable {x0 : FVec Ideal S16384x1024 .f32} {x1 : FVec Ideal S6x1024 .f32} {x2 : FVec Ideal S1024x7680 .f32} {x3 : FVec Ideal S16384x2560 .bf16} {x4 : FVec Ideal S16384x1024 .bf16} {x5 : FVec Ideal S16384x1024 .bf16} {x6 : FVec Ideal S16384x1024 .bf16} {x7 : FVec Ideal S16384x2048 .bf16} {x8 : FVec Ideal S16384x1024 .f32} {a : A}

variable (H : Hyp x0 x1 x2 x3 x4 x5 x6 x7 x8 a)
include H

theorem i0 : T 1 1024 .f32 (val_main_v0 (F := Ideal) x1) (fun r d => a.a1 0 d) := (isr_slice_row (p := 0) H.h1 slices_S6x1024_S1x1024_0_0).congr fun _ => rfl
theorem i1 : T 1 1024 .f32 (val_main_v1 (F := Ideal) x1) (fun r d => a.a1 1 d) := (isr_slice_row (p := 1) H.h1 slices_S6x1024_S1x1024_1_0).congr fun _ => rfl
theorem icst : IsR (s := S_) (φ := .f32) (val_main_cst (F := Ideal)) (fun _ => 0) := (isr_const lit_zero).congr fun _ => rfl
theorem i2 : IsR (s := S16384) (φ := .f32) (val_main_v2 (F := Ideal) x0) (N1 fun r d => r2 a r 0) := (isr_hred1 H.h0 (icst H) reducesTo_S16384x1024_S16384_d1 h_S_).congr fun _ => rfl
theorem i3 : T 16384 1 .f32 (val_main_v3 (F := Ideal) x0) (fun r d => r2 a r 0) := (isr_bid_d0 (i2 H) bcast_S16384_S16384x1_0).congr fun _ => rfl
theorem icst_0 : IsR (s := S_) (φ := .f32) (val_main_cst_0 (F := Ideal)) (fun _ => 1024) := (isr_const lit_lanes).congr fun _ => rfl
theorem i4 : T 16384 1 .f32 (val_main_v4 (F := Ideal)) (fun r d => 1024) := (isr_bid0 (icst_0 H) ![] bcast_S_S16384x1).congr fun _ => rfl
theorem i5 : T 16384 1 .f32 (val_main_v5 (F := Ideal) x0) (r5 a) := (isr_hdiv (i3 H) (i4 H) (fun _ => by norm_num)).congr fun _ => rfl
theorem i6 : T 16384 1024 .f32 (val_main_v6 (F := Ideal) x0) (fun r d => r5 a r 0) := (isr_bid_col (i5 H) bcast_S16384x1_S16384x1024_0_1).congr fun _ => rfl
theorem i7 : T 16384 1024 .f32 (val_main_v7 (F := Ideal) x0) (r7 a) := (isr_sub H.h0 (i6 H)).congr fun _ => rfl
theorem i8 : T 16384 1024 .f32 (val_main_v8 (F := Ideal) x0) (r8 a) := (isr_mul (i7 H) (i7 H)).congr fun _ => rfl
theorem icst_1 : IsR (s := S_) (φ := .f32) (val_main_cst_1 (F := Ideal)) (fun _ => 2) := (isr_const lit_two).congr fun _ => rfl
theorem i9 : T 16384 1024 .f32 (val_main_v9 (F := Ideal)) (fun r d => 2) := (isr_bid0 (icst_1 H) ![] bcast_S_S16384x1024).congr fun _ => rfl
theorem i10 : T 16384 1024 .f32 (val_main_v10 (F := Ideal) x0) (r10 a) := (isr_mul (i9 H) (i7 H)).congr fun _ => rfl
theorem icst_2 : IsR (s := S_) (φ := .f32) (val_main_cst_2 (F := Ideal)) (fun _ => 0) := (isr_const lit_zero).congr fun _ => rfl
theorem i11 : IsR (s := S16384) (φ := .f32) (val_main_v11 (F := Ideal) x0) (N1 fun r d => r11 a r 0) := (isr_hred1 (i8 H) (icst_2 H) reducesTo_S16384x1024_S16384_d1 h_S_).congr fun _ => rfl
theorem i12 : T 16384 1 .f32 (val_main_v12 (F := Ideal) x0) (fun r d => r11 a r 0) := (isr_bid_d0 (i11 H) bcast_S16384_S16384x1_0).congr fun _ => rfl
theorem icst_3 : IsR (s := S_) (φ := .f32) (val_main_cst_3 (F := Ideal)) (fun _ => 1024) := (isr_const lit_lanes).congr fun _ => rfl
theorem i13 : T 16384 1 .f32 (val_main_v13 (F := Ideal)) (fun r d => 1024) := (isr_bid0 (icst_3 H) ![] bcast_S_S16384x1).congr fun _ => rfl
theorem i14 : T 16384 1 .f32 (val_main_v14 (F := Ideal) x0) (r14 a) := (isr_hdiv (i12 H) (i13 H) (fun _ => by norm_num)).congr fun _ => rfl
theorem i15 : T 16384 1024 .f32 (val_main_v15 (F := Ideal) x0) (fun r d => r5 a r 0) := (isr_bid_col (i5 H) bcast_S16384x1_S16384x1024_0_1).congr fun _ => rfl
theorem i16 : T 16384 1024 .f32 (val_main_v16 (F := Ideal) x0) (r16 a) := (isr_sub H.h0 (i15 H)).congr fun _ => rfl
theorem icst_4 : IsR (s := S_) (φ := .f32) (val_main_cst_4 (F := Ideal)) (fun _ => epsR) := (isr_const lit_eps).congr fun _ => rfl
theorem i17 : T 16384 1 .f32 (val_main_v17 (F := Ideal)) (fun r d => epsR) := (isr_bid0 (icst_4 H) ![] bcast_S_S16384x1).congr fun _ => rfl
theorem i18 : T 16384 1 .f32 (val_main_v18 (F := Ideal) x0) (r18 a) := (isr_add (i14 H) (i17 H)).congr fun _ => rfl
theorem i19 : T 16384 1 .f32 (val_main_v19 (F := Ideal) x0) (r19 a) := (isr_hrsqrt (i18 H) (fun i => p18 a _ _)).congr fun _ => rfl
theorem i20 : T 16384 1 .f32 (val_main_v20 (F := Ideal) x0) (r20 a) := (isr_hdiv (i19 H) (i18 H) (fun i => (p18 a _ _).ne')).congr fun _ => rfl
theorem icst_5 : IsR (s := S_) (φ := .f32) (val_main_cst_5 (F := Ideal)) (fun _ => (-(1/2))) := (isr_const lit_nhalf).congr fun _ => rfl
theorem i21 : T 16384 1 .f32 (val_main_v21 (F := Ideal)) (fun r d => (-(1/2))) := (isr_bid0 (icst_5 H) ![] bcast_S_S16384x1).congr fun _ => rfl
theorem i22 : T 16384 1 .f32 (val_main_v22 (F := Ideal) x0) (r22 a) := (isr_mul (i21 H) (i20 H)).congr fun _ => rfl
theorem i23 : T 16384 1024 .f32 (val_main_v23 (F := Ideal) x0) (fun r d => r19 a r 0) := (isr_bid_col (i19 H) bcast_S16384x1_S16384x1024_0_1).congr fun _ => rfl
theorem i24 : T 16384 1024 .f32 (val_main_v24 (F := Ideal) x0) (r24 a) := (isr_mul (i16 H) (i23 H)).congr fun _ => rfl
theorem icst_6 : IsR (s := S_) (φ := .f32) (val_main_cst_6 (F := Ideal)) (fun _ => 1) := (isr_const lit_one).congr fun _ => rfl
theorem i25 : T 1 1024 .f32 (val_main_v25 (F := Ideal)) (fun r d => 1) := (isr_bid0 (icst_6 H) ![] bcast_S_S1x1024).congr fun _ => rfl
theorem i26 : T 1 1024 .f32 (val_main_v26 (F := Ideal) x1) (r26 a) := (isr_add (i25 H) (i1 H)).congr fun _ => rfl
theorem i27 : T 16384 1024 .f32 (val_main_v27 (F := Ideal) x1) (fun r d => r26 a 0 d) := (isr_bid_row (i26 H) bcast_S1x1024_S16384x1024_0_1).congr fun _ => rfl
theorem i28 : T 16384 1024 .f32 (val_main_v28 (F := Ideal) x0 x1) (r28 a) := (isr_mul (i24 H) (i27 H)).congr fun _ => rfl
theorem i29 : T 16384 1024 .f32 (val_main_v29 (F := Ideal) x1) (fun r d => a.a1 0 d) := (isr_bid_row (i0 H) bcast_S1x1024_S16384x1024_0_1).congr fun _ => rfl
theorem i30 : T 16384 1024 .f32 (val_main_v30 (F := Ideal) x0 x1) (r30 a) := (isr_add (i28 H) (i29 H)).congr fun _ => rfl
theorem i31 : T 16384 7680 .f32 (val_main_v31 (F := Ideal) x0 x1 x2) (r31 a) := (ish_S16384x1024_S1024x7680_S16384x7680_1_0_0_1_n_n (i30 H) H.h2).congr fun _ => rfl
theorem i32 : T 16384 2560 .f32 (val_main_v32 (F := Ideal) x3) a.a3 := (isr_ext bitsLt_bf16_f32 H.h3).congr fun _ => rfl
theorem i33 : T 16384 1024 .f32 (val_main_v33 (F := Ideal) x4) a.a4 := (isr_ext bitsLt_bf16_f32 H.h4).congr fun _ => rfl
theorem i34 : T 16384 1024 .f32 (val_main_v34 (F := Ideal) x5) a.a5 := (isr_ext bitsLt_bf16_f32 H.h5).congr fun _ => rfl
theorem i35 : T 16384 1024 .f32 (val_main_v35 (F := Ideal) x6) a.a6 := (isr_ext bitsLt_bf16_f32 H.h6).congr fun _ => rfl
theorem i36 : T 16384 2048 .f32 (val_main_v36 (F := Ideal) x7) a.a7 := (isr_ext bitsLt_bf16_f32 H.h7).congr fun _ => rfl
theorem i37 : T 16384 7680 .f32 (val_main_v37 (F := Ideal) x3 x4 x5 x6 x7) (r37 a) := (isr_cat5 (i32 H) (i33 H) (i34 H) (i35 H) (i36 H) concatenates_S16384x2560_S16384x1024_S16384x1024_S16384x1024_S16384x2048_S16384x7680_d1).congr fun _ => rfl
theorem i38 : T 7680 1024 .f32 (val_main_v38 (F := Ideal) x0 x1 x3 x4 x5 x6 x7) (r38 a) := (ish_S16384x7680_S16384x1024_S7680x1024_0_0_1_1_n_n (i37 H) (i30 H)).congr fun _ => rfl
theorem i39 : T 1024 7680 .f32 (val_main_v39 (F := Ideal) x0 x1 x3 x4 x5 x6 x7) (fun r d => r38 a d r) := (isr_transpose (i38 H) transposes_S7680x1024_S1024x7680_1_0).congr fun _ => rfl
theorem i40 : T 16384 1024 .f32 (val_main_v40 (F := Ideal) x2 x3 x4 x5 x6 x7) (r40 a) := (ish_S16384x7680_S1024x7680_S16384x1024_1_1_0_0_n_n (i37 H) H.h2).congr fun _ => rfl
theorem icst_7 : IsR (s := S_) (φ := .f32) (val_main_cst_7 (F := Ideal)) (fun _ => 0) := (isr_const lit_zero).congr fun _ => rfl
theorem i41 : IsR (s := S1024) (φ := .f32) (val_main_v41 (F := Ideal) x2 x3 x4 x5 x6 x7) (N1 fun r d => r41 a r 0) := (isr_hred0 (i40 H) (icst_7 H) reducesTo_S16384x1024_S1024_d0 h_S_).congr fun _ => rfl
theorem i42 : T 1 1024 .f32 (val_main_v42 (F := Ideal) x2 x3 x4 x5 x6 x7) (fun r d => r41 a d 0) := (isr_cast_row (i41 H) shapeCasts_S1024_S1x1024).congr fun _ => rfl
theorem i43 : T 16384 1024 .f32 (val_main_v43 (F := Ideal) x0 x2 x3 x4 x5 x6 x7) (r43 a) := (isr_mul (i24 H) (i40 H)).congr fun _ => rfl
theorem icst_8 : IsR (s := S_) (φ := .f32) (val_main_cst_8 (F := Ideal)) (fun _ => 0) := (isr_const lit_zero).congr fun _ => rfl
theorem i44 : IsR (s := S1024) (φ := .f32) (val_main_v44 (F := Ideal) x0 x2 x3 x4 x5 x6 x7) (N1 fun r d => r44 a r 0) := (isr_hred0 (i43 H) (icst_8 H) reducesTo_S16384x1024_S1024_d0 h_S_).congr fun _ => rfl
theorem i45 : T 1 1024 .f32 (val_main_v45 (F := Ideal) x0 x2 x3 x4 x5 x6 x7) (fun r d => r44 a d 0) := (isr_cast_row (i44 H) shapeCasts_S1024_S1x1024).congr fun _ => rfl
theorem i46 : T 16384 1024 .f32 (val_main_v46 (F := Ideal) x1) (fun r d => r26 a 0 d) := (isr_bid_row (i26 H) bcast_S1x1024_S16384x1024_0_1).congr fun _ => rfl
theorem i47 : T 16384 1024 .f32 (val_main_v47 (F := Ideal) x1 x2 x3 x4 x5 x6 x7) (r47 a) := (isr_mul (i40 H) (i46 H)).congr fun _ => rfl
theorem i48 : T 16384 1024 .f32 (val_main_v48 (F := Ideal) x0 x1 x2 x3 x4 x5 x6 x7) (r48 a) := (isr_mul (i16 H) (i47 H)).congr fun _ => rfl
theorem icst_9 : IsR (s := S_) (φ := .f32) (val_main_cst_9 (F := Ideal)) (fun _ => 0) := (isr_const lit_zero).congr fun _ => rfl
theorem i49 : IsR (s := S16384) (φ := .f32) (val_main_v49 (F := Ideal) x0 x1 x2 x3 x4 x5 x6 x7) (N1 fun r d => r49 a r 0) := (isr_hred1 (i48 H) (icst_9 H) reducesTo_S16384x1024_S16384_d1 h_S_).congr fun _ => rfl
theorem i50 : T 16384 1 .f32 (val_main_v50 (F := Ideal) x0 x1 x2 x3 x4 x5 x6 x7) (fun r d => r49 a r 0) := (isr_cast_col16384 (i49 H) shapeCasts_S16384_S16384x1).congr fun _ => rfl
theorem i51 : T 16384 1024 .f32 (val_main_v51 (F := Ideal) x0) (fun r d => r19 a r 0) := (isr_bid_col (i19 H) bcast_S16384x1_S16384x1024_0_1).congr fun _ => rfl
theorem i52 : T 16384 1024 .f32 (val_main_v52 (F := Ideal) x0 x1 x2 x3 x4 x5 x6 x7) (r52 a) := (isr_mul (i47 H) (i51 H)).congr fun _ => rfl
theorem i53 : T 16384 1 .f32 (val_main_v53 (F := Ideal) x0 x1 x2 x3 x4 x5 x6 x7) (r53 a) := (isr_mul (i50 H) (i22 H)).congr fun _ => rfl
theorem i54 : T 16384 1024 .f32 (val_main_v54 (F := Ideal) x0 x1 x2 x3 x4 x5 x6 x7) (r54 a) := (isr_neg (i52 H)).congr fun _ => rfl
theorem icst_10 : IsR (s := S_) (φ := .f32) (val_main_cst_10 (F := Ideal)) (fun _ => 0) := (isr_const lit_zero).congr fun _ => rfl
theorem i55 : IsR (s := S16384) (φ := .f32) (val_main_v55 (F := Ideal) x0 x1 x2 x3 x4 x5 x6 x7) (N1 fun r d => r55 a r 0) := (isr_hred1 (i54 H) (icst_10 H) reducesTo_S16384x1024_S16384_d1 h_S_).congr fun _ => rfl
theorem i56 : T 16384 1 .f32 (val_main_v56 (F := Ideal) x0 x1 x2 x3 x4 x5 x6 x7) (fun r d => r55 a r 0) := (isr_cast_col16384 (i55 H) shapeCasts_S16384_S16384x1).congr fun _ => rfl
theorem i57 : T 16384 1024 .f32 (val_main_v57 (F := Ideal) x0 x1 x2 x3 x4 x5 x6 x7 x8) (r57 a) := (isr_add H.h8 (i52 H)).congr fun _ => rfl
theorem icst_11 : IsR (s := S_) (φ := .f32) (val_main_cst_11 (F := Ideal)) (fun _ => 1024) := (isr_const lit_lanes).congr fun _ => rfl
theorem i58 : T 16384 1 .f32 (val_main_v58 (F := Ideal)) (fun r d => 1024) := (isr_bid0 (icst_11 H) ![] bcast_S_S16384x1).congr fun _ => rfl
theorem i59 : T 16384 1 .f32 (val_main_v59 (F := Ideal) x0 x1 x2 x3 x4 x5 x6 x7) (r59 a) := (isr_hdiv (i53 H) (i58 H) (fun _ => by norm_num)).congr fun _ => rfl
theorem icst_12 : IsR (s := S_) (φ := .f32) (val_main_cst_12 (F := Ideal)) (fun _ => 0) := (isr_const lit_zero).congr fun _ => rfl
theorem i60 : IsR (s := S16384) (φ := .f32) (val_main_v60 (F := Ideal) x0 x1 x2 x3 x4 x5 x6 x7) (N1 fun r d => r60 a r 0) := (isr_hred1 (i59 H) (icst_12 H) reducesTo_S16384x1_S16384_d1 h_S_).congr fun _ => rfl
theorem i61 : T 16384 1024 .f32 (val_main_v61 (F := Ideal) x0 x1 x2 x3 x4 x5 x6 x7) (fun r d => r60 a r 0) := (isr_bid_d0 (i60 H) bcast_S16384_S16384x1024_0).congr fun _ => rfl
theorem i62 : T 16384 1024 .f32 (val_main_v62 (F := Ideal) x0 x1 x2 x3 x4 x5 x6 x7) (r62 a) := (isr_mul (i61 H) (i10 H)).congr fun _ => rfl
theorem i63 : T 16384 1024 .f32 (val_main_v63 (F := Ideal) x0 x1 x2 x3 x4 x5 x6 x7) (r63 a) := (isr_neg (i62 H)).congr fun _ => rfl
theorem icst_13 : IsR (s := S_) (φ := .f32) (val_main_cst_13 (F := Ideal)) (fun _ => 0) := (isr_const lit_zero).congr fun _ => rfl
theorem i64 : IsR (s := S16384) (φ := .f32) (val_main_v64 (F := Ideal) x0 x1 x2 x3 x4 x5 x6 x7) (N1 fun r d => r64 a r 0) := (isr_hred1 (i63 H) (icst_13 H) reducesTo_S16384x1024_S16384_d1 h_S_).congr fun _ => rfl
theorem i65 : T 16384 1 .f32 (val_main_v65 (F := Ideal) x0 x1 x2 x3 x4 x5 x6 x7) (fun r d => r64 a r 0) := (isr_cast_col16384 (i64 H) shapeCasts_S16384_S16384x1).congr fun _ => rfl
theorem i66 : T 16384 1024 .f32 (val_main_v66 (F := Ideal) x0 x1 x2 x3 x4 x5 x6 x7 x8) (r66 a) := (isr_add (i57 H) (i62 H)).congr fun _ => rfl
theorem i67 : T 16384 1 .f32 (val_main_v67 (F := Ideal) x0 x1 x2 x3 x4 x5 x6 x7) (r67 a) := (isr_add (i56 H) (i65 H)).congr fun _ => rfl
theorem icst_14 : IsR (s := S_) (φ := .f32) (val_main_cst_14 (F := Ideal)) (fun _ => 1024) := (isr_const lit_lanes).congr fun _ => rfl
theorem i68 : T 16384 1 .f32 (val_main_v68 (F := Ideal)) (fun r d => 1024) := (isr_bid0 (icst_14 H) ![] bcast_S_S16384x1).congr fun _ => rfl
theorem i69 : T 16384 1 .f32 (val_main_v69 (F := Ideal) x0 x1 x2 x3 x4 x5 x6 x7) (r69 a) := (isr_hdiv (i67 H) (i68 H) (fun _ => by norm_num)).congr fun _ => rfl
theorem icst_15 : IsR (s := S_) (φ := .f32) (val_main_cst_15 (F := Ideal)) (fun _ => 0) := (isr_const lit_zero).congr fun _ => rfl
theorem i70 : IsR (s := S16384) (φ := .f32) (val_main_v70 (F := Ideal) x0 x1 x2 x3 x4 x5 x6 x7) (N1 fun r d => r70 a r 0) := (isr_hred1 (i69 H) (icst_15 H) reducesTo_S16384x1_S16384_d1 h_S_).congr fun _ => rfl
theorem i71 : T 16384 1024 .f32 (val_main_v71 (F := Ideal) x0 x1 x2 x3 x4 x5 x6 x7) (fun r d => r70 a r 0) := (isr_bid_d0 (i70 H) bcast_S16384_S16384x1024_0).congr fun _ => rfl
theorem i72 : T 16384 1024 .f32 (val_main_v72 (F := Ideal) x0 x1 x2 x3 x4 x5 x6 x7 x8) (r72 a) := (isr_add (i66 H) (i71 H)).congr fun _ => rfl
theorem i73 : T 16384 2560 .f32 (val_main_v73 (F := Ideal) x0 x1 x2) (r31 a) := (isr_slice00 (i31 H) slices_S16384x7680_S16384x2560_0_0).congr fun _ => rfl
theorem i74 : T 16384 2560 .bf16 (val_main_v74 (F := Ideal) x0 x1 x2) (r31 a) := (isr_trunc bitsLt_bf16_f32 (i73 H)).congr fun _ => rfl
theorem i75 : T 16384 3072 .f32 (val_main_v75 (F := Ideal) x0 x1 x2) (fun r d => r31 a r (2560 + d)) := (isr_slice_col (q := 2560) (i31 H) slices_S16384x7680_S16384x3072_0_2560).congr fun _ => rfl
theorem i76 : T 16384 2048 .f32 (val_main_v76 (F := Ideal) x0 x1 x2) (fun r d => r31 a r (5632 + d)) := (isr_slice_col (q := 5632) (i31 H) slices_S16384x7680_S16384x2048_0_5632).congr fun _ => rfl
theorem i77 : T 16384 2048 .bf16 (val_main_v77 (F := Ideal) x0 x1 x2) (fun r d => r31 a r (5632 + d)) := (isr_trunc bitsLt_bf16_f32 (i76 H)).congr fun _ => rfl
theorem i78 : T 2 1024 .f32 (val_main_v78 (F := Ideal) x0 x2 x3 x4 x5 x6 x7) (r78 a) := (isr_cat2 (i42 H) (i45 H) concatenates_S1x1024_S1x1024_S2x1024_d0).congr fun _ => rfl

end Cert.Front

end
-- ==== Proof.Front.Chain.lean ====
/-
  What every call of the input side leaves, as a real function of the arguments, and that the reference's formulas are
  the same functions (untrusted).
-/
module

public import proofs.«01_k».proof.Proof.Tail.RefEq
public import proofs.«01_k».proof.Proof.Front.RefDefs

@[expose] public section

set_option maxRecDepth 16384

noncomputable section

namespace Cert.Front

open Cert.Tail

variable (a : A)

/-! ## The calls' results -/
def md : RM := fun r d => if r < 6 then a.a1 r d else 0
def w5 : RM := fun r d => a.a2 r (2560 + d)
def w6 : RM := fun r d => a.a2 r (5632 + d)
def w17 : RM := fun r d => w5 a r (1024 + d)
def w18 : RM := fun r d => w5 a r (2048 + d)
def k3 : RM := s0_2 a.a0 (md a)
def k7 : RM := s1_2 (k3 a) a.a2
def k8 : RM := s2_2 (k3 a) (w5 a)
def k9 : RM := s3_2 (k3 a) (w6 a)
def k10 : RM := dotL 16384 (k3 a) a.a3
def k11 : RM := dotL 16384 (k3 a) a.a4
def k12 : RM := dotL 16384 (k3 a) a.a5
def k13 : RM := dotL 16384 (k3 a) a.a6
def k14 : RM := dotL 16384 (k3 a) a.a7
def k15 : RM := cat5 (k10 a) (k11 a) (k12 a) (k13 a) (k14 a)
def k19 : RM := s9_10 a.a3 a.a2 a.a4 (w5 a) a.a5 (w17 a) a.a6 (w18 a) a.a7 (w6 a)
def k20_0 : RM := s10_4 a.a0 (k19 a) a.a8 (md a)
def k20_1 : RM := fun q d => ∑ r : Fin 16384, s10_u a.a0 (k19 a) a.a8 (md a) q r.val d

/-! ## The reference's formulas -/
theorem x24 (r d : ℕ) : r24 a r d = lnN (a.a0 r) d := rfl
theorem e30 : r30 a = k3 a := by
  funext r d
  show r24 a r d * (1 + a.a1 1 d) + a.a1 0 d = _
  rw [x24]
  rfl
theorem e31 (r d : ℕ) : r31 a r d = dotN 1024 (k3 a) a.a2 r d := by
  show ∑ k : Fin 1024, r30 a r k.val * a.a2 k.val d = _
  rw [e30]
  rfl
theorem q_rnn (r d : ℕ) : r31 a r d = k7 a r d := e31 a r d
theorem q_qkv (r d : ℕ) : r31 a r (2560 + d) = k8 a r d := e31 a _ _
theorem q_gates (r d : ℕ) : r31 a r (5632 + d) = k9 a r d := e31 a _ _
theorem dl (F G : RM) (r d : ℕ) : ∑ k : Fin 16384, F k.val d * G k.val r = dotL 16384 G F r d := by
  unfold dotL
  exact Finset.sum_congr rfl fun k _ => mul_comm _ _
theorem q_win (r d : ℕ) : r38 a d r = k15 a r d := by
  show ∑ k : Fin 16384, cat5 _ _ _ _ _ k.val d * r30 a k.val r = cat5 _ _ _ _ _ r d
  rw [e30]
  unfold cat5
  split_ifs <;> exact dl _ _ _ _
theorem e40 : r40 a = k19 a := by
  funext r d
  refine Eq.trans (Finset.sum_congr rfl fun k _ => ?_) (sum_cat5 (fun k => a.a3 r k * a.a2 d k)
    (fun k => a.a4 r k * w5 a d k) (fun k => a.a5 r k * w17 a d k) (fun k => a.a6 r k * w18 a d k) (fun k => a.a7 r k * w6 a d k))
  show cat5 _ _ _ _ _ r k.val * a.a2 d k.val = _
  unfold cat5
  split_ifs
  · rfl
  · exact congrArg (fun j => a.a4 r (k.val - 2560) * a.a2 d j) (by omega : k.val = 2560 + (k.val - 2560))
  · exact congrArg (fun j => a.a5 r (k.val - 2560 - 1024) * a.a2 d j) (by omega : k.val = 2560 + (1024 + (k.val - 2560 - 1024)))
  · exact congrArg (fun j => a.a6 r (k.val - 2560 - 1024 - 1024) * a.a2 d j)
      (by omega : k.val = 2560 + (2048 + (k.val - 2560 - 1024 - 1024)))
  · exact congrArg (fun j => a.a7 r (k.val - 2560 - 1024 - 1024 - 1024) * a.a2 d j)
      (by omega : k.val = 5632 + (k.val - 2560 - 1024 - 1024 - 1024))
theorem q_x (r d : ℕ) : r72 a r d = k20_0 a r d := by
  have h : r47 a r = fun k => k19 a r k * (1 + md a 1 k) := by
    funext k
    show r40 a r k * (1 + a.a1 1 k) = _
    rw [e40]
    rfl
  show a.a8 r d + r52 a r d + r62 a r d + r70 a r 0 = _
  rw [add_assoc, add_assoc, ← add_assoc (r52 a r d)]
  refine (congrArg (a.a8 r d + ·)
    (lnb_eq (r7 a r) (r47 a r) _ _ d (sum_centred (a.a0 r)) (rs_cube (p18 a r 0)))).trans ?_
  rw [h]
  rfl
theorem q_mod (r d : ℕ) (h : r < 2) : r78 a r d = if r = 0 then k20_1 a 1 d else k20_1 a 0 d := by
  have h0 : r41 a d 0 = k20_1 a 1 d := by
    show ∑ k : Fin 16384, r40 a k.val d = ∑ k : Fin 16384, k19 a k.val d
    rw [e40]
  have h1 : r44 a d 0 = k20_1 a 0 d := by
    show ∑ k : Fin 16384, r24 a k.val d * r40 a k.val d = ∑ k : Fin 16384, k19 a k.val d * r24 a k.val d
    rw [e40]
    exact Finset.sum_congr rfl fun k _ => mul_comm _ _
  show (if r = 0 then r41 a d 0 else r44 a d 0) = _
  rw [h0, h1]

end Cert.Front

end
-- ==== Proof.Front.DotsK.lean ====
/-
  The matrix products of the kernel on vectors of real numbers (untrusted): each is the sum of products of the real entries.
-/
module

public import proofs.«01_k».proof.Proof.Gen.Kernel2Ideal.Skeleton
public import proofs.«01_k».proof.Proof.Tail.Isr

@[expose] public section

set_option maxRecDepth 16384

noncomputable section

open Idealize.ShloMosaic

namespace Cert.Front

open Cert.Tail Cert.Kernel2Ideal Cert.Kernel2Ideal.Gen

theorem isk_S2048x1024_S2048x1024_S1024x1024_0_0_1_1_n_n {φ ψ : FTy} {x : FVec Ideal S2048x1024 φ} {y : FVec Ideal S2048x1024 ψ} {f : S2048x1024.Idx → ℝ} {g : S2048x1024.Idx → ℝ}
    (hx : IsR x f) (hy : IsR y g) : IsR (φ := .f32) (matmul dot_S2048x1024_S2048x1024_S1024x1024_0_0_1_1_n_n none x y (constant (F := Ideal) S1024x1024 .f32 0x00000000#32))
      (fun i => ∑ k : Fin 2048, f (ix2 k (i 0)) * g (ix2 k (i 1))) := fun i => by
  pointwise []
  rw [Cert.Proof.Real.coe_sum]
  exact Finset.sum_congr rfl fun k _ => by rw [hx, hy, EReal.coe_mul]
theorem isk_S2048x1024_S2048x1280_S1024x1280_0_0_1_1_n_n {φ ψ : FTy} {x : FVec Ideal S2048x1024 φ} {y : FVec Ideal S2048x1280 ψ} {f : S2048x1024.Idx → ℝ} {g : S2048x1280.Idx → ℝ}
    (hx : IsR x f) (hy : IsR y g) : IsR (φ := .f32) (matmul dot_S2048x1024_S2048x1280_S1024x1280_0_0_1_1_n_n none x y (constant (F := Ideal) S1024x1280 .f32 0x00000000#32))
      (fun i => ∑ k : Fin 2048, f (ix2 k (i 0)) * g (ix2 k (i 1))) := fun i => by
  pointwise []
  rw [Cert.Proof.Real.coe_sum]
  exact Finset.sum_congr rfl fun k _ => by rw [hx, hy, EReal.coe_mul]
theorem isk_S512x1024_S1024x1024_S512x1024_1_0_0_1_n_n {φ ψ : FTy} {x : FVec Ideal S512x1024 φ} {y : FVec Ideal S1024x1024 ψ} {f : S512x1024.Idx → ℝ} {g : S1024x1024.Idx → ℝ}
    (hx : IsR x f) (hy : IsR y g) : IsR (φ := .f32) (matmul dot_S512x1024_S1024x1024_S512x1024_1_0_0_1_n_n none x y (constant (F := Ideal) S512x1024 .f32 0x00000000#32))
      (fun i => ∑ k : Fin 1024, f (ix2 (i 0) k) * g (ix2 k (i 1))) := fun i => by
  pointwise []
  rw [Cert.Proof.Real.coe_sum]
  exact Finset.sum_congr rfl fun k _ => by rw [hx, hy, EReal.coe_mul]
theorem isk_S512x1024_S1024x1280_S512x1280_1_0_0_1_n_n {φ ψ : FTy} {x : FVec Ideal S512x1024 φ} {y : FVec Ideal S1024x1280 ψ} {f : S512x1024.Idx → ℝ} {g : S1024x1280.Idx → ℝ}
    (hx : IsR x f) (hy : IsR y g) : IsR (φ := .f32) (matmul dot_S512x1024_S1024x1280_S512x1280_1_0_0_1_n_n none x y (constant (F := Ideal) S512x1280 .f32 0x00000000#32))
      (fun i => ∑ k : Fin 1024, f (ix2 (i 0) k) * g (ix2 k (i 1))) := fun i => by
  pointwise []
  rw [Cert.Proof.Real.coe_sum]
  exact Finset.sum_congr rfl fun k _ => by rw [hx, hy, EReal.coe_mul]
theorem isk_S512x1024_S512x1024_S512x512_1_1_0_0_n_n {φ ψ : FTy} {x : FVec Ideal S512x1024 φ} {y : FVec Ideal S512x1024 ψ} {f : S512x1024.Idx → ℝ} {g : S512x1024.Idx → ℝ}
    (hx : IsR x f) (hy : IsR y g) : IsR (φ := .f32) (matmul dot_S512x1024_S512x1024_S512x512_1_1_0_0_n_n none x y (constant (F := Ideal) S512x512 .f32 0x00000000#32))
      (fun i => ∑ k : Fin 1024, f (ix2 (i 0) k) * g (ix2 (i 1) k)) := fun i => by
  pointwise []
  rw [Cert.Proof.Real.coe_sum]
  exact Finset.sum_congr rfl fun k _ => by rw [hx, hy, EReal.coe_mul]
theorem isk_S512x2048_S512x2048_S512x512_1_1_0_0_n_n {φ ψ : FTy} {x : FVec Ideal S512x2048 φ} {y : FVec Ideal S512x2048 ψ} {f : S512x2048.Idx → ℝ} {g : S512x2048.Idx → ℝ}
    (hx : IsR x f) (hy : IsR y g) : IsR (φ := .f32) (matmul dot_S512x2048_S512x2048_S512x512_1_1_0_0_n_n none x y (constant (F := Ideal) S512x512 .f32 0x00000000#32))
      (fun i => ∑ k : Fin 2048, f (ix2 (i 0) k) * g (ix2 (i 1) k)) := fun i => by
  pointwise []
  rw [Cert.Proof.Real.coe_sum]
  exact Finset.sum_congr rfl fun k _ => by rw [hx, hy, EReal.coe_mul]
theorem isk_S512x2560_S512x2560_S512x512_1_1_0_0_n_n {φ ψ : FTy} {x : FVec Ideal S512x2560 φ} {y : FVec Ideal S512x2560 ψ} {f : S512x2560.Idx → ℝ} {g : S512x2560.Idx → ℝ}
    (hx : IsR x f) (hy : IsR y g) : IsR (φ := .f32) (matmul dot_S512x2560_S512x2560_S512x512_1_1_0_0_n_n none x y (constant (F := Ideal) S512x512 .f32 0x00000000#32))
      (fun i => ∑ k : Fin 2560, f (ix2 (i 0) k) * g (ix2 (i 1) k)) := fun i => by
  pointwise []
  rw [Cert.Proof.Real.coe_sum]
  exact Finset.sum_congr rfl fun k _ => by rw [hx, hy, EReal.coe_mul]

end Cert.Front

end
-- ==== Proof.Front.Pay.lean ====
/-
  The printed vector operations of the kernel, read on real matrices (untrusted): each `_r` is the real function,
  each `_isr` carries it across.
-/
module

public import proofs.«01_k».proof.Proof.Front.DotsK
public import proofs.«01_k».proof.Proof.Front.Lay

@[expose] public section

set_option relaxedAutoImplicit true
set_option maxRecDepth 16384

noncomputable section

open Idealize.ShloMosaic

namespace Cert.Front

open Cert.Tail Cert.Kernel2Ideal Cert.Kernel2Ideal.Gen

def k0_pay1_r (Fv0 Fv17 Fv23 : RM) (r d : ℕ) : ℝ :=
  ((((Fv0 r d - ((∑ k1 : Fin 1024, Fv0 r k1.val) / 1024)) * (Real.sqrt ((((∑ k2 : Fin 1024, ((Fv0 r k2.val - ((∑ k1 : Fin 1024, Fv0 r k1.val) / 1024)) * (Fv0 r k2.val - ((∑ k1 : Fin 1024, Fv0 r k1.val) / 1024)))) / 1024) + epsR)))⁻¹) * (1 + Fv17 0 d)) + Fv23 0 d)
theorem k0_pay1_isr (hv0 : T 512 1024 .f32 v0 Fv0) (hv17 : T 1 1024 .f32 v17 Fv17) (hv23 : T 1 1024 .f32 v23 Fv23) : T 512 1024 .bf16 (k0_pay1 v0 v17 v23) (k0_pay1_r Fv0 Fv17 Fv23) := by
  have hv1 := isr_red1 hv0 reduces_S512x1024_S512 (.inl rfl) rfl
  have hv2 := isr_cast_col512 hv1 shapeCasts_S512_S512x1
  have hv3 := isr_bc (s := S512x1) lit_lanes
  have hv4 := isr_div hv2 hv3 (fun _ => by norm_num)
  have hv5 := isr_col hv4 broadcasts_S512x1_S512x1024
  have hv6 := isr_sub hv0 hv5
  have hv7 := isr_mul hv6 hv6
  have hv8 := isr_red1 hv7 reduces_S512x1024_S512 (.inl rfl) rfl
  have hv9 := isr_cast_col512 hv8 shapeCasts_S512_S512x1
  have hv10 := isr_bc (s := S512x1) lit_lanes
  have hv11 := isr_div hv9 hv10 (fun _ => by norm_num)
  have hv12 := isr_bc (s := S512x1) lit_eps
  have hv13 := isr_add hv11 hv12
  have hv14 := isr_rsqrt hv13 (fun _ => var_pos _)
  have hv15 := isr_col hv14 broadcasts_S512x1_S512x1024
  have hv16 := isr_mul hv6 hv15
  have hv18 := isr_cast hv17 shapeCasts_S1x1024_S1x1024
  have hv19 := isr_bc (s := S1x1024) lit_one
  have hv20 := isr_add hv19 hv18
  have hv21 := isr_row hv20 broadcasts_S1x1024_S512x1024
  have hv22 := isr_mul hv16 hv21
  have hv24 := isr_cast hv23 shapeCasts_S1x1024_S1x1024
  have hv25 := isr_row hv24 broadcasts_S1x1024_S512x1024
  have hv26 := isr_add hv22 hv25
  exact IsR.congr (isr_trunc bitsLt_bf16_f32 hv26) fun i => rfl

def k1_pay1_r (Fv0 Fv2 : RM) (r d : ℕ) : ℝ :=
  (∑ k1 : Fin 1024, Fv0 r k1.val * Fv2 k1.val d)
theorem k1_pay1_isr (hv0 : T 512 1024 .bf16 v0 Fv0) (hv2 : T 1024 1280 .bf16 v2 Fv2) : T 512 1280 .bf16 (k1_pay1 v0 v2) (k1_pay1_r Fv0 Fv2) := by
  have hv1 := isr_cast hv0 shapeCasts_S512x1024_S512x1024
  have hv3 := isr_cast hv2 shapeCasts_S1024x1280_S1024x1280
  have hv4 := isk_S512x1024_S1024x1280_S512x1280_1_0_0_1_n_n hv1 hv3
  exact IsR.congr (isr_trunc bitsLt_bf16_f32 hv4) fun i => rfl

def k2_pay1_r (Fv0 Fv2 : RM) (r d : ℕ) : ℝ :=
  (∑ k1 : Fin 1024, Fv0 r k1.val * Fv2 k1.val d)
theorem k2_pay1_isr (hv0 : T 512 1024 .bf16 v0 Fv0) (hv2 : T 1024 1024 .bf16 v2 Fv2) : T 512 1024 .f32 (k2_pay1 v0 v2) (k2_pay1_r Fv0 Fv2) := by
  have hv1 := isr_cast hv0 shapeCasts_S512x1024_S512x1024
  have hv3 := isr_cast hv2 shapeCasts_S1024x1024_S1024x1024
  exact IsR.congr (isk_S512x1024_S1024x1024_S512x1024_1_0_0_1_n_n hv1 hv3) fun i => rfl

def k3_pay1_r (Fv0 Fv2 : RM) (r d : ℕ) : ℝ :=
  (∑ k1 : Fin 1024, Fv0 r k1.val * Fv2 k1.val d)
theorem k3_pay1_isr (hv0 : T 512 1024 .bf16 v0 Fv0) (hv2 : T 1024 1024 .bf16 v2 Fv2) : T 512 1024 .bf16 (k3_pay1 v0 v2) (k3_pay1_r Fv0 Fv2) := by
  have hv1 := isr_cast hv0 shapeCasts_S512x1024_S512x1024
  have hv3 := isr_cast hv2 shapeCasts_S1024x1024_S1024x1024
  have hv4 := isk_S512x1024_S1024x1024_S512x1024_1_0_0_1_n_n hv1 hv3
  exact IsR.congr (isr_trunc bitsLt_bf16_f32 hv4) fun i => rfl

def k4_pay1_r (r d : ℕ) : ℝ :=
  0
theorem k4_pay1_isr : T 1024 1280 .f32 (k4_pay1 ) (k4_pay1_r ) := by
  exact IsR.congr (isr_bc (s := S1024x1280) lit_zero) fun i => rfl

def k4_pay2_r (Fv3 Fv5 Fv7 : RM) (r d : ℕ) : ℝ :=
  (Fv3 r d + (∑ k1 : Fin 2048, Fv5 k1.val r * Fv7 k1.val d))
theorem k4_pay2_isr (hv3 : T 1024 1280 .f32 v3 Fv3) (hv5 : T 2048 1024 .bf16 v5 Fv5) (hv7 : T 2048 1280 .bf16 v7 Fv7) : T 1024 1280 .f32 (k4_pay2 v3 v5 v7) (k4_pay2_r Fv3 Fv5 Fv7) := by
  have hv4 := isr_cast hv3 shapeCasts_S1024x1280_S1024x1280
  have hv6 := isr_cast hv5 shapeCasts_S2048x1024_S2048x1024
  have hv8 := isk_S2048x1024_S2048x1280_S1024x1280_0_0_1_1_n_n hv6 hv7
  exact IsR.congr (isr_add hv4 hv8) fun i => rfl

def k5_pay1_r (r d : ℕ) : ℝ :=
  0
theorem k5_pay1_isr : T 1024 1024 .f32 (k5_pay1 ) (k5_pay1_r ) := by
  exact IsR.congr (isr_bc (s := S1024x1024) lit_zero) fun i => rfl

def k5_pay2_r (Fv3 Fv5 Fv7 : RM) (r d : ℕ) : ℝ :=
  (Fv3 r d + (∑ k1 : Fin 2048, Fv5 k1.val r * Fv7 k1.val d))
theorem k5_pay2_isr (hv3 : T 1024 1024 .f32 v3 Fv3) (hv5 : T 2048 1024 .bf16 v5 Fv5) (hv7 : T 2048 1024 .bf16 v7 Fv7) : T 1024 1024 .f32 (k5_pay2 v3 v5 v7) (k5_pay2_r Fv3 Fv5 Fv7) := by
  have hv4 := isr_cast hv3 shapeCasts_S1024x1024_S1024x1024
  have hv6 := isr_cast hv5 shapeCasts_S2048x1024_S2048x1024
  have hv8 := isk_S2048x1024_S2048x1024_S1024x1024_0_0_1_1_n_n hv6 hv7
  exact IsR.congr (isr_add hv4 hv8) fun i => rfl

def k6_pay1_r (r d : ℕ) : ℝ :=
  0
theorem k6_pay1_isr : T 1024 1024 .f32 (k6_pay1 ) (k6_pay1_r ) := by
  exact IsR.congr (isr_bc (s := S1024x1024) lit_zero) fun i => rfl

def k6_pay2_r (Fv3 Fv5 Fv7 : RM) (r d : ℕ) : ℝ :=
  (Fv3 r d + (∑ k1 : Fin 2048, Fv5 k1.val r * Fv7 k1.val d))
theorem k6_pay2_isr (hv3 : T 1024 1024 .f32 v3 Fv3) (hv5 : T 2048 1024 .bf16 v5 Fv5) (hv7 : T 2048 1024 .bf16 v7 Fv7) : T 1024 1024 .f32 (k6_pay2 v3 v5 v7) (k6_pay2_r Fv3 Fv5 Fv7) := by
  have hv4 := isr_cast hv3 shapeCasts_S1024x1024_S1024x1024
  have hv6 := isr_cast hv5 shapeCasts_S2048x1024_S2048x1024
  have hv8 := isk_S2048x1024_S2048x1024_S1024x1024_0_0_1_1_n_n hv6 hv7
  exact IsR.congr (isr_add hv4 hv8) fun i => rfl

def k7_pay1_r (r d : ℕ) : ℝ :=
  0
theorem k7_pay1_isr : T 1024 1024 .f32 (k7_pay1 ) (k7_pay1_r ) := by
  exact IsR.congr (isr_bc (s := S1024x1024) lit_zero) fun i => rfl

def k7_pay2_r (Fv3 Fv5 Fv7 : RM) (r d : ℕ) : ℝ :=
  (Fv3 r d + (∑ k1 : Fin 2048, Fv5 k1.val r * Fv7 k1.val d))
theorem k7_pay2_isr (hv3 : T 1024 1024 .f32 v3 Fv3) (hv5 : T 2048 1024 .bf16 v5 Fv5) (hv7 : T 2048 1024 .bf16 v7 Fv7) : T 1024 1024 .f32 (k7_pay2 v3 v5 v7) (k7_pay2_r Fv3 Fv5 Fv7) := by
  have hv4 := isr_cast hv3 shapeCasts_S1024x1024_S1024x1024
  have hv6 := isr_cast hv5 shapeCasts_S2048x1024_S2048x1024
  have hv8 := isk_S2048x1024_S2048x1024_S1024x1024_0_0_1_1_n_n hv6 hv7
  exact IsR.congr (isr_add hv4 hv8) fun i => rfl

def k8_pay1_r (r d : ℕ) : ℝ :=
  0
theorem k8_pay1_isr : T 1024 1024 .f32 (k8_pay1 ) (k8_pay1_r ) := by
  exact IsR.congr (isr_bc (s := S1024x1024) lit_zero) fun i => rfl

def k8_pay2_r (Fv3 Fv5 Fv7 : RM) (r d : ℕ) : ℝ :=
  (Fv3 r d + (∑ k1 : Fin 2048, Fv5 k1.val r * Fv7 k1.val d))
theorem k8_pay2_isr (hv3 : T 1024 1024 .f32 v3 Fv3) (hv5 : T 2048 1024 .bf16 v5 Fv5) (hv7 : T 2048 1024 .bf16 v7 Fv7) : T 1024 1024 .f32 (k8_pay2 v3 v5 v7) (k8_pay2_r Fv3 Fv5 Fv7) := by
  have hv4 := isr_cast hv3 shapeCasts_S1024x1024_S1024x1024
  have hv6 := isr_cast hv5 shapeCasts_S2048x1024_S2048x1024
  have hv8 := isk_S2048x1024_S2048x1024_S1024x1024_0_0_1_1_n_n hv6 hv7
  exact IsR.congr (isr_add hv4 hv8) fun i => rfl

def k9_pay1_r (Fv0 Fv1 Fv4 Fv5 Fv9 Fv10 Fv14 Fv15 Fv19 Fv20 : RM) (r d : ℕ) : ℝ :=
  (((((∑ k1 : Fin 2560, Fv0 r k1.val * Fv1 d k1.val) + (∑ k2 : Fin 1024, Fv4 r k2.val * Fv5 d k2.val)) + (∑ k3 : Fin 1024, Fv9 r k3.val * Fv10 d k3.val)) + (∑ k4 : Fin 1024, Fv14 r k4.val * Fv15 d k4.val)) + (∑ k5 : Fin 2048, Fv19 r k5.val * Fv20 d k5.val))
theorem k9_pay1_isr (hv0 : T 512 2560 .bf16 v0 Fv0) (hv1 : T 512 2560 .bf16 v1 Fv1) (hv4 : T 512 1024 .bf16 v4 Fv4) (hv5 : T 512 1024 .bf16 v5 Fv5) (hv9 : T 512 1024 .bf16 v9 Fv9) (hv10 : T 512 1024 .bf16 v10 Fv10) (hv14 : T 512 1024 .bf16 v14 Fv14) (hv15 : T 512 1024 .bf16 v15 Fv15) (hv19 : T 512 2048 .bf16 v19 Fv19) (hv20 : T 512 2048 .bf16 v20 Fv20) : T 512 512 .f32 (k9_pay1 v0 v1 v4 v5 v9 v10 v14 v15 v19 v20) (k9_pay1_r Fv0 Fv1 Fv4 Fv5 Fv9 Fv10 Fv14 Fv15 Fv19 Fv20) := by
  have hv2 := isr_cast hv1 shapeCasts_S512x2560_S512x2560
  have hv3 := isk_S512x2560_S512x2560_S512x512_1_1_0_0_n_n hv0 hv2
  have hv6 := isr_cast hv5 shapeCasts_S512x1024_S512x1024
  have hv7 := isk_S512x1024_S512x1024_S512x512_1_1_0_0_n_n hv4 hv6
  have hv8 := isr_add hv3 hv7
  have hv11 := isr_cast hv10 shapeCasts_S512x1024_S512x1024
  have hv12 := isk_S512x1024_S512x1024_S512x512_1_1_0_0_n_n hv9 hv11
  have hv13 := isr_add hv8 hv12
  have hv16 := isr_cast hv15 shapeCasts_S512x1024_S512x1024
  have hv17 := isk_S512x1024_S512x1024_S512x512_1_1_0_0_n_n hv14 hv16
  have hv18 := isr_add hv13 hv17
  have hv21 := isr_cast hv20 shapeCasts_S512x2048_S512x2048
  have hv22 := isk_S512x2048_S512x2048_S512x512_1_1_0_0_n_n hv19 hv21
  exact IsR.congr (isr_add hv18 hv22) fun i => rfl

def k10_pay1_r (Fv17 Fv19 Fv22 Fv34 Fv37 : RM) (r d : ℕ) : ℝ :=
  (Fv22 r d + (Fv17 r 0 * (Fv34 r d - (Fv19 r d * (Fv37 r 0 / 1024)))))
theorem k10_pay1_isr (hv17 : T 512 1 .f32 v17 Fv17) (hv19 : T 512 1024 .f32 v19 Fv19) (hv22 : T 512 1024 .f32 v22 Fv22) (hv34 : T 512 1024 .f32 v34 Fv34) (hv37 : T 512 1 .f32 v37 Fv37) : T 512 1024 .f32 (k10_pay1 v17 v19 v22 v34 v37 (Scalar.ofBits .f32 0x44800000#32)) (k10_pay1_r Fv17 Fv19 Fv22 Fv34 Fv37) := by
  have hv38 := isr_bc (s := S512x1) lit_lanes
  have hv39 := isr_div hv37 hv38 (fun _ => by norm_num)
  have hv40 := isr_col hv39 broadcasts_S512x1_S512x1024
  have hv41 := isr_mul hv19 hv40
  have hv42 := isr_sub hv34 hv41
  have hv43 := isr_col hv17 broadcasts_S512x1_S512x1024
  have hv44 := isr_mul hv43 hv42
  exact IsR.congr (isr_add hv22 hv44) fun i => rfl

def k10_pay2_r (Fv19 Fv21 Fv47 : RM) (r d : ℕ) : ℝ :=
  (Fv47 r d + (∑ k1 : Fin 512, (Fv21 k1.val d * Fv19 k1.val d)))
theorem k10_pay2_isr (hv19 : T 512 1024 .f32 v19 Fv19) (hv21 : T 512 1024 .f32 v21 Fv21) (hv47 : T 1 1024 .f32 v47 Fv47) : T 1 1024 .f32 (k10_pay2 v19 v21 v47) (k10_pay2_r Fv19 Fv21 Fv47) := by
  have hv48 := isr_cast hv47 shapeCasts_S1x1024_S1x1024
  have hv49 := isr_mul hv21 hv19
  have hv50 := isr_red0 hv49 reduces_S512x1024_S1024 (.inl rfl) rfl
  have hv51 := isr_cast_row hv50 shapeCasts_S1024_S1x1024
  exact IsR.congr (isr_add hv48 hv51) fun i => rfl

def k10_pay3_r (Fv21 Fv54 : RM) (r d : ℕ) : ℝ :=
  (Fv54 r d + (∑ k1 : Fin 512, Fv21 k1.val d))
theorem k10_pay3_isr (hv21 : T 512 1024 .f32 v21 Fv21) (hv54 : T 1 1024 .f32 v54 Fv54) : T 1 1024 .f32 (k10_pay3 v21 v54) (k10_pay3_r Fv21 Fv54) := by
  have hv55 := isr_cast hv54 shapeCasts_S1x1024_S1x1024
  have hv56 := isr_red0 hv21 reduces_S512x1024_S1024 (.inl rfl) rfl
  have hv57 := isr_cast_row hv56 shapeCasts_S1024_S1x1024
  exact IsR.congr (isr_add hv55 hv57) fun i => rfl

def k10_pay4_r (r d : ℕ) : ℝ :=
  0
theorem k10_pay4_isr : T 8 1024 .f32 (k10_pay4 ) (k10_pay4_r ) := by
  exact IsR.congr (isr_bc (s := S8x1024) lit_zero) fun i => rfl

def k10_pay5_r (Fv3 : RM) (r d : ℕ) : ℝ :=
  (Fv3 r d - ((∑ k1 : Fin 1024, Fv3 r k1.val) / 1024))
theorem k10_pay5_isr (hv3 : T 512 1024 .f32 v3 Fv3) : T 512 1024 .f32 (k10_pay5 v3) (k10_pay5_r Fv3) := by
  have hv4 := isr_red1 hv3 reduces_S512x1024_S512 (.inl rfl) rfl
  have hv5 := isr_cast_col512 hv4 shapeCasts_S512_S512x1
  have hv6 := isr_bc (s := S512x1) lit_lanes
  have hv7 := isr_div hv5 hv6 (fun _ => by norm_num)
  have hv8 := isr_col hv7 broadcasts_S512x1_S512x1024
  exact IsR.congr (isr_sub hv3 hv8) fun i => rfl

def k10_pay6_r (Fv3 : RM) (r d : ℕ) : ℝ :=
  (Real.sqrt ((((∑ k1 : Fin 1024, (k10_pay5_r (fun r d => Fv3 r d) r k1.val * k10_pay5_r (fun r d => Fv3 r d) r k1.val)) / 1024) + epsR)))⁻¹
theorem k10_pay6_isr (hv3 : T 512 1024 .f32 v3 Fv3) : T 512 1 .f32 (k10_pay6 v3) (k10_pay6_r Fv3) := by
  have hv10 := isr_mul (k10_pay5_isr hv3) (k10_pay5_isr hv3)
  have hv11 := isr_red1 hv10 reduces_S512x1024_S512 (.inl rfl) rfl
  have hv12 := isr_cast_col512 hv11 shapeCasts_S512_S512x1
  have hv13 := isr_bc (s := S512x1) lit_lanes
  have hv14 := isr_div hv12 hv13 (fun _ => by norm_num)
  have hv15 := isr_bc (s := S512x1) lit_eps
  have hv16 := isr_add hv14 hv15
  exact IsR.congr (isr_rsqrt hv16 (fun _ => var_pos _)) fun i => rfl

def k10_pay7_r (Fv3 : RM) (r d : ℕ) : ℝ :=
  (k10_pay5_r (fun r d => Fv3 r d) r d * k10_pay6_r (fun r d => Fv3 r d) r 0)
theorem k10_pay7_isr (hv3 : T 512 1024 .f32 v3 Fv3) : T 512 1024 .f32 (k10_pay7 v3) (k10_pay7_r Fv3) := by
  have hv18 := isr_col (k10_pay6_isr hv3) broadcasts_S512x1_S512x1024
  exact IsR.congr (isr_mul (k10_pay5_isr hv3) hv18) fun i => rfl

def k10_pay8_r (Fv20 : RM) (r d : ℕ) : ℝ :=
  Fv20 r d
theorem k10_pay8_isr (hv20 : T 512 1024 .f32 v20 Fv20) : T 512 1024 .f32 (k10_pay8 v20) (k10_pay8_r Fv20) := by
  exact IsR.congr (isr_cast hv20 shapeCasts_S512x1024_S512x1024) fun i => rfl

def k10_pay9_r (Fv20 Fv23 : RM) (r d : ℕ) : ℝ :=
  (k10_pay8_r (fun r d => Fv20 r d) r d * (1 + Fv23 0 d))
theorem k10_pay9_isr (hv20 : T 512 1024 .f32 v20 Fv20) (hv23 : T 1 1024 .f32 v23 Fv23) : T 512 1024 .f32 (k10_pay9 v20 v23) (k10_pay9_r Fv20 Fv23) := by
  have hv24 := isr_cast hv23 shapeCasts_S1x1024_S1x1024
  have hv25 := isr_bc (s := S1x1024) lit_one
  have hv26 := isr_add hv25 hv24
  have hv27 := isr_row hv26 broadcasts_S1x1024_S512x1024
  exact IsR.congr (isr_mul (k10_pay8_isr hv20) hv27) fun i => rfl

def k10_pay10_r (Fv20 Fv23 : RM) (r d : ℕ) : ℝ :=
  (k10_pay9_r (fun r d => Fv20 r d) (fun r d => Fv23 r d) r d - ((∑ k1 : Fin 1024, k10_pay9_r (fun r d => Fv20 r d) (fun r d => Fv23 r d) r k1.val) / 1024))
theorem k10_pay10_isr (hv20 : T 512 1024 .f32 v20 Fv20) (hv23 : T 1 1024 .f32 v23 Fv23) : T 512 1024 .f32 (k10_pay10 v20 v23) (k10_pay10_r Fv20 Fv23) := by
  have hv29 := isr_red1 (k10_pay9_isr hv20 hv23) reduces_S512x1024_S512 (.inl rfl) rfl
  have hv30 := isr_cast_col512 hv29 shapeCasts_S512_S512x1
  have hv31 := isr_bc (s := S512x1) lit_lanes
  have hv32 := isr_div hv30 hv31 (fun _ => by norm_num)
  have hv33 := isr_col hv32 broadcasts_S512x1_S512x1024
  exact IsR.congr (isr_sub (k10_pay9_isr hv20 hv23) hv33) fun i => rfl

def k10_pay11_r (Fv3 Fv20 Fv23 : RM) (r d : ℕ) : ℝ :=
  (∑ k1 : Fin 1024, (k10_pay9_r (fun r d => Fv20 r d) (fun r d => Fv23 r d) r k1.val * k10_pay7_r (fun r d => Fv3 r d) r k1.val))
theorem k10_pay11_isr (hv3 : T 512 1024 .f32 v3 Fv3) (hv20 : T 512 1024 .f32 v20 Fv20) (hv23 : T 1 1024 .f32 v23 Fv23) : T 512 1 .f32 (k10_pay11 v3 v20 v23) (k10_pay11_r Fv3 Fv20 Fv23) := by
  have hv35 := isr_mul (k10_pay9_isr hv20 hv23) (k10_pay7_isr hv3)
  have hv36 := isr_red1 hv35 reduces_S512x1024_S512 (.inl rfl) rfl
  exact IsR.congr (isr_cast_col512 hv36 shapeCasts_S512_S512x1) fun i => rfl

end Cert.Front

end
-- ==== Proof.Front.R0.lean ====
/-
  Region 0 of the kernel (untrusted): its input blocks as shifted real matrices, what each point of the grid leaves in its
  output windows, and the arrays after the last point.
-/
module

public import proofs.«01_k».proof.Proof.Gen.Kernel2Ideal.Frame.Region0
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R0

open Cert.Tail Cert.Kernel2Ideal Cert.Kernel2Ideal.Gen
variable (V : (c : Dev nD) → (b : Ref sig .tc) → Buf (Elt Ideal) ((c : Thread nD τ).loc b))

theorem idx : ∀ t : Fin cfg0.N,
    win0_0.index t = ![t.val, 0]
    ∧ win0_1.index t = ![0, 0]
    ∧ win0_2.index t = ![t.val, 0] :=
  (by decide +kernel : ∀ t : Fin grid0.N, _)

theorem blk_0 {F : RM} (c : Dev nD) (t : Fin cfg0.N) (h : T 16384 1024 .f32 (V c main_arg0) F) :
    T 512 1024 .f32 (iblk0 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg0.N) (h : T 8 1024 .f32 (V c main_v1) F) :
    T 8 1024 .f32 (iblk0 V c 1 t) F := fun i => by
  refine IsR.at h (congrArg₂ F ?_ ?_) <;> (blk_simp; rw [(idx t).2.1]; first | exact off _ _ _ | exact off0 _ _ | exact off1 _ _)

theorem o_2 {F0 F1 : RM} (x0 : Vec Ideal S512x1024 .f32) (x1 : Vec Ideal S8x1024 .f32)
    (g0 : T 512 1024 .f32 x0 F0)
    (g1 : T 8 1024 .f32 x1 F1) :
    T 512 1024 .bf16 (out0_2 x0 x1) (s0_2 F0 F1) := fun y => by
  show out0_2 x0 x1 y = _
  canon_tiles x h
  all_goals
    apply IsR.at (s := S512x1024) (φ := .bf16) (i := x)
    rotate_left
    ·
      repeat' first
        | with_reducible (first | apply k0_pay1_isr)
        | apply isr_ld00 | apply isr_ld00b | apply isr_ld_row | apply isr_ld_rowb
        | exact g0 | exact g1
        | apply pos_all
    · show _ = s0_2 F0 F1 (y 0).val (y 1).val
      rw [h0, h1]
      rfl

theorem fin_2 {A0 A1 : RM} (c : Dev nD)
    (g0 : T 16384 1024 .f32 (V c main_arg0) A0)
    (g1 : T 8 1024 .f32 (V c main_v1) A1) :
    T 16384 1024 .bf16 ((dat0 V c).arrAt 2 cfg0.N) (s0_2 A0 A1) := by
  have e : (dat0 V c).arrAt 2 cfg0.N = (fun i => ((N2 (a := 16384) (b := 1024) (s0_2 A0 A1) i : ℝ) : EReal) : FVec Ideal S16384x1024 .bf16) := by
    refine (dat0 V c).arrAt_eq_of_covers 2 _ (by decide +kernel) fun t _ y => ?_
    blk_simp
    rw [after0_2]
    refine (o_2 _ _ (blk_0 V c t g0) (blk_1 V c t g1) y).trans ?_
    refine congrArg _ ?_
    refine Eq.trans ?_ (congrArg₂ (s0_2 A0 A1) (x' := 512 * t.val + (y 0).val) (y' := (y 1).val) ?_ ?_).symm
    rotate_left
    iterate 2 (blk_simp; rw [(idx t).2.2]; first | exact off _ _ _ | exact off0 _ _ | exact off1 _ _)
    rfl
  exact fun i => congrFun e i

end Cert.Front.R0

end
-- ==== Proof.Front.R1.lean ====
/-
  Region 1 of the kernel (untrusted): its input blocks as shifted real matrices, what each point of the grid leaves in its
  output windows, and the arrays after the last point.
-/
module

public import proofs.«01_k».proof.Proof.Gen.Kernel2Ideal.Frame.Region1
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R1

open Cert.Tail Cert.Kernel2Ideal Cert.Kernel2Ideal.Gen
variable (V : (c : Dev nD) → (b : Ref sig .tc) → Buf (Elt Ideal) ((c : Thread nD τ).loc b))

theorem idx : ∀ t : Fin cfg1.N,
    win1_0.index t = ![t.val % 32, 0]
    ∧ win1_1.index t = ![0, t.val / 32]
    ∧ win1_2.index t = ![t.val % 32, t.val / 32] :=
  (by decide +kernel : ∀ t : Fin grid1.N, _)

theorem blk_0 {F : RM} (c : Dev nD) (t : Fin cfg1.N) (h : T 16384 1024 .bf16 (V c main_v3) F) :
    T 512 1024 .bf16 (iblk1 V c 0 t) (fun r d => F (512 * (t.val % 32) + r) d) := fun i => by
  refine IsR.at h (congrArg₂ F ?_ ?_) <;> (blk_simp; rw [(idx t).1]; first | exact off _ _ _ | exact off0 _ _ | exact off1 _ _)
theorem blk_1 {F : RM} (c : Dev nD) (t : Fin cfg1.N) (h : T 1024 2560 .bf16 (V c main_v4) F) :
    T 1024 1280 .bf16 (iblk1 V c 1 t) (fun r d => F r (1280 * (t.val / 32) + d)) := fun i => by
  refine IsR.at h (congrArg₂ F ?_ ?_) <;> (blk_simp; rw [(idx t).2.1]; first | exact off _ _ _ | exact off0 _ _ | exact off1 _ _)

theorem o_2 {F0 F1 : RM} (x0 : Vec Ideal S512x1024 .bf16) (x1 : Vec Ideal S1024x1280 .bf16)
    (g0 : T 512 1024 .bf16 x0 F0)
    (g1 : T 1024 1280 .bf16 x1 F1) :
    T 512 1280 .bf16 (out1_2 x0 x1) (s1_2 F0 F1) := fun y => by
  show out1_2 x0 x1 y = _
  canon_tiles x h
  all_goals
    apply IsR.at (s := S512x1280) (φ := .bf16) (i := x)
    rotate_left
    ·
      repeat' first
        | with_reducible (first | apply k1_pay1_isr)
        | apply isr_ld00 | apply isr_ld00b | apply isr_ld_row | apply isr_ld_rowb
        | exact g0 | exact g1
        | apply pos_all
    · show _ = s1_2 F0 F1 (y 0).val (y 1).val
      rw [h0, h1]
      rfl

theorem fin_2 {A0 A1 : RM} (c : Dev nD)
    (g0 : T 16384 1024 .bf16 (V c main_v3) A0)
    (g1 : T 1024 2560 .bf16 (V c main_v4) A1) :
    T 16384 2560 .bf16 ((dat1 V c).arrAt 2 cfg1.N) (s1_2 A0 A1) := by
  have e : (dat1 V c).arrAt 2 cfg1.N = (fun i => ((N2 (a := 16384) (b := 2560) (s1_2 A0 A1) i : ℝ) : EReal) : FVec Ideal S16384x2560 .bf16) := by
    refine (dat1 V c).arrAt_eq_of_covers 2 _ (by decide +kernel) fun t _ y => ?_
    blk_simp
    rw [after1_2]
    refine (o_2 _ _ (blk_0 V c t g0) (blk_1 V c t g1) y).trans ?_
    refine congrArg _ ?_
    refine Eq.trans ?_ (congrArg₂ (s1_2 A0 A1) (x' := 512 * (t.val % 32) + (y 0).val) (y' := 1280 * (t.val / 32) + (y 1).val) ?_ ?_).symm
    rotate_left
    iterate 2 (blk_simp; rw [(idx t).2.2]; first | exact off _ _ _ | exact off0 _ _ | exact off1 _ _)
    rfl
  exact fun i => congrFun e i

end Cert.Front.R1

end
-- ==== Proof.Front.R2.lean ====
/-
  Region 2 of the kernel (untrusted): its input blocks as shifted real matrices, what each point of the grid leaves in its
  output windows, and the arrays after the last point.
-/
module

public import proofs.«01_k».proof.Proof.Gen.Kernel2Ideal.Frame.Region2
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R2

open Cert.Tail Cert.Kernel2Ideal Cert.Kernel2Ideal.Gen
variable (V : (c : Dev nD) → (b : Ref sig .tc) → Buf (Elt Ideal) ((c : Thread nD τ).loc b))

theorem idx : ∀ t : Fin cfg2.N,
    win2_0.index t = ![t.val % 32, 0]
    ∧ win2_1.index t = ![0, t.val / 32]
    ∧ win2_2.index t = ![t.val % 32, t.val / 32] :=
  (by decide +kernel : ∀ t : Fin grid2.N, _)

theorem blk_0 {F : RM} (c : Dev nD) (t : Fin cfg2.N) (h : T 16384 1024 .bf16 (V c main_v3) F) :
    T 512 1024 .bf16 (iblk2 V c 0 t) (fun r d => F (512 * (t.val % 32) + r) d) := fun i => by
  refine IsR.at h (congrArg₂ F ?_ ?_) <;> (blk_simp; rw [(idx t).1]; first | exact off _ _ _ | exact off0 _ _ | exact off1 _ _)
theorem blk_1 {F : RM} (c : Dev nD) (t : Fin cfg2.N) (h : T 1024 3072 .bf16 (V c main_v5) F) :
    T 1024 1024 .bf16 (iblk2 V c 1 t) (fun r d => F r (1024 * (t.val / 32) + d)) := fun i => by
  refine IsR.at h (congrArg₂ F ?_ ?_) <;> (blk_simp; rw [(idx t).2.1]; first | exact off _ _ _ | exact off0 _ _ | exact off1 _ _)

theorem o_2 {F0 F1 : RM} (x0 : Vec Ideal S512x1024 .bf16) (x1 : Vec Ideal S1024x1024 .bf16)
    (g0 : T 512 1024 .bf16 x0 F0)
    (g1 : T 1024 1024 .bf16 x1 F1) :
    T 512 1024 .f32 (out2_2 x0 x1) (s2_2 F0 F1) := fun y => by
  show out2_2 x0 x1 y = _
  canon_tiles x h
  all_goals
    apply IsR.at (s := S512x1024) (φ := .f32) (i := x)
    rotate_left
    ·
      repeat' first
        | with_reducible (first | apply k2_pay1_isr)
        | apply isr_ld00 | apply isr_ld00b | apply isr_ld_row | apply isr_ld_rowb
        | exact g0 | exact g1
        | apply pos_all
    · show _ = s2_2 F0 F1 (y 0).val (y 1).val
      rw [h0, h1]
      rfl

theorem fin_2 {A0 A1 : RM} (c : Dev nD)
    (g0 : T 16384 1024 .bf16 (V c main_v3) A0)
    (g1 : T 1024 3072 .bf16 (V c main_v5) A1) :
    T 16384 3072 .f32 ((dat2 V c).arrAt 2 cfg2.N) (s2_2 A0 A1) := by
  have e : (dat2 V c).arrAt 2 cfg2.N = (fun i => ((N2 (a := 16384) (b := 3072) (s2_2 A0 A1) i : ℝ) : EReal) : FVec Ideal S16384x3072 .f32) := by
    refine (dat2 V c).arrAt_eq_of_covers 2 _ (by decide +kernel) fun t _ y => ?_
    blk_simp
    rw [after2_2]
    refine (o_2 _ _ (blk_0 V c t g0) (blk_1 V c t g1) y).trans ?_
    refine congrArg _ ?_
    refine Eq.trans ?_ (congrArg₂ (s2_2 A0 A1) (x' := 512 * (t.val % 32) + (y 0).val) (y' := 1024 * (t.val / 32) + (y 1).val) ?_ ?_).symm
    rotate_left
    iterate 2 (blk_simp; rw [(idx t).2.2]; first | exact off _ _ _ | exact off0 _ _ | exact off1 _ _)
    rfl
  exact fun i => congrFun e i

end Cert.Front.R2

end
-- ==== Proof.Front.R3.lean ====
/-
  Region 3 of the kernel (untrusted): its input blocks as shifted real matrices, what each point of the grid leaves in its
  output windows, and the arrays after the last point.
-/
module

public import proofs.«01_k».proof.Proof.Gen.Kernel2Ideal.Frame.Region3
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R3

open Cert.Tail Cert.Kernel2Ideal Cert.Kernel2Ideal.Gen
variable (V : (c : Dev nD) → (b : Ref sig .tc) → Buf (Elt Ideal) ((c : Thread nD τ).loc b))

theorem idx : ∀ t : Fin cfg3.N,
    win3_0.index t = ![t.val % 32, 0]
    ∧ win3_1.index t = ![0, t.val / 32]
    ∧ win3_2.index t = ![t.val % 32, t.val / 32] :=
  (by decide +kernel : ∀ t : Fin grid3.N, _)

theorem blk_0 {F : RM} (c : Dev nD) (t : Fin cfg3.N) (h : T 16384 1024 .bf16 (V c main_v3) F) :
    T 512 1024 .bf16 (iblk3 V c 0 t) (fun r d => F (512 * (t.val % 32) + r) d) := fun i => by
  refine IsR.at h (congrArg₂ F ?_ ?_) <;> (blk_simp; rw [(idx t).1]; first | exact off _ _ _ | exact off0 _ _ | exact off1 _ _)
theorem blk_1 {F : RM} (c : Dev nD) (t : Fin cfg3.N) (h : T 1024 2048 .bf16 (V c main_v6) F) :
    T 1024 1024 .bf16 (iblk3 V c 1 t) (fun r d => F r (1024 * (t.val / 32) + d)) := fun i => by
  refine IsR.at h (congrArg₂ F ?_ ?_) <;> (blk_simp; rw [(idx t).2.1]; first | exact off _ _ _ | exact off0 _ _ | exact off1 _ _)

theorem o_2 {F0 F1 : RM} (x0 : Vec Ideal S512x1024 .bf16) (x1 : Vec Ideal S1024x1024 .bf16)
    (g0 : T 512 1024 .bf16 x0 F0)
    (g1 : T 1024 1024 .bf16 x1 F1) :
    T 512 1024 .bf16 (out3_2 x0 x1) (s3_2 F0 F1) := fun y => by
  show out3_2 x0 x1 y = _
  canon_tiles x h
  all_goals
    apply IsR.at (s := S512x1024) (φ := .bf16) (i := x)
    rotate_left
    ·
      repeat' first
        | with_reducible (first | apply k3_pay1_isr)
        | apply isr_ld00 | apply isr_ld00b | apply isr_ld_row | apply isr_ld_rowb
        | exact g0 | exact g1
        | apply pos_all
    · show _ = s3_2 F0 F1 (y 0).val (y 1).val
      rw [h0, h1]
      rfl

theorem fin_2 {A0 A1 : RM} (c : Dev nD)
    (g0 : T 16384 1024 .bf16 (V c main_v3) A0)
    (g1 : T 1024 2048 .bf16 (V c main_v6) A1) :
    T 16384 2048 .bf16 ((dat3 V c).arrAt 2 cfg3.N) (s3_2 A0 A1) := by
  have e : (dat3 V c).arrAt 2 cfg3.N = (fun i => ((N2 (a := 16384) (b := 2048) (s3_2 A0 A1) i : ℝ) : EReal) : FVec Ideal S16384x2048 .bf16) := by
    refine (dat3 V c).arrAt_eq_of_covers 2 _ (by decide +kernel) fun t _ y => ?_
    blk_simp
    rw [after3_2]
    refine (o_2 _ _ (blk_0 V c t g0) (blk_1 V c t g1) y).trans ?_
    refine congrArg _ ?_
    refine Eq.trans ?_ (congrArg₂ (s3_2 A0 A1) (x' := 512 * (t.val % 32) + (y 0).val) (y' := 1024 * (t.val / 32) + (y 1).val) ?_ ?_).symm
    rotate_left
    iterate 2 (blk_simp; rw [(idx t).2.2]; first | exact off _ _ _ | exact off0 _ _ | exact off1 _ _)
    rfl
  exact fun i => congrFun e i

end Cert.Front.R3

end
-- ==== Proof.Front.R4.lean ====
/-
  Region 4 of the kernel (untrusted): its input blocks as shifted real matrices, what each point of the grid leaves in its
  output windows, and the arrays after the last point.
-/
module

public import proofs.«01_k».proof.Proof.Gen.Kernel2Ideal.Frame.Region4
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R4

open Cert.Tail Cert.Kernel2Ideal Cert.Kernel2Ideal.Gen
variable (V : (c : Dev nD) → (b : Ref sig .tc) → Buf (Elt Ideal) ((c : Thread nD τ).loc b))

theorem idx : ∀ t : Fin cfg4.N,
    win4_0.index t = ![t.val % 8, 0]
    ∧ win4_1.index t = ![t.val % 8, t.val / 8]
    ∧ win4_2.index t = ![0, t.val / 8] :=
  (by decide +kernel : ∀ t : Fin grid4.N, _)

theorem blk_0 {F : RM} (c : Dev nD) (t : Fin cfg4.N) (h : T 16384 1024 .bf16 (V c main_v3) F) :
    T 2048 1024 .bf16 (iblk4 V c 0 t) (fun r d => F (2048 * (t.val % 8) + r) d) := fun i => by
  refine IsR.at h (congrArg₂ F ?_ ?_) <;> (blk_simp; rw [(idx t).1]; first | exact off _ _ _ | exact off0 _ _ | exact off1 _ _)
theorem blk_1 {F : RM} (c : Dev nD) (t : Fin cfg4.N) (h : T 16384 2560 .bf16 (V c main_arg3) F) :
    T 2048 1280 .bf16 (iblk4 V c 1 t) (fun r d => F (2048 * (t.val % 8) + r) (1280 * (t.val / 8) + d)) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * (t % 8) + k.val) i * A1 (2048 * (t % 8) + k.val) (1280 * (t / 8) + j)
theorem zero_step {A0 A1 : RM} (c : Dev nD) (g0 : T 16384 1024 .bf16 (V c main_v3) A0) (g1 : T 16384 2560 .bf16 (V c main_arg3) A1) (t : Fin cfg4.N) (h : t.val % 8 = 0) :
    T 1024 1280 .f32 (outsAt4 V c t.val t.isLt) (fun i j => 0 + part A0 A1 t.val i j) := fun y => by
  show outsAt4 V c t.val t.isLt y = _
  rw [outsAt4_A V c t h]
  frame_out
  · apply IsR.at (s := S1024x1280) (φ := .f32) (i := y)
    rotate_left
    ·
      repeat' first
        | with_reducible apply k4_pay2_isr | with_reducible apply k4_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v3) A0) (g1 : T 16384 2560 .bf16 (V c main_arg3) A1) (t : Fin cfg4.N) (h : ¬ t.val % 8 = 0)
    (gp : T 1024 1280 .f32 (outsAt4 V c (t.val - 1) (Nat.lt_of_le_of_lt (Nat.sub_le _ _) t.isLt)) G) :
    T 1024 1280 .f32 (outsAt4 V c t.val t.isLt) (fun i j => G i j + part A0 A1 t.val i j) := fun y => by
  show outsAt4 V c t.val t.isLt y = _
  rw [outsAt4_B V c t h]
  frame_out
  · apply IsR.at (s := S1024x1280) (φ := .f32) (i := y)
    rotate_left
    ·
      repeat' first
        | with_reducible apply k4_pay2_isr | with_reducible apply k4_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v3) A0) (g1 : T 16384 2560 .bf16 (V c main_arg3) A1) :
    T 1024 2560 .f32 ((dat4 V c).arrAt 2 cfg4.N) (dotL 16384 A0 A1) := by
  have e : (dat4 V c).arrAt 2 cfg4.N = (fun i => ((N2 (a := 1024) (b := 2560) (dotL 16384 A0 A1) i : ℝ) : EReal) : FVec Ideal S1024x2560 .f32) := by
    refine (dat4 V c).arrAt_eq_of_covers 2 _ (by decide +kernel) fun t hf y => ?_
    blk_simp
    rw [after4_2]
    refine (isr_acc (fun n h => outsAt4 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush4_2 t).mp hf; omega
    refine Eq.trans ?_ (congrArg₂ (dotL 16384 A0 A1) (x' := (y 0).val) (y' := 1280 * (t.val / 8) + (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    exact sum_run 2048 8 (t.val / 8) (by norm_num) fun r q => A0 r (y 0).val * A1 r (1280 * q + (y 1).val)
  exact fun i => congrFun e i

end Cert.Front.R4

end
-- ==== Proof.Front.R5.lean ====
/-
  Region 5 of the kernel (untrusted): its input blocks as shifted real matrices, what each point of the grid leaves in its
  output windows, and the arrays after the last point.
-/
module

public import proofs.«01_k».proof.Proof.Gen.Kernel2Ideal.Frame.Region5
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R5

open Cert.Tail Cert.Kernel2Ideal Cert.Kernel2Ideal.Gen
variable (V : (c : Dev nD) → (b : Ref sig .tc) → Buf (Elt Ideal) ((c : Thread nD τ).loc b))

theorem idx : ∀ t : Fin cfg5.N,
    win5_0.index t = ![t.val, 0]
    ∧ win5_1.index t = ![t.val, 0]
    ∧ win5_2.index t = ![0, 0] :=
  (by decide +kernel : ∀ t : Fin grid5.N, _)

theorem blk_0 {F : RM} (c : Dev nD) (t : Fin cfg5.N) (h : T 16384 1024 .bf16 (V c main_v3) F) :
    T 2048 1024 .bf16 (iblk5 V c 0 t) (fun r d => F (2048 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg5.N) (h : T 16384 1024 .bf16 (V c main_arg4) F) :
    T 2048 1024 .bf16 (iblk5 V c 1 t) (fun r d => F (2048 * t.val + r) d) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * t + k.val) i * A1 (2048 * t + k.val) j
theorem zero_step {A0 A1 : RM} (c : Dev nD) (g0 : T 16384 1024 .bf16 (V c main_v3) A0) (g1 : T 16384 1024 .bf16 (V c main_arg4) A1) (t : Fin cfg5.N) (h : t.val % 8 = 0) :
    T 1024 1024 .f32 (outsAt5 V c t.val t.isLt) (fun i j => 0 + part A0 A1 t.val i j) := fun y => by
  show outsAt5 V c t.val t.isLt y = _
  rw [outsAt5_A V c t h]
  frame_out
  · apply IsR.at (s := S1024x1024) (φ := .f32) (i := y)
    rotate_left
    ·
      repeat' first
        | with_reducible apply k5_pay2_isr | with_reducible apply k5_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v3) A0) (g1 : T 16384 1024 .bf16 (V c main_arg4) A1) (t : Fin cfg5.N) (h : ¬ t.val % 8 = 0)
    (gp : T 1024 1024 .f32 (outsAt5 V c (t.val - 1) (Nat.lt_of_le_of_lt (Nat.sub_le _ _) t.isLt)) G) :
    T 1024 1024 .f32 (outsAt5 V c t.val t.isLt) (fun i j => G i j + part A0 A1 t.val i j) := fun y => by
  show outsAt5 V c t.val t.isLt y = _
  rw [outsAt5_B V c t h]
  frame_out
  · apply IsR.at (s := S1024x1024) (φ := .f32) (i := y)
    rotate_left
    ·
      repeat' first
        | with_reducible apply k5_pay2_isr | with_reducible apply k5_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v3) A0) (g1 : T 16384 1024 .bf16 (V c main_arg4) A1) :
    T 1024 1024 .f32 ((dat5 V c).arrAt 2 cfg5.N) (dotL 16384 A0 A1) := by
  have e : (dat5 V c).arrAt 2 cfg5.N = (fun i => ((N2 (a := 1024) (b := 1024) (dotL 16384 A0 A1) i : ℝ) : EReal) : FVec Ideal S1024x1024 .f32) := by
    refine (dat5 V c).arrAt_eq_of_covers 2 _ (by decide +kernel) fun t hf y => ?_
    blk_simp
    rw [after5_2]
    refine (isr_acc (fun n h => outsAt5 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush5_2 t).mp hf; omega
    refine Eq.trans ?_ (congrArg₂ (dotL 16384 A0 A1) (x' := (y 0).val) (y' := (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    have hq : t.val / 8 = 0 := (by decide +kernel : ∀ t : Fin grid5.N, t.val / 8 = 0) t
    rw [hq]
    exact sum_run0 2048 8 fun r => A0 r (y 0).val * A1 r (y 1).val
  exact fun i => congrFun e i

end Cert.Front.R5

end
-- ==== Proof.Front.R6.lean ====
/-
  Region 6 of the kernel (untrusted): its input blocks as shifted real matrices, what each point of the grid leaves in its
  output windows, and the arrays after the last point.
-/
module

public import proofs.«01_k».proof.Proof.Gen.Kernel2Ideal.Frame.Region6
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R6

open Cert.Tail Cert.Kernel2Ideal Cert.Kernel2Ideal.Gen
variable (V : (c : Dev nD) → (b : Ref sig .tc) → Buf (Elt Ideal) ((c : Thread nD τ).loc b))

theorem idx : ∀ t : Fin cfg6.N,
    win6_0.index t = ![t.val, 0]
    ∧ win6_1.index t = ![t.val, 0]
    ∧ win6_2.index t = ![0, 0] :=
  (by decide +kernel : ∀ t : Fin grid6.N, _)

theorem blk_0 {F : RM} (c : Dev nD) (t : Fin cfg6.N) (h : T 16384 1024 .bf16 (V c main_v3) F) :
    T 2048 1024 .bf16 (iblk6 V c 0 t) (fun r d => F (2048 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg6.N) (h : T 16384 1024 .bf16 (V c main_arg5) F) :
    T 2048 1024 .bf16 (iblk6 V c 1 t) (fun r d => F (2048 * t.val + r) d) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * t + k.val) i * A1 (2048 * t + k.val) j
theorem zero_step {A0 A1 : RM} (c : Dev nD) (g0 : T 16384 1024 .bf16 (V c main_v3) A0) (g1 : T 16384 1024 .bf16 (V c main_arg5) A1) (t : Fin cfg6.N) (h : t.val % 8 = 0) :
    T 1024 1024 .f32 (outsAt6 V c t.val t.isLt) (fun i j => 0 + part A0 A1 t.val i j) := fun y => by
  show outsAt6 V c t.val t.isLt y = _
  rw [outsAt6_A V c t h]
  frame_out
  · apply IsR.at (s := S1024x1024) (φ := .f32) (i := y)
    rotate_left
    ·
      repeat' first
        | with_reducible apply k6_pay2_isr | with_reducible apply k6_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v3) A0) (g1 : T 16384 1024 .bf16 (V c main_arg5) A1) (t : Fin cfg6.N) (h : ¬ t.val % 8 = 0)
    (gp : T 1024 1024 .f32 (outsAt6 V c (t.val - 1) (Nat.lt_of_le_of_lt (Nat.sub_le _ _) t.isLt)) G) :
    T 1024 1024 .f32 (outsAt6 V c t.val t.isLt) (fun i j => G i j + part A0 A1 t.val i j) := fun y => by
  show outsAt6 V c t.val t.isLt y = _
  rw [outsAt6_B V c t h]
  frame_out
  · apply IsR.at (s := S1024x1024) (φ := .f32) (i := y)
    rotate_left
    ·
      repeat' first
        | with_reducible apply k6_pay2_isr | with_reducible apply k6_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v3) A0) (g1 : T 16384 1024 .bf16 (V c main_arg5) A1) :
    T 1024 1024 .f32 ((dat6 V c).arrAt 2 cfg6.N) (dotL 16384 A0 A1) := by
  have e : (dat6 V c).arrAt 2 cfg6.N = (fun i => ((N2 (a := 1024) (b := 1024) (dotL 16384 A0 A1) i : ℝ) : EReal) : FVec Ideal S1024x1024 .f32) := by
    refine (dat6 V c).arrAt_eq_of_covers 2 _ (by decide +kernel) fun t hf y => ?_
    blk_simp
    rw [after6_2]
    refine (isr_acc (fun n h => outsAt6 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush6_2 t).mp hf; omega
    refine Eq.trans ?_ (congrArg₂ (dotL 16384 A0 A1) (x' := (y 0).val) (y' := (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    have hq : t.val / 8 = 0 := (by decide +kernel : ∀ t : Fin grid6.N, t.val / 8 = 0) t
    rw [hq]
    exact sum_run0 2048 8 fun r => A0 r (y 0).val * A1 r (y 1).val
  exact fun i => congrFun e i

end Cert.Front.R6

end
-- ==== Proof.Front.R7.lean ====
/-
  Region 7 of the kernel (untrusted): its input blocks as shifted real matrices, what each point of the grid leaves in its
  output windows, and the arrays after the last point.
-/
module

public import proofs.«01_k».proof.Proof.Gen.Kernel2Ideal.Frame.Region7
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R7

open Cert.Tail Cert.Kernel2Ideal Cert.Kernel2Ideal.Gen
variable (V : (c : Dev nD) → (b : Ref sig .tc) → Buf (Elt Ideal) ((c : Thread nD τ).loc b))

theorem idx : ∀ t : Fin cfg7.N,
    win7_0.index t = ![t.val, 0]
    ∧ win7_1.index t = ![t.val, 0]
    ∧ win7_2.index t = ![0, 0] :=
  (by decide +kernel : ∀ t : Fin grid7.N, _)

theorem blk_0 {F : RM} (c : Dev nD) (t : Fin cfg7.N) (h : T 16384 1024 .bf16 (V c main_v3) F) :
    T 2048 1024 .bf16 (iblk7 V c 0 t) (fun r d => F (2048 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg7.N) (h : T 16384 1024 .bf16 (V c main_arg6) F) :
    T 2048 1024 .bf16 (iblk7 V c 1 t) (fun r d => F (2048 * t.val + r) d) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * t + k.val) i * A1 (2048 * t + k.val) j
theorem zero_step {A0 A1 : RM} (c : Dev nD) (g0 : T 16384 1024 .bf16 (V c main_v3) A0) (g1 : T 16384 1024 .bf16 (V c main_arg6) A1) (t : Fin cfg7.N) (h : t.val % 8 = 0) :
    T 1024 1024 .f32 (outsAt7 V c t.val t.isLt) (fun i j => 0 + part A0 A1 t.val i j) := fun y => by
  show outsAt7 V c t.val t.isLt y = _
  rw [outsAt7_A V c t h]
  frame_out
  · apply IsR.at (s := S1024x1024) (φ := .f32) (i := y)
    rotate_left
    ·
      repeat' first
        | with_reducible apply k7_pay2_isr | with_reducible apply k7_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v3) A0) (g1 : T 16384 1024 .bf16 (V c main_arg6) A1) (t : Fin cfg7.N) (h : ¬ t.val % 8 = 0)
    (gp : T 1024 1024 .f32 (outsAt7 V c (t.val - 1) (Nat.lt_of_le_of_lt (Nat.sub_le _ _) t.isLt)) G) :
    T 1024 1024 .f32 (outsAt7 V c t.val t.isLt) (fun i j => G i j + part A0 A1 t.val i j) := fun y => by
  show outsAt7 V c t.val t.isLt y = _
  rw [outsAt7_B V c t h]
  frame_out
  · apply IsR.at (s := S1024x1024) (φ := .f32) (i := y)
    rotate_left
    ·
      repeat' first
        | with_reducible apply k7_pay2_isr | with_reducible apply k7_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v3) A0) (g1 : T 16384 1024 .bf16 (V c main_arg6) A1) :
    T 1024 1024 .f32 ((dat7 V c).arrAt 2 cfg7.N) (dotL 16384 A0 A1) := by
  have e : (dat7 V c).arrAt 2 cfg7.N = (fun i => ((N2 (a := 1024) (b := 1024) (dotL 16384 A0 A1) i : ℝ) : EReal) : FVec Ideal S1024x1024 .f32) := by
    refine (dat7 V c).arrAt_eq_of_covers 2 _ (by decide +kernel) fun t hf y => ?_
    blk_simp
    rw [after7_2]
    refine (isr_acc (fun n h => outsAt7 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush7_2 t).mp hf; omega
    refine Eq.trans ?_ (congrArg₂ (dotL 16384 A0 A1) (x' := (y 0).val) (y' := (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    have hq : t.val / 8 = 0 := (by decide +kernel : ∀ t : Fin grid7.N, t.val / 8 = 0) t
    rw [hq]
    exact sum_run0 2048 8 fun r => A0 r (y 0).val * A1 r (y 1).val
  exact fun i => congrFun e i

end Cert.Front.R7

end
-- ==== Proof.Front.R8.lean ====
/-
  Region 8 of the kernel (untrusted): its input blocks as shifted real matrices, what each point of the grid leaves in its
  output windows, and the arrays after the last point.
-/
module

public import proofs.«01_k».proof.Proof.Gen.Kernel2Ideal.Frame.Region8
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R8

open Cert.Tail Cert.Kernel2Ideal Cert.Kernel2Ideal.Gen
variable (V : (c : Dev nD) → (b : Ref sig .tc) → Buf (Elt Ideal) ((c : Thread nD τ).loc b))

theorem idx : ∀ t : Fin cfg8.N,
    win8_0.index t = ![t.val % 8, 0]
    ∧ win8_1.index t = ![t.val % 8, t.val / 8]
    ∧ win8_2.index t = ![0, t.val / 8] :=
  (by decide +kernel : ∀ t : Fin grid8.N, _)

theorem blk_0 {F : RM} (c : Dev nD) (t : Fin cfg8.N) (h : T 16384 1024 .bf16 (V c main_v3) F) :
    T 2048 1024 .bf16 (iblk8 V c 0 t) (fun r d => F (2048 * (t.val % 8) + r) d) := fun i => by
  refine IsR.at h (congrArg₂ F ?_ ?_) <;> (blk_simp; rw [(idx t).1]; first | exact off _ _ _ | exact off0 _ _ | exact off1 _ _)
theorem blk_1 {F : RM} (c : Dev nD) (t : Fin cfg8.N) (h : T 16384 2048 .bf16 (V c main_arg7) F) :
    T 2048 1024 .bf16 (iblk8 V c 1 t) (fun r d => F (2048 * (t.val % 8) + r) (1024 * (t.val / 8) + d)) := fun i => by
  refine IsR.at h (congrArg₂ F ?_ ?_) <;> (blk_simp; rw [(idx t).2.1]; first | exact off _ _ _ | exact off0 _ _ | exact off1 _ _)

/-- What one point of the grid adds. -/
def part (A0 A1 : RM) (t i j : ℕ) : ℝ := ∑ k : Fin 2048, A0 (2048 * (t % 8) + k.val) i * A1 (2048 * (t % 8) + k.val) (1024 * (t / 8) + j)
theorem zero_step {A0 A1 : RM} (c : Dev nD) (g0 : T 16384 1024 .bf16 (V c main_v3) A0) (g1 : T 16384 2048 .bf16 (V c main_arg7) A1) (t : Fin cfg8.N) (h : t.val % 8 = 0) :
    T 1024 1024 .f32 (outsAt8 V c t.val t.isLt) (fun i j => 0 + part A0 A1 t.val i j) := fun y => by
  show outsAt8 V c t.val t.isLt y = _
  rw [outsAt8_A V c t h]
  frame_out
  · apply IsR.at (s := S1024x1024) (φ := .f32) (i := y)
    rotate_left
    ·
      repeat' first
        | with_reducible apply k8_pay2_isr | with_reducible apply k8_pay1_isr
        | exact blk_0 V c t g0 | exact blk_1 V c t g1
    · show _ = 0 + part A0 A1 t.val (y 0).val (y 1).val
      rfl
theorem next_step {A0 A1 G : RM} (c : Dev nD) (g0 : T 16384 1024 .bf16 (V c main_v3) A0) (g1 : T 16384 2048 .bf16 (V c main_arg7) A1) (t : Fin cfg8.N) (h : ¬ t.val % 8 = 0)
    (gp : T 1024 1024 .f32 (outsAt8 V c (t.val - 1) (Nat.lt_of_le_of_lt (Nat.sub_le _ _) t.isLt)) G) :
    T 1024 1024 .f32 (outsAt8 V c t.val t.isLt) (fun i j => G i j + part A0 A1 t.val i j) := fun y => by
  show outsAt8 V c t.val t.isLt y = _
  rw [outsAt8_B V c t h]
  frame_out
  · apply IsR.at (s := S1024x1024) (φ := .f32) (i := y)
    rotate_left
    ·
      repeat' first
        | with_reducible apply k8_pay2_isr | with_reducible apply k8_pay1_isr
        | exact blk_0 V c t g0 | exact blk_1 V c t g1 | exact gp
    · show _ = G (y 0).val (y 1).val + part A0 A1 t.val (y 0).val (y 1).val
      rfl
theorem fin_2 {A0 A1 : RM} (c : Dev nD) (g0 : T 16384 1024 .bf16 (V c main_v3) A0) (g1 : T 16384 2048 .bf16 (V c main_arg7) A1) :
    T 1024 2048 .f32 ((dat8 V c).arrAt 2 cfg8.N) (dotL 16384 A0 A1) := by
  have e : (dat8 V c).arrAt 2 cfg8.N = (fun i => ((N2 (a := 1024) (b := 2048) (dotL 16384 A0 A1) i : ℝ) : EReal) : FVec Ideal S1024x2048 .f32) := by
    refine (dat8 V c).arrAt_eq_of_covers 2 _ (by decide +kernel) fun t hf y => ?_
    blk_simp
    rw [after8_2]
    refine (isr_acc (fun n h => outsAt8 V c n h) 8 (part A0 A1)
      (fun t h => (zero_step V c g0 g1 t h).congr fun i => zero_add _)
      (fun t h G gp => next_step V c g0 g1 t h gp) t y).trans ?_
    refine congrArg _ ?_
    have hm : t.val % 8 + 1 = 8 := by have := (flush8_2 t).mp hf; omega
    refine Eq.trans ?_ (congrArg₂ (dotL 16384 A0 A1) (x' := (y 0).val) (y' := 1024 * (t.val / 8) + (y 1).val) ?_ ?_).symm
    rotate_left
    iterate 2 (blk_simp; rw [(idx t).2.2]; first | exact off _ _ _ | exact off0 _ _ | exact off1 _ _)
    show ∑ s ∈ Finset.range (t.val % 8 + 1), part A0 A1 (8 * (t.val / 8) + s) (y 0).val (y 1).val = _
    rw [hm]
    exact sum_run 2048 8 (t.val / 8) (by norm_num) fun r q => A0 r (y 0).val * A1 r (1024 * q + (y 1).val)
  exact fun i => congrFun e i

end Cert.Front.R8

end
-- ==== Proof.Front.R9.lean ====
/-
  Region 9 of the kernel (untrusted): its input blocks as shifted real matrices, what each point of the grid leaves in its
  output windows, and the arrays after the last point.
-/
module

public import proofs.«01_k».proof.Proof.Gen.Kernel2Ideal.Frame.Region9
public import proofs.«01_k».proof.Proof.Front.Pay
public import proofs.«01_k».proof.Proof.Front.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Front.R9

open Cert.Tail Cert.Kernel2Ideal Cert.Kernel2Ideal.Gen
variable (V : (c : Dev nD) → (b : Ref sig .tc) → Buf (Elt Ideal) ((c : Thread nD τ).loc b))

theorem idx : ∀ t : Fin cfg9.N,
    win9_0.index t = ![t.val % 32, 0]
    ∧ win9_1.index t = ![t.val / 32, 0]
    ∧ win9_2.index t = ![t.val % 32, 0]
    ∧ win9_3.index t = ![t.val / 32, 0]
    ∧ win9_4.index t = ![t.val % 32, 0]
    ∧ win9_5.index t = ![t.val / 32, 0]
    ∧ win9_6.index t = ![t.val % 32, 0]
    ∧ win9_7.index t = ![t.val / 32, 0]
    ∧ win9_8.index t = ![t.val % 32, 0]
    ∧ win9_9.index t = ![t.val / 32, 0]
    ∧ win9_10.index t = ![t.val % 32, t.val / 32] :=
  (by decide +kernel : ∀ t : Fin grid9.N, _)

theorem blk_0 {F : RM} (c : Dev nD) (t : Fin cfg9.N) (h : T 16384 2560 .bf16 (V c main_arg3) F) :
    T 512 2560 .bf16 (iblk9 V c 0 t) (fun r d => F (512 * (t.val % 32) + r) d) := fun i => by
  refine IsR.at h (congrArg₂ F ?_ ?_) <;> (blk_simp; rw [(idx t).1]; first | exact off _ _ _ | exact off0 _ _ | exact off1 _ _)
theorem blk_1 {F : RM} (c : Dev nD) (t : Fin cfg9.N) (h : T 1024 2560 .bf16 (V c main_v4) F) :
    T 512 2560 .bf16 (iblk9 V c 1 t) (fun r d => F (512 * (t.val / 32) + r) d) := fun i => by
  refine IsR.at h (congrArg₂ F ?_ ?_) <;> (blk_simp; rw [(idx t).2.1]; first | exact off _ _ _ | exact off0 _ _ | exact off1 _ _)
theorem blk_2 {F : RM} (c : Dev nD) (t : Fin cfg9.N) (h : T 16384 1024 .bf16 (V c main_arg4) F) :
    T 512 1024 .bf16 (iblk9 V c 2 t) (fun r d => F (512 * (t.val % 32) + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg9.N) (h : T 1024 1024 .bf16 (V c main_v16) F) :
    T 512 1024 .bf16 (iblk9 V c 3 t) (fun r d => F (512 * (t.val / 32) + r) d) := fun i => by
  refine IsR.at h (congrArg₂ F ?_ ?_) <;> (blk_simp; rw [(idx t).2.2.2.1]; first | exact off _ _ _ | exact off0 _ _ | exact off1 _ _)
theorem blk_4 {F : RM} (c : Dev nD) (t : Fin cfg9.N) (h : T 16384 1024 .bf16 (V c main_arg5) F) :
    T 512 1024 .bf16 (iblk9 V c 4 t) (fun r d => F (512 * (t.val % 32) + r) d) := fun i => by
  refine IsR.at h (congrArg₂ F ?_ ?_) <;> (blk_simp; rw [(idx t).2.2.2.2.1]; first | exact off _ _ _ | exact off0 _ _ | exact off1 _ _)
theorem blk_5 {F : RM} (c : Dev nD) (t : Fin cfg9.N) (h : T 1024 1024 .bf16 (V c main_v17) F) :
    T 512 1024 .bf16 (iblk9 V c 5 t) (fun r d => F (512 * (t.val / 32) + r) d) := fun i => by
  refine IsR.at h (congrArg₂ F ?_ ?_) <;> (blk_simp; rw [(idx t).2.2.2.2.2.1]; first | exact off _ _ _ | exact off0 _ _ | exact off1 _ _)
theorem blk_6 {F : RM} (c : Dev nD) (t : Fin cfg9.N) (h : T 16384 1024 .bf16 (V c main_arg6) F) :
    T 512 1024 .bf16 (iblk9 V c 6 t) (fun r d => F (512 * (t.val % 32) + r) d) := fun i => by
  refine IsR.at h (congrArg₂ F ?_ ?_) <;> (blk_simp; rw [(idx t).2.2.2.2.2.2.1]; first | exact off _ _ _ | exact off0 _ _ | exact off1 _ _)
theorem blk_7 {F : RM} (c : Dev nD) (t : Fin cfg9.N) (h : T 1024 1024 .bf16 (V c main_v18) F) :
    T 512 1024 .bf16 (iblk9 V c 7 t) (fun r d => F (512 * (t.val / 32) + r) d) := fun i => by
  refine IsR.at h (congrArg₂ F ?_ ?_) <;> (blk_simp; rw [(idx t).2.2.2.2.2.2.2.1]; first | exact off _ _ _ | exact off0 _ _ | exact off1 _ _)
theorem blk_8 {F : RM} (c : Dev nD) (t : Fin cfg9.N) (h : T 16384 2048 .bf16 (V c main_arg7) F) :
    T 512 2048 .bf16 (iblk9 V c 8 t) (fun r d => F (512 * (t.val % 32) + r) d) := fun i => by
  refine IsR.at h (congrArg₂ F ?_ ?_) <;> (blk_simp; rw [(idx t).2.2.2.2.2.2.2.2.1]; first | exact off _ _ _ | exact off0 _ _ | exact off1 _ _)
theorem blk_9 {F : RM} (c : Dev nD) (t : Fin cfg9.N) (h : T 1024 2048 .bf16 (V c main_v6) F) :
    T 512 2048 .bf16 (iblk9 V c 9 t) (fun r d => F (512 * (t.val / 32) + r) d) := fun i => by
  refine IsR.at h (congrArg₂ F ?_ ?_) <;> (blk_simp; rw [(idx t).2.2.2.2.2.2.2.2.2.1]; first | exact off _ _ _ | exact off0 _ _ | exact off1 _ _)

theorem o_10 {F0 F1 F2 F3 F4 F5 F6 F7 F8 F9 : RM} (x0 : Vec Ideal S512x2560 .bf16) (x1 : Vec Ideal S512x2560 .bf16) (x2 : Vec Ideal S512x1024 .bf16) (x3 : Vec Ideal S512x1024 .bf16) (x4 : Vec Ideal S512x1024 .bf16) (x5 : Vec Ideal S512x1024 .bf16) (x6 : Vec Ideal S512x1024 .bf16) (x7 : Vec Ideal S512x1024 .bf16) (x8 : Vec Ideal S512x2048 .bf16) (x9 : Vec Ideal S512x2048 .bf16)
    (g0 : T 512 2560 .bf16 x0 F0)
    (g1 : T 512 2560 .bf16 x1 F1)
    (g2 : T 512 1024 .bf16 x2 F2)
    (g3 : T 512 1024 .bf16 x3 F3)
    (g4 : T 512 1024 .bf16 x4 F4)
    (g5 : T 512 1024 .bf16 x5 F5)
    (g6 : T 512 1024 .bf16 x6 F6)
    (g7 : T 512 1024 .bf16 x7 F7)
    (g8 : T 512 2048 .bf16 x8 F8)
    (g9 : T 512 2048 .bf16 x9 F9) :
    T 512 512 .f32 (out9_10 x0 x1 x2 x3 x4 x5 x6 x7 x8 x9) (s9_10 F0 F1 F2 F3 F4 F5 F6 F7 F8 F9) := fun y => by
  show out9_10 x0 x1 x2 x3 x4 x5 x6 x7 x8 x9 y = _
  canon_tiles x h
  all_goals
    apply IsR.at (s := S512x512) (φ := .f32) (i := x)
    rotate_left
    ·
      repeat' first
        | with_reducible (first | apply k9_pay1_isr)
        | apply isr_ld00 | apply isr_ld00b | apply isr_ld_row | apply isr_ld_rowb
        | exact g0 | exact g1 | exact g2 | exact g3 | exact g4 | exact g5 | exact g6 | exact g7 | exact g8 | exact g9
        | apply pos_all
    · show _ = s9_10 F0 F1 F2 F3 F4 F5 F6 F7 F8 F9 (y 0).val (y 1).val
      rw [h0, h1]
      rfl

theorem fin_10 {A0 A1 A2 A3 A4 A5 A6 A7 A8 A9 : RM} (c : Dev nD)
    (g0 : T 16384 2560 .bf16 (V c main_arg3) A0)
    (g1 : T 1024 2560 .bf16 (V c main_v4) A1)
    (g2 : T 16384 1024 .bf16 (V c main_arg4) A2)
    (g3 : T 1024 1024 .bf16 (V c main_v16) A3)
    (g4 : T 16384 1024 .bf16 (V c main_arg5) A4)
    (g5 : T 1024 1024 .bf16 (V c main_v17) A5)
    (g6 : T 16384 1024 .bf16 (V c main_arg6) A6)
    (g7 : T 1024 1024 .bf16 (V c main_v18) A7)
    (g8 : T 16384 2048 .bf16 (V c main_arg7) A8)
    (g9 : T 1024 2048 .bf16 (V c main_v6) A9) :
    T 16384 1024 .f32 ((dat9 V c).arrAt 10 cfg9.N) (s9_10 A0 A1 A2 A3 A4 A5 A6 A7 A8 A9) := by
  have e : (dat9 V c).arrAt 10 cfg9.N = (fun i => ((N2 (a := 16384) (b := 1024) (s9_10 A0 A1 A2 A3 A4 A5 A6 A7 A8 A9) i : ℝ) : EReal) : FVec Ideal S16384x1024 .f32) := by
    refine (dat9 V c).arrAt_eq_of_covers 10 _ (by decide +kernel) fun t _ y => ?_
    blk_simp
    rw [after9_10]
    refine (o_10 _ _ _ _ _ _ _ _ _ _ (blk_0 V c t g0) (blk_1 V c t g1) (blk_2 V c t g2) (blk_3 V c t g3) (blk_4 V c t g4) (blk_5 V c t g5) (blk_6 V c t g6) (blk_7 V c t g7) (blk_8 V c t g8) (blk_9 V c t g9) y).trans ?_
    refine congrArg _ ?_
    refine Eq.trans ?_ (congrArg₂ (s9_10 A0 A1 A2 A3 A4 A5 A6 A7 A8 A9) (x' := 512 * (t.val % 32) + (y 0).val) (y' := 512 * (t.val / 32) + (y 1).val) ?_ ?_).symm
    rotate_left
    iterate 2 (blk_simp; rw [(idx t).2.2.2.2.2.2.2.2.2.2]; first | exact off _ _ _ | exact off0 _ _ | exact off1 _ _)
    rfl
  exact fun i => congrFun e i

end Cert.Front.R9

end
-- ==== Proof.Front.R10.lean ====
/-
  Region 10 of the kernel (untrusted): its input blocks as shifted real matrices, what each point of the grid leaves in its
  output windows, and the arrays after the last point.
-/
module

public import proofs.«01_k».proof.Proof.Gen.Kernel2Ideal.Frame.Region10
public import proofs.«01_k».proof.Proof.Front.Pay
public import proofs.«01_k».proof.Proof.Front.Spec
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Front.R10

open Cert.Tail Cert.Kernel2Ideal Cert.Kernel2Ideal.Gen
variable (V : (c : Dev nD) → (b : Ref sig .tc) → Buf (Elt Ideal) ((c : Thread nD τ).loc b))

theorem idx : ∀ t : Fin cfg10.N,
    win10_0.index t = ![t.val, 0]
    ∧ win10_1.index t = ![t.val, 0]
    ∧ win10_2.index t = ![t.val, 0]
    ∧ win10_3.index t = ![0, 0]
    ∧ win10_4.index t = ![t.val, 0]
    ∧ win10_5.index t = ![0, 0] :=
  (by decide +kernel : ∀ t : Fin grid10.N, _)

theorem blk_0 {F : RM} (c : Dev nD) (t : Fin cfg10.N) (h : T 16384 1024 .f32 (V c main_arg0) F) :
    T 512 1024 .f32 (iblk10 V c 0 t) (fun r d => F (512 * t.val + r) d) := fun i => by
  refine IsR.at h (congrArg₂ F ?_ ?_) <;> (blk_simp; rw [(idx t).1]; first | exact off _ _ _ | exact off0 _ _ | exact off1 _ _)
theorem blk_1 {F : RM} (c : Dev nD) (t : Fin cfg10.N) (h : T 16384 1024 .f32 (V c main_v19) F) :
    T 512 1024 .f32 (iblk10 V c 1 t) (fun r d => F (512 * t.val + r) d) := fun i => by
  refine IsR.at h (congrArg₂ F ?_ ?_) <;> (blk_simp; rw [(idx t).2.1]; first | exact off _ _ _ | exact off0 _ _ | exact off1 _ _)
theorem blk_2 {F : RM} (c : Dev nD) (t : Fin cfg10.N) (h : T 16384 1024 .f32 (V c main_arg8) F) :
    T 512 1024 .f32 (iblk10 V c 2 t) (fun r d => F (512 * t.val + r) d) := fun i => by
  refine IsR.at h (congrArg₂ F ?_ ?_) <;> (blk_simp; rw [(idx t).2.2.1]; first | exact off _ _ _ | exact off0 _ _ | exact off1 _ _)
theorem blk_3 {F : RM} (c : Dev nD) (t : Fin cfg10.N) (h : T 8 1024 .f32 (V c main_v1) F) :
    T 8 1024 .f32 (iblk10 V c 3 t) F := fun i => by
  refine IsR.at h (congrArg₂ F ?_ ?_) <;> (blk_simp; rw [(idx t).2.2.2.1]; first | exact off _ _ _ | exact off0 _ _ | exact off1 _ _)
theorem o_4 {F0 F1 F2 F3 : RM} (c : Dev nD) (t : Fin cfg10.N) (g0 : T 512 1024 .f32 (iblk10 V c 0 t) F0)
    (g1 : T 512 1024 .f32 (iblk10 V c 1 t) F1)
    (g2 : T 512 1024 .f32 (iblk10 V c 2 t) F2)
    (g3 : T 8 1024 .f32 (iblk10 V c 3 t) F3) :
    T 512 1024 .f32 ((outsAt10 V c t.val t.isLt).1) (s10_4 F0 F1 F2 F3) := fun y => by
  show (outsAt10 V c t.val t.isLt).1 y = _
  by_cases hc : t.val % 32 = 0
  on_goal 1 => rw [outsAt10_A V c t hc]
  on_goal 2 => rw [outsAt10_B V c t hc]
  all_goals
    frame_out
    all_goals
      apply IsR.at (s := S512x1024) (φ := .f32) (i := y)
      rotate_left
      ·
        repeat' first
          | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr)
          | apply isr_ld00 | apply isr_ld00b | apply isr_ld_row | apply isr_ld_rowb
          | exact g0 | exact g1 | exact g2 | exact g3
          | apply pos_all
      · show _ = s10_4 F0 F1 F2 F3 (y 0).val (y 1).val
        rfl
theorem fin_4 {A0 A1 A2 A3 : RM} (c : Dev nD)
    (g0 : T 16384 1024 .f32 (V c main_arg0) A0)
    (g1 : T 16384 1024 .f32 (V c main_v19) A1)
    (g2 : T 16384 1024 .f32 (V c main_arg8) A2)
    (g3 : T 8 1024 .f32 (V c main_v1) A3) :
    T 16384 1024 .f32 ((dat10 V c).arrAt 4 cfg10.N) (s10_4 A0 A1 A2 A3) := by
  have e : (dat10 V c).arrAt 4 cfg10.N = (fun i => ((N2 (a := 16384) (b := 1024) (s10_4 A0 A1 A2 A3) i : ℝ) : EReal) : FVec Ideal S16384x1024 .f32) := by
    refine (dat10 V c).arrAt_eq_of_covers 4 _ (by decide +kernel) fun t _ y => ?_
    blk_simp
    rw [after10_4]
    refine (o_4 V c t (blk_0 V c t g0) (blk_1 V c t g1) (blk_2 V c t g2) (blk_3 V c t g3) y).trans ?_
    refine congrArg _ ?_
    refine Eq.trans ?_ (congrArg₂ (s10_4 A0 A1 A2 A3) (x' := 512 * t.val + (y 0).val) (y' := (y 1).val) ?_ ?_).symm
    rotate_left
    iterate 2 (blk_simp; rw [(idx t).2.2.2.2.1]; first | exact off _ _ _ | exact off0 _ _ | exact off1 _ _)
    rfl
  exact fun i => congrFun e i

end Cert.Front.R10

end
-- ==== Proof.Front.Num.lean ====
/-
  Region 10 of the kernel (untrusted): one point's sums over its rows, as a sum over the rows of its block.
-/
module

public import proofs.«01_k».proof.Proof.Front.Pay
public import proofs.«01_k».proof.Proof.Front.Spec

@[expose] public section

set_option maxRecDepth 16384

noncomputable section

namespace Cert.Front.R10

open Cert.Tail

/-- What one point of the grid adds to the sums over the rows. -/
def part (F0 F1 F2 F3 : RM) (i j : ℕ) : ℝ := ∑ k : Fin 512, s10_u F0 F1 F2 F3 i k.val j

theorem num {F0 F1 F2 F3 G : RM} :
    (fun i j =>
      if i = 1 then k10_pay3_r (k10_pay8_r F1) (fun r d => G (1 + r) d) 0 j
      else if i = 0 then k10_pay2_r (k10_pay7_r F0) (k10_pay8_r F1) G 0 j else G i j)
    = fun i j => G i j + part F0 F1 F2 F3 i j := by
  funext i j
  by_cases e0 : i = 0
  · subst e0
    show _ = G 0 j + ∑ k : Fin 512, s10_u F0 F1 F2 F3 0 k.val j
    simp only [s10_u, reduceIte, one_ne_zero, OfNat.zero_ne_ofNat, zero_ne_one]
    rfl
  by_cases e1 : i = 1
  · subst e1
    show _ = G 1 j + ∑ k : Fin 512, s10_u F0 F1 F2 F3 1 k.val j
    simp only [s10_u, reduceIte, one_ne_zero]
    rfl
  simp only [part, s10_u, e0, e1, if_false, Finset.sum_const_zero, add_zero]

end Cert.Front.R10

end
-- ==== Proof.Front.R10a.lean ====
/-
  Region 10 of the kernel (untrusted): its input blocks as shifted real matrices, what each point of the grid leaves in its
  output windows, and the arrays after the last point.
-/
module

public import proofs.«01_k».proof.Proof.Front.R10
public import proofs.«01_k».proof.Proof.Front.Pay
public import proofs.«01_k».proof.Proof.Tail.Acc
public import proofs.«01_k».proof.Proof.Front.Num
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Front.R10

open Cert.Tail Cert.Kernel2Ideal Cert.Kernel2Ideal.Gen
variable (V : (c : Dev nD) → (b : Ref sig .tc) → Buf (Elt Ideal) ((c : Thread nD τ).loc b))

theorem zero_step {F0 F1 F2 F3 : RM} (c : Dev nD) (t : Fin cfg10.N) (g0 : T 512 1024 .f32 (iblk10 V c 0 t) F0)
    (g1 : T 512 1024 .f32 (iblk10 V c 1 t) F1)
    (g2 : T 512 1024 .f32 (iblk10 V c 2 t) F2)
    (g3 : T 8 1024 .f32 (iblk10 V c 3 t) F3) (hc : t.val % 32 = 0) :
    T 8 1024 .f32 ((outsAt10 V c t.val t.isLt).2) (part F0 F1 F2 F3) := fun y => by
  show (outsAt10 V c t.val t.isLt).2 y = _
  rw [outsAt10_A V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr | apply isr_canon_row | apply isr_writes_row | apply isr_canon_fill | apply isr_unread)
        | apply isr_ld00 | apply isr_ld00b | apply isr_ld_row | apply isr_ld_rowb
        | exact g0 | exact g1 | exact g2 | exact g3
          | apply pos_all
  ·
    refine (congrFun (congrArg N2 (num (F2 := F2) (F3 := F3) (G := k10_pay4_r))) y).trans ?_
    show k10_pay4_r (y 0).val (y 1).val + part F0 F1 F2 F3 (y 0).val (y 1).val = _
    exact zero_add _

end Cert.Front.R10

end
-- ==== Proof.Front.R10b.lean ====
/-
  Region 10 of the kernel (untrusted): its input blocks as shifted real matrices, what each point of the grid leaves in its
  output windows, and the arrays after the last point.
-/
module

public import proofs.«01_k».proof.Proof.Front.R10
public import proofs.«01_k».proof.Proof.Front.Pay
public import proofs.«01_k».proof.Proof.Tail.Acc
public import proofs.«01_k».proof.Proof.Front.Num
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.Front.R10

open Cert.Tail Cert.Kernel2Ideal Cert.Kernel2Ideal.Gen
variable (V : (c : Dev nD) → (b : Ref sig .tc) → Buf (Elt Ideal) ((c : Thread nD τ).loc b))

theorem next_step {F0 F1 F2 F3 G : RM} (c : Dev nD) (t : Fin cfg10.N) (g0 : T 512 1024 .f32 (iblk10 V c 0 t) F0)
    (g1 : T 512 1024 .f32 (iblk10 V c 1 t) F1)
    (g2 : T 512 1024 .f32 (iblk10 V c 2 t) F2)
    (g3 : T 8 1024 .f32 (iblk10 V c 3 t) F3) (hc : ¬ t.val % 32 = 0)
    (gp : T 8 1024 .f32 ((outsAt10 V c (t.val - 1) (Nat.lt_of_le_of_lt (Nat.sub_le _ _) t.isLt)).2) G) :
    T 8 1024 .f32 ((outsAt10 V c t.val t.isLt).2) (fun i j => G i j + part F0 F1 F2 F3 i j) := fun y => by
  show (outsAt10 V c t.val t.isLt).2 y = _
  rw [outsAt10_B V c t hc]
  frame_open
  simp (disch := decide) only [↓ View.readCov_skip, ↓ View.readCov_cons_toLoadRect, ↓ View.readCov_fill]
  frame_out
  apply IsR.at (s := S8x1024) (φ := .f32) (i := y)
  rotate_left
  ·
      repeat' first
        | with_reducible (first | apply k10_pay1_isr | apply k10_pay2_isr | apply k10_pay3_isr | apply k10_pay4_isr | apply k10_pay5_isr | apply k10_pay6_isr | apply k10_pay7_isr | apply k10_pay8_isr | apply k10_pay9_isr | apply k10_pay10_isr | apply k10_pay11_isr | apply isr_canon_row | apply isr_writes_row | apply isr_canon_fill | apply isr_unread)
        | apply isr_ld00 | apply isr_ld00b | apply isr_ld_row | apply isr_ld_rowb
        | exact gp | exact g0 | exact g1 | exact g2 | exact g3
          | apply pos_all
  ·
    exact congrFun (congrArg N2 num) y

end Cert.Front.R10

end
-- ==== Proof.Front.R10c.lean ====
/-
  Region 10 of the kernel (untrusted): its input blocks as shifted real matrices, what each point of the grid leaves in its
  output windows, and the arrays after the last point.
-/
module

public import proofs.«01_k».proof.Proof.Front.R10a
public import proofs.«01_k».proof.Proof.Front.R10b
public import proofs.«01_k».proof.Proof.Front.Pay
public import proofs.«01_k».proof.Proof.Tail.Acc
public import proofs.«01_k».proof.Proof.Front.Num
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Front.R10

open Cert.Tail Cert.Kernel2Ideal Cert.Kernel2Ideal.Gen
variable (V : (c : Dev nD) → (b : Ref sig .tc) → Buf (Elt Ideal) ((c : Thread nD τ).loc b))

theorem fin_5 {A0 A1 A2 A3 : RM} (c : Dev nD)
    (g0 : T 16384 1024 .f32 (V c main_arg0) A0)
    (g1 : T 16384 1024 .f32 (V c main_v19) A1)
    (g2 : T 16384 1024 .f32 (V c main_arg8) A2)
    (g3 : T 8 1024 .f32 (V c main_v1) A3) :
    T 8 1024 .f32 ((dat10 V c).arrAt 5 cfg10.N) (fun q d => ∑ r : Fin 16384, s10_u A0 A1 A2 A3 q r.val d) := by
  have e : (dat10 V c).arrAt 5 cfg10.N = (fun i => ((N2 (a := 8) (b := 1024) (fun q d => ∑ r : Fin 16384, s10_u A0 A1 A2 A3 q r.val d) i : ℝ) : EReal) : FVec Ideal S8x1024 .f32) := by
    refine (dat10 V c).arrAt_eq_of_covers 5 _ (by decide +kernel) fun t hf y => ?_
    blk_simp
    rw [after10_5]
    refine (isr_acc (fun n h => (outsAt10 V c n h).2) 32 (fun t => part (fun r d => A0 (512 * t + r) d) (fun r d => A1 (512 * t + r) d) (fun r d => A2 (512 * t + r) d) A3)
      (fun t h => zero_step V c t (blk_0 V c t g0) (blk_1 V c t g1) (blk_2 V c t g2) (blk_3 V c t g3) h)
      (fun t h G gp => next_step V c t (blk_0 V c t g0) (blk_1 V c t g1) (blk_2 V c t g2) (blk_3 V c t g3) h gp) t y).trans ?_
    refine congrArg _ ?_
    have hm : t.val % 32 + 1 = 32 := by have := (flush10_5 t).mp hf; omega
    refine Eq.trans ?_ (congrArg₂ (fun q d => ∑ r : Fin 16384, s10_u A0 A1 A2 A3 q r.val d) (x' := (y 0).val) (y' := (y 1).val) ?_ ?_).symm
    rotate_left
    iterate 2 (blk_simp; rw [(idx t).2.2.2.2.2]; first | exact off _ _ _ | exact off0 _ _ | exact off1 _ _)
    show ∑ s ∈ Finset.range (t.val % 32 + 1), (fun t => part (fun r d => A0 (512 * t + r) d) (fun r d => A1 (512 * t + r) d) (fun r d => A2 (512 * t + r) d) A3) (32 * (t.val / 32) + s) (y 0).val (y 1).val = _
    rw [hm]
    have hq : t.val / 32 = 0 := (by decide +kernel : ∀ t : Fin grid10.N, t.val / 32 = 0) t
    rw [hq]
    exact sum_run0 512 32 fun r => s10_u A0 A1 A2 A3 (y 0).val r (y 1).val
  exact fun i => congrFun e i

end Cert.Front.R10

end
-- ==== Proof.Front.Ends.lean ====
/-
  The real matrices the arrays hold at the boundaries between the calls (untrusted): the host's casts, slices and joins,
  each call's results, and every array carried to the call that reads it and to the end.
-/
module

public import proofs.«01_k».proof.Proof.Gen.Kernel2Ideal.Frame.Fold0
public import proofs.«01_k».proof.Proof.Front.RefIsr
public import proofs.«01_k».proof.Proof.Front.Chain
public import proofs.«01_k».proof.Proof.Front.R0
public import proofs.«01_k».proof.Proof.Front.R1
public import proofs.«01_k».proof.Proof.Front.R2
public import proofs.«01_k».proof.Proof.Front.R3
public import proofs.«01_k».proof.Proof.Front.R4
public import proofs.«01_k».proof.Proof.Front.R5
public import proofs.«01_k».proof.Proof.Front.R6
public import proofs.«01_k».proof.Proof.Front.R7
public import proofs.«01_k».proof.Proof.Front.R8
public import proofs.«01_k».proof.Proof.Front.R9
public import proofs.«01_k».proof.Proof.Front.R10
public import proofs.«01_k».proof.Proof.Front.R10c

@[expose] public section

set_option maxRecDepth 16384

noncomputable section

open Idealize.ShloMosaic Idealize.ShloMosaic.TcCoe Idealize.SL.Sem

namespace Cert.Front.Ends

open Cert.Tail Cert.Kernel2Ideal Cert.Kernel2Ideal.Gen

/-- The arguments' matrices. -/
abbrev Args (m : (ℓ : Loc nD τ sig) → Buf (Elt Ideal) ℓ) (c : Dev nD) (a : A) : Prop :=
  Hyp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) a

theorem of_eq {s : Shape} {φ : FTy} {x y : FVec Ideal s φ} {f : s.Idx → ℝ} (e : x = y) (h : IsR y f) : IsR x f := e ▸ h

variable {m : (ℓ : Loc nD τ sig) → Buf (Elt Ideal) ℓ} {ρ : Dev nD → PrngReg} {c : Dev nD} {a : A}

/-! ## The host's casts, slices and joins -/

theorem w_v1 : W1 m ρ c (Proc.devRef .tc main_v1) = (concatenate S8x1024 0 [⟨S6x1024, (m ((c : Thread nD τ).loc main_arg1))⟩, ⟨S2x1024, (broadcastInDim S2x1024 ![] bcast_S_S2x1024 (constant S_ .f32 0x00000000#32))⟩] concatenates_S6x1024_S2x1024_S8x1024_d0 : FVec Ideal S8x1024 .f32) := by
  show StableHlo.after hostOps0 _ (Proc.devRef .tc main_v1) = _
  after_results
  all_goals rfl
theorem w_v2 : W1 m ρ c (Proc.devRef .tc main_v2) = (truncf .bf16 ((m ((c : Thread nD τ).loc main_arg2)) : FVec Ideal S1024x7680 .f32) bitsLt_bf16_f32 : FVec Ideal S1024x7680 .bf16) := by
  show StableHlo.after hostOps0 _ (Proc.devRef .tc main_v2) = _
  after_results
  all_goals rfl
theorem w_v4 : W3 m ρ c (Proc.devRef .tc main_v4) = (extractStridedSlice S1024x2560 ![0, 0] (W2 m ρ c (Proc.devRef .tc main_v2) : FVec Ideal S1024x7680 .bf16) slices_S1024x7680_S1024x2560_0_0 : FVec Ideal S1024x2560 .bf16) := by
  show StableHlo.after hostOps1 _ (Proc.devRef .tc main_v4) = _
  after_results
  all_goals rfl
theorem w_v5 : W3 m ρ c (Proc.devRef .tc main_v5) = (extractStridedSlice S1024x3072 ![0, 2560] (W2 m ρ c (Proc.devRef .tc main_v2) : FVec Ideal S1024x7680 .bf16) slices_S1024x7680_S1024x3072_0_2560 : FVec Ideal S1024x3072 .bf16) := by
  show StableHlo.after hostOps1 _ (Proc.devRef .tc main_v5) = _
  after_results
  all_goals rfl
theorem w_v6 : W3 m ρ c (Proc.devRef .tc main_v6) = (extractStridedSlice S1024x2048 ![0, 5632] (W2 m ρ c (Proc.devRef .tc main_v2) : FVec Ideal S1024x7680 .bf16) slices_S1024x7680_S1024x2048_0_5632 : FVec Ideal S1024x2048 .bf16) := by
  show StableHlo.after hostOps1 _ (Proc.devRef .tc main_v6) = _
  after_results
  all_goals rfl
theorem w_v15 : W12 m ρ c (Proc.devRef .tc main_v15) = (concatenate S1024x7680 1 [⟨S1024x2560, (W11 m ρ c (Proc.devRef .tc main_v10) : FVec Ideal S1024x2560 .f32)⟩, ⟨S1024x1024, (W11 m ρ c (Proc.devRef .tc main_v11) : FVec Ideal S1024x1024 .f32)⟩, ⟨S1024x1024, (W11 m ρ c (Proc.devRef .tc main_v12) : FVec Ideal S1024x1024 .f32)⟩, ⟨S1024x1024, (W11 m ρ c (Proc.devRef .tc main_v13) : FVec Ideal S1024x1024 .f32)⟩, ⟨S1024x2048, (W11 m ρ c (Proc.devRef .tc main_v14) : FVec Ideal S1024x2048 .f32)⟩] concatenates_S1024x2560_S1024x1024_S1024x1024_S1024x1024_S1024x2048_S1024x7680_d1 : FVec Ideal S1024x7680 .f32) := by
  show StableHlo.after hostOps9 _ (Proc.devRef .tc main_v15) = _
  after_results
  all_goals rfl
theorem w_v16 : W12 m ρ c (Proc.devRef .tc main_v16) = (extractStridedSlice S1024x1024 ![0, 0] (W11 m ρ c (Proc.devRef .tc main_v5) : FVec Ideal S1024x3072 .bf16) slices_S1024x3072_S1024x1024_0_0 : FVec Ideal S1024x1024 .bf16) := by
  show StableHlo.after hostOps9 _ (Proc.devRef .tc main_v16) = _
  after_results
  all_goals rfl
theorem w_v17 : W12 m ρ c (Proc.devRef .tc main_v17) = (extractStridedSlice S1024x1024 ![0, 1024] (W11 m ρ c (Proc.devRef .tc main_v5) : FVec Ideal S1024x3072 .bf16) slices_S1024x3072_S1024x1024_0_1024 : FVec Ideal S1024x1024 .bf16) := by
  show StableHlo.after hostOps9 _ (Proc.devRef .tc main_v17) = _
  after_results
  all_goals rfl
theorem w_v18 : W12 m ρ c (Proc.devRef .tc main_v18) = (extractStridedSlice S1024x1024 ![0, 2048] (W11 m ρ c (Proc.devRef .tc main_v5) : FVec Ideal S1024x3072 .bf16) slices_S1024x3072_S1024x1024_0_2048 : FVec Ideal S1024x1024 .bf16) := by
  show StableHlo.after hostOps9 _ (Proc.devRef .tc main_v18) = _
  after_results
  all_goals rfl
theorem w_v23 : W15 m ρ c (Proc.devRef .tc main_v23) = (concatenate S2x1024 0 [⟨S1x1024, (extractStridedSlice S1x1024 ![1, 0] (W14 m ρ c (Proc.devRef .tc main_v20_1) : FVec Ideal S8x1024 .f32) slices_S8x1024_S1x1024_1_0)⟩, ⟨S1x1024, (extractStridedSlice S1x1024 ![0, 0] (W14 m ρ c (Proc.devRef .tc main_v20_1) : FVec Ideal S8x1024 .f32) slices_S8x1024_S1x1024_0_0)⟩] concatenates_S1x1024_S1x1024_S2x1024_d0 : FVec Ideal S2x1024 .f32) := by
  show StableHlo.after hostOps11 _ (Proc.devRef .tc main_v23) = _
  after_results
  all_goals rfl

variable (H : Args m c a)
include H

theorem v1_1 : T 8 1024 .f32 (V1 m ρ c main_v1) (md a) :=
  of_eq w_v1 (isr_cat62 H.h1 ((isr_bid0 (isr_const lit_zero) ![] bcast_S_S2x1024).congr fun i => rfl) concatenates_S6x1024_S2x1024_S8x1024_d0)
theorem v2_1 : T 1024 7680 .bf16 (V1 m ρ c main_v2) a.a2 :=
  of_eq w_v2 (isr_trunc bitsLt_bf16_f32 H.h2)
theorem arg0_1 : T 16384 1024 .f32 (V1 m ρ c main_arg0) a.a0 :=
  of_eq (W1_args m ρ c main_arg0 (by decide)) H.h0
theorem v2_2 : T 1024 7680 .bf16 (V2 m ρ c main_v2) a.a2 :=
  of_eq (W2_of m ρ c main_v2 (by decide +kernel)) (v2_1 H)
theorem v3_2 : T 16384 1024 .bf16 (V2 m ρ c main_v3) (k3 a) :=
  of_eq (W2_arr m ρ c 2) (R0.fin_2 (V1 m ρ) c (arg0_1 H) (v1_1 H))
theorem v4_3 : T 1024 2560 .bf16 (V3 m ρ c main_v4) a.a2 :=
  of_eq w_v4 (isr_slice00 (v2_2 H) slices_S1024x7680_S1024x2560_0_0)
theorem v5_3 : T 1024 3072 .bf16 (V3 m ρ c main_v5) (w5 a) :=
  of_eq w_v5 (isr_slice_col (v2_2 H) slices_S1024x7680_S1024x3072_0_2560)
theorem v6_3 : T 1024 2048 .bf16 (V3 m ρ c main_v6) (w6 a) :=
  of_eq w_v6 (isr_slice_col (v2_2 H) slices_S1024x7680_S1024x2048_0_5632)
theorem v3_3 : T 16384 1024 .bf16 (V3 m ρ c main_v3) (k3 a) :=
  of_eq (W3_of m ρ c main_v3 (by decide)) (v3_2 H)
theorem v5_4 : T 1024 3072 .bf16 (V4 m ρ c main_v5) (w5 a) :=
  of_eq (W4_of m ρ c main_v5 (by decide +kernel)) (v5_3 H)
theorem v3_4 : T 16384 1024 .bf16 (V4 m ρ c main_v3) (k3 a) :=
  of_eq (W4_of m ρ c main_v3 (by decide +kernel)) (v3_3 H)
theorem v7_4 : T 16384 2560 .bf16 (V4 m ρ c main_v7) (k7 a) :=
  of_eq (W4_arr m ρ c 2) (R1.fin_2 (V3 m ρ) c (v3_3 H) (v4_3 H))
theorem v6_5 : T 1024 2048 .bf16 (V5 m ρ c main_v6) (w6 a) :=
  of_eq (W5_of m ρ c main_v6 (by decide +kernel)) (of_eq (W4_of m ρ c main_v6 (by decide +kernel)) (v6_3 H))
theorem v3_5 : T 16384 1024 .bf16 (V5 m ρ c main_v3) (k3 a) :=
  of_eq (W5_of m ρ c main_v3 (by decide +kernel)) (v3_4 H)
theorem v8_5 : T 16384 3072 .f32 (V5 m ρ c main_v8) (k8 a) :=
  of_eq (W5_arr m ρ c 2) (R2.fin_2 (V4 m ρ) c (v3_4 H) (v5_4 H))
theorem v3_6 : T 16384 1024 .bf16 (V6 m ρ c main_v3) (k3 a) :=
  of_eq (W6_of m ρ c main_v3 (by decide +kernel)) (v3_5 H)
theorem v9_6 : T 16384 2048 .bf16 (V6 m ρ c main_v9) (k9 a) :=
  of_eq (W6_arr m ρ c 2) (R3.fin_2 (V5 m ρ) c (v3_5 H) (v6_5 H))
theorem arg3_6 : T 16384 2560 .bf16 (V6 m ρ c main_arg3) a.a3 :=
  of_eq (W6_args m ρ c main_arg3 (by decide)) H.h3
theorem v3_7 : T 16384 1024 .bf16 (V7 m ρ c main_v3) (k3 a) :=
  of_eq (W7_of m ρ c main_v3 (by decide +kernel)) (v3_6 H)
theorem v10_7 : T 1024 2560 .f32 (V7 m ρ c main_v10) (k10 a) :=
  of_eq (W7_arr m ρ c 2) (R4.fin_2 (V6 m ρ) c (v3_6 H) (arg3_6 H))
theorem arg4_7 : T 16384 1024 .bf16 (V7 m ρ c main_arg4) a.a4 :=
  of_eq (W7_args m ρ c main_arg4 (by decide)) H.h4
theorem v3_8 : T 16384 1024 .bf16 (V8 m ρ c main_v3) (k3 a) :=
  of_eq (W8_of m ρ c main_v3 (by decide +kernel)) (v3_7 H)
theorem v11_8 : T 1024 1024 .f32 (V8 m ρ c main_v11) (k11 a) :=
  of_eq (W8_arr m ρ c 2) (R5.fin_2 (V7 m ρ) c (v3_7 H) (arg4_7 H))
theorem arg5_8 : T 16384 1024 .bf16 (V8 m ρ c main_arg5) a.a5 :=
  of_eq (W8_args m ρ c main_arg5 (by decide)) H.h5
theorem v3_9 : T 16384 1024 .bf16 (V9 m ρ c main_v3) (k3 a) :=
  of_eq (W9_of m ρ c main_v3 (by decide +kernel)) (v3_8 H)
theorem v12_9 : T 1024 1024 .f32 (V9 m ρ c main_v12) (k12 a) :=
  of_eq (W9_arr m ρ c 2) (R6.fin_2 (V8 m ρ) c (v3_8 H) (arg5_8 H))
theorem arg6_9 : T 16384 1024 .bf16 (V9 m ρ c main_arg6) a.a6 :=
  of_eq (W9_args m ρ c main_arg6 (by decide)) H.h6
theorem v3_10 : T 16384 1024 .bf16 (V10 m ρ c main_v3) (k3 a) :=
  of_eq (W10_of m ρ c main_v3 (by decide +kernel)) (v3_9 H)
theorem v13_10 : T 1024 1024 .f32 (V10 m ρ c main_v13) (k13 a) :=
  of_eq (W10_arr m ρ c 2) (R7.fin_2 (V9 m ρ) c (v3_9 H) (arg6_9 H))
theorem arg7_10 : T 16384 2048 .bf16 (V10 m ρ c main_arg7) a.a7 :=
  of_eq (W10_args m ρ c main_arg7 (by decide)) H.h7
theorem v5_11 : T 1024 3072 .bf16 (V11 m ρ c main_v5) (w5 a) :=
  of_eq (W11_of m ρ c main_v5 (by decide +kernel)) (of_eq (W10_of m ρ c main_v5 (by decide +kernel)) (of_eq (W9_of m ρ c main_v5 (by decide +kernel)) (of_eq (W8_of m ρ c main_v5 (by decide +kernel)) (of_eq (W7_of m ρ c main_v5 (by decide +kernel)) (of_eq (W6_of m ρ c main_v5 (by decide +kernel)) (of_eq (W5_of m ρ c main_v5 (by decide +kernel)) (v5_4 H)))))))
theorem v10_11 : T 1024 2560 .f32 (V11 m ρ c main_v10) (k10 a) :=
  of_eq (W11_of m ρ c main_v10 (by decide +kernel)) (of_eq (W10_of m ρ c main_v10 (by decide +kernel)) (of_eq (W9_of m ρ c main_v10 (by decide +kernel)) (of_eq (W8_of m ρ c main_v10 (by decide +kernel)) (v10_7 H))))
theorem v11_11 : T 1024 1024 .f32 (V11 m ρ c main_v11) (k11 a) :=
  of_eq (W11_of m ρ c main_v11 (by decide +kernel)) (of_eq (W10_of m ρ c main_v11 (by decide +kernel)) (of_eq (W9_of m ρ c main_v11 (by decide +kernel)) (v11_8 H)))
theorem v12_11 : T 1024 1024 .f32 (V11 m ρ c main_v12) (k12 a) :=
  of_eq (W11_of m ρ c main_v12 (by decide +kernel)) (of_eq (W10_of m ρ c main_v12 (by decide +kernel)) (v12_9 H))
theorem v13_11 : T 1024 1024 .f32 (V11 m ρ c main_v13) (k13 a) :=
  of_eq (W11_of m ρ c main_v13 (by decide +kernel)) (v13_10 H)
theorem v14_11 : T 1024 2048 .f32 (V11 m ρ c main_v14) (k14 a) :=
  of_eq (W11_arr m ρ c 2) (R8.fin_2 (V10 m ρ) c (v3_10 H) (arg7_10 H))
theorem v4_12 : T 1024 2560 .bf16 (V12 m ρ c main_v4) a.a2 :=
  of_eq (W12_of m ρ c main_v4 (by decide)) (of_eq (W11_of m ρ c main_v4 (by decide +kernel)) (of_eq (W10_of m ρ c main_v4 (by decide +kernel)) (of_eq (W9_of m ρ c main_v4 (by decide +kernel)) (of_eq (W8_of m ρ c main_v4 (by decide +kernel)) (of_eq (W7_of m ρ c main_v4 (by decide +kernel)) (of_eq (W6_of m ρ c main_v4 (by decide +kernel)) (of_eq (W5_of m ρ c main_v4 (by decide +kernel)) (of_eq (W4_of m ρ c main_v4 (by decide +kernel)) (v4_3 H)))))))))
theorem v6_12 : T 1024 2048 .bf16 (V12 m ρ c main_v6) (w6 a) :=
  of_eq (W12_of m ρ c main_v6 (by decide)) (of_eq (W11_of m ρ c main_v6 (by decide +kernel)) (of_eq (W10_of m ρ c main_v6 (by decide +kernel)) (of_eq (W9_of m ρ c main_v6 (by decide +kernel)) (of_eq (W8_of m ρ c main_v6 (by decide +kernel)) (of_eq (W7_of m ρ c main_v6 (by decide +kernel)) (of_eq (W6_of m ρ c main_v6 (by decide +kernel)) (v6_5 H)))))))
theorem v15_12 : T 1024 7680 .f32 (V12 m ρ c main_v15) (k15 a) :=
  of_eq w_v15 (isr_cat5 (v10_11 H) (v11_11 H) (v12_11 H) (v13_11 H) (v14_11 H) concatenates_S1024x2560_S1024x1024_S1024x1024_S1024x1024_S1024x2048_S1024x7680_d1)
theorem v16_12 : T 1024 1024 .bf16 (V12 m ρ c main_v16) (w5 a) :=
  of_eq w_v16 (isr_slice00 (v5_11 H) slices_S1024x3072_S1024x1024_0_0)
theorem v17_12 : T 1024 1024 .bf16 (V12 m ρ c main_v17) (w17 a) :=
  of_eq w_v17 (isr_slice_col (v5_11 H) slices_S1024x3072_S1024x1024_0_1024)
theorem v18_12 : T 1024 1024 .bf16 (V12 m ρ c main_v18) (w18 a) :=
  of_eq w_v18 (isr_slice_col (v5_11 H) slices_S1024x3072_S1024x1024_0_2048)
theorem arg3_12 : T 16384 2560 .bf16 (V12 m ρ c main_arg3) a.a3 :=
  of_eq (W12_args m ρ c main_arg3 (by decide)) H.h3
theorem arg4_12 : T 16384 1024 .bf16 (V12 m ρ c main_arg4) a.a4 :=
  of_eq (W12_args m ρ c main_arg4 (by decide)) H.h4
theorem arg5_12 : T 16384 1024 .bf16 (V12 m ρ c main_arg5) a.a5 :=
  of_eq (W12_args m ρ c main_arg5 (by decide)) H.h5
theorem arg6_12 : T 16384 1024 .bf16 (V12 m ρ c main_arg6) a.a6 :=
  of_eq (W12_args m ρ c main_arg6 (by decide)) H.h6
theorem arg7_12 : T 16384 2048 .bf16 (V12 m ρ c main_arg7) a.a7 :=
  of_eq (W12_args m ρ c main_arg7 (by decide)) H.h7
theorem v1_13 : T 8 1024 .f32 (V13 m ρ c main_v1) (md a) :=
  of_eq (W13_of m ρ c main_v1 (by decide +kernel)) (of_eq (W12_of m ρ c main_v1 (by decide)) (of_eq (W11_of m ρ c main_v1 (by decide +kernel)) (of_eq (W10_of m ρ c main_v1 (by decide +kernel)) (of_eq (W9_of m ρ c main_v1 (by decide +kernel)) (of_eq (W8_of m ρ c main_v1 (by decide +kernel)) (of_eq (W7_of m ρ c main_v1 (by decide +kernel)) (of_eq (W6_of m ρ c main_v1 (by decide +kernel)) (of_eq (W5_of m ρ c main_v1 (by decide +kernel)) (of_eq (W4_of m ρ c main_v1 (by decide +kernel)) (of_eq (W3_of m ρ c main_v1 (by decide)) (of_eq (W2_of m ρ c main_v1 (by decide +kernel)) (v1_1 H))))))))))))
theorem v19_13 : T 16384 1024 .f32 (V13 m ρ c main_v19) (k19 a) :=
  of_eq (W13_arr m ρ c 10) (R9.fin_10 (V12 m ρ) c (arg3_12 H) (v4_12 H) (arg4_12 H) (v16_12 H) (arg5_12 H) (v17_12 H) (arg6_12 H) (v18_12 H) (arg7_12 H) (v6_12 H))
theorem arg0_13 : T 16384 1024 .f32 (V13 m ρ c main_arg0) a.a0 :=
  of_eq (W13_args m ρ c main_arg0 (by decide)) H.h0
theorem arg8_13 : T 16384 1024 .f32 (V13 m ρ c main_arg8) a.a8 :=
  of_eq (W13_args m ρ c main_arg8 (by decide)) H.h8
theorem v20_0_14 : T 16384 1024 .f32 (V14 m ρ c main_v20_0) (k20_0 a) :=
  of_eq (W14_arr m ρ c 4) (R10.fin_4 (V13 m ρ) c (arg0_13 H) (v19_13 H) (arg8_13 H) (v1_13 H))
theorem v20_1_14 : T 8 1024 .f32 (V14 m ρ c main_v20_1) (k20_1 a) :=
  of_eq (W14_arr m ρ c 5) (R10.fin_5 (V13 m ρ) c (arg0_13 H) (v19_13 H) (arg8_13 H) (v1_13 H))
theorem v15_15 : T 1024 7680 .f32 (W15 m ρ c (Proc.devRef .tc main_v15)) (k15 a) :=
  of_eq (W15_of m ρ c main_v15 (by decide)) (of_eq (W14_of m ρ c main_v15 (by decide +kernel)) (of_eq (W13_of m ρ c main_v15 (by decide +kernel)) (v15_12 H)))
theorem v7_15 : T 16384 2560 .bf16 (W15 m ρ c (Proc.devRef .tc main_v7)) (k7 a) :=
  of_eq (W15_of m ρ c main_v7 (by decide)) (of_eq (W14_of m ρ c main_v7 (by decide +kernel)) (of_eq (W13_of m ρ c main_v7 (by decide +kernel)) (of_eq (W12_of m ρ c main_v7 (by decide)) (of_eq (W11_of m ρ c main_v7 (by decide +kernel)) (of_eq (W10_of m ρ c main_v7 (by decide +kernel)) (of_eq (W9_of m ρ c main_v7 (by decide +kernel)) (of_eq (W8_of m ρ c main_v7 (by decide +kernel)) (of_eq (W7_of m ρ c main_v7 (by decide +kernel)) (of_eq (W6_of m ρ c main_v7 (by decide +kernel)) (of_eq (W5_of m ρ c main_v7 (by decide +kernel)) (v7_4 H)))))))))))
theorem v8_15 : T 16384 3072 .f32 (W15 m ρ c (Proc.devRef .tc main_v8)) (k8 a) :=
  of_eq (W15_of m ρ c main_v8 (by decide)) (of_eq (W14_of m ρ c main_v8 (by decide +kernel)) (of_eq (W13_of m ρ c main_v8 (by decide +kernel)) (of_eq (W12_of m ρ c main_v8 (by decide)) (of_eq (W11_of m ρ c main_v8 (by decide +kernel)) (of_eq (W10_of m ρ c main_v8 (by decide +kernel)) (of_eq (W9_of m ρ c main_v8 (by decide +kernel)) (of_eq (W8_of m ρ c main_v8 (by decide +kernel)) (of_eq (W7_of m ρ c main_v8 (by decide +kernel)) (of_eq (W6_of m ρ c main_v8 (by decide +kernel)) (v8_5 H))))))))))
theorem v9_15 : T 16384 2048 .bf16 (W15 m ρ c (Proc.devRef .tc main_v9)) (k9 a) :=
  of_eq (W15_of m ρ c main_v9 (by decide)) (of_eq (W14_of m ρ c main_v9 (by decide +kernel)) (of_eq (W13_of m ρ c main_v9 (by decide +kernel)) (of_eq (W12_of m ρ c main_v9 (by decide)) (of_eq (W11_of m ρ c main_v9 (by decide +kernel)) (of_eq (W10_of m ρ c main_v9 (by decide +kernel)) (of_eq (W9_of m ρ c main_v9 (by decide +kernel)) (of_eq (W8_of m ρ c main_v9 (by decide +kernel)) (of_eq (W7_of m ρ c main_v9 (by decide +kernel)) (v9_6 H)))))))))
theorem v20_0_15 : T 16384 1024 .f32 (W15 m ρ c (Proc.devRef .tc main_v20_0)) (k20_0 a) :=
  of_eq (W15_of m ρ c main_v20_0 (by decide)) (v20_0_14 H)
theorem v23_15 : T 2 1024 .f32 (W15 m ρ c (Proc.devRef .tc main_v23)) (fun r d => if r = 0 then k20_1 a 1 d else k20_1 a 0 d) :=
  of_eq w_v23 (isr_cat2 (isr_slice_row (v20_1_14 H) slices_S8x1024_S1x1024_1_0) (isr_slice_row (v20_1_14 H) slices_S8x1024_S1x1024_0_0) concatenates_S1x1024_S1x1024_S2x1024_d0)

end Cert.Front.Ends

end
-- ==== Proof.Front.Claim.lean ====
/-
  The claims of the input side's calls (untrusted): finite arguments are real matrices, the reference leaves its arguments
  alone, and kernel and reference end with equal results on the extended reals.
-/
module

public import proofs.«01_k».proof.Defs
public import proofs.«01_k».proof.Proof.Gen.Pre_finite2
public import proofs.«01_k».proof.Proof.Tail.Claim
public import proofs.«01_k».proof.Proof.Front.Run
public import proofs.«01_k».proof.Proof.Front.Ends

@[expose] public section

set_option maxRecDepth 16384

noncomputable section

open Idealize.ShloMosaic Idealize.ShloMosaic.TcCoe Idealize.SL.Sem

namespace Cert.Front

open Cert.Tail Cert.Proof.Tail Cert.Proof.Real

instance : Cert.Pre_finite2.Facts := Cert.Pre_finite2.Gen.facts
instance : Cert.Kernel2Ideal.Facts := Cert.Kernel2Ideal.Gen.facts
instance : Cert.Reference2Ideal.Facts := Cert.Reference2Ideal.Gen.facts

section args
open Cert.Pre_finite2

theorem hyp_of_finite (x0 : FVec Ideal S16384x1024 .f32) (x1 : FVec Ideal S6x1024 .f32) (x2 : FVec Ideal S1024x7680 .f32) (x3 : FVec Ideal S16384x2560 .bf16) (x4 : FVec Ideal S16384x1024 .bf16) (x5 : FVec Ideal S16384x1024 .bf16) (x6 : FVec Ideal S16384x1024 .bf16) (x7 : FVec Ideal S16384x2048 .bf16) (x8 : FVec Ideal S16384x1024 .f32)
    (h : Cert.Pre_finite2.fn (F := Ideal) x0 x1 x2 x3 x4 x5 x6 x7 x8 = fun _ => 1#1) :
    Hyp x0 x1 x2 x3 x4 x5 x6 x7 x8 ⟨toR x0, toR x1, toR x2, toR x3, toR x4, toR x5, toR x6, toR x7, toR x8⟩ := by
  have g9 := congrFun h ValueIdx.ix0
  obtain ⟨g8, e8⟩ := andi_one g9
  obtain ⟨g7, e7⟩ := andi_one g8
  obtain ⟨g6, e6⟩ := andi_one g7
  obtain ⟨g5, e5⟩ := andi_one g6
  obtain ⟨g4, e4⟩ := andi_one g5
  obtain ⟨g3, e3⟩ := andi_one g4
  obtain ⟨g2, e2⟩ := andi_one g3
  obtain ⟨g1, e1⟩ := andi_one g2
  obtain ⟨g0, e0⟩ := andi_one g1
  exact ⟨isr_toR x0 (finite_f32 _ _ _ _ _ _ e0),
    isr_toR x1 (finite_f32 _ _ _ _ _ _ e1),
    isr_toR x2 (finite_f32 _ _ _ _ _ _ e2),
    isr_toR x3 (finite_bf16 _ _ _ _ _ _ _ e3),
    isr_toR x4 (finite_bf16 _ _ _ _ _ _ _ e4),
    isr_toR x5 (finite_bf16 _ _ _ _ _ _ _ e5),
    isr_toR x6 (finite_bf16 _ _ _ _ _ _ _ e6),
    isr_toR x7 (finite_bf16 _ _ _ _ _ _ _ e7),
    isr_toR x8 (finite_f32 _ _ _ _ _ _ e8)⟩

end args

theorem ref_frame : Cert.quiescent_Reference2Ideal := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

/-- The reference's arguments' matrices. -/
abbrev RArgs (m : (ℓ : Loc Cert.Reference2Ideal.nD Cert.Reference2Ideal.τ Cert.Reference2Ideal.sig) → Buf (Elt Ideal) ℓ)
    (c : Dev Cert.Reference2Ideal.nD) (a : A) : Prop :=
  Hyp (m ((c : Thread Cert.Reference2Ideal.nD Cert.Reference2Ideal.τ).loc Cert.Reference2Ideal.main_arg0)) (m ((c : Thread Cert.Reference2Ideal.nD Cert.Reference2Ideal.τ).loc Cert.Reference2Ideal.main_arg1)) (m ((c : Thread Cert.Reference2Ideal.nD Cert.Reference2Ideal.τ).loc Cert.Reference2Ideal.main_arg2)) (m ((c : Thread Cert.Reference2Ideal.nD Cert.Reference2Ideal.τ).loc Cert.Reference2Ideal.main_arg3)) (m ((c : Thread Cert.Reference2Ideal.nD Cert.Reference2Ideal.τ).loc Cert.Reference2Ideal.main_arg4)) (m ((c : Thread Cert.Reference2Ideal.nD Cert.Reference2Ideal.τ).loc Cert.Reference2Ideal.main_arg5)) (m ((c : Thread Cert.Reference2Ideal.nD Cert.Reference2Ideal.τ).loc Cert.Reference2Ideal.main_arg6)) (m ((c : Thread Cert.Reference2Ideal.nD Cert.Reference2Ideal.τ).loc Cert.Reference2Ideal.main_arg7)) (m ((c : Thread Cert.Reference2Ideal.nD Cert.Reference2Ideal.τ).loc Cert.Reference2Ideal.main_arg8)) a

open Cert.Kernel2Ideal Cert.Kernel2Ideal.Gen in
theorem algebraic : Cert.algebraic_Kernel2Ideal_Reference2Ideal_pre_finite2 := by
  intro m g m' g' hpre hagree
  refine ⟨fun c => W15 m g c (Proc.devRef .tc main_v7), fun c => W15 m g c (Proc.devRef .tc main_v8), fun c => W15 m g c (Proc.devRef .tc main_v9), fun c => W15 m g c (Proc.devRef .tc main_v15), fun c => W15 m g c (Proc.devRef .tc main_v20_0), fun c => W15 m g c (Proc.devRef .tc main_v23),
    (θ_run Cert.Kernel2Ideal.defs _ _).mono (fun r h c => ⟨h c _ (mem_uc main_v7 (by decide)),
      h c _ (mem_uc main_v8 (by decide)),
      h c _ (mem_uc main_v9 (by decide)),
      h c _ (mem_uc main_v15 (by decide)),
      h c _ (mem_uc main_v20_0 (by decide)),
      h c _ (mem_uc main_v23 (by decide)),
      (h c _ (mem_uc main_arg0 (by decide))).trans (W15_main_arg0 m g c),
      (h c _ (mem_uc main_arg1 (by decide))).trans (W15_main_arg1 m g c),
      (h c _ (mem_uc main_arg2 (by decide))).trans (W15_main_arg2 m g c),
      (h c _ (mem_uc main_arg3 (by decide))).trans (W15_main_arg3 m g c),
      (h c _ (mem_uc main_arg4 (by decide))).trans (W15_main_arg4 m g c),
      (h c _ (mem_uc main_arg5 (by decide))).trans (W15_main_arg5 m g c),
      (h c _ (mem_uc main_arg6 (by decide))).trans (W15_main_arg6 m g c),
      (h c _ (mem_uc main_arg7 (by decide))).trans (W15_main_arg7 m g c),
      (h c _ (mem_uc main_arg8 (by decide))).trans (W15_main_arg8 m g c)⟩) (run m g),
    (θ_run Cert.Reference2Ideal.defs _ _).mono (fun r hr c => ?_) (Cert.Reference2Ideal.Value.run (F := Ideal) m' g')⟩
  obtain ⟨h0, h1, h2, h3, h4, h5, ha⟩ := hr c
  obtain ⟨e0, e1, e2, e3, e4, e5, e6, e7, e8⟩ := hagree c
  have H : Ends.Args m c _ := hyp_of_finite _ _ _ _ _ _ _ _ _ (hpre c)
  have H' := (show ∀ a, Ends.Args m c a → RArgs m' c a from fun a h => by
    unfold RArgs
    rw [e0, e1, e2, e3, e4, e5, e6, e7, e8]
    exact h) _ H
  clear hr
  exact ⟨h0.trans ((Cert.Reference2Ideal.Read.val_main_v74_eq _ _ _).trans (eq_of_isr (s := S16384x2560) (φ := .bf16) (i74 H') (Ends.v7_15 H) fun i => q_rnn _ _ _)),
    h1.trans ((Cert.Reference2Ideal.Read.val_main_v75_eq _ _ _).trans (eq_of_isr (s := S16384x3072) (φ := .f32) (i75 H') (Ends.v8_15 H) fun i => q_qkv _ _ _)),
    h2.trans ((Cert.Reference2Ideal.Read.val_main_v77_eq _ _ _).trans (eq_of_isr (s := S16384x2048) (φ := .bf16) (i77 H') (Ends.v9_15 H) fun i => q_gates _ _ _)),
    h3.trans ((Cert.Reference2Ideal.Read.val_main_v39_eq _ _ _ _ _ _ _).trans (eq_of_isr (s := S1024x7680) (φ := .f32) (i39 H') (Ends.v15_15 H) fun i => q_win _ _ _)),
    h4.trans ((Cert.Reference2Ideal.Read.val_main_v72_eq _ _).trans (eq_of_isr (s := S16384x1024) (φ := .f32) (i72 H') (Ends.v20_0_15 H) fun i => q_x _ _ _)),
    h5.trans ((Cert.Reference2Ideal.Read.val_main_v78_eq _ _ _ _ _ _ _).trans (eq_of_isr (s := S2x1024) (φ := .f32) (i78 H') (Ends.v23_15 H) fun i => q_mod _ _ _ (i 0).isLt)), ha⟩

end Cert.Front

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Tail.Claim
public import proofs.«01_k».proof.Proof.Front.Claim

@[expose] public section

noncomputable section

open Idealize.ShloMosaic Idealize.SL.Sem

namespace Cert.Proof

/-- All the statements, of both programs: every run of the kernel ends, on words and on reals; the reference's does; the
    ideal kernel is the kernel read over the reals; and the two hold the same results at the end. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite.Gen.facts, Cert.Pre_finite2.Gen.facts,
    fun m ρ _ => Cert.Kernel.Gen.frame m ρ,
    fun m ρ _ => Cert.KernelIdeal.Gen.frame m ρ,
    fun m ρ _ => Cert.KernelIdeal.Gen.frame m ρ,
    Tail.ref_frame,
    fun m ρ _ => Tail.ref_frame m ρ trivial,
    fun m ρ _ => Cert.Kernel2.Gen.frame m ρ,
    fun m ρ _ => Cert.Kernel2Ideal.Gen.frame m ρ,
    fun m ρ _ => Cert.Kernel2Ideal.Gen.frame m ρ,
    Front.ref_frame,
    fun m ρ _ => Front.ref_frame m ρ trivial,
    trivial,
    Tail.algebraic,
    trivial,
    Front.algebraic⟩

end Cert.Proof

end
